-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelUpW (m : (ℓ : Loc Cert.KernelUpW.nD Cert.KernelUpW.τ Cert.KernelUpW.sig) → Buf (Elt Bits) ℓ) : Prop :=
  True

def Pre_KernelUpWIdeal (m : (ℓ : Loc Cert.KernelUpWIdeal.nD Cert.KernelUpWIdeal.τ Cert.KernelUpWIdeal.sig) → Buf (Elt Ideal) ℓ) : Prop :=
  True

def Pre_ReferenceUpWIdeal (m : (ℓ : Loc Cert.ReferenceUpWIdeal.nD Cert.ReferenceUpWIdeal.τ Cert.ReferenceUpWIdeal.sig) → Buf (Elt Ideal) ℓ) : Prop :=
  True

def Pre_KernelDownW (m : (ℓ : Loc Cert.KernelDownW.nD Cert.KernelDownW.τ Cert.KernelDownW.sig) → Buf (Elt Bits) ℓ) : Prop :=
  True

def Pre_KernelDownWIdeal (m : (ℓ : Loc Cert.KernelDownWIdeal.nD Cert.KernelDownWIdeal.τ Cert.KernelDownWIdeal.sig) → Buf (Elt Ideal) ℓ) : Prop :=
  True

def Pre_ReferenceDownWIdeal (m : (ℓ : Loc Cert.ReferenceDownWIdeal.nD Cert.ReferenceDownWIdeal.τ Cert.ReferenceDownWIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelNormUp (m : (ℓ : Loc Cert.KernelNormUp.nD Cert.KernelNormUp.τ Cert.KernelNormUp.sig) → Buf (Elt Bits) ℓ) : Prop :=
  True

def Pre_KernelNormUpIdeal (m : (ℓ : Loc Cert.KernelNormUpIdeal.nD Cert.KernelNormUpIdeal.τ Cert.KernelNormUpIdeal.sig) → Buf (Elt Ideal) ℓ) : Prop :=
  True

def Pre_ReferenceNormUpIdeal (m : (ℓ : Loc Cert.ReferenceNormUpIdeal.nD Cert.ReferenceNormUpIdeal.τ Cert.ReferenceNormUpIdeal.sig) → Buf (Elt Ideal) ℓ) : Prop :=
  True

def Pre_KernelUpV (m : (ℓ : Loc Cert.KernelUpV.nD Cert.KernelUpV.τ Cert.KernelUpV.sig) → Buf (Elt Bits) ℓ) : Prop :=
  True

def Pre_KernelUpVIdeal (m : (ℓ : Loc Cert.KernelUpVIdeal.nD Cert.KernelUpVIdeal.τ Cert.KernelUpVIdeal.sig) → Buf (Elt Ideal) ℓ) : Prop :=
  True

def Pre_ReferenceUpVIdeal (m : (ℓ : Loc Cert.ReferenceUpVIdeal.nD Cert.ReferenceUpVIdeal.τ Cert.ReferenceUpVIdeal.sig) → Buf (Elt Ideal) ℓ) : Prop :=
  True

def Pre_KernelDownF (m : (ℓ : Loc Cert.KernelDownF.nD Cert.KernelDownF.τ Cert.KernelDownF.sig) → Buf (Elt Bits) ℓ) : Prop :=
  True

def Pre_KernelDownFIdeal (m : (ℓ : Loc Cert.KernelDownFIdeal.nD Cert.KernelDownFIdeal.τ Cert.KernelDownFIdeal.sig) → Buf (Elt Ideal) ℓ) : Prop :=
  True

def Pre_ReferenceDownFIdeal (m : (ℓ : Loc Cert.ReferenceDownFIdeal.nD Cert.ReferenceDownFIdeal.τ Cert.ReferenceDownFIdeal.sig) → Buf (Elt Ideal) ℓ) : Prop :=
  True

def Pre_KernelNormQkv (m : (ℓ : Loc Cert.KernelNormQkv.nD Cert.KernelNormQkv.τ Cert.KernelNormQkv.sig) → Buf (Elt Bits) ℓ) : Prop :=
  True

def Pre_KernelNormQkvIdeal (m : (ℓ : Loc Cert.KernelNormQkvIdeal.nD Cert.KernelNormQkvIdeal.τ Cert.KernelNormQkvIdeal.sig) → Buf (Elt Ideal) ℓ) : Prop :=
  True

def Pre_ReferenceNormQkvIdeal (m : (ℓ : Loc Cert.ReferenceNormQkvIdeal.nD Cert.ReferenceNormQkvIdeal.τ Cert.ReferenceNormQkvIdeal.sig) → Buf (Elt Ideal) ℓ) : Prop :=
  True

def Pre_KernelQkvW (m : (ℓ : Loc Cert.KernelQkvW.nD Cert.KernelQkvW.τ Cert.KernelQkvW.sig) → Buf (Elt Bits) ℓ) : Prop :=
  True

def Pre_KernelQkvWIdeal (m : (ℓ : Loc Cert.KernelQkvWIdeal.nD Cert.KernelQkvWIdeal.τ Cert.KernelQkvWIdeal.sig) → Buf (Elt Ideal) ℓ) : Prop :=
  True

def Pre_ReferenceQkvWIdeal (m : (ℓ : Loc Cert.ReferenceQkvWIdeal.nD Cert.ReferenceQkvWIdeal.τ Cert.ReferenceQkvWIdeal.sig) → Buf (Elt Ideal) ℓ) : Prop :=
  True

def Pre_KernelQkvD (m : (ℓ : Loc Cert.KernelQkvD.nD Cert.KernelQkvD.τ Cert.KernelQkvD.sig) → Buf (Elt Bits) ℓ) : Prop :=
  True

def Pre_KernelQkvDIdeal (m : (ℓ : Loc Cert.KernelQkvDIdeal.nD Cert.KernelQkvDIdeal.τ Cert.KernelQkvDIdeal.sig) → Buf (Elt Ideal) ℓ) : Prop :=
  True

def Pre_ReferenceQkvDIdeal (m : (ℓ : Loc Cert.ReferenceQkvDIdeal.nD Cert.ReferenceQkvDIdeal.τ Cert.ReferenceQkvDIdeal.sig) → Buf (Elt Ideal) ℓ) : Prop :=
  True

def Pre_KernelNormRnn (m : (ℓ : Loc Cert.KernelNormRnn.nD Cert.KernelNormRnn.τ Cert.KernelNormRnn.sig) → Buf (Elt Bits) ℓ) : Prop :=
  True

def Pre_KernelNormRnnIdeal (m : (ℓ : Loc Cert.KernelNormRnnIdeal.nD Cert.KernelNormRnnIdeal.τ Cert.KernelNormRnnIdeal.sig) → Buf (Elt Ideal) ℓ) : Prop :=
  True

def Pre_ReferenceNormRnnIdeal (m : (ℓ : Loc Cert.ReferenceNormRnnIdeal.nD Cert.ReferenceNormRnnIdeal.τ Cert.ReferenceNormRnnIdeal.sig) → Buf (Elt Ideal) ℓ) : Prop :=
  True

def Pre_KernelRecF (m : (ℓ : Loc Cert.KernelRecF.nD Cert.KernelRecF.τ Cert.KernelRecF.sig) → Buf (Elt Bits) ℓ) : Prop :=
  True

def Pre_KernelRecFIdeal (m : (ℓ : Loc Cert.KernelRecFIdeal.nD Cert.KernelRecFIdeal.τ Cert.KernelRecFIdeal.sig) → Buf (Elt Ideal) ℓ) : Prop :=
  True

def Pre_ReferenceRecFIdeal (m : (ℓ : Loc Cert.ReferenceRecFIdeal.nD Cert.ReferenceRecFIdeal.τ Cert.ReferenceRecFIdeal.sig) → Buf (Elt Ideal) ℓ) : Prop :=
  True

def Pre_KernelRnnInW (m : (ℓ : Loc Cert.KernelRnnInW.nD Cert.KernelRnnInW.τ Cert.KernelRnnInW.sig) → Buf (Elt Bits) ℓ) : Prop :=
  True

def Pre_KernelRnnInWIdeal (m : (ℓ : Loc Cert.KernelRnnInWIdeal.nD Cert.KernelRnnInWIdeal.τ Cert.KernelRnnInWIdeal.sig) → Buf (Elt Ideal) ℓ) : Prop :=
  True

def Pre_ReferenceRnnInWIdeal (m : (ℓ : Loc Cert.ReferenceRnnInWIdeal.nD Cert.ReferenceRnnInWIdeal.τ Cert.ReferenceRnnInWIdeal.sig) → Buf (Elt Ideal) ℓ) : Prop :=
  True

def Pre_KernelRnnInD (m : (ℓ : Loc Cert.KernelRnnInD.nD Cert.KernelRnnInD.τ Cert.KernelRnnInD.sig) → Buf (Elt Bits) ℓ) : Prop :=
  True

def Pre_KernelRnnInDIdeal (m : (ℓ : Loc Cert.KernelRnnInDIdeal.nD Cert.KernelRnnInDIdeal.τ Cert.KernelRnnInDIdeal.sig) → Buf (Elt Ideal) ℓ) : Prop :=
  True

def Pre_ReferenceRnnInDIdeal (m : (ℓ : Loc Cert.ReferenceRnnInDIdeal.nD Cert.ReferenceRnnInDIdeal.τ Cert.ReferenceRnnInDIdeal.sig) → Buf (Elt Ideal) ℓ) : Prop :=
  True

def Pre_KernelNormPle (m : (ℓ : Loc Cert.KernelNormPle.nD Cert.KernelNormPle.τ Cert.KernelNormPle.sig) → Buf (Elt Bits) ℓ) : Prop :=
  True

def Pre_KernelNormPleIdeal (m : (ℓ : Loc Cert.KernelNormPleIdeal.nD Cert.KernelNormPleIdeal.τ Cert.KernelNormPleIdeal.sig) → Buf (Elt Ideal) ℓ) : Prop :=
  True

def Pre_ReferenceNormPleIdeal (m : (ℓ : Loc Cert.ReferenceNormPleIdeal.nD Cert.ReferenceNormPleIdeal.τ Cert.ReferenceNormPleIdeal.sig) → Buf (Elt Ideal) ℓ) : Prop :=
  True

def Pre_KernelPleGateW (m : (ℓ : Loc Cert.KernelPleGateW.nD Cert.KernelPleGateW.τ Cert.KernelPleGateW.sig) → Buf (Elt Bits) ℓ) : Prop :=
  True

def Pre_KernelPleGateWIdeal (m : (ℓ : Loc Cert.KernelPleGateWIdeal.nD Cert.KernelPleGateWIdeal.τ Cert.KernelPleGateWIdeal.sig) → Buf (Elt Ideal) ℓ) : Prop :=
  True

def Pre_ReferencePleGateWIdeal (m : (ℓ : Loc Cert.ReferencePleGateWIdeal.nD Cert.ReferencePleGateWIdeal.τ Cert.ReferencePleGateWIdeal.sig) → Buf (Elt Ideal) ℓ) : Prop :=
  True

def Pre_KernelPleGateD (m : (ℓ : Loc Cert.KernelPleGateD.nD Cert.KernelPleGateD.τ Cert.KernelPleGateD.sig) → Buf (Elt Bits) ℓ) : Prop :=
  True

def Pre_KernelPleGateDIdeal (m : (ℓ : Loc Cert.KernelPleGateDIdeal.nD Cert.KernelPleGateDIdeal.τ Cert.KernelPleGateDIdeal.sig) → Buf (Elt Ideal) ℓ) : Prop :=
  True

def Pre_ReferencePleGateDIdeal (m : (ℓ : Loc Cert.ReferencePleGateDIdeal.nD Cert.ReferencePleGateDIdeal.τ Cert.ReferencePleGateDIdeal.sig) → Buf (Elt Ideal) ℓ) : Prop :=
  True

def Pre_KernelRnnOutF (m : (ℓ : Loc Cert.KernelRnnOutF.nD Cert.KernelRnnOutF.τ Cert.KernelRnnOutF.sig) → Buf (Elt Bits) ℓ) : Prop :=
  True

def Pre_KernelRnnOutFIdeal (m : (ℓ : Loc Cert.KernelRnnOutFIdeal.nD Cert.KernelRnnOutFIdeal.τ Cert.KernelRnnOutFIdeal.sig) → Buf (Elt Ideal) ℓ) : Prop :=
  True

def Pre_ReferenceRnnOutFIdeal (m : (ℓ : Loc Cert.ReferenceRnnOutFIdeal.nD Cert.ReferenceRnnOutFIdeal.τ Cert.ReferenceRnnOutFIdeal.sig) → Buf (Elt Ideal) ℓ) : Prop :=
  True

def Pre_KernelRnnOutW (m : (ℓ : Loc Cert.KernelRnnOutW.nD Cert.KernelRnnOutW.τ Cert.KernelRnnOutW.sig) → Buf (Elt Bits) ℓ) : Prop :=
  True

def Pre_KernelRnnOutWIdeal (m : (ℓ : Loc Cert.KernelRnnOutWIdeal.nD Cert.KernelRnnOutWIdeal.τ Cert.KernelRnnOutWIdeal.sig) → Buf (Elt Ideal) ℓ) : Prop :=
  True

def Pre_ReferenceRnnOutWIdeal (m : (ℓ : Loc Cert.ReferenceRnnOutWIdeal.nD Cert.ReferenceRnnOutWIdeal.τ Cert.ReferenceRnnOutWIdeal.sig) → Buf (Elt Ideal) ℓ) : Prop :=
  True

def Pre_KernelRnnOutD (m : (ℓ : Loc Cert.KernelRnnOutD.nD Cert.KernelRnnOutD.τ Cert.KernelRnnOutD.sig) → Buf (Elt Bits) ℓ) : Prop :=
  True

def Pre_KernelRnnOutDIdeal (m : (ℓ : Loc Cert.KernelRnnOutDIdeal.nD Cert.KernelRnnOutDIdeal.τ Cert.KernelRnnOutDIdeal.sig) → Buf (Elt Ideal) ℓ) : Prop :=
  True

def Pre_ReferenceRnnOutDIdeal (m : (ℓ : Loc Cert.ReferenceRnnOutDIdeal.nD Cert.ReferenceRnnOutDIdeal.τ Cert.ReferenceRnnOutDIdeal.sig) → Buf (Elt Ideal) ℓ) : Prop :=
  True

def Pre_KernelOutF (m : (ℓ : Loc Cert.KernelOutF.nD Cert.KernelOutF.τ Cert.KernelOutF.sig) → Buf (Elt Bits) ℓ) : Prop :=
  True

def Pre_KernelOutFIdeal (m : (ℓ : Loc Cert.KernelOutFIdeal.nD Cert.KernelOutFIdeal.τ Cert.KernelOutFIdeal.sig) → Buf (Elt Ideal) ℓ) : Prop :=
  True

def Pre_ReferenceOutFIdeal (m : (ℓ : Loc Cert.ReferenceOutFIdeal.nD Cert.ReferenceOutFIdeal.τ Cert.ReferenceOutFIdeal.sig) → Buf (Elt Ideal) ℓ) : Prop :=
  True

def Pre_KernelOutW (m : (ℓ : Loc Cert.KernelOutW.nD Cert.KernelOutW.τ Cert.KernelOutW.sig) → Buf (Elt Bits) ℓ) : Prop :=
  True

def Pre_KernelOutWIdeal (m : (ℓ : Loc Cert.KernelOutWIdeal.nD Cert.KernelOutWIdeal.τ Cert.KernelOutWIdeal.sig) → Buf (Elt Ideal) ℓ) : Prop :=
  True

def Pre_ReferenceOutWIdeal (m : (ℓ : Loc Cert.ReferenceOutWIdeal.nD Cert.ReferenceOutWIdeal.τ Cert.ReferenceOutWIdeal.sig) → Buf (Elt Ideal) ℓ) : Prop :=
  True

def Pre_KernelOutD (m : (ℓ : Loc Cert.KernelOutD.nD Cert.KernelOutD.τ Cert.KernelOutD.sig) → Buf (Elt Bits) ℓ) : Prop :=
  True

def Pre_KernelOutDIdeal (m : (ℓ : Loc Cert.KernelOutDIdeal.nD Cert.KernelOutDIdeal.τ Cert.KernelOutDIdeal.sig) → Buf (Elt Ideal) ℓ) : Prop :=
  True

def Pre_ReferenceOutDIdeal (m : (ℓ : Loc Cert.ReferenceOutDIdeal.nD Cert.ReferenceOutDIdeal.τ Cert.ReferenceOutDIdeal.sig) → Buf (Elt Ideal) ℓ) : Prop :=
  True

def Pre_KernelPleF (m : (ℓ : Loc Cert.KernelPleF.nD Cert.KernelPleF.τ Cert.KernelPleF.sig) → Buf (Elt Bits) ℓ) : Prop :=
  True

def Pre_KernelPleFIdeal (m : (ℓ : Loc Cert.KernelPleFIdeal.nD Cert.KernelPleFIdeal.τ Cert.KernelPleFIdeal.sig) → Buf (Elt Ideal) ℓ) : Prop :=
  True

def Pre_ReferencePleFIdeal (m : (ℓ : Loc Cert.ReferencePleFIdeal.nD Cert.ReferencePleFIdeal.τ Cert.ReferencePleFIdeal.sig) → Buf (Elt Ideal) ℓ) : Prop :=
  True

def Pre_KernelPleProjW (m : (ℓ : Loc Cert.KernelPleProjW.nD Cert.KernelPleProjW.τ Cert.KernelPleProjW.sig) → Buf (Elt Bits) ℓ) : Prop :=
  True

def Pre_KernelPleProjWIdeal (m : (ℓ : Loc Cert.KernelPleProjWIdeal.nD Cert.KernelPleProjWIdeal.τ Cert.KernelPleProjWIdeal.sig) → Buf (Elt Ideal) ℓ) : Prop :=
  True

def Pre_ReferencePleProjWIdeal (m : (ℓ : Loc Cert.ReferencePleProjWIdeal.nD Cert.ReferencePleProjWIdeal.τ Cert.ReferencePleProjWIdeal.sig) → Buf (Elt Ideal) ℓ) : Prop :=
  True

def Pre_KernelPleD (m : (ℓ : Loc Cert.KernelPleD.nD Cert.KernelPleD.τ Cert.KernelPleD.sig) → Buf (Elt Bits) ℓ) : Prop :=
  True

def Pre_KernelPleDIdeal (m : (ℓ : Loc Cert.KernelPleDIdeal.nD Cert.KernelPleDIdeal.τ Cert.KernelPleDIdeal.sig) → Buf (Elt Ideal) ℓ) : Prop :=
  True

def Pre_ReferencePleDIdeal (m : (ℓ : Loc Cert.ReferencePleDIdeal.nD Cert.ReferencePleDIdeal.τ Cert.ReferencePleDIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelGateF (m : (ℓ : Loc Cert.KernelGateF.nD Cert.KernelGateF.τ Cert.KernelGateF.sig) → Buf (Elt Bits) ℓ) : Prop :=
  True

def Pre_KernelGateFIdeal (m : (ℓ : Loc Cert.KernelGateFIdeal.nD Cert.KernelGateFIdeal.τ Cert.KernelGateFIdeal.sig) → Buf (Elt Ideal) ℓ) : Prop :=
  True

def Pre_ReferenceGateFIdeal (m : (ℓ : Loc Cert.ReferenceGateFIdeal.nD Cert.ReferenceGateFIdeal.τ Cert.ReferenceGateFIdeal.sig) → Buf (Elt Ideal) ℓ) : Prop :=
  True

def Pre_KernelGateD (m : (ℓ : Loc Cert.KernelGateD.nD Cert.KernelGateD.τ Cert.KernelGateD.sig) → Buf (Elt Bits) ℓ) : Prop :=
  True

def Pre_KernelGateDIdeal (m : (ℓ : Loc Cert.KernelGateDIdeal.nD Cert.KernelGateDIdeal.τ Cert.KernelGateDIdeal.sig) → Buf (Elt Ideal) ℓ) : Prop :=
  True

def Pre_ReferenceGateDIdeal (m : (ℓ : Loc Cert.ReferenceGateDIdeal.nD Cert.ReferenceGateDIdeal.τ Cert.ReferenceGateDIdeal.sig) → Buf (Elt Ideal) ℓ) : Prop :=
  True

def Pre_KernelGateW (m : (ℓ : Loc Cert.KernelGateW.nD Cert.KernelGateW.τ Cert.KernelGateW.sig) → Buf (Elt Bits) ℓ) : Prop :=
  True

def Pre_KernelGateWIdeal (m : (ℓ : Loc Cert.KernelGateWIdeal.nD Cert.KernelGateWIdeal.τ Cert.KernelGateWIdeal.sig) → Buf (Elt Ideal) ℓ) : Prop :=
  True

def Pre_ReferenceGateWIdeal (m : (ℓ : Loc Cert.ReferenceGateWIdeal.nD Cert.ReferenceGateWIdeal.τ Cert.ReferenceGateWIdeal.sig) → Buf (Elt Ideal) ℓ) : Prop :=
  True

def Pre_KernelAdamNormMix (m : (ℓ : Loc Cert.KernelAdamNormMix.nD Cert.KernelAdamNormMix.τ Cert.KernelAdamNormMix.sig) → Buf (Elt Bits) ℓ) : Prop :=
  True

def Pre_KernelAdamNormMixIdeal (m : (ℓ : Loc Cert.KernelAdamNormMixIdeal.nD Cert.KernelAdamNormMixIdeal.τ Cert.KernelAdamNormMixIdeal.sig) → Buf (Elt Ideal) ℓ) : Prop :=
  True

def Pre_ReferenceAdamNormMixIdeal (m : (ℓ : Loc Cert.ReferenceAdamNormMixIdeal.nD Cert.ReferenceAdamNormMixIdeal.τ Cert.ReferenceAdamNormMixIdeal.sig) → Buf (Elt Ideal) ℓ) : Prop :=
  True

def Pre_KernelAdamQkv (m : (ℓ : Loc Cert.KernelAdamQkv.nD Cert.KernelAdamQkv.τ Cert.KernelAdamQkv.sig) → Buf (Elt Bits) ℓ) : Prop :=
  True

def Pre_KernelAdamQkvIdeal (m : (ℓ : Loc Cert.KernelAdamQkvIdeal.nD Cert.KernelAdamQkvIdeal.τ Cert.KernelAdamQkvIdeal.sig) → Buf (Elt Ideal) ℓ) : Prop :=
  True

def Pre_ReferenceAdamQkvIdeal (m : (ℓ : Loc Cert.ReferenceAdamQkvIdeal.nD Cert.ReferenceAdamQkvIdeal.τ Cert.ReferenceAdamQkvIdeal.sig) → Buf (Elt Ideal) ℓ) : Prop :=
  True

def Pre_KernelAdamAttnO (m : (ℓ : Loc Cert.KernelAdamAttnO.nD Cert.KernelAdamAttnO.τ Cert.KernelAdamAttnO.sig) → Buf (Elt Bits) ℓ) : Prop :=
  True

def Pre_KernelAdamAttnOIdeal (m : (ℓ : Loc Cert.KernelAdamAttnOIdeal.nD Cert.KernelAdamAttnOIdeal.τ Cert.KernelAdamAttnOIdeal.sig) → Buf (Elt Ideal) ℓ) : Prop :=
  True

def Pre_ReferenceAdamAttnOIdeal (m : (ℓ : Loc Cert.ReferenceAdamAttnOIdeal.nD Cert.ReferenceAdamAttnOIdeal.τ Cert.ReferenceAdamAttnOIdeal.sig) → Buf (Elt Ideal) ℓ) : Prop :=
  True

def Pre_KernelAdamRnnIn (m : (ℓ : Loc Cert.KernelAdamRnnIn.nD Cert.KernelAdamRnnIn.τ Cert.KernelAdamRnnIn.sig) → Buf (Elt Bits) ℓ) : Prop :=
  True

def Pre_KernelAdamRnnInIdeal (m : (ℓ : Loc Cert.KernelAdamRnnInIdeal.nD Cert.KernelAdamRnnInIdeal.τ Cert.KernelAdamRnnInIdeal.sig) → Buf (Elt Ideal) ℓ) : Prop :=
  True

def Pre_ReferenceAdamRnnInIdeal (m : (ℓ : Loc Cert.ReferenceAdamRnnInIdeal.nD Cert.ReferenceAdamRnnInIdeal.τ Cert.ReferenceAdamRnnInIdeal.sig) → Buf (Elt Ideal) ℓ) : Prop :=
  True

def Pre_KernelAdamRnnConv (m : (ℓ : Loc Cert.KernelAdamRnnConv.nD Cert.KernelAdamRnnConv.τ Cert.KernelAdamRnnConv.sig) → Buf (Elt Bits) ℓ) : Prop :=
  True

def Pre_KernelAdamRnnConvIdeal (m : (ℓ : Loc Cert.KernelAdamRnnConvIdeal.nD Cert.KernelAdamRnnConvIdeal.τ Cert.KernelAdamRnnConvIdeal.sig) → Buf (Elt Ideal) ℓ) : Prop :=
  True

def Pre_ReferenceAdamRnnConvIdeal (m : (ℓ : Loc Cert.ReferenceAdamRnnConvIdeal.nD Cert.ReferenceAdamRnnConvIdeal.τ Cert.ReferenceAdamRnnConvIdeal.sig) → Buf (Elt Ideal) ℓ) : Prop :=
  True

def Pre_KernelAdamRnnVec (m : (ℓ : Loc Cert.KernelAdamRnnVec.nD Cert.KernelAdamRnnVec.τ Cert.KernelAdamRnnVec.sig) → Buf (Elt Bits) ℓ) : Prop :=
  True

def Pre_KernelAdamRnnVecIdeal (m : (ℓ : Loc Cert.KernelAdamRnnVecIdeal.nD Cert.KernelAdamRnnVecIdeal.τ Cert.KernelAdamRnnVecIdeal.sig) → Buf (Elt Ideal) ℓ) : Prop :=
  True

def Pre_ReferenceAdamRnnVecIdeal (m : (ℓ : Loc Cert.ReferenceAdamRnnVecIdeal.nD Cert.ReferenceAdamRnnVecIdeal.τ Cert.ReferenceAdamRnnVecIdeal.sig) → Buf (Elt Ideal) ℓ) : Prop :=
  True

def Pre_KernelAdamGate (m : (ℓ : Loc Cert.KernelAdamGate.nD Cert.KernelAdamGate.τ Cert.KernelAdamGate.sig) → Buf (Elt Bits) ℓ) : Prop :=
  True

def Pre_KernelAdamGateIdeal (m : (ℓ : Loc Cert.KernelAdamGateIdeal.nD Cert.KernelAdamGateIdeal.τ Cert.KernelAdamGateIdeal.sig) → Buf (Elt Ideal) ℓ) : Prop :=
  True

def Pre_ReferenceAdamGateIdeal (m : (ℓ : Loc Cert.ReferenceAdamGateIdeal.nD Cert.ReferenceAdamGateIdeal.τ Cert.ReferenceAdamGateIdeal.sig) → Buf (Elt Ideal) ℓ) : Prop :=
  True

def Pre_KernelAdamRnnOut (m : (ℓ : Loc Cert.KernelAdamRnnOut.nD Cert.KernelAdamRnnOut.τ Cert.KernelAdamRnnOut.sig) → Buf (Elt Bits) ℓ) : Prop :=
  True

def Pre_KernelAdamRnnOutIdeal (m : (ℓ : Loc Cert.KernelAdamRnnOutIdeal.nD Cert.KernelAdamRnnOutIdeal.τ Cert.KernelAdamRnnOutIdeal.sig) → Buf (Elt Ideal) ℓ) : Prop :=
  True

def Pre_ReferenceAdamRnnOutIdeal (m : (ℓ : Loc Cert.ReferenceAdamRnnOutIdeal.nD Cert.ReferenceAdamRnnOutIdeal.τ Cert.ReferenceAdamRnnOutIdeal.sig) → Buf (Elt Ideal) ℓ) : Prop :=
  True

def Pre_KernelAdamFfnUp (m : (ℓ : Loc Cert.KernelAdamFfnUp.nD Cert.KernelAdamFfnUp.τ Cert.KernelAdamFfnUp.sig) → Buf (Elt Bits) ℓ) : Prop :=
  True

def Pre_KernelAdamFfnUpIdeal (m : (ℓ : Loc Cert.KernelAdamFfnUpIdeal.nD Cert.KernelAdamFfnUpIdeal.τ Cert.KernelAdamFfnUpIdeal.sig) → Buf (Elt Ideal) ℓ) : Prop :=
  True

def Pre_ReferenceAdamFfnUpIdeal (m : (ℓ : Loc Cert.ReferenceAdamFfnUpIdeal.nD Cert.ReferenceAdamFfnUpIdeal.τ Cert.ReferenceAdamFfnUpIdeal.sig) → Buf (Elt Ideal) ℓ) : Prop :=
  True

def Pre_KernelAdamFfnConv (m : (ℓ : Loc Cert.KernelAdamFfnConv.nD Cert.KernelAdamFfnConv.τ Cert.KernelAdamFfnConv.sig) → Buf (Elt Bits) ℓ) : Prop :=
  True

def Pre_KernelAdamFfnConvIdeal (m : (ℓ : Loc Cert.KernelAdamFfnConvIdeal.nD Cert.KernelAdamFfnConvIdeal.τ Cert.KernelAdamFfnConvIdeal.sig) → Buf (Elt Ideal) ℓ) : Prop :=
  True

def Pre_ReferenceAdamFfnConvIdeal (m : (ℓ : Loc Cert.ReferenceAdamFfnConvIdeal.nD Cert.ReferenceAdamFfnConvIdeal.τ Cert.ReferenceAdamFfnConvIdeal.sig) → Buf (Elt Ideal) ℓ) : Prop :=
  True

def Pre_KernelAdamFfnBias (m : (ℓ : Loc Cert.KernelAdamFfnBias.nD Cert.KernelAdamFfnBias.τ Cert.KernelAdamFfnBias.sig) → Buf (Elt Bits) ℓ) : Prop :=
  True

def Pre_KernelAdamFfnBiasIdeal (m : (ℓ : Loc Cert.KernelAdamFfnBiasIdeal.nD Cert.KernelAdamFfnBiasIdeal.τ Cert.KernelAdamFfnBiasIdeal.sig) → Buf (Elt Ideal) ℓ) : Prop :=
  True

def Pre_ReferenceAdamFfnBiasIdeal (m : (ℓ : Loc Cert.ReferenceAdamFfnBiasIdeal.nD Cert.ReferenceAdamFfnBiasIdeal.τ Cert.ReferenceAdamFfnBiasIdeal.sig) → Buf (Elt Ideal) ℓ) : Prop :=
  True

def Pre_KernelAdamFfnDown (m : (ℓ : Loc Cert.KernelAdamFfnDown.nD Cert.KernelAdamFfnDown.τ Cert.KernelAdamFfnDown.sig) → Buf (Elt Bits) ℓ) : Prop :=
  True

def Pre_KernelAdamFfnDownIdeal (m : (ℓ : Loc Cert.KernelAdamFfnDownIdeal.nD Cert.KernelAdamFfnDownIdeal.τ Cert.KernelAdamFfnDownIdeal.sig) → Buf (Elt Ideal) ℓ) : Prop :=
  True

def Pre_ReferenceAdamFfnDownIdeal (m : (ℓ : Loc Cert.ReferenceAdamFfnDownIdeal.nD Cert.ReferenceAdamFfnDownIdeal.τ Cert.ReferenceAdamFfnDownIdeal.sig) → Buf (Elt Ideal) ℓ) : Prop :=
  True

def Pre_KernelAdamPleGate (m : (ℓ : Loc Cert.KernelAdamPleGate.nD Cert.KernelAdamPleGate.τ Cert.KernelAdamPleGate.sig) → Buf (Elt Bits) ℓ) : Prop :=
  True

def Pre_KernelAdamPleGateIdeal (m : (ℓ : Loc Cert.KernelAdamPleGateIdeal.nD Cert.KernelAdamPleGateIdeal.τ Cert.KernelAdamPleGateIdeal.sig) → Buf (Elt Ideal) ℓ) : Prop :=
  True

def Pre_ReferenceAdamPleGateIdeal (m : (ℓ : Loc Cert.ReferenceAdamPleGateIdeal.nD Cert.ReferenceAdamPleGateIdeal.τ Cert.ReferenceAdamPleGateIdeal.sig) → Buf (Elt Ideal) ℓ) : Prop :=
  True

def Pre_KernelAdamPleProj (m : (ℓ : Loc Cert.KernelAdamPleProj.nD Cert.KernelAdamPleProj.τ Cert.KernelAdamPleProj.sig) → Buf (Elt Bits) ℓ) : Prop :=
  True

def Pre_KernelAdamPleProjIdeal (m : (ℓ : Loc Cert.KernelAdamPleProjIdeal.nD Cert.KernelAdamPleProjIdeal.τ Cert.KernelAdamPleProjIdeal.sig) → Buf (Elt Ideal) ℓ) : Prop :=
  True

def Pre_ReferenceAdamPleProjIdeal (m : (ℓ : Loc Cert.ReferenceAdamPleProjIdeal.nD Cert.ReferenceAdamPleProjIdeal.τ Cert.ReferenceAdamPleProjIdeal.sig) → Buf (Elt Ideal) ℓ) : Prop :=
  True

def Pre_KernelAdamNormFinal (m : (ℓ : Loc Cert.KernelAdamNormFinal.nD Cert.KernelAdamNormFinal.τ Cert.KernelAdamNormFinal.sig) → Buf (Elt Bits) ℓ) : Prop :=
  True

def Pre_KernelAdamNormFinalIdeal (m : (ℓ : Loc Cert.KernelAdamNormFinalIdeal.nD Cert.KernelAdamNormFinalIdeal.τ Cert.KernelAdamNormFinalIdeal.sig) → Buf (Elt Ideal) ℓ) : Prop :=
  True

def Pre_ReferenceAdamNormFinalIdeal (m : (ℓ : Loc Cert.ReferenceAdamNormFinalIdeal.nD Cert.ReferenceAdamNormFinalIdeal.τ Cert.ReferenceAdamNormFinalIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4)
      ∧ r.2.mem ((c.tc : Thread Cert.KernelUp.nD Cert.KernelUp.τ).loc Cert.KernelUp.main_arg5) = m ((c.tc : Thread Cert.KernelUp.nD Cert.KernelUp.τ).loc Cert.KernelUp.main_arg5))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5))
      ∧ r.2.sem = fun _ => 0)

def quiescent_KernelUpW [hKernelUpW : Cert.KernelUpW.Facts] : Prop :=
  ∀ (m : (ℓ : Loc Cert.KernelUpW.nD Cert.KernelUpW.τ Cert.KernelUpW.sig) → Buf (Elt Bits) ℓ) (g : Dev Cert.KernelUpW.nD → PrngReg), Pre_KernelUpW m →
    θ_run (Cert.KernelUpW.defs (F := Bits)) (onTc (τ := Cert.KernelUpW.τ) (Cert.KernelUpW.main (F := Bits))) ⟨m, fun _ => 0, g⟩ (fun r => (∀ c : Dev Cert.KernelUpW.nD,
      r.2.mem ((c.tc : Thread Cert.KernelUpW.nD Cert.KernelUpW.τ).loc Cert.KernelUpW.main_arg0) = m ((c.tc : Thread Cert.KernelUpW.nD Cert.KernelUpW.τ).loc Cert.KernelUpW.main_arg0)
      ∧ r.2.mem ((c.tc : Thread Cert.KernelUpW.nD Cert.KernelUpW.τ).loc Cert.KernelUpW.main_arg1) = m ((c.tc : Thread Cert.KernelUpW.nD Cert.KernelUpW.τ).loc Cert.KernelUpW.main_arg1))
      ∧ r.2.sem = fun _ => 0)

def quiescent_KernelUpWIdeal [hKernelUpWIdeal : Cert.KernelUpWIdeal.Facts] : Prop :=
  ∀ (m : (ℓ : Loc Cert.KernelUpWIdeal.nD Cert.KernelUpWIdeal.τ Cert.KernelUpWIdeal.sig) → Buf (Elt Ideal) ℓ) (g : Dev Cert.KernelUpWIdeal.nD → PrngReg), Pre_KernelUpWIdeal m →
    θ_run (Cert.KernelUpWIdeal.defs (F := Ideal)) (onTc (τ := Cert.KernelUpWIdeal.τ) (Cert.KernelUpWIdeal.main (F := Ideal))) ⟨m, fun _ => 0, g⟩ (fun r => (∀ c : Dev Cert.KernelUpWIdeal.nD,
      r.2.mem ((c.tc : Thread Cert.KernelUpWIdeal.nD Cert.KernelUpWIdeal.τ).loc Cert.KernelUpWIdeal.main_arg0) = m ((c.tc : Thread Cert.KernelUpWIdeal.nD Cert.KernelUpWIdeal.τ).loc Cert.KernelUpWIdeal.main_arg0)
      ∧ r.2.mem ((c.tc : Thread Cert.KernelUpWIdeal.nD Cert.KernelUpWIdeal.τ).loc Cert.KernelUpWIdeal.main_arg1) = m ((c.tc : Thread Cert.KernelUpWIdeal.nD Cert.KernelUpWIdeal.τ).loc Cert.KernelUpWIdeal.main_arg1))
      ∧ r.2.sem = fun _ => 0)

def quiescent_ReferenceUpWIdeal [hReferenceUpWIdeal : Cert.ReferenceUpWIdeal.Facts] : Prop :=
  ∀ (m : (ℓ : Loc Cert.ReferenceUpWIdeal.nD Cert.ReferenceUpWIdeal.τ Cert.ReferenceUpWIdeal.sig) → Buf (Elt Ideal) ℓ) (g : Dev Cert.ReferenceUpWIdeal.nD → PrngReg), Pre_ReferenceUpWIdeal m →
    θ_run (Cert.ReferenceUpWIdeal.defs (F := Ideal)) (onTc (τ := Cert.ReferenceUpWIdeal.τ) (Cert.ReferenceUpWIdeal.main (F := Ideal))) ⟨m, fun _ => 0, g⟩ (fun r => (∀ c : Dev Cert.ReferenceUpWIdeal.nD,
      r.2.mem ((c.tc : Thread Cert.ReferenceUpWIdeal.nD Cert.ReferenceUpWIdeal.τ).loc Cert.ReferenceUpWIdeal.main_arg0) = m ((c.tc : Thread Cert.ReferenceUpWIdeal.nD Cert.ReferenceUpWIdeal.τ).loc Cert.ReferenceUpWIdeal.main_arg0)
      ∧ r.2.mem ((c.tc : Thread Cert.ReferenceUpWIdeal.nD Cert.ReferenceUpWIdeal.τ).loc Cert.ReferenceUpWIdeal.main_arg1) = m ((c.tc : Thread Cert.ReferenceUpWIdeal.nD Cert.ReferenceUpWIdeal.τ).loc Cert.ReferenceUpWIdeal.main_arg1))
      ∧ r.2.sem = fun _ => 0)

def quiescent_KernelDownW [hKernelDownW : Cert.KernelDownW.Facts] : Prop :=
  ∀ (m : (ℓ : Loc Cert.KernelDownW.nD Cert.KernelDownW.τ Cert.KernelDownW.sig) → Buf (Elt Bits) ℓ) (g : Dev Cert.KernelDownW.nD → PrngReg), Pre_KernelDownW m →
    θ_run (Cert.KernelDownW.defs (F := Bits)) (onTc (τ := Cert.KernelDownW.τ) (Cert.KernelDownW.main (F := Bits))) ⟨m, fun _ => 0, g⟩ (fun r => (∀ c : Dev Cert.KernelDownW.nD,
      r.2.mem ((c.tc : Thread Cert.KernelDownW.nD Cert.KernelDownW.τ).loc Cert.KernelDownW.main_arg0) = m ((c.tc : Thread Cert.KernelDownW.nD Cert.KernelDownW.τ).loc Cert.KernelDownW.main_arg0)
      ∧ r.2.mem ((c.tc : Thread Cert.KernelDownW.nD Cert.KernelDownW.τ).loc Cert.KernelDownW.main_arg1) = m ((c.tc : Thread Cert.KernelDownW.nD Cert.KernelDownW.τ).loc Cert.KernelDownW.main_arg1))
      ∧ r.2.sem = fun _ => 0)

def quiescent_KernelDownWIdeal [hKernelDownWIdeal : Cert.KernelDownWIdeal.Facts] : Prop :=
  ∀ (m : (ℓ : Loc Cert.KernelDownWIdeal.nD Cert.KernelDownWIdeal.τ Cert.KernelDownWIdeal.sig) → Buf (Elt Ideal) ℓ) (g : Dev Cert.KernelDownWIdeal.nD → PrngReg), Pre_KernelDownWIdeal m →
    θ_run (Cert.KernelDownWIdeal.defs (F := Ideal)) (onTc (τ := Cert.KernelDownWIdeal.τ) (Cert.KernelDownWIdeal.main (F := Ideal))) ⟨m, fun _ => 0, g⟩ (fun r => (∀ c : Dev Cert.KernelDownWIdeal.nD,
      r.2.mem ((c.tc : Thread Cert.KernelDownWIdeal.nD Cert.KernelDownWIdeal.τ).loc Cert.KernelDownWIdeal.main_arg0) = m ((c.tc : Thread Cert.KernelDownWIdeal.nD Cert.KernelDownWIdeal.τ).loc Cert.KernelDownWIdeal.main_arg0)
      ∧ r.2.mem ((c.tc : Thread Cert.KernelDownWIdeal.nD Cert.KernelDownWIdeal.τ).loc Cert.KernelDownWIdeal.main_arg1) = m ((c.tc : Thread Cert.KernelDownWIdeal.nD Cert.KernelDownWIdeal.τ).loc Cert.KernelDownWIdeal.main_arg1))
      ∧ r.2.sem = fun _ => 0)

def quiescent_ReferenceDownWIdeal [hReferenceDownWIdeal : Cert.ReferenceDownWIdeal.Facts] : Prop :=
  ∀ (m : (ℓ : Loc Cert.ReferenceDownWIdeal.nD Cert.ReferenceDownWIdeal.τ Cert.ReferenceDownWIdeal.sig) → Buf (Elt Ideal) ℓ) (g : Dev Cert.ReferenceDownWIdeal.nD → PrngReg), Pre_ReferenceDownWIdeal m →
    θ_run (Cert.ReferenceDownWIdeal.defs (F := Ideal)) (onTc (τ := Cert.ReferenceDownWIdeal.τ) (Cert.ReferenceDownWIdeal.main (F := Ideal))) ⟨m, fun _ => 0, g⟩ (fun r => (∀ c : Dev Cert.ReferenceDownWIdeal.nD,
      r.2.mem ((c.tc : Thread Cert.ReferenceDownWIdeal.nD Cert.ReferenceDownWIdeal.τ).loc Cert.ReferenceDownWIdeal.main_arg0) = m ((c.tc : Thread Cert.ReferenceDownWIdeal.nD Cert.ReferenceDownWIdeal.τ).loc Cert.ReferenceDownWIdeal.main_arg0)
      ∧ r.2.mem ((c.tc : Thread Cert.ReferenceDownWIdeal.nD Cert.ReferenceDownWIdeal.τ).loc Cert.ReferenceDownWIdeal.main_arg1) = m ((c.tc : Thread Cert.ReferenceDownWIdeal.nD Cert.ReferenceDownWIdeal.τ).loc Cert.ReferenceDownWIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelNormUp [hKernelNormUp : Cert.KernelNormUp.Facts] : Prop :=
  ∀ (m : (ℓ : Loc Cert.KernelNormUp.nD Cert.KernelNormUp.τ Cert.KernelNormUp.sig) → Buf (Elt Bits) ℓ) (g : Dev Cert.KernelNormUp.nD → PrngReg), Pre_KernelNormUp m →
    θ_run (Cert.KernelNormUp.defs (F := Bits)) (onTc (τ := Cert.KernelNormUp.τ) (Cert.KernelNormUp.main (F := Bits))) ⟨m, fun _ => 0, g⟩ (fun r => (∀ c : Dev Cert.KernelNormUp.nD,
      r.2.mem ((c.tc : Thread Cert.KernelNormUp.nD Cert.KernelNormUp.τ).loc Cert.KernelNormUp.main_arg0) = m ((c.tc : Thread Cert.KernelNormUp.nD Cert.KernelNormUp.τ).loc Cert.KernelNormUp.main_arg0)
      ∧ r.2.mem ((c.tc : Thread Cert.KernelNormUp.nD Cert.KernelNormUp.τ).loc Cert.KernelNormUp.main_arg1) = m ((c.tc : Thread Cert.KernelNormUp.nD Cert.KernelNormUp.τ).loc Cert.KernelNormUp.main_arg1)
      ∧ r.2.mem ((c.tc : Thread Cert.KernelNormUp.nD Cert.KernelNormUp.τ).loc Cert.KernelNormUp.main_arg2) = m ((c.tc : Thread Cert.KernelNormUp.nD Cert.KernelNormUp.τ).loc Cert.KernelNormUp.main_arg2))
      ∧ r.2.sem = fun _ => 0)

def quiescent_KernelNormUpIdeal [hKernelNormUpIdeal : Cert.KernelNormUpIdeal.Facts] : Prop :=
  ∀ (m : (ℓ : Loc Cert.KernelNormUpIdeal.nD Cert.KernelNormUpIdeal.τ Cert.KernelNormUpIdeal.sig) → Buf (Elt Ideal) ℓ) (g : Dev Cert.KernelNormUpIdeal.nD → PrngReg), Pre_KernelNormUpIdeal m →
    θ_run (Cert.KernelNormUpIdeal.defs (F := Ideal)) (onTc (τ := Cert.KernelNormUpIdeal.τ) (Cert.KernelNormUpIdeal.main (F := Ideal))) ⟨m, fun _ => 0, g⟩ (fun r => (∀ c : Dev Cert.KernelNormUpIdeal.nD,
      r.2.mem ((c.tc : Thread Cert.KernelNormUpIdeal.nD Cert.KernelNormUpIdeal.τ).loc Cert.KernelNormUpIdeal.main_arg0) = m ((c.tc : Thread Cert.KernelNormUpIdeal.nD Cert.KernelNormUpIdeal.τ).loc Cert.KernelNormUpIdeal.main_arg0)
      ∧ r.2.mem ((c.tc : Thread Cert.KernelNormUpIdeal.nD Cert.KernelNormUpIdeal.τ).loc Cert.KernelNormUpIdeal.main_arg1) = m ((c.tc : Thread Cert.KernelNormUpIdeal.nD Cert.KernelNormUpIdeal.τ).loc Cert.KernelNormUpIdeal.main_arg1)
      ∧ r.2.mem ((c.tc : Thread Cert.KernelNormUpIdeal.nD Cert.KernelNormUpIdeal.τ).loc Cert.KernelNormUpIdeal.main_arg2) = m ((c.tc : Thread Cert.KernelNormUpIdeal.nD Cert.KernelNormUpIdeal.τ).loc Cert.KernelNormUpIdeal.main_arg2))
      ∧ r.2.sem = fun _ => 0)

def quiescent_ReferenceNormUpIdeal [hReferenceNormUpIdeal : Cert.ReferenceNormUpIdeal.Facts] : Prop :=
  ∀ (m : (ℓ : Loc Cert.ReferenceNormUpIdeal.nD Cert.ReferenceNormUpIdeal.τ Cert.ReferenceNormUpIdeal.sig) → Buf (Elt Ideal) ℓ) (g : Dev Cert.ReferenceNormUpIdeal.nD → PrngReg), Pre_ReferenceNormUpIdeal m →
    θ_run (Cert.ReferenceNormUpIdeal.defs (F := Ideal)) (onTc (τ := Cert.ReferenceNormUpIdeal.τ) (Cert.ReferenceNormUpIdeal.main (F := Ideal))) ⟨m, fun _ => 0, g⟩ (fun r => (∀ c : Dev Cert.ReferenceNormUpIdeal.nD,
      r.2.mem ((c.tc : Thread Cert.ReferenceNormUpIdeal.nD Cert.ReferenceNormUpIdeal.τ).loc Cert.ReferenceNormUpIdeal.main_arg0) = m ((c.tc : Thread Cert.ReferenceNormUpIdeal.nD Cert.ReferenceNormUpIdeal.τ).loc Cert.ReferenceNormUpIdeal.main_arg0)
      ∧ r.2.mem ((c.tc : Thread Cert.ReferenceNormUpIdeal.nD Cert.ReferenceNormUpIdeal.τ).loc Cert.ReferenceNormUpIdeal.main_arg1) = m ((c.tc : Thread Cert.ReferenceNormUpIdeal.nD Cert.ReferenceNormUpIdeal.τ).loc Cert.ReferenceNormUpIdeal.main_arg1)
      ∧ r.2.mem ((c.tc : Thread Cert.ReferenceNormUpIdeal.nD Cert.ReferenceNormUpIdeal.τ).loc Cert.ReferenceNormUpIdeal.main_arg2) = m ((c.tc : Thread Cert.ReferenceNormUpIdeal.nD Cert.ReferenceNormUpIdeal.τ).loc Cert.ReferenceNormUpIdeal.main_arg2))
      ∧ r.2.sem = fun _ => 0)

def quiescent_KernelUpV [hKernelUpV : Cert.KernelUpV.Facts] : Prop :=
  ∀ (m : (ℓ : Loc Cert.KernelUpV.nD Cert.KernelUpV.τ Cert.KernelUpV.sig) → Buf (Elt Bits) ℓ) (g : Dev Cert.KernelUpV.nD → PrngReg), Pre_KernelUpV m →
    θ_run (Cert.KernelUpV.defs (F := Bits)) (onTc (τ := Cert.KernelUpV.τ) (Cert.KernelUpV.main (F := Bits))) ⟨m, fun _ => 0, g⟩ (fun r => (∀ c : Dev Cert.KernelUpV.nD,
      r.2.mem ((c.tc : Thread Cert.KernelUpV.nD Cert.KernelUpV.τ).loc Cert.KernelUpV.main_arg0) = m ((c.tc : Thread Cert.KernelUpV.nD Cert.KernelUpV.τ).loc Cert.KernelUpV.main_arg0)
      ∧ r.2.mem ((c.tc : Thread Cert.KernelUpV.nD Cert.KernelUpV.τ).loc Cert.KernelUpV.main_arg1) = m ((c.tc : Thread Cert.KernelUpV.nD Cert.KernelUpV.τ).loc Cert.KernelUpV.main_arg1))
      ∧ r.2.sem = fun _ => 0)

def quiescent_KernelUpVIdeal [hKernelUpVIdeal : Cert.KernelUpVIdeal.Facts] : Prop :=
  ∀ (m : (ℓ : Loc Cert.KernelUpVIdeal.nD Cert.KernelUpVIdeal.τ Cert.KernelUpVIdeal.sig) → Buf (Elt Ideal) ℓ) (g : Dev Cert.KernelUpVIdeal.nD → PrngReg), Pre_KernelUpVIdeal m →
    θ_run (Cert.KernelUpVIdeal.defs (F := Ideal)) (onTc (τ := Cert.KernelUpVIdeal.τ) (Cert.KernelUpVIdeal.main (F := Ideal))) ⟨m, fun _ => 0, g⟩ (fun r => (∀ c : Dev Cert.KernelUpVIdeal.nD,
      r.2.mem ((c.tc : Thread Cert.KernelUpVIdeal.nD Cert.KernelUpVIdeal.τ).loc Cert.KernelUpVIdeal.main_arg0) = m ((c.tc : Thread Cert.KernelUpVIdeal.nD Cert.KernelUpVIdeal.τ).loc Cert.KernelUpVIdeal.main_arg0)
      ∧ r.2.mem ((c.tc : Thread Cert.KernelUpVIdeal.nD Cert.KernelUpVIdeal.τ).loc Cert.KernelUpVIdeal.main_arg1) = m ((c.tc : Thread Cert.KernelUpVIdeal.nD Cert.KernelUpVIdeal.τ).loc Cert.KernelUpVIdeal.main_arg1))
      ∧ r.2.sem = fun _ => 0)

def quiescent_ReferenceUpVIdeal [hReferenceUpVIdeal : Cert.ReferenceUpVIdeal.Facts] : Prop :=
  ∀ (m : (ℓ : Loc Cert.ReferenceUpVIdeal.nD Cert.ReferenceUpVIdeal.τ Cert.ReferenceUpVIdeal.sig) → Buf (Elt Ideal) ℓ) (g : Dev Cert.ReferenceUpVIdeal.nD → PrngReg), Pre_ReferenceUpVIdeal m →
    θ_run (Cert.ReferenceUpVIdeal.defs (F := Ideal)) (onTc (τ := Cert.ReferenceUpVIdeal.τ) (Cert.ReferenceUpVIdeal.main (F := Ideal))) ⟨m, fun _ => 0, g⟩ (fun r => (∀ c : Dev Cert.ReferenceUpVIdeal.nD,
      r.2.mem ((c.tc : Thread Cert.ReferenceUpVIdeal.nD Cert.ReferenceUpVIdeal.τ).loc Cert.ReferenceUpVIdeal.main_arg0) = m ((c.tc : Thread Cert.ReferenceUpVIdeal.nD Cert.ReferenceUpVIdeal.τ).loc Cert.ReferenceUpVIdeal.main_arg0)
      ∧ r.2.mem ((c.tc : Thread Cert.ReferenceUpVIdeal.nD Cert.ReferenceUpVIdeal.τ).loc Cert.ReferenceUpVIdeal.main_arg1) = m ((c.tc : Thread Cert.ReferenceUpVIdeal.nD Cert.ReferenceUpVIdeal.τ).loc Cert.ReferenceUpVIdeal.main_arg1))
      ∧ r.2.sem = fun _ => 0)

def quiescent_KernelDownF [hKernelDownF : Cert.KernelDownF.Facts] : Prop :=
  ∀ (m : (ℓ : Loc Cert.KernelDownF.nD Cert.KernelDownF.τ Cert.KernelDownF.sig) → Buf (Elt Bits) ℓ) (g : Dev Cert.KernelDownF.nD → PrngReg), Pre_KernelDownF m →
    θ_run (Cert.KernelDownF.defs (F := Bits)) (onTc (τ := Cert.KernelDownF.τ) (Cert.KernelDownF.main (F := Bits))) ⟨m, fun _ => 0, g⟩ (fun r => (∀ c : Dev Cert.KernelDownF.nD,
      r.2.mem ((c.tc : Thread Cert.KernelDownF.nD Cert.KernelDownF.τ).loc Cert.KernelDownF.main_arg0) = m ((c.tc : Thread Cert.KernelDownF.nD Cert.KernelDownF.τ).loc Cert.KernelDownF.main_arg0)
      ∧ r.2.mem ((c.tc : Thread Cert.KernelDownF.nD Cert.KernelDownF.τ).loc Cert.KernelDownF.main_arg1) = m ((c.tc : Thread Cert.KernelDownF.nD Cert.KernelDownF.τ).loc Cert.KernelDownF.main_arg1)
      ∧ r.2.mem ((c.tc : Thread Cert.KernelDownF.nD Cert.KernelDownF.τ).loc Cert.KernelDownF.main_arg2) = m ((c.tc : Thread Cert.KernelDownF.nD Cert.KernelDownF.τ).loc Cert.KernelDownF.main_arg2))
      ∧ r.2.sem = fun _ => 0)

def quiescent_KernelDownFIdeal [hKernelDownFIdeal : Cert.KernelDownFIdeal.Facts] : Prop :=
  ∀ (m : (ℓ : Loc Cert.KernelDownFIdeal.nD Cert.KernelDownFIdeal.τ Cert.KernelDownFIdeal.sig) → Buf (Elt Ideal) ℓ) (g : Dev Cert.KernelDownFIdeal.nD → PrngReg), Pre_KernelDownFIdeal m →
    θ_run (Cert.KernelDownFIdeal.defs (F := Ideal)) (onTc (τ := Cert.KernelDownFIdeal.τ) (Cert.KernelDownFIdeal.main (F := Ideal))) ⟨m, fun _ => 0, g⟩ (fun r => (∀ c : Dev Cert.KernelDownFIdeal.nD,
      r.2.mem ((c.tc : Thread Cert.KernelDownFIdeal.nD Cert.KernelDownFIdeal.τ).loc Cert.KernelDownFIdeal.main_arg0) = m ((c.tc : Thread Cert.KernelDownFIdeal.nD Cert.KernelDownFIdeal.τ).loc Cert.KernelDownFIdeal.main_arg0)
      ∧ r.2.mem ((c.tc : Thread Cert.KernelDownFIdeal.nD Cert.KernelDownFIdeal.τ).loc Cert.KernelDownFIdeal.main_arg1) = m ((c.tc : Thread Cert.KernelDownFIdeal.nD Cert.KernelDownFIdeal.τ).loc Cert.KernelDownFIdeal.main_arg1)
      ∧ r.2.mem ((c.tc : Thread Cert.KernelDownFIdeal.nD Cert.KernelDownFIdeal.τ).loc Cert.KernelDownFIdeal.main_arg2) = m ((c.tc : Thread Cert.KernelDownFIdeal.nD Cert.KernelDownFIdeal.τ).loc Cert.KernelDownFIdeal.main_arg2))
      ∧ r.2.sem = fun _ => 0)

def quiescent_ReferenceDownFIdeal [hReferenceDownFIdeal : Cert.ReferenceDownFIdeal.Facts] : Prop :=
  ∀ (m : (ℓ : Loc Cert.ReferenceDownFIdeal.nD Cert.ReferenceDownFIdeal.τ Cert.ReferenceDownFIdeal.sig) → Buf (Elt Ideal) ℓ) (g : Dev Cert.ReferenceDownFIdeal.nD → PrngReg), Pre_ReferenceDownFIdeal m →
    θ_run (Cert.ReferenceDownFIdeal.defs (F := Ideal)) (onTc (τ := Cert.ReferenceDownFIdeal.τ) (Cert.ReferenceDownFIdeal.main (F := Ideal))) ⟨m, fun _ => 0, g⟩ (fun r => (∀ c : Dev Cert.ReferenceDownFIdeal.nD,
      r.2.mem ((c.tc : Thread Cert.ReferenceDownFIdeal.nD Cert.ReferenceDownFIdeal.τ).loc Cert.ReferenceDownFIdeal.main_arg0) = m ((c.tc : Thread Cert.ReferenceDownFIdeal.nD Cert.ReferenceDownFIdeal.τ).loc Cert.ReferenceDownFIdeal.main_arg0)
      ∧ r.2.mem ((c.tc : Thread Cert.ReferenceDownFIdeal.nD Cert.ReferenceDownFIdeal.τ).loc Cert.ReferenceDownFIdeal.main_arg1) = m ((c.tc : Thread Cert.ReferenceDownFIdeal.nD Cert.ReferenceDownFIdeal.τ).loc Cert.ReferenceDownFIdeal.main_arg1)
      ∧ r.2.mem ((c.tc : Thread Cert.ReferenceDownFIdeal.nD Cert.ReferenceDownFIdeal.τ).loc Cert.ReferenceDownFIdeal.main_arg2) = m ((c.tc : Thread Cert.ReferenceDownFIdeal.nD Cert.ReferenceDownFIdeal.τ).loc Cert.ReferenceDownFIdeal.main_arg2))
      ∧ r.2.sem = fun _ => 0)

def quiescent_KernelNormQkv [hKernelNormQkv : Cert.KernelNormQkv.Facts] : Prop :=
  ∀ (m : (ℓ : Loc Cert.KernelNormQkv.nD Cert.KernelNormQkv.τ Cert.KernelNormQkv.sig) → Buf (Elt Bits) ℓ) (g : Dev Cert.KernelNormQkv.nD → PrngReg), Pre_KernelNormQkv m →
    θ_run (Cert.KernelNormQkv.defs (F := Bits)) (onTc (τ := Cert.KernelNormQkv.τ) (Cert.KernelNormQkv.main (F := Bits))) ⟨m, fun _ => 0, g⟩ (fun r => (∀ c : Dev Cert.KernelNormQkv.nD,
      r.2.mem ((c.tc : Thread Cert.KernelNormQkv.nD Cert.KernelNormQkv.τ).loc Cert.KernelNormQkv.main_arg0) = m ((c.tc : Thread Cert.KernelNormQkv.nD Cert.KernelNormQkv.τ).loc Cert.KernelNormQkv.main_arg0)
      ∧ r.2.mem ((c.tc : Thread Cert.KernelNormQkv.nD Cert.KernelNormQkv.τ).loc Cert.KernelNormQkv.main_arg1) = m ((c.tc : Thread Cert.KernelNormQkv.nD Cert.KernelNormQkv.τ).loc Cert.KernelNormQkv.main_arg1)
      ∧ r.2.mem ((c.tc : Thread Cert.KernelNormQkv.nD Cert.KernelNormQkv.τ).loc Cert.KernelNormQkv.main_arg2) = m ((c.tc : Thread Cert.KernelNormQkv.nD Cert.KernelNormQkv.τ).loc Cert.KernelNormQkv.main_arg2))
      ∧ r.2.sem = fun _ => 0)

def quiescent_KernelNormQkvIdeal [hKernelNormQkvIdeal : Cert.KernelNormQkvIdeal.Facts] : Prop :=
  ∀ (m : (ℓ : Loc Cert.KernelNormQkvIdeal.nD Cert.KernelNormQkvIdeal.τ Cert.KernelNormQkvIdeal.sig) → Buf (Elt Ideal) ℓ) (g : Dev Cert.KernelNormQkvIdeal.nD → PrngReg), Pre_KernelNormQkvIdeal m →
    θ_run (Cert.KernelNormQkvIdeal.defs (F := Ideal)) (onTc (τ := Cert.KernelNormQkvIdeal.τ) (Cert.KernelNormQkvIdeal.main (F := Ideal))) ⟨m, fun _ => 0, g⟩ (fun r => (∀ c : Dev Cert.KernelNormQkvIdeal.nD,
      r.2.mem ((c.tc : Thread Cert.KernelNormQkvIdeal.nD Cert.KernelNormQkvIdeal.τ).loc Cert.KernelNormQkvIdeal.main_arg0) = m ((c.tc : Thread Cert.KernelNormQkvIdeal.nD Cert.KernelNormQkvIdeal.τ).loc Cert.KernelNormQkvIdeal.main_arg0)
      ∧ r.2.mem ((c.tc : Thread Cert.KernelNormQkvIdeal.nD Cert.KernelNormQkvIdeal.τ).loc Cert.KernelNormQkvIdeal.main_arg1) = m ((c.tc : Thread Cert.KernelNormQkvIdeal.nD Cert.KernelNormQkvIdeal.τ).loc Cert.KernelNormQkvIdeal.main_arg1)
      ∧ r.2.mem ((c.tc : Thread Cert.KernelNormQkvIdeal.nD Cert.KernelNormQkvIdeal.τ).loc Cert.KernelNormQkvIdeal.main_arg2) = m ((c.tc : Thread Cert.KernelNormQkvIdeal.nD Cert.KernelNormQkvIdeal.τ).loc Cert.KernelNormQkvIdeal.main_arg2))
      ∧ r.2.sem = fun _ => 0)

def quiescent_ReferenceNormQkvIdeal [hReferenceNormQkvIdeal : Cert.ReferenceNormQkvIdeal.Facts] : Prop :=
  ∀ (m : (ℓ : Loc Cert.ReferenceNormQkvIdeal.nD Cert.ReferenceNormQkvIdeal.τ Cert.ReferenceNormQkvIdeal.sig) → Buf (Elt Ideal) ℓ) (g : Dev Cert.ReferenceNormQkvIdeal.nD → PrngReg), Pre_ReferenceNormQkvIdeal m →
    θ_run (Cert.ReferenceNormQkvIdeal.defs (F := Ideal)) (onTc (τ := Cert.ReferenceNormQkvIdeal.τ) (Cert.ReferenceNormQkvIdeal.main (F := Ideal))) ⟨m, fun _ => 0, g⟩ (fun r => (∀ c : Dev Cert.ReferenceNormQkvIdeal.nD,
      r.2.mem ((c.tc : Thread Cert.ReferenceNormQkvIdeal.nD Cert.ReferenceNormQkvIdeal.τ).loc Cert.ReferenceNormQkvIdeal.main_arg0) = m ((c.tc : Thread Cert.ReferenceNormQkvIdeal.nD Cert.ReferenceNormQkvIdeal.τ).loc Cert.ReferenceNormQkvIdeal.main_arg0)
      ∧ r.2.mem ((c.tc : Thread Cert.ReferenceNormQkvIdeal.nD Cert.ReferenceNormQkvIdeal.τ).loc Cert.ReferenceNormQkvIdeal.main_arg1) = m ((c.tc : Thread Cert.ReferenceNormQkvIdeal.nD Cert.ReferenceNormQkvIdeal.τ).loc Cert.ReferenceNormQkvIdeal.main_arg1)
      ∧ r.2.mem ((c.tc : Thread Cert.ReferenceNormQkvIdeal.nD Cert.ReferenceNormQkvIdeal.τ).loc Cert.ReferenceNormQkvIdeal.main_arg2) = m ((c.tc : Thread Cert.ReferenceNormQkvIdeal.nD Cert.ReferenceNormQkvIdeal.τ).loc Cert.ReferenceNormQkvIdeal.main_arg2))
      ∧ r.2.sem = fun _ => 0)

def quiescent_KernelQkvW [hKernelQkvW : Cert.KernelQkvW.Facts] : Prop :=
  ∀ (m : (ℓ : Loc Cert.KernelQkvW.nD Cert.KernelQkvW.τ Cert.KernelQkvW.sig) → Buf (Elt Bits) ℓ) (g : Dev Cert.KernelQkvW.nD → PrngReg), Pre_KernelQkvW m →
    θ_run (Cert.KernelQkvW.defs (F := Bits)) (onTc (τ := Cert.KernelQkvW.τ) (Cert.KernelQkvW.main (F := Bits))) ⟨m, fun _ => 0, g⟩ (fun r => (∀ c : Dev Cert.KernelQkvW.nD,
      r.2.mem ((c.tc : Thread Cert.KernelQkvW.nD Cert.KernelQkvW.τ).loc Cert.KernelQkvW.main_arg0) = m ((c.tc : Thread Cert.KernelQkvW.nD Cert.KernelQkvW.τ).loc Cert.KernelQkvW.main_arg0)
      ∧ r.2.mem ((c.tc : Thread Cert.KernelQkvW.nD Cert.KernelQkvW.τ).loc Cert.KernelQkvW.main_arg1) = m ((c.tc : Thread Cert.KernelQkvW.nD Cert.KernelQkvW.τ).loc Cert.KernelQkvW.main_arg1))
      ∧ r.2.sem = fun _ => 0)

def quiescent_KernelQkvWIdeal [hKernelQkvWIdeal : Cert.KernelQkvWIdeal.Facts] : Prop :=
  ∀ (m : (ℓ : Loc Cert.KernelQkvWIdeal.nD Cert.KernelQkvWIdeal.τ Cert.KernelQkvWIdeal.sig) → Buf (Elt Ideal) ℓ) (g : Dev Cert.KernelQkvWIdeal.nD → PrngReg), Pre_KernelQkvWIdeal m →
    θ_run (Cert.KernelQkvWIdeal.defs (F := Ideal)) (onTc (τ := Cert.KernelQkvWIdeal.τ) (Cert.KernelQkvWIdeal.main (F := Ideal))) ⟨m, fun _ => 0, g⟩ (fun r => (∀ c : Dev Cert.KernelQkvWIdeal.nD,
      r.2.mem ((c.tc : Thread Cert.KernelQkvWIdeal.nD Cert.KernelQkvWIdeal.τ).loc Cert.KernelQkvWIdeal.main_arg0) = m ((c.tc : Thread Cert.KernelQkvWIdeal.nD Cert.KernelQkvWIdeal.τ).loc Cert.KernelQkvWIdeal.main_arg0)
      ∧ r.2.mem ((c.tc : Thread Cert.KernelQkvWIdeal.nD Cert.KernelQkvWIdeal.τ).loc Cert.KernelQkvWIdeal.main_arg1) = m ((c.tc : Thread Cert.KernelQkvWIdeal.nD Cert.KernelQkvWIdeal.τ).loc Cert.KernelQkvWIdeal.main_arg1))
      ∧ r.2.sem = fun _ => 0)

def quiescent_ReferenceQkvWIdeal [hReferenceQkvWIdeal : Cert.ReferenceQkvWIdeal.Facts] : Prop :=
  ∀ (m : (ℓ : Loc Cert.ReferenceQkvWIdeal.nD Cert.ReferenceQkvWIdeal.τ Cert.ReferenceQkvWIdeal.sig) → Buf (Elt Ideal) ℓ) (g : Dev Cert.ReferenceQkvWIdeal.nD → PrngReg), Pre_ReferenceQkvWIdeal m →
    θ_run (Cert.ReferenceQkvWIdeal.defs (F := Ideal)) (onTc (τ := Cert.ReferenceQkvWIdeal.τ) (Cert.ReferenceQkvWIdeal.main (F := Ideal))) ⟨m, fun _ => 0, g⟩ (fun r => (∀ c : Dev Cert.ReferenceQkvWIdeal.nD,
      r.2.mem ((c.tc : Thread Cert.ReferenceQkvWIdeal.nD Cert.ReferenceQkvWIdeal.τ).loc Cert.ReferenceQkvWIdeal.main_arg0) = m ((c.tc : Thread Cert.ReferenceQkvWIdeal.nD Cert.ReferenceQkvWIdeal.τ).loc Cert.ReferenceQkvWIdeal.main_arg0)
      ∧ r.2.mem ((c.tc : Thread Cert.ReferenceQkvWIdeal.nD Cert.ReferenceQkvWIdeal.τ).loc Cert.ReferenceQkvWIdeal.main_arg1) = m ((c.tc : Thread Cert.ReferenceQkvWIdeal.nD Cert.ReferenceQkvWIdeal.τ).loc Cert.ReferenceQkvWIdeal.main_arg1))
      ∧ r.2.sem = fun _ => 0)

def quiescent_KernelQkvD [hKernelQkvD : Cert.KernelQkvD.Facts] : Prop :=
  ∀ (m : (ℓ : Loc Cert.KernelQkvD.nD Cert.KernelQkvD.τ Cert.KernelQkvD.sig) → Buf (Elt Bits) ℓ) (g : Dev Cert.KernelQkvD.nD → PrngReg), Pre_KernelQkvD m →
    θ_run (Cert.KernelQkvD.defs (F := Bits)) (onTc (τ := Cert.KernelQkvD.τ) (Cert.KernelQkvD.main (F := Bits))) ⟨m, fun _ => 0, g⟩ (fun r => (∀ c : Dev Cert.KernelQkvD.nD,
      r.2.mem ((c.tc : Thread Cert.KernelQkvD.nD Cert.KernelQkvD.τ).loc Cert.KernelQkvD.main_arg0) = m ((c.tc : Thread Cert.KernelQkvD.nD Cert.KernelQkvD.τ).loc Cert.KernelQkvD.main_arg0)
      ∧ r.2.mem ((c.tc : Thread Cert.KernelQkvD.nD Cert.KernelQkvD.τ).loc Cert.KernelQkvD.main_arg1) = m ((c.tc : Thread Cert.KernelQkvD.nD Cert.KernelQkvD.τ).loc Cert.KernelQkvD.main_arg1)
      ∧ r.2.mem ((c.tc : Thread Cert.KernelQkvD.nD Cert.KernelQkvD.τ).loc Cert.KernelQkvD.main_arg2) = m ((c.tc : Thread Cert.KernelQkvD.nD Cert.KernelQkvD.τ).loc Cert.KernelQkvD.main_arg2)
      ∧ r.2.mem ((c.tc : Thread Cert.KernelQkvD.nD Cert.KernelQkvD.τ).loc Cert.KernelQkvD.main_arg3) = m ((c.tc : Thread Cert.KernelQkvD.nD Cert.KernelQkvD.τ).loc Cert.KernelQkvD.main_arg3)
      ∧ r.2.mem ((c.tc : Thread Cert.KernelQkvD.nD Cert.KernelQkvD.τ).loc Cert.KernelQkvD.main_arg4) = m ((c.tc : Thread Cert.KernelQkvD.nD Cert.KernelQkvD.τ).loc Cert.KernelQkvD.main_arg4))
      ∧ r.2.sem = fun _ => 0)

def quiescent_KernelQkvDIdeal [hKernelQkvDIdeal : Cert.KernelQkvDIdeal.Facts] : Prop :=
  ∀ (m : (ℓ : Loc Cert.KernelQkvDIdeal.nD Cert.KernelQkvDIdeal.τ Cert.KernelQkvDIdeal.sig) → Buf (Elt Ideal) ℓ) (g : Dev Cert.KernelQkvDIdeal.nD → PrngReg), Pre_KernelQkvDIdeal m →
    θ_run (Cert.KernelQkvDIdeal.defs (F := Ideal)) (onTc (τ := Cert.KernelQkvDIdeal.τ) (Cert.KernelQkvDIdeal.main (F := Ideal))) ⟨m, fun _ => 0, g⟩ (fun r => (∀ c : Dev Cert.KernelQkvDIdeal.nD,
      r.2.mem ((c.tc : Thread Cert.KernelQkvDIdeal.nD Cert.KernelQkvDIdeal.τ).loc Cert.KernelQkvDIdeal.main_arg0) = m ((c.tc : Thread Cert.KernelQkvDIdeal.nD Cert.KernelQkvDIdeal.τ).loc Cert.KernelQkvDIdeal.main_arg0)
      ∧ r.2.mem ((c.tc : Thread Cert.KernelQkvDIdeal.nD Cert.KernelQkvDIdeal.τ).loc Cert.KernelQkvDIdeal.main_arg1) = m ((c.tc : Thread Cert.KernelQkvDIdeal.nD Cert.KernelQkvDIdeal.τ).loc Cert.KernelQkvDIdeal.main_arg1)
      ∧ r.2.mem ((c.tc : Thread Cert.KernelQkvDIdeal.nD Cert.KernelQkvDIdeal.τ).loc Cert.KernelQkvDIdeal.main_arg2) = m ((c.tc : Thread Cert.KernelQkvDIdeal.nD Cert.KernelQkvDIdeal.τ).loc Cert.KernelQkvDIdeal.main_arg2)
      ∧ r.2.mem ((c.tc : Thread Cert.KernelQkvDIdeal.nD Cert.KernelQkvDIdeal.τ).loc Cert.KernelQkvDIdeal.main_arg3) = m ((c.tc : Thread Cert.KernelQkvDIdeal.nD Cert.KernelQkvDIdeal.τ).loc Cert.KernelQkvDIdeal.main_arg3)
      ∧ r.2.mem ((c.tc : Thread Cert.KernelQkvDIdeal.nD Cert.KernelQkvDIdeal.τ).loc Cert.KernelQkvDIdeal.main_arg4) = m ((c.tc : Thread Cert.KernelQkvDIdeal.nD Cert.KernelQkvDIdeal.τ).loc Cert.KernelQkvDIdeal.main_arg4))
      ∧ r.2.sem = fun _ => 0)

def quiescent_ReferenceQkvDIdeal [hReferenceQkvDIdeal : Cert.ReferenceQkvDIdeal.Facts] : Prop :=
  ∀ (m : (ℓ : Loc Cert.ReferenceQkvDIdeal.nD Cert.ReferenceQkvDIdeal.τ Cert.ReferenceQkvDIdeal.sig) → Buf (Elt Ideal) ℓ) (g : Dev Cert.ReferenceQkvDIdeal.nD → PrngReg), Pre_ReferenceQkvDIdeal m →
    θ_run (Cert.ReferenceQkvDIdeal.defs (F := Ideal)) (onTc (τ := Cert.ReferenceQkvDIdeal.τ) (Cert.ReferenceQkvDIdeal.main (F := Ideal))) ⟨m, fun _ => 0, g⟩ (fun r => (∀ c : Dev Cert.ReferenceQkvDIdeal.nD,
      r.2.mem ((c.tc : Thread Cert.ReferenceQkvDIdeal.nD Cert.ReferenceQkvDIdeal.τ).loc Cert.ReferenceQkvDIdeal.main_arg0) = m ((c.tc : Thread Cert.ReferenceQkvDIdeal.nD Cert.ReferenceQkvDIdeal.τ).loc Cert.ReferenceQkvDIdeal.main_arg0)
      ∧ r.2.mem ((c.tc : Thread Cert.ReferenceQkvDIdeal.nD Cert.ReferenceQkvDIdeal.τ).loc Cert.ReferenceQkvDIdeal.main_arg1) = m ((c.tc : Thread Cert.ReferenceQkvDIdeal.nD Cert.ReferenceQkvDIdeal.τ).loc Cert.ReferenceQkvDIdeal.main_arg1)
      ∧ r.2.mem ((c.tc : Thread Cert.ReferenceQkvDIdeal.nD Cert.ReferenceQkvDIdeal.τ).loc Cert.ReferenceQkvDIdeal.main_arg2) = m ((c.tc : Thread Cert.ReferenceQkvDIdeal.nD Cert.ReferenceQkvDIdeal.τ).loc Cert.ReferenceQkvDIdeal.main_arg2)
      ∧ r.2.mem ((c.tc : Thread Cert.ReferenceQkvDIdeal.nD Cert.ReferenceQkvDIdeal.τ).loc Cert.ReferenceQkvDIdeal.main_arg3) = m ((c.tc : Thread Cert.ReferenceQkvDIdeal.nD Cert.ReferenceQkvDIdeal.τ).loc Cert.ReferenceQkvDIdeal.main_arg3)
      ∧ r.2.mem ((c.tc : Thread Cert.ReferenceQkvDIdeal.nD Cert.ReferenceQkvDIdeal.τ).loc Cert.ReferenceQkvDIdeal.main_arg4) = m ((c.tc : Thread Cert.ReferenceQkvDIdeal.nD Cert.ReferenceQkvDIdeal.τ).loc Cert.ReferenceQkvDIdeal.main_arg4))
      ∧ r.2.sem = fun _ => 0)

def quiescent_KernelNormRnn [hKernelNormRnn : Cert.KernelNormRnn.Facts] : Prop :=
  ∀ (m : (ℓ : Loc Cert.KernelNormRnn.nD Cert.KernelNormRnn.τ Cert.KernelNormRnn.sig) → Buf (Elt Bits) ℓ) (g : Dev Cert.KernelNormRnn.nD → PrngReg), Pre_KernelNormRnn m →
    θ_run (Cert.KernelNormRnn.defs (F := Bits)) (onTc (τ := Cert.KernelNormRnn.τ) (Cert.KernelNormRnn.main (F := Bits))) ⟨m, fun _ => 0, g⟩ (fun r => (∀ c : Dev Cert.KernelNormRnn.nD,
      r.2.mem ((c.tc : Thread Cert.KernelNormRnn.nD Cert.KernelNormRnn.τ).loc Cert.KernelNormRnn.main_arg0) = m ((c.tc : Thread Cert.KernelNormRnn.nD Cert.KernelNormRnn.τ).loc Cert.KernelNormRnn.main_arg0)
      ∧ r.2.mem ((c.tc : Thread Cert.KernelNormRnn.nD Cert.KernelNormRnn.τ).loc Cert.KernelNormRnn.main_arg1) = m ((c.tc : Thread Cert.KernelNormRnn.nD Cert.KernelNormRnn.τ).loc Cert.KernelNormRnn.main_arg1)
      ∧ r.2.mem ((c.tc : Thread Cert.KernelNormRnn.nD Cert.KernelNormRnn.τ).loc Cert.KernelNormRnn.main_arg2) = m ((c.tc : Thread Cert.KernelNormRnn.nD Cert.KernelNormRnn.τ).loc Cert.KernelNormRnn.main_arg2))
      ∧ r.2.sem = fun _ => 0)

def quiescent_KernelNormRnnIdeal [hKernelNormRnnIdeal : Cert.KernelNormRnnIdeal.Facts] : Prop :=
  ∀ (m : (ℓ : Loc Cert.KernelNormRnnIdeal.nD Cert.KernelNormRnnIdeal.τ Cert.KernelNormRnnIdeal.sig) → Buf (Elt Ideal) ℓ) (g : Dev Cert.KernelNormRnnIdeal.nD → PrngReg), Pre_KernelNormRnnIdeal m →
    θ_run (Cert.KernelNormRnnIdeal.defs (F := Ideal)) (onTc (τ := Cert.KernelNormRnnIdeal.τ) (Cert.KernelNormRnnIdeal.main (F := Ideal))) ⟨m, fun _ => 0, g⟩ (fun r => (∀ c : Dev Cert.KernelNormRnnIdeal.nD,
      r.2.mem ((c.tc : Thread Cert.KernelNormRnnIdeal.nD Cert.KernelNormRnnIdeal.τ).loc Cert.KernelNormRnnIdeal.main_arg0) = m ((c.tc : Thread Cert.KernelNormRnnIdeal.nD Cert.KernelNormRnnIdeal.τ).loc Cert.KernelNormRnnIdeal.main_arg0)
      ∧ r.2.mem ((c.tc : Thread Cert.KernelNormRnnIdeal.nD Cert.KernelNormRnnIdeal.τ).loc Cert.KernelNormRnnIdeal.main_arg1) = m ((c.tc : Thread Cert.KernelNormRnnIdeal.nD Cert.KernelNormRnnIdeal.τ).loc Cert.KernelNormRnnIdeal.main_arg1)
      ∧ r.2.mem ((c.tc : Thread Cert.KernelNormRnnIdeal.nD Cert.KernelNormRnnIdeal.τ).loc Cert.KernelNormRnnIdeal.main_arg2) = m ((c.tc : Thread Cert.KernelNormRnnIdeal.nD Cert.KernelNormRnnIdeal.τ).loc Cert.KernelNormRnnIdeal.main_arg2))
      ∧ r.2.sem = fun _ => 0)

def quiescent_ReferenceNormRnnIdeal [hReferenceNormRnnIdeal : Cert.ReferenceNormRnnIdeal.Facts] : Prop :=
  ∀ (m : (ℓ : Loc Cert.ReferenceNormRnnIdeal.nD Cert.ReferenceNormRnnIdeal.τ Cert.ReferenceNormRnnIdeal.sig) → Buf (Elt Ideal) ℓ) (g : Dev Cert.ReferenceNormRnnIdeal.nD → PrngReg), Pre_ReferenceNormRnnIdeal m →
    θ_run (Cert.ReferenceNormRnnIdeal.defs (F := Ideal)) (onTc (τ := Cert.ReferenceNormRnnIdeal.τ) (Cert.ReferenceNormRnnIdeal.main (F := Ideal))) ⟨m, fun _ => 0, g⟩ (fun r => (∀ c : Dev Cert.ReferenceNormRnnIdeal.nD,
      r.2.mem ((c.tc : Thread Cert.ReferenceNormRnnIdeal.nD Cert.ReferenceNormRnnIdeal.τ).loc Cert.ReferenceNormRnnIdeal.main_arg0) = m ((c.tc : Thread Cert.ReferenceNormRnnIdeal.nD Cert.ReferenceNormRnnIdeal.τ).loc Cert.ReferenceNormRnnIdeal.main_arg0)
      ∧ r.2.mem ((c.tc : Thread Cert.ReferenceNormRnnIdeal.nD Cert.ReferenceNormRnnIdeal.τ).loc Cert.ReferenceNormRnnIdeal.main_arg1) = m ((c.tc : Thread Cert.ReferenceNormRnnIdeal.nD Cert.ReferenceNormRnnIdeal.τ).loc Cert.ReferenceNormRnnIdeal.main_arg1)
      ∧ r.2.mem ((c.tc : Thread Cert.ReferenceNormRnnIdeal.nD Cert.ReferenceNormRnnIdeal.τ).loc Cert.ReferenceNormRnnIdeal.main_arg2) = m ((c.tc : Thread Cert.ReferenceNormRnnIdeal.nD Cert.ReferenceNormRnnIdeal.τ).loc Cert.ReferenceNormRnnIdeal.main_arg2))
      ∧ r.2.sem = fun _ => 0)

def quiescent_KernelRecF [hKernelRecF : Cert.KernelRecF.Facts] : Prop :=
  ∀ (m : (ℓ : Loc Cert.KernelRecF.nD Cert.KernelRecF.τ Cert.KernelRecF.sig) → Buf (Elt Bits) ℓ) (g : Dev Cert.KernelRecF.nD → PrngReg), Pre_KernelRecF m →
    θ_run (Cert.KernelRecF.defs (F := Bits)) (onTc (τ := Cert.KernelRecF.τ) (Cert.KernelRecF.main (F := Bits))) ⟨m, fun _ => 0, g⟩ (fun r => (∀ c : Dev Cert.KernelRecF.nD,
      r.2.mem ((c.tc : Thread Cert.KernelRecF.nD Cert.KernelRecF.τ).loc Cert.KernelRecF.main_arg0) = m ((c.tc : Thread Cert.KernelRecF.nD Cert.KernelRecF.τ).loc Cert.KernelRecF.main_arg0)
      ∧ r.2.mem ((c.tc : Thread Cert.KernelRecF.nD Cert.KernelRecF.τ).loc Cert.KernelRecF.main_arg1) = m ((c.tc : Thread Cert.KernelRecF.nD Cert.KernelRecF.τ).loc Cert.KernelRecF.main_arg1))
      ∧ r.2.sem = fun _ => 0)

def quiescent_KernelRecFIdeal [hKernelRecFIdeal : Cert.KernelRecFIdeal.Facts] : Prop :=
  ∀ (m : (ℓ : Loc Cert.KernelRecFIdeal.nD Cert.KernelRecFIdeal.τ Cert.KernelRecFIdeal.sig) → Buf (Elt Ideal) ℓ) (g : Dev Cert.KernelRecFIdeal.nD → PrngReg), Pre_KernelRecFIdeal m →
    θ_run (Cert.KernelRecFIdeal.defs (F := Ideal)) (onTc (τ := Cert.KernelRecFIdeal.τ) (Cert.KernelRecFIdeal.main (F := Ideal))) ⟨m, fun _ => 0, g⟩ (fun r => (∀ c : Dev Cert.KernelRecFIdeal.nD,
      r.2.mem ((c.tc : Thread Cert.KernelRecFIdeal.nD Cert.KernelRecFIdeal.τ).loc Cert.KernelRecFIdeal.main_arg0) = m ((c.tc : Thread Cert.KernelRecFIdeal.nD Cert.KernelRecFIdeal.τ).loc Cert.KernelRecFIdeal.main_arg0)
      ∧ r.2.mem ((c.tc : Thread Cert.KernelRecFIdeal.nD Cert.KernelRecFIdeal.τ).loc Cert.KernelRecFIdeal.main_arg1) = m ((c.tc : Thread Cert.KernelRecFIdeal.nD Cert.KernelRecFIdeal.τ).loc Cert.KernelRecFIdeal.main_arg1))
      ∧ r.2.sem = fun _ => 0)

def quiescent_ReferenceRecFIdeal [hReferenceRecFIdeal : Cert.ReferenceRecFIdeal.Facts] : Prop :=
  ∀ (m : (ℓ : Loc Cert.ReferenceRecFIdeal.nD Cert.ReferenceRecFIdeal.τ Cert.ReferenceRecFIdeal.sig) → Buf (Elt Ideal) ℓ) (g : Dev Cert.ReferenceRecFIdeal.nD → PrngReg), Pre_ReferenceRecFIdeal m →
    θ_run (Cert.ReferenceRecFIdeal.defs (F := Ideal)) (onTc (τ := Cert.ReferenceRecFIdeal.τ) (Cert.ReferenceRecFIdeal.main (F := Ideal))) ⟨m, fun _ => 0, g⟩ (fun r => (∀ c : Dev Cert.ReferenceRecFIdeal.nD,
      r.2.mem ((c.tc : Thread Cert.ReferenceRecFIdeal.nD Cert.ReferenceRecFIdeal.τ).loc Cert.ReferenceRecFIdeal.main_arg0) = m ((c.tc : Thread Cert.ReferenceRecFIdeal.nD Cert.ReferenceRecFIdeal.τ).loc Cert.ReferenceRecFIdeal.main_arg0)
      ∧ r.2.mem ((c.tc : Thread Cert.ReferenceRecFIdeal.nD Cert.ReferenceRecFIdeal.τ).loc Cert.ReferenceRecFIdeal.main_arg1) = m ((c.tc : Thread Cert.ReferenceRecFIdeal.nD Cert.ReferenceRecFIdeal.τ).loc Cert.ReferenceRecFIdeal.main_arg1))
      ∧ r.2.sem = fun _ => 0)

def quiescent_KernelRnnInW [hKernelRnnInW : Cert.KernelRnnInW.Facts] : Prop :=
  ∀ (m : (ℓ : Loc Cert.KernelRnnInW.nD Cert.KernelRnnInW.τ Cert.KernelRnnInW.sig) → Buf (Elt Bits) ℓ) (g : Dev Cert.KernelRnnInW.nD → PrngReg), Pre_KernelRnnInW m →
    θ_run (Cert.KernelRnnInW.defs (F := Bits)) (onTc (τ := Cert.KernelRnnInW.τ) (Cert.KernelRnnInW.main (F := Bits))) ⟨m, fun _ => 0, g⟩ (fun r => (∀ c : Dev Cert.KernelRnnInW.nD,
      r.2.mem ((c.tc : Thread Cert.KernelRnnInW.nD Cert.KernelRnnInW.τ).loc Cert.KernelRnnInW.main_arg0) = m ((c.tc : Thread Cert.KernelRnnInW.nD Cert.KernelRnnInW.τ).loc Cert.KernelRnnInW.main_arg0)
      ∧ r.2.mem ((c.tc : Thread Cert.KernelRnnInW.nD Cert.KernelRnnInW.τ).loc Cert.KernelRnnInW.main_arg1) = m ((c.tc : Thread Cert.KernelRnnInW.nD Cert.KernelRnnInW.τ).loc Cert.KernelRnnInW.main_arg1))
      ∧ r.2.sem = fun _ => 0)

def quiescent_KernelRnnInWIdeal [hKernelRnnInWIdeal : Cert.KernelRnnInWIdeal.Facts] : Prop :=
  ∀ (m : (ℓ : Loc Cert.KernelRnnInWIdeal.nD Cert.KernelRnnInWIdeal.τ Cert.KernelRnnInWIdeal.sig) → Buf (Elt Ideal) ℓ) (g : Dev Cert.KernelRnnInWIdeal.nD → PrngReg), Pre_KernelRnnInWIdeal m →
    θ_run (Cert.KernelRnnInWIdeal.defs (F := Ideal)) (onTc (τ := Cert.KernelRnnInWIdeal.τ) (Cert.KernelRnnInWIdeal.main (F := Ideal))) ⟨m, fun _ => 0, g⟩ (fun r => (∀ c : Dev Cert.KernelRnnInWIdeal.nD,
      r.2.mem ((c.tc : Thread Cert.KernelRnnInWIdeal.nD Cert.KernelRnnInWIdeal.τ).loc Cert.KernelRnnInWIdeal.main_arg0) = m ((c.tc : Thread Cert.KernelRnnInWIdeal.nD Cert.KernelRnnInWIdeal.τ).loc Cert.KernelRnnInWIdeal.main_arg0)
      ∧ r.2.mem ((c.tc : Thread Cert.KernelRnnInWIdeal.nD Cert.KernelRnnInWIdeal.τ).loc Cert.KernelRnnInWIdeal.main_arg1) = m ((c.tc : Thread Cert.KernelRnnInWIdeal.nD Cert.KernelRnnInWIdeal.τ).loc Cert.KernelRnnInWIdeal.main_arg1))
      ∧ r.2.sem = fun _ => 0)

def quiescent_ReferenceRnnInWIdeal [hReferenceRnnInWIdeal : Cert.ReferenceRnnInWIdeal.Facts] : Prop :=
  ∀ (m : (ℓ : Loc Cert.ReferenceRnnInWIdeal.nD Cert.ReferenceRnnInWIdeal.τ Cert.ReferenceRnnInWIdeal.sig) → Buf (Elt Ideal) ℓ) (g : Dev Cert.ReferenceRnnInWIdeal.nD → PrngReg), Pre_ReferenceRnnInWIdeal m →
    θ_run (Cert.ReferenceRnnInWIdeal.defs (F := Ideal)) (onTc (τ := Cert.ReferenceRnnInWIdeal.τ) (Cert.ReferenceRnnInWIdeal.main (F := Ideal))) ⟨m, fun _ => 0, g⟩ (fun r => (∀ c : Dev Cert.ReferenceRnnInWIdeal.nD,
      r.2.mem ((c.tc : Thread Cert.ReferenceRnnInWIdeal.nD Cert.ReferenceRnnInWIdeal.τ).loc Cert.ReferenceRnnInWIdeal.main_arg0) = m ((c.tc : Thread Cert.ReferenceRnnInWIdeal.nD Cert.ReferenceRnnInWIdeal.τ).loc Cert.ReferenceRnnInWIdeal.main_arg0)
      ∧ r.2.mem ((c.tc : Thread Cert.ReferenceRnnInWIdeal.nD Cert.ReferenceRnnInWIdeal.τ).loc Cert.ReferenceRnnInWIdeal.main_arg1) = m ((c.tc : Thread Cert.ReferenceRnnInWIdeal.nD Cert.ReferenceRnnInWIdeal.τ).loc Cert.ReferenceRnnInWIdeal.main_arg1))
      ∧ r.2.sem = fun _ => 0)

def quiescent_KernelRnnInD [hKernelRnnInD : Cert.KernelRnnInD.Facts] : Prop :=
  ∀ (m : (ℓ : Loc Cert.KernelRnnInD.nD Cert.KernelRnnInD.τ Cert.KernelRnnInD.sig) → Buf (Elt Bits) ℓ) (g : Dev Cert.KernelRnnInD.nD → PrngReg), Pre_KernelRnnInD m →
    θ_run (Cert.KernelRnnInD.defs (F := Bits)) (onTc (τ := Cert.KernelRnnInD.τ) (Cert.KernelRnnInD.main (F := Bits))) ⟨m, fun _ => 0, g⟩ (fun r => (∀ c : Dev Cert.KernelRnnInD.nD,
      r.2.mem ((c.tc : Thread Cert.KernelRnnInD.nD Cert.KernelRnnInD.τ).loc Cert.KernelRnnInD.main_arg0) = m ((c.tc : Thread Cert.KernelRnnInD.nD Cert.KernelRnnInD.τ).loc Cert.KernelRnnInD.main_arg0)
      ∧ r.2.mem ((c.tc : Thread Cert.KernelRnnInD.nD Cert.KernelRnnInD.τ).loc Cert.KernelRnnInD.main_arg1) = m ((c.tc : Thread Cert.KernelRnnInD.nD Cert.KernelRnnInD.τ).loc Cert.KernelRnnInD.main_arg1)
      ∧ r.2.mem ((c.tc : Thread Cert.KernelRnnInD.nD Cert.KernelRnnInD.τ).loc Cert.KernelRnnInD.main_arg2) = m ((c.tc : Thread Cert.KernelRnnInD.nD Cert.KernelRnnInD.τ).loc Cert.KernelRnnInD.main_arg2)
      ∧ r.2.mem ((c.tc : Thread Cert.KernelRnnInD.nD Cert.KernelRnnInD.τ).loc Cert.KernelRnnInD.main_arg3) = m ((c.tc : Thread Cert.KernelRnnInD.nD Cert.KernelRnnInD.τ).loc Cert.KernelRnnInD.main_arg3)
      ∧ r.2.mem ((c.tc : Thread Cert.KernelRnnInD.nD Cert.KernelRnnInD.τ).loc Cert.KernelRnnInD.main_arg4) = m ((c.tc : Thread Cert.KernelRnnInD.nD Cert.KernelRnnInD.τ).loc Cert.KernelRnnInD.main_arg4)
      ∧ r.2.mem ((c.tc : Thread Cert.KernelRnnInD.nD Cert.KernelRnnInD.τ).loc Cert.KernelRnnInD.main_arg5) = m ((c.tc : Thread Cert.KernelRnnInD.nD Cert.KernelRnnInD.τ).loc Cert.KernelRnnInD.main_arg5))
      ∧ r.2.sem = fun _ => 0)

def quiescent_KernelRnnInDIdeal [hKernelRnnInDIdeal : Cert.KernelRnnInDIdeal.Facts] : Prop :=
  ∀ (m : (ℓ : Loc Cert.KernelRnnInDIdeal.nD Cert.KernelRnnInDIdeal.τ Cert.KernelRnnInDIdeal.sig) → Buf (Elt Ideal) ℓ) (g : Dev Cert.KernelRnnInDIdeal.nD → PrngReg), Pre_KernelRnnInDIdeal m →
    θ_run (Cert.KernelRnnInDIdeal.defs (F := Ideal)) (onTc (τ := Cert.KernelRnnInDIdeal.τ) (Cert.KernelRnnInDIdeal.main (F := Ideal))) ⟨m, fun _ => 0, g⟩ (fun r => (∀ c : Dev Cert.KernelRnnInDIdeal.nD,
      r.2.mem ((c.tc : Thread Cert.KernelRnnInDIdeal.nD Cert.KernelRnnInDIdeal.τ).loc Cert.KernelRnnInDIdeal.main_arg0) = m ((c.tc : Thread Cert.KernelRnnInDIdeal.nD Cert.KernelRnnInDIdeal.τ).loc Cert.KernelRnnInDIdeal.main_arg0)
      ∧ r.2.mem ((c.tc : Thread Cert.KernelRnnInDIdeal.nD Cert.KernelRnnInDIdeal.τ).loc Cert.KernelRnnInDIdeal.main_arg1) = m ((c.tc : Thread Cert.KernelRnnInDIdeal.nD Cert.KernelRnnInDIdeal.τ).loc Cert.KernelRnnInDIdeal.main_arg1)
      ∧ r.2.mem ((c.tc : Thread Cert.KernelRnnInDIdeal.nD Cert.KernelRnnInDIdeal.τ).loc Cert.KernelRnnInDIdeal.main_arg2) = m ((c.tc : Thread Cert.KernelRnnInDIdeal.nD Cert.KernelRnnInDIdeal.τ).loc Cert.KernelRnnInDIdeal.main_arg2)
      ∧ r.2.mem ((c.tc : Thread Cert.KernelRnnInDIdeal.nD Cert.KernelRnnInDIdeal.τ).loc Cert.KernelRnnInDIdeal.main_arg3) = m ((c.tc : Thread Cert.KernelRnnInDIdeal.nD Cert.KernelRnnInDIdeal.τ).loc Cert.KernelRnnInDIdeal.main_arg3)
      ∧ r.2.mem ((c.tc : Thread Cert.KernelRnnInDIdeal.nD Cert.KernelRnnInDIdeal.τ).loc Cert.KernelRnnInDIdeal.main_arg4) = m ((c.tc : Thread Cert.KernelRnnInDIdeal.nD Cert.KernelRnnInDIdeal.τ).loc Cert.KernelRnnInDIdeal.main_arg4)
      ∧ r.2.mem ((c.tc : Thread Cert.KernelRnnInDIdeal.nD Cert.KernelRnnInDIdeal.τ).loc Cert.KernelRnnInDIdeal.main_arg5) = m ((c.tc : Thread Cert.KernelRnnInDIdeal.nD Cert.KernelRnnInDIdeal.τ).loc Cert.KernelRnnInDIdeal.main_arg5))
      ∧ r.2.sem = fun _ => 0)

def quiescent_ReferenceRnnInDIdeal [hReferenceRnnInDIdeal : Cert.ReferenceRnnInDIdeal.Facts] : Prop :=
  ∀ (m : (ℓ : Loc Cert.ReferenceRnnInDIdeal.nD Cert.ReferenceRnnInDIdeal.τ Cert.ReferenceRnnInDIdeal.sig) → Buf (Elt Ideal) ℓ) (g : Dev Cert.ReferenceRnnInDIdeal.nD → PrngReg), Pre_ReferenceRnnInDIdeal m →
    θ_run (Cert.ReferenceRnnInDIdeal.defs (F := Ideal)) (onTc (τ := Cert.ReferenceRnnInDIdeal.τ) (Cert.ReferenceRnnInDIdeal.main (F := Ideal))) ⟨m, fun _ => 0, g⟩ (fun r => (∀ c : Dev Cert.ReferenceRnnInDIdeal.nD,
      r.2.mem ((c.tc : Thread Cert.ReferenceRnnInDIdeal.nD Cert.ReferenceRnnInDIdeal.τ).loc Cert.ReferenceRnnInDIdeal.main_arg0) = m ((c.tc : Thread Cert.ReferenceRnnInDIdeal.nD Cert.ReferenceRnnInDIdeal.τ).loc Cert.ReferenceRnnInDIdeal.main_arg0)
      ∧ r.2.mem ((c.tc : Thread Cert.ReferenceRnnInDIdeal.nD Cert.ReferenceRnnInDIdeal.τ).loc Cert.ReferenceRnnInDIdeal.main_arg1) = m ((c.tc : Thread Cert.ReferenceRnnInDIdeal.nD Cert.ReferenceRnnInDIdeal.τ).loc Cert.ReferenceRnnInDIdeal.main_arg1)
      ∧ r.2.mem ((c.tc : Thread Cert.ReferenceRnnInDIdeal.nD Cert.ReferenceRnnInDIdeal.τ).loc Cert.ReferenceRnnInDIdeal.main_arg2) = m ((c.tc : Thread Cert.ReferenceRnnInDIdeal.nD Cert.ReferenceRnnInDIdeal.τ).loc Cert.ReferenceRnnInDIdeal.main_arg2)
      ∧ r.2.mem ((c.tc : Thread Cert.ReferenceRnnInDIdeal.nD Cert.ReferenceRnnInDIdeal.τ).loc Cert.ReferenceRnnInDIdeal.main_arg3) = m ((c.tc : Thread Cert.ReferenceRnnInDIdeal.nD Cert.ReferenceRnnInDIdeal.τ).loc Cert.ReferenceRnnInDIdeal.main_arg3)
      ∧ r.2.mem ((c.tc : Thread Cert.ReferenceRnnInDIdeal.nD Cert.ReferenceRnnInDIdeal.τ).loc Cert.ReferenceRnnInDIdeal.main_arg4) = m ((c.tc : Thread Cert.ReferenceRnnInDIdeal.nD Cert.ReferenceRnnInDIdeal.τ).loc Cert.ReferenceRnnInDIdeal.main_arg4)
      ∧ r.2.mem ((c.tc : Thread Cert.ReferenceRnnInDIdeal.nD Cert.ReferenceRnnInDIdeal.τ).loc Cert.ReferenceRnnInDIdeal.main_arg5) = m ((c.tc : Thread Cert.ReferenceRnnInDIdeal.nD Cert.ReferenceRnnInDIdeal.τ).loc Cert.ReferenceRnnInDIdeal.main_arg5))
      ∧ r.2.sem = fun _ => 0)

def quiescent_KernelNormPle [hKernelNormPle : Cert.KernelNormPle.Facts] : Prop :=
  ∀ (m : (ℓ : Loc Cert.KernelNormPle.nD Cert.KernelNormPle.τ Cert.KernelNormPle.sig) → Buf (Elt Bits) ℓ) (g : Dev Cert.KernelNormPle.nD → PrngReg), Pre_KernelNormPle m →
    θ_run (Cert.KernelNormPle.defs (F := Bits)) (onTc (τ := Cert.KernelNormPle.τ) (Cert.KernelNormPle.main (F := Bits))) ⟨m, fun _ => 0, g⟩ (fun r => (∀ c : Dev Cert.KernelNormPle.nD,
      r.2.mem ((c.tc : Thread Cert.KernelNormPle.nD Cert.KernelNormPle.τ).loc Cert.KernelNormPle.main_arg0) = m ((c.tc : Thread Cert.KernelNormPle.nD Cert.KernelNormPle.τ).loc Cert.KernelNormPle.main_arg0)
      ∧ r.2.mem ((c.tc : Thread Cert.KernelNormPle.nD Cert.KernelNormPle.τ).loc Cert.KernelNormPle.main_arg1) = m ((c.tc : Thread Cert.KernelNormPle.nD Cert.KernelNormPle.τ).loc Cert.KernelNormPle.main_arg1)
      ∧ r.2.mem ((c.tc : Thread Cert.KernelNormPle.nD Cert.KernelNormPle.τ).loc Cert.KernelNormPle.main_arg2) = m ((c.tc : Thread Cert.KernelNormPle.nD Cert.KernelNormPle.τ).loc Cert.KernelNormPle.main_arg2))
      ∧ r.2.sem = fun _ => 0)

def quiescent_KernelNormPleIdeal [hKernelNormPleIdeal : Cert.KernelNormPleIdeal.Facts] : Prop :=
  ∀ (m : (ℓ : Loc Cert.KernelNormPleIdeal.nD Cert.KernelNormPleIdeal.τ Cert.KernelNormPleIdeal.sig) → Buf (Elt Ideal) ℓ) (g : Dev Cert.KernelNormPleIdeal.nD → PrngReg), Pre_KernelNormPleIdeal m →
    θ_run (Cert.KernelNormPleIdeal.defs (F := Ideal)) (onTc (τ := Cert.KernelNormPleIdeal.τ) (Cert.KernelNormPleIdeal.main (F := Ideal))) ⟨m, fun _ => 0, g⟩ (fun r => (∀ c : Dev Cert.KernelNormPleIdeal.nD,
      r.2.mem ((c.tc : Thread Cert.KernelNormPleIdeal.nD Cert.KernelNormPleIdeal.τ).loc Cert.KernelNormPleIdeal.main_arg0) = m ((c.tc : Thread Cert.KernelNormPleIdeal.nD Cert.KernelNormPleIdeal.τ).loc Cert.KernelNormPleIdeal.main_arg0)
      ∧ r.2.mem ((c.tc : Thread Cert.KernelNormPleIdeal.nD Cert.KernelNormPleIdeal.τ).loc Cert.KernelNormPleIdeal.main_arg1) = m ((c.tc : Thread Cert.KernelNormPleIdeal.nD Cert.KernelNormPleIdeal.τ).loc Cert.KernelNormPleIdeal.main_arg1)
      ∧ r.2.mem ((c.tc : Thread Cert.KernelNormPleIdeal.nD Cert.KernelNormPleIdeal.τ).loc Cert.KernelNormPleIdeal.main_arg2) = m ((c.tc : Thread Cert.KernelNormPleIdeal.nD Cert.KernelNormPleIdeal.τ).loc Cert.KernelNormPleIdeal.main_arg2))
      ∧ r.2.sem = fun _ => 0)

def quiescent_ReferenceNormPleIdeal [hReferenceNormPleIdeal : Cert.ReferenceNormPleIdeal.Facts] : Prop :=
  ∀ (m : (ℓ : Loc Cert.ReferenceNormPleIdeal.nD Cert.ReferenceNormPleIdeal.τ Cert.ReferenceNormPleIdeal.sig) → Buf (Elt Ideal) ℓ) (g : Dev Cert.ReferenceNormPleIdeal.nD → PrngReg), Pre_ReferenceNormPleIdeal m →
    θ_run (Cert.ReferenceNormPleIdeal.defs (F := Ideal)) (onTc (τ := Cert.ReferenceNormPleIdeal.τ) (Cert.ReferenceNormPleIdeal.main (F := Ideal))) ⟨m, fun _ => 0, g⟩ (fun r => (∀ c : Dev Cert.ReferenceNormPleIdeal.nD,
      r.2.mem ((c.tc : Thread Cert.ReferenceNormPleIdeal.nD Cert.ReferenceNormPleIdeal.τ).loc Cert.ReferenceNormPleIdeal.main_arg0) = m ((c.tc : Thread Cert.ReferenceNormPleIdeal.nD Cert.ReferenceNormPleIdeal.τ).loc Cert.ReferenceNormPleIdeal.main_arg0)
      ∧ r.2.mem ((c.tc : Thread Cert.ReferenceNormPleIdeal.nD Cert.ReferenceNormPleIdeal.τ).loc Cert.ReferenceNormPleIdeal.main_arg1) = m ((c.tc : Thread Cert.ReferenceNormPleIdeal.nD Cert.ReferenceNormPleIdeal.τ).loc Cert.ReferenceNormPleIdeal.main_arg1)
      ∧ r.2.mem ((c.tc : Thread Cert.ReferenceNormPleIdeal.nD Cert.ReferenceNormPleIdeal.τ).loc Cert.ReferenceNormPleIdeal.main_arg2) = m ((c.tc : Thread Cert.ReferenceNormPleIdeal.nD Cert.ReferenceNormPleIdeal.τ).loc Cert.ReferenceNormPleIdeal.main_arg2))
      ∧ r.2.sem = fun _ => 0)

def quiescent_KernelPleGateW [hKernelPleGateW : Cert.KernelPleGateW.Facts] : Prop :=
  ∀ (m : (ℓ : Loc Cert.KernelPleGateW.nD Cert.KernelPleGateW.τ Cert.KernelPleGateW.sig) → Buf (Elt Bits) ℓ) (g : Dev Cert.KernelPleGateW.nD → PrngReg), Pre_KernelPleGateW m →
    θ_run (Cert.KernelPleGateW.defs (F := Bits)) (onTc (τ := Cert.KernelPleGateW.τ) (Cert.KernelPleGateW.main (F := Bits))) ⟨m, fun _ => 0, g⟩ (fun r => (∀ c : Dev Cert.KernelPleGateW.nD,
      r.2.mem ((c.tc : Thread Cert.KernelPleGateW.nD Cert.KernelPleGateW.τ).loc Cert.KernelPleGateW.main_arg0) = m ((c.tc : Thread Cert.KernelPleGateW.nD Cert.KernelPleGateW.τ).loc Cert.KernelPleGateW.main_arg0)
      ∧ r.2.mem ((c.tc : Thread Cert.KernelPleGateW.nD Cert.KernelPleGateW.τ).loc Cert.KernelPleGateW.main_arg1) = m ((c.tc : Thread Cert.KernelPleGateW.nD Cert.KernelPleGateW.τ).loc Cert.KernelPleGateW.main_arg1))
      ∧ r.2.sem = fun _ => 0)

def quiescent_KernelPleGateWIdeal [hKernelPleGateWIdeal : Cert.KernelPleGateWIdeal.Facts] : Prop :=
  ∀ (m : (ℓ : Loc Cert.KernelPleGateWIdeal.nD Cert.KernelPleGateWIdeal.τ Cert.KernelPleGateWIdeal.sig) → Buf (Elt Ideal) ℓ) (g : Dev Cert.KernelPleGateWIdeal.nD → PrngReg), Pre_KernelPleGateWIdeal m →
    θ_run (Cert.KernelPleGateWIdeal.defs (F := Ideal)) (onTc (τ := Cert.KernelPleGateWIdeal.τ) (Cert.KernelPleGateWIdeal.main (F := Ideal))) ⟨m, fun _ => 0, g⟩ (fun r => (∀ c : Dev Cert.KernelPleGateWIdeal.nD,
      r.2.mem ((c.tc : Thread Cert.KernelPleGateWIdeal.nD Cert.KernelPleGateWIdeal.τ).loc Cert.KernelPleGateWIdeal.main_arg0) = m ((c.tc : Thread Cert.KernelPleGateWIdeal.nD Cert.KernelPleGateWIdeal.τ).loc Cert.KernelPleGateWIdeal.main_arg0)
      ∧ r.2.mem ((c.tc : Thread Cert.KernelPleGateWIdeal.nD Cert.KernelPleGateWIdeal.τ).loc Cert.KernelPleGateWIdeal.main_arg1) = m ((c.tc : Thread Cert.KernelPleGateWIdeal.nD Cert.KernelPleGateWIdeal.τ).loc Cert.KernelPleGateWIdeal.main_arg1))
      ∧ r.2.sem = fun _ => 0)

def quiescent_ReferencePleGateWIdeal [hReferencePleGateWIdeal : Cert.ReferencePleGateWIdeal.Facts] : Prop :=
  ∀ (m : (ℓ : Loc Cert.ReferencePleGateWIdeal.nD Cert.ReferencePleGateWIdeal.τ Cert.ReferencePleGateWIdeal.sig) → Buf (Elt Ideal) ℓ) (g : Dev Cert.ReferencePleGateWIdeal.nD → PrngReg), Pre_ReferencePleGateWIdeal m →
    θ_run (Cert.ReferencePleGateWIdeal.defs (F := Ideal)) (onTc (τ := Cert.ReferencePleGateWIdeal.τ) (Cert.ReferencePleGateWIdeal.main (F := Ideal))) ⟨m, fun _ => 0, g⟩ (fun r => (∀ c : Dev Cert.ReferencePleGateWIdeal.nD,
      r.2.mem ((c.tc : Thread Cert.ReferencePleGateWIdeal.nD Cert.ReferencePleGateWIdeal.τ).loc Cert.ReferencePleGateWIdeal.main_arg0) = m ((c.tc : Thread Cert.ReferencePleGateWIdeal.nD Cert.ReferencePleGateWIdeal.τ).loc Cert.ReferencePleGateWIdeal.main_arg0)
      ∧ r.2.mem ((c.tc : Thread Cert.ReferencePleGateWIdeal.nD Cert.ReferencePleGateWIdeal.τ).loc Cert.ReferencePleGateWIdeal.main_arg1) = m ((c.tc : Thread Cert.ReferencePleGateWIdeal.nD Cert.ReferencePleGateWIdeal.τ).loc Cert.ReferencePleGateWIdeal.main_arg1))
      ∧ r.2.sem = fun _ => 0)

def quiescent_KernelPleGateD [hKernelPleGateD : Cert.KernelPleGateD.Facts] : Prop :=
  ∀ (m : (ℓ : Loc Cert.KernelPleGateD.nD Cert.KernelPleGateD.τ Cert.KernelPleGateD.sig) → Buf (Elt Bits) ℓ) (g : Dev Cert.KernelPleGateD.nD → PrngReg), Pre_KernelPleGateD m →
    θ_run (Cert.KernelPleGateD.defs (F := Bits)) (onTc (τ := Cert.KernelPleGateD.τ) (Cert.KernelPleGateD.main (F := Bits))) ⟨m, fun _ => 0, g⟩ (fun r => (∀ c : Dev Cert.KernelPleGateD.nD,
      r.2.mem ((c.tc : Thread Cert.KernelPleGateD.nD Cert.KernelPleGateD.τ).loc Cert.KernelPleGateD.main_arg0) = m ((c.tc : Thread Cert.KernelPleGateD.nD Cert.KernelPleGateD.τ).loc Cert.KernelPleGateD.main_arg0)
      ∧ r.2.mem ((c.tc : Thread Cert.KernelPleGateD.nD Cert.KernelPleGateD.τ).loc Cert.KernelPleGateD.main_arg1) = m ((c.tc : Thread Cert.KernelPleGateD.nD Cert.KernelPleGateD.τ).loc Cert.KernelPleGateD.main_arg1)
      ∧ r.2.mem ((c.tc : Thread Cert.KernelPleGateD.nD Cert.KernelPleGateD.τ).loc Cert.KernelPleGateD.main_arg2) = m ((c.tc : Thread Cert.KernelPleGateD.nD Cert.KernelPleGateD.τ).loc Cert.KernelPleGateD.main_arg2)
      ∧ r.2.mem ((c.tc : Thread Cert.KernelPleGateD.nD Cert.KernelPleGateD.τ).loc Cert.KernelPleGateD.main_arg3) = m ((c.tc : Thread Cert.KernelPleGateD.nD Cert.KernelPleGateD.τ).loc Cert.KernelPleGateD.main_arg3)
      ∧ r.2.mem ((c.tc : Thread Cert.KernelPleGateD.nD Cert.KernelPleGateD.τ).loc Cert.KernelPleGateD.main_arg4) = m ((c.tc : Thread Cert.KernelPleGateD.nD Cert.KernelPleGateD.τ).loc Cert.KernelPleGateD.main_arg4))
      ∧ r.2.sem = fun _ => 0)

def quiescent_KernelPleGateDIdeal [hKernelPleGateDIdeal : Cert.KernelPleGateDIdeal.Facts] : Prop :=
  ∀ (m : (ℓ : Loc Cert.KernelPleGateDIdeal.nD Cert.KernelPleGateDIdeal.τ Cert.KernelPleGateDIdeal.sig) → Buf (Elt Ideal) ℓ) (g : Dev Cert.KernelPleGateDIdeal.nD → PrngReg), Pre_KernelPleGateDIdeal m →
    θ_run (Cert.KernelPleGateDIdeal.defs (F := Ideal)) (onTc (τ := Cert.KernelPleGateDIdeal.τ) (Cert.KernelPleGateDIdeal.main (F := Ideal))) ⟨m, fun _ => 0, g⟩ (fun r => (∀ c : Dev Cert.KernelPleGateDIdeal.nD,
      r.2.mem ((c.tc : Thread Cert.KernelPleGateDIdeal.nD Cert.KernelPleGateDIdeal.τ).loc Cert.KernelPleGateDIdeal.main_arg0) = m ((c.tc : Thread Cert.KernelPleGateDIdeal.nD Cert.KernelPleGateDIdeal.τ).loc Cert.KernelPleGateDIdeal.main_arg0)
      ∧ r.2.mem ((c.tc : Thread Cert.KernelPleGateDIdeal.nD Cert.KernelPleGateDIdeal.τ).loc Cert.KernelPleGateDIdeal.main_arg1) = m ((c.tc : Thread Cert.KernelPleGateDIdeal.nD Cert.KernelPleGateDIdeal.τ).loc Cert.KernelPleGateDIdeal.main_arg1)
      ∧ r.2.mem ((c.tc : Thread Cert.KernelPleGateDIdeal.nD Cert.KernelPleGateDIdeal.τ).loc Cert.KernelPleGateDIdeal.main_arg2) = m ((c.tc : Thread Cert.KernelPleGateDIdeal.nD Cert.KernelPleGateDIdeal.τ).loc Cert.KernelPleGateDIdeal.main_arg2)
      ∧ r.2.mem ((c.tc : Thread Cert.KernelPleGateDIdeal.nD Cert.KernelPleGateDIdeal.τ).loc Cert.KernelPleGateDIdeal.main_arg3) = m ((c.tc : Thread Cert.KernelPleGateDIdeal.nD Cert.KernelPleGateDIdeal.τ).loc Cert.KernelPleGateDIdeal.main_arg3)
      ∧ r.2.mem ((c.tc : Thread Cert.KernelPleGateDIdeal.nD Cert.KernelPleGateDIdeal.τ).loc Cert.KernelPleGateDIdeal.main_arg4) = m ((c.tc : Thread Cert.KernelPleGateDIdeal.nD Cert.KernelPleGateDIdeal.τ).loc Cert.KernelPleGateDIdeal.main_arg4))
      ∧ r.2.sem = fun _ => 0)

def quiescent_ReferencePleGateDIdeal [hReferencePleGateDIdeal : Cert.ReferencePleGateDIdeal.Facts] : Prop :=
  ∀ (m : (ℓ : Loc Cert.ReferencePleGateDIdeal.nD Cert.ReferencePleGateDIdeal.τ Cert.ReferencePleGateDIdeal.sig) → Buf (Elt Ideal) ℓ) (g : Dev Cert.ReferencePleGateDIdeal.nD → PrngReg), Pre_ReferencePleGateDIdeal m →
    θ_run (Cert.ReferencePleGateDIdeal.defs (F := Ideal)) (onTc (τ := Cert.ReferencePleGateDIdeal.τ) (Cert.ReferencePleGateDIdeal.main (F := Ideal))) ⟨m, fun _ => 0, g⟩ (fun r => (∀ c : Dev Cert.ReferencePleGateDIdeal.nD,
      r.2.mem ((c.tc : Thread Cert.ReferencePleGateDIdeal.nD Cert.ReferencePleGateDIdeal.τ).loc Cert.ReferencePleGateDIdeal.main_arg0) = m ((c.tc : Thread Cert.ReferencePleGateDIdeal.nD Cert.ReferencePleGateDIdeal.τ).loc Cert.ReferencePleGateDIdeal.main_arg0)
      ∧ r.2.mem ((c.tc : Thread Cert.ReferencePleGateDIdeal.nD Cert.ReferencePleGateDIdeal.τ).loc Cert.ReferencePleGateDIdeal.main_arg1) = m ((c.tc : Thread Cert.ReferencePleGateDIdeal.nD Cert.ReferencePleGateDIdeal.τ).loc Cert.ReferencePleGateDIdeal.main_arg1)
      ∧ r.2.mem ((c.tc : Thread Cert.ReferencePleGateDIdeal.nD Cert.ReferencePleGateDIdeal.τ).loc Cert.ReferencePleGateDIdeal.main_arg2) = m ((c.tc : Thread Cert.ReferencePleGateDIdeal.nD Cert.ReferencePleGateDIdeal.τ).loc Cert.ReferencePleGateDIdeal.main_arg2)
      ∧ r.2.mem ((c.tc : Thread Cert.ReferencePleGateDIdeal.nD Cert.ReferencePleGateDIdeal.τ).loc Cert.ReferencePleGateDIdeal.main_arg3) = m ((c.tc : Thread Cert.ReferencePleGateDIdeal.nD Cert.ReferencePleGateDIdeal.τ).loc Cert.ReferencePleGateDIdeal.main_arg3)
      ∧ r.2.mem ((c.tc : Thread Cert.ReferencePleGateDIdeal.nD Cert.ReferencePleGateDIdeal.τ).loc Cert.ReferencePleGateDIdeal.main_arg4) = m ((c.tc : Thread Cert.ReferencePleGateDIdeal.nD Cert.ReferencePleGateDIdeal.τ).loc Cert.ReferencePleGateDIdeal.main_arg4))
      ∧ r.2.sem = fun _ => 0)

def quiescent_KernelRnnOutF [hKernelRnnOutF : Cert.KernelRnnOutF.Facts] : Prop :=
  ∀ (m : (ℓ : Loc Cert.KernelRnnOutF.nD Cert.KernelRnnOutF.τ Cert.KernelRnnOutF.sig) → Buf (Elt Bits) ℓ) (g : Dev Cert.KernelRnnOutF.nD → PrngReg), Pre_KernelRnnOutF m →
    θ_run (Cert.KernelRnnOutF.defs (F := Bits)) (onTc (τ := Cert.KernelRnnOutF.τ) (Cert.KernelRnnOutF.main (F := Bits))) ⟨m, fun _ => 0, g⟩ (fun r => (∀ c : Dev Cert.KernelRnnOutF.nD,
      r.2.mem ((c.tc : Thread Cert.KernelRnnOutF.nD Cert.KernelRnnOutF.τ).loc Cert.KernelRnnOutF.main_arg0) = m ((c.tc : Thread Cert.KernelRnnOutF.nD Cert.KernelRnnOutF.τ).loc Cert.KernelRnnOutF.main_arg0)
      ∧ r.2.mem ((c.tc : Thread Cert.KernelRnnOutF.nD Cert.KernelRnnOutF.τ).loc Cert.KernelRnnOutF.main_arg1) = m ((c.tc : Thread Cert.KernelRnnOutF.nD Cert.KernelRnnOutF.τ).loc Cert.KernelRnnOutF.main_arg1)
      ∧ r.2.mem ((c.tc : Thread Cert.KernelRnnOutF.nD Cert.KernelRnnOutF.τ).loc Cert.KernelRnnOutF.main_arg2) = m ((c.tc : Thread Cert.KernelRnnOutF.nD Cert.KernelRnnOutF.τ).loc Cert.KernelRnnOutF.main_arg2))
      ∧ r.2.sem = fun _ => 0)

def quiescent_KernelRnnOutFIdeal [hKernelRnnOutFIdeal : Cert.KernelRnnOutFIdeal.Facts] : Prop :=
  ∀ (m : (ℓ : Loc Cert.KernelRnnOutFIdeal.nD Cert.KernelRnnOutFIdeal.τ Cert.KernelRnnOutFIdeal.sig) → Buf (Elt Ideal) ℓ) (g : Dev Cert.KernelRnnOutFIdeal.nD → PrngReg), Pre_KernelRnnOutFIdeal m →
    θ_run (Cert.KernelRnnOutFIdeal.defs (F := Ideal)) (onTc (τ := Cert.KernelRnnOutFIdeal.τ) (Cert.KernelRnnOutFIdeal.main (F := Ideal))) ⟨m, fun _ => 0, g⟩ (fun r => (∀ c : Dev Cert.KernelRnnOutFIdeal.nD,
      r.2.mem ((c.tc : Thread Cert.KernelRnnOutFIdeal.nD Cert.KernelRnnOutFIdeal.τ).loc Cert.KernelRnnOutFIdeal.main_arg0) = m ((c.tc : Thread Cert.KernelRnnOutFIdeal.nD Cert.KernelRnnOutFIdeal.τ).loc Cert.KernelRnnOutFIdeal.main_arg0)
      ∧ r.2.mem ((c.tc : Thread Cert.KernelRnnOutFIdeal.nD Cert.KernelRnnOutFIdeal.τ).loc Cert.KernelRnnOutFIdeal.main_arg1) = m ((c.tc : Thread Cert.KernelRnnOutFIdeal.nD Cert.KernelRnnOutFIdeal.τ).loc Cert.KernelRnnOutFIdeal.main_arg1)
      ∧ r.2.mem ((c.tc : Thread Cert.KernelRnnOutFIdeal.nD Cert.KernelRnnOutFIdeal.τ).loc Cert.KernelRnnOutFIdeal.main_arg2) = m ((c.tc : Thread Cert.KernelRnnOutFIdeal.nD Cert.KernelRnnOutFIdeal.τ).loc Cert.KernelRnnOutFIdeal.main_arg2))
      ∧ r.2.sem = fun _ => 0)

def quiescent_ReferenceRnnOutFIdeal [hReferenceRnnOutFIdeal : Cert.ReferenceRnnOutFIdeal.Facts] : Prop :=
  ∀ (m : (ℓ : Loc Cert.ReferenceRnnOutFIdeal.nD Cert.ReferenceRnnOutFIdeal.τ Cert.ReferenceRnnOutFIdeal.sig) → Buf (Elt Ideal) ℓ) (g : Dev Cert.ReferenceRnnOutFIdeal.nD → PrngReg), Pre_ReferenceRnnOutFIdeal m →
    θ_run (Cert.ReferenceRnnOutFIdeal.defs (F := Ideal)) (onTc (τ := Cert.ReferenceRnnOutFIdeal.τ) (Cert.ReferenceRnnOutFIdeal.main (F := Ideal))) ⟨m, fun _ => 0, g⟩ (fun r => (∀ c : Dev Cert.ReferenceRnnOutFIdeal.nD,
      r.2.mem ((c.tc : Thread Cert.ReferenceRnnOutFIdeal.nD Cert.ReferenceRnnOutFIdeal.τ).loc Cert.ReferenceRnnOutFIdeal.main_arg0) = m ((c.tc : Thread Cert.ReferenceRnnOutFIdeal.nD Cert.ReferenceRnnOutFIdeal.τ).loc Cert.ReferenceRnnOutFIdeal.main_arg0)
      ∧ r.2.mem ((c.tc : Thread Cert.ReferenceRnnOutFIdeal.nD Cert.ReferenceRnnOutFIdeal.τ).loc Cert.ReferenceRnnOutFIdeal.main_arg1) = m ((c.tc : Thread Cert.ReferenceRnnOutFIdeal.nD Cert.ReferenceRnnOutFIdeal.τ).loc Cert.ReferenceRnnOutFIdeal.main_arg1)
      ∧ r.2.mem ((c.tc : Thread Cert.ReferenceRnnOutFIdeal.nD Cert.ReferenceRnnOutFIdeal.τ).loc Cert.ReferenceRnnOutFIdeal.main_arg2) = m ((c.tc : Thread Cert.ReferenceRnnOutFIdeal.nD Cert.ReferenceRnnOutFIdeal.τ).loc Cert.ReferenceRnnOutFIdeal.main_arg2))
      ∧ r.2.sem = fun _ => 0)

def quiescent_KernelRnnOutW [hKernelRnnOutW : Cert.KernelRnnOutW.Facts] : Prop :=
  ∀ (m : (ℓ : Loc Cert.KernelRnnOutW.nD Cert.KernelRnnOutW.τ Cert.KernelRnnOutW.sig) → Buf (Elt Bits) ℓ) (g : Dev Cert.KernelRnnOutW.nD → PrngReg), Pre_KernelRnnOutW m →
    θ_run (Cert.KernelRnnOutW.defs (F := Bits)) (onTc (τ := Cert.KernelRnnOutW.τ) (Cert.KernelRnnOutW.main (F := Bits))) ⟨m, fun _ => 0, g⟩ (fun r => (∀ c : Dev Cert.KernelRnnOutW.nD,
      r.2.mem ((c.tc : Thread Cert.KernelRnnOutW.nD Cert.KernelRnnOutW.τ).loc Cert.KernelRnnOutW.main_arg0) = m ((c.tc : Thread Cert.KernelRnnOutW.nD Cert.KernelRnnOutW.τ).loc Cert.KernelRnnOutW.main_arg0)
      ∧ r.2.mem ((c.tc : Thread Cert.KernelRnnOutW.nD Cert.KernelRnnOutW.τ).loc Cert.KernelRnnOutW.main_arg1) = m ((c.tc : Thread Cert.KernelRnnOutW.nD Cert.KernelRnnOutW.τ).loc Cert.KernelRnnOutW.main_arg1))
      ∧ r.2.sem = fun _ => 0)

def quiescent_KernelRnnOutWIdeal [hKernelRnnOutWIdeal : Cert.KernelRnnOutWIdeal.Facts] : Prop :=
  ∀ (m : (ℓ : Loc Cert.KernelRnnOutWIdeal.nD Cert.KernelRnnOutWIdeal.τ Cert.KernelRnnOutWIdeal.sig) → Buf (Elt Ideal) ℓ) (g : Dev Cert.KernelRnnOutWIdeal.nD → PrngReg), Pre_KernelRnnOutWIdeal m →
    θ_run (Cert.KernelRnnOutWIdeal.defs (F := Ideal)) (onTc (τ := Cert.KernelRnnOutWIdeal.τ) (Cert.KernelRnnOutWIdeal.main (F := Ideal))) ⟨m, fun _ => 0, g⟩ (fun r => (∀ c : Dev Cert.KernelRnnOutWIdeal.nD,
      r.2.mem ((c.tc : Thread Cert.KernelRnnOutWIdeal.nD Cert.KernelRnnOutWIdeal.τ).loc Cert.KernelRnnOutWIdeal.main_arg0) = m ((c.tc : Thread Cert.KernelRnnOutWIdeal.nD Cert.KernelRnnOutWIdeal.τ).loc Cert.KernelRnnOutWIdeal.main_arg0)
      ∧ r.2.mem ((c.tc : Thread Cert.KernelRnnOutWIdeal.nD Cert.KernelRnnOutWIdeal.τ).loc Cert.KernelRnnOutWIdeal.main_arg1) = m ((c.tc : Thread Cert.KernelRnnOutWIdeal.nD Cert.KernelRnnOutWIdeal.τ).loc Cert.KernelRnnOutWIdeal.main_arg1))
      ∧ r.2.sem = fun _ => 0)

def quiescent_ReferenceRnnOutWIdeal [hReferenceRnnOutWIdeal : Cert.ReferenceRnnOutWIdeal.Facts] : Prop :=
  ∀ (m : (ℓ : Loc Cert.ReferenceRnnOutWIdeal.nD Cert.ReferenceRnnOutWIdeal.τ Cert.ReferenceRnnOutWIdeal.sig) → Buf (Elt Ideal) ℓ) (g : Dev Cert.ReferenceRnnOutWIdeal.nD → PrngReg), Pre_ReferenceRnnOutWIdeal m →
    θ_run (Cert.ReferenceRnnOutWIdeal.defs (F := Ideal)) (onTc (τ := Cert.ReferenceRnnOutWIdeal.τ) (Cert.ReferenceRnnOutWIdeal.main (F := Ideal))) ⟨m, fun _ => 0, g⟩ (fun r => (∀ c : Dev Cert.ReferenceRnnOutWIdeal.nD,
      r.2.mem ((c.tc : Thread Cert.ReferenceRnnOutWIdeal.nD Cert.ReferenceRnnOutWIdeal.τ).loc Cert.ReferenceRnnOutWIdeal.main_arg0) = m ((c.tc : Thread Cert.ReferenceRnnOutWIdeal.nD Cert.ReferenceRnnOutWIdeal.τ).loc Cert.ReferenceRnnOutWIdeal.main_arg0)
      ∧ r.2.mem ((c.tc : Thread Cert.ReferenceRnnOutWIdeal.nD Cert.ReferenceRnnOutWIdeal.τ).loc Cert.ReferenceRnnOutWIdeal.main_arg1) = m ((c.tc : Thread Cert.ReferenceRnnOutWIdeal.nD Cert.ReferenceRnnOutWIdeal.τ).loc Cert.ReferenceRnnOutWIdeal.main_arg1))
      ∧ r.2.sem = fun _ => 0)

def quiescent_KernelRnnOutD [hKernelRnnOutD : Cert.KernelRnnOutD.Facts] : Prop :=
  ∀ (m : (ℓ : Loc Cert.KernelRnnOutD.nD Cert.KernelRnnOutD.τ Cert.KernelRnnOutD.sig) → Buf (Elt Bits) ℓ) (g : Dev Cert.KernelRnnOutD.nD → PrngReg), Pre_KernelRnnOutD m →
    θ_run (Cert.KernelRnnOutD.defs (F := Bits)) (onTc (τ := Cert.KernelRnnOutD.τ) (Cert.KernelRnnOutD.main (F := Bits))) ⟨m, fun _ => 0, g⟩ (fun r => (∀ c : Dev Cert.KernelRnnOutD.nD,
      r.2.mem ((c.tc : Thread Cert.KernelRnnOutD.nD Cert.KernelRnnOutD.τ).loc Cert.KernelRnnOutD.main_arg0) = m ((c.tc : Thread Cert.KernelRnnOutD.nD Cert.KernelRnnOutD.τ).loc Cert.KernelRnnOutD.main_arg0)
      ∧ r.2.mem ((c.tc : Thread Cert.KernelRnnOutD.nD Cert.KernelRnnOutD.τ).loc Cert.KernelRnnOutD.main_arg1) = m ((c.tc : Thread Cert.KernelRnnOutD.nD Cert.KernelRnnOutD.τ).loc Cert.KernelRnnOutD.main_arg1))
      ∧ r.2.sem = fun _ => 0)

def quiescent_KernelRnnOutDIdeal [hKernelRnnOutDIdeal : Cert.KernelRnnOutDIdeal.Facts] : Prop :=
  ∀ (m : (ℓ : Loc Cert.KernelRnnOutDIdeal.nD Cert.KernelRnnOutDIdeal.τ Cert.KernelRnnOutDIdeal.sig) → Buf (Elt Ideal) ℓ) (g : Dev Cert.KernelRnnOutDIdeal.nD → PrngReg), Pre_KernelRnnOutDIdeal m →
    θ_run (Cert.KernelRnnOutDIdeal.defs (F := Ideal)) (onTc (τ := Cert.KernelRnnOutDIdeal.τ) (Cert.KernelRnnOutDIdeal.main (F := Ideal))) ⟨m, fun _ => 0, g⟩ (fun r => (∀ c : Dev Cert.KernelRnnOutDIdeal.nD,
      r.2.mem ((c.tc : Thread Cert.KernelRnnOutDIdeal.nD Cert.KernelRnnOutDIdeal.τ).loc Cert.KernelRnnOutDIdeal.main_arg0) = m ((c.tc : Thread Cert.KernelRnnOutDIdeal.nD Cert.KernelRnnOutDIdeal.τ).loc Cert.KernelRnnOutDIdeal.main_arg0)
      ∧ r.2.mem ((c.tc : Thread Cert.KernelRnnOutDIdeal.nD Cert.KernelRnnOutDIdeal.τ).loc Cert.KernelRnnOutDIdeal.main_arg1) = m ((c.tc : Thread Cert.KernelRnnOutDIdeal.nD Cert.KernelRnnOutDIdeal.τ).loc Cert.KernelRnnOutDIdeal.main_arg1))
      ∧ r.2.sem = fun _ => 0)

def quiescent_ReferenceRnnOutDIdeal [hReferenceRnnOutDIdeal : Cert.ReferenceRnnOutDIdeal.Facts] : Prop :=
  ∀ (m : (ℓ : Loc Cert.ReferenceRnnOutDIdeal.nD Cert.ReferenceRnnOutDIdeal.τ Cert.ReferenceRnnOutDIdeal.sig) → Buf (Elt Ideal) ℓ) (g : Dev Cert.ReferenceRnnOutDIdeal.nD → PrngReg), Pre_ReferenceRnnOutDIdeal m →
    θ_run (Cert.ReferenceRnnOutDIdeal.defs (F := Ideal)) (onTc (τ := Cert.ReferenceRnnOutDIdeal.τ) (Cert.ReferenceRnnOutDIdeal.main (F := Ideal))) ⟨m, fun _ => 0, g⟩ (fun r => (∀ c : Dev Cert.ReferenceRnnOutDIdeal.nD,
      r.2.mem ((c.tc : Thread Cert.ReferenceRnnOutDIdeal.nD Cert.ReferenceRnnOutDIdeal.τ).loc Cert.ReferenceRnnOutDIdeal.main_arg0) = m ((c.tc : Thread Cert.ReferenceRnnOutDIdeal.nD Cert.ReferenceRnnOutDIdeal.τ).loc Cert.ReferenceRnnOutDIdeal.main_arg0)
      ∧ r.2.mem ((c.tc : Thread Cert.ReferenceRnnOutDIdeal.nD Cert.ReferenceRnnOutDIdeal.τ).loc Cert.ReferenceRnnOutDIdeal.main_arg1) = m ((c.tc : Thread Cert.ReferenceRnnOutDIdeal.nD Cert.ReferenceRnnOutDIdeal.τ).loc Cert.ReferenceRnnOutDIdeal.main_arg1))
      ∧ r.2.sem = fun _ => 0)

def quiescent_KernelOutF [hKernelOutF : Cert.KernelOutF.Facts] : Prop :=
  ∀ (m : (ℓ : Loc Cert.KernelOutF.nD Cert.KernelOutF.τ Cert.KernelOutF.sig) → Buf (Elt Bits) ℓ) (g : Dev Cert.KernelOutF.nD → PrngReg), Pre_KernelOutF m →
    θ_run (Cert.KernelOutF.defs (F := Bits)) (onTc (τ := Cert.KernelOutF.τ) (Cert.KernelOutF.main (F := Bits))) ⟨m, fun _ => 0, g⟩ (fun r => (∀ c : Dev Cert.KernelOutF.nD,
      r.2.mem ((c.tc : Thread Cert.KernelOutF.nD Cert.KernelOutF.τ).loc Cert.KernelOutF.main_arg0) = m ((c.tc : Thread Cert.KernelOutF.nD Cert.KernelOutF.τ).loc Cert.KernelOutF.main_arg0)
      ∧ r.2.mem ((c.tc : Thread Cert.KernelOutF.nD Cert.KernelOutF.τ).loc Cert.KernelOutF.main_arg1) = m ((c.tc : Thread Cert.KernelOutF.nD Cert.KernelOutF.τ).loc Cert.KernelOutF.main_arg1)
      ∧ r.2.mem ((c.tc : Thread Cert.KernelOutF.nD Cert.KernelOutF.τ).loc Cert.KernelOutF.main_arg2) = m ((c.tc : Thread Cert.KernelOutF.nD Cert.KernelOutF.τ).loc Cert.KernelOutF.main_arg2))
      ∧ r.2.sem = fun _ => 0)

def quiescent_KernelOutFIdeal [hKernelOutFIdeal : Cert.KernelOutFIdeal.Facts] : Prop :=
  ∀ (m : (ℓ : Loc Cert.KernelOutFIdeal.nD Cert.KernelOutFIdeal.τ Cert.KernelOutFIdeal.sig) → Buf (Elt Ideal) ℓ) (g : Dev Cert.KernelOutFIdeal.nD → PrngReg), Pre_KernelOutFIdeal m →
    θ_run (Cert.KernelOutFIdeal.defs (F := Ideal)) (onTc (τ := Cert.KernelOutFIdeal.τ) (Cert.KernelOutFIdeal.main (F := Ideal))) ⟨m, fun _ => 0, g⟩ (fun r => (∀ c : Dev Cert.KernelOutFIdeal.nD,
      r.2.mem ((c.tc : Thread Cert.KernelOutFIdeal.nD Cert.KernelOutFIdeal.τ).loc Cert.KernelOutFIdeal.main_arg0) = m ((c.tc : Thread Cert.KernelOutFIdeal.nD Cert.KernelOutFIdeal.τ).loc Cert.KernelOutFIdeal.main_arg0)
      ∧ r.2.mem ((c.tc : Thread Cert.KernelOutFIdeal.nD Cert.KernelOutFIdeal.τ).loc Cert.KernelOutFIdeal.main_arg1) = m ((c.tc : Thread Cert.KernelOutFIdeal.nD Cert.KernelOutFIdeal.τ).loc Cert.KernelOutFIdeal.main_arg1)
      ∧ r.2.mem ((c.tc : Thread Cert.KernelOutFIdeal.nD Cert.KernelOutFIdeal.τ).loc Cert.KernelOutFIdeal.main_arg2) = m ((c.tc : Thread Cert.KernelOutFIdeal.nD Cert.KernelOutFIdeal.τ).loc Cert.KernelOutFIdeal.main_arg2))
      ∧ r.2.sem = fun _ => 0)

def quiescent_ReferenceOutFIdeal [hReferenceOutFIdeal : Cert.ReferenceOutFIdeal.Facts] : Prop :=
  ∀ (m : (ℓ : Loc Cert.ReferenceOutFIdeal.nD Cert.ReferenceOutFIdeal.τ Cert.ReferenceOutFIdeal.sig) → Buf (Elt Ideal) ℓ) (g : Dev Cert.ReferenceOutFIdeal.nD → PrngReg), Pre_ReferenceOutFIdeal m →
    θ_run (Cert.ReferenceOutFIdeal.defs (F := Ideal)) (onTc (τ := Cert.ReferenceOutFIdeal.τ) (Cert.ReferenceOutFIdeal.main (F := Ideal))) ⟨m, fun _ => 0, g⟩ (fun r => (∀ c : Dev Cert.ReferenceOutFIdeal.nD,
      r.2.mem ((c.tc : Thread Cert.ReferenceOutFIdeal.nD Cert.ReferenceOutFIdeal.τ).loc Cert.ReferenceOutFIdeal.main_arg0) = m ((c.tc : Thread Cert.ReferenceOutFIdeal.nD Cert.ReferenceOutFIdeal.τ).loc Cert.ReferenceOutFIdeal.main_arg0)
      ∧ r.2.mem ((c.tc : Thread Cert.ReferenceOutFIdeal.nD Cert.ReferenceOutFIdeal.τ).loc Cert.ReferenceOutFIdeal.main_arg1) = m ((c.tc : Thread Cert.ReferenceOutFIdeal.nD Cert.ReferenceOutFIdeal.τ).loc Cert.ReferenceOutFIdeal.main_arg1)
      ∧ r.2.mem ((c.tc : Thread Cert.ReferenceOutFIdeal.nD Cert.ReferenceOutFIdeal.τ).loc Cert.ReferenceOutFIdeal.main_arg2) = m ((c.tc : Thread Cert.ReferenceOutFIdeal.nD Cert.ReferenceOutFIdeal.τ).loc Cert.ReferenceOutFIdeal.main_arg2))
      ∧ r.2.sem = fun _ => 0)

def quiescent_KernelOutW [hKernelOutW : Cert.KernelOutW.Facts] : Prop :=
  ∀ (m : (ℓ : Loc Cert.KernelOutW.nD Cert.KernelOutW.τ Cert.KernelOutW.sig) → Buf (Elt Bits) ℓ) (g : Dev Cert.KernelOutW.nD → PrngReg), Pre_KernelOutW m →
    θ_run (Cert.KernelOutW.defs (F := Bits)) (onTc (τ := Cert.KernelOutW.τ) (Cert.KernelOutW.main (F := Bits))) ⟨m, fun _ => 0, g⟩ (fun r => (∀ c : Dev Cert.KernelOutW.nD,
      r.2.mem ((c.tc : Thread Cert.KernelOutW.nD Cert.KernelOutW.τ).loc Cert.KernelOutW.main_arg0) = m ((c.tc : Thread Cert.KernelOutW.nD Cert.KernelOutW.τ).loc Cert.KernelOutW.main_arg0)
      ∧ r.2.mem ((c.tc : Thread Cert.KernelOutW.nD Cert.KernelOutW.τ).loc Cert.KernelOutW.main_arg1) = m ((c.tc : Thread Cert.KernelOutW.nD Cert.KernelOutW.τ).loc Cert.KernelOutW.main_arg1))
      ∧ r.2.sem = fun _ => 0)

def quiescent_KernelOutWIdeal [hKernelOutWIdeal : Cert.KernelOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg), Pre_KernelOutWIdeal m →
    θ_run (Cert.KernelOutWIdeal.defs (F := Ideal)) (onTc (τ := Cert.KernelOutWIdeal.τ) (Cert.KernelOutWIdeal.main (F := Ideal))) ⟨m, fun _ => 0, g⟩ (fun r => (∀ c : Dev Cert.KernelOutWIdeal.nD,
      r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
      ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1))
      ∧ r.2.sem = fun _ => 0)

def quiescent_ReferenceOutWIdeal [hReferenceOutWIdeal : Cert.ReferenceOutWIdeal.Facts] : Prop :=
  ∀ (m : (ℓ : Loc Cert.ReferenceOutWIdeal.nD Cert.ReferenceOutWIdeal.τ Cert.ReferenceOutWIdeal.sig) → Buf (Elt Ideal) ℓ) (g : Dev Cert.ReferenceOutWIdeal.nD → PrngReg), Pre_ReferenceOutWIdeal m →
    θ_run (Cert.ReferenceOutWIdeal.defs (F := Ideal)) (onTc (τ := Cert.ReferenceOutWIdeal.τ) (Cert.ReferenceOutWIdeal.main (F := Ideal))) ⟨m, fun _ => 0, g⟩ (fun r => (∀ c : Dev Cert.ReferenceOutWIdeal.nD,
      r.2.mem ((c.tc : Thread Cert.ReferenceOutWIdeal.nD Cert.ReferenceOutWIdeal.τ).loc Cert.ReferenceOutWIdeal.main_arg0) = m ((c.tc : Thread Cert.ReferenceOutWIdeal.nD Cert.ReferenceOutWIdeal.τ).loc Cert.ReferenceOutWIdeal.main_arg0)
      ∧ r.2.mem ((c.tc : Thread Cert.ReferenceOutWIdeal.nD Cert.ReferenceOutWIdeal.τ).loc Cert.ReferenceOutWIdeal.main_arg1) = m ((c.tc : Thread Cert.ReferenceOutWIdeal.nD Cert.ReferenceOutWIdeal.τ).loc Cert.ReferenceOutWIdeal.main_arg1))
      ∧ r.2.sem = fun _ => 0)

def quiescent_KernelOutD [hKernelOutD : Cert.KernelOutD.Facts] : Prop :=
  ∀ (m : (ℓ : Loc Cert.KernelOutD.nD Cert.KernelOutD.τ Cert.KernelOutD.sig) → Buf (Elt Bits) ℓ) (g : Dev Cert.KernelOutD.nD → PrngReg), Pre_KernelOutD m →
    θ_run (Cert.KernelOutD.defs (F := Bits)) (onTc (τ := Cert.KernelOutD.τ) (Cert.KernelOutD.main (F := Bits))) ⟨m, fun _ => 0, g⟩ (fun r => (∀ c : Dev Cert.KernelOutD.nD,
      r.2.mem ((c.tc : Thread Cert.KernelOutD.nD Cert.KernelOutD.τ).loc Cert.KernelOutD.main_arg0) = m ((c.tc : Thread Cert.KernelOutD.nD Cert.KernelOutD.τ).loc Cert.KernelOutD.main_arg0)
      ∧ r.2.mem ((c.tc : Thread Cert.KernelOutD.nD Cert.KernelOutD.τ).loc Cert.KernelOutD.main_arg1) = m ((c.tc : Thread Cert.KernelOutD.nD Cert.KernelOutD.τ).loc Cert.KernelOutD.main_arg1))
      ∧ r.2.sem = fun _ => 0)

def quiescent_KernelOutDIdeal [hKernelOutDIdeal : Cert.KernelOutDIdeal.Facts] : Prop :=
  ∀ (m : (ℓ : Loc Cert.KernelOutDIdeal.nD Cert.KernelOutDIdeal.τ Cert.KernelOutDIdeal.sig) → Buf (Elt Ideal) ℓ) (g : Dev Cert.KernelOutDIdeal.nD → PrngReg), Pre_KernelOutDIdeal m →
    θ_run (Cert.KernelOutDIdeal.defs (F := Ideal)) (onTc (τ := Cert.KernelOutDIdeal.τ) (Cert.KernelOutDIdeal.main (F := Ideal))) ⟨m, fun _ => 0, g⟩ (fun r => (∀ c : Dev Cert.KernelOutDIdeal.nD,
      r.2.mem ((c.tc : Thread Cert.KernelOutDIdeal.nD Cert.KernelOutDIdeal.τ).loc Cert.KernelOutDIdeal.main_arg0) = m ((c.tc : Thread Cert.KernelOutDIdeal.nD Cert.KernelOutDIdeal.τ).loc Cert.KernelOutDIdeal.main_arg0)
      ∧ r.2.mem ((c.tc : Thread Cert.KernelOutDIdeal.nD Cert.KernelOutDIdeal.τ).loc Cert.KernelOutDIdeal.main_arg1) = m ((c.tc : Thread Cert.KernelOutDIdeal.nD Cert.KernelOutDIdeal.τ).loc Cert.KernelOutDIdeal.main_arg1))
      ∧ r.2.sem = fun _ => 0)

def quiescent_ReferenceOutDIdeal [hReferenceOutDIdeal : Cert.ReferenceOutDIdeal.Facts] : Prop :=
  ∀ (m : (ℓ : Loc Cert.ReferenceOutDIdeal.nD Cert.ReferenceOutDIdeal.τ Cert.ReferenceOutDIdeal.sig) → Buf (Elt Ideal) ℓ) (g : Dev Cert.ReferenceOutDIdeal.nD → PrngReg), Pre_ReferenceOutDIdeal m →
    θ_run (Cert.ReferenceOutDIdeal.defs (F := Ideal)) (onTc (τ := Cert.ReferenceOutDIdeal.τ) (Cert.ReferenceOutDIdeal.main (F := Ideal))) ⟨m, fun _ => 0, g⟩ (fun r => (∀ c : Dev Cert.ReferenceOutDIdeal.nD,
      r.2.mem ((c.tc : Thread Cert.ReferenceOutDIdeal.nD Cert.ReferenceOutDIdeal.τ).loc Cert.ReferenceOutDIdeal.main_arg0) = m ((c.tc : Thread Cert.ReferenceOutDIdeal.nD Cert.ReferenceOutDIdeal.τ).loc Cert.ReferenceOutDIdeal.main_arg0)
      ∧ r.2.mem ((c.tc : Thread Cert.ReferenceOutDIdeal.nD Cert.ReferenceOutDIdeal.τ).loc Cert.ReferenceOutDIdeal.main_arg1) = m ((c.tc : Thread Cert.ReferenceOutDIdeal.nD Cert.ReferenceOutDIdeal.τ).loc Cert.ReferenceOutDIdeal.main_arg1))
      ∧ r.2.sem = fun _ => 0)

def quiescent_KernelPleF [hKernelPleF : Cert.KernelPleF.Facts] : Prop :=
  ∀ (m : (ℓ : Loc Cert.KernelPleF.nD Cert.KernelPleF.τ Cert.KernelPleF.sig) → Buf (Elt Bits) ℓ) (g : Dev Cert.KernelPleF.nD → PrngReg), Pre_KernelPleF m →
    θ_run (Cert.KernelPleF.defs (F := Bits)) (onTc (τ := Cert.KernelPleF.τ) (Cert.KernelPleF.main (F := Bits))) ⟨m, fun _ => 0, g⟩ (fun r => (∀ c : Dev Cert.KernelPleF.nD,
      r.2.mem ((c.tc : Thread Cert.KernelPleF.nD Cert.KernelPleF.τ).loc Cert.KernelPleF.main_arg0) = m ((c.tc : Thread Cert.KernelPleF.nD Cert.KernelPleF.τ).loc Cert.KernelPleF.main_arg0)
      ∧ r.2.mem ((c.tc : Thread Cert.KernelPleF.nD Cert.KernelPleF.τ).loc Cert.KernelPleF.main_arg1) = m ((c.tc : Thread Cert.KernelPleF.nD Cert.KernelPleF.τ).loc Cert.KernelPleF.main_arg1)
      ∧ r.2.mem ((c.tc : Thread Cert.KernelPleF.nD Cert.KernelPleF.τ).loc Cert.KernelPleF.main_arg2) = m ((c.tc : Thread Cert.KernelPleF.nD Cert.KernelPleF.τ).loc Cert.KernelPleF.main_arg2)
      ∧ r.2.mem ((c.tc : Thread Cert.KernelPleF.nD Cert.KernelPleF.τ).loc Cert.KernelPleF.main_arg3) = m ((c.tc : Thread Cert.KernelPleF.nD Cert.KernelPleF.τ).loc Cert.KernelPleF.main_arg3))
      ∧ r.2.sem = fun _ => 0)

def quiescent_KernelPleFIdeal [hKernelPleFIdeal : Cert.KernelPleFIdeal.Facts] : Prop :=
  ∀ (m : (ℓ : Loc Cert.KernelPleFIdeal.nD Cert.KernelPleFIdeal.τ Cert.KernelPleFIdeal.sig) → Buf (Elt Ideal) ℓ) (g : Dev Cert.KernelPleFIdeal.nD → PrngReg), Pre_KernelPleFIdeal m →
    θ_run (Cert.KernelPleFIdeal.defs (F := Ideal)) (onTc (τ := Cert.KernelPleFIdeal.τ) (Cert.KernelPleFIdeal.main (F := Ideal))) ⟨m, fun _ => 0, g⟩ (fun r => (∀ c : Dev Cert.KernelPleFIdeal.nD,
      r.2.mem ((c.tc : Thread Cert.KernelPleFIdeal.nD Cert.KernelPleFIdeal.τ).loc Cert.KernelPleFIdeal.main_arg0) = m ((c.tc : Thread Cert.KernelPleFIdeal.nD Cert.KernelPleFIdeal.τ).loc Cert.KernelPleFIdeal.main_arg0)
      ∧ r.2.mem ((c.tc : Thread Cert.KernelPleFIdeal.nD Cert.KernelPleFIdeal.τ).loc Cert.KernelPleFIdeal.main_arg1) = m ((c.tc : Thread Cert.KernelPleFIdeal.nD Cert.KernelPleFIdeal.τ).loc Cert.KernelPleFIdeal.main_arg1)
      ∧ r.2.mem ((c.tc : Thread Cert.KernelPleFIdeal.nD Cert.KernelPleFIdeal.τ).loc Cert.KernelPleFIdeal.main_arg2) = m ((c.tc : Thread Cert.KernelPleFIdeal.nD Cert.KernelPleFIdeal.τ).loc Cert.KernelPleFIdeal.main_arg2)
      ∧ r.2.mem ((c.tc : Thread Cert.KernelPleFIdeal.nD Cert.KernelPleFIdeal.τ).loc Cert.KernelPleFIdeal.main_arg3) = m ((c.tc : Thread Cert.KernelPleFIdeal.nD Cert.KernelPleFIdeal.τ).loc Cert.KernelPleFIdeal.main_arg3))
      ∧ r.2.sem = fun _ => 0)

def quiescent_ReferencePleFIdeal [hReferencePleFIdeal : Cert.ReferencePleFIdeal.Facts] : Prop :=
  ∀ (m : (ℓ : Loc Cert.ReferencePleFIdeal.nD Cert.ReferencePleFIdeal.τ Cert.ReferencePleFIdeal.sig) → Buf (Elt Ideal) ℓ) (g : Dev Cert.ReferencePleFIdeal.nD → PrngReg), Pre_ReferencePleFIdeal m →
    θ_run (Cert.ReferencePleFIdeal.defs (F := Ideal)) (onTc (τ := Cert.ReferencePleFIdeal.τ) (Cert.ReferencePleFIdeal.main (F := Ideal))) ⟨m, fun _ => 0, g⟩ (fun r => (∀ c : Dev Cert.ReferencePleFIdeal.nD,
      r.2.mem ((c.tc : Thread Cert.ReferencePleFIdeal.nD Cert.ReferencePleFIdeal.τ).loc Cert.ReferencePleFIdeal.main_arg0) = m ((c.tc : Thread Cert.ReferencePleFIdeal.nD Cert.ReferencePleFIdeal.τ).loc Cert.ReferencePleFIdeal.main_arg0)
      ∧ r.2.mem ((c.tc : Thread Cert.ReferencePleFIdeal.nD Cert.ReferencePleFIdeal.τ).loc Cert.ReferencePleFIdeal.main_arg1) = m ((c.tc : Thread Cert.ReferencePleFIdeal.nD Cert.ReferencePleFIdeal.τ).loc Cert.ReferencePleFIdeal.main_arg1)
      ∧ r.2.mem ((c.tc : Thread Cert.ReferencePleFIdeal.nD Cert.ReferencePleFIdeal.τ).loc Cert.ReferencePleFIdeal.main_arg2) = m ((c.tc : Thread Cert.ReferencePleFIdeal.nD Cert.ReferencePleFIdeal.τ).loc Cert.ReferencePleFIdeal.main_arg2)
      ∧ r.2.mem ((c.tc : Thread Cert.ReferencePleFIdeal.nD Cert.ReferencePleFIdeal.τ).loc Cert.ReferencePleFIdeal.main_arg3) = m ((c.tc : Thread Cert.ReferencePleFIdeal.nD Cert.ReferencePleFIdeal.τ).loc Cert.ReferencePleFIdeal.main_arg3))
      ∧ r.2.sem = fun _ => 0)

def quiescent_KernelPleProjW [hKernelPleProjW : Cert.KernelPleProjW.Facts] : Prop :=
  ∀ (m : (ℓ : Loc Cert.KernelPleProjW.nD Cert.KernelPleProjW.τ Cert.KernelPleProjW.sig) → Buf (Elt Bits) ℓ) (g : Dev Cert.KernelPleProjW.nD → PrngReg), Pre_KernelPleProjW m →
    θ_run (Cert.KernelPleProjW.defs (F := Bits)) (onTc (τ := Cert.KernelPleProjW.τ) (Cert.KernelPleProjW.main (F := Bits))) ⟨m, fun _ => 0, g⟩ (fun r => (∀ c : Dev Cert.KernelPleProjW.nD,
      r.2.mem ((c.tc : Thread Cert.KernelPleProjW.nD Cert.KernelPleProjW.τ).loc Cert.KernelPleProjW.main_arg0) = m ((c.tc : Thread Cert.KernelPleProjW.nD Cert.KernelPleProjW.τ).loc Cert.KernelPleProjW.main_arg0)
      ∧ r.2.mem ((c.tc : Thread Cert.KernelPleProjW.nD Cert.KernelPleProjW.τ).loc Cert.KernelPleProjW.main_arg1) = m ((c.tc : Thread Cert.KernelPleProjW.nD Cert.KernelPleProjW.τ).loc Cert.KernelPleProjW.main_arg1))
      ∧ r.2.sem = fun _ => 0)

def quiescent_KernelPleProjWIdeal [hKernelPleProjWIdeal : Cert.KernelPleProjWIdeal.Facts] : Prop :=
  ∀ (m : (ℓ : Loc Cert.KernelPleProjWIdeal.nD Cert.KernelPleProjWIdeal.τ Cert.KernelPleProjWIdeal.sig) → Buf (Elt Ideal) ℓ) (g : Dev Cert.KernelPleProjWIdeal.nD → PrngReg), Pre_KernelPleProjWIdeal m →
    θ_run (Cert.KernelPleProjWIdeal.defs (F := Ideal)) (onTc (τ := Cert.KernelPleProjWIdeal.τ) (Cert.KernelPleProjWIdeal.main (F := Ideal))) ⟨m, fun _ => 0, g⟩ (fun r => (∀ c : Dev Cert.KernelPleProjWIdeal.nD,
      r.2.mem ((c.tc : Thread Cert.KernelPleProjWIdeal.nD Cert.KernelPleProjWIdeal.τ).loc Cert.KernelPleProjWIdeal.main_arg0) = m ((c.tc : Thread Cert.KernelPleProjWIdeal.nD Cert.KernelPleProjWIdeal.τ).loc Cert.KernelPleProjWIdeal.main_arg0)
      ∧ r.2.mem ((c.tc : Thread Cert.KernelPleProjWIdeal.nD Cert.KernelPleProjWIdeal.τ).loc Cert.KernelPleProjWIdeal.main_arg1) = m ((c.tc : Thread Cert.KernelPleProjWIdeal.nD Cert.KernelPleProjWIdeal.τ).loc Cert.KernelPleProjWIdeal.main_arg1))
      ∧ r.2.sem = fun _ => 0)

def quiescent_ReferencePleProjWIdeal [hReferencePleProjWIdeal : Cert.ReferencePleProjWIdeal.Facts] : Prop :=
  ∀ (m : (ℓ : Loc Cert.ReferencePleProjWIdeal.nD Cert.ReferencePleProjWIdeal.τ Cert.ReferencePleProjWIdeal.sig) → Buf (Elt Ideal) ℓ) (g : Dev Cert.ReferencePleProjWIdeal.nD → PrngReg), Pre_ReferencePleProjWIdeal m →
    θ_run (Cert.ReferencePleProjWIdeal.defs (F := Ideal)) (onTc (τ := Cert.ReferencePleProjWIdeal.τ) (Cert.ReferencePleProjWIdeal.main (F := Ideal))) ⟨m, fun _ => 0, g⟩ (fun r => (∀ c : Dev Cert.ReferencePleProjWIdeal.nD,
      r.2.mem ((c.tc : Thread Cert.ReferencePleProjWIdeal.nD Cert.ReferencePleProjWIdeal.τ).loc Cert.ReferencePleProjWIdeal.main_arg0) = m ((c.tc : Thread Cert.ReferencePleProjWIdeal.nD Cert.ReferencePleProjWIdeal.τ).loc Cert.ReferencePleProjWIdeal.main_arg0)
      ∧ r.2.mem ((c.tc : Thread Cert.ReferencePleProjWIdeal.nD Cert.ReferencePleProjWIdeal.τ).loc Cert.ReferencePleProjWIdeal.main_arg1) = m ((c.tc : Thread Cert.ReferencePleProjWIdeal.nD Cert.ReferencePleProjWIdeal.τ).loc Cert.ReferencePleProjWIdeal.main_arg1))
      ∧ r.2.sem = fun _ => 0)

def quiescent_KernelPleD [hKernelPleD : Cert.KernelPleD.Facts] : Prop :=
  ∀ (m : (ℓ : Loc Cert.KernelPleD.nD Cert.KernelPleD.τ Cert.KernelPleD.sig) → Buf (Elt Bits) ℓ) (g : Dev Cert.KernelPleD.nD → PrngReg), Pre_KernelPleD m →
    θ_run (Cert.KernelPleD.defs (F := Bits)) (onTc (τ := Cert.KernelPleD.τ) (Cert.KernelPleD.main (F := Bits))) ⟨m, fun _ => 0, g⟩ (fun r => (∀ c : Dev Cert.KernelPleD.nD,
      r.2.mem ((c.tc : Thread Cert.KernelPleD.nD Cert.KernelPleD.τ).loc Cert.KernelPleD.main_arg0) = m ((c.tc : Thread Cert.KernelPleD.nD Cert.KernelPleD.τ).loc Cert.KernelPleD.main_arg0)
      ∧ r.2.mem ((c.tc : Thread Cert.KernelPleD.nD Cert.KernelPleD.τ).loc Cert.KernelPleD.main_arg1) = m ((c.tc : Thread Cert.KernelPleD.nD Cert.KernelPleD.τ).loc Cert.KernelPleD.main_arg1)
      ∧ r.2.mem ((c.tc : Thread Cert.KernelPleD.nD Cert.KernelPleD.τ).loc Cert.KernelPleD.main_arg2) = m ((c.tc : Thread Cert.KernelPleD.nD Cert.KernelPleD.τ).loc Cert.KernelPleD.main_arg2)
      ∧ r.2.mem ((c.tc : Thread Cert.KernelPleD.nD Cert.KernelPleD.τ).loc Cert.KernelPleD.main_arg3) = m ((c.tc : Thread Cert.KernelPleD.nD Cert.KernelPleD.τ).loc Cert.KernelPleD.main_arg3))
      ∧ r.2.sem = fun _ => 0)

def quiescent_KernelPleDIdeal [hKernelPleDIdeal : Cert.KernelPleDIdeal.Facts] : Prop :=
  ∀ (m : (ℓ : Loc Cert.KernelPleDIdeal.nD Cert.KernelPleDIdeal.τ Cert.KernelPleDIdeal.sig) → Buf (Elt Ideal) ℓ) (g : Dev Cert.KernelPleDIdeal.nD → PrngReg), Pre_KernelPleDIdeal m →
    θ_run (Cert.KernelPleDIdeal.defs (F := Ideal)) (onTc (τ := Cert.KernelPleDIdeal.τ) (Cert.KernelPleDIdeal.main (F := Ideal))) ⟨m, fun _ => 0, g⟩ (fun r => (∀ c : Dev Cert.KernelPleDIdeal.nD,
      r.2.mem ((c.tc : Thread Cert.KernelPleDIdeal.nD Cert.KernelPleDIdeal.τ).loc Cert.KernelPleDIdeal.main_arg0) = m ((c.tc : Thread Cert.KernelPleDIdeal.nD Cert.KernelPleDIdeal.τ).loc Cert.KernelPleDIdeal.main_arg0)
      ∧ r.2.mem ((c.tc : Thread Cert.KernelPleDIdeal.nD Cert.KernelPleDIdeal.τ).loc Cert.KernelPleDIdeal.main_arg1) = m ((c.tc : Thread Cert.KernelPleDIdeal.nD Cert.KernelPleDIdeal.τ).loc Cert.KernelPleDIdeal.main_arg1)
      ∧ r.2.mem ((c.tc : Thread Cert.KernelPleDIdeal.nD Cert.KernelPleDIdeal.τ).loc Cert.KernelPleDIdeal.main_arg2) = m ((c.tc : Thread Cert.KernelPleDIdeal.nD Cert.KernelPleDIdeal.τ).loc Cert.KernelPleDIdeal.main_arg2)
      ∧ r.2.mem ((c.tc : Thread Cert.KernelPleDIdeal.nD Cert.KernelPleDIdeal.τ).loc Cert.KernelPleDIdeal.main_arg3) = m ((c.tc : Thread Cert.KernelPleDIdeal.nD Cert.KernelPleDIdeal.τ).loc Cert.KernelPleDIdeal.main_arg3))
      ∧ r.2.sem = fun _ => 0)

def quiescent_ReferencePleDIdeal [hReferencePleDIdeal : Cert.ReferencePleDIdeal.Facts] : Prop :=
  ∀ (m : (ℓ : Loc Cert.ReferencePleDIdeal.nD Cert.ReferencePleDIdeal.τ Cert.ReferencePleDIdeal.sig) → Buf (Elt Ideal) ℓ) (g : Dev Cert.ReferencePleDIdeal.nD → PrngReg), Pre_ReferencePleDIdeal m →
    θ_run (Cert.ReferencePleDIdeal.defs (F := Ideal)) (onTc (τ := Cert.ReferencePleDIdeal.τ) (Cert.ReferencePleDIdeal.main (F := Ideal))) ⟨m, fun _ => 0, g⟩ (fun r => (∀ c : Dev Cert.ReferencePleDIdeal.nD,
      r.2.mem ((c.tc : Thread Cert.ReferencePleDIdeal.nD Cert.ReferencePleDIdeal.τ).loc Cert.ReferencePleDIdeal.main_arg0) = m ((c.tc : Thread Cert.ReferencePleDIdeal.nD Cert.ReferencePleDIdeal.τ).loc Cert.ReferencePleDIdeal.main_arg0)
      ∧ r.2.mem ((c.tc : Thread Cert.ReferencePleDIdeal.nD Cert.ReferencePleDIdeal.τ).loc Cert.ReferencePleDIdeal.main_arg1) = m ((c.tc : Thread Cert.ReferencePleDIdeal.nD Cert.ReferencePleDIdeal.τ).loc Cert.ReferencePleDIdeal.main_arg1)
      ∧ r.2.mem ((c.tc : Thread Cert.ReferencePleDIdeal.nD Cert.ReferencePleDIdeal.τ).loc Cert.ReferencePleDIdeal.main_arg2) = m ((c.tc : Thread Cert.ReferencePleDIdeal.nD Cert.ReferencePleDIdeal.τ).loc Cert.ReferencePleDIdeal.main_arg2)
      ∧ r.2.mem ((c.tc : Thread Cert.ReferencePleDIdeal.nD Cert.ReferencePleDIdeal.τ).loc Cert.ReferencePleDIdeal.main_arg3) = m ((c.tc : Thread Cert.ReferencePleDIdeal.nD Cert.ReferencePleDIdeal.τ).loc Cert.ReferencePleDIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelGateF [hKernelGateF : Cert.KernelGateF.Facts] : Prop :=
  ∀ (m : (ℓ : Loc Cert.KernelGateF.nD Cert.KernelGateF.τ Cert.KernelGateF.sig) → Buf (Elt Bits) ℓ) (g : Dev Cert.KernelGateF.nD → PrngReg), Pre_KernelGateF m →
    θ_run (Cert.KernelGateF.defs (F := Bits)) (onTc (τ := Cert.KernelGateF.τ) (Cert.KernelGateF.main (F := Bits))) ⟨m, fun _ => 0, g⟩ (fun r => (∀ c : Dev Cert.KernelGateF.nD,
      r.2.mem ((c.tc : Thread Cert.KernelGateF.nD Cert.KernelGateF.τ).loc Cert.KernelGateF.main_arg0) = m ((c.tc : Thread Cert.KernelGateF.nD Cert.KernelGateF.τ).loc Cert.KernelGateF.main_arg0)
      ∧ r.2.mem ((c.tc : Thread Cert.KernelGateF.nD Cert.KernelGateF.τ).loc Cert.KernelGateF.main_arg1) = m ((c.tc : Thread Cert.KernelGateF.nD Cert.KernelGateF.τ).loc Cert.KernelGateF.main_arg1))
      ∧ r.2.sem = fun _ => 0)

def quiescent_KernelGateFIdeal [hKernelGateFIdeal : Cert.KernelGateFIdeal.Facts] : Prop :=
  ∀ (m : (ℓ : Loc Cert.KernelGateFIdeal.nD Cert.KernelGateFIdeal.τ Cert.KernelGateFIdeal.sig) → Buf (Elt Ideal) ℓ) (g : Dev Cert.KernelGateFIdeal.nD → PrngReg), Pre_KernelGateFIdeal m →
    θ_run (Cert.KernelGateFIdeal.defs (F := Ideal)) (onTc (τ := Cert.KernelGateFIdeal.τ) (Cert.KernelGateFIdeal.main (F := Ideal))) ⟨m, fun _ => 0, g⟩ (fun r => (∀ c : Dev Cert.KernelGateFIdeal.nD,
      r.2.mem ((c.tc : Thread Cert.KernelGateFIdeal.nD Cert.KernelGateFIdeal.τ).loc Cert.KernelGateFIdeal.main_arg0) = m ((c.tc : Thread Cert.KernelGateFIdeal.nD Cert.KernelGateFIdeal.τ).loc Cert.KernelGateFIdeal.main_arg0)
      ∧ r.2.mem ((c.tc : Thread Cert.KernelGateFIdeal.nD Cert.KernelGateFIdeal.τ).loc Cert.KernelGateFIdeal.main_arg1) = m ((c.tc : Thread Cert.KernelGateFIdeal.nD Cert.KernelGateFIdeal.τ).loc Cert.KernelGateFIdeal.main_arg1))
      ∧ r.2.sem = fun _ => 0)

def quiescent_ReferenceGateFIdeal [hReferenceGateFIdeal : Cert.ReferenceGateFIdeal.Facts] : Prop :=
  ∀ (m : (ℓ : Loc Cert.ReferenceGateFIdeal.nD Cert.ReferenceGateFIdeal.τ Cert.ReferenceGateFIdeal.sig) → Buf (Elt Ideal) ℓ) (g : Dev Cert.ReferenceGateFIdeal.nD → PrngReg), Pre_ReferenceGateFIdeal m →
    θ_run (Cert.ReferenceGateFIdeal.defs (F := Ideal)) (onTc (τ := Cert.ReferenceGateFIdeal.τ) (Cert.ReferenceGateFIdeal.main (F := Ideal))) ⟨m, fun _ => 0, g⟩ (fun r => (∀ c : Dev Cert.ReferenceGateFIdeal.nD,
      r.2.mem ((c.tc : Thread Cert.ReferenceGateFIdeal.nD Cert.ReferenceGateFIdeal.τ).loc Cert.ReferenceGateFIdeal.main_arg0) = m ((c.tc : Thread Cert.ReferenceGateFIdeal.nD Cert.ReferenceGateFIdeal.τ).loc Cert.ReferenceGateFIdeal.main_arg0)
      ∧ r.2.mem ((c.tc : Thread Cert.ReferenceGateFIdeal.nD Cert.ReferenceGateFIdeal.τ).loc Cert.ReferenceGateFIdeal.main_arg1) = m ((c.tc : Thread Cert.ReferenceGateFIdeal.nD Cert.ReferenceGateFIdeal.τ).loc Cert.ReferenceGateFIdeal.main_arg1))
      ∧ r.2.sem = fun _ => 0)

def quiescent_KernelGateD [hKernelGateD : Cert.KernelGateD.Facts] : Prop :=
  ∀ (m : (ℓ : Loc Cert.KernelGateD.nD Cert.KernelGateD.τ Cert.KernelGateD.sig) → Buf (Elt Bits) ℓ) (g : Dev Cert.KernelGateD.nD → PrngReg), Pre_KernelGateD m →
    θ_run (Cert.KernelGateD.defs (F := Bits)) (onTc (τ := Cert.KernelGateD.τ) (Cert.KernelGateD.main (F := Bits))) ⟨m, fun _ => 0, g⟩ (fun r => (∀ c : Dev Cert.KernelGateD.nD,
      r.2.mem ((c.tc : Thread Cert.KernelGateD.nD Cert.KernelGateD.τ).loc Cert.KernelGateD.main_arg0) = m ((c.tc : Thread Cert.KernelGateD.nD Cert.KernelGateD.τ).loc Cert.KernelGateD.main_arg0)
      ∧ r.2.mem ((c.tc : Thread Cert.KernelGateD.nD Cert.KernelGateD.τ).loc Cert.KernelGateD.main_arg1) = m ((c.tc : Thread Cert.KernelGateD.nD Cert.KernelGateD.τ).loc Cert.KernelGateD.main_arg1)
      ∧ r.2.mem ((c.tc : Thread Cert.KernelGateD.nD Cert.KernelGateD.τ).loc Cert.KernelGateD.main_arg2) = m ((c.tc : Thread Cert.KernelGateD.nD Cert.KernelGateD.τ).loc Cert.KernelGateD.main_arg2))
      ∧ r.2.sem = fun _ => 0)

def quiescent_KernelGateDIdeal [hKernelGateDIdeal : Cert.KernelGateDIdeal.Facts] : Prop :=
  ∀ (m : (ℓ : Loc Cert.KernelGateDIdeal.nD Cert.KernelGateDIdeal.τ Cert.KernelGateDIdeal.sig) → Buf (Elt Ideal) ℓ) (g : Dev Cert.KernelGateDIdeal.nD → PrngReg), Pre_KernelGateDIdeal m →
    θ_run (Cert.KernelGateDIdeal.defs (F := Ideal)) (onTc (τ := Cert.KernelGateDIdeal.τ) (Cert.KernelGateDIdeal.main (F := Ideal))) ⟨m, fun _ => 0, g⟩ (fun r => (∀ c : Dev Cert.KernelGateDIdeal.nD,
      r.2.mem ((c.tc : Thread Cert.KernelGateDIdeal.nD Cert.KernelGateDIdeal.τ).loc Cert.KernelGateDIdeal.main_arg0) = m ((c.tc : Thread Cert.KernelGateDIdeal.nD Cert.KernelGateDIdeal.τ).loc Cert.KernelGateDIdeal.main_arg0)
      ∧ r.2.mem ((c.tc : Thread Cert.KernelGateDIdeal.nD Cert.KernelGateDIdeal.τ).loc Cert.KernelGateDIdeal.main_arg1) = m ((c.tc : Thread Cert.KernelGateDIdeal.nD Cert.KernelGateDIdeal.τ).loc Cert.KernelGateDIdeal.main_arg1)
      ∧ r.2.mem ((c.tc : Thread Cert.KernelGateDIdeal.nD Cert.KernelGateDIdeal.τ).loc Cert.KernelGateDIdeal.main_arg2) = m ((c.tc : Thread Cert.KernelGateDIdeal.nD Cert.KernelGateDIdeal.τ).loc Cert.KernelGateDIdeal.main_arg2))
      ∧ r.2.sem = fun _ => 0)

def quiescent_ReferenceGateDIdeal [hReferenceGateDIdeal : Cert.ReferenceGateDIdeal.Facts] : Prop :=
  ∀ (m : (ℓ : Loc Cert.ReferenceGateDIdeal.nD Cert.ReferenceGateDIdeal.τ Cert.ReferenceGateDIdeal.sig) → Buf (Elt Ideal) ℓ) (g : Dev Cert.ReferenceGateDIdeal.nD → PrngReg), Pre_ReferenceGateDIdeal m →
    θ_run (Cert.ReferenceGateDIdeal.defs (F := Ideal)) (onTc (τ := Cert.ReferenceGateDIdeal.τ) (Cert.ReferenceGateDIdeal.main (F := Ideal))) ⟨m, fun _ => 0, g⟩ (fun r => (∀ c : Dev Cert.ReferenceGateDIdeal.nD,
      r.2.mem ((c.tc : Thread Cert.ReferenceGateDIdeal.nD Cert.ReferenceGateDIdeal.τ).loc Cert.ReferenceGateDIdeal.main_arg0) = m ((c.tc : Thread Cert.ReferenceGateDIdeal.nD Cert.ReferenceGateDIdeal.τ).loc Cert.ReferenceGateDIdeal.main_arg0)
      ∧ r.2.mem ((c.tc : Thread Cert.ReferenceGateDIdeal.nD Cert.ReferenceGateDIdeal.τ).loc Cert.ReferenceGateDIdeal.main_arg1) = m ((c.tc : Thread Cert.ReferenceGateDIdeal.nD Cert.ReferenceGateDIdeal.τ).loc Cert.ReferenceGateDIdeal.main_arg1)
      ∧ r.2.mem ((c.tc : Thread Cert.ReferenceGateDIdeal.nD Cert.ReferenceGateDIdeal.τ).loc Cert.ReferenceGateDIdeal.main_arg2) = m ((c.tc : Thread Cert.ReferenceGateDIdeal.nD Cert.ReferenceGateDIdeal.τ).loc Cert.ReferenceGateDIdeal.main_arg2))
      ∧ r.2.sem = fun _ => 0)

def quiescent_KernelGateW [hKernelGateW : Cert.KernelGateW.Facts] : Prop :=
  ∀ (m : (ℓ : Loc Cert.KernelGateW.nD Cert.KernelGateW.τ Cert.KernelGateW.sig) → Buf (Elt Bits) ℓ) (g : Dev Cert.KernelGateW.nD → PrngReg), Pre_KernelGateW m →
    θ_run (Cert.KernelGateW.defs (F := Bits)) (onTc (τ := Cert.KernelGateW.τ) (Cert.KernelGateW.main (F := Bits))) ⟨m, fun _ => 0, g⟩ (fun r => (∀ c : Dev Cert.KernelGateW.nD,
      r.2.mem ((c.tc : Thread Cert.KernelGateW.nD Cert.KernelGateW.τ).loc Cert.KernelGateW.main_arg0) = m ((c.tc : Thread Cert.KernelGateW.nD Cert.KernelGateW.τ).loc Cert.KernelGateW.main_arg0)
      ∧ r.2.mem ((c.tc : Thread Cert.KernelGateW.nD Cert.KernelGateW.τ).loc Cert.KernelGateW.main_arg1) = m ((c.tc : Thread Cert.KernelGateW.nD Cert.KernelGateW.τ).loc Cert.KernelGateW.main_arg1))
      ∧ r.2.sem = fun _ => 0)

def quiescent_KernelGateWIdeal [hKernelGateWIdeal : Cert.KernelGateWIdeal.Facts] : Prop :=
  ∀ (m : (ℓ : Loc Cert.KernelGateWIdeal.nD Cert.KernelGateWIdeal.τ Cert.KernelGateWIdeal.sig) → Buf (Elt Ideal) ℓ) (g : Dev Cert.KernelGateWIdeal.nD → PrngReg), Pre_KernelGateWIdeal m →
    θ_run (Cert.KernelGateWIdeal.defs (F := Ideal)) (onTc (τ := Cert.KernelGateWIdeal.τ) (Cert.KernelGateWIdeal.main (F := Ideal))) ⟨m, fun _ => 0, g⟩ (fun r => (∀ c : Dev Cert.KernelGateWIdeal.nD,
      r.2.mem ((c.tc : Thread Cert.KernelGateWIdeal.nD Cert.KernelGateWIdeal.τ).loc Cert.KernelGateWIdeal.main_arg0) = m ((c.tc : Thread Cert.KernelGateWIdeal.nD Cert.KernelGateWIdeal.τ).loc Cert.KernelGateWIdeal.main_arg0)
      ∧ r.2.mem ((c.tc : Thread Cert.KernelGateWIdeal.nD Cert.KernelGateWIdeal.τ).loc Cert.KernelGateWIdeal.main_arg1) = m ((c.tc : Thread Cert.KernelGateWIdeal.nD Cert.KernelGateWIdeal.τ).loc Cert.KernelGateWIdeal.main_arg1))
      ∧ r.2.sem = fun _ => 0)

def quiescent_ReferenceGateWIdeal [hReferenceGateWIdeal : Cert.ReferenceGateWIdeal.Facts] : Prop :=
  ∀ (m : (ℓ : Loc Cert.ReferenceGateWIdeal.nD Cert.ReferenceGateWIdeal.τ Cert.ReferenceGateWIdeal.sig) → Buf (Elt Ideal) ℓ) (g : Dev Cert.ReferenceGateWIdeal.nD → PrngReg), Pre_ReferenceGateWIdeal m →
    θ_run (Cert.ReferenceGateWIdeal.defs (F := Ideal)) (onTc (τ := Cert.ReferenceGateWIdeal.τ) (Cert.ReferenceGateWIdeal.main (F := Ideal))) ⟨m, fun _ => 0, g⟩ (fun r => (∀ c : Dev Cert.ReferenceGateWIdeal.nD,
      r.2.mem ((c.tc : Thread Cert.ReferenceGateWIdeal.nD Cert.ReferenceGateWIdeal.τ).loc Cert.ReferenceGateWIdeal.main_arg0) = m ((c.tc : Thread Cert.ReferenceGateWIdeal.nD Cert.ReferenceGateWIdeal.τ).loc Cert.ReferenceGateWIdeal.main_arg0)
      ∧ r.2.mem ((c.tc : Thread Cert.ReferenceGateWIdeal.nD Cert.ReferenceGateWIdeal.τ).loc Cert.ReferenceGateWIdeal.main_arg1) = m ((c.tc : Thread Cert.ReferenceGateWIdeal.nD Cert.ReferenceGateWIdeal.τ).loc Cert.ReferenceGateWIdeal.main_arg1))
      ∧ r.2.sem = fun _ => 0)

def quiescent_KernelAdamNormMix [hKernelAdamNormMix : Cert.KernelAdamNormMix.Facts] : Prop :=
  ∀ (m : (ℓ : Loc Cert.KernelAdamNormMix.nD Cert.KernelAdamNormMix.τ Cert.KernelAdamNormMix.sig) → Buf (Elt Bits) ℓ) (g : Dev Cert.KernelAdamNormMix.nD → PrngReg), Pre_KernelAdamNormMix m →
    θ_run (Cert.KernelAdamNormMix.defs (F := Bits)) (onTc (τ := Cert.KernelAdamNormMix.τ) (Cert.KernelAdamNormMix.main (F := Bits))) ⟨m, fun _ => 0, g⟩ (fun r => (∀ c : Dev Cert.KernelAdamNormMix.nD,
      r.2.mem ((c.tc : Thread Cert.KernelAdamNormMix.nD Cert.KernelAdamNormMix.τ).loc Cert.KernelAdamNormMix.main_arg0) = m ((c.tc : Thread Cert.KernelAdamNormMix.nD Cert.KernelAdamNormMix.τ).loc Cert.KernelAdamNormMix.main_arg0)
      ∧ r.2.mem ((c.tc : Thread Cert.KernelAdamNormMix.nD Cert.KernelAdamNormMix.τ).loc Cert.KernelAdamNormMix.main_arg1) = m ((c.tc : Thread Cert.KernelAdamNormMix.nD Cert.KernelAdamNormMix.τ).loc Cert.KernelAdamNormMix.main_arg1)
      ∧ r.2.mem ((c.tc : Thread Cert.KernelAdamNormMix.nD Cert.KernelAdamNormMix.τ).loc Cert.KernelAdamNormMix.main_arg2) = m ((c.tc : Thread Cert.KernelAdamNormMix.nD Cert.KernelAdamNormMix.τ).loc Cert.KernelAdamNormMix.main_arg2)
      ∧ r.2.mem ((c.tc : Thread Cert.KernelAdamNormMix.nD Cert.KernelAdamNormMix.τ).loc Cert.KernelAdamNormMix.main_arg3) = m ((c.tc : Thread Cert.KernelAdamNormMix.nD Cert.KernelAdamNormMix.τ).loc Cert.KernelAdamNormMix.main_arg3))
      ∧ r.2.sem = fun _ => 0)

def quiescent_KernelAdamNormMixIdeal [hKernelAdamNormMixIdeal : Cert.KernelAdamNormMixIdeal.Facts] : Prop :=
  ∀ (m : (ℓ : Loc Cert.KernelAdamNormMixIdeal.nD Cert.KernelAdamNormMixIdeal.τ Cert.KernelAdamNormMixIdeal.sig) → Buf (Elt Ideal) ℓ) (g : Dev Cert.KernelAdamNormMixIdeal.nD → PrngReg), Pre_KernelAdamNormMixIdeal m →
    θ_run (Cert.KernelAdamNormMixIdeal.defs (F := Ideal)) (onTc (τ := Cert.KernelAdamNormMixIdeal.τ) (Cert.KernelAdamNormMixIdeal.main (F := Ideal))) ⟨m, fun _ => 0, g⟩ (fun r => (∀ c : Dev Cert.KernelAdamNormMixIdeal.nD,
      r.2.mem ((c.tc : Thread Cert.KernelAdamNormMixIdeal.nD Cert.KernelAdamNormMixIdeal.τ).loc Cert.KernelAdamNormMixIdeal.main_arg0) = m ((c.tc : Thread Cert.KernelAdamNormMixIdeal.nD Cert.KernelAdamNormMixIdeal.τ).loc Cert.KernelAdamNormMixIdeal.main_arg0)
      ∧ r.2.mem ((c.tc : Thread Cert.KernelAdamNormMixIdeal.nD Cert.KernelAdamNormMixIdeal.τ).loc Cert.KernelAdamNormMixIdeal.main_arg1) = m ((c.tc : Thread Cert.KernelAdamNormMixIdeal.nD Cert.KernelAdamNormMixIdeal.τ).loc Cert.KernelAdamNormMixIdeal.main_arg1)
      ∧ r.2.mem ((c.tc : Thread Cert.KernelAdamNormMixIdeal.nD Cert.KernelAdamNormMixIdeal.τ).loc Cert.KernelAdamNormMixIdeal.main_arg2) = m ((c.tc : Thread Cert.KernelAdamNormMixIdeal.nD Cert.KernelAdamNormMixIdeal.τ).loc Cert.KernelAdamNormMixIdeal.main_arg2)
      ∧ r.2.mem ((c.tc : Thread Cert.KernelAdamNormMixIdeal.nD Cert.KernelAdamNormMixIdeal.τ).loc Cert.KernelAdamNormMixIdeal.main_arg3) = m ((c.tc : Thread Cert.KernelAdamNormMixIdeal.nD Cert.KernelAdamNormMixIdeal.τ).loc Cert.KernelAdamNormMixIdeal.main_arg3))
      ∧ r.2.sem = fun _ => 0)

def quiescent_ReferenceAdamNormMixIdeal [hReferenceAdamNormMixIdeal : Cert.ReferenceAdamNormMixIdeal.Facts] : Prop :=
  ∀ (m : (ℓ : Loc Cert.ReferenceAdamNormMixIdeal.nD Cert.ReferenceAdamNormMixIdeal.τ Cert.ReferenceAdamNormMixIdeal.sig) → Buf (Elt Ideal) ℓ) (g : Dev Cert.ReferenceAdamNormMixIdeal.nD → PrngReg), Pre_ReferenceAdamNormMixIdeal m →
    θ_run (Cert.ReferenceAdamNormMixIdeal.defs (F := Ideal)) (onTc (τ := Cert.ReferenceAdamNormMixIdeal.τ) (Cert.ReferenceAdamNormMixIdeal.main (F := Ideal))) ⟨m, fun _ => 0, g⟩ (fun r => (∀ c : Dev Cert.ReferenceAdamNormMixIdeal.nD,
      r.2.mem ((c.tc : Thread Cert.ReferenceAdamNormMixIdeal.nD Cert.ReferenceAdamNormMixIdeal.τ).loc Cert.ReferenceAdamNormMixIdeal.main_arg0) = m ((c.tc : Thread Cert.ReferenceAdamNormMixIdeal.nD Cert.ReferenceAdamNormMixIdeal.τ).loc Cert.ReferenceAdamNormMixIdeal.main_arg0)
      ∧ r.2.mem ((c.tc : Thread Cert.ReferenceAdamNormMixIdeal.nD Cert.ReferenceAdamNormMixIdeal.τ).loc Cert.ReferenceAdamNormMixIdeal.main_arg1) = m ((c.tc : Thread Cert.ReferenceAdamNormMixIdeal.nD Cert.ReferenceAdamNormMixIdeal.τ).loc Cert.ReferenceAdamNormMixIdeal.main_arg1)
      ∧ r.2.mem ((c.tc : Thread Cert.ReferenceAdamNormMixIdeal.nD Cert.ReferenceAdamNormMixIdeal.τ).loc Cert.ReferenceAdamNormMixIdeal.main_arg2) = m ((c.tc : Thread Cert.ReferenceAdamNormMixIdeal.nD Cert.ReferenceAdamNormMixIdeal.τ).loc Cert.ReferenceAdamNormMixIdeal.main_arg2)
      ∧ r.2.mem ((c.tc : Thread Cert.ReferenceAdamNormMixIdeal.nD Cert.ReferenceAdamNormMixIdeal.τ).loc Cert.ReferenceAdamNormMixIdeal.main_arg3) = m ((c.tc : Thread Cert.ReferenceAdamNormMixIdeal.nD Cert.ReferenceAdamNormMixIdeal.τ).loc Cert.ReferenceAdamNormMixIdeal.main_arg3))
      ∧ r.2.sem = fun _ => 0)

def quiescent_KernelAdamQkv [hKernelAdamQkv : Cert.KernelAdamQkv.Facts] : Prop :=
  ∀ (m : (ℓ : Loc Cert.KernelAdamQkv.nD Cert.KernelAdamQkv.τ Cert.KernelAdamQkv.sig) → Buf (Elt Bits) ℓ) (g : Dev Cert.KernelAdamQkv.nD → PrngReg), Pre_KernelAdamQkv m →
    θ_run (Cert.KernelAdamQkv.defs (F := Bits)) (onTc (τ := Cert.KernelAdamQkv.τ) (Cert.KernelAdamQkv.main (F := Bits))) ⟨m, fun _ => 0, g⟩ (fun r => (∀ c : Dev Cert.KernelAdamQkv.nD,
      r.2.mem ((c.tc : Thread Cert.KernelAdamQkv.nD Cert.KernelAdamQkv.τ).loc Cert.KernelAdamQkv.main_arg0) = m ((c.tc : Thread Cert.KernelAdamQkv.nD Cert.KernelAdamQkv.τ).loc Cert.KernelAdamQkv.main_arg0)
      ∧ r.2.mem ((c.tc : Thread Cert.KernelAdamQkv.nD Cert.KernelAdamQkv.τ).loc Cert.KernelAdamQkv.main_arg1) = m ((c.tc : Thread Cert.KernelAdamQkv.nD Cert.KernelAdamQkv.τ).loc Cert.KernelAdamQkv.main_arg1)
      ∧ r.2.mem ((c.tc : Thread Cert.KernelAdamQkv.nD Cert.KernelAdamQkv.τ).loc Cert.KernelAdamQkv.main_arg2) = m ((c.tc : Thread Cert.KernelAdamQkv.nD Cert.KernelAdamQkv.τ).loc Cert.KernelAdamQkv.main_arg2)
      ∧ r.2.mem ((c.tc : Thread Cert.KernelAdamQkv.nD Cert.KernelAdamQkv.τ).loc Cert.KernelAdamQkv.main_arg3) = m ((c.tc : Thread Cert.KernelAdamQkv.nD Cert.KernelAdamQkv.τ).loc Cert.KernelAdamQkv.main_arg3))
      ∧ r.2.sem = fun _ => 0)

def quiescent_KernelAdamQkvIdeal [hKernelAdamQkvIdeal : Cert.KernelAdamQkvIdeal.Facts] : Prop :=
  ∀ (m : (ℓ : Loc Cert.KernelAdamQkvIdeal.nD Cert.KernelAdamQkvIdeal.τ Cert.KernelAdamQkvIdeal.sig) → Buf (Elt Ideal) ℓ) (g : Dev Cert.KernelAdamQkvIdeal.nD → PrngReg), Pre_KernelAdamQkvIdeal m →
    θ_run (Cert.KernelAdamQkvIdeal.defs (F := Ideal)) (onTc (τ := Cert.KernelAdamQkvIdeal.τ) (Cert.KernelAdamQkvIdeal.main (F := Ideal))) ⟨m, fun _ => 0, g⟩ (fun r => (∀ c : Dev Cert.KernelAdamQkvIdeal.nD,
      r.2.mem ((c.tc : Thread Cert.KernelAdamQkvIdeal.nD Cert.KernelAdamQkvIdeal.τ).loc Cert.KernelAdamQkvIdeal.main_arg0) = m ((c.tc : Thread Cert.KernelAdamQkvIdeal.nD Cert.KernelAdamQkvIdeal.τ).loc Cert.KernelAdamQkvIdeal.main_arg0)
      ∧ r.2.mem ((c.tc : Thread Cert.KernelAdamQkvIdeal.nD Cert.KernelAdamQkvIdeal.τ).loc Cert.KernelAdamQkvIdeal.main_arg1) = m ((c.tc : Thread Cert.KernelAdamQkvIdeal.nD Cert.KernelAdamQkvIdeal.τ).loc Cert.KernelAdamQkvIdeal.main_arg1)
      ∧ r.2.mem ((c.tc : Thread Cert.KernelAdamQkvIdeal.nD Cert.KernelAdamQkvIdeal.τ).loc Cert.KernelAdamQkvIdeal.main_arg2) = m ((c.tc : Thread Cert.KernelAdamQkvIdeal.nD Cert.KernelAdamQkvIdeal.τ).loc Cert.KernelAdamQkvIdeal.main_arg2)
      ∧ r.2.mem ((c.tc : Thread Cert.KernelAdamQkvIdeal.nD Cert.KernelAdamQkvIdeal.τ).loc Cert.KernelAdamQkvIdeal.main_arg3) = m ((c.tc : Thread Cert.KernelAdamQkvIdeal.nD Cert.KernelAdamQkvIdeal.τ).loc Cert.KernelAdamQkvIdeal.main_arg3))
      ∧ r.2.sem = fun _ => 0)

def quiescent_ReferenceAdamQkvIdeal [hReferenceAdamQkvIdeal : Cert.ReferenceAdamQkvIdeal.Facts] : Prop :=
  ∀ (m : (ℓ : Loc Cert.ReferenceAdamQkvIdeal.nD Cert.ReferenceAdamQkvIdeal.τ Cert.ReferenceAdamQkvIdeal.sig) → Buf (Elt Ideal) ℓ) (g : Dev Cert.ReferenceAdamQkvIdeal.nD → PrngReg), Pre_ReferenceAdamQkvIdeal m →
    θ_run (Cert.ReferenceAdamQkvIdeal.defs (F := Ideal)) (onTc (τ := Cert.ReferenceAdamQkvIdeal.τ) (Cert.ReferenceAdamQkvIdeal.main (F := Ideal))) ⟨m, fun _ => 0, g⟩ (fun r => (∀ c : Dev Cert.ReferenceAdamQkvIdeal.nD,
      r.2.mem ((c.tc : Thread Cert.ReferenceAdamQkvIdeal.nD Cert.ReferenceAdamQkvIdeal.τ).loc Cert.ReferenceAdamQkvIdeal.main_arg0) = m ((c.tc : Thread Cert.ReferenceAdamQkvIdeal.nD Cert.ReferenceAdamQkvIdeal.τ).loc Cert.ReferenceAdamQkvIdeal.main_arg0)
      ∧ r.2.mem ((c.tc : Thread Cert.ReferenceAdamQkvIdeal.nD Cert.ReferenceAdamQkvIdeal.τ).loc Cert.ReferenceAdamQkvIdeal.main_arg1) = m ((c.tc : Thread Cert.ReferenceAdamQkvIdeal.nD Cert.ReferenceAdamQkvIdeal.τ).loc Cert.ReferenceAdamQkvIdeal.main_arg1)
      ∧ r.2.mem ((c.tc : Thread Cert.ReferenceAdamQkvIdeal.nD Cert.ReferenceAdamQkvIdeal.τ).loc Cert.ReferenceAdamQkvIdeal.main_arg2) = m ((c.tc : Thread Cert.ReferenceAdamQkvIdeal.nD Cert.ReferenceAdamQkvIdeal.τ).loc Cert.ReferenceAdamQkvIdeal.main_arg2)
      ∧ r.2.mem ((c.tc : Thread Cert.ReferenceAdamQkvIdeal.nD Cert.ReferenceAdamQkvIdeal.τ).loc Cert.ReferenceAdamQkvIdeal.main_arg3) = m ((c.tc : Thread Cert.ReferenceAdamQkvIdeal.nD Cert.ReferenceAdamQkvIdeal.τ).loc Cert.ReferenceAdamQkvIdeal.main_arg3))
      ∧ r.2.sem = fun _ => 0)

def quiescent_KernelAdamAttnO [hKernelAdamAttnO : Cert.KernelAdamAttnO.Facts] : Prop :=
  ∀ (m : (ℓ : Loc Cert.KernelAdamAttnO.nD Cert.KernelAdamAttnO.τ Cert.KernelAdamAttnO.sig) → Buf (Elt Bits) ℓ) (g : Dev Cert.KernelAdamAttnO.nD → PrngReg), Pre_KernelAdamAttnO m →
    θ_run (Cert.KernelAdamAttnO.defs (F := Bits)) (onTc (τ := Cert.KernelAdamAttnO.τ) (Cert.KernelAdamAttnO.main (F := Bits))) ⟨m, fun _ => 0, g⟩ (fun r => (∀ c : Dev Cert.KernelAdamAttnO.nD,
      r.2.mem ((c.tc : Thread Cert.KernelAdamAttnO.nD Cert.KernelAdamAttnO.τ).loc Cert.KernelAdamAttnO.main_arg0) = m ((c.tc : Thread Cert.KernelAdamAttnO.nD Cert.KernelAdamAttnO.τ).loc Cert.KernelAdamAttnO.main_arg0)
      ∧ r.2.mem ((c.tc : Thread Cert.KernelAdamAttnO.nD Cert.KernelAdamAttnO.τ).loc Cert.KernelAdamAttnO.main_arg1) = m ((c.tc : Thread Cert.KernelAdamAttnO.nD Cert.KernelAdamAttnO.τ).loc Cert.KernelAdamAttnO.main_arg1)
      ∧ r.2.mem ((c.tc : Thread Cert.KernelAdamAttnO.nD Cert.KernelAdamAttnO.τ).loc Cert.KernelAdamAttnO.main_arg2) = m ((c.tc : Thread Cert.KernelAdamAttnO.nD Cert.KernelAdamAttnO.τ).loc Cert.KernelAdamAttnO.main_arg2)
      ∧ r.2.mem ((c.tc : Thread Cert.KernelAdamAttnO.nD Cert.KernelAdamAttnO.τ).loc Cert.KernelAdamAttnO.main_arg3) = m ((c.tc : Thread Cert.KernelAdamAttnO.nD Cert.KernelAdamAttnO.τ).loc Cert.KernelAdamAttnO.main_arg3))
      ∧ r.2.sem = fun _ => 0)

def quiescent_KernelAdamAttnOIdeal [hKernelAdamAttnOIdeal : Cert.KernelAdamAttnOIdeal.Facts] : Prop :=
  ∀ (m : (ℓ : Loc Cert.KernelAdamAttnOIdeal.nD Cert.KernelAdamAttnOIdeal.τ Cert.KernelAdamAttnOIdeal.sig) → Buf (Elt Ideal) ℓ) (g : Dev Cert.KernelAdamAttnOIdeal.nD → PrngReg), Pre_KernelAdamAttnOIdeal m →
    θ_run (Cert.KernelAdamAttnOIdeal.defs (F := Ideal)) (onTc (τ := Cert.KernelAdamAttnOIdeal.τ) (Cert.KernelAdamAttnOIdeal.main (F := Ideal))) ⟨m, fun _ => 0, g⟩ (fun r => (∀ c : Dev Cert.KernelAdamAttnOIdeal.nD,
      r.2.mem ((c.tc : Thread Cert.KernelAdamAttnOIdeal.nD Cert.KernelAdamAttnOIdeal.τ).loc Cert.KernelAdamAttnOIdeal.main_arg0) = m ((c.tc : Thread Cert.KernelAdamAttnOIdeal.nD Cert.KernelAdamAttnOIdeal.τ).loc Cert.KernelAdamAttnOIdeal.main_arg0)
      ∧ r.2.mem ((c.tc : Thread Cert.KernelAdamAttnOIdeal.nD Cert.KernelAdamAttnOIdeal.τ).loc Cert.KernelAdamAttnOIdeal.main_arg1) = m ((c.tc : Thread Cert.KernelAdamAttnOIdeal.nD Cert.KernelAdamAttnOIdeal.τ).loc Cert.KernelAdamAttnOIdeal.main_arg1)
      ∧ r.2.mem ((c.tc : Thread Cert.KernelAdamAttnOIdeal.nD Cert.KernelAdamAttnOIdeal.τ).loc Cert.KernelAdamAttnOIdeal.main_arg2) = m ((c.tc : Thread Cert.KernelAdamAttnOIdeal.nD Cert.KernelAdamAttnOIdeal.τ).loc Cert.KernelAdamAttnOIdeal.main_arg2)
      ∧ r.2.mem ((c.tc : Thread Cert.KernelAdamAttnOIdeal.nD Cert.KernelAdamAttnOIdeal.τ).loc Cert.KernelAdamAttnOIdeal.main_arg3) = m ((c.tc : Thread Cert.KernelAdamAttnOIdeal.nD Cert.KernelAdamAttnOIdeal.τ).loc Cert.KernelAdamAttnOIdeal.main_arg3))
      ∧ r.2.sem = fun _ => 0)

def quiescent_ReferenceAdamAttnOIdeal [hReferenceAdamAttnOIdeal : Cert.ReferenceAdamAttnOIdeal.Facts] : Prop :=
  ∀ (m : (ℓ : Loc Cert.ReferenceAdamAttnOIdeal.nD Cert.ReferenceAdamAttnOIdeal.τ Cert.ReferenceAdamAttnOIdeal.sig) → Buf (Elt Ideal) ℓ) (g : Dev Cert.ReferenceAdamAttnOIdeal.nD → PrngReg), Pre_ReferenceAdamAttnOIdeal m →
    θ_run (Cert.ReferenceAdamAttnOIdeal.defs (F := Ideal)) (onTc (τ := Cert.ReferenceAdamAttnOIdeal.τ) (Cert.ReferenceAdamAttnOIdeal.main (F := Ideal))) ⟨m, fun _ => 0, g⟩ (fun r => (∀ c : Dev Cert.ReferenceAdamAttnOIdeal.nD,
      r.2.mem ((c.tc : Thread Cert.ReferenceAdamAttnOIdeal.nD Cert.ReferenceAdamAttnOIdeal.τ).loc Cert.ReferenceAdamAttnOIdeal.main_arg0) = m ((c.tc : Thread Cert.ReferenceAdamAttnOIdeal.nD Cert.ReferenceAdamAttnOIdeal.τ).loc Cert.ReferenceAdamAttnOIdeal.main_arg0)
      ∧ r.2.mem ((c.tc : Thread Cert.ReferenceAdamAttnOIdeal.nD Cert.ReferenceAdamAttnOIdeal.τ).loc Cert.ReferenceAdamAttnOIdeal.main_arg1) = m ((c.tc : Thread Cert.ReferenceAdamAttnOIdeal.nD Cert.ReferenceAdamAttnOIdeal.τ).loc Cert.ReferenceAdamAttnOIdeal.main_arg1)
      ∧ r.2.mem ((c.tc : Thread Cert.ReferenceAdamAttnOIdeal.nD Cert.ReferenceAdamAttnOIdeal.τ).loc Cert.ReferenceAdamAttnOIdeal.main_arg2) = m ((c.tc : Thread Cert.ReferenceAdamAttnOIdeal.nD Cert.ReferenceAdamAttnOIdeal.τ).loc Cert.ReferenceAdamAttnOIdeal.main_arg2)
      ∧ r.2.mem ((c.tc : Thread Cert.ReferenceAdamAttnOIdeal.nD Cert.ReferenceAdamAttnOIdeal.τ).loc Cert.ReferenceAdamAttnOIdeal.main_arg3) = m ((c.tc : Thread Cert.ReferenceAdamAttnOIdeal.nD Cert.ReferenceAdamAttnOIdeal.τ).loc Cert.ReferenceAdamAttnOIdeal.main_arg3))
      ∧ r.2.sem = fun _ => 0)

def quiescent_KernelAdamRnnIn [hKernelAdamRnnIn : Cert.KernelAdamRnnIn.Facts] : Prop :=
  ∀ (m : (ℓ : Loc Cert.KernelAdamRnnIn.nD Cert.KernelAdamRnnIn.τ Cert.KernelAdamRnnIn.sig) → Buf (Elt Bits) ℓ) (g : Dev Cert.KernelAdamRnnIn.nD → PrngReg), Pre_KernelAdamRnnIn m →
    θ_run (Cert.KernelAdamRnnIn.defs (F := Bits)) (onTc (τ := Cert.KernelAdamRnnIn.τ) (Cert.KernelAdamRnnIn.main (F := Bits))) ⟨m, fun _ => 0, g⟩ (fun r => (∀ c : Dev Cert.KernelAdamRnnIn.nD,
      r.2.mem ((c.tc : Thread Cert.KernelAdamRnnIn.nD Cert.KernelAdamRnnIn.τ).loc Cert.KernelAdamRnnIn.main_arg0) = m ((c.tc : Thread Cert.KernelAdamRnnIn.nD Cert.KernelAdamRnnIn.τ).loc Cert.KernelAdamRnnIn.main_arg0)
      ∧ r.2.mem ((c.tc : Thread Cert.KernelAdamRnnIn.nD Cert.KernelAdamRnnIn.τ).loc Cert.KernelAdamRnnIn.main_arg1) = m ((c.tc : Thread Cert.KernelAdamRnnIn.nD Cert.KernelAdamRnnIn.τ).loc Cert.KernelAdamRnnIn.main_arg1)
      ∧ r.2.mem ((c.tc : Thread Cert.KernelAdamRnnIn.nD Cert.KernelAdamRnnIn.τ).loc Cert.KernelAdamRnnIn.main_arg2) = m ((c.tc : Thread Cert.KernelAdamRnnIn.nD Cert.KernelAdamRnnIn.τ).loc Cert.KernelAdamRnnIn.main_arg2)
      ∧ r.2.mem ((c.tc : Thread Cert.KernelAdamRnnIn.nD Cert.KernelAdamRnnIn.τ).loc Cert.KernelAdamRnnIn.main_arg3) = m ((c.tc : Thread Cert.KernelAdamRnnIn.nD Cert.KernelAdamRnnIn.τ).loc Cert.KernelAdamRnnIn.main_arg3))
      ∧ r.2.sem = fun _ => 0)

def quiescent_KernelAdamRnnInIdeal [hKernelAdamRnnInIdeal : Cert.KernelAdamRnnInIdeal.Facts] : Prop :=
  ∀ (m : (ℓ : Loc Cert.KernelAdamRnnInIdeal.nD Cert.KernelAdamRnnInIdeal.τ Cert.KernelAdamRnnInIdeal.sig) → Buf (Elt Ideal) ℓ) (g : Dev Cert.KernelAdamRnnInIdeal.nD → PrngReg), Pre_KernelAdamRnnInIdeal m →
    θ_run (Cert.KernelAdamRnnInIdeal.defs (F := Ideal)) (onTc (τ := Cert.KernelAdamRnnInIdeal.τ) (Cert.KernelAdamRnnInIdeal.main (F := Ideal))) ⟨m, fun _ => 0, g⟩ (fun r => (∀ c : Dev Cert.KernelAdamRnnInIdeal.nD,
      r.2.mem ((c.tc : Thread Cert.KernelAdamRnnInIdeal.nD Cert.KernelAdamRnnInIdeal.τ).loc Cert.KernelAdamRnnInIdeal.main_arg0) = m ((c.tc : Thread Cert.KernelAdamRnnInIdeal.nD Cert.KernelAdamRnnInIdeal.τ).loc Cert.KernelAdamRnnInIdeal.main_arg0)
      ∧ r.2.mem ((c.tc : Thread Cert.KernelAdamRnnInIdeal.nD Cert.KernelAdamRnnInIdeal.τ).loc Cert.KernelAdamRnnInIdeal.main_arg1) = m ((c.tc : Thread Cert.KernelAdamRnnInIdeal.nD Cert.KernelAdamRnnInIdeal.τ).loc Cert.KernelAdamRnnInIdeal.main_arg1)
      ∧ r.2.mem ((c.tc : Thread Cert.KernelAdamRnnInIdeal.nD Cert.KernelAdamRnnInIdeal.τ).loc Cert.KernelAdamRnnInIdeal.main_arg2) = m ((c.tc : Thread Cert.KernelAdamRnnInIdeal.nD Cert.KernelAdamRnnInIdeal.τ).loc Cert.KernelAdamRnnInIdeal.main_arg2)
      ∧ r.2.mem ((c.tc : Thread Cert.KernelAdamRnnInIdeal.nD Cert.KernelAdamRnnInIdeal.τ).loc Cert.KernelAdamRnnInIdeal.main_arg3) = m ((c.tc : Thread Cert.KernelAdamRnnInIdeal.nD Cert.KernelAdamRnnInIdeal.τ).loc Cert.KernelAdamRnnInIdeal.main_arg3))
      ∧ r.2.sem = fun _ => 0)

def quiescent_ReferenceAdamRnnInIdeal [hReferenceAdamRnnInIdeal : Cert.ReferenceAdamRnnInIdeal.Facts] : Prop :=
  ∀ (m : (ℓ : Loc Cert.ReferenceAdamRnnInIdeal.nD Cert.ReferenceAdamRnnInIdeal.τ Cert.ReferenceAdamRnnInIdeal.sig) → Buf (Elt Ideal) ℓ) (g : Dev Cert.ReferenceAdamRnnInIdeal.nD → PrngReg), Pre_ReferenceAdamRnnInIdeal m →
    θ_run (Cert.ReferenceAdamRnnInIdeal.defs (F := Ideal)) (onTc (τ := Cert.ReferenceAdamRnnInIdeal.τ) (Cert.ReferenceAdamRnnInIdeal.main (F := Ideal))) ⟨m, fun _ => 0, g⟩ (fun r => (∀ c : Dev Cert.ReferenceAdamRnnInIdeal.nD,
      r.2.mem ((c.tc : Thread Cert.ReferenceAdamRnnInIdeal.nD Cert.ReferenceAdamRnnInIdeal.τ).loc Cert.ReferenceAdamRnnInIdeal.main_arg0) = m ((c.tc : Thread Cert.ReferenceAdamRnnInIdeal.nD Cert.ReferenceAdamRnnInIdeal.τ).loc Cert.ReferenceAdamRnnInIdeal.main_arg0)
      ∧ r.2.mem ((c.tc : Thread Cert.ReferenceAdamRnnInIdeal.nD Cert.ReferenceAdamRnnInIdeal.τ).loc Cert.ReferenceAdamRnnInIdeal.main_arg1) = m ((c.tc : Thread Cert.ReferenceAdamRnnInIdeal.nD Cert.ReferenceAdamRnnInIdeal.τ).loc Cert.ReferenceAdamRnnInIdeal.main_arg1)
      ∧ r.2.mem ((c.tc : Thread Cert.ReferenceAdamRnnInIdeal.nD Cert.ReferenceAdamRnnInIdeal.τ).loc Cert.ReferenceAdamRnnInIdeal.main_arg2) = m ((c.tc : Thread Cert.ReferenceAdamRnnInIdeal.nD Cert.ReferenceAdamRnnInIdeal.τ).loc Cert.ReferenceAdamRnnInIdeal.main_arg2)
      ∧ r.2.mem ((c.tc : Thread Cert.ReferenceAdamRnnInIdeal.nD Cert.ReferenceAdamRnnInIdeal.τ).loc Cert.ReferenceAdamRnnInIdeal.main_arg3) = m ((c.tc : Thread Cert.ReferenceAdamRnnInIdeal.nD Cert.ReferenceAdamRnnInIdeal.τ).loc Cert.ReferenceAdamRnnInIdeal.main_arg3))
      ∧ r.2.sem = fun _ => 0)

def quiescent_KernelAdamRnnConv [hKernelAdamRnnConv : Cert.KernelAdamRnnConv.Facts] : Prop :=
  ∀ (m : (ℓ : Loc Cert.KernelAdamRnnConv.nD Cert.KernelAdamRnnConv.τ Cert.KernelAdamRnnConv.sig) → Buf (Elt Bits) ℓ) (g : Dev Cert.KernelAdamRnnConv.nD → PrngReg), Pre_KernelAdamRnnConv m →
    θ_run (Cert.KernelAdamRnnConv.defs (F := Bits)) (onTc (τ := Cert.KernelAdamRnnConv.τ) (Cert.KernelAdamRnnConv.main (F := Bits))) ⟨m, fun _ => 0, g⟩ (fun r => (∀ c : Dev Cert.KernelAdamRnnConv.nD,
      r.2.mem ((c.tc : Thread Cert.KernelAdamRnnConv.nD Cert.KernelAdamRnnConv.τ).loc Cert.KernelAdamRnnConv.main_arg0) = m ((c.tc : Thread Cert.KernelAdamRnnConv.nD Cert.KernelAdamRnnConv.τ).loc Cert.KernelAdamRnnConv.main_arg0)
      ∧ r.2.mem ((c.tc : Thread Cert.KernelAdamRnnConv.nD Cert.KernelAdamRnnConv.τ).loc Cert.KernelAdamRnnConv.main_arg1) = m ((c.tc : Thread Cert.KernelAdamRnnConv.nD Cert.KernelAdamRnnConv.τ).loc Cert.KernelAdamRnnConv.main_arg1)
      ∧ r.2.mem ((c.tc : Thread Cert.KernelAdamRnnConv.nD Cert.KernelAdamRnnConv.τ).loc Cert.KernelAdamRnnConv.main_arg2) = m ((c.tc : Thread Cert.KernelAdamRnnConv.nD Cert.KernelAdamRnnConv.τ).loc Cert.KernelAdamRnnConv.main_arg2)
      ∧ r.2.mem ((c.tc : Thread Cert.KernelAdamRnnConv.nD Cert.KernelAdamRnnConv.τ).loc Cert.KernelAdamRnnConv.main_arg3) = m ((c.tc : Thread Cert.KernelAdamRnnConv.nD Cert.KernelAdamRnnConv.τ).loc Cert.KernelAdamRnnConv.main_arg3))
      ∧ r.2.sem = fun _ => 0)

def quiescent_KernelAdamRnnConvIdeal [hKernelAdamRnnConvIdeal : Cert.KernelAdamRnnConvIdeal.Facts] : Prop :=
  ∀ (m : (ℓ : Loc Cert.KernelAdamRnnConvIdeal.nD Cert.KernelAdamRnnConvIdeal.τ Cert.KernelAdamRnnConvIdeal.sig) → Buf (Elt Ideal) ℓ) (g : Dev Cert.KernelAdamRnnConvIdeal.nD → PrngReg), Pre_KernelAdamRnnConvIdeal m →
    θ_run (Cert.KernelAdamRnnConvIdeal.defs (F := Ideal)) (onTc (τ := Cert.KernelAdamRnnConvIdeal.τ) (Cert.KernelAdamRnnConvIdeal.main (F := Ideal))) ⟨m, fun _ => 0, g⟩ (fun r => (∀ c : Dev Cert.KernelAdamRnnConvIdeal.nD,
      r.2.mem ((c.tc : Thread Cert.KernelAdamRnnConvIdeal.nD Cert.KernelAdamRnnConvIdeal.τ).loc Cert.KernelAdamRnnConvIdeal.main_arg0) = m ((c.tc : Thread Cert.KernelAdamRnnConvIdeal.nD Cert.KernelAdamRnnConvIdeal.τ).loc Cert.KernelAdamRnnConvIdeal.main_arg0)
      ∧ r.2.mem ((c.tc : Thread Cert.KernelAdamRnnConvIdeal.nD Cert.KernelAdamRnnConvIdeal.τ).loc Cert.KernelAdamRnnConvIdeal.main_arg1) = m ((c.tc : Thread Cert.KernelAdamRnnConvIdeal.nD Cert.KernelAdamRnnConvIdeal.τ).loc Cert.KernelAdamRnnConvIdeal.main_arg1)
      ∧ r.2.mem ((c.tc : Thread Cert.KernelAdamRnnConvIdeal.nD Cert.KernelAdamRnnConvIdeal.τ).loc Cert.KernelAdamRnnConvIdeal.main_arg2) = m ((c.tc : Thread Cert.KernelAdamRnnConvIdeal.nD Cert.KernelAdamRnnConvIdeal.τ).loc Cert.KernelAdamRnnConvIdeal.main_arg2)
      ∧ r.2.mem ((c.tc : Thread Cert.KernelAdamRnnConvIdeal.nD Cert.KernelAdamRnnConvIdeal.τ).loc Cert.KernelAdamRnnConvIdeal.main_arg3) = m ((c.tc : Thread Cert.KernelAdamRnnConvIdeal.nD Cert.KernelAdamRnnConvIdeal.τ).loc Cert.KernelAdamRnnConvIdeal.main_arg3))
      ∧ r.2.sem = fun _ => 0)

def quiescent_ReferenceAdamRnnConvIdeal [hReferenceAdamRnnConvIdeal : Cert.ReferenceAdamRnnConvIdeal.Facts] : Prop :=
  ∀ (m : (ℓ : Loc Cert.ReferenceAdamRnnConvIdeal.nD Cert.ReferenceAdamRnnConvIdeal.τ Cert.ReferenceAdamRnnConvIdeal.sig) → Buf (Elt Ideal) ℓ) (g : Dev Cert.ReferenceAdamRnnConvIdeal.nD → PrngReg), Pre_ReferenceAdamRnnConvIdeal m →
    θ_run (Cert.ReferenceAdamRnnConvIdeal.defs (F := Ideal)) (onTc (τ := Cert.ReferenceAdamRnnConvIdeal.τ) (Cert.ReferenceAdamRnnConvIdeal.main (F := Ideal))) ⟨m, fun _ => 0, g⟩ (fun r => (∀ c : Dev Cert.ReferenceAdamRnnConvIdeal.nD,
      r.2.mem ((c.tc : Thread Cert.ReferenceAdamRnnConvIdeal.nD Cert.ReferenceAdamRnnConvIdeal.τ).loc Cert.ReferenceAdamRnnConvIdeal.main_arg0) = m ((c.tc : Thread Cert.ReferenceAdamRnnConvIdeal.nD Cert.ReferenceAdamRnnConvIdeal.τ).loc Cert.ReferenceAdamRnnConvIdeal.main_arg0)
      ∧ r.2.mem ((c.tc : Thread Cert.ReferenceAdamRnnConvIdeal.nD Cert.ReferenceAdamRnnConvIdeal.τ).loc Cert.ReferenceAdamRnnConvIdeal.main_arg1) = m ((c.tc : Thread Cert.ReferenceAdamRnnConvIdeal.nD Cert.ReferenceAdamRnnConvIdeal.τ).loc Cert.ReferenceAdamRnnConvIdeal.main_arg1)
      ∧ r.2.mem ((c.tc : Thread Cert.ReferenceAdamRnnConvIdeal.nD Cert.ReferenceAdamRnnConvIdeal.τ).loc Cert.ReferenceAdamRnnConvIdeal.main_arg2) = m ((c.tc : Thread Cert.ReferenceAdamRnnConvIdeal.nD Cert.ReferenceAdamRnnConvIdeal.τ).loc Cert.ReferenceAdamRnnConvIdeal.main_arg2)
      ∧ r.2.mem ((c.tc : Thread Cert.ReferenceAdamRnnConvIdeal.nD Cert.ReferenceAdamRnnConvIdeal.τ).loc Cert.ReferenceAdamRnnConvIdeal.main_arg3) = m ((c.tc : Thread Cert.ReferenceAdamRnnConvIdeal.nD Cert.ReferenceAdamRnnConvIdeal.τ).loc Cert.ReferenceAdamRnnConvIdeal.main_arg3))
      ∧ r.2.sem = fun _ => 0)

def quiescent_KernelAdamRnnVec [hKernelAdamRnnVec : Cert.KernelAdamRnnVec.Facts] : Prop :=
  ∀ (m : (ℓ : Loc Cert.KernelAdamRnnVec.nD Cert.KernelAdamRnnVec.τ Cert.KernelAdamRnnVec.sig) → Buf (Elt Bits) ℓ) (g : Dev Cert.KernelAdamRnnVec.nD → PrngReg), Pre_KernelAdamRnnVec m →
    θ_run (Cert.KernelAdamRnnVec.defs (F := Bits)) (onTc (τ := Cert.KernelAdamRnnVec.τ) (Cert.KernelAdamRnnVec.main (F := Bits))) ⟨m, fun _ => 0, g⟩ (fun r => (∀ c : Dev Cert.KernelAdamRnnVec.nD,
      r.2.mem ((c.tc : Thread Cert.KernelAdamRnnVec.nD Cert.KernelAdamRnnVec.τ).loc Cert.KernelAdamRnnVec.main_arg0) = m ((c.tc : Thread Cert.KernelAdamRnnVec.nD Cert.KernelAdamRnnVec.τ).loc Cert.KernelAdamRnnVec.main_arg0)
      ∧ r.2.mem ((c.tc : Thread Cert.KernelAdamRnnVec.nD Cert.KernelAdamRnnVec.τ).loc Cert.KernelAdamRnnVec.main_arg1) = m ((c.tc : Thread Cert.KernelAdamRnnVec.nD Cert.KernelAdamRnnVec.τ).loc Cert.KernelAdamRnnVec.main_arg1)
      ∧ r.2.mem ((c.tc : Thread Cert.KernelAdamRnnVec.nD Cert.KernelAdamRnnVec.τ).loc Cert.KernelAdamRnnVec.main_arg2) = m ((c.tc : Thread Cert.KernelAdamRnnVec.nD Cert.KernelAdamRnnVec.τ).loc Cert.KernelAdamRnnVec.main_arg2)
      ∧ r.2.mem ((c.tc : Thread Cert.KernelAdamRnnVec.nD Cert.KernelAdamRnnVec.τ).loc Cert.KernelAdamRnnVec.main_arg3) = m ((c.tc : Thread Cert.KernelAdamRnnVec.nD Cert.KernelAdamRnnVec.τ).loc Cert.KernelAdamRnnVec.main_arg3))
      ∧ r.2.sem = fun _ => 0)

def quiescent_KernelAdamRnnVecIdeal [hKernelAdamRnnVecIdeal : Cert.KernelAdamRnnVecIdeal.Facts] : Prop :=
  ∀ (m : (ℓ : Loc Cert.KernelAdamRnnVecIdeal.nD Cert.KernelAdamRnnVecIdeal.τ Cert.KernelAdamRnnVecIdeal.sig) → Buf (Elt Ideal) ℓ) (g : Dev Cert.KernelAdamRnnVecIdeal.nD → PrngReg), Pre_KernelAdamRnnVecIdeal m →
    θ_run (Cert.KernelAdamRnnVecIdeal.defs (F := Ideal)) (onTc (τ := Cert.KernelAdamRnnVecIdeal.τ) (Cert.KernelAdamRnnVecIdeal.main (F := Ideal))) ⟨m, fun _ => 0, g⟩ (fun r => (∀ c : Dev Cert.KernelAdamRnnVecIdeal.nD,
      r.2.mem ((c.tc : Thread Cert.KernelAdamRnnVecIdeal.nD Cert.KernelAdamRnnVecIdeal.τ).loc Cert.KernelAdamRnnVecIdeal.main_arg0) = m ((c.tc : Thread Cert.KernelAdamRnnVecIdeal.nD Cert.KernelAdamRnnVecIdeal.τ).loc Cert.KernelAdamRnnVecIdeal.main_arg0)
      ∧ r.2.mem ((c.tc : Thread Cert.KernelAdamRnnVecIdeal.nD Cert.KernelAdamRnnVecIdeal.τ).loc Cert.KernelAdamRnnVecIdeal.main_arg1) = m ((c.tc : Thread Cert.KernelAdamRnnVecIdeal.nD Cert.KernelAdamRnnVecIdeal.τ).loc Cert.KernelAdamRnnVecIdeal.main_arg1)
      ∧ r.2.mem ((c.tc : Thread Cert.KernelAdamRnnVecIdeal.nD Cert.KernelAdamRnnVecIdeal.τ).loc Cert.KernelAdamRnnVecIdeal.main_arg2) = m ((c.tc : Thread Cert.KernelAdamRnnVecIdeal.nD Cert.KernelAdamRnnVecIdeal.τ).loc Cert.KernelAdamRnnVecIdeal.main_arg2)
      ∧ r.2.mem ((c.tc : Thread Cert.KernelAdamRnnVecIdeal.nD Cert.KernelAdamRnnVecIdeal.τ).loc Cert.KernelAdamRnnVecIdeal.main_arg3) = m ((c.tc : Thread Cert.KernelAdamRnnVecIdeal.nD Cert.KernelAdamRnnVecIdeal.τ).loc Cert.KernelAdamRnnVecIdeal.main_arg3))
      ∧ r.2.sem = fun _ => 0)

def quiescent_ReferenceAdamRnnVecIdeal [hReferenceAdamRnnVecIdeal : Cert.ReferenceAdamRnnVecIdeal.Facts] : Prop :=
  ∀ (m : (ℓ : Loc Cert.ReferenceAdamRnnVecIdeal.nD Cert.ReferenceAdamRnnVecIdeal.τ Cert.ReferenceAdamRnnVecIdeal.sig) → Buf (Elt Ideal) ℓ) (g : Dev Cert.ReferenceAdamRnnVecIdeal.nD → PrngReg), Pre_ReferenceAdamRnnVecIdeal m →
    θ_run (Cert.ReferenceAdamRnnVecIdeal.defs (F := Ideal)) (onTc (τ := Cert.ReferenceAdamRnnVecIdeal.τ) (Cert.ReferenceAdamRnnVecIdeal.main (F := Ideal))) ⟨m, fun _ => 0, g⟩ (fun r => (∀ c : Dev Cert.ReferenceAdamRnnVecIdeal.nD,
      r.2.mem ((c.tc : Thread Cert.ReferenceAdamRnnVecIdeal.nD Cert.ReferenceAdamRnnVecIdeal.τ).loc Cert.ReferenceAdamRnnVecIdeal.main_arg0) = m ((c.tc : Thread Cert.ReferenceAdamRnnVecIdeal.nD Cert.ReferenceAdamRnnVecIdeal.τ).loc Cert.ReferenceAdamRnnVecIdeal.main_arg0)
      ∧ r.2.mem ((c.tc : Thread Cert.ReferenceAdamRnnVecIdeal.nD Cert.ReferenceAdamRnnVecIdeal.τ).loc Cert.ReferenceAdamRnnVecIdeal.main_arg1) = m ((c.tc : Thread Cert.ReferenceAdamRnnVecIdeal.nD Cert.ReferenceAdamRnnVecIdeal.τ).loc Cert.ReferenceAdamRnnVecIdeal.main_arg1)
      ∧ r.2.mem ((c.tc : Thread Cert.ReferenceAdamRnnVecIdeal.nD Cert.ReferenceAdamRnnVecIdeal.τ).loc Cert.ReferenceAdamRnnVecIdeal.main_arg2) = m ((c.tc : Thread Cert.ReferenceAdamRnnVecIdeal.nD Cert.ReferenceAdamRnnVecIdeal.τ).loc Cert.ReferenceAdamRnnVecIdeal.main_arg2)
      ∧ r.2.mem ((c.tc : Thread Cert.ReferenceAdamRnnVecIdeal.nD Cert.ReferenceAdamRnnVecIdeal.τ).loc Cert.ReferenceAdamRnnVecIdeal.main_arg3) = m ((c.tc : Thread Cert.ReferenceAdamRnnVecIdeal.nD Cert.ReferenceAdamRnnVecIdeal.τ).loc Cert.ReferenceAdamRnnVecIdeal.main_arg3))
      ∧ r.2.sem = fun _ => 0)

def quiescent_KernelAdamGate [hKernelAdamGate : Cert.KernelAdamGate.Facts] : Prop :=
  ∀ (m : (ℓ : Loc Cert.KernelAdamGate.nD Cert.KernelAdamGate.τ Cert.KernelAdamGate.sig) → Buf (Elt Bits) ℓ) (g : Dev Cert.KernelAdamGate.nD → PrngReg), Pre_KernelAdamGate m →
    θ_run (Cert.KernelAdamGate.defs (F := Bits)) (onTc (τ := Cert.KernelAdamGate.τ) (Cert.KernelAdamGate.main (F := Bits))) ⟨m, fun _ => 0, g⟩ (fun r => (∀ c : Dev Cert.KernelAdamGate.nD,
      r.2.mem ((c.tc : Thread Cert.KernelAdamGate.nD Cert.KernelAdamGate.τ).loc Cert.KernelAdamGate.main_arg0) = m ((c.tc : Thread Cert.KernelAdamGate.nD Cert.KernelAdamGate.τ).loc Cert.KernelAdamGate.main_arg0)
      ∧ r.2.mem ((c.tc : Thread Cert.KernelAdamGate.nD Cert.KernelAdamGate.τ).loc Cert.KernelAdamGate.main_arg1) = m ((c.tc : Thread Cert.KernelAdamGate.nD Cert.KernelAdamGate.τ).loc Cert.KernelAdamGate.main_arg1)
      ∧ r.2.mem ((c.tc : Thread Cert.KernelAdamGate.nD Cert.KernelAdamGate.τ).loc Cert.KernelAdamGate.main_arg2) = m ((c.tc : Thread Cert.KernelAdamGate.nD Cert.KernelAdamGate.τ).loc Cert.KernelAdamGate.main_arg2)
      ∧ r.2.mem ((c.tc : Thread Cert.KernelAdamGate.nD Cert.KernelAdamGate.τ).loc Cert.KernelAdamGate.main_arg3) = m ((c.tc : Thread Cert.KernelAdamGate.nD Cert.KernelAdamGate.τ).loc Cert.KernelAdamGate.main_arg3))
      ∧ r.2.sem = fun _ => 0)

def quiescent_KernelAdamGateIdeal [hKernelAdamGateIdeal : Cert.KernelAdamGateIdeal.Facts] : Prop :=
  ∀ (m : (ℓ : Loc Cert.KernelAdamGateIdeal.nD Cert.KernelAdamGateIdeal.τ Cert.KernelAdamGateIdeal.sig) → Buf (Elt Ideal) ℓ) (g : Dev Cert.KernelAdamGateIdeal.nD → PrngReg), Pre_KernelAdamGateIdeal m →
    θ_run (Cert.KernelAdamGateIdeal.defs (F := Ideal)) (onTc (τ := Cert.KernelAdamGateIdeal.τ) (Cert.KernelAdamGateIdeal.main (F := Ideal))) ⟨m, fun _ => 0, g⟩ (fun r => (∀ c : Dev Cert.KernelAdamGateIdeal.nD,
      r.2.mem ((c.tc : Thread Cert.KernelAdamGateIdeal.nD Cert.KernelAdamGateIdeal.τ).loc Cert.KernelAdamGateIdeal.main_arg0) = m ((c.tc : Thread Cert.KernelAdamGateIdeal.nD Cert.KernelAdamGateIdeal.τ).loc Cert.KernelAdamGateIdeal.main_arg0)
      ∧ r.2.mem ((c.tc : Thread Cert.KernelAdamGateIdeal.nD Cert.KernelAdamGateIdeal.τ).loc Cert.KernelAdamGateIdeal.main_arg1) = m ((c.tc : Thread Cert.KernelAdamGateIdeal.nD Cert.KernelAdamGateIdeal.τ).loc Cert.KernelAdamGateIdeal.main_arg1)
      ∧ r.2.mem ((c.tc : Thread Cert.KernelAdamGateIdeal.nD Cert.KernelAdamGateIdeal.τ).loc Cert.KernelAdamGateIdeal.main_arg2) = m ((c.tc : Thread Cert.KernelAdamGateIdeal.nD Cert.KernelAdamGateIdeal.τ).loc Cert.KernelAdamGateIdeal.main_arg2)
      ∧ r.2.mem ((c.tc : Thread Cert.KernelAdamGateIdeal.nD Cert.KernelAdamGateIdeal.τ).loc Cert.KernelAdamGateIdeal.main_arg3) = m ((c.tc : Thread Cert.KernelAdamGateIdeal.nD Cert.KernelAdamGateIdeal.τ).loc Cert.KernelAdamGateIdeal.main_arg3))
      ∧ r.2.sem = fun _ => 0)

def quiescent_ReferenceAdamGateIdeal [hReferenceAdamGateIdeal : Cert.ReferenceAdamGateIdeal.Facts] : Prop :=
  ∀ (m : (ℓ : Loc Cert.ReferenceAdamGateIdeal.nD Cert.ReferenceAdamGateIdeal.τ Cert.ReferenceAdamGateIdeal.sig) → Buf (Elt Ideal) ℓ) (g : Dev Cert.ReferenceAdamGateIdeal.nD → PrngReg), Pre_ReferenceAdamGateIdeal m →
    θ_run (Cert.ReferenceAdamGateIdeal.defs (F := Ideal)) (onTc (τ := Cert.ReferenceAdamGateIdeal.τ) (Cert.ReferenceAdamGateIdeal.main (F := Ideal))) ⟨m, fun _ => 0, g⟩ (fun r => (∀ c : Dev Cert.ReferenceAdamGateIdeal.nD,
      r.2.mem ((c.tc : Thread Cert.ReferenceAdamGateIdeal.nD Cert.ReferenceAdamGateIdeal.τ).loc Cert.ReferenceAdamGateIdeal.main_arg0) = m ((c.tc : Thread Cert.ReferenceAdamGateIdeal.nD Cert.ReferenceAdamGateIdeal.τ).loc Cert.ReferenceAdamGateIdeal.main_arg0)
      ∧ r.2.mem ((c.tc : Thread Cert.ReferenceAdamGateIdeal.nD Cert.ReferenceAdamGateIdeal.τ).loc Cert.ReferenceAdamGateIdeal.main_arg1) = m ((c.tc : Thread Cert.ReferenceAdamGateIdeal.nD Cert.ReferenceAdamGateIdeal.τ).loc Cert.ReferenceAdamGateIdeal.main_arg1)
      ∧ r.2.mem ((c.tc : Thread Cert.ReferenceAdamGateIdeal.nD Cert.ReferenceAdamGateIdeal.τ).loc Cert.ReferenceAdamGateIdeal.main_arg2) = m ((c.tc : Thread Cert.ReferenceAdamGateIdeal.nD Cert.ReferenceAdamGateIdeal.τ).loc Cert.ReferenceAdamGateIdeal.main_arg2)
      ∧ r.2.mem ((c.tc : Thread Cert.ReferenceAdamGateIdeal.nD Cert.ReferenceAdamGateIdeal.τ).loc Cert.ReferenceAdamGateIdeal.main_arg3) = m ((c.tc : Thread Cert.ReferenceAdamGateIdeal.nD Cert.ReferenceAdamGateIdeal.τ).loc Cert.ReferenceAdamGateIdeal.main_arg3))
      ∧ r.2.sem = fun _ => 0)

def quiescent_KernelAdamRnnOut [hKernelAdamRnnOut : Cert.KernelAdamRnnOut.Facts] : Prop :=
  ∀ (m : (ℓ : Loc Cert.KernelAdamRnnOut.nD Cert.KernelAdamRnnOut.τ Cert.KernelAdamRnnOut.sig) → Buf (Elt Bits) ℓ) (g : Dev Cert.KernelAdamRnnOut.nD → PrngReg), Pre_KernelAdamRnnOut m →
    θ_run (Cert.KernelAdamRnnOut.defs (F := Bits)) (onTc (τ := Cert.KernelAdamRnnOut.τ) (Cert.KernelAdamRnnOut.main (F := Bits))) ⟨m, fun _ => 0, g⟩ (fun r => (∀ c : Dev Cert.KernelAdamRnnOut.nD,
      r.2.mem ((c.tc : Thread Cert.KernelAdamRnnOut.nD Cert.KernelAdamRnnOut.τ).loc Cert.KernelAdamRnnOut.main_arg0) = m ((c.tc : Thread Cert.KernelAdamRnnOut.nD Cert.KernelAdamRnnOut.τ).loc Cert.KernelAdamRnnOut.main_arg0)
      ∧ r.2.mem ((c.tc : Thread Cert.KernelAdamRnnOut.nD Cert.KernelAdamRnnOut.τ).loc Cert.KernelAdamRnnOut.main_arg1) = m ((c.tc : Thread Cert.KernelAdamRnnOut.nD Cert.KernelAdamRnnOut.τ).loc Cert.KernelAdamRnnOut.main_arg1)
      ∧ r.2.mem ((c.tc : Thread Cert.KernelAdamRnnOut.nD Cert.KernelAdamRnnOut.τ).loc Cert.KernelAdamRnnOut.main_arg2) = m ((c.tc : Thread Cert.KernelAdamRnnOut.nD Cert.KernelAdamRnnOut.τ).loc Cert.KernelAdamRnnOut.main_arg2)
      ∧ r.2.mem ((c.tc : Thread Cert.KernelAdamRnnOut.nD Cert.KernelAdamRnnOut.τ).loc Cert.KernelAdamRnnOut.main_arg3) = m ((c.tc : Thread Cert.KernelAdamRnnOut.nD Cert.KernelAdamRnnOut.τ).loc Cert.KernelAdamRnnOut.main_arg3))
      ∧ r.2.sem = fun _ => 0)

def quiescent_KernelAdamRnnOutIdeal [hKernelAdamRnnOutIdeal : Cert.KernelAdamRnnOutIdeal.Facts] : Prop :=
  ∀ (m : (ℓ : Loc Cert.KernelAdamRnnOutIdeal.nD Cert.KernelAdamRnnOutIdeal.τ Cert.KernelAdamRnnOutIdeal.sig) → Buf (Elt Ideal) ℓ) (g : Dev Cert.KernelAdamRnnOutIdeal.nD → PrngReg), Pre_KernelAdamRnnOutIdeal m →
    θ_run (Cert.KernelAdamRnnOutIdeal.defs (F := Ideal)) (onTc (τ := Cert.KernelAdamRnnOutIdeal.τ) (Cert.KernelAdamRnnOutIdeal.main (F := Ideal))) ⟨m, fun _ => 0, g⟩ (fun r => (∀ c : Dev Cert.KernelAdamRnnOutIdeal.nD,
      r.2.mem ((c.tc : Thread Cert.KernelAdamRnnOutIdeal.nD Cert.KernelAdamRnnOutIdeal.τ).loc Cert.KernelAdamRnnOutIdeal.main_arg0) = m ((c.tc : Thread Cert.KernelAdamRnnOutIdeal.nD Cert.KernelAdamRnnOutIdeal.τ).loc Cert.KernelAdamRnnOutIdeal.main_arg0)
      ∧ r.2.mem ((c.tc : Thread Cert.KernelAdamRnnOutIdeal.nD Cert.KernelAdamRnnOutIdeal.τ).loc Cert.KernelAdamRnnOutIdeal.main_arg1) = m ((c.tc : Thread Cert.KernelAdamRnnOutIdeal.nD Cert.KernelAdamRnnOutIdeal.τ).loc Cert.KernelAdamRnnOutIdeal.main_arg1)
      ∧ r.2.mem ((c.tc : Thread Cert.KernelAdamRnnOutIdeal.nD Cert.KernelAdamRnnOutIdeal.τ).loc Cert.KernelAdamRnnOutIdeal.main_arg2) = m ((c.tc : Thread Cert.KernelAdamRnnOutIdeal.nD Cert.KernelAdamRnnOutIdeal.τ).loc Cert.KernelAdamRnnOutIdeal.main_arg2)
      ∧ r.2.mem ((c.tc : Thread Cert.KernelAdamRnnOutIdeal.nD Cert.KernelAdamRnnOutIdeal.τ).loc Cert.KernelAdamRnnOutIdeal.main_arg3) = m ((c.tc : Thread Cert.KernelAdamRnnOutIdeal.nD Cert.KernelAdamRnnOutIdeal.τ).loc Cert.KernelAdamRnnOutIdeal.main_arg3))
      ∧ r.2.sem = fun _ => 0)

def quiescent_ReferenceAdamRnnOutIdeal [hReferenceAdamRnnOutIdeal : Cert.ReferenceAdamRnnOutIdeal.Facts] : Prop :=
  ∀ (m : (ℓ : Loc Cert.ReferenceAdamRnnOutIdeal.nD Cert.ReferenceAdamRnnOutIdeal.τ Cert.ReferenceAdamRnnOutIdeal.sig) → Buf (Elt Ideal) ℓ) (g : Dev Cert.ReferenceAdamRnnOutIdeal.nD → PrngReg), Pre_ReferenceAdamRnnOutIdeal m →
    θ_run (Cert.ReferenceAdamRnnOutIdeal.defs (F := Ideal)) (onTc (τ := Cert.ReferenceAdamRnnOutIdeal.τ) (Cert.ReferenceAdamRnnOutIdeal.main (F := Ideal))) ⟨m, fun _ => 0, g⟩ (fun r => (∀ c : Dev Cert.ReferenceAdamRnnOutIdeal.nD,
      r.2.mem ((c.tc : Thread Cert.ReferenceAdamRnnOutIdeal.nD Cert.ReferenceAdamRnnOutIdeal.τ).loc Cert.ReferenceAdamRnnOutIdeal.main_arg0) = m ((c.tc : Thread Cert.ReferenceAdamRnnOutIdeal.nD Cert.ReferenceAdamRnnOutIdeal.τ).loc Cert.ReferenceAdamRnnOutIdeal.main_arg0)
      ∧ r.2.mem ((c.tc : Thread Cert.ReferenceAdamRnnOutIdeal.nD Cert.ReferenceAdamRnnOutIdeal.τ).loc Cert.ReferenceAdamRnnOutIdeal.main_arg1) = m ((c.tc : Thread Cert.ReferenceAdamRnnOutIdeal.nD Cert.ReferenceAdamRnnOutIdeal.τ).loc Cert.ReferenceAdamRnnOutIdeal.main_arg1)
      ∧ r.2.mem ((c.tc : Thread Cert.ReferenceAdamRnnOutIdeal.nD Cert.ReferenceAdamRnnOutIdeal.τ).loc Cert.ReferenceAdamRnnOutIdeal.main_arg2) = m ((c.tc : Thread Cert.ReferenceAdamRnnOutIdeal.nD Cert.ReferenceAdamRnnOutIdeal.τ).loc Cert.ReferenceAdamRnnOutIdeal.main_arg2)
      ∧ r.2.mem ((c.tc : Thread Cert.ReferenceAdamRnnOutIdeal.nD Cert.ReferenceAdamRnnOutIdeal.τ).loc Cert.ReferenceAdamRnnOutIdeal.main_arg3) = m ((c.tc : Thread Cert.ReferenceAdamRnnOutIdeal.nD Cert.ReferenceAdamRnnOutIdeal.τ).loc Cert.ReferenceAdamRnnOutIdeal.main_arg3))
      ∧ r.2.sem = fun _ => 0)

def quiescent_KernelAdamFfnUp [hKernelAdamFfnUp : Cert.KernelAdamFfnUp.Facts] : Prop :=
  ∀ (m : (ℓ : Loc Cert.KernelAdamFfnUp.nD Cert.KernelAdamFfnUp.τ Cert.KernelAdamFfnUp.sig) → Buf (Elt Bits) ℓ) (g : Dev Cert.KernelAdamFfnUp.nD → PrngReg), Pre_KernelAdamFfnUp m →
    θ_run (Cert.KernelAdamFfnUp.defs (F := Bits)) (onTc (τ := Cert.KernelAdamFfnUp.τ) (Cert.KernelAdamFfnUp.main (F := Bits))) ⟨m, fun _ => 0, g⟩ (fun r => (∀ c : Dev Cert.KernelAdamFfnUp.nD,
      r.2.mem ((c.tc : Thread Cert.KernelAdamFfnUp.nD Cert.KernelAdamFfnUp.τ).loc Cert.KernelAdamFfnUp.main_arg0) = m ((c.tc : Thread Cert.KernelAdamFfnUp.nD Cert.KernelAdamFfnUp.τ).loc Cert.KernelAdamFfnUp.main_arg0)
      ∧ r.2.mem ((c.tc : Thread Cert.KernelAdamFfnUp.nD Cert.KernelAdamFfnUp.τ).loc Cert.KernelAdamFfnUp.main_arg1) = m ((c.tc : Thread Cert.KernelAdamFfnUp.nD Cert.KernelAdamFfnUp.τ).loc Cert.KernelAdamFfnUp.main_arg1)
      ∧ r.2.mem ((c.tc : Thread Cert.KernelAdamFfnUp.nD Cert.KernelAdamFfnUp.τ).loc Cert.KernelAdamFfnUp.main_arg2) = m ((c.tc : Thread Cert.KernelAdamFfnUp.nD Cert.KernelAdamFfnUp.τ).loc Cert.KernelAdamFfnUp.main_arg2)
      ∧ r.2.mem ((c.tc : Thread Cert.KernelAdamFfnUp.nD Cert.KernelAdamFfnUp.τ).loc Cert.KernelAdamFfnUp.main_arg3) = m ((c.tc : Thread Cert.KernelAdamFfnUp.nD Cert.KernelAdamFfnUp.τ).loc Cert.KernelAdamFfnUp.main_arg3))
      ∧ r.2.sem = fun _ => 0)

def quiescent_KernelAdamFfnUpIdeal [hKernelAdamFfnUpIdeal : Cert.KernelAdamFfnUpIdeal.Facts] : Prop :=
  ∀ (m : (ℓ : Loc Cert.KernelAdamFfnUpIdeal.nD Cert.KernelAdamFfnUpIdeal.τ Cert.KernelAdamFfnUpIdeal.sig) → Buf (Elt Ideal) ℓ) (g : Dev Cert.KernelAdamFfnUpIdeal.nD → PrngReg), Pre_KernelAdamFfnUpIdeal m →
    θ_run (Cert.KernelAdamFfnUpIdeal.defs (F := Ideal)) (onTc (τ := Cert.KernelAdamFfnUpIdeal.τ) (Cert.KernelAdamFfnUpIdeal.main (F := Ideal))) ⟨m, fun _ => 0, g⟩ (fun r => (∀ c : Dev Cert.KernelAdamFfnUpIdeal.nD,
      r.2.mem ((c.tc : Thread Cert.KernelAdamFfnUpIdeal.nD Cert.KernelAdamFfnUpIdeal.τ).loc Cert.KernelAdamFfnUpIdeal.main_arg0) = m ((c.tc : Thread Cert.KernelAdamFfnUpIdeal.nD Cert.KernelAdamFfnUpIdeal.τ).loc Cert.KernelAdamFfnUpIdeal.main_arg0)
      ∧ r.2.mem ((c.tc : Thread Cert.KernelAdamFfnUpIdeal.nD Cert.KernelAdamFfnUpIdeal.τ).loc Cert.KernelAdamFfnUpIdeal.main_arg1) = m ((c.tc : Thread Cert.KernelAdamFfnUpIdeal.nD Cert.KernelAdamFfnUpIdeal.τ).loc Cert.KernelAdamFfnUpIdeal.main_arg1)
      ∧ r.2.mem ((c.tc : Thread Cert.KernelAdamFfnUpIdeal.nD Cert.KernelAdamFfnUpIdeal.τ).loc Cert.KernelAdamFfnUpIdeal.main_arg2) = m ((c.tc : Thread Cert.KernelAdamFfnUpIdeal.nD Cert.KernelAdamFfnUpIdeal.τ).loc Cert.KernelAdamFfnUpIdeal.main_arg2)
      ∧ r.2.mem ((c.tc : Thread Cert.KernelAdamFfnUpIdeal.nD Cert.KernelAdamFfnUpIdeal.τ).loc Cert.KernelAdamFfnUpIdeal.main_arg3) = m ((c.tc : Thread Cert.KernelAdamFfnUpIdeal.nD Cert.KernelAdamFfnUpIdeal.τ).loc Cert.KernelAdamFfnUpIdeal.main_arg3))
      ∧ r.2.sem = fun _ => 0)

def quiescent_ReferenceAdamFfnUpIdeal [hReferenceAdamFfnUpIdeal : Cert.ReferenceAdamFfnUpIdeal.Facts] : Prop :=
  ∀ (m : (ℓ : Loc Cert.ReferenceAdamFfnUpIdeal.nD Cert.ReferenceAdamFfnUpIdeal.τ Cert.ReferenceAdamFfnUpIdeal.sig) → Buf (Elt Ideal) ℓ) (g : Dev Cert.ReferenceAdamFfnUpIdeal.nD → PrngReg), Pre_ReferenceAdamFfnUpIdeal m →
    θ_run (Cert.ReferenceAdamFfnUpIdeal.defs (F := Ideal)) (onTc (τ := Cert.ReferenceAdamFfnUpIdeal.τ) (Cert.ReferenceAdamFfnUpIdeal.main (F := Ideal))) ⟨m, fun _ => 0, g⟩ (fun r => (∀ c : Dev Cert.ReferenceAdamFfnUpIdeal.nD,
      r.2.mem ((c.tc : Thread Cert.ReferenceAdamFfnUpIdeal.nD Cert.ReferenceAdamFfnUpIdeal.τ).loc Cert.ReferenceAdamFfnUpIdeal.main_arg0) = m ((c.tc : Thread Cert.ReferenceAdamFfnUpIdeal.nD Cert.ReferenceAdamFfnUpIdeal.τ).loc Cert.ReferenceAdamFfnUpIdeal.main_arg0)
      ∧ r.2.mem ((c.tc : Thread Cert.ReferenceAdamFfnUpIdeal.nD Cert.ReferenceAdamFfnUpIdeal.τ).loc Cert.ReferenceAdamFfnUpIdeal.main_arg1) = m ((c.tc : Thread Cert.ReferenceAdamFfnUpIdeal.nD Cert.ReferenceAdamFfnUpIdeal.τ).loc Cert.ReferenceAdamFfnUpIdeal.main_arg1)
      ∧ r.2.mem ((c.tc : Thread Cert.ReferenceAdamFfnUpIdeal.nD Cert.ReferenceAdamFfnUpIdeal.τ).loc Cert.ReferenceAdamFfnUpIdeal.main_arg2) = m ((c.tc : Thread Cert.ReferenceAdamFfnUpIdeal.nD Cert.ReferenceAdamFfnUpIdeal.τ).loc Cert.ReferenceAdamFfnUpIdeal.main_arg2)
      ∧ r.2.mem ((c.tc : Thread Cert.ReferenceAdamFfnUpIdeal.nD Cert.ReferenceAdamFfnUpIdeal.τ).loc Cert.ReferenceAdamFfnUpIdeal.main_arg3) = m ((c.tc : Thread Cert.ReferenceAdamFfnUpIdeal.nD Cert.ReferenceAdamFfnUpIdeal.τ).loc Cert.ReferenceAdamFfnUpIdeal.main_arg3))
      ∧ r.2.sem = fun _ => 0)

def quiescent_KernelAdamFfnConv [hKernelAdamFfnConv : Cert.KernelAdamFfnConv.Facts] : Prop :=
  ∀ (m : (ℓ : Loc Cert.KernelAdamFfnConv.nD Cert.KernelAdamFfnConv.τ Cert.KernelAdamFfnConv.sig) → Buf (Elt Bits) ℓ) (g : Dev Cert.KernelAdamFfnConv.nD → PrngReg), Pre_KernelAdamFfnConv m →
    θ_run (Cert.KernelAdamFfnConv.defs (F := Bits)) (onTc (τ := Cert.KernelAdamFfnConv.τ) (Cert.KernelAdamFfnConv.main (F := Bits))) ⟨m, fun _ => 0, g⟩ (fun r => (∀ c : Dev Cert.KernelAdamFfnConv.nD,
      r.2.mem ((c.tc : Thread Cert.KernelAdamFfnConv.nD Cert.KernelAdamFfnConv.τ).loc Cert.KernelAdamFfnConv.main_arg0) = m ((c.tc : Thread Cert.KernelAdamFfnConv.nD Cert.KernelAdamFfnConv.τ).loc Cert.KernelAdamFfnConv.main_arg0)
      ∧ r.2.mem ((c.tc : Thread Cert.KernelAdamFfnConv.nD Cert.KernelAdamFfnConv.τ).loc Cert.KernelAdamFfnConv.main_arg1) = m ((c.tc : Thread Cert.KernelAdamFfnConv.nD Cert.KernelAdamFfnConv.τ).loc Cert.KernelAdamFfnConv.main_arg1)
      ∧ r.2.mem ((c.tc : Thread Cert.KernelAdamFfnConv.nD Cert.KernelAdamFfnConv.τ).loc Cert.KernelAdamFfnConv.main_arg2) = m ((c.tc : Thread Cert.KernelAdamFfnConv.nD Cert.KernelAdamFfnConv.τ).loc Cert.KernelAdamFfnConv.main_arg2)
      ∧ r.2.mem ((c.tc : Thread Cert.KernelAdamFfnConv.nD Cert.KernelAdamFfnConv.τ).loc Cert.KernelAdamFfnConv.main_arg3) = m ((c.tc : Thread Cert.KernelAdamFfnConv.nD Cert.KernelAdamFfnConv.τ).loc Cert.KernelAdamFfnConv.main_arg3))
      ∧ r.2.sem = fun _ => 0)

def quiescent_KernelAdamFfnConvIdeal [hKernelAdamFfnConvIdeal : Cert.KernelAdamFfnConvIdeal.Facts] : Prop :=
  ∀ (m : (ℓ : Loc Cert.KernelAdamFfnConvIdeal.nD Cert.KernelAdamFfnConvIdeal.τ Cert.KernelAdamFfnConvIdeal.sig) → Buf (Elt Ideal) ℓ) (g : Dev Cert.KernelAdamFfnConvIdeal.nD → PrngReg), Pre_KernelAdamFfnConvIdeal m →
    θ_run (Cert.KernelAdamFfnConvIdeal.defs (F := Ideal)) (onTc (τ := Cert.KernelAdamFfnConvIdeal.τ) (Cert.KernelAdamFfnConvIdeal.main (F := Ideal))) ⟨m, fun _ => 0, g⟩ (fun r => (∀ c : Dev Cert.KernelAdamFfnConvIdeal.nD,
      r.2.mem ((c.tc : Thread Cert.KernelAdamFfnConvIdeal.nD Cert.KernelAdamFfnConvIdeal.τ).loc Cert.KernelAdamFfnConvIdeal.main_arg0) = m ((c.tc : Thread Cert.KernelAdamFfnConvIdeal.nD Cert.KernelAdamFfnConvIdeal.τ).loc Cert.KernelAdamFfnConvIdeal.main_arg0)
      ∧ r.2.mem ((c.tc : Thread Cert.KernelAdamFfnConvIdeal.nD Cert.KernelAdamFfnConvIdeal.τ).loc Cert.KernelAdamFfnConvIdeal.main_arg1) = m ((c.tc : Thread Cert.KernelAdamFfnConvIdeal.nD Cert.KernelAdamFfnConvIdeal.τ).loc Cert.KernelAdamFfnConvIdeal.main_arg1)
      ∧ r.2.mem ((c.tc : Thread Cert.KernelAdamFfnConvIdeal.nD Cert.KernelAdamFfnConvIdeal.τ).loc Cert.KernelAdamFfnConvIdeal.main_arg2) = m ((c.tc : Thread Cert.KernelAdamFfnConvIdeal.nD Cert.KernelAdamFfnConvIdeal.τ).loc Cert.KernelAdamFfnConvIdeal.main_arg2)
      ∧ r.2.mem ((c.tc : Thread Cert.KernelAdamFfnConvIdeal.nD Cert.KernelAdamFfnConvIdeal.τ).loc Cert.KernelAdamFfnConvIdeal.main_arg3) = m ((c.tc : Thread Cert.KernelAdamFfnConvIdeal.nD Cert.KernelAdamFfnConvIdeal.τ).loc Cert.KernelAdamFfnConvIdeal.main_arg3))
      ∧ r.2.sem = fun _ => 0)

def quiescent_ReferenceAdamFfnConvIdeal [hReferenceAdamFfnConvIdeal : Cert.ReferenceAdamFfnConvIdeal.Facts] : Prop :=
  ∀ (m : (ℓ : Loc Cert.ReferenceAdamFfnConvIdeal.nD Cert.ReferenceAdamFfnConvIdeal.τ Cert.ReferenceAdamFfnConvIdeal.sig) → Buf (Elt Ideal) ℓ) (g : Dev Cert.ReferenceAdamFfnConvIdeal.nD → PrngReg), Pre_ReferenceAdamFfnConvIdeal m →
    θ_run (Cert.ReferenceAdamFfnConvIdeal.defs (F := Ideal)) (onTc (τ := Cert.ReferenceAdamFfnConvIdeal.τ) (Cert.ReferenceAdamFfnConvIdeal.main (F := Ideal))) ⟨m, fun _ => 0, g⟩ (fun r => (∀ c : Dev Cert.ReferenceAdamFfnConvIdeal.nD,
      r.2.mem ((c.tc : Thread Cert.ReferenceAdamFfnConvIdeal.nD Cert.ReferenceAdamFfnConvIdeal.τ).loc Cert.ReferenceAdamFfnConvIdeal.main_arg0) = m ((c.tc : Thread Cert.ReferenceAdamFfnConvIdeal.nD Cert.ReferenceAdamFfnConvIdeal.τ).loc Cert.ReferenceAdamFfnConvIdeal.main_arg0)
      ∧ r.2.mem ((c.tc : Thread Cert.ReferenceAdamFfnConvIdeal.nD Cert.ReferenceAdamFfnConvIdeal.τ).loc Cert.ReferenceAdamFfnConvIdeal.main_arg1) = m ((c.tc : Thread Cert.ReferenceAdamFfnConvIdeal.nD Cert.ReferenceAdamFfnConvIdeal.τ).loc Cert.ReferenceAdamFfnConvIdeal.main_arg1)
      ∧ r.2.mem ((c.tc : Thread Cert.ReferenceAdamFfnConvIdeal.nD Cert.ReferenceAdamFfnConvIdeal.τ).loc Cert.ReferenceAdamFfnConvIdeal.main_arg2) = m ((c.tc : Thread Cert.ReferenceAdamFfnConvIdeal.nD Cert.ReferenceAdamFfnConvIdeal.τ).loc Cert.ReferenceAdamFfnConvIdeal.main_arg2)
      ∧ r.2.mem ((c.tc : Thread Cert.ReferenceAdamFfnConvIdeal.nD Cert.ReferenceAdamFfnConvIdeal.τ).loc Cert.ReferenceAdamFfnConvIdeal.main_arg3) = m ((c.tc : Thread Cert.ReferenceAdamFfnConvIdeal.nD Cert.ReferenceAdamFfnConvIdeal.τ).loc Cert.ReferenceAdamFfnConvIdeal.main_arg3))
      ∧ r.2.sem = fun _ => 0)

def quiescent_KernelAdamFfnBias [hKernelAdamFfnBias : Cert.KernelAdamFfnBias.Facts] : Prop :=
  ∀ (m : (ℓ : Loc Cert.KernelAdamFfnBias.nD Cert.KernelAdamFfnBias.τ Cert.KernelAdamFfnBias.sig) → Buf (Elt Bits) ℓ) (g : Dev Cert.KernelAdamFfnBias.nD → PrngReg), Pre_KernelAdamFfnBias m →
    θ_run (Cert.KernelAdamFfnBias.defs (F := Bits)) (onTc (τ := Cert.KernelAdamFfnBias.τ) (Cert.KernelAdamFfnBias.main (F := Bits))) ⟨m, fun _ => 0, g⟩ (fun r => (∀ c : Dev Cert.KernelAdamFfnBias.nD,
      r.2.mem ((c.tc : Thread Cert.KernelAdamFfnBias.nD Cert.KernelAdamFfnBias.τ).loc Cert.KernelAdamFfnBias.main_arg0) = m ((c.tc : Thread Cert.KernelAdamFfnBias.nD Cert.KernelAdamFfnBias.τ).loc Cert.KernelAdamFfnBias.main_arg0)
      ∧ r.2.mem ((c.tc : Thread Cert.KernelAdamFfnBias.nD Cert.KernelAdamFfnBias.τ).loc Cert.KernelAdamFfnBias.main_arg1) = m ((c.tc : Thread Cert.KernelAdamFfnBias.nD Cert.KernelAdamFfnBias.τ).loc Cert.KernelAdamFfnBias.main_arg1)
      ∧ r.2.mem ((c.tc : Thread Cert.KernelAdamFfnBias.nD Cert.KernelAdamFfnBias.τ).loc Cert.KernelAdamFfnBias.main_arg2) = m ((c.tc : Thread Cert.KernelAdamFfnBias.nD Cert.KernelAdamFfnBias.τ).loc Cert.KernelAdamFfnBias.main_arg2)
      ∧ r.2.mem ((c.tc : Thread Cert.KernelAdamFfnBias.nD Cert.KernelAdamFfnBias.τ).loc Cert.KernelAdamFfnBias.main_arg3) = m ((c.tc : Thread Cert.KernelAdamFfnBias.nD Cert.KernelAdamFfnBias.τ).loc Cert.KernelAdamFfnBias.main_arg3))
      ∧ r.2.sem = fun _ => 0)

def quiescent_KernelAdamFfnBiasIdeal [hKernelAdamFfnBiasIdeal : Cert.KernelAdamFfnBiasIdeal.Facts] : Prop :=
  ∀ (m : (ℓ : Loc Cert.KernelAdamFfnBiasIdeal.nD Cert.KernelAdamFfnBiasIdeal.τ Cert.KernelAdamFfnBiasIdeal.sig) → Buf (Elt Ideal) ℓ) (g : Dev Cert.KernelAdamFfnBiasIdeal.nD → PrngReg), Pre_KernelAdamFfnBiasIdeal m →
    θ_run (Cert.KernelAdamFfnBiasIdeal.defs (F := Ideal)) (onTc (τ := Cert.KernelAdamFfnBiasIdeal.τ) (Cert.KernelAdamFfnBiasIdeal.main (F := Ideal))) ⟨m, fun _ => 0, g⟩ (fun r => (∀ c : Dev Cert.KernelAdamFfnBiasIdeal.nD,
      r.2.mem ((c.tc : Thread Cert.KernelAdamFfnBiasIdeal.nD Cert.KernelAdamFfnBiasIdeal.τ).loc Cert.KernelAdamFfnBiasIdeal.main_arg0) = m ((c.tc : Thread Cert.KernelAdamFfnBiasIdeal.nD Cert.KernelAdamFfnBiasIdeal.τ).loc Cert.KernelAdamFfnBiasIdeal.main_arg0)
      ∧ r.2.mem ((c.tc : Thread Cert.KernelAdamFfnBiasIdeal.nD Cert.KernelAdamFfnBiasIdeal.τ).loc Cert.KernelAdamFfnBiasIdeal.main_arg1) = m ((c.tc : Thread Cert.KernelAdamFfnBiasIdeal.nD Cert.KernelAdamFfnBiasIdeal.τ).loc Cert.KernelAdamFfnBiasIdeal.main_arg1)
      ∧ r.2.mem ((c.tc : Thread Cert.KernelAdamFfnBiasIdeal.nD Cert.KernelAdamFfnBiasIdeal.τ).loc Cert.KernelAdamFfnBiasIdeal.main_arg2) = m ((c.tc : Thread Cert.KernelAdamFfnBiasIdeal.nD Cert.KernelAdamFfnBiasIdeal.τ).loc Cert.KernelAdamFfnBiasIdeal.main_arg2)
      ∧ r.2.mem ((c.tc : Thread Cert.KernelAdamFfnBiasIdeal.nD Cert.KernelAdamFfnBiasIdeal.τ).loc Cert.KernelAdamFfnBiasIdeal.main_arg3) = m ((c.tc : Thread Cert.KernelAdamFfnBiasIdeal.nD Cert.KernelAdamFfnBiasIdeal.τ).loc Cert.KernelAdamFfnBiasIdeal.main_arg3))
      ∧ r.2.sem = fun _ => 0)

def quiescent_ReferenceAdamFfnBiasIdeal [hReferenceAdamFfnBiasIdeal : Cert.ReferenceAdamFfnBiasIdeal.Facts] : Prop :=
  ∀ (m : (ℓ : Loc Cert.ReferenceAdamFfnBiasIdeal.nD Cert.ReferenceAdamFfnBiasIdeal.τ Cert.ReferenceAdamFfnBiasIdeal.sig) → Buf (Elt Ideal) ℓ) (g : Dev Cert.ReferenceAdamFfnBiasIdeal.nD → PrngReg), Pre_ReferenceAdamFfnBiasIdeal m →
    θ_run (Cert.ReferenceAdamFfnBiasIdeal.defs (F := Ideal)) (onTc (τ := Cert.ReferenceAdamFfnBiasIdeal.τ) (Cert.ReferenceAdamFfnBiasIdeal.main (F := Ideal))) ⟨m, fun _ => 0, g⟩ (fun r => (∀ c : Dev Cert.ReferenceAdamFfnBiasIdeal.nD,
      r.2.mem ((c.tc : Thread Cert.ReferenceAdamFfnBiasIdeal.nD Cert.ReferenceAdamFfnBiasIdeal.τ).loc Cert.ReferenceAdamFfnBiasIdeal.main_arg0) = m ((c.tc : Thread Cert.ReferenceAdamFfnBiasIdeal.nD Cert.ReferenceAdamFfnBiasIdeal.τ).loc Cert.ReferenceAdamFfnBiasIdeal.main_arg0)
      ∧ r.2.mem ((c.tc : Thread Cert.ReferenceAdamFfnBiasIdeal.nD Cert.ReferenceAdamFfnBiasIdeal.τ).loc Cert.ReferenceAdamFfnBiasIdeal.main_arg1) = m ((c.tc : Thread Cert.ReferenceAdamFfnBiasIdeal.nD Cert.ReferenceAdamFfnBiasIdeal.τ).loc Cert.ReferenceAdamFfnBiasIdeal.main_arg1)
      ∧ r.2.mem ((c.tc : Thread Cert.ReferenceAdamFfnBiasIdeal.nD Cert.ReferenceAdamFfnBiasIdeal.τ).loc Cert.ReferenceAdamFfnBiasIdeal.main_arg2) = m ((c.tc : Thread Cert.ReferenceAdamFfnBiasIdeal.nD Cert.ReferenceAdamFfnBiasIdeal.τ).loc Cert.ReferenceAdamFfnBiasIdeal.main_arg2)
      ∧ r.2.mem ((c.tc : Thread Cert.ReferenceAdamFfnBiasIdeal.nD Cert.ReferenceAdamFfnBiasIdeal.τ).loc Cert.ReferenceAdamFfnBiasIdeal.main_arg3) = m ((c.tc : Thread Cert.ReferenceAdamFfnBiasIdeal.nD Cert.ReferenceAdamFfnBiasIdeal.τ).loc Cert.ReferenceAdamFfnBiasIdeal.main_arg3))
      ∧ r.2.sem = fun _ => 0)

def quiescent_KernelAdamFfnDown [hKernelAdamFfnDown : Cert.KernelAdamFfnDown.Facts] : Prop :=
  ∀ (m : (ℓ : Loc Cert.KernelAdamFfnDown.nD Cert.KernelAdamFfnDown.τ Cert.KernelAdamFfnDown.sig) → Buf (Elt Bits) ℓ) (g : Dev Cert.KernelAdamFfnDown.nD → PrngReg), Pre_KernelAdamFfnDown m →
    θ_run (Cert.KernelAdamFfnDown.defs (F := Bits)) (onTc (τ := Cert.KernelAdamFfnDown.τ) (Cert.KernelAdamFfnDown.main (F := Bits))) ⟨m, fun _ => 0, g⟩ (fun r => (∀ c : Dev Cert.KernelAdamFfnDown.nD,
      r.2.mem ((c.tc : Thread Cert.KernelAdamFfnDown.nD Cert.KernelAdamFfnDown.τ).loc Cert.KernelAdamFfnDown.main_arg0) = m ((c.tc : Thread Cert.KernelAdamFfnDown.nD Cert.KernelAdamFfnDown.τ).loc Cert.KernelAdamFfnDown.main_arg0)
      ∧ r.2.mem ((c.tc : Thread Cert.KernelAdamFfnDown.nD Cert.KernelAdamFfnDown.τ).loc Cert.KernelAdamFfnDown.main_arg1) = m ((c.tc : Thread Cert.KernelAdamFfnDown.nD Cert.KernelAdamFfnDown.τ).loc Cert.KernelAdamFfnDown.main_arg1)
      ∧ r.2.mem ((c.tc : Thread Cert.KernelAdamFfnDown.nD Cert.KernelAdamFfnDown.τ).loc Cert.KernelAdamFfnDown.main_arg2) = m ((c.tc : Thread Cert.KernelAdamFfnDown.nD Cert.KernelAdamFfnDown.τ).loc Cert.KernelAdamFfnDown.main_arg2)
      ∧ r.2.mem ((c.tc : Thread Cert.KernelAdamFfnDown.nD Cert.KernelAdamFfnDown.τ).loc Cert.KernelAdamFfnDown.main_arg3) = m ((c.tc : Thread Cert.KernelAdamFfnDown.nD Cert.KernelAdamFfnDown.τ).loc Cert.KernelAdamFfnDown.main_arg3))
      ∧ r.2.sem = fun _ => 0)

def quiescent_KernelAdamFfnDownIdeal [hKernelAdamFfnDownIdeal : Cert.KernelAdamFfnDownIdeal.Facts] : Prop :=
  ∀ (m : (ℓ : Loc Cert.KernelAdamFfnDownIdeal.nD Cert.KernelAdamFfnDownIdeal.τ Cert.KernelAdamFfnDownIdeal.sig) → Buf (Elt Ideal) ℓ) (g : Dev Cert.KernelAdamFfnDownIdeal.nD → PrngReg), Pre_KernelAdamFfnDownIdeal m →
    θ_run (Cert.KernelAdamFfnDownIdeal.defs (F := Ideal)) (onTc (τ := Cert.KernelAdamFfnDownIdeal.τ) (Cert.KernelAdamFfnDownIdeal.main (F := Ideal))) ⟨m, fun _ => 0, g⟩ (fun r => (∀ c : Dev Cert.KernelAdamFfnDownIdeal.nD,
      r.2.mem ((c.tc : Thread Cert.KernelAdamFfnDownIdeal.nD Cert.KernelAdamFfnDownIdeal.τ).loc Cert.KernelAdamFfnDownIdeal.main_arg0) = m ((c.tc : Thread Cert.KernelAdamFfnDownIdeal.nD Cert.KernelAdamFfnDownIdeal.τ).loc Cert.KernelAdamFfnDownIdeal.main_arg0)
      ∧ r.2.mem ((c.tc : Thread Cert.KernelAdamFfnDownIdeal.nD Cert.KernelAdamFfnDownIdeal.τ).loc Cert.KernelAdamFfnDownIdeal.main_arg1) = m ((c.tc : Thread Cert.KernelAdamFfnDownIdeal.nD Cert.KernelAdamFfnDownIdeal.τ).loc Cert.KernelAdamFfnDownIdeal.main_arg1)
      ∧ r.2.mem ((c.tc : Thread Cert.KernelAdamFfnDownIdeal.nD Cert.KernelAdamFfnDownIdeal.τ).loc Cert.KernelAdamFfnDownIdeal.main_arg2) = m ((c.tc : Thread Cert.KernelAdamFfnDownIdeal.nD Cert.KernelAdamFfnDownIdeal.τ).loc Cert.KernelAdamFfnDownIdeal.main_arg2)
      ∧ r.2.mem ((c.tc : Thread Cert.KernelAdamFfnDownIdeal.nD Cert.KernelAdamFfnDownIdeal.τ).loc Cert.KernelAdamFfnDownIdeal.main_arg3) = m ((c.tc : Thread Cert.KernelAdamFfnDownIdeal.nD Cert.KernelAdamFfnDownIdeal.τ).loc Cert.KernelAdamFfnDownIdeal.main_arg3))
      ∧ r.2.sem = fun _ => 0)

def quiescent_ReferenceAdamFfnDownIdeal [hReferenceAdamFfnDownIdeal : Cert.ReferenceAdamFfnDownIdeal.Facts] : Prop :=
  ∀ (m : (ℓ : Loc Cert.ReferenceAdamFfnDownIdeal.nD Cert.ReferenceAdamFfnDownIdeal.τ Cert.ReferenceAdamFfnDownIdeal.sig) → Buf (Elt Ideal) ℓ) (g : Dev Cert.ReferenceAdamFfnDownIdeal.nD → PrngReg), Pre_ReferenceAdamFfnDownIdeal m →
    θ_run (Cert.ReferenceAdamFfnDownIdeal.defs (F := Ideal)) (onTc (τ := Cert.ReferenceAdamFfnDownIdeal.τ) (Cert.ReferenceAdamFfnDownIdeal.main (F := Ideal))) ⟨m, fun _ => 0, g⟩ (fun r => (∀ c : Dev Cert.ReferenceAdamFfnDownIdeal.nD,
      r.2.mem ((c.tc : Thread Cert.ReferenceAdamFfnDownIdeal.nD Cert.ReferenceAdamFfnDownIdeal.τ).loc Cert.ReferenceAdamFfnDownIdeal.main_arg0) = m ((c.tc : Thread Cert.ReferenceAdamFfnDownIdeal.nD Cert.ReferenceAdamFfnDownIdeal.τ).loc Cert.ReferenceAdamFfnDownIdeal.main_arg0)
      ∧ r.2.mem ((c.tc : Thread Cert.ReferenceAdamFfnDownIdeal.nD Cert.ReferenceAdamFfnDownIdeal.τ).loc Cert.ReferenceAdamFfnDownIdeal.main_arg1) = m ((c.tc : Thread Cert.ReferenceAdamFfnDownIdeal.nD Cert.ReferenceAdamFfnDownIdeal.τ).loc Cert.ReferenceAdamFfnDownIdeal.main_arg1)
      ∧ r.2.mem ((c.tc : Thread Cert.ReferenceAdamFfnDownIdeal.nD Cert.ReferenceAdamFfnDownIdeal.τ).loc Cert.ReferenceAdamFfnDownIdeal.main_arg2) = m ((c.tc : Thread Cert.ReferenceAdamFfnDownIdeal.nD Cert.ReferenceAdamFfnDownIdeal.τ).loc Cert.ReferenceAdamFfnDownIdeal.main_arg2)
      ∧ r.2.mem ((c.tc : Thread Cert.ReferenceAdamFfnDownIdeal.nD Cert.ReferenceAdamFfnDownIdeal.τ).loc Cert.ReferenceAdamFfnDownIdeal.main_arg3) = m ((c.tc : Thread Cert.ReferenceAdamFfnDownIdeal.nD Cert.ReferenceAdamFfnDownIdeal.τ).loc Cert.ReferenceAdamFfnDownIdeal.main_arg3))
      ∧ r.2.sem = fun _ => 0)

def quiescent_KernelAdamPleGate [hKernelAdamPleGate : Cert.KernelAdamPleGate.Facts] : Prop :=
  ∀ (m : (ℓ : Loc Cert.KernelAdamPleGate.nD Cert.KernelAdamPleGate.τ Cert.KernelAdamPleGate.sig) → Buf (Elt Bits) ℓ) (g : Dev Cert.KernelAdamPleGate.nD → PrngReg), Pre_KernelAdamPleGate m →
    θ_run (Cert.KernelAdamPleGate.defs (F := Bits)) (onTc (τ := Cert.KernelAdamPleGate.τ) (Cert.KernelAdamPleGate.main (F := Bits))) ⟨m, fun _ => 0, g⟩ (fun r => (∀ c : Dev Cert.KernelAdamPleGate.nD,
      r.2.mem ((c.tc : Thread Cert.KernelAdamPleGate.nD Cert.KernelAdamPleGate.τ).loc Cert.KernelAdamPleGate.main_arg0) = m ((c.tc : Thread Cert.KernelAdamPleGate.nD Cert.KernelAdamPleGate.τ).loc Cert.KernelAdamPleGate.main_arg0)
      ∧ r.2.mem ((c.tc : Thread Cert.KernelAdamPleGate.nD Cert.KernelAdamPleGate.τ).loc Cert.KernelAdamPleGate.main_arg1) = m ((c.tc : Thread Cert.KernelAdamPleGate.nD Cert.KernelAdamPleGate.τ).loc Cert.KernelAdamPleGate.main_arg1)
      ∧ r.2.mem ((c.tc : Thread Cert.KernelAdamPleGate.nD Cert.KernelAdamPleGate.τ).loc Cert.KernelAdamPleGate.main_arg2) = m ((c.tc : Thread Cert.KernelAdamPleGate.nD Cert.KernelAdamPleGate.τ).loc Cert.KernelAdamPleGate.main_arg2)
      ∧ r.2.mem ((c.tc : Thread Cert.KernelAdamPleGate.nD Cert.KernelAdamPleGate.τ).loc Cert.KernelAdamPleGate.main_arg3) = m ((c.tc : Thread Cert.KernelAdamPleGate.nD Cert.KernelAdamPleGate.τ).loc Cert.KernelAdamPleGate.main_arg3))
      ∧ r.2.sem = fun _ => 0)

def quiescent_KernelAdamPleGateIdeal [hKernelAdamPleGateIdeal : Cert.KernelAdamPleGateIdeal.Facts] : Prop :=
  ∀ (m : (ℓ : Loc Cert.KernelAdamPleGateIdeal.nD Cert.KernelAdamPleGateIdeal.τ Cert.KernelAdamPleGateIdeal.sig) → Buf (Elt Ideal) ℓ) (g : Dev Cert.KernelAdamPleGateIdeal.nD → PrngReg), Pre_KernelAdamPleGateIdeal m →
    θ_run (Cert.KernelAdamPleGateIdeal.defs (F := Ideal)) (onTc (τ := Cert.KernelAdamPleGateIdeal.τ) (Cert.KernelAdamPleGateIdeal.main (F := Ideal))) ⟨m, fun _ => 0, g⟩ (fun r => (∀ c : Dev Cert.KernelAdamPleGateIdeal.nD,
      r.2.mem ((c.tc : Thread Cert.KernelAdamPleGateIdeal.nD Cert.KernelAdamPleGateIdeal.τ).loc Cert.KernelAdamPleGateIdeal.main_arg0) = m ((c.tc : Thread Cert.KernelAdamPleGateIdeal.nD Cert.KernelAdamPleGateIdeal.τ).loc Cert.KernelAdamPleGateIdeal.main_arg0)
      ∧ r.2.mem ((c.tc : Thread Cert.KernelAdamPleGateIdeal.nD Cert.KernelAdamPleGateIdeal.τ).loc Cert.KernelAdamPleGateIdeal.main_arg1) = m ((c.tc : Thread Cert.KernelAdamPleGateIdeal.nD Cert.KernelAdamPleGateIdeal.τ).loc Cert.KernelAdamPleGateIdeal.main_arg1)
      ∧ r.2.mem ((c.tc : Thread Cert.KernelAdamPleGateIdeal.nD Cert.KernelAdamPleGateIdeal.τ).loc Cert.KernelAdamPleGateIdeal.main_arg2) = m ((c.tc : Thread Cert.KernelAdamPleGateIdeal.nD Cert.KernelAdamPleGateIdeal.τ).loc Cert.KernelAdamPleGateIdeal.main_arg2)
      ∧ r.2.mem ((c.tc : Thread Cert.KernelAdamPleGateIdeal.nD Cert.KernelAdamPleGateIdeal.τ).loc Cert.KernelAdamPleGateIdeal.main_arg3) = m ((c.tc : Thread Cert.KernelAdamPleGateIdeal.nD Cert.KernelAdamPleGateIdeal.τ).loc Cert.KernelAdamPleGateIdeal.main_arg3))
      ∧ r.2.sem = fun _ => 0)

def quiescent_ReferenceAdamPleGateIdeal [hReferenceAdamPleGateIdeal : Cert.ReferenceAdamPleGateIdeal.Facts] : Prop :=
  ∀ (m : (ℓ : Loc Cert.ReferenceAdamPleGateIdeal.nD Cert.ReferenceAdamPleGateIdeal.τ Cert.ReferenceAdamPleGateIdeal.sig) → Buf (Elt Ideal) ℓ) (g : Dev Cert.ReferenceAdamPleGateIdeal.nD → PrngReg), Pre_ReferenceAdamPleGateIdeal m →
    θ_run (Cert.ReferenceAdamPleGateIdeal.defs (F := Ideal)) (onTc (τ := Cert.ReferenceAdamPleGateIdeal.τ) (Cert.ReferenceAdamPleGateIdeal.main (F := Ideal))) ⟨m, fun _ => 0, g⟩ (fun r => (∀ c : Dev Cert.ReferenceAdamPleGateIdeal.nD,
      r.2.mem ((c.tc : Thread Cert.ReferenceAdamPleGateIdeal.nD Cert.ReferenceAdamPleGateIdeal.τ).loc Cert.ReferenceAdamPleGateIdeal.main_arg0) = m ((c.tc : Thread Cert.ReferenceAdamPleGateIdeal.nD Cert.ReferenceAdamPleGateIdeal.τ).loc Cert.ReferenceAdamPleGateIdeal.main_arg0)
      ∧ r.2.mem ((c.tc : Thread Cert.ReferenceAdamPleGateIdeal.nD Cert.ReferenceAdamPleGateIdeal.τ).loc Cert.ReferenceAdamPleGateIdeal.main_arg1) = m ((c.tc : Thread Cert.ReferenceAdamPleGateIdeal.nD Cert.ReferenceAdamPleGateIdeal.τ).loc Cert.ReferenceAdamPleGateIdeal.main_arg1)
      ∧ r.2.mem ((c.tc : Thread Cert.ReferenceAdamPleGateIdeal.nD Cert.ReferenceAdamPleGateIdeal.τ).loc Cert.ReferenceAdamPleGateIdeal.main_arg2) = m ((c.tc : Thread Cert.ReferenceAdamPleGateIdeal.nD Cert.ReferenceAdamPleGateIdeal.τ).loc Cert.ReferenceAdamPleGateIdeal.main_arg2)
      ∧ r.2.mem ((c.tc : Thread Cert.ReferenceAdamPleGateIdeal.nD Cert.ReferenceAdamPleGateIdeal.τ).loc Cert.ReferenceAdamPleGateIdeal.main_arg3) = m ((c.tc : Thread Cert.ReferenceAdamPleGateIdeal.nD Cert.ReferenceAdamPleGateIdeal.τ).loc Cert.ReferenceAdamPleGateIdeal.main_arg3))
      ∧ r.2.sem = fun _ => 0)

def quiescent_KernelAdamPleProj [hKernelAdamPleProj : Cert.KernelAdamPleProj.Facts] : Prop :=
  ∀ (m : (ℓ : Loc Cert.KernelAdamPleProj.nD Cert.KernelAdamPleProj.τ Cert.KernelAdamPleProj.sig) → Buf (Elt Bits) ℓ) (g : Dev Cert.KernelAdamPleProj.nD → PrngReg), Pre_KernelAdamPleProj m →
    θ_run (Cert.KernelAdamPleProj.defs (F := Bits)) (onTc (τ := Cert.KernelAdamPleProj.τ) (Cert.KernelAdamPleProj.main (F := Bits))) ⟨m, fun _ => 0, g⟩ (fun r => (∀ c : Dev Cert.KernelAdamPleProj.nD,
      r.2.mem ((c.tc : Thread Cert.KernelAdamPleProj.nD Cert.KernelAdamPleProj.τ).loc Cert.KernelAdamPleProj.main_arg0) = m ((c.tc : Thread Cert.KernelAdamPleProj.nD Cert.KernelAdamPleProj.τ).loc Cert.KernelAdamPleProj.main_arg0)
      ∧ r.2.mem ((c.tc : Thread Cert.KernelAdamPleProj.nD Cert.KernelAdamPleProj.τ).loc Cert.KernelAdamPleProj.main_arg1) = m ((c.tc : Thread Cert.KernelAdamPleProj.nD Cert.KernelAdamPleProj.τ).loc Cert.KernelAdamPleProj.main_arg1)
      ∧ r.2.mem ((c.tc : Thread Cert.KernelAdamPleProj.nD Cert.KernelAdamPleProj.τ).loc Cert.KernelAdamPleProj.main_arg2) = m ((c.tc : Thread Cert.KernelAdamPleProj.nD Cert.KernelAdamPleProj.τ).loc Cert.KernelAdamPleProj.main_arg2)
      ∧ r.2.mem ((c.tc : Thread Cert.KernelAdamPleProj.nD Cert.KernelAdamPleProj.τ).loc Cert.KernelAdamPleProj.main_arg3) = m ((c.tc : Thread Cert.KernelAdamPleProj.nD Cert.KernelAdamPleProj.τ).loc Cert.KernelAdamPleProj.main_arg3))
      ∧ r.2.sem = fun _ => 0)

def quiescent_KernelAdamPleProjIdeal [hKernelAdamPleProjIdeal : Cert.KernelAdamPleProjIdeal.Facts] : Prop :=
  ∀ (m : (ℓ : Loc Cert.KernelAdamPleProjIdeal.nD Cert.KernelAdamPleProjIdeal.τ Cert.KernelAdamPleProjIdeal.sig) → Buf (Elt Ideal) ℓ) (g : Dev Cert.KernelAdamPleProjIdeal.nD → PrngReg), Pre_KernelAdamPleProjIdeal m →
    θ_run (Cert.KernelAdamPleProjIdeal.defs (F := Ideal)) (onTc (τ := Cert.KernelAdamPleProjIdeal.τ) (Cert.KernelAdamPleProjIdeal.main (F := Ideal))) ⟨m, fun _ => 0, g⟩ (fun r => (∀ c : Dev Cert.KernelAdamPleProjIdeal.nD,
      r.2.mem ((c.tc : Thread Cert.KernelAdamPleProjIdeal.nD Cert.KernelAdamPleProjIdeal.τ).loc Cert.KernelAdamPleProjIdeal.main_arg0) = m ((c.tc : Thread Cert.KernelAdamPleProjIdeal.nD Cert.KernelAdamPleProjIdeal.τ).loc Cert.KernelAdamPleProjIdeal.main_arg0)
      ∧ r.2.mem ((c.tc : Thread Cert.KernelAdamPleProjIdeal.nD Cert.KernelAdamPleProjIdeal.τ).loc Cert.KernelAdamPleProjIdeal.main_arg1) = m ((c.tc : Thread Cert.KernelAdamPleProjIdeal.nD Cert.KernelAdamPleProjIdeal.τ).loc Cert.KernelAdamPleProjIdeal.main_arg1)
      ∧ r.2.mem ((c.tc : Thread Cert.KernelAdamPleProjIdeal.nD Cert.KernelAdamPleProjIdeal.τ).loc Cert.KernelAdamPleProjIdeal.main_arg2) = m ((c.tc : Thread Cert.KernelAdamPleProjIdeal.nD Cert.KernelAdamPleProjIdeal.τ).loc Cert.KernelAdamPleProjIdeal.main_arg2)
      ∧ r.2.mem ((c.tc : Thread Cert.KernelAdamPleProjIdeal.nD Cert.KernelAdamPleProjIdeal.τ).loc Cert.KernelAdamPleProjIdeal.main_arg3) = m ((c.tc : Thread Cert.KernelAdamPleProjIdeal.nD Cert.KernelAdamPleProjIdeal.τ).loc Cert.KernelAdamPleProjIdeal.main_arg3))
      ∧ r.2.sem = fun _ => 0)

def quiescent_ReferenceAdamPleProjIdeal [hReferenceAdamPleProjIdeal : Cert.ReferenceAdamPleProjIdeal.Facts] : Prop :=
  ∀ (m : (ℓ : Loc Cert.ReferenceAdamPleProjIdeal.nD Cert.ReferenceAdamPleProjIdeal.τ Cert.ReferenceAdamPleProjIdeal.sig) → Buf (Elt Ideal) ℓ) (g : Dev Cert.ReferenceAdamPleProjIdeal.nD → PrngReg), Pre_ReferenceAdamPleProjIdeal m →
    θ_run (Cert.ReferenceAdamPleProjIdeal.defs (F := Ideal)) (onTc (τ := Cert.ReferenceAdamPleProjIdeal.τ) (Cert.ReferenceAdamPleProjIdeal.main (F := Ideal))) ⟨m, fun _ => 0, g⟩ (fun r => (∀ c : Dev Cert.ReferenceAdamPleProjIdeal.nD,
      r.2.mem ((c.tc : Thread Cert.ReferenceAdamPleProjIdeal.nD Cert.ReferenceAdamPleProjIdeal.τ).loc Cert.ReferenceAdamPleProjIdeal.main_arg0) = m ((c.tc : Thread Cert.ReferenceAdamPleProjIdeal.nD Cert.ReferenceAdamPleProjIdeal.τ).loc Cert.ReferenceAdamPleProjIdeal.main_arg0)
      ∧ r.2.mem ((c.tc : Thread Cert.ReferenceAdamPleProjIdeal.nD Cert.ReferenceAdamPleProjIdeal.τ).loc Cert.ReferenceAdamPleProjIdeal.main_arg1) = m ((c.tc : Thread Cert.ReferenceAdamPleProjIdeal.nD Cert.ReferenceAdamPleProjIdeal.τ).loc Cert.ReferenceAdamPleProjIdeal.main_arg1)
      ∧ r.2.mem ((c.tc : Thread Cert.ReferenceAdamPleProjIdeal.nD Cert.ReferenceAdamPleProjIdeal.τ).loc Cert.ReferenceAdamPleProjIdeal.main_arg2) = m ((c.tc : Thread Cert.ReferenceAdamPleProjIdeal.nD Cert.ReferenceAdamPleProjIdeal.τ).loc Cert.ReferenceAdamPleProjIdeal.main_arg2)
      ∧ r.2.mem ((c.tc : Thread Cert.ReferenceAdamPleProjIdeal.nD Cert.ReferenceAdamPleProjIdeal.τ).loc Cert.ReferenceAdamPleProjIdeal.main_arg3) = m ((c.tc : Thread Cert.ReferenceAdamPleProjIdeal.nD Cert.ReferenceAdamPleProjIdeal.τ).loc Cert.ReferenceAdamPleProjIdeal.main_arg3))
      ∧ r.2.sem = fun _ => 0)

def quiescent_KernelAdamNormFinal [hKernelAdamNormFinal : Cert.KernelAdamNormFinal.Facts] : Prop :=
  ∀ (m : (ℓ : Loc Cert.KernelAdamNormFinal.nD Cert.KernelAdamNormFinal.τ Cert.KernelAdamNormFinal.sig) → Buf (Elt Bits) ℓ) (g : Dev Cert.KernelAdamNormFinal.nD → PrngReg), Pre_KernelAdamNormFinal m →
    θ_run (Cert.KernelAdamNormFinal.defs (F := Bits)) (onTc (τ := Cert.KernelAdamNormFinal.τ) (Cert.KernelAdamNormFinal.main (F := Bits))) ⟨m, fun _ => 0, g⟩ (fun r => (∀ c : Dev Cert.KernelAdamNormFinal.nD,
      r.2.mem ((c.tc : Thread Cert.KernelAdamNormFinal.nD Cert.KernelAdamNormFinal.τ).loc Cert.KernelAdamNormFinal.main_arg0) = m ((c.tc : Thread Cert.KernelAdamNormFinal.nD Cert.KernelAdamNormFinal.τ).loc Cert.KernelAdamNormFinal.main_arg0)
      ∧ r.2.mem ((c.tc : Thread Cert.KernelAdamNormFinal.nD Cert.KernelAdamNormFinal.τ).loc Cert.KernelAdamNormFinal.main_arg1) = m ((c.tc : Thread Cert.KernelAdamNormFinal.nD Cert.KernelAdamNormFinal.τ).loc Cert.KernelAdamNormFinal.main_arg1)
      ∧ r.2.mem ((c.tc : Thread Cert.KernelAdamNormFinal.nD Cert.KernelAdamNormFinal.τ).loc Cert.KernelAdamNormFinal.main_arg2) = m ((c.tc : Thread Cert.KernelAdamNormFinal.nD Cert.KernelAdamNormFinal.τ).loc Cert.KernelAdamNormFinal.main_arg2)
      ∧ r.2.mem ((c.tc : Thread Cert.KernelAdamNormFinal.nD Cert.KernelAdamNormFinal.τ).loc Cert.KernelAdamNormFinal.main_arg3) = m ((c.tc : Thread Cert.KernelAdamNormFinal.nD Cert.KernelAdamNormFinal.τ).loc Cert.KernelAdamNormFinal.main_arg3))
      ∧ r.2.sem = fun _ => 0)

def quiescent_KernelAdamNormFinalIdeal [hKernelAdamNormFinalIdeal : Cert.KernelAdamNormFinalIdeal.Facts] : Prop :=
  ∀ (m : (ℓ : Loc Cert.KernelAdamNormFinalIdeal.nD Cert.KernelAdamNormFinalIdeal.τ Cert.KernelAdamNormFinalIdeal.sig) → Buf (Elt Ideal) ℓ) (g : Dev Cert.KernelAdamNormFinalIdeal.nD → PrngReg), Pre_KernelAdamNormFinalIdeal m →
    θ_run (Cert.KernelAdamNormFinalIdeal.defs (F := Ideal)) (onTc (τ := Cert.KernelAdamNormFinalIdeal.τ) (Cert.KernelAdamNormFinalIdeal.main (F := Ideal))) ⟨m, fun _ => 0, g⟩ (fun r => (∀ c : Dev Cert.KernelAdamNormFinalIdeal.nD,
      r.2.mem ((c.tc : Thread Cert.KernelAdamNormFinalIdeal.nD Cert.KernelAdamNormFinalIdeal.τ).loc Cert.KernelAdamNormFinalIdeal.main_arg0) = m ((c.tc : Thread Cert.KernelAdamNormFinalIdeal.nD Cert.KernelAdamNormFinalIdeal.τ).loc Cert.KernelAdamNormFinalIdeal.main_arg0)
      ∧ r.2.mem ((c.tc : Thread Cert.KernelAdamNormFinalIdeal.nD Cert.KernelAdamNormFinalIdeal.τ).loc Cert.KernelAdamNormFinalIdeal.main_arg1) = m ((c.tc : Thread Cert.KernelAdamNormFinalIdeal.nD Cert.KernelAdamNormFinalIdeal.τ).loc Cert.KernelAdamNormFinalIdeal.main_arg1)
      ∧ r.2.mem ((c.tc : Thread Cert.KernelAdamNormFinalIdeal.nD Cert.KernelAdamNormFinalIdeal.τ).loc Cert.KernelAdamNormFinalIdeal.main_arg2) = m ((c.tc : Thread Cert.KernelAdamNormFinalIdeal.nD Cert.KernelAdamNormFinalIdeal.τ).loc Cert.KernelAdamNormFinalIdeal.main_arg2)
      ∧ r.2.mem ((c.tc : Thread Cert.KernelAdamNormFinalIdeal.nD Cert.KernelAdamNormFinalIdeal.τ).loc Cert.KernelAdamNormFinalIdeal.main_arg3) = m ((c.tc : Thread Cert.KernelAdamNormFinalIdeal.nD Cert.KernelAdamNormFinalIdeal.τ).loc Cert.KernelAdamNormFinalIdeal.main_arg3))
      ∧ r.2.sem = fun _ => 0)

def quiescent_ReferenceAdamNormFinalIdeal [hReferenceAdamNormFinalIdeal : Cert.ReferenceAdamNormFinalIdeal.Facts] : Prop :=
  ∀ (m : (ℓ : Loc Cert.ReferenceAdamNormFinalIdeal.nD Cert.ReferenceAdamNormFinalIdeal.τ Cert.ReferenceAdamNormFinalIdeal.sig) → Buf (Elt Ideal) ℓ) (g : Dev Cert.ReferenceAdamNormFinalIdeal.nD → PrngReg), Pre_ReferenceAdamNormFinalIdeal m →
    θ_run (Cert.ReferenceAdamNormFinalIdeal.defs (F := Ideal)) (onTc (τ := Cert.ReferenceAdamNormFinalIdeal.τ) (Cert.ReferenceAdamNormFinalIdeal.main (F := Ideal))) ⟨m, fun _ => 0, g⟩ (fun r => (∀ c : Dev Cert.ReferenceAdamNormFinalIdeal.nD,
      r.2.mem ((c.tc : Thread Cert.ReferenceAdamNormFinalIdeal.nD Cert.ReferenceAdamNormFinalIdeal.τ).loc Cert.ReferenceAdamNormFinalIdeal.main_arg0) = m ((c.tc : Thread Cert.ReferenceAdamNormFinalIdeal.nD Cert.ReferenceAdamNormFinalIdeal.τ).loc Cert.ReferenceAdamNormFinalIdeal.main_arg0)
      ∧ r.2.mem ((c.tc : Thread Cert.ReferenceAdamNormFinalIdeal.nD Cert.ReferenceAdamNormFinalIdeal.τ).loc Cert.ReferenceAdamNormFinalIdeal.main_arg1) = m ((c.tc : Thread Cert.ReferenceAdamNormFinalIdeal.nD Cert.ReferenceAdamNormFinalIdeal.τ).loc Cert.ReferenceAdamNormFinalIdeal.main_arg1)
      ∧ r.2.mem ((c.tc : Thread Cert.ReferenceAdamNormFinalIdeal.nD Cert.ReferenceAdamNormFinalIdeal.τ).loc Cert.ReferenceAdamNormFinalIdeal.main_arg2) = m ((c.tc : Thread Cert.ReferenceAdamNormFinalIdeal.nD Cert.ReferenceAdamNormFinalIdeal.τ).loc Cert.ReferenceAdamNormFinalIdeal.main_arg2)
      ∧ r.2.mem ((c.tc : Thread Cert.ReferenceAdamNormFinalIdeal.nD Cert.ReferenceAdamNormFinalIdeal.τ).loc Cert.ReferenceAdamNormFinalIdeal.main_arg3) = m ((c.tc : Thread Cert.ReferenceAdamNormFinalIdeal.nD Cert.ReferenceAdamNormFinalIdeal.τ).loc Cert.ReferenceAdamNormFinalIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)
      ∧ m' ((c.tc : Thread Cert.ReferenceUpIdeal.nD Cert.ReferenceUpIdeal.τ).loc Cert.ReferenceUpIdeal.main_arg5) = m ((c.tc : Thread Cert.KernelUpIdeal.nD Cert.KernelUpIdeal.τ).loc Cert.KernelUpIdeal.main_arg5)) →
    ∃ (v0 : (c : Dev Cert.KernelUpIdeal.nD) → Buf (Elt Ideal) ((c.tc : Thread Cert.KernelUpIdeal.nD Cert.KernelUpIdeal.τ).loc Cert.KernelUpIdeal.main_v3_0)) (v1 : (c : Dev Cert.KernelUpIdeal.nD) → Buf (Elt Ideal) ((c.tc : Thread Cert.KernelUpIdeal.nD Cert.KernelUpIdeal.τ).loc Cert.KernelUpIdeal.main_v3_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3_0) = v0 c
          ∧ r.2.mem ((c.tc : Thread Cert.KernelUpIdeal.nD Cert.KernelUpIdeal.τ).loc Cert.KernelUpIdeal.main_v3_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
          ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v41) = v0 c
          ∧ r.2.mem ((c.tc : Thread Cert.ReferenceUpIdeal.nD Cert.ReferenceUpIdeal.τ).loc Cert.ReferenceUpIdeal.main_v42) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)
          ∧ r.2.mem ((c.tc : Thread Cert.ReferenceUpIdeal.nD Cert.ReferenceUpIdeal.τ).loc Cert.ReferenceUpIdeal.main_arg5) = m' ((c.tc : Thread Cert.ReferenceUpIdeal.nD Cert.ReferenceUpIdeal.τ).loc Cert.ReferenceUpIdeal.main_arg5))

def preserves_KernelUpW_KernelUpWIdeal : Prop :=
  True

def algebraic_KernelUpWIdeal_ReferenceUpWIdeal [hKernelUpWIdeal : Cert.KernelUpWIdeal.Facts] [hReferenceUpWIdeal : Cert.ReferenceUpWIdeal.Facts] : Prop :=
  ∀ (m : (ℓ : Loc Cert.KernelUpWIdeal.nD Cert.KernelUpWIdeal.τ Cert.KernelUpWIdeal.sig) → Buf (Elt Ideal) ℓ) (g : Dev Cert.KernelUpWIdeal.nD → PrngReg)
    (m' : (ℓ : Loc Cert.ReferenceUpWIdeal.nD Cert.ReferenceUpWIdeal.τ Cert.ReferenceUpWIdeal.sig) → Buf (Elt Ideal) ℓ) (g' : Dev Cert.ReferenceUpWIdeal.nD → PrngReg), Pre_KernelUpWIdeal m →
    (∀ c : Dev Cert.KernelUpWIdeal.nD,
      m' ((c.tc : Thread Cert.ReferenceUpWIdeal.nD Cert.ReferenceUpWIdeal.τ).loc Cert.ReferenceUpWIdeal.main_arg0) = m ((c.tc : Thread Cert.KernelUpWIdeal.nD Cert.KernelUpWIdeal.τ).loc Cert.KernelUpWIdeal.main_arg0)
      ∧ m' ((c.tc : Thread Cert.ReferenceUpWIdeal.nD Cert.ReferenceUpWIdeal.τ).loc Cert.ReferenceUpWIdeal.main_arg1) = m ((c.tc : Thread Cert.KernelUpWIdeal.nD Cert.KernelUpWIdeal.τ).loc Cert.KernelUpWIdeal.main_arg1)) →
    ∃ (v0 : (c : Dev Cert.KernelUpWIdeal.nD) → Buf (Elt Ideal) ((c.tc : Thread Cert.KernelUpWIdeal.nD Cert.KernelUpWIdeal.τ).loc Cert.KernelUpWIdeal.main_v0)),
      θ_run (Cert.KernelUpWIdeal.defs (F := Ideal)) (onTc (τ := Cert.KernelUpWIdeal.τ) (Cert.KernelUpWIdeal.main (F := Ideal))) ⟨m, fun _ => 0, g⟩ (fun r => ∀ c : Dev Cert.KernelUpWIdeal.nD,
          r.2.mem ((c.tc : Thread Cert.KernelUpWIdeal.nD Cert.KernelUpWIdeal.τ).loc Cert.KernelUpWIdeal.main_v0) = v0 c
          ∧ r.2.mem ((c.tc : Thread Cert.KernelUpWIdeal.nD Cert.KernelUpWIdeal.τ).loc Cert.KernelUpWIdeal.main_arg0) = m ((c.tc : Thread Cert.KernelUpWIdeal.nD Cert.KernelUpWIdeal.τ).loc Cert.KernelUpWIdeal.main_arg0)
          ∧ r.2.mem ((c.tc : Thread Cert.KernelUpWIdeal.nD Cert.KernelUpWIdeal.τ).loc Cert.KernelUpWIdeal.main_arg1) = m ((c.tc : Thread Cert.KernelUpWIdeal.nD Cert.KernelUpWIdeal.τ).loc Cert.KernelUpWIdeal.main_arg1))
      ∧ θ_run (Cert.ReferenceUpWIdeal.defs (F := Ideal)) (onTc (τ := Cert.ReferenceUpWIdeal.τ) (Cert.ReferenceUpWIdeal.main (F := Ideal))) ⟨m', fun _ => 0, g'⟩ (fun r => ∀ c : Dev Cert.ReferenceUpWIdeal.nD,
          r.2.mem ((c.tc : Thread Cert.ReferenceUpWIdeal.nD Cert.ReferenceUpWIdeal.τ).loc Cert.ReferenceUpWIdeal.main_v5) = v0 c
          ∧ r.2.mem ((c.tc : Thread Cert.ReferenceUpWIdeal.nD Cert.ReferenceUpWIdeal.τ).loc Cert.ReferenceUpWIdeal.main_arg0) = m' ((c.tc : Thread Cert.ReferenceUpWIdeal.nD Cert.ReferenceUpWIdeal.τ).loc Cert.ReferenceUpWIdeal.main_arg0)
          ∧ r.2.mem ((c.tc : Thread Cert.ReferenceUpWIdeal.nD Cert.ReferenceUpWIdeal.τ).loc Cert.ReferenceUpWIdeal.main_arg1) = m' ((c.tc : Thread Cert.ReferenceUpWIdeal.nD Cert.ReferenceUpWIdeal.τ).loc Cert.ReferenceUpWIdeal.main_arg1))

def preserves_KernelDownW_KernelDownWIdeal : Prop :=
  True

def algebraic_KernelDownWIdeal_ReferenceDownWIdeal [hKernelDownWIdeal : Cert.KernelDownWIdeal.Facts] [hReferenceDownWIdeal : Cert.ReferenceDownWIdeal.Facts] : Prop :=
  ∀ (m : (ℓ : Loc Cert.KernelDownWIdeal.nD Cert.KernelDownWIdeal.τ Cert.KernelDownWIdeal.sig) → Buf (Elt Ideal) ℓ) (g : Dev Cert.KernelDownWIdeal.nD → PrngReg)
    (m' : (ℓ : Loc Cert.ReferenceDownWIdeal.nD Cert.ReferenceDownWIdeal.τ Cert.ReferenceDownWIdeal.sig) → Buf (Elt Ideal) ℓ) (g' : Dev Cert.ReferenceDownWIdeal.nD → PrngReg), Pre_KernelDownWIdeal m →
    (∀ c : Dev Cert.KernelDownWIdeal.nD,
      m' ((c.tc : Thread Cert.ReferenceDownWIdeal.nD Cert.ReferenceDownWIdeal.τ).loc Cert.ReferenceDownWIdeal.main_arg0) = m ((c.tc : Thread Cert.KernelDownWIdeal.nD Cert.KernelDownWIdeal.τ).loc Cert.KernelDownWIdeal.main_arg0)
      ∧ m' ((c.tc : Thread Cert.ReferenceDownWIdeal.nD Cert.ReferenceDownWIdeal.τ).loc Cert.ReferenceDownWIdeal.main_arg1) = m ((c.tc : Thread Cert.KernelDownWIdeal.nD Cert.KernelDownWIdeal.τ).loc Cert.KernelDownWIdeal.main_arg1)) →
    ∃ (v0 : (c : Dev Cert.KernelDownWIdeal.nD) → Buf (Elt Ideal) ((c.tc : Thread Cert.KernelDownWIdeal.nD Cert.KernelDownWIdeal.τ).loc Cert.KernelDownWIdeal.main_v0)),
      θ_run (Cert.KernelDownWIdeal.defs (F := Ideal)) (onTc (τ := Cert.KernelDownWIdeal.τ) (Cert.KernelDownWIdeal.main (F := Ideal))) ⟨m, fun _ => 0, g⟩ (fun r => ∀ c : Dev Cert.KernelDownWIdeal.nD,
          r.2.mem ((c.tc : Thread Cert.KernelDownWIdeal.nD Cert.KernelDownWIdeal.τ).loc Cert.KernelDownWIdeal.main_v0) = v0 c
          ∧ r.2.mem ((c.tc : Thread Cert.KernelDownWIdeal.nD Cert.KernelDownWIdeal.τ).loc Cert.KernelDownWIdeal.main_arg0) = m ((c.tc : Thread Cert.KernelDownWIdeal.nD Cert.KernelDownWIdeal.τ).loc Cert.KernelDownWIdeal.main_arg0)
          ∧ r.2.mem ((c.tc : Thread Cert.KernelDownWIdeal.nD Cert.KernelDownWIdeal.τ).loc Cert.KernelDownWIdeal.main_arg1) = m ((c.tc : Thread Cert.KernelDownWIdeal.nD Cert.KernelDownWIdeal.τ).loc Cert.KernelDownWIdeal.main_arg1))
      ∧ θ_run (Cert.ReferenceDownWIdeal.defs (F := Ideal)) (onTc (τ := Cert.ReferenceDownWIdeal.τ) (Cert.ReferenceDownWIdeal.main (F := Ideal))) ⟨m', fun _ => 0, g'⟩ (fun r => ∀ c : Dev Cert.ReferenceDownWIdeal.nD,
          r.2.mem ((c.tc : Thread Cert.ReferenceDownWIdeal.nD Cert.ReferenceDownWIdeal.τ).loc Cert.ReferenceDownWIdeal.main_v4) = v0 c
          ∧ r.2.mem ((c.tc : Thread Cert.ReferenceDownWIdeal.nD Cert.ReferenceDownWIdeal.τ).loc Cert.ReferenceDownWIdeal.main_arg0) = m' ((c.tc : Thread Cert.ReferenceDownWIdeal.nD Cert.ReferenceDownWIdeal.τ).loc Cert.ReferenceDownWIdeal.main_arg0)
          ∧ r.2.mem ((c.tc : Thread Cert.ReferenceDownWIdeal.nD Cert.ReferenceDownWIdeal.τ).loc Cert.ReferenceDownWIdeal.main_arg1) = m' ((c.tc : Thread Cert.ReferenceDownWIdeal.nD Cert.ReferenceDownWIdeal.τ).loc Cert.ReferenceDownWIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelNormUp_KernelNormUpIdeal : Prop :=
  True

def algebraic_KernelNormUpIdeal_ReferenceNormUpIdeal [hKernelNormUpIdeal : Cert.KernelNormUpIdeal.Facts] [hReferenceNormUpIdeal : Cert.ReferenceNormUpIdeal.Facts] : Prop :=
  ∀ (m : (ℓ : Loc Cert.KernelNormUpIdeal.nD Cert.KernelNormUpIdeal.τ Cert.KernelNormUpIdeal.sig) → Buf (Elt Ideal) ℓ) (g : Dev Cert.KernelNormUpIdeal.nD → PrngReg)
    (m' : (ℓ : Loc Cert.ReferenceNormUpIdeal.nD Cert.ReferenceNormUpIdeal.τ Cert.ReferenceNormUpIdeal.sig) → Buf (Elt Ideal) ℓ) (g' : Dev Cert.ReferenceNormUpIdeal.nD → PrngReg), Pre_KernelNormUpIdeal m →
    (∀ c : Dev Cert.KernelNormUpIdeal.nD,
      m' ((c.tc : Thread Cert.ReferenceNormUpIdeal.nD Cert.ReferenceNormUpIdeal.τ).loc Cert.ReferenceNormUpIdeal.main_arg0) = m ((c.tc : Thread Cert.KernelNormUpIdeal.nD Cert.KernelNormUpIdeal.τ).loc Cert.KernelNormUpIdeal.main_arg0)
      ∧ m' ((c.tc : Thread Cert.ReferenceNormUpIdeal.nD Cert.ReferenceNormUpIdeal.τ).loc Cert.ReferenceNormUpIdeal.main_arg1) = m ((c.tc : Thread Cert.KernelNormUpIdeal.nD Cert.KernelNormUpIdeal.τ).loc Cert.KernelNormUpIdeal.main_arg1)
      ∧ m' ((c.tc : Thread Cert.ReferenceNormUpIdeal.nD Cert.ReferenceNormUpIdeal.τ).loc Cert.ReferenceNormUpIdeal.main_arg2) = m ((c.tc : Thread Cert.KernelNormUpIdeal.nD Cert.KernelNormUpIdeal.τ).loc Cert.KernelNormUpIdeal.main_arg2)) →
    ∃ (v0 : (c : Dev Cert.KernelNormUpIdeal.nD) → Buf (Elt Ideal) ((c.tc : Thread Cert.KernelNormUpIdeal.nD Cert.KernelNormUpIdeal.τ).loc Cert.KernelNormUpIdeal.main_v2_0)) (v1 : (c : Dev Cert.KernelNormUpIdeal.nD) → Buf (Elt Ideal) ((c.tc : Thread Cert.KernelNormUpIdeal.nD Cert.KernelNormUpIdeal.τ).loc Cert.KernelNormUpIdeal.main_v2_1)),
      θ_run (Cert.KernelNormUpIdeal.defs (F := Ideal)) (onTc (τ := Cert.KernelNormUpIdeal.τ) (Cert.KernelNormUpIdeal.main (F := Ideal))) ⟨m, fun _ => 0, g⟩ (fun r => ∀ c : Dev Cert.KernelNormUpIdeal.nD,
          r.2.mem ((c.tc : Thread Cert.KernelNormUpIdeal.nD Cert.KernelNormUpIdeal.τ).loc Cert.KernelNormUpIdeal.main_v2_0) = v0 c
          ∧ r.2.mem ((c.tc : Thread Cert.KernelNormUpIdeal.nD Cert.KernelNormUpIdeal.τ).loc Cert.KernelNormUpIdeal.main_v2_1) = v1 c
          ∧ r.2.mem ((c.tc : Thread Cert.KernelNormUpIdeal.nD Cert.KernelNormUpIdeal.τ).loc Cert.KernelNormUpIdeal.main_arg0) = m ((c.tc : Thread Cert.KernelNormUpIdeal.nD Cert.KernelNormUpIdeal.τ).loc Cert.KernelNormUpIdeal.main_arg0)
          ∧ r.2.mem ((c.tc : Thread Cert.KernelNormUpIdeal.nD Cert.KernelNormUpIdeal.τ).loc Cert.KernelNormUpIdeal.main_arg1) = m ((c.tc : Thread Cert.KernelNormUpIdeal.nD Cert.KernelNormUpIdeal.τ).loc Cert.KernelNormUpIdeal.main_arg1)
          ∧ r.2.mem ((c.tc : Thread Cert.KernelNormUpIdeal.nD Cert.KernelNormUpIdeal.τ).loc Cert.KernelNormUpIdeal.main_arg2) = m ((c.tc : Thread Cert.KernelNormUpIdeal.nD Cert.KernelNormUpIdeal.τ).loc Cert.KernelNormUpIdeal.main_arg2))
      ∧ θ_run (Cert.ReferenceNormUpIdeal.defs (F := Ideal)) (onTc (τ := Cert.ReferenceNormUpIdeal.τ) (Cert.ReferenceNormUpIdeal.main (F := Ideal))) ⟨m', fun _ => 0, g'⟩ (fun r => ∀ c : Dev Cert.ReferenceNormUpIdeal.nD,
          r.2.mem ((c.tc : Thread Cert.ReferenceNormUpIdeal.nD Cert.ReferenceNormUpIdeal.τ).loc Cert.ReferenceNormUpIdeal.main_v16) = v0 c
          ∧ r.2.mem ((c.tc : Thread Cert.ReferenceNormUpIdeal.nD Cert.ReferenceNormUpIdeal.τ).loc Cert.ReferenceNormUpIdeal.main_v17) = v1 c
          ∧ r.2.mem ((c.tc : Thread Cert.ReferenceNormUpIdeal.nD Cert.ReferenceNormUpIdeal.τ).loc Cert.ReferenceNormUpIdeal.main_arg0) = m' ((c.tc : Thread Cert.ReferenceNormUpIdeal.nD Cert.ReferenceNormUpIdeal.τ).loc Cert.ReferenceNormUpIdeal.main_arg0)
          ∧ r.2.mem ((c.tc : Thread Cert.ReferenceNormUpIdeal.nD Cert.ReferenceNormUpIdeal.τ).loc Cert.ReferenceNormUpIdeal.main_arg1) = m' ((c.tc : Thread Cert.ReferenceNormUpIdeal.nD Cert.ReferenceNormUpIdeal.τ).loc Cert.ReferenceNormUpIdeal.main_arg1)
          ∧ r.2.mem ((c.tc : Thread Cert.ReferenceNormUpIdeal.nD Cert.ReferenceNormUpIdeal.τ).loc Cert.ReferenceNormUpIdeal.main_arg2) = m' ((c.tc : Thread Cert.ReferenceNormUpIdeal.nD Cert.ReferenceNormUpIdeal.τ).loc Cert.ReferenceNormUpIdeal.main_arg2))

def preserves_KernelUpV_KernelUpVIdeal : Prop :=
  True

def algebraic_KernelUpVIdeal_ReferenceUpVIdeal [hKernelUpVIdeal : Cert.KernelUpVIdeal.Facts] [hReferenceUpVIdeal : Cert.ReferenceUpVIdeal.Facts] : Prop :=
  ∀ (m : (ℓ : Loc Cert.KernelUpVIdeal.nD Cert.KernelUpVIdeal.τ Cert.KernelUpVIdeal.sig) → Buf (Elt Ideal) ℓ) (g : Dev Cert.KernelUpVIdeal.nD → PrngReg)
    (m' : (ℓ : Loc Cert.ReferenceUpVIdeal.nD Cert.ReferenceUpVIdeal.τ Cert.ReferenceUpVIdeal.sig) → Buf (Elt Ideal) ℓ) (g' : Dev Cert.ReferenceUpVIdeal.nD → PrngReg), Pre_KernelUpVIdeal m →
    (∀ c : Dev Cert.KernelUpVIdeal.nD,
      m' ((c.tc : Thread Cert.ReferenceUpVIdeal.nD Cert.ReferenceUpVIdeal.τ).loc Cert.ReferenceUpVIdeal.main_arg0) = m ((c.tc : Thread Cert.KernelUpVIdeal.nD Cert.KernelUpVIdeal.τ).loc Cert.KernelUpVIdeal.main_arg0)
      ∧ m' ((c.tc : Thread Cert.ReferenceUpVIdeal.nD Cert.ReferenceUpVIdeal.τ).loc Cert.ReferenceUpVIdeal.main_arg1) = m ((c.tc : Thread Cert.KernelUpVIdeal.nD Cert.KernelUpVIdeal.τ).loc Cert.KernelUpVIdeal.main_arg1)) →
    ∃ (v0 : (c : Dev Cert.KernelUpVIdeal.nD) → Buf (Elt Ideal) ((c.tc : Thread Cert.KernelUpVIdeal.nD Cert.KernelUpVIdeal.τ).loc Cert.KernelUpVIdeal.main_v1)),
      θ_run (Cert.KernelUpVIdeal.defs (F := Ideal)) (onTc (τ := Cert.KernelUpVIdeal.τ) (Cert.KernelUpVIdeal.main (F := Ideal))) ⟨m, fun _ => 0, g⟩ (fun r => ∀ c : Dev Cert.KernelUpVIdeal.nD,
          r.2.mem ((c.tc : Thread Cert.KernelUpVIdeal.nD Cert.KernelUpVIdeal.τ).loc Cert.KernelUpVIdeal.main_v1) = v0 c
          ∧ r.2.mem ((c.tc : Thread Cert.KernelUpVIdeal.nD Cert.KernelUpVIdeal.τ).loc Cert.KernelUpVIdeal.main_arg0) = m ((c.tc : Thread Cert.KernelUpVIdeal.nD Cert.KernelUpVIdeal.τ).loc Cert.KernelUpVIdeal.main_arg0)
          ∧ r.2.mem ((c.tc : Thread Cert.KernelUpVIdeal.nD Cert.KernelUpVIdeal.τ).loc Cert.KernelUpVIdeal.main_arg1) = m ((c.tc : Thread Cert.KernelUpVIdeal.nD Cert.KernelUpVIdeal.τ).loc Cert.KernelUpVIdeal.main_arg1))
      ∧ θ_run (Cert.ReferenceUpVIdeal.defs (F := Ideal)) (onTc (τ := Cert.ReferenceUpVIdeal.τ) (Cert.ReferenceUpVIdeal.main (F := Ideal))) ⟨m', fun _ => 0, g'⟩ (fun r => ∀ c : Dev Cert.ReferenceUpVIdeal.nD,
          r.2.mem ((c.tc : Thread Cert.ReferenceUpVIdeal.nD Cert.ReferenceUpVIdeal.τ).loc Cert.ReferenceUpVIdeal.main_v4) = v0 c
          ∧ r.2.mem ((c.tc : Thread Cert.ReferenceUpVIdeal.nD Cert.ReferenceUpVIdeal.τ).loc Cert.ReferenceUpVIdeal.main_arg0) = m' ((c.tc : Thread Cert.ReferenceUpVIdeal.nD Cert.ReferenceUpVIdeal.τ).loc Cert.ReferenceUpVIdeal.main_arg0)
          ∧ r.2.mem ((c.tc : Thread Cert.ReferenceUpVIdeal.nD Cert.ReferenceUpVIdeal.τ).loc Cert.ReferenceUpVIdeal.main_arg1) = m' ((c.tc : Thread Cert.ReferenceUpVIdeal.nD Cert.ReferenceUpVIdeal.τ).loc Cert.ReferenceUpVIdeal.main_arg1))

def preserves_KernelDownF_KernelDownFIdeal : Prop :=
  True

def algebraic_KernelDownFIdeal_ReferenceDownFIdeal [hKernelDownFIdeal : Cert.KernelDownFIdeal.Facts] [hReferenceDownFIdeal : Cert.ReferenceDownFIdeal.Facts] : Prop :=
  ∀ (m : (ℓ : Loc Cert.KernelDownFIdeal.nD Cert.KernelDownFIdeal.τ Cert.KernelDownFIdeal.sig) → Buf (Elt Ideal) ℓ) (g : Dev Cert.KernelDownFIdeal.nD → PrngReg)
    (m' : (ℓ : Loc Cert.ReferenceDownFIdeal.nD Cert.ReferenceDownFIdeal.τ Cert.ReferenceDownFIdeal.sig) → Buf (Elt Ideal) ℓ) (g' : Dev Cert.ReferenceDownFIdeal.nD → PrngReg), Pre_KernelDownFIdeal m →
    (∀ c : Dev Cert.KernelDownFIdeal.nD,
      m' ((c.tc : Thread Cert.ReferenceDownFIdeal.nD Cert.ReferenceDownFIdeal.τ).loc Cert.ReferenceDownFIdeal.main_arg0) = m ((c.tc : Thread Cert.KernelDownFIdeal.nD Cert.KernelDownFIdeal.τ).loc Cert.KernelDownFIdeal.main_arg0)
      ∧ m' ((c.tc : Thread Cert.ReferenceDownFIdeal.nD Cert.ReferenceDownFIdeal.τ).loc Cert.ReferenceDownFIdeal.main_arg1) = m ((c.tc : Thread Cert.KernelDownFIdeal.nD Cert.KernelDownFIdeal.τ).loc Cert.KernelDownFIdeal.main_arg1)
      ∧ m' ((c.tc : Thread Cert.ReferenceDownFIdeal.nD Cert.ReferenceDownFIdeal.τ).loc Cert.ReferenceDownFIdeal.main_arg2) = m ((c.tc : Thread Cert.KernelDownFIdeal.nD Cert.KernelDownFIdeal.τ).loc Cert.KernelDownFIdeal.main_arg2)) →
    ∃ (v0 : (c : Dev Cert.KernelDownFIdeal.nD) → Buf (Elt Ideal) ((c.tc : Thread Cert.KernelDownFIdeal.nD Cert.KernelDownFIdeal.τ).loc Cert.KernelDownFIdeal.main_v0)),
      θ_run (Cert.KernelDownFIdeal.defs (F := Ideal)) (onTc (τ := Cert.KernelDownFIdeal.τ) (Cert.KernelDownFIdeal.main (F := Ideal))) ⟨m, fun _ => 0, g⟩ (fun r => ∀ c : Dev Cert.KernelDownFIdeal.nD,
          r.2.mem ((c.tc : Thread Cert.KernelDownFIdeal.nD Cert.KernelDownFIdeal.τ).loc Cert.KernelDownFIdeal.main_v0) = v0 c
          ∧ r.2.mem ((c.tc : Thread Cert.KernelDownFIdeal.nD Cert.KernelDownFIdeal.τ).loc Cert.KernelDownFIdeal.main_arg0) = m ((c.tc : Thread Cert.KernelDownFIdeal.nD Cert.KernelDownFIdeal.τ).loc Cert.KernelDownFIdeal.main_arg0)
          ∧ r.2.mem ((c.tc : Thread Cert.KernelDownFIdeal.nD Cert.KernelDownFIdeal.τ).loc Cert.KernelDownFIdeal.main_arg1) = m ((c.tc : Thread Cert.KernelDownFIdeal.nD Cert.KernelDownFIdeal.τ).loc Cert.KernelDownFIdeal.main_arg1)
          ∧ r.2.mem ((c.tc : Thread Cert.KernelDownFIdeal.nD Cert.KernelDownFIdeal.τ).loc Cert.KernelDownFIdeal.main_arg2) = m ((c.tc : Thread Cert.KernelDownFIdeal.nD Cert.KernelDownFIdeal.τ).loc Cert.KernelDownFIdeal.main_arg2))
      ∧ θ_run (Cert.ReferenceDownFIdeal.defs (F := Ideal)) (onTc (τ := Cert.ReferenceDownFIdeal.τ) (Cert.ReferenceDownFIdeal.main (F := Ideal))) ⟨m', fun _ => 0, g'⟩ (fun r => ∀ c : Dev Cert.ReferenceDownFIdeal.nD,
          r.2.mem ((c.tc : Thread Cert.ReferenceDownFIdeal.nD Cert.ReferenceDownFIdeal.τ).loc Cert.ReferenceDownFIdeal.main_v3) = v0 c
          ∧ r.2.mem ((c.tc : Thread Cert.ReferenceDownFIdeal.nD Cert.ReferenceDownFIdeal.τ).loc Cert.ReferenceDownFIdeal.main_arg0) = m' ((c.tc : Thread Cert.ReferenceDownFIdeal.nD Cert.ReferenceDownFIdeal.τ).loc Cert.ReferenceDownFIdeal.main_arg0)
          ∧ r.2.mem ((c.tc : Thread Cert.ReferenceDownFIdeal.nD Cert.ReferenceDownFIdeal.τ).loc Cert.ReferenceDownFIdeal.main_arg1) = m' ((c.tc : Thread Cert.ReferenceDownFIdeal.nD Cert.ReferenceDownFIdeal.τ).loc Cert.ReferenceDownFIdeal.main_arg1)
          ∧ r.2.mem ((c.tc : Thread Cert.ReferenceDownFIdeal.nD Cert.ReferenceDownFIdeal.τ).loc Cert.ReferenceDownFIdeal.main_arg2) = m' ((c.tc : Thread Cert.ReferenceDownFIdeal.nD Cert.ReferenceDownFIdeal.τ).loc Cert.ReferenceDownFIdeal.main_arg2))

def preserves_KernelNormQkv_KernelNormQkvIdeal : Prop :=
  True

def algebraic_KernelNormQkvIdeal_ReferenceNormQkvIdeal [hKernelNormQkvIdeal : Cert.KernelNormQkvIdeal.Facts] [hReferenceNormQkvIdeal : Cert.ReferenceNormQkvIdeal.Facts] : Prop :=
  ∀ (m : (ℓ : Loc Cert.KernelNormQkvIdeal.nD Cert.KernelNormQkvIdeal.τ Cert.KernelNormQkvIdeal.sig) → Buf (Elt Ideal) ℓ) (g : Dev Cert.KernelNormQkvIdeal.nD → PrngReg)
    (m' : (ℓ : Loc Cert.ReferenceNormQkvIdeal.nD Cert.ReferenceNormQkvIdeal.τ Cert.ReferenceNormQkvIdeal.sig) → Buf (Elt Ideal) ℓ) (g' : Dev Cert.ReferenceNormQkvIdeal.nD → PrngReg), Pre_KernelNormQkvIdeal m →
    (∀ c : Dev Cert.KernelNormQkvIdeal.nD,
      m' ((c.tc : Thread Cert.ReferenceNormQkvIdeal.nD Cert.ReferenceNormQkvIdeal.τ).loc Cert.ReferenceNormQkvIdeal.main_arg0) = m ((c.tc : Thread Cert.KernelNormQkvIdeal.nD Cert.KernelNormQkvIdeal.τ).loc Cert.KernelNormQkvIdeal.main_arg0)
      ∧ m' ((c.tc : Thread Cert.ReferenceNormQkvIdeal.nD Cert.ReferenceNormQkvIdeal.τ).loc Cert.ReferenceNormQkvIdeal.main_arg1) = m ((c.tc : Thread Cert.KernelNormQkvIdeal.nD Cert.KernelNormQkvIdeal.τ).loc Cert.KernelNormQkvIdeal.main_arg1)
      ∧ m' ((c.tc : Thread Cert.ReferenceNormQkvIdeal.nD Cert.ReferenceNormQkvIdeal.τ).loc Cert.ReferenceNormQkvIdeal.main_arg2) = m ((c.tc : Thread Cert.KernelNormQkvIdeal.nD Cert.KernelNormQkvIdeal.τ).loc Cert.KernelNormQkvIdeal.main_arg2)) →
    ∃ (v0 : (c : Dev Cert.KernelNormQkvIdeal.nD) → Buf (Elt Ideal) ((c.tc : Thread Cert.KernelNormQkvIdeal.nD Cert.KernelNormQkvIdeal.τ).loc Cert.KernelNormQkvIdeal.main_v1_0)) (v1 : (c : Dev Cert.KernelNormQkvIdeal.nD) → Buf (Elt Ideal) ((c.tc : Thread Cert.KernelNormQkvIdeal.nD Cert.KernelNormQkvIdeal.τ).loc Cert.KernelNormQkvIdeal.main_v1_1)),
      θ_run (Cert.KernelNormQkvIdeal.defs (F := Ideal)) (onTc (τ := Cert.KernelNormQkvIdeal.τ) (Cert.KernelNormQkvIdeal.main (F := Ideal))) ⟨m, fun _ => 0, g⟩ (fun r => ∀ c : Dev Cert.KernelNormQkvIdeal.nD,
          r.2.mem ((c.tc : Thread Cert.KernelNormQkvIdeal.nD Cert.KernelNormQkvIdeal.τ).loc Cert.KernelNormQkvIdeal.main_v1_0) = v0 c
          ∧ r.2.mem ((c.tc : Thread Cert.KernelNormQkvIdeal.nD Cert.KernelNormQkvIdeal.τ).loc Cert.KernelNormQkvIdeal.main_v1_1) = v1 c
          ∧ r.2.mem ((c.tc : Thread Cert.KernelNormQkvIdeal.nD Cert.KernelNormQkvIdeal.τ).loc Cert.KernelNormQkvIdeal.main_arg0) = m ((c.tc : Thread Cert.KernelNormQkvIdeal.nD Cert.KernelNormQkvIdeal.τ).loc Cert.KernelNormQkvIdeal.main_arg0)
          ∧ r.2.mem ((c.tc : Thread Cert.KernelNormQkvIdeal.nD Cert.KernelNormQkvIdeal.τ).loc Cert.KernelNormQkvIdeal.main_arg1) = m ((c.tc : Thread Cert.KernelNormQkvIdeal.nD Cert.KernelNormQkvIdeal.τ).loc Cert.KernelNormQkvIdeal.main_arg1)
          ∧ r.2.mem ((c.tc : Thread Cert.KernelNormQkvIdeal.nD Cert.KernelNormQkvIdeal.τ).loc Cert.KernelNormQkvIdeal.main_arg2) = m ((c.tc : Thread Cert.KernelNormQkvIdeal.nD Cert.KernelNormQkvIdeal.τ).loc Cert.KernelNormQkvIdeal.main_arg2))
      ∧ θ_run (Cert.ReferenceNormQkvIdeal.defs (F := Ideal)) (onTc (τ := Cert.ReferenceNormQkvIdeal.τ) (Cert.ReferenceNormQkvIdeal.main (F := Ideal))) ⟨m', fun _ => 0, g'⟩ (fun r => ∀ c : Dev Cert.ReferenceNormQkvIdeal.nD,
          r.2.mem ((c.tc : Thread Cert.ReferenceNormQkvIdeal.nD Cert.ReferenceNormQkvIdeal.τ).loc Cert.ReferenceNormQkvIdeal.main_v15) = v0 c
          ∧ r.2.mem ((c.tc : Thread Cert.ReferenceNormQkvIdeal.nD Cert.ReferenceNormQkvIdeal.τ).loc Cert.ReferenceNormQkvIdeal.main_v16) = v1 c
          ∧ r.2.mem ((c.tc : Thread Cert.ReferenceNormQkvIdeal.nD Cert.ReferenceNormQkvIdeal.τ).loc Cert.ReferenceNormQkvIdeal.main_arg0) = m' ((c.tc : Thread Cert.ReferenceNormQkvIdeal.nD Cert.ReferenceNormQkvIdeal.τ).loc Cert.ReferenceNormQkvIdeal.main_arg0)
          ∧ r.2.mem ((c.tc : Thread Cert.ReferenceNormQkvIdeal.nD Cert.ReferenceNormQkvIdeal.τ).loc Cert.ReferenceNormQkvIdeal.main_arg1) = m' ((c.tc : Thread Cert.ReferenceNormQkvIdeal.nD Cert.ReferenceNormQkvIdeal.τ).loc Cert.ReferenceNormQkvIdeal.main_arg1)
          ∧ r.2.mem ((c.tc : Thread Cert.ReferenceNormQkvIdeal.nD Cert.ReferenceNormQkvIdeal.τ).loc Cert.ReferenceNormQkvIdeal.main_arg2) = m' ((c.tc : Thread Cert.ReferenceNormQkvIdeal.nD Cert.ReferenceNormQkvIdeal.τ).loc Cert.ReferenceNormQkvIdeal.main_arg2))

def preserves_KernelQkvW_KernelQkvWIdeal : Prop :=
  True

def algebraic_KernelQkvWIdeal_ReferenceQkvWIdeal [hKernelQkvWIdeal : Cert.KernelQkvWIdeal.Facts] [hReferenceQkvWIdeal : Cert.ReferenceQkvWIdeal.Facts] : Prop :=
  ∀ (m : (ℓ : Loc Cert.KernelQkvWIdeal.nD Cert.KernelQkvWIdeal.τ Cert.KernelQkvWIdeal.sig) → Buf (Elt Ideal) ℓ) (g : Dev Cert.KernelQkvWIdeal.nD → PrngReg)
    (m' : (ℓ : Loc Cert.ReferenceQkvWIdeal.nD Cert.ReferenceQkvWIdeal.τ Cert.ReferenceQkvWIdeal.sig) → Buf (Elt Ideal) ℓ) (g' : Dev Cert.ReferenceQkvWIdeal.nD → PrngReg), Pre_KernelQkvWIdeal m →
    (∀ c : Dev Cert.KernelQkvWIdeal.nD,
      m' ((c.tc : Thread Cert.ReferenceQkvWIdeal.nD Cert.ReferenceQkvWIdeal.τ).loc Cert.ReferenceQkvWIdeal.main_arg0) = m ((c.tc : Thread Cert.KernelQkvWIdeal.nD Cert.KernelQkvWIdeal.τ).loc Cert.KernelQkvWIdeal.main_arg0)
      ∧ m' ((c.tc : Thread Cert.ReferenceQkvWIdeal.nD Cert.ReferenceQkvWIdeal.τ).loc Cert.ReferenceQkvWIdeal.main_arg1) = m ((c.tc : Thread Cert.KernelQkvWIdeal.nD Cert.KernelQkvWIdeal.τ).loc Cert.KernelQkvWIdeal.main_arg1)) →
    ∃ (v0 : (c : Dev Cert.KernelQkvWIdeal.nD) → Buf (Elt Ideal) ((c.tc : Thread Cert.KernelQkvWIdeal.nD Cert.KernelQkvWIdeal.τ).loc Cert.KernelQkvWIdeal.main_v0)),
      θ_run (Cert.KernelQkvWIdeal.defs (F := Ideal)) (onTc (τ := Cert.KernelQkvWIdeal.τ) (Cert.KernelQkvWIdeal.main (F := Ideal))) ⟨m, fun _ => 0, g⟩ (fun r => ∀ c : Dev Cert.KernelQkvWIdeal.nD,
          r.2.mem ((c.tc : Thread Cert.KernelQkvWIdeal.nD Cert.KernelQkvWIdeal.τ).loc Cert.KernelQkvWIdeal.main_v0) = v0 c
          ∧ r.2.mem ((c.tc : Thread Cert.KernelQkvWIdeal.nD Cert.KernelQkvWIdeal.τ).loc Cert.KernelQkvWIdeal.main_arg0) = m ((c.tc : Thread Cert.KernelQkvWIdeal.nD Cert.KernelQkvWIdeal.τ).loc Cert.KernelQkvWIdeal.main_arg0)
          ∧ r.2.mem ((c.tc : Thread Cert.KernelQkvWIdeal.nD Cert.KernelQkvWIdeal.τ).loc Cert.KernelQkvWIdeal.main_arg1) = m ((c.tc : Thread Cert.KernelQkvWIdeal.nD Cert.KernelQkvWIdeal.τ).loc Cert.KernelQkvWIdeal.main_arg1))
      ∧ θ_run (Cert.ReferenceQkvWIdeal.defs (F := Ideal)) (onTc (τ := Cert.ReferenceQkvWIdeal.τ) (Cert.ReferenceQkvWIdeal.main (F := Ideal))) ⟨m', fun _ => 0, g'⟩ (fun r => ∀ c : Dev Cert.ReferenceQkvWIdeal.nD,
          r.2.mem ((c.tc : Thread Cert.ReferenceQkvWIdeal.nD Cert.ReferenceQkvWIdeal.τ).loc Cert.ReferenceQkvWIdeal.main_v5) = v0 c
          ∧ r.2.mem ((c.tc : Thread Cert.ReferenceQkvWIdeal.nD Cert.ReferenceQkvWIdeal.τ).loc Cert.ReferenceQkvWIdeal.main_arg0) = m' ((c.tc : Thread Cert.ReferenceQkvWIdeal.nD Cert.ReferenceQkvWIdeal.τ).loc Cert.ReferenceQkvWIdeal.main_arg0)
          ∧ r.2.mem ((c.tc : Thread Cert.ReferenceQkvWIdeal.nD Cert.ReferenceQkvWIdeal.τ).loc Cert.ReferenceQkvWIdeal.main_arg1) = m' ((c.tc : Thread Cert.ReferenceQkvWIdeal.nD Cert.ReferenceQkvWIdeal.τ).loc Cert.ReferenceQkvWIdeal.main_arg1))

def preserves_KernelQkvD_KernelQkvDIdeal : Prop :=
  True

def algebraic_KernelQkvDIdeal_ReferenceQkvDIdeal [hKernelQkvDIdeal : Cert.KernelQkvDIdeal.Facts] [hReferenceQkvDIdeal : Cert.ReferenceQkvDIdeal.Facts] : Prop :=
  ∀ (m : (ℓ : Loc Cert.KernelQkvDIdeal.nD Cert.KernelQkvDIdeal.τ Cert.KernelQkvDIdeal.sig) → Buf (Elt Ideal) ℓ) (g : Dev Cert.KernelQkvDIdeal.nD → PrngReg)
    (m' : (ℓ : Loc Cert.ReferenceQkvDIdeal.nD Cert.ReferenceQkvDIdeal.τ Cert.ReferenceQkvDIdeal.sig) → Buf (Elt Ideal) ℓ) (g' : Dev Cert.ReferenceQkvDIdeal.nD → PrngReg), Pre_KernelQkvDIdeal m →
    (∀ c : Dev Cert.KernelQkvDIdeal.nD,
      m' ((c.tc : Thread Cert.ReferenceQkvDIdeal.nD Cert.ReferenceQkvDIdeal.τ).loc Cert.ReferenceQkvDIdeal.main_arg0) = m ((c.tc : Thread Cert.KernelQkvDIdeal.nD Cert.KernelQkvDIdeal.τ).loc Cert.KernelQkvDIdeal.main_arg0)
      ∧ m' ((c.tc : Thread Cert.ReferenceQkvDIdeal.nD Cert.ReferenceQkvDIdeal.τ).loc Cert.ReferenceQkvDIdeal.main_arg1) = m ((c.tc : Thread Cert.KernelQkvDIdeal.nD Cert.KernelQkvDIdeal.τ).loc Cert.KernelQkvDIdeal.main_arg1)
      ∧ m' ((c.tc : Thread Cert.ReferenceQkvDIdeal.nD Cert.ReferenceQkvDIdeal.τ).loc Cert.ReferenceQkvDIdeal.main_arg2) = m ((c.tc : Thread Cert.KernelQkvDIdeal.nD Cert.KernelQkvDIdeal.τ).loc Cert.KernelQkvDIdeal.main_arg2)
      ∧ m' ((c.tc : Thread Cert.ReferenceQkvDIdeal.nD Cert.ReferenceQkvDIdeal.τ).loc Cert.ReferenceQkvDIdeal.main_arg3) = m ((c.tc : Thread Cert.KernelQkvDIdeal.nD Cert.KernelQkvDIdeal.τ).loc Cert.KernelQkvDIdeal.main_arg3)
      ∧ m' ((c.tc : Thread Cert.ReferenceQkvDIdeal.nD Cert.ReferenceQkvDIdeal.τ).loc Cert.ReferenceQkvDIdeal.main_arg4) = m ((c.tc : Thread Cert.KernelQkvDIdeal.nD Cert.KernelQkvDIdeal.τ).loc Cert.KernelQkvDIdeal.main_arg4)) →
    ∃ (v0 : (c : Dev Cert.KernelQkvDIdeal.nD) → Buf (Elt Ideal) ((c.tc : Thread Cert.KernelQkvDIdeal.nD Cert.KernelQkvDIdeal.τ).loc Cert.KernelQkvDIdeal.main_v1_0)) (v1 : (c : Dev Cert.KernelQkvDIdeal.nD) → Buf (Elt Ideal) ((c.tc : Thread Cert.KernelQkvDIdeal.nD Cert.KernelQkvDIdeal.τ).loc Cert.KernelQkvDIdeal.main_v1_1)),
      θ_run (Cert.KernelQkvDIdeal.defs (F := Ideal)) (onTc (τ := Cert.KernelQkvDIdeal.τ) (Cert.KernelQkvDIdeal.main (F := Ideal))) ⟨m, fun _ => 0, g⟩ (fun r => ∀ c : Dev Cert.KernelQkvDIdeal.nD,
          r.2.mem ((c.tc : Thread Cert.KernelQkvDIdeal.nD Cert.KernelQkvDIdeal.τ).loc Cert.KernelQkvDIdeal.main_v1_0) = v0 c
          ∧ r.2.mem ((c.tc : Thread Cert.KernelQkvDIdeal.nD Cert.KernelQkvDIdeal.τ).loc Cert.KernelQkvDIdeal.main_v1_1) = v1 c
          ∧ r.2.mem ((c.tc : Thread Cert.KernelQkvDIdeal.nD Cert.KernelQkvDIdeal.τ).loc Cert.KernelQkvDIdeal.main_arg0) = m ((c.tc : Thread Cert.KernelQkvDIdeal.nD Cert.KernelQkvDIdeal.τ).loc Cert.KernelQkvDIdeal.main_arg0)
          ∧ r.2.mem ((c.tc : Thread Cert.KernelQkvDIdeal.nD Cert.KernelQkvDIdeal.τ).loc Cert.KernelQkvDIdeal.main_arg1) = m ((c.tc : Thread Cert.KernelQkvDIdeal.nD Cert.KernelQkvDIdeal.τ).loc Cert.KernelQkvDIdeal.main_arg1)
          ∧ r.2.mem ((c.tc : Thread Cert.KernelQkvDIdeal.nD Cert.KernelQkvDIdeal.τ).loc Cert.KernelQkvDIdeal.main_arg2) = m ((c.tc : Thread Cert.KernelQkvDIdeal.nD Cert.KernelQkvDIdeal.τ).loc Cert.KernelQkvDIdeal.main_arg2)
          ∧ r.2.mem ((c.tc : Thread Cert.KernelQkvDIdeal.nD Cert.KernelQkvDIdeal.τ).loc Cert.KernelQkvDIdeal.main_arg3) = m ((c.tc : Thread Cert.KernelQkvDIdeal.nD Cert.KernelQkvDIdeal.τ).loc Cert.KernelQkvDIdeal.main_arg3)
          ∧ r.2.mem ((c.tc : Thread Cert.KernelQkvDIdeal.nD Cert.KernelQkvDIdeal.τ).loc Cert.KernelQkvDIdeal.main_arg4) = m ((c.tc : Thread Cert.KernelQkvDIdeal.nD Cert.KernelQkvDIdeal.τ).loc Cert.KernelQkvDIdeal.main_arg4))
      ∧ θ_run (Cert.ReferenceQkvDIdeal.defs (F := Ideal)) (onTc (τ := Cert.ReferenceQkvDIdeal.τ) (Cert.ReferenceQkvDIdeal.main (F := Ideal))) ⟨m', fun _ => 0, g'⟩ (fun r => ∀ c : Dev Cert.ReferenceQkvDIdeal.nD,
          r.2.mem ((c.tc : Thread Cert.ReferenceQkvDIdeal.nD Cert.ReferenceQkvDIdeal.τ).loc Cert.ReferenceQkvDIdeal.main_v40) = v0 c
          ∧ r.2.mem ((c.tc : Thread Cert.ReferenceQkvDIdeal.nD Cert.ReferenceQkvDIdeal.τ).loc Cert.ReferenceQkvDIdeal.main_v41) = v1 c
          ∧ r.2.mem ((c.tc : Thread Cert.ReferenceQkvDIdeal.nD Cert.ReferenceQkvDIdeal.τ).loc Cert.ReferenceQkvDIdeal.main_arg0) = m' ((c.tc : Thread Cert.ReferenceQkvDIdeal.nD Cert.ReferenceQkvDIdeal.τ).loc Cert.ReferenceQkvDIdeal.main_arg0)
          ∧ r.2.mem ((c.tc : Thread Cert.ReferenceQkvDIdeal.nD Cert.ReferenceQkvDIdeal.τ).loc Cert.ReferenceQkvDIdeal.main_arg1) = m' ((c.tc : Thread Cert.ReferenceQkvDIdeal.nD Cert.ReferenceQkvDIdeal.τ).loc Cert.ReferenceQkvDIdeal.main_arg1)
          ∧ r.2.mem ((c.tc : Thread Cert.ReferenceQkvDIdeal.nD Cert.ReferenceQkvDIdeal.τ).loc Cert.ReferenceQkvDIdeal.main_arg2) = m' ((c.tc : Thread Cert.ReferenceQkvDIdeal.nD Cert.ReferenceQkvDIdeal.τ).loc Cert.ReferenceQkvDIdeal.main_arg2)
          ∧ r.2.mem ((c.tc : Thread Cert.ReferenceQkvDIdeal.nD Cert.ReferenceQkvDIdeal.τ).loc Cert.ReferenceQkvDIdeal.main_arg3) = m' ((c.tc : Thread Cert.ReferenceQkvDIdeal.nD Cert.ReferenceQkvDIdeal.τ).loc Cert.ReferenceQkvDIdeal.main_arg3)
          ∧ r.2.mem ((c.tc : Thread Cert.ReferenceQkvDIdeal.nD Cert.ReferenceQkvDIdeal.τ).loc Cert.ReferenceQkvDIdeal.main_arg4) = m' ((c.tc : Thread Cert.ReferenceQkvDIdeal.nD Cert.ReferenceQkvDIdeal.τ).loc Cert.ReferenceQkvDIdeal.main_arg4))

def preserves_KernelNormRnn_KernelNormRnnIdeal : Prop :=
  True

def algebraic_KernelNormRnnIdeal_ReferenceNormRnnIdeal [hKernelNormRnnIdeal : Cert.KernelNormRnnIdeal.Facts] [hReferenceNormRnnIdeal : Cert.ReferenceNormRnnIdeal.Facts] : Prop :=
  ∀ (m : (ℓ : Loc Cert.KernelNormRnnIdeal.nD Cert.KernelNormRnnIdeal.τ Cert.KernelNormRnnIdeal.sig) → Buf (Elt Ideal) ℓ) (g : Dev Cert.KernelNormRnnIdeal.nD → PrngReg)
    (m' : (ℓ : Loc Cert.ReferenceNormRnnIdeal.nD Cert.ReferenceNormRnnIdeal.τ Cert.ReferenceNormRnnIdeal.sig) → Buf (Elt Ideal) ℓ) (g' : Dev Cert.ReferenceNormRnnIdeal.nD → PrngReg), Pre_KernelNormRnnIdeal m →
    (∀ c : Dev Cert.KernelNormRnnIdeal.nD,
      m' ((c.tc : Thread Cert.ReferenceNormRnnIdeal.nD Cert.ReferenceNormRnnIdeal.τ).loc Cert.ReferenceNormRnnIdeal.main_arg0) = m ((c.tc : Thread Cert.KernelNormRnnIdeal.nD Cert.KernelNormRnnIdeal.τ).loc Cert.KernelNormRnnIdeal.main_arg0)
      ∧ m' ((c.tc : Thread Cert.ReferenceNormRnnIdeal.nD Cert.ReferenceNormRnnIdeal.τ).loc Cert.ReferenceNormRnnIdeal.main_arg1) = m ((c.tc : Thread Cert.KernelNormRnnIdeal.nD Cert.KernelNormRnnIdeal.τ).loc Cert.KernelNormRnnIdeal.main_arg1)
      ∧ m' ((c.tc : Thread Cert.ReferenceNormRnnIdeal.nD Cert.ReferenceNormRnnIdeal.τ).loc Cert.ReferenceNormRnnIdeal.main_arg2) = m ((c.tc : Thread Cert.KernelNormRnnIdeal.nD Cert.KernelNormRnnIdeal.τ).loc Cert.KernelNormRnnIdeal.main_arg2)) →
    ∃ (v0 : (c : Dev Cert.KernelNormRnnIdeal.nD) → Buf (Elt Ideal) ((c.tc : Thread Cert.KernelNormRnnIdeal.nD Cert.KernelNormRnnIdeal.τ).loc Cert.KernelNormRnnIdeal.main_v2_0)) (v1 : (c : Dev Cert.KernelNormRnnIdeal.nD) → Buf (Elt Ideal) ((c.tc : Thread Cert.KernelNormRnnIdeal.nD Cert.KernelNormRnnIdeal.τ).loc Cert.KernelNormRnnIdeal.main_v2_1)),
      θ_run (Cert.KernelNormRnnIdeal.defs (F := Ideal)) (onTc (τ := Cert.KernelNormRnnIdeal.τ) (Cert.KernelNormRnnIdeal.main (F := Ideal))) ⟨m, fun _ => 0, g⟩ (fun r => ∀ c : Dev Cert.KernelNormRnnIdeal.nD,
          r.2.mem ((c.tc : Thread Cert.KernelNormRnnIdeal.nD Cert.KernelNormRnnIdeal.τ).loc Cert.KernelNormRnnIdeal.main_v2_0) = v0 c
          ∧ r.2.mem ((c.tc : Thread Cert.KernelNormRnnIdeal.nD Cert.KernelNormRnnIdeal.τ).loc Cert.KernelNormRnnIdeal.main_v2_1) = v1 c
          ∧ r.2.mem ((c.tc : Thread Cert.KernelNormRnnIdeal.nD Cert.KernelNormRnnIdeal.τ).loc Cert.KernelNormRnnIdeal.main_arg0) = m ((c.tc : Thread Cert.KernelNormRnnIdeal.nD Cert.KernelNormRnnIdeal.τ).loc Cert.KernelNormRnnIdeal.main_arg0)
          ∧ r.2.mem ((c.tc : Thread Cert.KernelNormRnnIdeal.nD Cert.KernelNormRnnIdeal.τ).loc Cert.KernelNormRnnIdeal.main_arg1) = m ((c.tc : Thread Cert.KernelNormRnnIdeal.nD Cert.KernelNormRnnIdeal.τ).loc Cert.KernelNormRnnIdeal.main_arg1)
          ∧ r.2.mem ((c.tc : Thread Cert.KernelNormRnnIdeal.nD Cert.KernelNormRnnIdeal.τ).loc Cert.KernelNormRnnIdeal.main_arg2) = m ((c.tc : Thread Cert.KernelNormRnnIdeal.nD Cert.KernelNormRnnIdeal.τ).loc Cert.KernelNormRnnIdeal.main_arg2))
      ∧ θ_run (Cert.ReferenceNormRnnIdeal.defs (F := Ideal)) (onTc (τ := Cert.ReferenceNormRnnIdeal.τ) (Cert.ReferenceNormRnnIdeal.main (F := Ideal))) ⟨m', fun _ => 0, g'⟩ (fun r => ∀ c : Dev Cert.ReferenceNormRnnIdeal.nD,
          r.2.mem ((c.tc : Thread Cert.ReferenceNormRnnIdeal.nD Cert.ReferenceNormRnnIdeal.τ).loc Cert.ReferenceNormRnnIdeal.main_v15) = v0 c
          ∧ r.2.mem ((c.tc : Thread Cert.ReferenceNormRnnIdeal.nD Cert.ReferenceNormRnnIdeal.τ).loc Cert.ReferenceNormRnnIdeal.main_v16) = v1 c
          ∧ r.2.mem ((c.tc : Thread Cert.ReferenceNormRnnIdeal.nD Cert.ReferenceNormRnnIdeal.τ).loc Cert.ReferenceNormRnnIdeal.main_arg0) = m' ((c.tc : Thread Cert.ReferenceNormRnnIdeal.nD Cert.ReferenceNormRnnIdeal.τ).loc Cert.ReferenceNormRnnIdeal.main_arg0)
          ∧ r.2.mem ((c.tc : Thread Cert.ReferenceNormRnnIdeal.nD Cert.ReferenceNormRnnIdeal.τ).loc Cert.ReferenceNormRnnIdeal.main_arg1) = m' ((c.tc : Thread Cert.ReferenceNormRnnIdeal.nD Cert.ReferenceNormRnnIdeal.τ).loc Cert.ReferenceNormRnnIdeal.main_arg1)
          ∧ r.2.mem ((c.tc : Thread Cert.ReferenceNormRnnIdeal.nD Cert.ReferenceNormRnnIdeal.τ).loc Cert.ReferenceNormRnnIdeal.main_arg2) = m' ((c.tc : Thread Cert.ReferenceNormRnnIdeal.nD Cert.ReferenceNormRnnIdeal.τ).loc Cert.ReferenceNormRnnIdeal.main_arg2))

def preserves_KernelRecF_KernelRecFIdeal : Prop :=
  True

def algebraic_KernelRecFIdeal_ReferenceRecFIdeal [hKernelRecFIdeal : Cert.KernelRecFIdeal.Facts] [hReferenceRecFIdeal : Cert.ReferenceRecFIdeal.Facts] : Prop :=
  ∀ (m : (ℓ : Loc Cert.KernelRecFIdeal.nD Cert.KernelRecFIdeal.τ Cert.KernelRecFIdeal.sig) → Buf (Elt Ideal) ℓ) (g : Dev Cert.KernelRecFIdeal.nD → PrngReg)
    (m' : (ℓ : Loc Cert.ReferenceRecFIdeal.nD Cert.ReferenceRecFIdeal.τ Cert.ReferenceRecFIdeal.sig) → Buf (Elt Ideal) ℓ) (g' : Dev Cert.ReferenceRecFIdeal.nD → PrngReg), Pre_KernelRecFIdeal m →
    (∀ c : Dev Cert.KernelRecFIdeal.nD,
      m' ((c.tc : Thread Cert.ReferenceRecFIdeal.nD Cert.ReferenceRecFIdeal.τ).loc Cert.ReferenceRecFIdeal.main_arg0) = m ((c.tc : Thread Cert.KernelRecFIdeal.nD Cert.KernelRecFIdeal.τ).loc Cert.KernelRecFIdeal.main_arg0)
      ∧ m' ((c.tc : Thread Cert.ReferenceRecFIdeal.nD Cert.ReferenceRecFIdeal.τ).loc Cert.ReferenceRecFIdeal.main_arg1) = m ((c.tc : Thread Cert.KernelRecFIdeal.nD Cert.KernelRecFIdeal.τ).loc Cert.KernelRecFIdeal.main_arg1)) →
    ∃ (v0 : (c : Dev Cert.KernelRecFIdeal.nD) → Buf (Elt Ideal) ((c.tc : Thread Cert.KernelRecFIdeal.nD Cert.KernelRecFIdeal.τ).loc Cert.KernelRecFIdeal.main_v1)),
      θ_run (Cert.KernelRecFIdeal.defs (F := Ideal)) (onTc (τ := Cert.KernelRecFIdeal.τ) (Cert.KernelRecFIdeal.main (F := Ideal))) ⟨m, fun _ => 0, g⟩ (fun r => ∀ c : Dev Cert.KernelRecFIdeal.nD,
          r.2.mem ((c.tc : Thread Cert.KernelRecFIdeal.nD Cert.KernelRecFIdeal.τ).loc Cert.KernelRecFIdeal.main_v1) = v0 c
          ∧ r.2.mem ((c.tc : Thread Cert.KernelRecFIdeal.nD Cert.KernelRecFIdeal.τ).loc Cert.KernelRecFIdeal.main_arg0) = m ((c.tc : Thread Cert.KernelRecFIdeal.nD Cert.KernelRecFIdeal.τ).loc Cert.KernelRecFIdeal.main_arg0)
          ∧ r.2.mem ((c.tc : Thread Cert.KernelRecFIdeal.nD Cert.KernelRecFIdeal.τ).loc Cert.KernelRecFIdeal.main_arg1) = m ((c.tc : Thread Cert.KernelRecFIdeal.nD Cert.KernelRecFIdeal.τ).loc Cert.KernelRecFIdeal.main_arg1))
      ∧ θ_run (Cert.ReferenceRecFIdeal.defs (F := Ideal)) (onTc (τ := Cert.ReferenceRecFIdeal.τ) (Cert.ReferenceRecFIdeal.main (F := Ideal))) ⟨m', fun _ => 0, g'⟩ (fun r => ∀ c : Dev Cert.ReferenceRecFIdeal.nD,
          r.2.mem ((c.tc : Thread Cert.ReferenceRecFIdeal.nD Cert.ReferenceRecFIdeal.τ).loc Cert.ReferenceRecFIdeal.main_v3) = v0 c
          ∧ r.2.mem ((c.tc : Thread Cert.ReferenceRecFIdeal.nD Cert.ReferenceRecFIdeal.τ).loc Cert.ReferenceRecFIdeal.main_arg0) = m' ((c.tc : Thread Cert.ReferenceRecFIdeal.nD Cert.ReferenceRecFIdeal.τ).loc Cert.ReferenceRecFIdeal.main_arg0)
          ∧ r.2.mem ((c.tc : Thread Cert.ReferenceRecFIdeal.nD Cert.ReferenceRecFIdeal.τ).loc Cert.ReferenceRecFIdeal.main_arg1) = m' ((c.tc : Thread Cert.ReferenceRecFIdeal.nD Cert.ReferenceRecFIdeal.τ).loc Cert.ReferenceRecFIdeal.main_arg1))

def preserves_KernelRnnInW_KernelRnnInWIdeal : Prop :=
  True

def algebraic_KernelRnnInWIdeal_ReferenceRnnInWIdeal [hKernelRnnInWIdeal : Cert.KernelRnnInWIdeal.Facts] [hReferenceRnnInWIdeal : Cert.ReferenceRnnInWIdeal.Facts] : Prop :=
  ∀ (m : (ℓ : Loc Cert.KernelRnnInWIdeal.nD Cert.KernelRnnInWIdeal.τ Cert.KernelRnnInWIdeal.sig) → Buf (Elt Ideal) ℓ) (g : Dev Cert.KernelRnnInWIdeal.nD → PrngReg)
    (m' : (ℓ : Loc Cert.ReferenceRnnInWIdeal.nD Cert.ReferenceRnnInWIdeal.τ Cert.ReferenceRnnInWIdeal.sig) → Buf (Elt Ideal) ℓ) (g' : Dev Cert.ReferenceRnnInWIdeal.nD → PrngReg), Pre_KernelRnnInWIdeal m →
    (∀ c : Dev Cert.KernelRnnInWIdeal.nD,
      m' ((c.tc : Thread Cert.ReferenceRnnInWIdeal.nD Cert.ReferenceRnnInWIdeal.τ).loc Cert.ReferenceRnnInWIdeal.main_arg0) = m ((c.tc : Thread Cert.KernelRnnInWIdeal.nD Cert.KernelRnnInWIdeal.τ).loc Cert.KernelRnnInWIdeal.main_arg0)
      ∧ m' ((c.tc : Thread Cert.ReferenceRnnInWIdeal.nD Cert.ReferenceRnnInWIdeal.τ).loc Cert.ReferenceRnnInWIdeal.main_arg1) = m ((c.tc : Thread Cert.KernelRnnInWIdeal.nD Cert.KernelRnnInWIdeal.τ).loc Cert.KernelRnnInWIdeal.main_arg1)) →
    ∃ (v0 : (c : Dev Cert.KernelRnnInWIdeal.nD) → Buf (Elt Ideal) ((c.tc : Thread Cert.KernelRnnInWIdeal.nD Cert.KernelRnnInWIdeal.τ).loc Cert.KernelRnnInWIdeal.main_v0)),
      θ_run (Cert.KernelRnnInWIdeal.defs (F := Ideal)) (onTc (τ := Cert.KernelRnnInWIdeal.τ) (Cert.KernelRnnInWIdeal.main (F := Ideal))) ⟨m, fun _ => 0, g⟩ (fun r => ∀ c : Dev Cert.KernelRnnInWIdeal.nD,
          r.2.mem ((c.tc : Thread Cert.KernelRnnInWIdeal.nD Cert.KernelRnnInWIdeal.τ).loc Cert.KernelRnnInWIdeal.main_v0) = v0 c
          ∧ r.2.mem ((c.tc : Thread Cert.KernelRnnInWIdeal.nD Cert.KernelRnnInWIdeal.τ).loc Cert.KernelRnnInWIdeal.main_arg0) = m ((c.tc : Thread Cert.KernelRnnInWIdeal.nD Cert.KernelRnnInWIdeal.τ).loc Cert.KernelRnnInWIdeal.main_arg0)
          ∧ r.2.mem ((c.tc : Thread Cert.KernelRnnInWIdeal.nD Cert.KernelRnnInWIdeal.τ).loc Cert.KernelRnnInWIdeal.main_arg1) = m ((c.tc : Thread Cert.KernelRnnInWIdeal.nD Cert.KernelRnnInWIdeal.τ).loc Cert.KernelRnnInWIdeal.main_arg1))
      ∧ θ_run (Cert.ReferenceRnnInWIdeal.defs (F := Ideal)) (onTc (τ := Cert.ReferenceRnnInWIdeal.τ) (Cert.ReferenceRnnInWIdeal.main (F := Ideal))) ⟨m', fun _ => 0, g'⟩ (fun r => ∀ c : Dev Cert.ReferenceRnnInWIdeal.nD,
          r.2.mem ((c.tc : Thread Cert.ReferenceRnnInWIdeal.nD Cert.ReferenceRnnInWIdeal.τ).loc Cert.ReferenceRnnInWIdeal.main_v5) = v0 c
          ∧ r.2.mem ((c.tc : Thread Cert.ReferenceRnnInWIdeal.nD Cert.ReferenceRnnInWIdeal.τ).loc Cert.ReferenceRnnInWIdeal.main_arg0) = m' ((c.tc : Thread Cert.ReferenceRnnInWIdeal.nD Cert.ReferenceRnnInWIdeal.τ).loc Cert.ReferenceRnnInWIdeal.main_arg0)
          ∧ r.2.mem ((c.tc : Thread Cert.ReferenceRnnInWIdeal.nD Cert.ReferenceRnnInWIdeal.τ).loc Cert.ReferenceRnnInWIdeal.main_arg1) = m' ((c.tc : Thread Cert.ReferenceRnnInWIdeal.nD Cert.ReferenceRnnInWIdeal.τ).loc Cert.ReferenceRnnInWIdeal.main_arg1))

def preserves_KernelRnnInD_KernelRnnInDIdeal : Prop :=
  True

def algebraic_KernelRnnInDIdeal_ReferenceRnnInDIdeal [hKernelRnnInDIdeal : Cert.KernelRnnInDIdeal.Facts] [hReferenceRnnInDIdeal : Cert.ReferenceRnnInDIdeal.Facts] : Prop :=
  ∀ (m : (ℓ : Loc Cert.KernelRnnInDIdeal.nD Cert.KernelRnnInDIdeal.τ Cert.KernelRnnInDIdeal.sig) → Buf (Elt Ideal) ℓ) (g : Dev Cert.KernelRnnInDIdeal.nD → PrngReg)
    (m' : (ℓ : Loc Cert.ReferenceRnnInDIdeal.nD Cert.ReferenceRnnInDIdeal.τ Cert.ReferenceRnnInDIdeal.sig) → Buf (Elt Ideal) ℓ) (g' : Dev Cert.ReferenceRnnInDIdeal.nD → PrngReg), Pre_KernelRnnInDIdeal m →
    (∀ c : Dev Cert.KernelRnnInDIdeal.nD,
      m' ((c.tc : Thread Cert.ReferenceRnnInDIdeal.nD Cert.ReferenceRnnInDIdeal.τ).loc Cert.ReferenceRnnInDIdeal.main_arg0) = m ((c.tc : Thread Cert.KernelRnnInDIdeal.nD Cert.KernelRnnInDIdeal.τ).loc Cert.KernelRnnInDIdeal.main_arg0)
      ∧ m' ((c.tc : Thread Cert.ReferenceRnnInDIdeal.nD Cert.ReferenceRnnInDIdeal.τ).loc Cert.ReferenceRnnInDIdeal.main_arg1) = m ((c.tc : Thread Cert.KernelRnnInDIdeal.nD Cert.KernelRnnInDIdeal.τ).loc Cert.KernelRnnInDIdeal.main_arg1)
      ∧ m' ((c.tc : Thread Cert.ReferenceRnnInDIdeal.nD Cert.ReferenceRnnInDIdeal.τ).loc Cert.ReferenceRnnInDIdeal.main_arg2) = m ((c.tc : Thread Cert.KernelRnnInDIdeal.nD Cert.KernelRnnInDIdeal.τ).loc Cert.KernelRnnInDIdeal.main_arg2)
      ∧ m' ((c.tc : Thread Cert.ReferenceRnnInDIdeal.nD Cert.ReferenceRnnInDIdeal.τ).loc Cert.ReferenceRnnInDIdeal.main_arg3) = m ((c.tc : Thread Cert.KernelRnnInDIdeal.nD Cert.KernelRnnInDIdeal.τ).loc Cert.KernelRnnInDIdeal.main_arg3)
      ∧ m' ((c.tc : Thread Cert.ReferenceRnnInDIdeal.nD Cert.ReferenceRnnInDIdeal.τ).loc Cert.ReferenceRnnInDIdeal.main_arg4) = m ((c.tc : Thread Cert.KernelRnnInDIdeal.nD Cert.KernelRnnInDIdeal.τ).loc Cert.KernelRnnInDIdeal.main_arg4)
      ∧ m' ((c.tc : Thread Cert.ReferenceRnnInDIdeal.nD Cert.ReferenceRnnInDIdeal.τ).loc Cert.ReferenceRnnInDIdeal.main_arg5) = m ((c.tc : Thread Cert.KernelRnnInDIdeal.nD Cert.KernelRnnInDIdeal.τ).loc Cert.KernelRnnInDIdeal.main_arg5)) →
    ∃ (v0 : (c : Dev Cert.KernelRnnInDIdeal.nD) → Buf (Elt Ideal) ((c.tc : Thread Cert.KernelRnnInDIdeal.nD Cert.KernelRnnInDIdeal.τ).loc Cert.KernelRnnInDIdeal.main_v3_0)) (v1 : (c : Dev Cert.KernelRnnInDIdeal.nD) → Buf (Elt Ideal) ((c.tc : Thread Cert.KernelRnnInDIdeal.nD Cert.KernelRnnInDIdeal.τ).loc Cert.KernelRnnInDIdeal.main_v3_1)),
      θ_run (Cert.KernelRnnInDIdeal.defs (F := Ideal)) (onTc (τ := Cert.KernelRnnInDIdeal.τ) (Cert.KernelRnnInDIdeal.main (F := Ideal))) ⟨m, fun _ => 0, g⟩ (fun r => ∀ c : Dev Cert.KernelRnnInDIdeal.nD,
          r.2.mem ((c.tc : Thread Cert.KernelRnnInDIdeal.nD Cert.KernelRnnInDIdeal.τ).loc Cert.KernelRnnInDIdeal.main_v3_0) = v0 c
          ∧ r.2.mem ((c.tc : Thread Cert.KernelRnnInDIdeal.nD Cert.KernelRnnInDIdeal.τ).loc Cert.KernelRnnInDIdeal.main_v3_1) = v1 c
          ∧ r.2.mem ((c.tc : Thread Cert.KernelRnnInDIdeal.nD Cert.KernelRnnInDIdeal.τ).loc Cert.KernelRnnInDIdeal.main_arg0) = m ((c.tc : Thread Cert.KernelRnnInDIdeal.nD Cert.KernelRnnInDIdeal.τ).loc Cert.KernelRnnInDIdeal.main_arg0)
          ∧ r.2.mem ((c.tc : Thread Cert.KernelRnnInDIdeal.nD Cert.KernelRnnInDIdeal.τ).loc Cert.KernelRnnInDIdeal.main_arg1) = m ((c.tc : Thread Cert.KernelRnnInDIdeal.nD Cert.KernelRnnInDIdeal.τ).loc Cert.KernelRnnInDIdeal.main_arg1)
          ∧ r.2.mem ((c.tc : Thread Cert.KernelRnnInDIdeal.nD Cert.KernelRnnInDIdeal.τ).loc Cert.KernelRnnInDIdeal.main_arg2) = m ((c.tc : Thread Cert.KernelRnnInDIdeal.nD Cert.KernelRnnInDIdeal.τ).loc Cert.KernelRnnInDIdeal.main_arg2)
          ∧ r.2.mem ((c.tc : Thread Cert.KernelRnnInDIdeal.nD Cert.KernelRnnInDIdeal.τ).loc Cert.KernelRnnInDIdeal.main_arg3) = m ((c.tc : Thread Cert.KernelRnnInDIdeal.nD Cert.KernelRnnInDIdeal.τ).loc Cert.KernelRnnInDIdeal.main_arg3)
          ∧ r.2.mem ((c.tc : Thread Cert.KernelRnnInDIdeal.nD Cert.KernelRnnInDIdeal.τ).loc Cert.KernelRnnInDIdeal.main_arg4) = m ((c.tc : Thread Cert.KernelRnnInDIdeal.nD Cert.KernelRnnInDIdeal.τ).loc Cert.KernelRnnInDIdeal.main_arg4)
          ∧ r.2.mem ((c.tc : Thread Cert.KernelRnnInDIdeal.nD Cert.KernelRnnInDIdeal.τ).loc Cert.KernelRnnInDIdeal.main_arg5) = m ((c.tc : Thread Cert.KernelRnnInDIdeal.nD Cert.KernelRnnInDIdeal.τ).loc Cert.KernelRnnInDIdeal.main_arg5))
      ∧ θ_run (Cert.ReferenceRnnInDIdeal.defs (F := Ideal)) (onTc (τ := Cert.ReferenceRnnInDIdeal.τ) (Cert.ReferenceRnnInDIdeal.main (F := Ideal))) ⟨m', fun _ => 0, g'⟩ (fun r => ∀ c : Dev Cert.ReferenceRnnInDIdeal.nD,
          r.2.mem ((c.tc : Thread Cert.ReferenceRnnInDIdeal.nD Cert.ReferenceRnnInDIdeal.τ).loc Cert.ReferenceRnnInDIdeal.main_v41) = v0 c
          ∧ r.2.mem ((c.tc : Thread Cert.ReferenceRnnInDIdeal.nD Cert.ReferenceRnnInDIdeal.τ).loc Cert.ReferenceRnnInDIdeal.main_v42) = v1 c
          ∧ r.2.mem ((c.tc : Thread Cert.ReferenceRnnInDIdeal.nD Cert.ReferenceRnnInDIdeal.τ).loc Cert.ReferenceRnnInDIdeal.main_arg0) = m' ((c.tc : Thread Cert.ReferenceRnnInDIdeal.nD Cert.ReferenceRnnInDIdeal.τ).loc Cert.ReferenceRnnInDIdeal.main_arg0)
          ∧ r.2.mem ((c.tc : Thread Cert.ReferenceRnnInDIdeal.nD Cert.ReferenceRnnInDIdeal.τ).loc Cert.ReferenceRnnInDIdeal.main_arg1) = m' ((c.tc : Thread Cert.ReferenceRnnInDIdeal.nD Cert.ReferenceRnnInDIdeal.τ).loc Cert.ReferenceRnnInDIdeal.main_arg1)
          ∧ r.2.mem ((c.tc : Thread Cert.ReferenceRnnInDIdeal.nD Cert.ReferenceRnnInDIdeal.τ).loc Cert.ReferenceRnnInDIdeal.main_arg2) = m' ((c.tc : Thread Cert.ReferenceRnnInDIdeal.nD Cert.ReferenceRnnInDIdeal.τ).loc Cert.ReferenceRnnInDIdeal.main_arg2)
          ∧ r.2.mem ((c.tc : Thread Cert.ReferenceRnnInDIdeal.nD Cert.ReferenceRnnInDIdeal.τ).loc Cert.ReferenceRnnInDIdeal.main_arg3) = m' ((c.tc : Thread Cert.ReferenceRnnInDIdeal.nD Cert.ReferenceRnnInDIdeal.τ).loc Cert.ReferenceRnnInDIdeal.main_arg3)
          ∧ r.2.mem ((c.tc : Thread Cert.ReferenceRnnInDIdeal.nD Cert.ReferenceRnnInDIdeal.τ).loc Cert.ReferenceRnnInDIdeal.main_arg4) = m' ((c.tc : Thread Cert.ReferenceRnnInDIdeal.nD Cert.ReferenceRnnInDIdeal.τ).loc Cert.ReferenceRnnInDIdeal.main_arg4)
          ∧ r.2.mem ((c.tc : Thread Cert.ReferenceRnnInDIdeal.nD Cert.ReferenceRnnInDIdeal.τ).loc Cert.ReferenceRnnInDIdeal.main_arg5) = m' ((c.tc : Thread Cert.ReferenceRnnInDIdeal.nD Cert.ReferenceRnnInDIdeal.τ).loc Cert.ReferenceRnnInDIdeal.main_arg5))

def preserves_KernelNormPle_KernelNormPleIdeal : Prop :=
  True

def algebraic_KernelNormPleIdeal_ReferenceNormPleIdeal [hKernelNormPleIdeal : Cert.KernelNormPleIdeal.Facts] [hReferenceNormPleIdeal : Cert.ReferenceNormPleIdeal.Facts] : Prop :=
  ∀ (m : (ℓ : Loc Cert.KernelNormPleIdeal.nD Cert.KernelNormPleIdeal.τ Cert.KernelNormPleIdeal.sig) → Buf (Elt Ideal) ℓ) (g : Dev Cert.KernelNormPleIdeal.nD → PrngReg)
    (m' : (ℓ : Loc Cert.ReferenceNormPleIdeal.nD Cert.ReferenceNormPleIdeal.τ Cert.ReferenceNormPleIdeal.sig) → Buf (Elt Ideal) ℓ) (g' : Dev Cert.ReferenceNormPleIdeal.nD → PrngReg), Pre_KernelNormPleIdeal m →
    (∀ c : Dev Cert.KernelNormPleIdeal.nD,
      m' ((c.tc : Thread Cert.ReferenceNormPleIdeal.nD Cert.ReferenceNormPleIdeal.τ).loc Cert.ReferenceNormPleIdeal.main_arg0) = m ((c.tc : Thread Cert.KernelNormPleIdeal.nD Cert.KernelNormPleIdeal.τ).loc Cert.KernelNormPleIdeal.main_arg0)
      ∧ m' ((c.tc : Thread Cert.ReferenceNormPleIdeal.nD Cert.ReferenceNormPleIdeal.τ).loc Cert.ReferenceNormPleIdeal.main_arg1) = m ((c.tc : Thread Cert.KernelNormPleIdeal.nD Cert.KernelNormPleIdeal.τ).loc Cert.KernelNormPleIdeal.main_arg1)
      ∧ m' ((c.tc : Thread Cert.ReferenceNormPleIdeal.nD Cert.ReferenceNormPleIdeal.τ).loc Cert.ReferenceNormPleIdeal.main_arg2) = m ((c.tc : Thread Cert.KernelNormPleIdeal.nD Cert.KernelNormPleIdeal.τ).loc Cert.KernelNormPleIdeal.main_arg2)) →
    ∃ (v0 : (c : Dev Cert.KernelNormPleIdeal.nD) → Buf (Elt Ideal) ((c.tc : Thread Cert.KernelNormPleIdeal.nD Cert.KernelNormPleIdeal.τ).loc Cert.KernelNormPleIdeal.main_v1_0)) (v1 : (c : Dev Cert.KernelNormPleIdeal.nD) → Buf (Elt Ideal) ((c.tc : Thread Cert.KernelNormPleIdeal.nD Cert.KernelNormPleIdeal.τ).loc Cert.KernelNormPleIdeal.main_v1_1)),
      θ_run (Cert.KernelNormPleIdeal.defs (F := Ideal)) (onTc (τ := Cert.KernelNormPleIdeal.τ) (Cert.KernelNormPleIdeal.main (F := Ideal))) ⟨m, fun _ => 0, g⟩ (fun r => ∀ c : Dev Cert.KernelNormPleIdeal.nD,
          r.2.mem ((c.tc : Thread Cert.KernelNormPleIdeal.nD Cert.KernelNormPleIdeal.τ).loc Cert.KernelNormPleIdeal.main_v1_0) = v0 c
          ∧ r.2.mem ((c.tc : Thread Cert.KernelNormPleIdeal.nD Cert.KernelNormPleIdeal.τ).loc Cert.KernelNormPleIdeal.main_v1_1) = v1 c
          ∧ r.2.mem ((c.tc : Thread Cert.KernelNormPleIdeal.nD Cert.KernelNormPleIdeal.τ).loc Cert.KernelNormPleIdeal.main_arg0) = m ((c.tc : Thread Cert.KernelNormPleIdeal.nD Cert.KernelNormPleIdeal.τ).loc Cert.KernelNormPleIdeal.main_arg0)
          ∧ r.2.mem ((c.tc : Thread Cert.KernelNormPleIdeal.nD Cert.KernelNormPleIdeal.τ).loc Cert.KernelNormPleIdeal.main_arg1) = m ((c.tc : Thread Cert.KernelNormPleIdeal.nD Cert.KernelNormPleIdeal.τ).loc Cert.KernelNormPleIdeal.main_arg1)
          ∧ r.2.mem ((c.tc : Thread Cert.KernelNormPleIdeal.nD Cert.KernelNormPleIdeal.τ).loc Cert.KernelNormPleIdeal.main_arg2) = m ((c.tc : Thread Cert.KernelNormPleIdeal.nD Cert.KernelNormPleIdeal.τ).loc Cert.KernelNormPleIdeal.main_arg2))
      ∧ θ_run (Cert.ReferenceNormPleIdeal.defs (F := Ideal)) (onTc (τ := Cert.ReferenceNormPleIdeal.τ) (Cert.ReferenceNormPleIdeal.main (F := Ideal))) ⟨m', fun _ => 0, g'⟩ (fun r => ∀ c : Dev Cert.ReferenceNormPleIdeal.nD,
          r.2.mem ((c.tc : Thread Cert.ReferenceNormPleIdeal.nD Cert.ReferenceNormPleIdeal.τ).loc Cert.ReferenceNormPleIdeal.main_v14) = v0 c
          ∧ r.2.mem ((c.tc : Thread Cert.ReferenceNormPleIdeal.nD Cert.ReferenceNormPleIdeal.τ).loc Cert.ReferenceNormPleIdeal.main_v15) = v1 c
          ∧ r.2.mem ((c.tc : Thread Cert.ReferenceNormPleIdeal.nD Cert.ReferenceNormPleIdeal.τ).loc Cert.ReferenceNormPleIdeal.main_arg0) = m' ((c.tc : Thread Cert.ReferenceNormPleIdeal.nD Cert.ReferenceNormPleIdeal.τ).loc Cert.ReferenceNormPleIdeal.main_arg0)
          ∧ r.2.mem ((c.tc : Thread Cert.ReferenceNormPleIdeal.nD Cert.ReferenceNormPleIdeal.τ).loc Cert.ReferenceNormPleIdeal.main_arg1) = m' ((c.tc : Thread Cert.ReferenceNormPleIdeal.nD Cert.ReferenceNormPleIdeal.τ).loc Cert.ReferenceNormPleIdeal.main_arg1)
          ∧ r.2.mem ((c.tc : Thread Cert.ReferenceNormPleIdeal.nD Cert.ReferenceNormPleIdeal.τ).loc Cert.ReferenceNormPleIdeal.main_arg2) = m' ((c.tc : Thread Cert.ReferenceNormPleIdeal.nD Cert.ReferenceNormPleIdeal.τ).loc Cert.ReferenceNormPleIdeal.main_arg2))

def preserves_KernelPleGateW_KernelPleGateWIdeal : Prop :=
  True

def algebraic_KernelPleGateWIdeal_ReferencePleGateWIdeal [hKernelPleGateWIdeal : Cert.KernelPleGateWIdeal.Facts] [hReferencePleGateWIdeal : Cert.ReferencePleGateWIdeal.Facts] : Prop :=
  ∀ (m : (ℓ : Loc Cert.KernelPleGateWIdeal.nD Cert.KernelPleGateWIdeal.τ Cert.KernelPleGateWIdeal.sig) → Buf (Elt Ideal) ℓ) (g : Dev Cert.KernelPleGateWIdeal.nD → PrngReg)
    (m' : (ℓ : Loc Cert.ReferencePleGateWIdeal.nD Cert.ReferencePleGateWIdeal.τ Cert.ReferencePleGateWIdeal.sig) → Buf (Elt Ideal) ℓ) (g' : Dev Cert.ReferencePleGateWIdeal.nD → PrngReg), Pre_KernelPleGateWIdeal m →
    (∀ c : Dev Cert.KernelPleGateWIdeal.nD,
      m' ((c.tc : Thread Cert.ReferencePleGateWIdeal.nD Cert.ReferencePleGateWIdeal.τ).loc Cert.ReferencePleGateWIdeal.main_arg0) = m ((c.tc : Thread Cert.KernelPleGateWIdeal.nD Cert.KernelPleGateWIdeal.τ).loc Cert.KernelPleGateWIdeal.main_arg0)
      ∧ m' ((c.tc : Thread Cert.ReferencePleGateWIdeal.nD Cert.ReferencePleGateWIdeal.τ).loc Cert.ReferencePleGateWIdeal.main_arg1) = m ((c.tc : Thread Cert.KernelPleGateWIdeal.nD Cert.KernelPleGateWIdeal.τ).loc Cert.KernelPleGateWIdeal.main_arg1)) →
    ∃ (v0 : (c : Dev Cert.KernelPleGateWIdeal.nD) → Buf (Elt Ideal) ((c.tc : Thread Cert.KernelPleGateWIdeal.nD Cert.KernelPleGateWIdeal.τ).loc Cert.KernelPleGateWIdeal.main_v0)),
      θ_run (Cert.KernelPleGateWIdeal.defs (F := Ideal)) (onTc (τ := Cert.KernelPleGateWIdeal.τ) (Cert.KernelPleGateWIdeal.main (F := Ideal))) ⟨m, fun _ => 0, g⟩ (fun r => ∀ c : Dev Cert.KernelPleGateWIdeal.nD,
          r.2.mem ((c.tc : Thread Cert.KernelPleGateWIdeal.nD Cert.KernelPleGateWIdeal.τ).loc Cert.KernelPleGateWIdeal.main_v0) = v0 c
          ∧ r.2.mem ((c.tc : Thread Cert.KernelPleGateWIdeal.nD Cert.KernelPleGateWIdeal.τ).loc Cert.KernelPleGateWIdeal.main_arg0) = m ((c.tc : Thread Cert.KernelPleGateWIdeal.nD Cert.KernelPleGateWIdeal.τ).loc Cert.KernelPleGateWIdeal.main_arg0)
          ∧ r.2.mem ((c.tc : Thread Cert.KernelPleGateWIdeal.nD Cert.KernelPleGateWIdeal.τ).loc Cert.KernelPleGateWIdeal.main_arg1) = m ((c.tc : Thread Cert.KernelPleGateWIdeal.nD Cert.KernelPleGateWIdeal.τ).loc Cert.KernelPleGateWIdeal.main_arg1))
      ∧ θ_run (Cert.ReferencePleGateWIdeal.defs (F := Ideal)) (onTc (τ := Cert.ReferencePleGateWIdeal.τ) (Cert.ReferencePleGateWIdeal.main (F := Ideal))) ⟨m', fun _ => 0, g'⟩ (fun r => ∀ c : Dev Cert.ReferencePleGateWIdeal.nD,
          r.2.mem ((c.tc : Thread Cert.ReferencePleGateWIdeal.nD Cert.ReferencePleGateWIdeal.τ).loc Cert.ReferencePleGateWIdeal.main_v5) = v0 c
          ∧ r.2.mem ((c.tc : Thread Cert.ReferencePleGateWIdeal.nD Cert.ReferencePleGateWIdeal.τ).loc Cert.ReferencePleGateWIdeal.main_arg0) = m' ((c.tc : Thread Cert.ReferencePleGateWIdeal.nD Cert.ReferencePleGateWIdeal.τ).loc Cert.ReferencePleGateWIdeal.main_arg0)
          ∧ r.2.mem ((c.tc : Thread Cert.ReferencePleGateWIdeal.nD Cert.ReferencePleGateWIdeal.τ).loc Cert.ReferencePleGateWIdeal.main_arg1) = m' ((c.tc : Thread Cert.ReferencePleGateWIdeal.nD Cert.ReferencePleGateWIdeal.τ).loc Cert.ReferencePleGateWIdeal.main_arg1))

def preserves_KernelPleGateD_KernelPleGateDIdeal : Prop :=
  True

def algebraic_KernelPleGateDIdeal_ReferencePleGateDIdeal [hKernelPleGateDIdeal : Cert.KernelPleGateDIdeal.Facts] [hReferencePleGateDIdeal : Cert.ReferencePleGateDIdeal.Facts] : Prop :=
  ∀ (m : (ℓ : Loc Cert.KernelPleGateDIdeal.nD Cert.KernelPleGateDIdeal.τ Cert.KernelPleGateDIdeal.sig) → Buf (Elt Ideal) ℓ) (g : Dev Cert.KernelPleGateDIdeal.nD → PrngReg)
    (m' : (ℓ : Loc Cert.ReferencePleGateDIdeal.nD Cert.ReferencePleGateDIdeal.τ Cert.ReferencePleGateDIdeal.sig) → Buf (Elt Ideal) ℓ) (g' : Dev Cert.ReferencePleGateDIdeal.nD → PrngReg), Pre_KernelPleGateDIdeal m →
    (∀ c : Dev Cert.KernelPleGateDIdeal.nD,
      m' ((c.tc : Thread Cert.ReferencePleGateDIdeal.nD Cert.ReferencePleGateDIdeal.τ).loc Cert.ReferencePleGateDIdeal.main_arg0) = m ((c.tc : Thread Cert.KernelPleGateDIdeal.nD Cert.KernelPleGateDIdeal.τ).loc Cert.KernelPleGateDIdeal.main_arg0)
      ∧ m' ((c.tc : Thread Cert.ReferencePleGateDIdeal.nD Cert.ReferencePleGateDIdeal.τ).loc Cert.ReferencePleGateDIdeal.main_arg1) = m ((c.tc : Thread Cert.KernelPleGateDIdeal.nD Cert.KernelPleGateDIdeal.τ).loc Cert.KernelPleGateDIdeal.main_arg1)
      ∧ m' ((c.tc : Thread Cert.ReferencePleGateDIdeal.nD Cert.ReferencePleGateDIdeal.τ).loc Cert.ReferencePleGateDIdeal.main_arg2) = m ((c.tc : Thread Cert.KernelPleGateDIdeal.nD Cert.KernelPleGateDIdeal.τ).loc Cert.KernelPleGateDIdeal.main_arg2)
      ∧ m' ((c.tc : Thread Cert.ReferencePleGateDIdeal.nD Cert.ReferencePleGateDIdeal.τ).loc Cert.ReferencePleGateDIdeal.main_arg3) = m ((c.tc : Thread Cert.KernelPleGateDIdeal.nD Cert.KernelPleGateDIdeal.τ).loc Cert.KernelPleGateDIdeal.main_arg3)
      ∧ m' ((c.tc : Thread Cert.ReferencePleGateDIdeal.nD Cert.ReferencePleGateDIdeal.τ).loc Cert.ReferencePleGateDIdeal.main_arg4) = m ((c.tc : Thread Cert.KernelPleGateDIdeal.nD Cert.KernelPleGateDIdeal.τ).loc Cert.KernelPleGateDIdeal.main_arg4)) →
    ∃ (v0 : (c : Dev Cert.KernelPleGateDIdeal.nD) → Buf (Elt Ideal) ((c.tc : Thread Cert.KernelPleGateDIdeal.nD Cert.KernelPleGateDIdeal.τ).loc Cert.KernelPleGateDIdeal.main_v1_0)) (v1 : (c : Dev Cert.KernelPleGateDIdeal.nD) → Buf (Elt Ideal) ((c.tc : Thread Cert.KernelPleGateDIdeal.nD Cert.KernelPleGateDIdeal.τ).loc Cert.KernelPleGateDIdeal.main_v1_1)),
      θ_run (Cert.KernelPleGateDIdeal.defs (F := Ideal)) (onTc (τ := Cert.KernelPleGateDIdeal.τ) (Cert.KernelPleGateDIdeal.main (F := Ideal))) ⟨m, fun _ => 0, g⟩ (fun r => ∀ c : Dev Cert.KernelPleGateDIdeal.nD,
          r.2.mem ((c.tc : Thread Cert.KernelPleGateDIdeal.nD Cert.KernelPleGateDIdeal.τ).loc Cert.KernelPleGateDIdeal.main_v1_0) = v0 c
          ∧ r.2.mem ((c.tc : Thread Cert.KernelPleGateDIdeal.nD Cert.KernelPleGateDIdeal.τ).loc Cert.KernelPleGateDIdeal.main_v1_1) = v1 c
          ∧ r.2.mem ((c.tc : Thread Cert.KernelPleGateDIdeal.nD Cert.KernelPleGateDIdeal.τ).loc Cert.KernelPleGateDIdeal.main_arg0) = m ((c.tc : Thread Cert.KernelPleGateDIdeal.nD Cert.KernelPleGateDIdeal.τ).loc Cert.KernelPleGateDIdeal.main_arg0)
          ∧ r.2.mem ((c.tc : Thread Cert.KernelPleGateDIdeal.nD Cert.KernelPleGateDIdeal.τ).loc Cert.KernelPleGateDIdeal.main_arg1) = m ((c.tc : Thread Cert.KernelPleGateDIdeal.nD Cert.KernelPleGateDIdeal.τ).loc Cert.KernelPleGateDIdeal.main_arg1)
          ∧ r.2.mem ((c.tc : Thread Cert.KernelPleGateDIdeal.nD Cert.KernelPleGateDIdeal.τ).loc Cert.KernelPleGateDIdeal.main_arg2) = m ((c.tc : Thread Cert.KernelPleGateDIdeal.nD Cert.KernelPleGateDIdeal.τ).loc Cert.KernelPleGateDIdeal.main_arg2)
          ∧ r.2.mem ((c.tc : Thread Cert.KernelPleGateDIdeal.nD Cert.KernelPleGateDIdeal.τ).loc Cert.KernelPleGateDIdeal.main_arg3) = m ((c.tc : Thread Cert.KernelPleGateDIdeal.nD Cert.KernelPleGateDIdeal.τ).loc Cert.KernelPleGateDIdeal.main_arg3)
          ∧ r.2.mem ((c.tc : Thread Cert.KernelPleGateDIdeal.nD Cert.KernelPleGateDIdeal.τ).loc Cert.KernelPleGateDIdeal.main_arg4) = m ((c.tc : Thread Cert.KernelPleGateDIdeal.nD Cert.KernelPleGateDIdeal.τ).loc Cert.KernelPleGateDIdeal.main_arg4))
      ∧ θ_run (Cert.ReferencePleGateDIdeal.defs (F := Ideal)) (onTc (τ := Cert.ReferencePleGateDIdeal.τ) (Cert.ReferencePleGateDIdeal.main (F := Ideal))) ⟨m', fun _ => 0, g'⟩ (fun r => ∀ c : Dev Cert.ReferencePleGateDIdeal.nD,
          r.2.mem ((c.tc : Thread Cert.ReferencePleGateDIdeal.nD Cert.ReferencePleGateDIdeal.τ).loc Cert.ReferencePleGateDIdeal.main_v40) = v0 c
          ∧ r.2.mem ((c.tc : Thread Cert.ReferencePleGateDIdeal.nD Cert.ReferencePleGateDIdeal.τ).loc Cert.ReferencePleGateDIdeal.main_v41) = v1 c
          ∧ r.2.mem ((c.tc : Thread Cert.ReferencePleGateDIdeal.nD Cert.ReferencePleGateDIdeal.τ).loc Cert.ReferencePleGateDIdeal.main_arg0) = m' ((c.tc : Thread Cert.ReferencePleGateDIdeal.nD Cert.ReferencePleGateDIdeal.τ).loc Cert.ReferencePleGateDIdeal.main_arg0)
          ∧ r.2.mem ((c.tc : Thread Cert.ReferencePleGateDIdeal.nD Cert.ReferencePleGateDIdeal.τ).loc Cert.ReferencePleGateDIdeal.main_arg1) = m' ((c.tc : Thread Cert.ReferencePleGateDIdeal.nD Cert.ReferencePleGateDIdeal.τ).loc Cert.ReferencePleGateDIdeal.main_arg1)
          ∧ r.2.mem ((c.tc : Thread Cert.ReferencePleGateDIdeal.nD Cert.ReferencePleGateDIdeal.τ).loc Cert.ReferencePleGateDIdeal.main_arg2) = m' ((c.tc : Thread Cert.ReferencePleGateDIdeal.nD Cert.ReferencePleGateDIdeal.τ).loc Cert.ReferencePleGateDIdeal.main_arg2)
          ∧ r.2.mem ((c.tc : Thread Cert.ReferencePleGateDIdeal.nD Cert.ReferencePleGateDIdeal.τ).loc Cert.ReferencePleGateDIdeal.main_arg3) = m' ((c.tc : Thread Cert.ReferencePleGateDIdeal.nD Cert.ReferencePleGateDIdeal.τ).loc Cert.ReferencePleGateDIdeal.main_arg3)
          ∧ r.2.mem ((c.tc : Thread Cert.ReferencePleGateDIdeal.nD Cert.ReferencePleGateDIdeal.τ).loc Cert.ReferencePleGateDIdeal.main_arg4) = m' ((c.tc : Thread Cert.ReferencePleGateDIdeal.nD Cert.ReferencePleGateDIdeal.τ).loc Cert.ReferencePleGateDIdeal.main_arg4))

def preserves_KernelRnnOutF_KernelRnnOutFIdeal : Prop :=
  True

def algebraic_KernelRnnOutFIdeal_ReferenceRnnOutFIdeal [hKernelRnnOutFIdeal : Cert.KernelRnnOutFIdeal.Facts] [hReferenceRnnOutFIdeal : Cert.ReferenceRnnOutFIdeal.Facts] : Prop :=
  ∀ (m : (ℓ : Loc Cert.KernelRnnOutFIdeal.nD Cert.KernelRnnOutFIdeal.τ Cert.KernelRnnOutFIdeal.sig) → Buf (Elt Ideal) ℓ) (g : Dev Cert.KernelRnnOutFIdeal.nD → PrngReg)
    (m' : (ℓ : Loc Cert.ReferenceRnnOutFIdeal.nD Cert.ReferenceRnnOutFIdeal.τ Cert.ReferenceRnnOutFIdeal.sig) → Buf (Elt Ideal) ℓ) (g' : Dev Cert.ReferenceRnnOutFIdeal.nD → PrngReg), Pre_KernelRnnOutFIdeal m →
    (∀ c : Dev Cert.KernelRnnOutFIdeal.nD,
      m' ((c.tc : Thread Cert.ReferenceRnnOutFIdeal.nD Cert.ReferenceRnnOutFIdeal.τ).loc Cert.ReferenceRnnOutFIdeal.main_arg0) = m ((c.tc : Thread Cert.KernelRnnOutFIdeal.nD Cert.KernelRnnOutFIdeal.τ).loc Cert.KernelRnnOutFIdeal.main_arg0)
      ∧ m' ((c.tc : Thread Cert.ReferenceRnnOutFIdeal.nD Cert.ReferenceRnnOutFIdeal.τ).loc Cert.ReferenceRnnOutFIdeal.main_arg1) = m ((c.tc : Thread Cert.KernelRnnOutFIdeal.nD Cert.KernelRnnOutFIdeal.τ).loc Cert.KernelRnnOutFIdeal.main_arg1)
      ∧ m' ((c.tc : Thread Cert.ReferenceRnnOutFIdeal.nD Cert.ReferenceRnnOutFIdeal.τ).loc Cert.ReferenceRnnOutFIdeal.main_arg2) = m ((c.tc : Thread Cert.KernelRnnOutFIdeal.nD Cert.KernelRnnOutFIdeal.τ).loc Cert.KernelRnnOutFIdeal.main_arg2)) →
    ∃ (v0 : (c : Dev Cert.KernelRnnOutFIdeal.nD) → Buf (Elt Ideal) ((c.tc : Thread Cert.KernelRnnOutFIdeal.nD Cert.KernelRnnOutFIdeal.τ).loc Cert.KernelRnnOutFIdeal.main_v0)),
      θ_run (Cert.KernelRnnOutFIdeal.defs (F := Ideal)) (onTc (τ := Cert.KernelRnnOutFIdeal.τ) (Cert.KernelRnnOutFIdeal.main (F := Ideal))) ⟨m, fun _ => 0, g⟩ (fun r => ∀ c : Dev Cert.KernelRnnOutFIdeal.nD,
          r.2.mem ((c.tc : Thread Cert.KernelRnnOutFIdeal.nD Cert.KernelRnnOutFIdeal.τ).loc Cert.KernelRnnOutFIdeal.main_v0) = v0 c
          ∧ r.2.mem ((c.tc : Thread Cert.KernelRnnOutFIdeal.nD Cert.KernelRnnOutFIdeal.τ).loc Cert.KernelRnnOutFIdeal.main_arg0) = m ((c.tc : Thread Cert.KernelRnnOutFIdeal.nD Cert.KernelRnnOutFIdeal.τ).loc Cert.KernelRnnOutFIdeal.main_arg0)
          ∧ r.2.mem ((c.tc : Thread Cert.KernelRnnOutFIdeal.nD Cert.KernelRnnOutFIdeal.τ).loc Cert.KernelRnnOutFIdeal.main_arg1) = m ((c.tc : Thread Cert.KernelRnnOutFIdeal.nD Cert.KernelRnnOutFIdeal.τ).loc Cert.KernelRnnOutFIdeal.main_arg1)
          ∧ r.2.mem ((c.tc : Thread Cert.KernelRnnOutFIdeal.nD Cert.KernelRnnOutFIdeal.τ).loc Cert.KernelRnnOutFIdeal.main_arg2) = m ((c.tc : Thread Cert.KernelRnnOutFIdeal.nD Cert.KernelRnnOutFIdeal.τ).loc Cert.KernelRnnOutFIdeal.main_arg2))
      ∧ θ_run (Cert.ReferenceRnnOutFIdeal.defs (F := Ideal)) (onTc (τ := Cert.ReferenceRnnOutFIdeal.τ) (Cert.ReferenceRnnOutFIdeal.main (F := Ideal))) ⟨m', fun _ => 0, g'⟩ (fun r => ∀ c : Dev Cert.ReferenceRnnOutFIdeal.nD,
          r.2.mem ((c.tc : Thread Cert.ReferenceRnnOutFIdeal.nD Cert.ReferenceRnnOutFIdeal.τ).loc Cert.ReferenceRnnOutFIdeal.main_v3) = v0 c
          ∧ r.2.mem ((c.tc : Thread Cert.ReferenceRnnOutFIdeal.nD Cert.ReferenceRnnOutFIdeal.τ).loc Cert.ReferenceRnnOutFIdeal.main_arg0) = m' ((c.tc : Thread Cert.ReferenceRnnOutFIdeal.nD Cert.ReferenceRnnOutFIdeal.τ).loc Cert.ReferenceRnnOutFIdeal.main_arg0)
          ∧ r.2.mem ((c.tc : Thread Cert.ReferenceRnnOutFIdeal.nD Cert.ReferenceRnnOutFIdeal.τ).loc Cert.ReferenceRnnOutFIdeal.main_arg1) = m' ((c.tc : Thread Cert.ReferenceRnnOutFIdeal.nD Cert.ReferenceRnnOutFIdeal.τ).loc Cert.ReferenceRnnOutFIdeal.main_arg1)
          ∧ r.2.mem ((c.tc : Thread Cert.ReferenceRnnOutFIdeal.nD Cert.ReferenceRnnOutFIdeal.τ).loc Cert.ReferenceRnnOutFIdeal.main_arg2) = m' ((c.tc : Thread Cert.ReferenceRnnOutFIdeal.nD Cert.ReferenceRnnOutFIdeal.τ).loc Cert.ReferenceRnnOutFIdeal.main_arg2))

def preserves_KernelRnnOutW_KernelRnnOutWIdeal : Prop :=
  True

def algebraic_KernelRnnOutWIdeal_ReferenceRnnOutWIdeal [hKernelRnnOutWIdeal : Cert.KernelRnnOutWIdeal.Facts] [hReferenceRnnOutWIdeal : Cert.ReferenceRnnOutWIdeal.Facts] : Prop :=
  ∀ (m : (ℓ : Loc Cert.KernelRnnOutWIdeal.nD Cert.KernelRnnOutWIdeal.τ Cert.KernelRnnOutWIdeal.sig) → Buf (Elt Ideal) ℓ) (g : Dev Cert.KernelRnnOutWIdeal.nD → PrngReg)
    (m' : (ℓ : Loc Cert.ReferenceRnnOutWIdeal.nD Cert.ReferenceRnnOutWIdeal.τ Cert.ReferenceRnnOutWIdeal.sig) → Buf (Elt Ideal) ℓ) (g' : Dev Cert.ReferenceRnnOutWIdeal.nD → PrngReg), Pre_KernelRnnOutWIdeal m →
    (∀ c : Dev Cert.KernelRnnOutWIdeal.nD,
      m' ((c.tc : Thread Cert.ReferenceRnnOutWIdeal.nD Cert.ReferenceRnnOutWIdeal.τ).loc Cert.ReferenceRnnOutWIdeal.main_arg0) = m ((c.tc : Thread Cert.KernelRnnOutWIdeal.nD Cert.KernelRnnOutWIdeal.τ).loc Cert.KernelRnnOutWIdeal.main_arg0)
      ∧ m' ((c.tc : Thread Cert.ReferenceRnnOutWIdeal.nD Cert.ReferenceRnnOutWIdeal.τ).loc Cert.ReferenceRnnOutWIdeal.main_arg1) = m ((c.tc : Thread Cert.KernelRnnOutWIdeal.nD Cert.KernelRnnOutWIdeal.τ).loc Cert.KernelRnnOutWIdeal.main_arg1)) →
    ∃ (v0 : (c : Dev Cert.KernelRnnOutWIdeal.nD) → Buf (Elt Ideal) ((c.tc : Thread Cert.KernelRnnOutWIdeal.nD Cert.KernelRnnOutWIdeal.τ).loc Cert.KernelRnnOutWIdeal.main_v0)),
      θ_run (Cert.KernelRnnOutWIdeal.defs (F := Ideal)) (onTc (τ := Cert.KernelRnnOutWIdeal.τ) (Cert.KernelRnnOutWIdeal.main (F := Ideal))) ⟨m, fun _ => 0, g⟩ (fun r => ∀ c : Dev Cert.KernelRnnOutWIdeal.nD,
          r.2.mem ((c.tc : Thread Cert.KernelRnnOutWIdeal.nD Cert.KernelRnnOutWIdeal.τ).loc Cert.KernelRnnOutWIdeal.main_v0) = v0 c
          ∧ r.2.mem ((c.tc : Thread Cert.KernelRnnOutWIdeal.nD Cert.KernelRnnOutWIdeal.τ).loc Cert.KernelRnnOutWIdeal.main_arg0) = m ((c.tc : Thread Cert.KernelRnnOutWIdeal.nD Cert.KernelRnnOutWIdeal.τ).loc Cert.KernelRnnOutWIdeal.main_arg0)
          ∧ r.2.mem ((c.tc : Thread Cert.KernelRnnOutWIdeal.nD Cert.KernelRnnOutWIdeal.τ).loc Cert.KernelRnnOutWIdeal.main_arg1) = m ((c.tc : Thread Cert.KernelRnnOutWIdeal.nD Cert.KernelRnnOutWIdeal.τ).loc Cert.KernelRnnOutWIdeal.main_arg1))
      ∧ θ_run (Cert.ReferenceRnnOutWIdeal.defs (F := Ideal)) (onTc (τ := Cert.ReferenceRnnOutWIdeal.τ) (Cert.ReferenceRnnOutWIdeal.main (F := Ideal))) ⟨m', fun _ => 0, g'⟩ (fun r => ∀ c : Dev Cert.ReferenceRnnOutWIdeal.nD,
          r.2.mem ((c.tc : Thread Cert.ReferenceRnnOutWIdeal.nD Cert.ReferenceRnnOutWIdeal.τ).loc Cert.ReferenceRnnOutWIdeal.main_v4) = v0 c
          ∧ r.2.mem ((c.tc : Thread Cert.ReferenceRnnOutWIdeal.nD Cert.ReferenceRnnOutWIdeal.τ).loc Cert.ReferenceRnnOutWIdeal.main_arg0) = m' ((c.tc : Thread Cert.ReferenceRnnOutWIdeal.nD Cert.ReferenceRnnOutWIdeal.τ).loc Cert.ReferenceRnnOutWIdeal.main_arg0)
          ∧ r.2.mem ((c.tc : Thread Cert.ReferenceRnnOutWIdeal.nD Cert.ReferenceRnnOutWIdeal.τ).loc Cert.ReferenceRnnOutWIdeal.main_arg1) = m' ((c.tc : Thread Cert.ReferenceRnnOutWIdeal.nD Cert.ReferenceRnnOutWIdeal.τ).loc Cert.ReferenceRnnOutWIdeal.main_arg1))

def preserves_KernelRnnOutD_KernelRnnOutDIdeal : Prop :=
  True

def algebraic_KernelRnnOutDIdeal_ReferenceRnnOutDIdeal [hKernelRnnOutDIdeal : Cert.KernelRnnOutDIdeal.Facts] [hReferenceRnnOutDIdeal : Cert.ReferenceRnnOutDIdeal.Facts] : Prop :=
  ∀ (m : (ℓ : Loc Cert.KernelRnnOutDIdeal.nD Cert.KernelRnnOutDIdeal.τ Cert.KernelRnnOutDIdeal.sig) → Buf (Elt Ideal) ℓ) (g : Dev Cert.KernelRnnOutDIdeal.nD → PrngReg)
    (m' : (ℓ : Loc Cert.ReferenceRnnOutDIdeal.nD Cert.ReferenceRnnOutDIdeal.τ Cert.ReferenceRnnOutDIdeal.sig) → Buf (Elt Ideal) ℓ) (g' : Dev Cert.ReferenceRnnOutDIdeal.nD → PrngReg), Pre_KernelRnnOutDIdeal m →
    (∀ c : Dev Cert.KernelRnnOutDIdeal.nD,
      m' ((c.tc : Thread Cert.ReferenceRnnOutDIdeal.nD Cert.ReferenceRnnOutDIdeal.τ).loc Cert.ReferenceRnnOutDIdeal.main_arg0) = m ((c.tc : Thread Cert.KernelRnnOutDIdeal.nD Cert.KernelRnnOutDIdeal.τ).loc Cert.KernelRnnOutDIdeal.main_arg0)
      ∧ m' ((c.tc : Thread Cert.ReferenceRnnOutDIdeal.nD Cert.ReferenceRnnOutDIdeal.τ).loc Cert.ReferenceRnnOutDIdeal.main_arg1) = m ((c.tc : Thread Cert.KernelRnnOutDIdeal.nD Cert.KernelRnnOutDIdeal.τ).loc Cert.KernelRnnOutDIdeal.main_arg1)) →
    ∃ (v0 : (c : Dev Cert.KernelRnnOutDIdeal.nD) → Buf (Elt Ideal) ((c.tc : Thread Cert.KernelRnnOutDIdeal.nD Cert.KernelRnnOutDIdeal.τ).loc Cert.KernelRnnOutDIdeal.main_v0)),
      θ_run (Cert.KernelRnnOutDIdeal.defs (F := Ideal)) (onTc (τ := Cert.KernelRnnOutDIdeal.τ) (Cert.KernelRnnOutDIdeal.main (F := Ideal))) ⟨m, fun _ => 0, g⟩ (fun r => ∀ c : Dev Cert.KernelRnnOutDIdeal.nD,
          r.2.mem ((c.tc : Thread Cert.KernelRnnOutDIdeal.nD Cert.KernelRnnOutDIdeal.τ).loc Cert.KernelRnnOutDIdeal.main_v0) = v0 c
          ∧ r.2.mem ((c.tc : Thread Cert.KernelRnnOutDIdeal.nD Cert.KernelRnnOutDIdeal.τ).loc Cert.KernelRnnOutDIdeal.main_arg0) = m ((c.tc : Thread Cert.KernelRnnOutDIdeal.nD Cert.KernelRnnOutDIdeal.τ).loc Cert.KernelRnnOutDIdeal.main_arg0)
          ∧ r.2.mem ((c.tc : Thread Cert.KernelRnnOutDIdeal.nD Cert.KernelRnnOutDIdeal.τ).loc Cert.KernelRnnOutDIdeal.main_arg1) = m ((c.tc : Thread Cert.KernelRnnOutDIdeal.nD Cert.KernelRnnOutDIdeal.τ).loc Cert.KernelRnnOutDIdeal.main_arg1))
      ∧ θ_run (Cert.ReferenceRnnOutDIdeal.defs (F := Ideal)) (onTc (τ := Cert.ReferenceRnnOutDIdeal.τ) (Cert.ReferenceRnnOutDIdeal.main (F := Ideal))) ⟨m', fun _ => 0, g'⟩ (fun r => ∀ c : Dev Cert.ReferenceRnnOutDIdeal.nD,
          r.2.mem ((c.tc : Thread Cert.ReferenceRnnOutDIdeal.nD Cert.ReferenceRnnOutDIdeal.τ).loc Cert.ReferenceRnnOutDIdeal.main_v3) = v0 c
          ∧ r.2.mem ((c.tc : Thread Cert.ReferenceRnnOutDIdeal.nD Cert.ReferenceRnnOutDIdeal.τ).loc Cert.ReferenceRnnOutDIdeal.main_arg0) = m' ((c.tc : Thread Cert.ReferenceRnnOutDIdeal.nD Cert.ReferenceRnnOutDIdeal.τ).loc Cert.ReferenceRnnOutDIdeal.main_arg0)
          ∧ r.2.mem ((c.tc : Thread Cert.ReferenceRnnOutDIdeal.nD Cert.ReferenceRnnOutDIdeal.τ).loc Cert.ReferenceRnnOutDIdeal.main_arg1) = m' ((c.tc : Thread Cert.ReferenceRnnOutDIdeal.nD Cert.ReferenceRnnOutDIdeal.τ).loc Cert.ReferenceRnnOutDIdeal.main_arg1))

def preserves_KernelOutF_KernelOutFIdeal : Prop :=
  True

def algebraic_KernelOutFIdeal_ReferenceOutFIdeal [hKernelOutFIdeal : Cert.KernelOutFIdeal.Facts] [hReferenceOutFIdeal : Cert.ReferenceOutFIdeal.Facts] : Prop :=
  ∀ (m : (ℓ : Loc Cert.KernelOutFIdeal.nD Cert.KernelOutFIdeal.τ Cert.KernelOutFIdeal.sig) → Buf (Elt Ideal) ℓ) (g : Dev Cert.KernelOutFIdeal.nD → PrngReg)
    (m' : (ℓ : Loc Cert.ReferenceOutFIdeal.nD Cert.ReferenceOutFIdeal.τ Cert.ReferenceOutFIdeal.sig) → Buf (Elt Ideal) ℓ) (g' : Dev Cert.ReferenceOutFIdeal.nD → PrngReg), Pre_KernelOutFIdeal m →
    (∀ c : Dev Cert.KernelOutFIdeal.nD,
      m' ((c.tc : Thread Cert.ReferenceOutFIdeal.nD Cert.ReferenceOutFIdeal.τ).loc Cert.ReferenceOutFIdeal.main_arg0) = m ((c.tc : Thread Cert.KernelOutFIdeal.nD Cert.KernelOutFIdeal.τ).loc Cert.KernelOutFIdeal.main_arg0)
      ∧ m' ((c.tc : Thread Cert.ReferenceOutFIdeal.nD Cert.ReferenceOutFIdeal.τ).loc Cert.ReferenceOutFIdeal.main_arg1) = m ((c.tc : Thread Cert.KernelOutFIdeal.nD Cert.KernelOutFIdeal.τ).loc Cert.KernelOutFIdeal.main_arg1)
      ∧ m' ((c.tc : Thread Cert.ReferenceOutFIdeal.nD Cert.ReferenceOutFIdeal.τ).loc Cert.ReferenceOutFIdeal.main_arg2) = m ((c.tc : Thread Cert.KernelOutFIdeal.nD Cert.KernelOutFIdeal.τ).loc Cert.KernelOutFIdeal.main_arg2)) →
    ∃ (v0 : (c : Dev Cert.KernelOutFIdeal.nD) → Buf (Elt Ideal) ((c.tc : Thread Cert.KernelOutFIdeal.nD Cert.KernelOutFIdeal.τ).loc Cert.KernelOutFIdeal.main_v0)),
      θ_run (Cert.KernelOutFIdeal.defs (F := Ideal)) (onTc (τ := Cert.KernelOutFIdeal.τ) (Cert.KernelOutFIdeal.main (F := Ideal))) ⟨m, fun _ => 0, g⟩ (fun r => ∀ c : Dev Cert.KernelOutFIdeal.nD,
          r.2.mem ((c.tc : Thread Cert.KernelOutFIdeal.nD Cert.KernelOutFIdeal.τ).loc Cert.KernelOutFIdeal.main_v0) = v0 c
          ∧ r.2.mem ((c.tc : Thread Cert.KernelOutFIdeal.nD Cert.KernelOutFIdeal.τ).loc Cert.KernelOutFIdeal.main_arg0) = m ((c.tc : Thread Cert.KernelOutFIdeal.nD Cert.KernelOutFIdeal.τ).loc Cert.KernelOutFIdeal.main_arg0)
          ∧ r.2.mem ((c.tc : Thread Cert.KernelOutFIdeal.nD Cert.KernelOutFIdeal.τ).loc Cert.KernelOutFIdeal.main_arg1) = m ((c.tc : Thread Cert.KernelOutFIdeal.nD Cert.KernelOutFIdeal.τ).loc Cert.KernelOutFIdeal.main_arg1)
          ∧ r.2.mem ((c.tc : Thread Cert.KernelOutFIdeal.nD Cert.KernelOutFIdeal.τ).loc Cert.KernelOutFIdeal.main_arg2) = m ((c.tc : Thread Cert.KernelOutFIdeal.nD Cert.KernelOutFIdeal.τ).loc Cert.KernelOutFIdeal.main_arg2))
      ∧ θ_run (Cert.ReferenceOutFIdeal.defs (F := Ideal)) (onTc (τ := Cert.ReferenceOutFIdeal.τ) (Cert.ReferenceOutFIdeal.main (F := Ideal))) ⟨m', fun _ => 0, g'⟩ (fun r => ∀ c : Dev Cert.ReferenceOutFIdeal.nD,
          r.2.mem ((c.tc : Thread Cert.ReferenceOutFIdeal.nD Cert.ReferenceOutFIdeal.τ).loc Cert.ReferenceOutFIdeal.main_v3) = v0 c
          ∧ r.2.mem ((c.tc : Thread Cert.ReferenceOutFIdeal.nD Cert.ReferenceOutFIdeal.τ).loc Cert.ReferenceOutFIdeal.main_arg0) = m' ((c.tc : Thread Cert.ReferenceOutFIdeal.nD Cert.ReferenceOutFIdeal.τ).loc Cert.ReferenceOutFIdeal.main_arg0)
          ∧ r.2.mem ((c.tc : Thread Cert.ReferenceOutFIdeal.nD Cert.ReferenceOutFIdeal.τ).loc Cert.ReferenceOutFIdeal.main_arg1) = m' ((c.tc : Thread Cert.ReferenceOutFIdeal.nD Cert.ReferenceOutFIdeal.τ).loc Cert.ReferenceOutFIdeal.main_arg1)
          ∧ r.2.mem ((c.tc : Thread Cert.ReferenceOutFIdeal.nD Cert.ReferenceOutFIdeal.τ).loc Cert.ReferenceOutFIdeal.main_arg2) = m' ((c.tc : Thread Cert.ReferenceOutFIdeal.nD Cert.ReferenceOutFIdeal.τ).loc Cert.ReferenceOutFIdeal.main_arg2))

def preserves_KernelOutW_KernelOutWIdeal : Prop :=
  True

def algebraic_KernelOutWIdeal_ReferenceOutWIdeal [hKernelOutWIdeal : Cert.KernelOutWIdeal.Facts] [hReferenceOutWIdeal : Cert.ReferenceOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg)
    (m' : (ℓ : Loc Cert.ReferenceOutWIdeal.nD Cert.ReferenceOutWIdeal.τ Cert.ReferenceOutWIdeal.sig) → Buf (Elt Ideal) ℓ) (g' : Dev Cert.ReferenceOutWIdeal.nD → PrngReg), Pre_KernelOutWIdeal m →
    (∀ c : Dev Cert.KernelOutWIdeal.nD,
      m' ((c.tc : Thread Cert.ReferenceOutWIdeal.nD Cert.ReferenceOutWIdeal.τ).loc Cert.ReferenceOutWIdeal.main_arg0) = m ((c.tc : Thread Cert.KernelOutWIdeal.nD Cert.KernelOutWIdeal.τ).loc Cert.KernelOutWIdeal.main_arg0)
      ∧ m' ((c.tc : Thread Cert.ReferenceOutWIdeal.nD Cert.ReferenceOutWIdeal.τ).loc Cert.ReferenceOutWIdeal.main_arg1) = m ((c.tc : Thread Cert.KernelOutWIdeal.nD Cert.KernelOutWIdeal.τ).loc Cert.KernelOutWIdeal.main_arg1)) →
    ∃ (v0 : (c : Dev Cert.KernelOutWIdeal.nD) → Buf (Elt Ideal) ((c.tc : Thread Cert.KernelOutWIdeal.nD Cert.KernelOutWIdeal.τ).loc Cert.KernelOutWIdeal.main_v0)),
      θ_run (Cert.KernelOutWIdeal.defs (F := Ideal)) (onTc (τ := Cert.KernelOutWIdeal.τ) (Cert.KernelOutWIdeal.main (F := Ideal))) ⟨m, fun _ => 0, g⟩ (fun r => ∀ c : Dev Cert.KernelOutWIdeal.nD,
          r.2.mem ((c.tc : Thread Cert.KernelOutWIdeal.nD Cert.KernelOutWIdeal.τ).loc Cert.KernelOutWIdeal.main_v0) = v0 c
          ∧ r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
          ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1))
      ∧ θ_run (Cert.ReferenceOutWIdeal.defs (F := Ideal)) (onTc (τ := Cert.ReferenceOutWIdeal.τ) (Cert.ReferenceOutWIdeal.main (F := Ideal))) ⟨m', fun _ => 0, g'⟩ (fun r => ∀ c : Dev Cert.ReferenceOutWIdeal.nD,
          r.2.mem ((c.tc : Thread Cert.ReferenceOutWIdeal.nD Cert.ReferenceOutWIdeal.τ).loc Cert.ReferenceOutWIdeal.main_v4) = v0 c
          ∧ r.2.mem ((c.tc : Thread Cert.ReferenceOutWIdeal.nD Cert.ReferenceOutWIdeal.τ).loc Cert.ReferenceOutWIdeal.main_arg0) = m' ((c.tc : Thread Cert.ReferenceOutWIdeal.nD Cert.ReferenceOutWIdeal.τ).loc Cert.ReferenceOutWIdeal.main_arg0)
          ∧ r.2.mem ((c.tc : Thread Cert.ReferenceOutWIdeal.nD Cert.ReferenceOutWIdeal.τ).loc Cert.ReferenceOutWIdeal.main_arg1) = m' ((c.tc : Thread Cert.ReferenceOutWIdeal.nD Cert.ReferenceOutWIdeal.τ).loc Cert.ReferenceOutWIdeal.main_arg1))

def preserves_KernelOutD_KernelOutDIdeal : Prop :=
  True

def algebraic_KernelOutDIdeal_ReferenceOutDIdeal [hKernelOutDIdeal : Cert.KernelOutDIdeal.Facts] [hReferenceOutDIdeal : Cert.ReferenceOutDIdeal.Facts] : Prop :=
  ∀ (m : (ℓ : Loc Cert.KernelOutDIdeal.nD Cert.KernelOutDIdeal.τ Cert.KernelOutDIdeal.sig) → Buf (Elt Ideal) ℓ) (g : Dev Cert.KernelOutDIdeal.nD → PrngReg)
    (m' : (ℓ : Loc Cert.ReferenceOutDIdeal.nD Cert.ReferenceOutDIdeal.τ Cert.ReferenceOutDIdeal.sig) → Buf (Elt Ideal) ℓ) (g' : Dev Cert.ReferenceOutDIdeal.nD → PrngReg), Pre_KernelOutDIdeal m →
    (∀ c : Dev Cert.KernelOutDIdeal.nD,
      m' ((c.tc : Thread Cert.ReferenceOutDIdeal.nD Cert.ReferenceOutDIdeal.τ).loc Cert.ReferenceOutDIdeal.main_arg0) = m ((c.tc : Thread Cert.KernelOutDIdeal.nD Cert.KernelOutDIdeal.τ).loc Cert.KernelOutDIdeal.main_arg0)
      ∧ m' ((c.tc : Thread Cert.ReferenceOutDIdeal.nD Cert.ReferenceOutDIdeal.τ).loc Cert.ReferenceOutDIdeal.main_arg1) = m ((c.tc : Thread Cert.KernelOutDIdeal.nD Cert.KernelOutDIdeal.τ).loc Cert.KernelOutDIdeal.main_arg1)) →
    ∃ (v0 : (c : Dev Cert.KernelOutDIdeal.nD) → Buf (Elt Ideal) ((c.tc : Thread Cert.KernelOutDIdeal.nD Cert.KernelOutDIdeal.τ).loc Cert.KernelOutDIdeal.main_v0)),
      θ_run (Cert.KernelOutDIdeal.defs (F := Ideal)) (onTc (τ := Cert.KernelOutDIdeal.τ) (Cert.KernelOutDIdeal.main (F := Ideal))) ⟨m, fun _ => 0, g⟩ (fun r => ∀ c : Dev Cert.KernelOutDIdeal.nD,
          r.2.mem ((c.tc : Thread Cert.KernelOutDIdeal.nD Cert.KernelOutDIdeal.τ).loc Cert.KernelOutDIdeal.main_v0) = v0 c
          ∧ r.2.mem ((c.tc : Thread Cert.KernelOutDIdeal.nD Cert.KernelOutDIdeal.τ).loc Cert.KernelOutDIdeal.main_arg0) = m ((c.tc : Thread Cert.KernelOutDIdeal.nD Cert.KernelOutDIdeal.τ).loc Cert.KernelOutDIdeal.main_arg0)
          ∧ r.2.mem ((c.tc : Thread Cert.KernelOutDIdeal.nD Cert.KernelOutDIdeal.τ).loc Cert.KernelOutDIdeal.main_arg1) = m ((c.tc : Thread Cert.KernelOutDIdeal.nD Cert.KernelOutDIdeal.τ).loc Cert.KernelOutDIdeal.main_arg1))
      ∧ θ_run (Cert.ReferenceOutDIdeal.defs (F := Ideal)) (onTc (τ := Cert.ReferenceOutDIdeal.τ) (Cert.ReferenceOutDIdeal.main (F := Ideal))) ⟨m', fun _ => 0, g'⟩ (fun r => ∀ c : Dev Cert.ReferenceOutDIdeal.nD,
          r.2.mem ((c.tc : Thread Cert.ReferenceOutDIdeal.nD Cert.ReferenceOutDIdeal.τ).loc Cert.ReferenceOutDIdeal.main_v4) = v0 c
          ∧ r.2.mem ((c.tc : Thread Cert.ReferenceOutDIdeal.nD Cert.ReferenceOutDIdeal.τ).loc Cert.ReferenceOutDIdeal.main_arg0) = m' ((c.tc : Thread Cert.ReferenceOutDIdeal.nD Cert.ReferenceOutDIdeal.τ).loc Cert.ReferenceOutDIdeal.main_arg0)
          ∧ r.2.mem ((c.tc : Thread Cert.ReferenceOutDIdeal.nD Cert.ReferenceOutDIdeal.τ).loc Cert.ReferenceOutDIdeal.main_arg1) = m' ((c.tc : Thread Cert.ReferenceOutDIdeal.nD Cert.ReferenceOutDIdeal.τ).loc Cert.ReferenceOutDIdeal.main_arg1))

def preserves_KernelPleF_KernelPleFIdeal : Prop :=
  True

def algebraic_KernelPleFIdeal_ReferencePleFIdeal [hKernelPleFIdeal : Cert.KernelPleFIdeal.Facts] [hReferencePleFIdeal : Cert.ReferencePleFIdeal.Facts] : Prop :=
  ∀ (m : (ℓ : Loc Cert.KernelPleFIdeal.nD Cert.KernelPleFIdeal.τ Cert.KernelPleFIdeal.sig) → Buf (Elt Ideal) ℓ) (g : Dev Cert.KernelPleFIdeal.nD → PrngReg)
    (m' : (ℓ : Loc Cert.ReferencePleFIdeal.nD Cert.ReferencePleFIdeal.τ Cert.ReferencePleFIdeal.sig) → Buf (Elt Ideal) ℓ) (g' : Dev Cert.ReferencePleFIdeal.nD → PrngReg), Pre_KernelPleFIdeal m →
    (∀ c : Dev Cert.KernelPleFIdeal.nD,
      m' ((c.tc : Thread Cert.ReferencePleFIdeal.nD Cert.ReferencePleFIdeal.τ).loc Cert.ReferencePleFIdeal.main_arg0) = m ((c.tc : Thread Cert.KernelPleFIdeal.nD Cert.KernelPleFIdeal.τ).loc Cert.KernelPleFIdeal.main_arg0)
      ∧ m' ((c.tc : Thread Cert.ReferencePleFIdeal.nD Cert.ReferencePleFIdeal.τ).loc Cert.ReferencePleFIdeal.main_arg1) = m ((c.tc : Thread Cert.KernelPleFIdeal.nD Cert.KernelPleFIdeal.τ).loc Cert.KernelPleFIdeal.main_arg1)
      ∧ m' ((c.tc : Thread Cert.ReferencePleFIdeal.nD Cert.ReferencePleFIdeal.τ).loc Cert.ReferencePleFIdeal.main_arg2) = m ((c.tc : Thread Cert.KernelPleFIdeal.nD Cert.KernelPleFIdeal.τ).loc Cert.KernelPleFIdeal.main_arg2)
      ∧ m' ((c.tc : Thread Cert.ReferencePleFIdeal.nD Cert.ReferencePleFIdeal.τ).loc Cert.ReferencePleFIdeal.main_arg3) = m ((c.tc : Thread Cert.KernelPleFIdeal.nD Cert.KernelPleFIdeal.τ).loc Cert.KernelPleFIdeal.main_arg3)) →
    ∃ (v0 : (c : Dev Cert.KernelPleFIdeal.nD) → Buf (Elt Ideal) ((c.tc : Thread Cert.KernelPleFIdeal.nD Cert.KernelPleFIdeal.τ).loc Cert.KernelPleFIdeal.main_v0)),
      θ_run (Cert.KernelPleFIdeal.defs (F := Ideal)) (onTc (τ := Cert.KernelPleFIdeal.τ) (Cert.KernelPleFIdeal.main (F := Ideal))) ⟨m, fun _ => 0, g⟩ (fun r => ∀ c : Dev Cert.KernelPleFIdeal.nD,
          r.2.mem ((c.tc : Thread Cert.KernelPleFIdeal.nD Cert.KernelPleFIdeal.τ).loc Cert.KernelPleFIdeal.main_v0) = v0 c
          ∧ r.2.mem ((c.tc : Thread Cert.KernelPleFIdeal.nD Cert.KernelPleFIdeal.τ).loc Cert.KernelPleFIdeal.main_arg0) = m ((c.tc : Thread Cert.KernelPleFIdeal.nD Cert.KernelPleFIdeal.τ).loc Cert.KernelPleFIdeal.main_arg0)
          ∧ r.2.mem ((c.tc : Thread Cert.KernelPleFIdeal.nD Cert.KernelPleFIdeal.τ).loc Cert.KernelPleFIdeal.main_arg1) = m ((c.tc : Thread Cert.KernelPleFIdeal.nD Cert.KernelPleFIdeal.τ).loc Cert.KernelPleFIdeal.main_arg1)
          ∧ r.2.mem ((c.tc : Thread Cert.KernelPleFIdeal.nD Cert.KernelPleFIdeal.τ).loc Cert.KernelPleFIdeal.main_arg2) = m ((c.tc : Thread Cert.KernelPleFIdeal.nD Cert.KernelPleFIdeal.τ).loc Cert.KernelPleFIdeal.main_arg2)
          ∧ r.2.mem ((c.tc : Thread Cert.KernelPleFIdeal.nD Cert.KernelPleFIdeal.τ).loc Cert.KernelPleFIdeal.main_arg3) = m ((c.tc : Thread Cert.KernelPleFIdeal.nD Cert.KernelPleFIdeal.τ).loc Cert.KernelPleFIdeal.main_arg3))
      ∧ θ_run (Cert.ReferencePleFIdeal.defs (F := Ideal)) (onTc (τ := Cert.ReferencePleFIdeal.τ) (Cert.ReferencePleFIdeal.main (F := Ideal))) ⟨m', fun _ => 0, g'⟩ (fun r => ∀ c : Dev Cert.ReferencePleFIdeal.nD,
          r.2.mem ((c.tc : Thread Cert.ReferencePleFIdeal.nD Cert.ReferencePleFIdeal.τ).loc Cert.ReferencePleFIdeal.main_v9) = v0 c
          ∧ r.2.mem ((c.tc : Thread Cert.ReferencePleFIdeal.nD Cert.ReferencePleFIdeal.τ).loc Cert.ReferencePleFIdeal.main_arg0) = m' ((c.tc : Thread Cert.ReferencePleFIdeal.nD Cert.ReferencePleFIdeal.τ).loc Cert.ReferencePleFIdeal.main_arg0)
          ∧ r.2.mem ((c.tc : Thread Cert.ReferencePleFIdeal.nD Cert.ReferencePleFIdeal.τ).loc Cert.ReferencePleFIdeal.main_arg1) = m' ((c.tc : Thread Cert.ReferencePleFIdeal.nD Cert.ReferencePleFIdeal.τ).loc Cert.ReferencePleFIdeal.main_arg1)
          ∧ r.2.mem ((c.tc : Thread Cert.ReferencePleFIdeal.nD Cert.ReferencePleFIdeal.τ).loc Cert.ReferencePleFIdeal.main_arg2) = m' ((c.tc : Thread Cert.ReferencePleFIdeal.nD Cert.ReferencePleFIdeal.τ).loc Cert.ReferencePleFIdeal.main_arg2)
          ∧ r.2.mem ((c.tc : Thread Cert.ReferencePleFIdeal.nD Cert.ReferencePleFIdeal.τ).loc Cert.ReferencePleFIdeal.main_arg3) = m' ((c.tc : Thread Cert.ReferencePleFIdeal.nD Cert.ReferencePleFIdeal.τ).loc Cert.ReferencePleFIdeal.main_arg3))

def preserves_KernelPleProjW_KernelPleProjWIdeal : Prop :=
  True

def algebraic_KernelPleProjWIdeal_ReferencePleProjWIdeal [hKernelPleProjWIdeal : Cert.KernelPleProjWIdeal.Facts] [hReferencePleProjWIdeal : Cert.ReferencePleProjWIdeal.Facts] : Prop :=
  ∀ (m : (ℓ : Loc Cert.KernelPleProjWIdeal.nD Cert.KernelPleProjWIdeal.τ Cert.KernelPleProjWIdeal.sig) → Buf (Elt Ideal) ℓ) (g : Dev Cert.KernelPleProjWIdeal.nD → PrngReg)
    (m' : (ℓ : Loc Cert.ReferencePleProjWIdeal.nD Cert.ReferencePleProjWIdeal.τ Cert.ReferencePleProjWIdeal.sig) → Buf (Elt Ideal) ℓ) (g' : Dev Cert.ReferencePleProjWIdeal.nD → PrngReg), Pre_KernelPleProjWIdeal m →
    (∀ c : Dev Cert.KernelPleProjWIdeal.nD,
      m' ((c.tc : Thread Cert.ReferencePleProjWIdeal.nD Cert.ReferencePleProjWIdeal.τ).loc Cert.ReferencePleProjWIdeal.main_arg0) = m ((c.tc : Thread Cert.KernelPleProjWIdeal.nD Cert.KernelPleProjWIdeal.τ).loc Cert.KernelPleProjWIdeal.main_arg0)
      ∧ m' ((c.tc : Thread Cert.ReferencePleProjWIdeal.nD Cert.ReferencePleProjWIdeal.τ).loc Cert.ReferencePleProjWIdeal.main_arg1) = m ((c.tc : Thread Cert.KernelPleProjWIdeal.nD Cert.KernelPleProjWIdeal.τ).loc Cert.KernelPleProjWIdeal.main_arg1)) →
    ∃ (v0 : (c : Dev Cert.KernelPleProjWIdeal.nD) → Buf (Elt Ideal) ((c.tc : Thread Cert.KernelPleProjWIdeal.nD Cert.KernelPleProjWIdeal.τ).loc Cert.KernelPleProjWIdeal.main_v0)),
      θ_run (Cert.KernelPleProjWIdeal.defs (F := Ideal)) (onTc (τ := Cert.KernelPleProjWIdeal.τ) (Cert.KernelPleProjWIdeal.main (F := Ideal))) ⟨m, fun _ => 0, g⟩ (fun r => ∀ c : Dev Cert.KernelPleProjWIdeal.nD,
          r.2.mem ((c.tc : Thread Cert.KernelPleProjWIdeal.nD Cert.KernelPleProjWIdeal.τ).loc Cert.KernelPleProjWIdeal.main_v0) = v0 c
          ∧ r.2.mem ((c.tc : Thread Cert.KernelPleProjWIdeal.nD Cert.KernelPleProjWIdeal.τ).loc Cert.KernelPleProjWIdeal.main_arg0) = m ((c.tc : Thread Cert.KernelPleProjWIdeal.nD Cert.KernelPleProjWIdeal.τ).loc Cert.KernelPleProjWIdeal.main_arg0)
          ∧ r.2.mem ((c.tc : Thread Cert.KernelPleProjWIdeal.nD Cert.KernelPleProjWIdeal.τ).loc Cert.KernelPleProjWIdeal.main_arg1) = m ((c.tc : Thread Cert.KernelPleProjWIdeal.nD Cert.KernelPleProjWIdeal.τ).loc Cert.KernelPleProjWIdeal.main_arg1))
      ∧ θ_run (Cert.ReferencePleProjWIdeal.defs (F := Ideal)) (onTc (τ := Cert.ReferencePleProjWIdeal.τ) (Cert.ReferencePleProjWIdeal.main (F := Ideal))) ⟨m', fun _ => 0, g'⟩ (fun r => ∀ c : Dev Cert.ReferencePleProjWIdeal.nD,
          r.2.mem ((c.tc : Thread Cert.ReferencePleProjWIdeal.nD Cert.ReferencePleProjWIdeal.τ).loc Cert.ReferencePleProjWIdeal.main_v4) = v0 c
          ∧ r.2.mem ((c.tc : Thread Cert.ReferencePleProjWIdeal.nD Cert.ReferencePleProjWIdeal.τ).loc Cert.ReferencePleProjWIdeal.main_arg0) = m' ((c.tc : Thread Cert.ReferencePleProjWIdeal.nD Cert.ReferencePleProjWIdeal.τ).loc Cert.ReferencePleProjWIdeal.main_arg0)
          ∧ r.2.mem ((c.tc : Thread Cert.ReferencePleProjWIdeal.nD Cert.ReferencePleProjWIdeal.τ).loc Cert.ReferencePleProjWIdeal.main_arg1) = m' ((c.tc : Thread Cert.ReferencePleProjWIdeal.nD Cert.ReferencePleProjWIdeal.τ).loc Cert.ReferencePleProjWIdeal.main_arg1))

def preserves_KernelPleD_KernelPleDIdeal : Prop :=
  True

def algebraic_KernelPleDIdeal_ReferencePleDIdeal [hKernelPleDIdeal : Cert.KernelPleDIdeal.Facts] [hReferencePleDIdeal : Cert.ReferencePleDIdeal.Facts] : Prop :=
  ∀ (m : (ℓ : Loc Cert.KernelPleDIdeal.nD Cert.KernelPleDIdeal.τ Cert.KernelPleDIdeal.sig) → Buf (Elt Ideal) ℓ) (g : Dev Cert.KernelPleDIdeal.nD → PrngReg)
    (m' : (ℓ : Loc Cert.ReferencePleDIdeal.nD Cert.ReferencePleDIdeal.τ Cert.ReferencePleDIdeal.sig) → Buf (Elt Ideal) ℓ) (g' : Dev Cert.ReferencePleDIdeal.nD → PrngReg), Pre_KernelPleDIdeal m →
    (∀ c : Dev Cert.KernelPleDIdeal.nD,
      m' ((c.tc : Thread Cert.ReferencePleDIdeal.nD Cert.ReferencePleDIdeal.τ).loc Cert.ReferencePleDIdeal.main_arg0) = m ((c.tc : Thread Cert.KernelPleDIdeal.nD Cert.KernelPleDIdeal.τ).loc Cert.KernelPleDIdeal.main_arg0)
      ∧ m' ((c.tc : Thread Cert.ReferencePleDIdeal.nD Cert.ReferencePleDIdeal.τ).loc Cert.ReferencePleDIdeal.main_arg1) = m ((c.tc : Thread Cert.KernelPleDIdeal.nD Cert.KernelPleDIdeal.τ).loc Cert.KernelPleDIdeal.main_arg1)
      ∧ m' ((c.tc : Thread Cert.ReferencePleDIdeal.nD Cert.ReferencePleDIdeal.τ).loc Cert.ReferencePleDIdeal.main_arg2) = m ((c.tc : Thread Cert.KernelPleDIdeal.nD Cert.KernelPleDIdeal.τ).loc Cert.KernelPleDIdeal.main_arg2)
      ∧ m' ((c.tc : Thread Cert.ReferencePleDIdeal.nD Cert.ReferencePleDIdeal.τ).loc Cert.ReferencePleDIdeal.main_arg3) = m ((c.tc : Thread Cert.KernelPleDIdeal.nD Cert.KernelPleDIdeal.τ).loc Cert.KernelPleDIdeal.main_arg3)) →
    ∃ (v0 : (c : Dev Cert.KernelPleDIdeal.nD) → Buf (Elt Ideal) ((c.tc : Thread Cert.KernelPleDIdeal.nD Cert.KernelPleDIdeal.τ).loc Cert.KernelPleDIdeal.main_v0_0)) (v1 : (c : Dev Cert.KernelPleDIdeal.nD) → Buf (Elt Ideal) ((c.tc : Thread Cert.KernelPleDIdeal.nD Cert.KernelPleDIdeal.τ).loc Cert.KernelPleDIdeal.main_v0_1)),
      θ_run (Cert.KernelPleDIdeal.defs (F := Ideal)) (onTc (τ := Cert.KernelPleDIdeal.τ) (Cert.KernelPleDIdeal.main (F := Ideal))) ⟨m, fun _ => 0, g⟩ (fun r => ∀ c : Dev Cert.KernelPleDIdeal.nD,
          r.2.mem ((c.tc : Thread Cert.KernelPleDIdeal.nD Cert.KernelPleDIdeal.τ).loc Cert.KernelPleDIdeal.main_v0_0) = v0 c
          ∧ r.2.mem ((c.tc : Thread Cert.KernelPleDIdeal.nD Cert.KernelPleDIdeal.τ).loc Cert.KernelPleDIdeal.main_v0_1) = v1 c
          ∧ r.2.mem ((c.tc : Thread Cert.KernelPleDIdeal.nD Cert.KernelPleDIdeal.τ).loc Cert.KernelPleDIdeal.main_arg0) = m ((c.tc : Thread Cert.KernelPleDIdeal.nD Cert.KernelPleDIdeal.τ).loc Cert.KernelPleDIdeal.main_arg0)
          ∧ r.2.mem ((c.tc : Thread Cert.KernelPleDIdeal.nD Cert.KernelPleDIdeal.τ).loc Cert.KernelPleDIdeal.main_arg1) = m ((c.tc : Thread Cert.KernelPleDIdeal.nD Cert.KernelPleDIdeal.τ).loc Cert.KernelPleDIdeal.main_arg1)
          ∧ r.2.mem ((c.tc : Thread Cert.KernelPleDIdeal.nD Cert.KernelPleDIdeal.τ).loc Cert.KernelPleDIdeal.main_arg2) = m ((c.tc : Thread Cert.KernelPleDIdeal.nD Cert.KernelPleDIdeal.τ).loc Cert.KernelPleDIdeal.main_arg2)
          ∧ r.2.mem ((c.tc : Thread Cert.KernelPleDIdeal.nD Cert.KernelPleDIdeal.τ).loc Cert.KernelPleDIdeal.main_arg3) = m ((c.tc : Thread Cert.KernelPleDIdeal.nD Cert.KernelPleDIdeal.τ).loc Cert.KernelPleDIdeal.main_arg3))
      ∧ θ_run (Cert.ReferencePleDIdeal.defs (F := Ideal)) (onTc (τ := Cert.ReferencePleDIdeal.τ) (Cert.ReferencePleDIdeal.main (F := Ideal))) ⟨m', fun _ => 0, g'⟩ (fun r => ∀ c : Dev Cert.ReferencePleDIdeal.nD,
          r.2.mem ((c.tc : Thread Cert.ReferencePleDIdeal.nD Cert.ReferencePleDIdeal.τ).loc Cert.ReferencePleDIdeal.main_v15) = v0 c
          ∧ r.2.mem ((c.tc : Thread Cert.ReferencePleDIdeal.nD Cert.ReferencePleDIdeal.τ).loc Cert.ReferencePleDIdeal.main_v16) = v1 c
          ∧ r.2.mem ((c.tc : Thread Cert.ReferencePleDIdeal.nD Cert.ReferencePleDIdeal.τ).loc Cert.ReferencePleDIdeal.main_arg0) = m' ((c.tc : Thread Cert.ReferencePleDIdeal.nD Cert.ReferencePleDIdeal.τ).loc Cert.ReferencePleDIdeal.main_arg0)
          ∧ r.2.mem ((c.tc : Thread Cert.ReferencePleDIdeal.nD Cert.ReferencePleDIdeal.τ).loc Cert.ReferencePleDIdeal.main_arg1) = m' ((c.tc : Thread Cert.ReferencePleDIdeal.nD Cert.ReferencePleDIdeal.τ).loc Cert.ReferencePleDIdeal.main_arg1)
          ∧ r.2.mem ((c.tc : Thread Cert.ReferencePleDIdeal.nD Cert.ReferencePleDIdeal.τ).loc Cert.ReferencePleDIdeal.main_arg2) = m' ((c.tc : Thread Cert.ReferencePleDIdeal.nD Cert.ReferencePleDIdeal.τ).loc Cert.ReferencePleDIdeal.main_arg2)
          ∧ r.2.mem ((c.tc : Thread Cert.ReferencePleDIdeal.nD Cert.ReferencePleDIdeal.τ).loc Cert.ReferencePleDIdeal.main_arg3) = m' ((c.tc : Thread Cert.ReferencePleDIdeal.nD Cert.ReferencePleDIdeal.τ).loc Cert.ReferencePleDIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v50) = v0 c
          ∧ r.2.mem ((c.tc : Thread Cert.ReferenceLossIdeal.nD Cert.ReferenceLossIdeal.τ).loc Cert.ReferenceLossIdeal.main_v51) = v1 c
          ∧ r.2.mem ((c.tc : Thread Cert.ReferenceLossIdeal.nD Cert.ReferenceLossIdeal.τ).loc Cert.ReferenceLossIdeal.main_v52) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelGateF_KernelGateFIdeal : Prop :=
  True

def algebraic_KernelGateFIdeal_ReferenceGateFIdeal [hKernelGateFIdeal : Cert.KernelGateFIdeal.Facts] [hReferenceGateFIdeal : Cert.ReferenceGateFIdeal.Facts] : Prop :=
  ∀ (m : (ℓ : Loc Cert.KernelGateFIdeal.nD Cert.KernelGateFIdeal.τ Cert.KernelGateFIdeal.sig) → Buf (Elt Ideal) ℓ) (g : Dev Cert.KernelGateFIdeal.nD → PrngReg)
    (m' : (ℓ : Loc Cert.ReferenceGateFIdeal.nD Cert.ReferenceGateFIdeal.τ Cert.ReferenceGateFIdeal.sig) → Buf (Elt Ideal) ℓ) (g' : Dev Cert.ReferenceGateFIdeal.nD → PrngReg), Pre_KernelGateFIdeal m →
    (∀ c : Dev Cert.KernelGateFIdeal.nD,
      m' ((c.tc : Thread Cert.ReferenceGateFIdeal.nD Cert.ReferenceGateFIdeal.τ).loc Cert.ReferenceGateFIdeal.main_arg0) = m ((c.tc : Thread Cert.KernelGateFIdeal.nD Cert.KernelGateFIdeal.τ).loc Cert.KernelGateFIdeal.main_arg0)
      ∧ m' ((c.tc : Thread Cert.ReferenceGateFIdeal.nD Cert.ReferenceGateFIdeal.τ).loc Cert.ReferenceGateFIdeal.main_arg1) = m ((c.tc : Thread Cert.KernelGateFIdeal.nD Cert.KernelGateFIdeal.τ).loc Cert.KernelGateFIdeal.main_arg1)) →
    ∃ (v0 : (c : Dev Cert.KernelGateFIdeal.nD) → Buf (Elt Ideal) ((c.tc : Thread Cert.KernelGateFIdeal.nD Cert.KernelGateFIdeal.τ).loc Cert.KernelGateFIdeal.main_v13)),
      θ_run (Cert.KernelGateFIdeal.defs (F := Ideal)) (onTc (τ := Cert.KernelGateFIdeal.τ) (Cert.KernelGateFIdeal.main (F := Ideal))) ⟨m, fun _ => 0, g⟩ (fun r => ∀ c : Dev Cert.KernelGateFIdeal.nD,
          r.2.mem ((c.tc : Thread Cert.KernelGateFIdeal.nD Cert.KernelGateFIdeal.τ).loc Cert.KernelGateFIdeal.main_v13) = v0 c
          ∧ r.2.mem ((c.tc : Thread Cert.KernelGateFIdeal.nD Cert.KernelGateFIdeal.τ).loc Cert.KernelGateFIdeal.main_arg0) = m ((c.tc : Thread Cert.KernelGateFIdeal.nD Cert.KernelGateFIdeal.τ).loc Cert.KernelGateFIdeal.main_arg0)
          ∧ r.2.mem ((c.tc : Thread Cert.KernelGateFIdeal.nD Cert.KernelGateFIdeal.τ).loc Cert.KernelGateFIdeal.main_arg1) = m ((c.tc : Thread Cert.KernelGateFIdeal.nD Cert.KernelGateFIdeal.τ).loc Cert.KernelGateFIdeal.main_arg1))
      ∧ θ_run (Cert.ReferenceGateFIdeal.defs (F := Ideal)) (onTc (τ := Cert.ReferenceGateFIdeal.τ) (Cert.ReferenceGateFIdeal.main (F := Ideal))) ⟨m', fun _ => 0, g'⟩ (fun r => ∀ c : Dev Cert.ReferenceGateFIdeal.nD,
          r.2.mem ((c.tc : Thread Cert.ReferenceGateFIdeal.nD Cert.ReferenceGateFIdeal.τ).loc Cert.ReferenceGateFIdeal.main_v3) = v0 c
          ∧ r.2.mem ((c.tc : Thread Cert.ReferenceGateFIdeal.nD Cert.ReferenceGateFIdeal.τ).loc Cert.ReferenceGateFIdeal.main_arg0) = m' ((c.tc : Thread Cert.ReferenceGateFIdeal.nD Cert.ReferenceGateFIdeal.τ).loc Cert.ReferenceGateFIdeal.main_arg0)
          ∧ r.2.mem ((c.tc : Thread Cert.ReferenceGateFIdeal.nD Cert.ReferenceGateFIdeal.τ).loc Cert.ReferenceGateFIdeal.main_arg1) = m' ((c.tc : Thread Cert.ReferenceGateFIdeal.nD Cert.ReferenceGateFIdeal.τ).loc Cert.ReferenceGateFIdeal.main_arg1))

def preserves_KernelGateD_KernelGateDIdeal : Prop :=
  True

def algebraic_KernelGateDIdeal_ReferenceGateDIdeal [hKernelGateDIdeal : Cert.KernelGateDIdeal.Facts] [hReferenceGateDIdeal : Cert.ReferenceGateDIdeal.Facts] : Prop :=
  ∀ (m : (ℓ : Loc Cert.KernelGateDIdeal.nD Cert.KernelGateDIdeal.τ Cert.KernelGateDIdeal.sig) → Buf (Elt Ideal) ℓ) (g : Dev Cert.KernelGateDIdeal.nD → PrngReg)
    (m' : (ℓ : Loc Cert.ReferenceGateDIdeal.nD Cert.ReferenceGateDIdeal.τ Cert.ReferenceGateDIdeal.sig) → Buf (Elt Ideal) ℓ) (g' : Dev Cert.ReferenceGateDIdeal.nD → PrngReg), Pre_KernelGateDIdeal m →
    (∀ c : Dev Cert.KernelGateDIdeal.nD,
      m' ((c.tc : Thread Cert.ReferenceGateDIdeal.nD Cert.ReferenceGateDIdeal.τ).loc Cert.ReferenceGateDIdeal.main_arg0) = m ((c.tc : Thread Cert.KernelGateDIdeal.nD Cert.KernelGateDIdeal.τ).loc Cert.KernelGateDIdeal.main_arg0)
      ∧ m' ((c.tc : Thread Cert.ReferenceGateDIdeal.nD Cert.ReferenceGateDIdeal.τ).loc Cert.ReferenceGateDIdeal.main_arg1) = m ((c.tc : Thread Cert.KernelGateDIdeal.nD Cert.KernelGateDIdeal.τ).loc Cert.KernelGateDIdeal.main_arg1)
      ∧ m' ((c.tc : Thread Cert.ReferenceGateDIdeal.nD Cert.ReferenceGateDIdeal.τ).loc Cert.ReferenceGateDIdeal.main_arg2) = m ((c.tc : Thread Cert.KernelGateDIdeal.nD Cert.KernelGateDIdeal.τ).loc Cert.KernelGateDIdeal.main_arg2)) →
    ∃ (v0 : (c : Dev Cert.KernelGateDIdeal.nD) → Buf (Elt Ideal) ((c.tc : Thread Cert.KernelGateDIdeal.nD Cert.KernelGateDIdeal.τ).loc Cert.KernelGateDIdeal.main_v13)),
      θ_run (Cert.KernelGateDIdeal.defs (F := Ideal)) (onTc (τ := Cert.KernelGateDIdeal.τ) (Cert.KernelGateDIdeal.main (F := Ideal))) ⟨m, fun _ => 0, g⟩ (fun r => ∀ c : Dev Cert.KernelGateDIdeal.nD,
          r.2.mem ((c.tc : Thread Cert.KernelGateDIdeal.nD Cert.KernelGateDIdeal.τ).loc Cert.KernelGateDIdeal.main_v13) = v0 c
          ∧ r.2.mem ((c.tc : Thread Cert.KernelGateDIdeal.nD Cert.KernelGateDIdeal.τ).loc Cert.KernelGateDIdeal.main_arg0) = m ((c.tc : Thread Cert.KernelGateDIdeal.nD Cert.KernelGateDIdeal.τ).loc Cert.KernelGateDIdeal.main_arg0)
          ∧ r.2.mem ((c.tc : Thread Cert.KernelGateDIdeal.nD Cert.KernelGateDIdeal.τ).loc Cert.KernelGateDIdeal.main_arg1) = m ((c.tc : Thread Cert.KernelGateDIdeal.nD Cert.KernelGateDIdeal.τ).loc Cert.KernelGateDIdeal.main_arg1)
          ∧ r.2.mem ((c.tc : Thread Cert.KernelGateDIdeal.nD Cert.KernelGateDIdeal.τ).loc Cert.KernelGateDIdeal.main_arg2) = m ((c.tc : Thread Cert.KernelGateDIdeal.nD Cert.KernelGateDIdeal.τ).loc Cert.KernelGateDIdeal.main_arg2))
      ∧ θ_run (Cert.ReferenceGateDIdeal.defs (F := Ideal)) (onTc (τ := Cert.ReferenceGateDIdeal.τ) (Cert.ReferenceGateDIdeal.main (F := Ideal))) ⟨m', fun _ => 0, g'⟩ (fun r => ∀ c : Dev Cert.ReferenceGateDIdeal.nD,
          r.2.mem ((c.tc : Thread Cert.ReferenceGateDIdeal.nD Cert.ReferenceGateDIdeal.τ).loc Cert.ReferenceGateDIdeal.main_v11) = v0 c
          ∧ r.2.mem ((c.tc : Thread Cert.ReferenceGateDIdeal.nD Cert.ReferenceGateDIdeal.τ).loc Cert.ReferenceGateDIdeal.main_arg0) = m' ((c.tc : Thread Cert.ReferenceGateDIdeal.nD Cert.ReferenceGateDIdeal.τ).loc Cert.ReferenceGateDIdeal.main_arg0)
          ∧ r.2.mem ((c.tc : Thread Cert.ReferenceGateDIdeal.nD Cert.ReferenceGateDIdeal.τ).loc Cert.ReferenceGateDIdeal.main_arg1) = m' ((c.tc : Thread Cert.ReferenceGateDIdeal.nD Cert.ReferenceGateDIdeal.τ).loc Cert.ReferenceGateDIdeal.main_arg1)
          ∧ r.2.mem ((c.tc : Thread Cert.ReferenceGateDIdeal.nD Cert.ReferenceGateDIdeal.τ).loc Cert.ReferenceGateDIdeal.main_arg2) = m' ((c.tc : Thread Cert.ReferenceGateDIdeal.nD Cert.ReferenceGateDIdeal.τ).loc Cert.ReferenceGateDIdeal.main_arg2))

def preserves_KernelGateW_KernelGateWIdeal : Prop :=
  True

def algebraic_KernelGateWIdeal_ReferenceGateWIdeal [hKernelGateWIdeal : Cert.KernelGateWIdeal.Facts] [hReferenceGateWIdeal : Cert.ReferenceGateWIdeal.Facts] : Prop :=
  ∀ (m : (ℓ : Loc Cert.KernelGateWIdeal.nD Cert.KernelGateWIdeal.τ Cert.KernelGateWIdeal.sig) → Buf (Elt Ideal) ℓ) (g : Dev Cert.KernelGateWIdeal.nD → PrngReg)
    (m' : (ℓ : Loc Cert.ReferenceGateWIdeal.nD Cert.ReferenceGateWIdeal.τ Cert.ReferenceGateWIdeal.sig) → Buf (Elt Ideal) ℓ) (g' : Dev Cert.ReferenceGateWIdeal.nD → PrngReg), Pre_KernelGateWIdeal m →
    (∀ c : Dev Cert.KernelGateWIdeal.nD,
      m' ((c.tc : Thread Cert.ReferenceGateWIdeal.nD Cert.ReferenceGateWIdeal.τ).loc Cert.ReferenceGateWIdeal.main_arg0) = m ((c.tc : Thread Cert.KernelGateWIdeal.nD Cert.KernelGateWIdeal.τ).loc Cert.KernelGateWIdeal.main_arg0)
      ∧ m' ((c.tc : Thread Cert.ReferenceGateWIdeal.nD Cert.ReferenceGateWIdeal.τ).loc Cert.ReferenceGateWIdeal.main_arg1) = m ((c.tc : Thread Cert.KernelGateWIdeal.nD Cert.KernelGateWIdeal.τ).loc Cert.KernelGateWIdeal.main_arg1)) →
    ∃ (v0 : (c : Dev Cert.KernelGateWIdeal.nD) → Buf (Elt Ideal) ((c.tc : Thread Cert.KernelGateWIdeal.nD Cert.KernelGateWIdeal.τ).loc Cert.KernelGateWIdeal.main_v0)),
      θ_run (Cert.KernelGateWIdeal.defs (F := Ideal)) (onTc (τ := Cert.KernelGateWIdeal.τ) (Cert.KernelGateWIdeal.main (F := Ideal))) ⟨m, fun _ => 0, g⟩ (fun r => ∀ c : Dev Cert.KernelGateWIdeal.nD,
          r.2.mem ((c.tc : Thread Cert.KernelGateWIdeal.nD Cert.KernelGateWIdeal.τ).loc Cert.KernelGateWIdeal.main_v0) = v0 c
          ∧ r.2.mem ((c.tc : Thread Cert.KernelGateWIdeal.nD Cert.KernelGateWIdeal.τ).loc Cert.KernelGateWIdeal.main_arg0) = m ((c.tc : Thread Cert.KernelGateWIdeal.nD Cert.KernelGateWIdeal.τ).loc Cert.KernelGateWIdeal.main_arg0)
          ∧ r.2.mem ((c.tc : Thread Cert.KernelGateWIdeal.nD Cert.KernelGateWIdeal.τ).loc Cert.KernelGateWIdeal.main_arg1) = m ((c.tc : Thread Cert.KernelGateWIdeal.nD Cert.KernelGateWIdeal.τ).loc Cert.KernelGateWIdeal.main_arg1))
      ∧ θ_run (Cert.ReferenceGateWIdeal.defs (F := Ideal)) (onTc (τ := Cert.ReferenceGateWIdeal.τ) (Cert.ReferenceGateWIdeal.main (F := Ideal))) ⟨m', fun _ => 0, g'⟩ (fun r => ∀ c : Dev Cert.ReferenceGateWIdeal.nD,
          r.2.mem ((c.tc : Thread Cert.ReferenceGateWIdeal.nD Cert.ReferenceGateWIdeal.τ).loc Cert.ReferenceGateWIdeal.main_v4) = v0 c
          ∧ r.2.mem ((c.tc : Thread Cert.ReferenceGateWIdeal.nD Cert.ReferenceGateWIdeal.τ).loc Cert.ReferenceGateWIdeal.main_arg0) = m' ((c.tc : Thread Cert.ReferenceGateWIdeal.nD Cert.ReferenceGateWIdeal.τ).loc Cert.ReferenceGateWIdeal.main_arg0)
          ∧ r.2.mem ((c.tc : Thread Cert.ReferenceGateWIdeal.nD Cert.ReferenceGateWIdeal.τ).loc Cert.ReferenceGateWIdeal.main_arg1) = m' ((c.tc : Thread Cert.ReferenceGateWIdeal.nD Cert.ReferenceGateWIdeal.τ).loc Cert.ReferenceGateWIdeal.main_arg1))

def preserves_KernelAdamNormMix_KernelAdamNormMixIdeal : Prop :=
  IdealRules.named_const.Statement Cert.KernelAdamNormMixIdeal.κ "bc1" .f32 0x3FC48605#32 ((8388608 / 5463681 : ℝ) : EReal)
  ∧ IdealRules.named_const.Statement Cert.KernelAdamNormMixIdeal.κ "bc2" .f32 0x42C8E6D3#32 ((268435456 / 2672307 : ℝ) : EReal)

def algebraic_KernelAdamNormMixIdeal_ReferenceAdamNormMixIdeal [hKernelAdamNormMixIdeal : Cert.KernelAdamNormMixIdeal.Facts] [hReferenceAdamNormMixIdeal : Cert.ReferenceAdamNormMixIdeal.Facts] : Prop :=
  ∀ (m : (ℓ : Loc Cert.KernelAdamNormMixIdeal.nD Cert.KernelAdamNormMixIdeal.τ Cert.KernelAdamNormMixIdeal.sig) → Buf (Elt Ideal) ℓ) (g : Dev Cert.KernelAdamNormMixIdeal.nD → PrngReg)
    (m' : (ℓ : Loc Cert.ReferenceAdamNormMixIdeal.nD Cert.ReferenceAdamNormMixIdeal.τ Cert.ReferenceAdamNormMixIdeal.sig) → Buf (Elt Ideal) ℓ) (g' : Dev Cert.ReferenceAdamNormMixIdeal.nD → PrngReg), Pre_KernelAdamNormMixIdeal m →
    (∀ c : Dev Cert.KernelAdamNormMixIdeal.nD,
      m' ((c.tc : Thread Cert.ReferenceAdamNormMixIdeal.nD Cert.ReferenceAdamNormMixIdeal.τ).loc Cert.ReferenceAdamNormMixIdeal.main_arg0) = m ((c.tc : Thread Cert.KernelAdamNormMixIdeal.nD Cert.KernelAdamNormMixIdeal.τ).loc Cert.KernelAdamNormMixIdeal.main_arg0)
      ∧ m' ((c.tc : Thread Cert.ReferenceAdamNormMixIdeal.nD Cert.ReferenceAdamNormMixIdeal.τ).loc Cert.ReferenceAdamNormMixIdeal.main_arg1) = m ((c.tc : Thread Cert.KernelAdamNormMixIdeal.nD Cert.KernelAdamNormMixIdeal.τ).loc Cert.KernelAdamNormMixIdeal.main_arg1)
      ∧ m' ((c.tc : Thread Cert.ReferenceAdamNormMixIdeal.nD Cert.ReferenceAdamNormMixIdeal.τ).loc Cert.ReferenceAdamNormMixIdeal.main_arg2) = m ((c.tc : Thread Cert.KernelAdamNormMixIdeal.nD Cert.KernelAdamNormMixIdeal.τ).loc Cert.KernelAdamNormMixIdeal.main_arg2)
      ∧ m' ((c.tc : Thread Cert.ReferenceAdamNormMixIdeal.nD Cert.ReferenceAdamNormMixIdeal.τ).loc Cert.ReferenceAdamNormMixIdeal.main_arg3) = m ((c.tc : Thread Cert.KernelAdamNormMixIdeal.nD Cert.KernelAdamNormMixIdeal.τ).loc Cert.KernelAdamNormMixIdeal.main_arg3)) →
    ∃ (v0 : (c : Dev Cert.KernelAdamNormMixIdeal.nD) → Buf (Elt Ideal) ((c.tc : Thread Cert.KernelAdamNormMixIdeal.nD Cert.KernelAdamNormMixIdeal.τ).loc Cert.KernelAdamNormMixIdeal.main_v0_0)) (v1 : (c : Dev Cert.KernelAdamNormMixIdeal.nD) → Buf (Elt Ideal) ((c.tc : Thread Cert.KernelAdamNormMixIdeal.nD Cert.KernelAdamNormMixIdeal.τ).loc Cert.KernelAdamNormMixIdeal.main_v0_1)) (v2 : (c : Dev Cert.KernelAdamNormMixIdeal.nD) → Buf (Elt Ideal) ((c.tc : Thread Cert.KernelAdamNormMixIdeal.nD Cert.KernelAdamNormMixIdeal.τ).loc Cert.KernelAdamNormMixIdeal.main_v0_2)),
      θ_run (Cert.KernelAdamNormMixIdeal.defs (F := Ideal)) (onTc (τ := Cert.KernelAdamNormMixIdeal.τ) (Cert.KernelAdamNormMixIdeal.main (F := Ideal))) ⟨m, fun _ => 0, g⟩ (fun r => ∀ c : Dev Cert.KernelAdamNormMixIdeal.nD,
          r.2.mem ((c.tc : Thread Cert.KernelAdamNormMixIdeal.nD Cert.KernelAdamNormMixIdeal.τ).loc Cert.KernelAdamNormMixIdeal.main_v0_0) = v0 c
          ∧ r.2.mem ((c.tc : Thread Cert.KernelAdamNormMixIdeal.nD Cert.KernelAdamNormMixIdeal.τ).loc Cert.KernelAdamNormMixIdeal.main_v0_1) = v1 c
          ∧ r.2.mem ((c.tc : Thread Cert.KernelAdamNormMixIdeal.nD Cert.KernelAdamNormMixIdeal.τ).loc Cert.KernelAdamNormMixIdeal.main_v0_2) = v2 c
          ∧ r.2.mem ((c.tc : Thread Cert.KernelAdamNormMixIdeal.nD Cert.KernelAdamNormMixIdeal.τ).loc Cert.KernelAdamNormMixIdeal.main_arg0) = m ((c.tc : Thread Cert.KernelAdamNormMixIdeal.nD Cert.KernelAdamNormMixIdeal.τ).loc Cert.KernelAdamNormMixIdeal.main_arg0)
          ∧ r.2.mem ((c.tc : Thread Cert.KernelAdamNormMixIdeal.nD Cert.KernelAdamNormMixIdeal.τ).loc Cert.KernelAdamNormMixIdeal.main_arg1) = m ((c.tc : Thread Cert.KernelAdamNormMixIdeal.nD Cert.KernelAdamNormMixIdeal.τ).loc Cert.KernelAdamNormMixIdeal.main_arg1)
          ∧ r.2.mem ((c.tc : Thread Cert.KernelAdamNormMixIdeal.nD Cert.KernelAdamNormMixIdeal.τ).loc Cert.KernelAdamNormMixIdeal.main_arg2) = m ((c.tc : Thread Cert.KernelAdamNormMixIdeal.nD Cert.KernelAdamNormMixIdeal.τ).loc Cert.KernelAdamNormMixIdeal.main_arg2)
          ∧ r.2.mem ((c.tc : Thread Cert.KernelAdamNormMixIdeal.nD Cert.KernelAdamNormMixIdeal.τ).loc Cert.KernelAdamNormMixIdeal.main_arg3) = m ((c.tc : Thread Cert.KernelAdamNormMixIdeal.nD Cert.KernelAdamNormMixIdeal.τ).loc Cert.KernelAdamNormMixIdeal.main_arg3))
      ∧ θ_run (Cert.ReferenceAdamNormMixIdeal.defs (F := Ideal)) (onTc (τ := Cert.ReferenceAdamNormMixIdeal.τ) (Cert.ReferenceAdamNormMixIdeal.main (F := Ideal))) ⟨m', fun _ => 0, g'⟩ (fun r => ∀ c : Dev Cert.ReferenceAdamNormMixIdeal.nD,
          r.2.mem ((c.tc : Thread Cert.ReferenceAdamNormMixIdeal.nD Cert.ReferenceAdamNormMixIdeal.τ).loc Cert.ReferenceAdamNormMixIdeal.main_v23) = v0 c
          ∧ r.2.mem ((c.tc : Thread Cert.ReferenceAdamNormMixIdeal.nD Cert.ReferenceAdamNormMixIdeal.τ).loc Cert.ReferenceAdamNormMixIdeal.main_v4) = v1 c
          ∧ r.2.mem ((c.tc : Thread Cert.ReferenceAdamNormMixIdeal.nD Cert.ReferenceAdamNormMixIdeal.τ).loc Cert.ReferenceAdamNormMixIdeal.main_v10) = v2 c
          ∧ r.2.mem ((c.tc : Thread Cert.ReferenceAdamNormMixIdeal.nD Cert.ReferenceAdamNormMixIdeal.τ).loc Cert.ReferenceAdamNormMixIdeal.main_arg0) = m' ((c.tc : Thread Cert.ReferenceAdamNormMixIdeal.nD Cert.ReferenceAdamNormMixIdeal.τ).loc Cert.ReferenceAdamNormMixIdeal.main_arg0)
          ∧ r.2.mem ((c.tc : Thread Cert.ReferenceAdamNormMixIdeal.nD Cert.ReferenceAdamNormMixIdeal.τ).loc Cert.ReferenceAdamNormMixIdeal.main_arg1) = m' ((c.tc : Thread Cert.ReferenceAdamNormMixIdeal.nD Cert.ReferenceAdamNormMixIdeal.τ).loc Cert.ReferenceAdamNormMixIdeal.main_arg1)
          ∧ r.2.mem ((c.tc : Thread Cert.ReferenceAdamNormMixIdeal.nD Cert.ReferenceAdamNormMixIdeal.τ).loc Cert.ReferenceAdamNormMixIdeal.main_arg2) = m' ((c.tc : Thread Cert.ReferenceAdamNormMixIdeal.nD Cert.ReferenceAdamNormMixIdeal.τ).loc Cert.ReferenceAdamNormMixIdeal.main_arg2)
          ∧ r.2.mem ((c.tc : Thread Cert.ReferenceAdamNormMixIdeal.nD Cert.ReferenceAdamNormMixIdeal.τ).loc Cert.ReferenceAdamNormMixIdeal.main_arg3) = m' ((c.tc : Thread Cert.ReferenceAdamNormMixIdeal.nD Cert.ReferenceAdamNormMixIdeal.τ).loc Cert.ReferenceAdamNormMixIdeal.main_arg3))

def preserves_KernelAdamQkv_KernelAdamQkvIdeal : Prop :=
  IdealRules.named_const.Statement Cert.KernelAdamQkvIdeal.κ "bc1" .f32 0x3FC48605#32 ((8388608 / 5463681 : ℝ) : EReal)
  ∧ IdealRules.named_const.Statement Cert.KernelAdamQkvIdeal.κ "bc2" .f32 0x42C8E6D3#32 ((268435456 / 2672307 : ℝ) : EReal)

def algebraic_KernelAdamQkvIdeal_ReferenceAdamQkvIdeal [hKernelAdamQkvIdeal : Cert.KernelAdamQkvIdeal.Facts] [hReferenceAdamQkvIdeal : Cert.ReferenceAdamQkvIdeal.Facts] : Prop :=
  ∀ (m : (ℓ : Loc Cert.KernelAdamQkvIdeal.nD Cert.KernelAdamQkvIdeal.τ Cert.KernelAdamQkvIdeal.sig) → Buf (Elt Ideal) ℓ) (g : Dev Cert.KernelAdamQkvIdeal.nD → PrngReg)
    (m' : (ℓ : Loc Cert.ReferenceAdamQkvIdeal.nD Cert.ReferenceAdamQkvIdeal.τ Cert.ReferenceAdamQkvIdeal.sig) → Buf (Elt Ideal) ℓ) (g' : Dev Cert.ReferenceAdamQkvIdeal.nD → PrngReg), Pre_KernelAdamQkvIdeal m →
    (∀ c : Dev Cert.KernelAdamQkvIdeal.nD,
      m' ((c.tc : Thread Cert.ReferenceAdamQkvIdeal.nD Cert.ReferenceAdamQkvIdeal.τ).loc Cert.ReferenceAdamQkvIdeal.main_arg0) = m ((c.tc : Thread Cert.KernelAdamQkvIdeal.nD Cert.KernelAdamQkvIdeal.τ).loc Cert.KernelAdamQkvIdeal.main_arg0)
      ∧ m' ((c.tc : Thread Cert.ReferenceAdamQkvIdeal.nD Cert.ReferenceAdamQkvIdeal.τ).loc Cert.ReferenceAdamQkvIdeal.main_arg1) = m ((c.tc : Thread Cert.KernelAdamQkvIdeal.nD Cert.KernelAdamQkvIdeal.τ).loc Cert.KernelAdamQkvIdeal.main_arg1)
      ∧ m' ((c.tc : Thread Cert.ReferenceAdamQkvIdeal.nD Cert.ReferenceAdamQkvIdeal.τ).loc Cert.ReferenceAdamQkvIdeal.main_arg2) = m ((c.tc : Thread Cert.KernelAdamQkvIdeal.nD Cert.KernelAdamQkvIdeal.τ).loc Cert.KernelAdamQkvIdeal.main_arg2)
      ∧ m' ((c.tc : Thread Cert.ReferenceAdamQkvIdeal.nD Cert.ReferenceAdamQkvIdeal.τ).loc Cert.ReferenceAdamQkvIdeal.main_arg3) = m ((c.tc : Thread Cert.KernelAdamQkvIdeal.nD Cert.KernelAdamQkvIdeal.τ).loc Cert.KernelAdamQkvIdeal.main_arg3)) →
    ∃ (v0 : (c : Dev Cert.KernelAdamQkvIdeal.nD) → Buf (Elt Ideal) ((c.tc : Thread Cert.KernelAdamQkvIdeal.nD Cert.KernelAdamQkvIdeal.τ).loc Cert.KernelAdamQkvIdeal.main_v0_0)) (v1 : (c : Dev Cert.KernelAdamQkvIdeal.nD) → Buf (Elt Ideal) ((c.tc : Thread Cert.KernelAdamQkvIdeal.nD Cert.KernelAdamQkvIdeal.τ).loc Cert.KernelAdamQkvIdeal.main_v0_1)) (v2 : (c : Dev Cert.KernelAdamQkvIdeal.nD) → Buf (Elt Ideal) ((c.tc : Thread Cert.KernelAdamQkvIdeal.nD Cert.KernelAdamQkvIdeal.τ).loc Cert.KernelAdamQkvIdeal.main_v0_2)),
      θ_run (Cert.KernelAdamQkvIdeal.defs (F := Ideal)) (onTc (τ := Cert.KernelAdamQkvIdeal.τ) (Cert.KernelAdamQkvIdeal.main (F := Ideal))) ⟨m, fun _ => 0, g⟩ (fun r => ∀ c : Dev Cert.KernelAdamQkvIdeal.nD,
          r.2.mem ((c.tc : Thread Cert.KernelAdamQkvIdeal.nD Cert.KernelAdamQkvIdeal.τ).loc Cert.KernelAdamQkvIdeal.main_v0_0) = v0 c
          ∧ r.2.mem ((c.tc : Thread Cert.KernelAdamQkvIdeal.nD Cert.KernelAdamQkvIdeal.τ).loc Cert.KernelAdamQkvIdeal.main_v0_1) = v1 c
          ∧ r.2.mem ((c.tc : Thread Cert.KernelAdamQkvIdeal.nD Cert.KernelAdamQkvIdeal.τ).loc Cert.KernelAdamQkvIdeal.main_v0_2) = v2 c
          ∧ r.2.mem ((c.tc : Thread Cert.KernelAdamQkvIdeal.nD Cert.KernelAdamQkvIdeal.τ).loc Cert.KernelAdamQkvIdeal.main_arg0) = m ((c.tc : Thread Cert.KernelAdamQkvIdeal.nD Cert.KernelAdamQkvIdeal.τ).loc Cert.KernelAdamQkvIdeal.main_arg0)
          ∧ r.2.mem ((c.tc : Thread Cert.KernelAdamQkvIdeal.nD Cert.KernelAdamQkvIdeal.τ).loc Cert.KernelAdamQkvIdeal.main_arg1) = m ((c.tc : Thread Cert.KernelAdamQkvIdeal.nD Cert.KernelAdamQkvIdeal.τ).loc Cert.KernelAdamQkvIdeal.main_arg1)
          ∧ r.2.mem ((c.tc : Thread Cert.KernelAdamQkvIdeal.nD Cert.KernelAdamQkvIdeal.τ).loc Cert.KernelAdamQkvIdeal.main_arg2) = m ((c.tc : Thread Cert.KernelAdamQkvIdeal.nD Cert.KernelAdamQkvIdeal.τ).loc Cert.KernelAdamQkvIdeal.main_arg2)
          ∧ r.2.mem ((c.tc : Thread Cert.KernelAdamQkvIdeal.nD Cert.KernelAdamQkvIdeal.τ).loc Cert.KernelAdamQkvIdeal.main_arg3) = m ((c.tc : Thread Cert.KernelAdamQkvIdeal.nD Cert.KernelAdamQkvIdeal.τ).loc Cert.KernelAdamQkvIdeal.main_arg3))
      ∧ θ_run (Cert.ReferenceAdamQkvIdeal.defs (F := Ideal)) (onTc (τ := Cert.ReferenceAdamQkvIdeal.τ) (Cert.ReferenceAdamQkvIdeal.main (F := Ideal))) ⟨m', fun _ => 0, g'⟩ (fun r => ∀ c : Dev Cert.ReferenceAdamQkvIdeal.nD,
          r.2.mem ((c.tc : Thread Cert.ReferenceAdamQkvIdeal.nD Cert.ReferenceAdamQkvIdeal.τ).loc Cert.ReferenceAdamQkvIdeal.main_v23) = v0 c
          ∧ r.2.mem ((c.tc : Thread Cert.ReferenceAdamQkvIdeal.nD Cert.ReferenceAdamQkvIdeal.τ).loc Cert.ReferenceAdamQkvIdeal.main_v4) = v1 c
          ∧ r.2.mem ((c.tc : Thread Cert.ReferenceAdamQkvIdeal.nD Cert.ReferenceAdamQkvIdeal.τ).loc Cert.ReferenceAdamQkvIdeal.main_v10) = v2 c
          ∧ r.2.mem ((c.tc : Thread Cert.ReferenceAdamQkvIdeal.nD Cert.ReferenceAdamQkvIdeal.τ).loc Cert.ReferenceAdamQkvIdeal.main_arg0) = m' ((c.tc : Thread Cert.ReferenceAdamQkvIdeal.nD Cert.ReferenceAdamQkvIdeal.τ).loc Cert.ReferenceAdamQkvIdeal.main_arg0)
          ∧ r.2.mem ((c.tc : Thread Cert.ReferenceAdamQkvIdeal.nD Cert.ReferenceAdamQkvIdeal.τ).loc Cert.ReferenceAdamQkvIdeal.main_arg1) = m' ((c.tc : Thread Cert.ReferenceAdamQkvIdeal.nD Cert.ReferenceAdamQkvIdeal.τ).loc Cert.ReferenceAdamQkvIdeal.main_arg1)
          ∧ r.2.mem ((c.tc : Thread Cert.ReferenceAdamQkvIdeal.nD Cert.ReferenceAdamQkvIdeal.τ).loc Cert.ReferenceAdamQkvIdeal.main_arg2) = m' ((c.tc : Thread Cert.ReferenceAdamQkvIdeal.nD Cert.ReferenceAdamQkvIdeal.τ).loc Cert.ReferenceAdamQkvIdeal.main_arg2)
          ∧ r.2.mem ((c.tc : Thread Cert.ReferenceAdamQkvIdeal.nD Cert.ReferenceAdamQkvIdeal.τ).loc Cert.ReferenceAdamQkvIdeal.main_arg3) = m' ((c.tc : Thread Cert.ReferenceAdamQkvIdeal.nD Cert.ReferenceAdamQkvIdeal.τ).loc Cert.ReferenceAdamQkvIdeal.main_arg3))

def preserves_KernelAdamAttnO_KernelAdamAttnOIdeal : Prop :=
  IdealRules.named_const.Statement Cert.KernelAdamAttnOIdeal.κ "bc1" .f32 0x3FC48605#32 ((8388608 / 5463681 : ℝ) : EReal)
  ∧ IdealRules.named_const.Statement Cert.KernelAdamAttnOIdeal.κ "bc2" .f32 0x42C8E6D3#32 ((268435456 / 2672307 : ℝ) : EReal)

def algebraic_KernelAdamAttnOIdeal_ReferenceAdamAttnOIdeal [hKernelAdamAttnOIdeal : Cert.KernelAdamAttnOIdeal.Facts] [hReferenceAdamAttnOIdeal : Cert.ReferenceAdamAttnOIdeal.Facts] : Prop :=
  ∀ (m : (ℓ : Loc Cert.KernelAdamAttnOIdeal.nD Cert.KernelAdamAttnOIdeal.τ Cert.KernelAdamAttnOIdeal.sig) → Buf (Elt Ideal) ℓ) (g : Dev Cert.KernelAdamAttnOIdeal.nD → PrngReg)
    (m' : (ℓ : Loc Cert.ReferenceAdamAttnOIdeal.nD Cert.ReferenceAdamAttnOIdeal.τ Cert.ReferenceAdamAttnOIdeal.sig) → Buf (Elt Ideal) ℓ) (g' : Dev Cert.ReferenceAdamAttnOIdeal.nD → PrngReg), Pre_KernelAdamAttnOIdeal m →
    (∀ c : Dev Cert.KernelAdamAttnOIdeal.nD,
      m' ((c.tc : Thread Cert.ReferenceAdamAttnOIdeal.nD Cert.ReferenceAdamAttnOIdeal.τ).loc Cert.ReferenceAdamAttnOIdeal.main_arg0) = m ((c.tc : Thread Cert.KernelAdamAttnOIdeal.nD Cert.KernelAdamAttnOIdeal.τ).loc Cert.KernelAdamAttnOIdeal.main_arg0)
      ∧ m' ((c.tc : Thread Cert.ReferenceAdamAttnOIdeal.nD Cert.ReferenceAdamAttnOIdeal.τ).loc Cert.ReferenceAdamAttnOIdeal.main_arg1) = m ((c.tc : Thread Cert.KernelAdamAttnOIdeal.nD Cert.KernelAdamAttnOIdeal.τ).loc Cert.KernelAdamAttnOIdeal.main_arg1)
      ∧ m' ((c.tc : Thread Cert.ReferenceAdamAttnOIdeal.nD Cert.ReferenceAdamAttnOIdeal.τ).loc Cert.ReferenceAdamAttnOIdeal.main_arg2) = m ((c.tc : Thread Cert.KernelAdamAttnOIdeal.nD Cert.KernelAdamAttnOIdeal.τ).loc Cert.KernelAdamAttnOIdeal.main_arg2)
      ∧ m' ((c.tc : Thread Cert.ReferenceAdamAttnOIdeal.nD Cert.ReferenceAdamAttnOIdeal.τ).loc Cert.ReferenceAdamAttnOIdeal.main_arg3) = m ((c.tc : Thread Cert.KernelAdamAttnOIdeal.nD Cert.KernelAdamAttnOIdeal.τ).loc Cert.KernelAdamAttnOIdeal.main_arg3)) →
    ∃ (v0 : (c : Dev Cert.KernelAdamAttnOIdeal.nD) → Buf (Elt Ideal) ((c.tc : Thread Cert.KernelAdamAttnOIdeal.nD Cert.KernelAdamAttnOIdeal.τ).loc Cert.KernelAdamAttnOIdeal.main_v0_0)) (v1 : (c : Dev Cert.KernelAdamAttnOIdeal.nD) → Buf (Elt Ideal) ((c.tc : Thread Cert.KernelAdamAttnOIdeal.nD Cert.KernelAdamAttnOIdeal.τ).loc Cert.KernelAdamAttnOIdeal.main_v0_1)) (v2 : (c : Dev Cert.KernelAdamAttnOIdeal.nD) → Buf (Elt Ideal) ((c.tc : Thread Cert.KernelAdamAttnOIdeal.nD Cert.KernelAdamAttnOIdeal.τ).loc Cert.KernelAdamAttnOIdeal.main_v0_2)),
      θ_run (Cert.KernelAdamAttnOIdeal.defs (F := Ideal)) (onTc (τ := Cert.KernelAdamAttnOIdeal.τ) (Cert.KernelAdamAttnOIdeal.main (F := Ideal))) ⟨m, fun _ => 0, g⟩ (fun r => ∀ c : Dev Cert.KernelAdamAttnOIdeal.nD,
          r.2.mem ((c.tc : Thread Cert.KernelAdamAttnOIdeal.nD Cert.KernelAdamAttnOIdeal.τ).loc Cert.KernelAdamAttnOIdeal.main_v0_0) = v0 c
          ∧ r.2.mem ((c.tc : Thread Cert.KernelAdamAttnOIdeal.nD Cert.KernelAdamAttnOIdeal.τ).loc Cert.KernelAdamAttnOIdeal.main_v0_1) = v1 c
          ∧ r.2.mem ((c.tc : Thread Cert.KernelAdamAttnOIdeal.nD Cert.KernelAdamAttnOIdeal.τ).loc Cert.KernelAdamAttnOIdeal.main_v0_2) = v2 c
          ∧ r.2.mem ((c.tc : Thread Cert.KernelAdamAttnOIdeal.nD Cert.KernelAdamAttnOIdeal.τ).loc Cert.KernelAdamAttnOIdeal.main_arg0) = m ((c.tc : Thread Cert.KernelAdamAttnOIdeal.nD Cert.KernelAdamAttnOIdeal.τ).loc Cert.KernelAdamAttnOIdeal.main_arg0)
          ∧ r.2.mem ((c.tc : Thread Cert.KernelAdamAttnOIdeal.nD Cert.KernelAdamAttnOIdeal.τ).loc Cert.KernelAdamAttnOIdeal.main_arg1) = m ((c.tc : Thread Cert.KernelAdamAttnOIdeal.nD Cert.KernelAdamAttnOIdeal.τ).loc Cert.KernelAdamAttnOIdeal.main_arg1)
          ∧ r.2.mem ((c.tc : Thread Cert.KernelAdamAttnOIdeal.nD Cert.KernelAdamAttnOIdeal.τ).loc Cert.KernelAdamAttnOIdeal.main_arg2) = m ((c.tc : Thread Cert.KernelAdamAttnOIdeal.nD Cert.KernelAdamAttnOIdeal.τ).loc Cert.KernelAdamAttnOIdeal.main_arg2)
          ∧ r.2.mem ((c.tc : Thread Cert.KernelAdamAttnOIdeal.nD Cert.KernelAdamAttnOIdeal.τ).loc Cert.KernelAdamAttnOIdeal.main_arg3) = m ((c.tc : Thread Cert.KernelAdamAttnOIdeal.nD Cert.KernelAdamAttnOIdeal.τ).loc Cert.KernelAdamAttnOIdeal.main_arg3))
      ∧ θ_run (Cert.ReferenceAdamAttnOIdeal.defs (F := Ideal)) (onTc (τ := Cert.ReferenceAdamAttnOIdeal.τ) (Cert.ReferenceAdamAttnOIdeal.main (F := Ideal))) ⟨m', fun _ => 0, g'⟩ (fun r => ∀ c : Dev Cert.ReferenceAdamAttnOIdeal.nD,
          r.2.mem ((c.tc : Thread Cert.ReferenceAdamAttnOIdeal.nD Cert.ReferenceAdamAttnOIdeal.τ).loc Cert.ReferenceAdamAttnOIdeal.main_v23) = v0 c
          ∧ r.2.mem ((c.tc : Thread Cert.ReferenceAdamAttnOIdeal.nD Cert.ReferenceAdamAttnOIdeal.τ).loc Cert.ReferenceAdamAttnOIdeal.main_v4) = v1 c
          ∧ r.2.mem ((c.tc : Thread Cert.ReferenceAdamAttnOIdeal.nD Cert.ReferenceAdamAttnOIdeal.τ).loc Cert.ReferenceAdamAttnOIdeal.main_v10) = v2 c
          ∧ r.2.mem ((c.tc : Thread Cert.ReferenceAdamAttnOIdeal.nD Cert.ReferenceAdamAttnOIdeal.τ).loc Cert.ReferenceAdamAttnOIdeal.main_arg0) = m' ((c.tc : Thread Cert.ReferenceAdamAttnOIdeal.nD Cert.ReferenceAdamAttnOIdeal.τ).loc Cert.ReferenceAdamAttnOIdeal.main_arg0)
          ∧ r.2.mem ((c.tc : Thread Cert.ReferenceAdamAttnOIdeal.nD Cert.ReferenceAdamAttnOIdeal.τ).loc Cert.ReferenceAdamAttnOIdeal.main_arg1) = m' ((c.tc : Thread Cert.ReferenceAdamAttnOIdeal.nD Cert.ReferenceAdamAttnOIdeal.τ).loc Cert.ReferenceAdamAttnOIdeal.main_arg1)
          ∧ r.2.mem ((c.tc : Thread Cert.ReferenceAdamAttnOIdeal.nD Cert.ReferenceAdamAttnOIdeal.τ).loc Cert.ReferenceAdamAttnOIdeal.main_arg2) = m' ((c.tc : Thread Cert.ReferenceAdamAttnOIdeal.nD Cert.ReferenceAdamAttnOIdeal.τ).loc Cert.ReferenceAdamAttnOIdeal.main_arg2)
          ∧ r.2.mem ((c.tc : Thread Cert.ReferenceAdamAttnOIdeal.nD Cert.ReferenceAdamAttnOIdeal.τ).loc Cert.ReferenceAdamAttnOIdeal.main_arg3) = m' ((c.tc : Thread Cert.ReferenceAdamAttnOIdeal.nD Cert.ReferenceAdamAttnOIdeal.τ).loc Cert.ReferenceAdamAttnOIdeal.main_arg3))

def preserves_KernelAdamRnnIn_KernelAdamRnnInIdeal : Prop :=
  IdealRules.named_const.Statement Cert.KernelAdamRnnInIdeal.κ "bc1" .f32 0x3FC48605#32 ((8388608 / 5463681 : ℝ) : EReal)
  ∧ IdealRules.named_const.Statement Cert.KernelAdamRnnInIdeal.κ "bc2" .f32 0x42C8E6D3#32 ((268435456 / 2672307 : ℝ) : EReal)

def algebraic_KernelAdamRnnInIdeal_ReferenceAdamRnnInIdeal [hKernelAdamRnnInIdeal : Cert.KernelAdamRnnInIdeal.Facts] [hReferenceAdamRnnInIdeal : Cert.ReferenceAdamRnnInIdeal.Facts] : Prop :=
  ∀ (m : (ℓ : Loc Cert.KernelAdamRnnInIdeal.nD Cert.KernelAdamRnnInIdeal.τ Cert.KernelAdamRnnInIdeal.sig) → Buf (Elt Ideal) ℓ) (g : Dev Cert.KernelAdamRnnInIdeal.nD → PrngReg)
    (m' : (ℓ : Loc Cert.ReferenceAdamRnnInIdeal.nD Cert.ReferenceAdamRnnInIdeal.τ Cert.ReferenceAdamRnnInIdeal.sig) → Buf (Elt Ideal) ℓ) (g' : Dev Cert.ReferenceAdamRnnInIdeal.nD → PrngReg), Pre_KernelAdamRnnInIdeal m →
    (∀ c : Dev Cert.KernelAdamRnnInIdeal.nD,
      m' ((c.tc : Thread Cert.ReferenceAdamRnnInIdeal.nD Cert.ReferenceAdamRnnInIdeal.τ).loc Cert.ReferenceAdamRnnInIdeal.main_arg0) = m ((c.tc : Thread Cert.KernelAdamRnnInIdeal.nD Cert.KernelAdamRnnInIdeal.τ).loc Cert.KernelAdamRnnInIdeal.main_arg0)
      ∧ m' ((c.tc : Thread Cert.ReferenceAdamRnnInIdeal.nD Cert.ReferenceAdamRnnInIdeal.τ).loc Cert.ReferenceAdamRnnInIdeal.main_arg1) = m ((c.tc : Thread Cert.KernelAdamRnnInIdeal.nD Cert.KernelAdamRnnInIdeal.τ).loc Cert.KernelAdamRnnInIdeal.main_arg1)
      ∧ m' ((c.tc : Thread Cert.ReferenceAdamRnnInIdeal.nD Cert.ReferenceAdamRnnInIdeal.τ).loc Cert.ReferenceAdamRnnInIdeal.main_arg2) = m ((c.tc : Thread Cert.KernelAdamRnnInIdeal.nD Cert.KernelAdamRnnInIdeal.τ).loc Cert.KernelAdamRnnInIdeal.main_arg2)
      ∧ m' ((c.tc : Thread Cert.ReferenceAdamRnnInIdeal.nD Cert.ReferenceAdamRnnInIdeal.τ).loc Cert.ReferenceAdamRnnInIdeal.main_arg3) = m ((c.tc : Thread Cert.KernelAdamRnnInIdeal.nD Cert.KernelAdamRnnInIdeal.τ).loc Cert.KernelAdamRnnInIdeal.main_arg3)) →
    ∃ (v0 : (c : Dev Cert.KernelAdamRnnInIdeal.nD) → Buf (Elt Ideal) ((c.tc : Thread Cert.KernelAdamRnnInIdeal.nD Cert.KernelAdamRnnInIdeal.τ).loc Cert.KernelAdamRnnInIdeal.main_v0_0)) (v1 : (c : Dev Cert.KernelAdamRnnInIdeal.nD) → Buf (Elt Ideal) ((c.tc : Thread Cert.KernelAdamRnnInIdeal.nD Cert.KernelAdamRnnInIdeal.τ).loc Cert.KernelAdamRnnInIdeal.main_v0_1)) (v2 : (c : Dev Cert.KernelAdamRnnInIdeal.nD) → Buf (Elt Ideal) ((c.tc : Thread Cert.KernelAdamRnnInIdeal.nD Cert.KernelAdamRnnInIdeal.τ).loc Cert.KernelAdamRnnInIdeal.main_v0_2)),
      θ_run (Cert.KernelAdamRnnInIdeal.defs (F := Ideal)) (onTc (τ := Cert.KernelAdamRnnInIdeal.τ) (Cert.KernelAdamRnnInIdeal.main (F := Ideal))) ⟨m, fun _ => 0, g⟩ (fun r => ∀ c : Dev Cert.KernelAdamRnnInIdeal.nD,
          r.2.mem ((c.tc : Thread Cert.KernelAdamRnnInIdeal.nD Cert.KernelAdamRnnInIdeal.τ).loc Cert.KernelAdamRnnInIdeal.main_v0_0) = v0 c
          ∧ r.2.mem ((c.tc : Thread Cert.KernelAdamRnnInIdeal.nD Cert.KernelAdamRnnInIdeal.τ).loc Cert.KernelAdamRnnInIdeal.main_v0_1) = v1 c
          ∧ r.2.mem ((c.tc : Thread Cert.KernelAdamRnnInIdeal.nD Cert.KernelAdamRnnInIdeal.τ).loc Cert.KernelAdamRnnInIdeal.main_v0_2) = v2 c
          ∧ r.2.mem ((c.tc : Thread Cert.KernelAdamRnnInIdeal.nD Cert.KernelAdamRnnInIdeal.τ).loc Cert.KernelAdamRnnInIdeal.main_arg0) = m ((c.tc : Thread Cert.KernelAdamRnnInIdeal.nD Cert.KernelAdamRnnInIdeal.τ).loc Cert.KernelAdamRnnInIdeal.main_arg0)
          ∧ r.2.mem ((c.tc : Thread Cert.KernelAdamRnnInIdeal.nD Cert.KernelAdamRnnInIdeal.τ).loc Cert.KernelAdamRnnInIdeal.main_arg1) = m ((c.tc : Thread Cert.KernelAdamRnnInIdeal.nD Cert.KernelAdamRnnInIdeal.τ).loc Cert.KernelAdamRnnInIdeal.main_arg1)
          ∧ r.2.mem ((c.tc : Thread Cert.KernelAdamRnnInIdeal.nD Cert.KernelAdamRnnInIdeal.τ).loc Cert.KernelAdamRnnInIdeal.main_arg2) = m ((c.tc : Thread Cert.KernelAdamRnnInIdeal.nD Cert.KernelAdamRnnInIdeal.τ).loc Cert.KernelAdamRnnInIdeal.main_arg2)
          ∧ r.2.mem ((c.tc : Thread Cert.KernelAdamRnnInIdeal.nD Cert.KernelAdamRnnInIdeal.τ).loc Cert.KernelAdamRnnInIdeal.main_arg3) = m ((c.tc : Thread Cert.KernelAdamRnnInIdeal.nD Cert.KernelAdamRnnInIdeal.τ).loc Cert.KernelAdamRnnInIdeal.main_arg3))
      ∧ θ_run (Cert.ReferenceAdamRnnInIdeal.defs (F := Ideal)) (onTc (τ := Cert.ReferenceAdamRnnInIdeal.τ) (Cert.ReferenceAdamRnnInIdeal.main (F := Ideal))) ⟨m', fun _ => 0, g'⟩ (fun r => ∀ c : Dev Cert.ReferenceAdamRnnInIdeal.nD,
          r.2.mem ((c.tc : Thread Cert.ReferenceAdamRnnInIdeal.nD Cert.ReferenceAdamRnnInIdeal.τ).loc Cert.ReferenceAdamRnnInIdeal.main_v23) = v0 c
          ∧ r.2.mem ((c.tc : Thread Cert.ReferenceAdamRnnInIdeal.nD Cert.ReferenceAdamRnnInIdeal.τ).loc Cert.ReferenceAdamRnnInIdeal.main_v4) = v1 c
          ∧ r.2.mem ((c.tc : Thread Cert.ReferenceAdamRnnInIdeal.nD Cert.ReferenceAdamRnnInIdeal.τ).loc Cert.ReferenceAdamRnnInIdeal.main_v10) = v2 c
          ∧ r.2.mem ((c.tc : Thread Cert.ReferenceAdamRnnInIdeal.nD Cert.ReferenceAdamRnnInIdeal.τ).loc Cert.ReferenceAdamRnnInIdeal.main_arg0) = m' ((c.tc : Thread Cert.ReferenceAdamRnnInIdeal.nD Cert.ReferenceAdamRnnInIdeal.τ).loc Cert.ReferenceAdamRnnInIdeal.main_arg0)
          ∧ r.2.mem ((c.tc : Thread Cert.ReferenceAdamRnnInIdeal.nD Cert.ReferenceAdamRnnInIdeal.τ).loc Cert.ReferenceAdamRnnInIdeal.main_arg1) = m' ((c.tc : Thread Cert.ReferenceAdamRnnInIdeal.nD Cert.ReferenceAdamRnnInIdeal.τ).loc Cert.ReferenceAdamRnnInIdeal.main_arg1)
          ∧ r.2.mem ((c.tc : Thread Cert.ReferenceAdamRnnInIdeal.nD Cert.ReferenceAdamRnnInIdeal.τ).loc Cert.ReferenceAdamRnnInIdeal.main_arg2) = m' ((c.tc : Thread Cert.ReferenceAdamRnnInIdeal.nD Cert.ReferenceAdamRnnInIdeal.τ).loc Cert.ReferenceAdamRnnInIdeal.main_arg2)
          ∧ r.2.mem ((c.tc : Thread Cert.ReferenceAdamRnnInIdeal.nD Cert.ReferenceAdamRnnInIdeal.τ).loc Cert.ReferenceAdamRnnInIdeal.main_arg3) = m' ((c.tc : Thread Cert.ReferenceAdamRnnInIdeal.nD Cert.ReferenceAdamRnnInIdeal.τ).loc Cert.ReferenceAdamRnnInIdeal.main_arg3))

def preserves_KernelAdamRnnConv_KernelAdamRnnConvIdeal : Prop :=
  IdealRules.named_const.Statement Cert.KernelAdamRnnConvIdeal.κ "bc1" .f32 0x3FC48605#32 ((8388608 / 5463681 : ℝ) : EReal)
  ∧ IdealRules.named_const.Statement Cert.KernelAdamRnnConvIdeal.κ "bc2" .f32 0x42C8E6D3#32 ((268435456 / 2672307 : ℝ) : EReal)

def algebraic_KernelAdamRnnConvIdeal_ReferenceAdamRnnConvIdeal [hKernelAdamRnnConvIdeal : Cert.KernelAdamRnnConvIdeal.Facts] [hReferenceAdamRnnConvIdeal : Cert.ReferenceAdamRnnConvIdeal.Facts] : Prop :=
  ∀ (m : (ℓ : Loc Cert.KernelAdamRnnConvIdeal.nD Cert.KernelAdamRnnConvIdeal.τ Cert.KernelAdamRnnConvIdeal.sig) → Buf (Elt Ideal) ℓ) (g : Dev Cert.KernelAdamRnnConvIdeal.nD → PrngReg)
    (m' : (ℓ : Loc Cert.ReferenceAdamRnnConvIdeal.nD Cert.ReferenceAdamRnnConvIdeal.τ Cert.ReferenceAdamRnnConvIdeal.sig) → Buf (Elt Ideal) ℓ) (g' : Dev Cert.ReferenceAdamRnnConvIdeal.nD → PrngReg), Pre_KernelAdamRnnConvIdeal m →
    (∀ c : Dev Cert.KernelAdamRnnConvIdeal.nD,
      m' ((c.tc : Thread Cert.ReferenceAdamRnnConvIdeal.nD Cert.ReferenceAdamRnnConvIdeal.τ).loc Cert.ReferenceAdamRnnConvIdeal.main_arg0) = m ((c.tc : Thread Cert.KernelAdamRnnConvIdeal.nD Cert.KernelAdamRnnConvIdeal.τ).loc Cert.KernelAdamRnnConvIdeal.main_arg0)
      ∧ m' ((c.tc : Thread Cert.ReferenceAdamRnnConvIdeal.nD Cert.ReferenceAdamRnnConvIdeal.τ).loc Cert.ReferenceAdamRnnConvIdeal.main_arg1) = m ((c.tc : Thread Cert.KernelAdamRnnConvIdeal.nD Cert.KernelAdamRnnConvIdeal.τ).loc Cert.KernelAdamRnnConvIdeal.main_arg1)
      ∧ m' ((c.tc : Thread Cert.ReferenceAdamRnnConvIdeal.nD Cert.ReferenceAdamRnnConvIdeal.τ).loc Cert.ReferenceAdamRnnConvIdeal.main_arg2) = m ((c.tc : Thread Cert.KernelAdamRnnConvIdeal.nD Cert.KernelAdamRnnConvIdeal.τ).loc Cert.KernelAdamRnnConvIdeal.main_arg2)
      ∧ m' ((c.tc : Thread Cert.ReferenceAdamRnnConvIdeal.nD Cert.ReferenceAdamRnnConvIdeal.τ).loc Cert.ReferenceAdamRnnConvIdeal.main_arg3) = m ((c.tc : Thread Cert.KernelAdamRnnConvIdeal.nD Cert.KernelAdamRnnConvIdeal.τ).loc Cert.KernelAdamRnnConvIdeal.main_arg3)) →
    ∃ (v0 : (c : Dev Cert.KernelAdamRnnConvIdeal.nD) → Buf (Elt Ideal) ((c.tc : Thread Cert.KernelAdamRnnConvIdeal.nD Cert.KernelAdamRnnConvIdeal.τ).loc Cert.KernelAdamRnnConvIdeal.main_v0_0)) (v1 : (c : Dev Cert.KernelAdamRnnConvIdeal.nD) → Buf (Elt Ideal) ((c.tc : Thread Cert.KernelAdamRnnConvIdeal.nD Cert.KernelAdamRnnConvIdeal.τ).loc Cert.KernelAdamRnnConvIdeal.main_v0_1)) (v2 : (c : Dev Cert.KernelAdamRnnConvIdeal.nD) → Buf (Elt Ideal) ((c.tc : Thread Cert.KernelAdamRnnConvIdeal.nD Cert.KernelAdamRnnConvIdeal.τ).loc Cert.KernelAdamRnnConvIdeal.main_v0_2)),
      θ_run (Cert.KernelAdamRnnConvIdeal.defs (F := Ideal)) (onTc (τ := Cert.KernelAdamRnnConvIdeal.τ) (Cert.KernelAdamRnnConvIdeal.main (F := Ideal))) ⟨m, fun _ => 0, g⟩ (fun r => ∀ c : Dev Cert.KernelAdamRnnConvIdeal.nD,
          r.2.mem ((c.tc : Thread Cert.KernelAdamRnnConvIdeal.nD Cert.KernelAdamRnnConvIdeal.τ).loc Cert.KernelAdamRnnConvIdeal.main_v0_0) = v0 c
          ∧ r.2.mem ((c.tc : Thread Cert.KernelAdamRnnConvIdeal.nD Cert.KernelAdamRnnConvIdeal.τ).loc Cert.KernelAdamRnnConvIdeal.main_v0_1) = v1 c
          ∧ r.2.mem ((c.tc : Thread Cert.KernelAdamRnnConvIdeal.nD Cert.KernelAdamRnnConvIdeal.τ).loc Cert.KernelAdamRnnConvIdeal.main_v0_2) = v2 c
          ∧ r.2.mem ((c.tc : Thread Cert.KernelAdamRnnConvIdeal.nD Cert.KernelAdamRnnConvIdeal.τ).loc Cert.KernelAdamRnnConvIdeal.main_arg0) = m ((c.tc : Thread Cert.KernelAdamRnnConvIdeal.nD Cert.KernelAdamRnnConvIdeal.τ).loc Cert.KernelAdamRnnConvIdeal.main_arg0)
          ∧ r.2.mem ((c.tc : Thread Cert.KernelAdamRnnConvIdeal.nD Cert.KernelAdamRnnConvIdeal.τ).loc Cert.KernelAdamRnnConvIdeal.main_arg1) = m ((c.tc : Thread Cert.KernelAdamRnnConvIdeal.nD Cert.KernelAdamRnnConvIdeal.τ).loc Cert.KernelAdamRnnConvIdeal.main_arg1)
          ∧ r.2.mem ((c.tc : Thread Cert.KernelAdamRnnConvIdeal.nD Cert.KernelAdamRnnConvIdeal.τ).loc Cert.KernelAdamRnnConvIdeal.main_arg2) = m ((c.tc : Thread Cert.KernelAdamRnnConvIdeal.nD Cert.KernelAdamRnnConvIdeal.τ).loc Cert.KernelAdamRnnConvIdeal.main_arg2)
          ∧ r.2.mem ((c.tc : Thread Cert.KernelAdamRnnConvIdeal.nD Cert.KernelAdamRnnConvIdeal.τ).loc Cert.KernelAdamRnnConvIdeal.main_arg3) = m ((c.tc : Thread Cert.KernelAdamRnnConvIdeal.nD Cert.KernelAdamRnnConvIdeal.τ).loc Cert.KernelAdamRnnConvIdeal.main_arg3))
      ∧ θ_run (Cert.ReferenceAdamRnnConvIdeal.defs (F := Ideal)) (onTc (τ := Cert.ReferenceAdamRnnConvIdeal.τ) (Cert.ReferenceAdamRnnConvIdeal.main (F := Ideal))) ⟨m', fun _ => 0, g'⟩ (fun r => ∀ c : Dev Cert.ReferenceAdamRnnConvIdeal.nD,
          r.2.mem ((c.tc : Thread Cert.ReferenceAdamRnnConvIdeal.nD Cert.ReferenceAdamRnnConvIdeal.τ).loc Cert.ReferenceAdamRnnConvIdeal.main_v23) = v0 c
          ∧ r.2.mem ((c.tc : Thread Cert.ReferenceAdamRnnConvIdeal.nD Cert.ReferenceAdamRnnConvIdeal.τ).loc Cert.ReferenceAdamRnnConvIdeal.main_v4) = v1 c
          ∧ r.2.mem ((c.tc : Thread Cert.ReferenceAdamRnnConvIdeal.nD Cert.ReferenceAdamRnnConvIdeal.τ).loc Cert.ReferenceAdamRnnConvIdeal.main_v10) = v2 c
          ∧ r.2.mem ((c.tc : Thread Cert.ReferenceAdamRnnConvIdeal.nD Cert.ReferenceAdamRnnConvIdeal.τ).loc Cert.ReferenceAdamRnnConvIdeal.main_arg0) = m' ((c.tc : Thread Cert.ReferenceAdamRnnConvIdeal.nD Cert.ReferenceAdamRnnConvIdeal.τ).loc Cert.ReferenceAdamRnnConvIdeal.main_arg0)
          ∧ r.2.mem ((c.tc : Thread Cert.ReferenceAdamRnnConvIdeal.nD Cert.ReferenceAdamRnnConvIdeal.τ).loc Cert.ReferenceAdamRnnConvIdeal.main_arg1) = m' ((c.tc : Thread Cert.ReferenceAdamRnnConvIdeal.nD Cert.ReferenceAdamRnnConvIdeal.τ).loc Cert.ReferenceAdamRnnConvIdeal.main_arg1)
          ∧ r.2.mem ((c.tc : Thread Cert.ReferenceAdamRnnConvIdeal.nD Cert.ReferenceAdamRnnConvIdeal.τ).loc Cert.ReferenceAdamRnnConvIdeal.main_arg2) = m' ((c.tc : Thread Cert.ReferenceAdamRnnConvIdeal.nD Cert.ReferenceAdamRnnConvIdeal.τ).loc Cert.ReferenceAdamRnnConvIdeal.main_arg2)
          ∧ r.2.mem ((c.tc : Thread Cert.ReferenceAdamRnnConvIdeal.nD Cert.ReferenceAdamRnnConvIdeal.τ).loc Cert.ReferenceAdamRnnConvIdeal.main_arg3) = m' ((c.tc : Thread Cert.ReferenceAdamRnnConvIdeal.nD Cert.ReferenceAdamRnnConvIdeal.τ).loc Cert.ReferenceAdamRnnConvIdeal.main_arg3))

def preserves_KernelAdamRnnVec_KernelAdamRnnVecIdeal : Prop :=
  IdealRules.named_const.Statement Cert.KernelAdamRnnVecIdeal.κ "bc1" .f32 0x3FC48605#32 ((8388608 / 5463681 : ℝ) : EReal)
  ∧ IdealRules.named_const.Statement Cert.KernelAdamRnnVecIdeal.κ "bc2" .f32 0x42C8E6D3#32 ((268435456 / 2672307 : ℝ) : EReal)

def algebraic_KernelAdamRnnVecIdeal_ReferenceAdamRnnVecIdeal [hKernelAdamRnnVecIdeal : Cert.KernelAdamRnnVecIdeal.Facts] [hReferenceAdamRnnVecIdeal : Cert.ReferenceAdamRnnVecIdeal.Facts] : Prop :=
  ∀ (m : (ℓ : Loc Cert.KernelAdamRnnVecIdeal.nD Cert.KernelAdamRnnVecIdeal.τ Cert.KernelAdamRnnVecIdeal.sig) → Buf (Elt Ideal) ℓ) (g : Dev Cert.KernelAdamRnnVecIdeal.nD → PrngReg)
    (m' : (ℓ : Loc Cert.ReferenceAdamRnnVecIdeal.nD Cert.ReferenceAdamRnnVecIdeal.τ Cert.ReferenceAdamRnnVecIdeal.sig) → Buf (Elt Ideal) ℓ) (g' : Dev Cert.ReferenceAdamRnnVecIdeal.nD → PrngReg), Pre_KernelAdamRnnVecIdeal m →
    (∀ c : Dev Cert.KernelAdamRnnVecIdeal.nD,
      m' ((c.tc : Thread Cert.ReferenceAdamRnnVecIdeal.nD Cert.ReferenceAdamRnnVecIdeal.τ).loc Cert.ReferenceAdamRnnVecIdeal.main_arg0) = m ((c.tc : Thread Cert.KernelAdamRnnVecIdeal.nD Cert.KernelAdamRnnVecIdeal.τ).loc Cert.KernelAdamRnnVecIdeal.main_arg0)
      ∧ m' ((c.tc : Thread Cert.ReferenceAdamRnnVecIdeal.nD Cert.ReferenceAdamRnnVecIdeal.τ).loc Cert.ReferenceAdamRnnVecIdeal.main_arg1) = m ((c.tc : Thread Cert.KernelAdamRnnVecIdeal.nD Cert.KernelAdamRnnVecIdeal.τ).loc Cert.KernelAdamRnnVecIdeal.main_arg1)
      ∧ m' ((c.tc : Thread Cert.ReferenceAdamRnnVecIdeal.nD Cert.ReferenceAdamRnnVecIdeal.τ).loc Cert.ReferenceAdamRnnVecIdeal.main_arg2) = m ((c.tc : Thread Cert.KernelAdamRnnVecIdeal.nD Cert.KernelAdamRnnVecIdeal.τ).loc Cert.KernelAdamRnnVecIdeal.main_arg2)
      ∧ m' ((c.tc : Thread Cert.ReferenceAdamRnnVecIdeal.nD Cert.ReferenceAdamRnnVecIdeal.τ).loc Cert.ReferenceAdamRnnVecIdeal.main_arg3) = m ((c.tc : Thread Cert.KernelAdamRnnVecIdeal.nD Cert.KernelAdamRnnVecIdeal.τ).loc Cert.KernelAdamRnnVecIdeal.main_arg3)) →
    ∃ (v0 : (c : Dev Cert.KernelAdamRnnVecIdeal.nD) → Buf (Elt Ideal) ((c.tc : Thread Cert.KernelAdamRnnVecIdeal.nD Cert.KernelAdamRnnVecIdeal.τ).loc Cert.KernelAdamRnnVecIdeal.main_v0_0)) (v1 : (c : Dev Cert.KernelAdamRnnVecIdeal.nD) → Buf (Elt Ideal) ((c.tc : Thread Cert.KernelAdamRnnVecIdeal.nD Cert.KernelAdamRnnVecIdeal.τ).loc Cert.KernelAdamRnnVecIdeal.main_v0_1)) (v2 : (c : Dev Cert.KernelAdamRnnVecIdeal.nD) → Buf (Elt Ideal) ((c.tc : Thread Cert.KernelAdamRnnVecIdeal.nD Cert.KernelAdamRnnVecIdeal.τ).loc Cert.KernelAdamRnnVecIdeal.main_v0_2)),
      θ_run (Cert.KernelAdamRnnVecIdeal.defs (F := Ideal)) (onTc (τ := Cert.KernelAdamRnnVecIdeal.τ) (Cert.KernelAdamRnnVecIdeal.main (F := Ideal))) ⟨m, fun _ => 0, g⟩ (fun r => ∀ c : Dev Cert.KernelAdamRnnVecIdeal.nD,
          r.2.mem ((c.tc : Thread Cert.KernelAdamRnnVecIdeal.nD Cert.KernelAdamRnnVecIdeal.τ).loc Cert.KernelAdamRnnVecIdeal.main_v0_0) = v0 c
          ∧ r.2.mem ((c.tc : Thread Cert.KernelAdamRnnVecIdeal.nD Cert.KernelAdamRnnVecIdeal.τ).loc Cert.KernelAdamRnnVecIdeal.main_v0_1) = v1 c
          ∧ r.2.mem ((c.tc : Thread Cert.KernelAdamRnnVecIdeal.nD Cert.KernelAdamRnnVecIdeal.τ).loc Cert.KernelAdamRnnVecIdeal.main_v0_2) = v2 c
          ∧ r.2.mem ((c.tc : Thread Cert.KernelAdamRnnVecIdeal.nD Cert.KernelAdamRnnVecIdeal.τ).loc Cert.KernelAdamRnnVecIdeal.main_arg0) = m ((c.tc : Thread Cert.KernelAdamRnnVecIdeal.nD Cert.KernelAdamRnnVecIdeal.τ).loc Cert.KernelAdamRnnVecIdeal.main_arg0)
          ∧ r.2.mem ((c.tc : Thread Cert.KernelAdamRnnVecIdeal.nD Cert.KernelAdamRnnVecIdeal.τ).loc Cert.KernelAdamRnnVecIdeal.main_arg1) = m ((c.tc : Thread Cert.KernelAdamRnnVecIdeal.nD Cert.KernelAdamRnnVecIdeal.τ).loc Cert.KernelAdamRnnVecIdeal.main_arg1)
          ∧ r.2.mem ((c.tc : Thread Cert.KernelAdamRnnVecIdeal.nD Cert.KernelAdamRnnVecIdeal.τ).loc Cert.KernelAdamRnnVecIdeal.main_arg2) = m ((c.tc : Thread Cert.KernelAdamRnnVecIdeal.nD Cert.KernelAdamRnnVecIdeal.τ).loc Cert.KernelAdamRnnVecIdeal.main_arg2)
          ∧ r.2.mem ((c.tc : Thread Cert.KernelAdamRnnVecIdeal.nD Cert.KernelAdamRnnVecIdeal.τ).loc Cert.KernelAdamRnnVecIdeal.main_arg3) = m ((c.tc : Thread Cert.KernelAdamRnnVecIdeal.nD Cert.KernelAdamRnnVecIdeal.τ).loc Cert.KernelAdamRnnVecIdeal.main_arg3))
      ∧ θ_run (Cert.ReferenceAdamRnnVecIdeal.defs (F := Ideal)) (onTc (τ := Cert.ReferenceAdamRnnVecIdeal.τ) (Cert.ReferenceAdamRnnVecIdeal.main (F := Ideal))) ⟨m', fun _ => 0, g'⟩ (fun r => ∀ c : Dev Cert.ReferenceAdamRnnVecIdeal.nD,
          r.2.mem ((c.tc : Thread Cert.ReferenceAdamRnnVecIdeal.nD Cert.ReferenceAdamRnnVecIdeal.τ).loc Cert.ReferenceAdamRnnVecIdeal.main_v23) = v0 c
          ∧ r.2.mem ((c.tc : Thread Cert.ReferenceAdamRnnVecIdeal.nD Cert.ReferenceAdamRnnVecIdeal.τ).loc Cert.ReferenceAdamRnnVecIdeal.main_v4) = v1 c
          ∧ r.2.mem ((c.tc : Thread Cert.ReferenceAdamRnnVecIdeal.nD Cert.ReferenceAdamRnnVecIdeal.τ).loc Cert.ReferenceAdamRnnVecIdeal.main_v10) = v2 c
          ∧ r.2.mem ((c.tc : Thread Cert.ReferenceAdamRnnVecIdeal.nD Cert.ReferenceAdamRnnVecIdeal.τ).loc Cert.ReferenceAdamRnnVecIdeal.main_arg0) = m' ((c.tc : Thread Cert.ReferenceAdamRnnVecIdeal.nD Cert.ReferenceAdamRnnVecIdeal.τ).loc Cert.ReferenceAdamRnnVecIdeal.main_arg0)
          ∧ r.2.mem ((c.tc : Thread Cert.ReferenceAdamRnnVecIdeal.nD Cert.ReferenceAdamRnnVecIdeal.τ).loc Cert.ReferenceAdamRnnVecIdeal.main_arg1) = m' ((c.tc : Thread Cert.ReferenceAdamRnnVecIdeal.nD Cert.ReferenceAdamRnnVecIdeal.τ).loc Cert.ReferenceAdamRnnVecIdeal.main_arg1)
          ∧ r.2.mem ((c.tc : Thread Cert.ReferenceAdamRnnVecIdeal.nD Cert.ReferenceAdamRnnVecIdeal.τ).loc Cert.ReferenceAdamRnnVecIdeal.main_arg2) = m' ((c.tc : Thread Cert.ReferenceAdamRnnVecIdeal.nD Cert.ReferenceAdamRnnVecIdeal.τ).loc Cert.ReferenceAdamRnnVecIdeal.main_arg2)
          ∧ r.2.mem ((c.tc : Thread Cert.ReferenceAdamRnnVecIdeal.nD Cert.ReferenceAdamRnnVecIdeal.τ).loc Cert.ReferenceAdamRnnVecIdeal.main_arg3) = m' ((c.tc : Thread Cert.ReferenceAdamRnnVecIdeal.nD Cert.ReferenceAdamRnnVecIdeal.τ).loc Cert.ReferenceAdamRnnVecIdeal.main_arg3))

def preserves_KernelAdamGate_KernelAdamGateIdeal : Prop :=
  IdealRules.named_const.Statement Cert.KernelAdamGateIdeal.κ "bc1" .f32 0x3FC48605#32 ((8388608 / 5463681 : ℝ) : EReal)
  ∧ IdealRules.named_const.Statement Cert.KernelAdamGateIdeal.κ "bc2" .f32 0x42C8E6D3#32 ((268435456 / 2672307 : ℝ) : EReal)

def algebraic_KernelAdamGateIdeal_ReferenceAdamGateIdeal [hKernelAdamGateIdeal : Cert.KernelAdamGateIdeal.Facts] [hReferenceAdamGateIdeal : Cert.ReferenceAdamGateIdeal.Facts] : Prop :=
  ∀ (m : (ℓ : Loc Cert.KernelAdamGateIdeal.nD Cert.KernelAdamGateIdeal.τ Cert.KernelAdamGateIdeal.sig) → Buf (Elt Ideal) ℓ) (g : Dev Cert.KernelAdamGateIdeal.nD → PrngReg)
    (m' : (ℓ : Loc Cert.ReferenceAdamGateIdeal.nD Cert.ReferenceAdamGateIdeal.τ Cert.ReferenceAdamGateIdeal.sig) → Buf (Elt Ideal) ℓ) (g' : Dev Cert.ReferenceAdamGateIdeal.nD → PrngReg), Pre_KernelAdamGateIdeal m →
    (∀ c : Dev Cert.KernelAdamGateIdeal.nD,
      m' ((c.tc : Thread Cert.ReferenceAdamGateIdeal.nD Cert.ReferenceAdamGateIdeal.τ).loc Cert.ReferenceAdamGateIdeal.main_arg0) = m ((c.tc : Thread Cert.KernelAdamGateIdeal.nD Cert.KernelAdamGateIdeal.τ).loc Cert.KernelAdamGateIdeal.main_arg0)
      ∧ m' ((c.tc : Thread Cert.ReferenceAdamGateIdeal.nD Cert.ReferenceAdamGateIdeal.τ).loc Cert.ReferenceAdamGateIdeal.main_arg1) = m ((c.tc : Thread Cert.KernelAdamGateIdeal.nD Cert.KernelAdamGateIdeal.τ).loc Cert.KernelAdamGateIdeal.main_arg1)
      ∧ m' ((c.tc : Thread Cert.ReferenceAdamGateIdeal.nD Cert.ReferenceAdamGateIdeal.τ).loc Cert.ReferenceAdamGateIdeal.main_arg2) = m ((c.tc : Thread Cert.KernelAdamGateIdeal.nD Cert.KernelAdamGateIdeal.τ).loc Cert.KernelAdamGateIdeal.main_arg2)
      ∧ m' ((c.tc : Thread Cert.ReferenceAdamGateIdeal.nD Cert.ReferenceAdamGateIdeal.τ).loc Cert.ReferenceAdamGateIdeal.main_arg3) = m ((c.tc : Thread Cert.KernelAdamGateIdeal.nD Cert.KernelAdamGateIdeal.τ).loc Cert.KernelAdamGateIdeal.main_arg3)) →
    ∃ (v0 : (c : Dev Cert.KernelAdamGateIdeal.nD) → Buf (Elt Ideal) ((c.tc : Thread Cert.KernelAdamGateIdeal.nD Cert.KernelAdamGateIdeal.τ).loc Cert.KernelAdamGateIdeal.main_v0_0)) (v1 : (c : Dev Cert.KernelAdamGateIdeal.nD) → Buf (Elt Ideal) ((c.tc : Thread Cert.KernelAdamGateIdeal.nD Cert.KernelAdamGateIdeal.τ).loc Cert.KernelAdamGateIdeal.main_v0_1)) (v2 : (c : Dev Cert.KernelAdamGateIdeal.nD) → Buf (Elt Ideal) ((c.tc : Thread Cert.KernelAdamGateIdeal.nD Cert.KernelAdamGateIdeal.τ).loc Cert.KernelAdamGateIdeal.main_v0_2)),
      θ_run (Cert.KernelAdamGateIdeal.defs (F := Ideal)) (onTc (τ := Cert.KernelAdamGateIdeal.τ) (Cert.KernelAdamGateIdeal.main (F := Ideal))) ⟨m, fun _ => 0, g⟩ (fun r => ∀ c : Dev Cert.KernelAdamGateIdeal.nD,
          r.2.mem ((c.tc : Thread Cert.KernelAdamGateIdeal.nD Cert.KernelAdamGateIdeal.τ).loc Cert.KernelAdamGateIdeal.main_v0_0) = v0 c
          ∧ r.2.mem ((c.tc : Thread Cert.KernelAdamGateIdeal.nD Cert.KernelAdamGateIdeal.τ).loc Cert.KernelAdamGateIdeal.main_v0_1) = v1 c
          ∧ r.2.mem ((c.tc : Thread Cert.KernelAdamGateIdeal.nD Cert.KernelAdamGateIdeal.τ).loc Cert.KernelAdamGateIdeal.main_v0_2) = v2 c
          ∧ r.2.mem ((c.tc : Thread Cert.KernelAdamGateIdeal.nD Cert.KernelAdamGateIdeal.τ).loc Cert.KernelAdamGateIdeal.main_arg0) = m ((c.tc : Thread Cert.KernelAdamGateIdeal.nD Cert.KernelAdamGateIdeal.τ).loc Cert.KernelAdamGateIdeal.main_arg0)
          ∧ r.2.mem ((c.tc : Thread Cert.KernelAdamGateIdeal.nD Cert.KernelAdamGateIdeal.τ).loc Cert.KernelAdamGateIdeal.main_arg1) = m ((c.tc : Thread Cert.KernelAdamGateIdeal.nD Cert.KernelAdamGateIdeal.τ).loc Cert.KernelAdamGateIdeal.main_arg1)
          ∧ r.2.mem ((c.tc : Thread Cert.KernelAdamGateIdeal.nD Cert.KernelAdamGateIdeal.τ).loc Cert.KernelAdamGateIdeal.main_arg2) = m ((c.tc : Thread Cert.KernelAdamGateIdeal.nD Cert.KernelAdamGateIdeal.τ).loc Cert.KernelAdamGateIdeal.main_arg2)
          ∧ r.2.mem ((c.tc : Thread Cert.KernelAdamGateIdeal.nD Cert.KernelAdamGateIdeal.τ).loc Cert.KernelAdamGateIdeal.main_arg3) = m ((c.tc : Thread Cert.KernelAdamGateIdeal.nD Cert.KernelAdamGateIdeal.τ).loc Cert.KernelAdamGateIdeal.main_arg3))
      ∧ θ_run (Cert.ReferenceAdamGateIdeal.defs (F := Ideal)) (onTc (τ := Cert.ReferenceAdamGateIdeal.τ) (Cert.ReferenceAdamGateIdeal.main (F := Ideal))) ⟨m', fun _ => 0, g'⟩ (fun r => ∀ c : Dev Cert.ReferenceAdamGateIdeal.nD,
          r.2.mem ((c.tc : Thread Cert.ReferenceAdamGateIdeal.nD Cert.ReferenceAdamGateIdeal.τ).loc Cert.ReferenceAdamGateIdeal.main_v23) = v0 c
          ∧ r.2.mem ((c.tc : Thread Cert.ReferenceAdamGateIdeal.nD Cert.ReferenceAdamGateIdeal.τ).loc Cert.ReferenceAdamGateIdeal.main_v4) = v1 c
          ∧ r.2.mem ((c.tc : Thread Cert.ReferenceAdamGateIdeal.nD Cert.ReferenceAdamGateIdeal.τ).loc Cert.ReferenceAdamGateIdeal.main_v10) = v2 c
          ∧ r.2.mem ((c.tc : Thread Cert.ReferenceAdamGateIdeal.nD Cert.ReferenceAdamGateIdeal.τ).loc Cert.ReferenceAdamGateIdeal.main_arg0) = m' ((c.tc : Thread Cert.ReferenceAdamGateIdeal.nD Cert.ReferenceAdamGateIdeal.τ).loc Cert.ReferenceAdamGateIdeal.main_arg0)
          ∧ r.2.mem ((c.tc : Thread Cert.ReferenceAdamGateIdeal.nD Cert.ReferenceAdamGateIdeal.τ).loc Cert.ReferenceAdamGateIdeal.main_arg1) = m' ((c.tc : Thread Cert.ReferenceAdamGateIdeal.nD Cert.ReferenceAdamGateIdeal.τ).loc Cert.ReferenceAdamGateIdeal.main_arg1)
          ∧ r.2.mem ((c.tc : Thread Cert.ReferenceAdamGateIdeal.nD Cert.ReferenceAdamGateIdeal.τ).loc Cert.ReferenceAdamGateIdeal.main_arg2) = m' ((c.tc : Thread Cert.ReferenceAdamGateIdeal.nD Cert.ReferenceAdamGateIdeal.τ).loc Cert.ReferenceAdamGateIdeal.main_arg2)
          ∧ r.2.mem ((c.tc : Thread Cert.ReferenceAdamGateIdeal.nD Cert.ReferenceAdamGateIdeal.τ).loc Cert.ReferenceAdamGateIdeal.main_arg3) = m' ((c.tc : Thread Cert.ReferenceAdamGateIdeal.nD Cert.ReferenceAdamGateIdeal.τ).loc Cert.ReferenceAdamGateIdeal.main_arg3))

def preserves_KernelAdamRnnOut_KernelAdamRnnOutIdeal : Prop :=
  IdealRules.named_const.Statement Cert.KernelAdamRnnOutIdeal.κ "bc1" .f32 0x3FC48605#32 ((8388608 / 5463681 : ℝ) : EReal)
  ∧ IdealRules.named_const.Statement Cert.KernelAdamRnnOutIdeal.κ "bc2" .f32 0x42C8E6D3#32 ((268435456 / 2672307 : ℝ) : EReal)

def algebraic_KernelAdamRnnOutIdeal_ReferenceAdamRnnOutIdeal [hKernelAdamRnnOutIdeal : Cert.KernelAdamRnnOutIdeal.Facts] [hReferenceAdamRnnOutIdeal : Cert.ReferenceAdamRnnOutIdeal.Facts] : Prop :=
  ∀ (m : (ℓ : Loc Cert.KernelAdamRnnOutIdeal.nD Cert.KernelAdamRnnOutIdeal.τ Cert.KernelAdamRnnOutIdeal.sig) → Buf (Elt Ideal) ℓ) (g : Dev Cert.KernelAdamRnnOutIdeal.nD → PrngReg)
    (m' : (ℓ : Loc Cert.ReferenceAdamRnnOutIdeal.nD Cert.ReferenceAdamRnnOutIdeal.τ Cert.ReferenceAdamRnnOutIdeal.sig) → Buf (Elt Ideal) ℓ) (g' : Dev Cert.ReferenceAdamRnnOutIdeal.nD → PrngReg), Pre_KernelAdamRnnOutIdeal m →
    (∀ c : Dev Cert.KernelAdamRnnOutIdeal.nD,
      m' ((c.tc : Thread Cert.ReferenceAdamRnnOutIdeal.nD Cert.ReferenceAdamRnnOutIdeal.τ).loc Cert.ReferenceAdamRnnOutIdeal.main_arg0) = m ((c.tc : Thread Cert.KernelAdamRnnOutIdeal.nD Cert.KernelAdamRnnOutIdeal.τ).loc Cert.KernelAdamRnnOutIdeal.main_arg0)
      ∧ m' ((c.tc : Thread Cert.ReferenceAdamRnnOutIdeal.nD Cert.ReferenceAdamRnnOutIdeal.τ).loc Cert.ReferenceAdamRnnOutIdeal.main_arg1) = m ((c.tc : Thread Cert.KernelAdamRnnOutIdeal.nD Cert.KernelAdamRnnOutIdeal.τ).loc Cert.KernelAdamRnnOutIdeal.main_arg1)
      ∧ m' ((c.tc : Thread Cert.ReferenceAdamRnnOutIdeal.nD Cert.ReferenceAdamRnnOutIdeal.τ).loc Cert.ReferenceAdamRnnOutIdeal.main_arg2) = m ((c.tc : Thread Cert.KernelAdamRnnOutIdeal.nD Cert.KernelAdamRnnOutIdeal.τ).loc Cert.KernelAdamRnnOutIdeal.main_arg2)
      ∧ m' ((c.tc : Thread Cert.ReferenceAdamRnnOutIdeal.nD Cert.ReferenceAdamRnnOutIdeal.τ).loc Cert.ReferenceAdamRnnOutIdeal.main_arg3) = m ((c.tc : Thread Cert.KernelAdamRnnOutIdeal.nD Cert.KernelAdamRnnOutIdeal.τ).loc Cert.KernelAdamRnnOutIdeal.main_arg3)) →
    ∃ (v0 : (c : Dev Cert.KernelAdamRnnOutIdeal.nD) → Buf (Elt Ideal) ((c.tc : Thread Cert.KernelAdamRnnOutIdeal.nD Cert.KernelAdamRnnOutIdeal.τ).loc Cert.KernelAdamRnnOutIdeal.main_v0_0)) (v1 : (c : Dev Cert.KernelAdamRnnOutIdeal.nD) → Buf (Elt Ideal) ((c.tc : Thread Cert.KernelAdamRnnOutIdeal.nD Cert.KernelAdamRnnOutIdeal.τ).loc Cert.KernelAdamRnnOutIdeal.main_v0_1)) (v2 : (c : Dev Cert.KernelAdamRnnOutIdeal.nD) → Buf (Elt Ideal) ((c.tc : Thread Cert.KernelAdamRnnOutIdeal.nD Cert.KernelAdamRnnOutIdeal.τ).loc Cert.KernelAdamRnnOutIdeal.main_v0_2)),
      θ_run (Cert.KernelAdamRnnOutIdeal.defs (F := Ideal)) (onTc (τ := Cert.KernelAdamRnnOutIdeal.τ) (Cert.KernelAdamRnnOutIdeal.main (F := Ideal))) ⟨m, fun _ => 0, g⟩ (fun r => ∀ c : Dev Cert.KernelAdamRnnOutIdeal.nD,
          r.2.mem ((c.tc : Thread Cert.KernelAdamRnnOutIdeal.nD Cert.KernelAdamRnnOutIdeal.τ).loc Cert.KernelAdamRnnOutIdeal.main_v0_0) = v0 c
          ∧ r.2.mem ((c.tc : Thread Cert.KernelAdamRnnOutIdeal.nD Cert.KernelAdamRnnOutIdeal.τ).loc Cert.KernelAdamRnnOutIdeal.main_v0_1) = v1 c
          ∧ r.2.mem ((c.tc : Thread Cert.KernelAdamRnnOutIdeal.nD Cert.KernelAdamRnnOutIdeal.τ).loc Cert.KernelAdamRnnOutIdeal.main_v0_2) = v2 c
          ∧ r.2.mem ((c.tc : Thread Cert.KernelAdamRnnOutIdeal.nD Cert.KernelAdamRnnOutIdeal.τ).loc Cert.KernelAdamRnnOutIdeal.main_arg0) = m ((c.tc : Thread Cert.KernelAdamRnnOutIdeal.nD Cert.KernelAdamRnnOutIdeal.τ).loc Cert.KernelAdamRnnOutIdeal.main_arg0)
          ∧ r.2.mem ((c.tc : Thread Cert.KernelAdamRnnOutIdeal.nD Cert.KernelAdamRnnOutIdeal.τ).loc Cert.KernelAdamRnnOutIdeal.main_arg1) = m ((c.tc : Thread Cert.KernelAdamRnnOutIdeal.nD Cert.KernelAdamRnnOutIdeal.τ).loc Cert.KernelAdamRnnOutIdeal.main_arg1)
          ∧ r.2.mem ((c.tc : Thread Cert.KernelAdamRnnOutIdeal.nD Cert.KernelAdamRnnOutIdeal.τ).loc Cert.KernelAdamRnnOutIdeal.main_arg2) = m ((c.tc : Thread Cert.KernelAdamRnnOutIdeal.nD Cert.KernelAdamRnnOutIdeal.τ).loc Cert.KernelAdamRnnOutIdeal.main_arg2)
          ∧ r.2.mem ((c.tc : Thread Cert.KernelAdamRnnOutIdeal.nD Cert.KernelAdamRnnOutIdeal.τ).loc Cert.KernelAdamRnnOutIdeal.main_arg3) = m ((c.tc : Thread Cert.KernelAdamRnnOutIdeal.nD Cert.KernelAdamRnnOutIdeal.τ).loc Cert.KernelAdamRnnOutIdeal.main_arg3))
      ∧ θ_run (Cert.ReferenceAdamRnnOutIdeal.defs (F := Ideal)) (onTc (τ := Cert.ReferenceAdamRnnOutIdeal.τ) (Cert.ReferenceAdamRnnOutIdeal.main (F := Ideal))) ⟨m', fun _ => 0, g'⟩ (fun r => ∀ c : Dev Cert.ReferenceAdamRnnOutIdeal.nD,
          r.2.mem ((c.tc : Thread Cert.ReferenceAdamRnnOutIdeal.nD Cert.ReferenceAdamRnnOutIdeal.τ).loc Cert.ReferenceAdamRnnOutIdeal.main_v23) = v0 c
          ∧ r.2.mem ((c.tc : Thread Cert.ReferenceAdamRnnOutIdeal.nD Cert.ReferenceAdamRnnOutIdeal.τ).loc Cert.ReferenceAdamRnnOutIdeal.main_v4) = v1 c
          ∧ r.2.mem ((c.tc : Thread Cert.ReferenceAdamRnnOutIdeal.nD Cert.ReferenceAdamRnnOutIdeal.τ).loc Cert.ReferenceAdamRnnOutIdeal.main_v10) = v2 c
          ∧ r.2.mem ((c.tc : Thread Cert.ReferenceAdamRnnOutIdeal.nD Cert.ReferenceAdamRnnOutIdeal.τ).loc Cert.ReferenceAdamRnnOutIdeal.main_arg0) = m' ((c.tc : Thread Cert.ReferenceAdamRnnOutIdeal.nD Cert.ReferenceAdamRnnOutIdeal.τ).loc Cert.ReferenceAdamRnnOutIdeal.main_arg0)
          ∧ r.2.mem ((c.tc : Thread Cert.ReferenceAdamRnnOutIdeal.nD Cert.ReferenceAdamRnnOutIdeal.τ).loc Cert.ReferenceAdamRnnOutIdeal.main_arg1) = m' ((c.tc : Thread Cert.ReferenceAdamRnnOutIdeal.nD Cert.ReferenceAdamRnnOutIdeal.τ).loc Cert.ReferenceAdamRnnOutIdeal.main_arg1)
          ∧ r.2.mem ((c.tc : Thread Cert.ReferenceAdamRnnOutIdeal.nD Cert.ReferenceAdamRnnOutIdeal.τ).loc Cert.ReferenceAdamRnnOutIdeal.main_arg2) = m' ((c.tc : Thread Cert.ReferenceAdamRnnOutIdeal.nD Cert.ReferenceAdamRnnOutIdeal.τ).loc Cert.ReferenceAdamRnnOutIdeal.main_arg2)
          ∧ r.2.mem ((c.tc : Thread Cert.ReferenceAdamRnnOutIdeal.nD Cert.ReferenceAdamRnnOutIdeal.τ).loc Cert.ReferenceAdamRnnOutIdeal.main_arg3) = m' ((c.tc : Thread Cert.ReferenceAdamRnnOutIdeal.nD Cert.ReferenceAdamRnnOutIdeal.τ).loc Cert.ReferenceAdamRnnOutIdeal.main_arg3))

def preserves_KernelAdamFfnUp_KernelAdamFfnUpIdeal : Prop :=
  IdealRules.named_const.Statement Cert.KernelAdamFfnUpIdeal.κ "bc1" .f32 0x3FC48605#32 ((8388608 / 5463681 : ℝ) : EReal)
  ∧ IdealRules.named_const.Statement Cert.KernelAdamFfnUpIdeal.κ "bc2" .f32 0x42C8E6D3#32 ((268435456 / 2672307 : ℝ) : EReal)

def algebraic_KernelAdamFfnUpIdeal_ReferenceAdamFfnUpIdeal [hKernelAdamFfnUpIdeal : Cert.KernelAdamFfnUpIdeal.Facts] [hReferenceAdamFfnUpIdeal : Cert.ReferenceAdamFfnUpIdeal.Facts] : Prop :=
  ∀ (m : (ℓ : Loc Cert.KernelAdamFfnUpIdeal.nD Cert.KernelAdamFfnUpIdeal.τ Cert.KernelAdamFfnUpIdeal.sig) → Buf (Elt Ideal) ℓ) (g : Dev Cert.KernelAdamFfnUpIdeal.nD → PrngReg)
    (m' : (ℓ : Loc Cert.ReferenceAdamFfnUpIdeal.nD Cert.ReferenceAdamFfnUpIdeal.τ Cert.ReferenceAdamFfnUpIdeal.sig) → Buf (Elt Ideal) ℓ) (g' : Dev Cert.ReferenceAdamFfnUpIdeal.nD → PrngReg), Pre_KernelAdamFfnUpIdeal m →
    (∀ c : Dev Cert.KernelAdamFfnUpIdeal.nD,
      m' ((c.tc : Thread Cert.ReferenceAdamFfnUpIdeal.nD Cert.ReferenceAdamFfnUpIdeal.τ).loc Cert.ReferenceAdamFfnUpIdeal.main_arg0) = m ((c.tc : Thread Cert.KernelAdamFfnUpIdeal.nD Cert.KernelAdamFfnUpIdeal.τ).loc Cert.KernelAdamFfnUpIdeal.main_arg0)
      ∧ m' ((c.tc : Thread Cert.ReferenceAdamFfnUpIdeal.nD Cert.ReferenceAdamFfnUpIdeal.τ).loc Cert.ReferenceAdamFfnUpIdeal.main_arg1) = m ((c.tc : Thread Cert.KernelAdamFfnUpIdeal.nD Cert.KernelAdamFfnUpIdeal.τ).loc Cert.KernelAdamFfnUpIdeal.main_arg1)
      ∧ m' ((c.tc : Thread Cert.ReferenceAdamFfnUpIdeal.nD Cert.ReferenceAdamFfnUpIdeal.τ).loc Cert.ReferenceAdamFfnUpIdeal.main_arg2) = m ((c.tc : Thread Cert.KernelAdamFfnUpIdeal.nD Cert.KernelAdamFfnUpIdeal.τ).loc Cert.KernelAdamFfnUpIdeal.main_arg2)
      ∧ m' ((c.tc : Thread Cert.ReferenceAdamFfnUpIdeal.nD Cert.ReferenceAdamFfnUpIdeal.τ).loc Cert.ReferenceAdamFfnUpIdeal.main_arg3) = m ((c.tc : Thread Cert.KernelAdamFfnUpIdeal.nD Cert.KernelAdamFfnUpIdeal.τ).loc Cert.KernelAdamFfnUpIdeal.main_arg3)) →
    ∃ (v0 : (c : Dev Cert.KernelAdamFfnUpIdeal.nD) → Buf (Elt Ideal) ((c.tc : Thread Cert.KernelAdamFfnUpIdeal.nD Cert.KernelAdamFfnUpIdeal.τ).loc Cert.KernelAdamFfnUpIdeal.main_v0_0)) (v1 : (c : Dev Cert.KernelAdamFfnUpIdeal.nD) → Buf (Elt Ideal) ((c.tc : Thread Cert.KernelAdamFfnUpIdeal.nD Cert.KernelAdamFfnUpIdeal.τ).loc Cert.KernelAdamFfnUpIdeal.main_v0_1)) (v2 : (c : Dev Cert.KernelAdamFfnUpIdeal.nD) → Buf (Elt Ideal) ((c.tc : Thread Cert.KernelAdamFfnUpIdeal.nD Cert.KernelAdamFfnUpIdeal.τ).loc Cert.KernelAdamFfnUpIdeal.main_v0_2)),
      θ_run (Cert.KernelAdamFfnUpIdeal.defs (F := Ideal)) (onTc (τ := Cert.KernelAdamFfnUpIdeal.τ) (Cert.KernelAdamFfnUpIdeal.main (F := Ideal))) ⟨m, fun _ => 0, g⟩ (fun r => ∀ c : Dev Cert.KernelAdamFfnUpIdeal.nD,
          r.2.mem ((c.tc : Thread Cert.KernelAdamFfnUpIdeal.nD Cert.KernelAdamFfnUpIdeal.τ).loc Cert.KernelAdamFfnUpIdeal.main_v0_0) = v0 c
          ∧ r.2.mem ((c.tc : Thread Cert.KernelAdamFfnUpIdeal.nD Cert.KernelAdamFfnUpIdeal.τ).loc Cert.KernelAdamFfnUpIdeal.main_v0_1) = v1 c
          ∧ r.2.mem ((c.tc : Thread Cert.KernelAdamFfnUpIdeal.nD Cert.KernelAdamFfnUpIdeal.τ).loc Cert.KernelAdamFfnUpIdeal.main_v0_2) = v2 c
          ∧ r.2.mem ((c.tc : Thread Cert.KernelAdamFfnUpIdeal.nD Cert.KernelAdamFfnUpIdeal.τ).loc Cert.KernelAdamFfnUpIdeal.main_arg0) = m ((c.tc : Thread Cert.KernelAdamFfnUpIdeal.nD Cert.KernelAdamFfnUpIdeal.τ).loc Cert.KernelAdamFfnUpIdeal.main_arg0)
          ∧ r.2.mem ((c.tc : Thread Cert.KernelAdamFfnUpIdeal.nD Cert.KernelAdamFfnUpIdeal.τ).loc Cert.KernelAdamFfnUpIdeal.main_arg1) = m ((c.tc : Thread Cert.KernelAdamFfnUpIdeal.nD Cert.KernelAdamFfnUpIdeal.τ).loc Cert.KernelAdamFfnUpIdeal.main_arg1)
          ∧ r.2.mem ((c.tc : Thread Cert.KernelAdamFfnUpIdeal.nD Cert.KernelAdamFfnUpIdeal.τ).loc Cert.KernelAdamFfnUpIdeal.main_arg2) = m ((c.tc : Thread Cert.KernelAdamFfnUpIdeal.nD Cert.KernelAdamFfnUpIdeal.τ).loc Cert.KernelAdamFfnUpIdeal.main_arg2)
          ∧ r.2.mem ((c.tc : Thread Cert.KernelAdamFfnUpIdeal.nD Cert.KernelAdamFfnUpIdeal.τ).loc Cert.KernelAdamFfnUpIdeal.main_arg3) = m ((c.tc : Thread Cert.KernelAdamFfnUpIdeal.nD Cert.KernelAdamFfnUpIdeal.τ).loc Cert.KernelAdamFfnUpIdeal.main_arg3))
      ∧ θ_run (Cert.ReferenceAdamFfnUpIdeal.defs (F := Ideal)) (onTc (τ := Cert.ReferenceAdamFfnUpIdeal.τ) (Cert.ReferenceAdamFfnUpIdeal.main (F := Ideal))) ⟨m', fun _ => 0, g'⟩ (fun r => ∀ c : Dev Cert.ReferenceAdamFfnUpIdeal.nD,
          r.2.mem ((c.tc : Thread Cert.ReferenceAdamFfnUpIdeal.nD Cert.ReferenceAdamFfnUpIdeal.τ).loc Cert.ReferenceAdamFfnUpIdeal.main_v23) = v0 c
          ∧ r.2.mem ((c.tc : Thread Cert.ReferenceAdamFfnUpIdeal.nD Cert.ReferenceAdamFfnUpIdeal.τ).loc Cert.ReferenceAdamFfnUpIdeal.main_v4) = v1 c
          ∧ r.2.mem ((c.tc : Thread Cert.ReferenceAdamFfnUpIdeal.nD Cert.ReferenceAdamFfnUpIdeal.τ).loc Cert.ReferenceAdamFfnUpIdeal.main_v10) = v2 c
          ∧ r.2.mem ((c.tc : Thread Cert.ReferenceAdamFfnUpIdeal.nD Cert.ReferenceAdamFfnUpIdeal.τ).loc Cert.ReferenceAdamFfnUpIdeal.main_arg0) = m' ((c.tc : Thread Cert.ReferenceAdamFfnUpIdeal.nD Cert.ReferenceAdamFfnUpIdeal.τ).loc Cert.ReferenceAdamFfnUpIdeal.main_arg0)
          ∧ r.2.mem ((c.tc : Thread Cert.ReferenceAdamFfnUpIdeal.nD Cert.ReferenceAdamFfnUpIdeal.τ).loc Cert.ReferenceAdamFfnUpIdeal.main_arg1) = m' ((c.tc : Thread Cert.ReferenceAdamFfnUpIdeal.nD Cert.ReferenceAdamFfnUpIdeal.τ).loc Cert.ReferenceAdamFfnUpIdeal.main_arg1)
          ∧ r.2.mem ((c.tc : Thread Cert.ReferenceAdamFfnUpIdeal.nD Cert.ReferenceAdamFfnUpIdeal.τ).loc Cert.ReferenceAdamFfnUpIdeal.main_arg2) = m' ((c.tc : Thread Cert.ReferenceAdamFfnUpIdeal.nD Cert.ReferenceAdamFfnUpIdeal.τ).loc Cert.ReferenceAdamFfnUpIdeal.main_arg2)
          ∧ r.2.mem ((c.tc : Thread Cert.ReferenceAdamFfnUpIdeal.nD Cert.ReferenceAdamFfnUpIdeal.τ).loc Cert.ReferenceAdamFfnUpIdeal.main_arg3) = m' ((c.tc : Thread Cert.ReferenceAdamFfnUpIdeal.nD Cert.ReferenceAdamFfnUpIdeal.τ).loc Cert.ReferenceAdamFfnUpIdeal.main_arg3))

def preserves_KernelAdamFfnConv_KernelAdamFfnConvIdeal : Prop :=
  IdealRules.named_const.Statement Cert.KernelAdamFfnConvIdeal.κ "bc1" .f32 0x3FC48605#32 ((8388608 / 5463681 : ℝ) : EReal)
  ∧ IdealRules.named_const.Statement Cert.KernelAdamFfnConvIdeal.κ "bc2" .f32 0x42C8E6D3#32 ((268435456 / 2672307 : ℝ) : EReal)

def algebraic_KernelAdamFfnConvIdeal_ReferenceAdamFfnConvIdeal [hKernelAdamFfnConvIdeal : Cert.KernelAdamFfnConvIdeal.Facts] [hReferenceAdamFfnConvIdeal : Cert.ReferenceAdamFfnConvIdeal.Facts] : Prop :=
  ∀ (m : (ℓ : Loc Cert.KernelAdamFfnConvIdeal.nD Cert.KernelAdamFfnConvIdeal.τ Cert.KernelAdamFfnConvIdeal.sig) → Buf (Elt Ideal) ℓ) (g : Dev Cert.KernelAdamFfnConvIdeal.nD → PrngReg)
    (m' : (ℓ : Loc Cert.ReferenceAdamFfnConvIdeal.nD Cert.ReferenceAdamFfnConvIdeal.τ Cert.ReferenceAdamFfnConvIdeal.sig) → Buf (Elt Ideal) ℓ) (g' : Dev Cert.ReferenceAdamFfnConvIdeal.nD → PrngReg), Pre_KernelAdamFfnConvIdeal m →
    (∀ c : Dev Cert.KernelAdamFfnConvIdeal.nD,
      m' ((c.tc : Thread Cert.ReferenceAdamFfnConvIdeal.nD Cert.ReferenceAdamFfnConvIdeal.τ).loc Cert.ReferenceAdamFfnConvIdeal.main_arg0) = m ((c.tc : Thread Cert.KernelAdamFfnConvIdeal.nD Cert.KernelAdamFfnConvIdeal.τ).loc Cert.KernelAdamFfnConvIdeal.main_arg0)
      ∧ m' ((c.tc : Thread Cert.ReferenceAdamFfnConvIdeal.nD Cert.ReferenceAdamFfnConvIdeal.τ).loc Cert.ReferenceAdamFfnConvIdeal.main_arg1) = m ((c.tc : Thread Cert.KernelAdamFfnConvIdeal.nD Cert.KernelAdamFfnConvIdeal.τ).loc Cert.KernelAdamFfnConvIdeal.main_arg1)
      ∧ m' ((c.tc : Thread Cert.ReferenceAdamFfnConvIdeal.nD Cert.ReferenceAdamFfnConvIdeal.τ).loc Cert.ReferenceAdamFfnConvIdeal.main_arg2) = m ((c.tc : Thread Cert.KernelAdamFfnConvIdeal.nD Cert.KernelAdamFfnConvIdeal.τ).loc Cert.KernelAdamFfnConvIdeal.main_arg2)
      ∧ m' ((c.tc : Thread Cert.ReferenceAdamFfnConvIdeal.nD Cert.ReferenceAdamFfnConvIdeal.τ).loc Cert.ReferenceAdamFfnConvIdeal.main_arg3) = m ((c.tc : Thread Cert.KernelAdamFfnConvIdeal.nD Cert.KernelAdamFfnConvIdeal.τ).loc Cert.KernelAdamFfnConvIdeal.main_arg3)) →
    ∃ (v0 : (c : Dev Cert.KernelAdamFfnConvIdeal.nD) → Buf (Elt Ideal) ((c.tc : Thread Cert.KernelAdamFfnConvIdeal.nD Cert.KernelAdamFfnConvIdeal.τ).loc Cert.KernelAdamFfnConvIdeal.main_v0_0)) (v1 : (c : Dev Cert.KernelAdamFfnConvIdeal.nD) → Buf (Elt Ideal) ((c.tc : Thread Cert.KernelAdamFfnConvIdeal.nD Cert.KernelAdamFfnConvIdeal.τ).loc Cert.KernelAdamFfnConvIdeal.main_v0_1)) (v2 : (c : Dev Cert.KernelAdamFfnConvIdeal.nD) → Buf (Elt Ideal) ((c.tc : Thread Cert.KernelAdamFfnConvIdeal.nD Cert.KernelAdamFfnConvIdeal.τ).loc Cert.KernelAdamFfnConvIdeal.main_v0_2)),
      θ_run (Cert.KernelAdamFfnConvIdeal.defs (F := Ideal)) (onTc (τ := Cert.KernelAdamFfnConvIdeal.τ) (Cert.KernelAdamFfnConvIdeal.main (F := Ideal))) ⟨m, fun _ => 0, g⟩ (fun r => ∀ c : Dev Cert.KernelAdamFfnConvIdeal.nD,
          r.2.mem ((c.tc : Thread Cert.KernelAdamFfnConvIdeal.nD Cert.KernelAdamFfnConvIdeal.τ).loc Cert.KernelAdamFfnConvIdeal.main_v0_0) = v0 c
          ∧ r.2.mem ((c.tc : Thread Cert.KernelAdamFfnConvIdeal.nD Cert.KernelAdamFfnConvIdeal.τ).loc Cert.KernelAdamFfnConvIdeal.main_v0_1) = v1 c
          ∧ r.2.mem ((c.tc : Thread Cert.KernelAdamFfnConvIdeal.nD Cert.KernelAdamFfnConvIdeal.τ).loc Cert.KernelAdamFfnConvIdeal.main_v0_2) = v2 c
          ∧ r.2.mem ((c.tc : Thread Cert.KernelAdamFfnConvIdeal.nD Cert.KernelAdamFfnConvIdeal.τ).loc Cert.KernelAdamFfnConvIdeal.main_arg0) = m ((c.tc : Thread Cert.KernelAdamFfnConvIdeal.nD Cert.KernelAdamFfnConvIdeal.τ).loc Cert.KernelAdamFfnConvIdeal.main_arg0)
          ∧ r.2.mem ((c.tc : Thread Cert.KernelAdamFfnConvIdeal.nD Cert.KernelAdamFfnConvIdeal.τ).loc Cert.KernelAdamFfnConvIdeal.main_arg1) = m ((c.tc : Thread Cert.KernelAdamFfnConvIdeal.nD Cert.KernelAdamFfnConvIdeal.τ).loc Cert.KernelAdamFfnConvIdeal.main_arg1)
          ∧ r.2.mem ((c.tc : Thread Cert.KernelAdamFfnConvIdeal.nD Cert.KernelAdamFfnConvIdeal.τ).loc Cert.KernelAdamFfnConvIdeal.main_arg2) = m ((c.tc : Thread Cert.KernelAdamFfnConvIdeal.nD Cert.KernelAdamFfnConvIdeal.τ).loc Cert.KernelAdamFfnConvIdeal.main_arg2)
          ∧ r.2.mem ((c.tc : Thread Cert.KernelAdamFfnConvIdeal.nD Cert.KernelAdamFfnConvIdeal.τ).loc Cert.KernelAdamFfnConvIdeal.main_arg3) = m ((c.tc : Thread Cert.KernelAdamFfnConvIdeal.nD Cert.KernelAdamFfnConvIdeal.τ).loc Cert.KernelAdamFfnConvIdeal.main_arg3))
      ∧ θ_run (Cert.ReferenceAdamFfnConvIdeal.defs (F := Ideal)) (onTc (τ := Cert.ReferenceAdamFfnConvIdeal.τ) (Cert.ReferenceAdamFfnConvIdeal.main (F := Ideal))) ⟨m', fun _ => 0, g'⟩ (fun r => ∀ c : Dev Cert.ReferenceAdamFfnConvIdeal.nD,
          r.2.mem ((c.tc : Thread Cert.ReferenceAdamFfnConvIdeal.nD Cert.ReferenceAdamFfnConvIdeal.τ).loc Cert.ReferenceAdamFfnConvIdeal.main_v23) = v0 c
          ∧ r.2.mem ((c.tc : Thread Cert.ReferenceAdamFfnConvIdeal.nD Cert.ReferenceAdamFfnConvIdeal.τ).loc Cert.ReferenceAdamFfnConvIdeal.main_v4) = v1 c
          ∧ r.2.mem ((c.tc : Thread Cert.ReferenceAdamFfnConvIdeal.nD Cert.ReferenceAdamFfnConvIdeal.τ).loc Cert.ReferenceAdamFfnConvIdeal.main_v10) = v2 c
          ∧ r.2.mem ((c.tc : Thread Cert.ReferenceAdamFfnConvIdeal.nD Cert.ReferenceAdamFfnConvIdeal.τ).loc Cert.ReferenceAdamFfnConvIdeal.main_arg0) = m' ((c.tc : Thread Cert.ReferenceAdamFfnConvIdeal.nD Cert.ReferenceAdamFfnConvIdeal.τ).loc Cert.ReferenceAdamFfnConvIdeal.main_arg0)
          ∧ r.2.mem ((c.tc : Thread Cert.ReferenceAdamFfnConvIdeal.nD Cert.ReferenceAdamFfnConvIdeal.τ).loc Cert.ReferenceAdamFfnConvIdeal.main_arg1) = m' ((c.tc : Thread Cert.ReferenceAdamFfnConvIdeal.nD Cert.ReferenceAdamFfnConvIdeal.τ).loc Cert.ReferenceAdamFfnConvIdeal.main_arg1)
          ∧ r.2.mem ((c.tc : Thread Cert.ReferenceAdamFfnConvIdeal.nD Cert.ReferenceAdamFfnConvIdeal.τ).loc Cert.ReferenceAdamFfnConvIdeal.main_arg2) = m' ((c.tc : Thread Cert.ReferenceAdamFfnConvIdeal.nD Cert.ReferenceAdamFfnConvIdeal.τ).loc Cert.ReferenceAdamFfnConvIdeal.main_arg2)
          ∧ r.2.mem ((c.tc : Thread Cert.ReferenceAdamFfnConvIdeal.nD Cert.ReferenceAdamFfnConvIdeal.τ).loc Cert.ReferenceAdamFfnConvIdeal.main_arg3) = m' ((c.tc : Thread Cert.ReferenceAdamFfnConvIdeal.nD Cert.ReferenceAdamFfnConvIdeal.τ).loc Cert.ReferenceAdamFfnConvIdeal.main_arg3))

def preserves_KernelAdamFfnBias_KernelAdamFfnBiasIdeal : Prop :=
  IdealRules.named_const.Statement Cert.KernelAdamFfnBiasIdeal.κ "bc1" .f32 0x3FC48605#32 ((8388608 / 5463681 : ℝ) : EReal)
  ∧ IdealRules.named_const.Statement Cert.KernelAdamFfnBiasIdeal.κ "bc2" .f32 0x42C8E6D3#32 ((268435456 / 2672307 : ℝ) : EReal)

def algebraic_KernelAdamFfnBiasIdeal_ReferenceAdamFfnBiasIdeal [hKernelAdamFfnBiasIdeal : Cert.KernelAdamFfnBiasIdeal.Facts] [hReferenceAdamFfnBiasIdeal : Cert.ReferenceAdamFfnBiasIdeal.Facts] : Prop :=
  ∀ (m : (ℓ : Loc Cert.KernelAdamFfnBiasIdeal.nD Cert.KernelAdamFfnBiasIdeal.τ Cert.KernelAdamFfnBiasIdeal.sig) → Buf (Elt Ideal) ℓ) (g : Dev Cert.KernelAdamFfnBiasIdeal.nD → PrngReg)
    (m' : (ℓ : Loc Cert.ReferenceAdamFfnBiasIdeal.nD Cert.ReferenceAdamFfnBiasIdeal.τ Cert.ReferenceAdamFfnBiasIdeal.sig) → Buf (Elt Ideal) ℓ) (g' : Dev Cert.ReferenceAdamFfnBiasIdeal.nD → PrngReg), Pre_KernelAdamFfnBiasIdeal m →
    (∀ c : Dev Cert.KernelAdamFfnBiasIdeal.nD,
      m' ((c.tc : Thread Cert.ReferenceAdamFfnBiasIdeal.nD Cert.ReferenceAdamFfnBiasIdeal.τ).loc Cert.ReferenceAdamFfnBiasIdeal.main_arg0) = m ((c.tc : Thread Cert.KernelAdamFfnBiasIdeal.nD Cert.KernelAdamFfnBiasIdeal.τ).loc Cert.KernelAdamFfnBiasIdeal.main_arg0)
      ∧ m' ((c.tc : Thread Cert.ReferenceAdamFfnBiasIdeal.nD Cert.ReferenceAdamFfnBiasIdeal.τ).loc Cert.ReferenceAdamFfnBiasIdeal.main_arg1) = m ((c.tc : Thread Cert.KernelAdamFfnBiasIdeal.nD Cert.KernelAdamFfnBiasIdeal.τ).loc Cert.KernelAdamFfnBiasIdeal.main_arg1)
      ∧ m' ((c.tc : Thread Cert.ReferenceAdamFfnBiasIdeal.nD Cert.ReferenceAdamFfnBiasIdeal.τ).loc Cert.ReferenceAdamFfnBiasIdeal.main_arg2) = m ((c.tc : Thread Cert.KernelAdamFfnBiasIdeal.nD Cert.KernelAdamFfnBiasIdeal.τ).loc Cert.KernelAdamFfnBiasIdeal.main_arg2)
      ∧ m' ((c.tc : Thread Cert.ReferenceAdamFfnBiasIdeal.nD Cert.ReferenceAdamFfnBiasIdeal.τ).loc Cert.ReferenceAdamFfnBiasIdeal.main_arg3) = m ((c.tc : Thread Cert.KernelAdamFfnBiasIdeal.nD Cert.KernelAdamFfnBiasIdeal.τ).loc Cert.KernelAdamFfnBiasIdeal.main_arg3)) →
    ∃ (v0 : (c : Dev Cert.KernelAdamFfnBiasIdeal.nD) → Buf (Elt Ideal) ((c.tc : Thread Cert.KernelAdamFfnBiasIdeal.nD Cert.KernelAdamFfnBiasIdeal.τ).loc Cert.KernelAdamFfnBiasIdeal.main_v0_0)) (v1 : (c : Dev Cert.KernelAdamFfnBiasIdeal.nD) → Buf (Elt Ideal) ((c.tc : Thread Cert.KernelAdamFfnBiasIdeal.nD Cert.KernelAdamFfnBiasIdeal.τ).loc Cert.KernelAdamFfnBiasIdeal.main_v0_1)) (v2 : (c : Dev Cert.KernelAdamFfnBiasIdeal.nD) → Buf (Elt Ideal) ((c.tc : Thread Cert.KernelAdamFfnBiasIdeal.nD Cert.KernelAdamFfnBiasIdeal.τ).loc Cert.KernelAdamFfnBiasIdeal.main_v0_2)),
      θ_run (Cert.KernelAdamFfnBiasIdeal.defs (F := Ideal)) (onTc (τ := Cert.KernelAdamFfnBiasIdeal.τ) (Cert.KernelAdamFfnBiasIdeal.main (F := Ideal))) ⟨m, fun _ => 0, g⟩ (fun r => ∀ c : Dev Cert.KernelAdamFfnBiasIdeal.nD,
          r.2.mem ((c.tc : Thread Cert.KernelAdamFfnBiasIdeal.nD Cert.KernelAdamFfnBiasIdeal.τ).loc Cert.KernelAdamFfnBiasIdeal.main_v0_0) = v0 c
          ∧ r.2.mem ((c.tc : Thread Cert.KernelAdamFfnBiasIdeal.nD Cert.KernelAdamFfnBiasIdeal.τ).loc Cert.KernelAdamFfnBiasIdeal.main_v0_1) = v1 c
          ∧ r.2.mem ((c.tc : Thread Cert.KernelAdamFfnBiasIdeal.nD Cert.KernelAdamFfnBiasIdeal.τ).loc Cert.KernelAdamFfnBiasIdeal.main_v0_2) = v2 c
          ∧ r.2.mem ((c.tc : Thread Cert.KernelAdamFfnBiasIdeal.nD Cert.KernelAdamFfnBiasIdeal.τ).loc Cert.KernelAdamFfnBiasIdeal.main_arg0) = m ((c.tc : Thread Cert.KernelAdamFfnBiasIdeal.nD Cert.KernelAdamFfnBiasIdeal.τ).loc Cert.KernelAdamFfnBiasIdeal.main_arg0)
          ∧ r.2.mem ((c.tc : Thread Cert.KernelAdamFfnBiasIdeal.nD Cert.KernelAdamFfnBiasIdeal.τ).loc Cert.KernelAdamFfnBiasIdeal.main_arg1) = m ((c.tc : Thread Cert.KernelAdamFfnBiasIdeal.nD Cert.KernelAdamFfnBiasIdeal.τ).loc Cert.KernelAdamFfnBiasIdeal.main_arg1)
          ∧ r.2.mem ((c.tc : Thread Cert.KernelAdamFfnBiasIdeal.nD Cert.KernelAdamFfnBiasIdeal.τ).loc Cert.KernelAdamFfnBiasIdeal.main_arg2) = m ((c.tc : Thread Cert.KernelAdamFfnBiasIdeal.nD Cert.KernelAdamFfnBiasIdeal.τ).loc Cert.KernelAdamFfnBiasIdeal.main_arg2)
          ∧ r.2.mem ((c.tc : Thread Cert.KernelAdamFfnBiasIdeal.nD Cert.KernelAdamFfnBiasIdeal.τ).loc Cert.KernelAdamFfnBiasIdeal.main_arg3) = m ((c.tc : Thread Cert.KernelAdamFfnBiasIdeal.nD Cert.KernelAdamFfnBiasIdeal.τ).loc Cert.KernelAdamFfnBiasIdeal.main_arg3))
      ∧ θ_run (Cert.ReferenceAdamFfnBiasIdeal.defs (F := Ideal)) (onTc (τ := Cert.ReferenceAdamFfnBiasIdeal.τ) (Cert.ReferenceAdamFfnBiasIdeal.main (F := Ideal))) ⟨m', fun _ => 0, g'⟩ (fun r => ∀ c : Dev Cert.ReferenceAdamFfnBiasIdeal.nD,
          r.2.mem ((c.tc : Thread Cert.ReferenceAdamFfnBiasIdeal.nD Cert.ReferenceAdamFfnBiasIdeal.τ).loc Cert.ReferenceAdamFfnBiasIdeal.main_v23) = v0 c
          ∧ r.2.mem ((c.tc : Thread Cert.ReferenceAdamFfnBiasIdeal.nD Cert.ReferenceAdamFfnBiasIdeal.τ).loc Cert.ReferenceAdamFfnBiasIdeal.main_v4) = v1 c
          ∧ r.2.mem ((c.tc : Thread Cert.ReferenceAdamFfnBiasIdeal.nD Cert.ReferenceAdamFfnBiasIdeal.τ).loc Cert.ReferenceAdamFfnBiasIdeal.main_v10) = v2 c
          ∧ r.2.mem ((c.tc : Thread Cert.ReferenceAdamFfnBiasIdeal.nD Cert.ReferenceAdamFfnBiasIdeal.τ).loc Cert.ReferenceAdamFfnBiasIdeal.main_arg0) = m' ((c.tc : Thread Cert.ReferenceAdamFfnBiasIdeal.nD Cert.ReferenceAdamFfnBiasIdeal.τ).loc Cert.ReferenceAdamFfnBiasIdeal.main_arg0)
          ∧ r.2.mem ((c.tc : Thread Cert.ReferenceAdamFfnBiasIdeal.nD Cert.ReferenceAdamFfnBiasIdeal.τ).loc Cert.ReferenceAdamFfnBiasIdeal.main_arg1) = m' ((c.tc : Thread Cert.ReferenceAdamFfnBiasIdeal.nD Cert.ReferenceAdamFfnBiasIdeal.τ).loc Cert.ReferenceAdamFfnBiasIdeal.main_arg1)
          ∧ r.2.mem ((c.tc : Thread Cert.ReferenceAdamFfnBiasIdeal.nD Cert.ReferenceAdamFfnBiasIdeal.τ).loc Cert.ReferenceAdamFfnBiasIdeal.main_arg2) = m' ((c.tc : Thread Cert.ReferenceAdamFfnBiasIdeal.nD Cert.ReferenceAdamFfnBiasIdeal.τ).loc Cert.ReferenceAdamFfnBiasIdeal.main_arg2)
          ∧ r.2.mem ((c.tc : Thread Cert.ReferenceAdamFfnBiasIdeal.nD Cert.ReferenceAdamFfnBiasIdeal.τ).loc Cert.ReferenceAdamFfnBiasIdeal.main_arg3) = m' ((c.tc : Thread Cert.ReferenceAdamFfnBiasIdeal.nD Cert.ReferenceAdamFfnBiasIdeal.τ).loc Cert.ReferenceAdamFfnBiasIdeal.main_arg3))

def preserves_KernelAdamFfnDown_KernelAdamFfnDownIdeal : Prop :=
  IdealRules.named_const.Statement Cert.KernelAdamFfnDownIdeal.κ "bc1" .f32 0x3FC48605#32 ((8388608 / 5463681 : ℝ) : EReal)
  ∧ IdealRules.named_const.Statement Cert.KernelAdamFfnDownIdeal.κ "bc2" .f32 0x42C8E6D3#32 ((268435456 / 2672307 : ℝ) : EReal)

def algebraic_KernelAdamFfnDownIdeal_ReferenceAdamFfnDownIdeal [hKernelAdamFfnDownIdeal : Cert.KernelAdamFfnDownIdeal.Facts] [hReferenceAdamFfnDownIdeal : Cert.ReferenceAdamFfnDownIdeal.Facts] : Prop :=
  ∀ (m : (ℓ : Loc Cert.KernelAdamFfnDownIdeal.nD Cert.KernelAdamFfnDownIdeal.τ Cert.KernelAdamFfnDownIdeal.sig) → Buf (Elt Ideal) ℓ) (g : Dev Cert.KernelAdamFfnDownIdeal.nD → PrngReg)
    (m' : (ℓ : Loc Cert.ReferenceAdamFfnDownIdeal.nD Cert.ReferenceAdamFfnDownIdeal.τ Cert.ReferenceAdamFfnDownIdeal.sig) → Buf (Elt Ideal) ℓ) (g' : Dev Cert.ReferenceAdamFfnDownIdeal.nD → PrngReg), Pre_KernelAdamFfnDownIdeal m →
    (∀ c : Dev Cert.KernelAdamFfnDownIdeal.nD,
      m' ((c.tc : Thread Cert.ReferenceAdamFfnDownIdeal.nD Cert.ReferenceAdamFfnDownIdeal.τ).loc Cert.ReferenceAdamFfnDownIdeal.main_arg0) = m ((c.tc : Thread Cert.KernelAdamFfnDownIdeal.nD Cert.KernelAdamFfnDownIdeal.τ).loc Cert.KernelAdamFfnDownIdeal.main_arg0)
      ∧ m' ((c.tc : Thread Cert.ReferenceAdamFfnDownIdeal.nD Cert.ReferenceAdamFfnDownIdeal.τ).loc Cert.ReferenceAdamFfnDownIdeal.main_arg1) = m ((c.tc : Thread Cert.KernelAdamFfnDownIdeal.nD Cert.KernelAdamFfnDownIdeal.τ).loc Cert.KernelAdamFfnDownIdeal.main_arg1)
      ∧ m' ((c.tc : Thread Cert.ReferenceAdamFfnDownIdeal.nD Cert.ReferenceAdamFfnDownIdeal.τ).loc Cert.ReferenceAdamFfnDownIdeal.main_arg2) = m ((c.tc : Thread Cert.KernelAdamFfnDownIdeal.nD Cert.KernelAdamFfnDownIdeal.τ).loc Cert.KernelAdamFfnDownIdeal.main_arg2)
      ∧ m' ((c.tc : Thread Cert.ReferenceAdamFfnDownIdeal.nD Cert.ReferenceAdamFfnDownIdeal.τ).loc Cert.ReferenceAdamFfnDownIdeal.main_arg3) = m ((c.tc : Thread Cert.KernelAdamFfnDownIdeal.nD Cert.KernelAdamFfnDownIdeal.τ).loc Cert.KernelAdamFfnDownIdeal.main_arg3)) →
    ∃ (v0 : (c : Dev Cert.KernelAdamFfnDownIdeal.nD) → Buf (Elt Ideal) ((c.tc : Thread Cert.KernelAdamFfnDownIdeal.nD Cert.KernelAdamFfnDownIdeal.τ).loc Cert.KernelAdamFfnDownIdeal.main_v0_0)) (v1 : (c : Dev Cert.KernelAdamFfnDownIdeal.nD) → Buf (Elt Ideal) ((c.tc : Thread Cert.KernelAdamFfnDownIdeal.nD Cert.KernelAdamFfnDownIdeal.τ).loc Cert.KernelAdamFfnDownIdeal.main_v0_1)) (v2 : (c : Dev Cert.KernelAdamFfnDownIdeal.nD) → Buf (Elt Ideal) ((c.tc : Thread Cert.KernelAdamFfnDownIdeal.nD Cert.KernelAdamFfnDownIdeal.τ).loc Cert.KernelAdamFfnDownIdeal.main_v0_2)),
      θ_run (Cert.KernelAdamFfnDownIdeal.defs (F := Ideal)) (onTc (τ := Cert.KernelAdamFfnDownIdeal.τ) (Cert.KernelAdamFfnDownIdeal.main (F := Ideal))) ⟨m, fun _ => 0, g⟩ (fun r => ∀ c : Dev Cert.KernelAdamFfnDownIdeal.nD,
          r.2.mem ((c.tc : Thread Cert.KernelAdamFfnDownIdeal.nD Cert.KernelAdamFfnDownIdeal.τ).loc Cert.KernelAdamFfnDownIdeal.main_v0_0) = v0 c
          ∧ r.2.mem ((c.tc : Thread Cert.KernelAdamFfnDownIdeal.nD Cert.KernelAdamFfnDownIdeal.τ).loc Cert.KernelAdamFfnDownIdeal.main_v0_1) = v1 c
          ∧ r.2.mem ((c.tc : Thread Cert.KernelAdamFfnDownIdeal.nD Cert.KernelAdamFfnDownIdeal.τ).loc Cert.KernelAdamFfnDownIdeal.main_v0_2) = v2 c
          ∧ r.2.mem ((c.tc : Thread Cert.KernelAdamFfnDownIdeal.nD Cert.KernelAdamFfnDownIdeal.τ).loc Cert.KernelAdamFfnDownIdeal.main_arg0) = m ((c.tc : Thread Cert.KernelAdamFfnDownIdeal.nD Cert.KernelAdamFfnDownIdeal.τ).loc Cert.KernelAdamFfnDownIdeal.main_arg0)
          ∧ r.2.mem ((c.tc : Thread Cert.KernelAdamFfnDownIdeal.nD Cert.KernelAdamFfnDownIdeal.τ).loc Cert.KernelAdamFfnDownIdeal.main_arg1) = m ((c.tc : Thread Cert.KernelAdamFfnDownIdeal.nD Cert.KernelAdamFfnDownIdeal.τ).loc Cert.KernelAdamFfnDownIdeal.main_arg1)
          ∧ r.2.mem ((c.tc : Thread Cert.KernelAdamFfnDownIdeal.nD Cert.KernelAdamFfnDownIdeal.τ).loc Cert.KernelAdamFfnDownIdeal.main_arg2) = m ((c.tc : Thread Cert.KernelAdamFfnDownIdeal.nD Cert.KernelAdamFfnDownIdeal.τ).loc Cert.KernelAdamFfnDownIdeal.main_arg2)
          ∧ r.2.mem ((c.tc : Thread Cert.KernelAdamFfnDownIdeal.nD Cert.KernelAdamFfnDownIdeal.τ).loc Cert.KernelAdamFfnDownIdeal.main_arg3) = m ((c.tc : Thread Cert.KernelAdamFfnDownIdeal.nD Cert.KernelAdamFfnDownIdeal.τ).loc Cert.KernelAdamFfnDownIdeal.main_arg3))
      ∧ θ_run (Cert.ReferenceAdamFfnDownIdeal.defs (F := Ideal)) (onTc (τ := Cert.ReferenceAdamFfnDownIdeal.τ) (Cert.ReferenceAdamFfnDownIdeal.main (F := Ideal))) ⟨m', fun _ => 0, g'⟩ (fun r => ∀ c : Dev Cert.ReferenceAdamFfnDownIdeal.nD,
          r.2.mem ((c.tc : Thread Cert.ReferenceAdamFfnDownIdeal.nD Cert.ReferenceAdamFfnDownIdeal.τ).loc Cert.ReferenceAdamFfnDownIdeal.main_v23) = v0 c
          ∧ r.2.mem ((c.tc : Thread Cert.ReferenceAdamFfnDownIdeal.nD Cert.ReferenceAdamFfnDownIdeal.τ).loc Cert.ReferenceAdamFfnDownIdeal.main_v4) = v1 c
          ∧ r.2.mem ((c.tc : Thread Cert.ReferenceAdamFfnDownIdeal.nD Cert.ReferenceAdamFfnDownIdeal.τ).loc Cert.ReferenceAdamFfnDownIdeal.main_v10) = v2 c
          ∧ r.2.mem ((c.tc : Thread Cert.ReferenceAdamFfnDownIdeal.nD Cert.ReferenceAdamFfnDownIdeal.τ).loc Cert.ReferenceAdamFfnDownIdeal.main_arg0) = m' ((c.tc : Thread Cert.ReferenceAdamFfnDownIdeal.nD Cert.ReferenceAdamFfnDownIdeal.τ).loc Cert.ReferenceAdamFfnDownIdeal.main_arg0)
          ∧ r.2.mem ((c.tc : Thread Cert.ReferenceAdamFfnDownIdeal.nD Cert.ReferenceAdamFfnDownIdeal.τ).loc Cert.ReferenceAdamFfnDownIdeal.main_arg1) = m' ((c.tc : Thread Cert.ReferenceAdamFfnDownIdeal.nD Cert.ReferenceAdamFfnDownIdeal.τ).loc Cert.ReferenceAdamFfnDownIdeal.main_arg1)
          ∧ r.2.mem ((c.tc : Thread Cert.ReferenceAdamFfnDownIdeal.nD Cert.ReferenceAdamFfnDownIdeal.τ).loc Cert.ReferenceAdamFfnDownIdeal.main_arg2) = m' ((c.tc : Thread Cert.ReferenceAdamFfnDownIdeal.nD Cert.ReferenceAdamFfnDownIdeal.τ).loc Cert.ReferenceAdamFfnDownIdeal.main_arg2)
          ∧ r.2.mem ((c.tc : Thread Cert.ReferenceAdamFfnDownIdeal.nD Cert.ReferenceAdamFfnDownIdeal.τ).loc Cert.ReferenceAdamFfnDownIdeal.main_arg3) = m' ((c.tc : Thread Cert.ReferenceAdamFfnDownIdeal.nD Cert.ReferenceAdamFfnDownIdeal.τ).loc Cert.ReferenceAdamFfnDownIdeal.main_arg3))

def preserves_KernelAdamPleGate_KernelAdamPleGateIdeal : Prop :=
  IdealRules.named_const.Statement Cert.KernelAdamPleGateIdeal.κ "bc1" .f32 0x3FC48605#32 ((8388608 / 5463681 : ℝ) : EReal)
  ∧ IdealRules.named_const.Statement Cert.KernelAdamPleGateIdeal.κ "bc2" .f32 0x42C8E6D3#32 ((268435456 / 2672307 : ℝ) : EReal)

def algebraic_KernelAdamPleGateIdeal_ReferenceAdamPleGateIdeal [hKernelAdamPleGateIdeal : Cert.KernelAdamPleGateIdeal.Facts] [hReferenceAdamPleGateIdeal : Cert.ReferenceAdamPleGateIdeal.Facts] : Prop :=
  ∀ (m : (ℓ : Loc Cert.KernelAdamPleGateIdeal.nD Cert.KernelAdamPleGateIdeal.τ Cert.KernelAdamPleGateIdeal.sig) → Buf (Elt Ideal) ℓ) (g : Dev Cert.KernelAdamPleGateIdeal.nD → PrngReg)
    (m' : (ℓ : Loc Cert.ReferenceAdamPleGateIdeal.nD Cert.ReferenceAdamPleGateIdeal.τ Cert.ReferenceAdamPleGateIdeal.sig) → Buf (Elt Ideal) ℓ) (g' : Dev Cert.ReferenceAdamPleGateIdeal.nD → PrngReg), Pre_KernelAdamPleGateIdeal m →
    (∀ c : Dev Cert.KernelAdamPleGateIdeal.nD,
      m' ((c.tc : Thread Cert.ReferenceAdamPleGateIdeal.nD Cert.ReferenceAdamPleGateIdeal.τ).loc Cert.ReferenceAdamPleGateIdeal.main_arg0) = m ((c.tc : Thread Cert.KernelAdamPleGateIdeal.nD Cert.KernelAdamPleGateIdeal.τ).loc Cert.KernelAdamPleGateIdeal.main_arg0)
      ∧ m' ((c.tc : Thread Cert.ReferenceAdamPleGateIdeal.nD Cert.ReferenceAdamPleGateIdeal.τ).loc Cert.ReferenceAdamPleGateIdeal.main_arg1) = m ((c.tc : Thread Cert.KernelAdamPleGateIdeal.nD Cert.KernelAdamPleGateIdeal.τ).loc Cert.KernelAdamPleGateIdeal.main_arg1)
      ∧ m' ((c.tc : Thread Cert.ReferenceAdamPleGateIdeal.nD Cert.ReferenceAdamPleGateIdeal.τ).loc Cert.ReferenceAdamPleGateIdeal.main_arg2) = m ((c.tc : Thread Cert.KernelAdamPleGateIdeal.nD Cert.KernelAdamPleGateIdeal.τ).loc Cert.KernelAdamPleGateIdeal.main_arg2)
      ∧ m' ((c.tc : Thread Cert.ReferenceAdamPleGateIdeal.nD Cert.ReferenceAdamPleGateIdeal.τ).loc Cert.ReferenceAdamPleGateIdeal.main_arg3) = m ((c.tc : Thread Cert.KernelAdamPleGateIdeal.nD Cert.KernelAdamPleGateIdeal.τ).loc Cert.KernelAdamPleGateIdeal.main_arg3)) →
    ∃ (v0 : (c : Dev Cert.KernelAdamPleGateIdeal.nD) → Buf (Elt Ideal) ((c.tc : Thread Cert.KernelAdamPleGateIdeal.nD Cert.KernelAdamPleGateIdeal.τ).loc Cert.KernelAdamPleGateIdeal.main_v0_0)) (v1 : (c : Dev Cert.KernelAdamPleGateIdeal.nD) → Buf (Elt Ideal) ((c.tc : Thread Cert.KernelAdamPleGateIdeal.nD Cert.KernelAdamPleGateIdeal.τ).loc Cert.KernelAdamPleGateIdeal.main_v0_1)) (v2 : (c : Dev Cert.KernelAdamPleGateIdeal.nD) → Buf (Elt Ideal) ((c.tc : Thread Cert.KernelAdamPleGateIdeal.nD Cert.KernelAdamPleGateIdeal.τ).loc Cert.KernelAdamPleGateIdeal.main_v0_2)),
      θ_run (Cert.KernelAdamPleGateIdeal.defs (F := Ideal)) (onTc (τ := Cert.KernelAdamPleGateIdeal.τ) (Cert.KernelAdamPleGateIdeal.main (F := Ideal))) ⟨m, fun _ => 0, g⟩ (fun r => ∀ c : Dev Cert.KernelAdamPleGateIdeal.nD,
          r.2.mem ((c.tc : Thread Cert.KernelAdamPleGateIdeal.nD Cert.KernelAdamPleGateIdeal.τ).loc Cert.KernelAdamPleGateIdeal.main_v0_0) = v0 c
          ∧ r.2.mem ((c.tc : Thread Cert.KernelAdamPleGateIdeal.nD Cert.KernelAdamPleGateIdeal.τ).loc Cert.KernelAdamPleGateIdeal.main_v0_1) = v1 c
          ∧ r.2.mem ((c.tc : Thread Cert.KernelAdamPleGateIdeal.nD Cert.KernelAdamPleGateIdeal.τ).loc Cert.KernelAdamPleGateIdeal.main_v0_2) = v2 c
          ∧ r.2.mem ((c.tc : Thread Cert.KernelAdamPleGateIdeal.nD Cert.KernelAdamPleGateIdeal.τ).loc Cert.KernelAdamPleGateIdeal.main_arg0) = m ((c.tc : Thread Cert.KernelAdamPleGateIdeal.nD Cert.KernelAdamPleGateIdeal.τ).loc Cert.KernelAdamPleGateIdeal.main_arg0)
          ∧ r.2.mem ((c.tc : Thread Cert.KernelAdamPleGateIdeal.nD Cert.KernelAdamPleGateIdeal.τ).loc Cert.KernelAdamPleGateIdeal.main_arg1) = m ((c.tc : Thread Cert.KernelAdamPleGateIdeal.nD Cert.KernelAdamPleGateIdeal.τ).loc Cert.KernelAdamPleGateIdeal.main_arg1)
          ∧ r.2.mem ((c.tc : Thread Cert.KernelAdamPleGateIdeal.nD Cert.KernelAdamPleGateIdeal.τ).loc Cert.KernelAdamPleGateIdeal.main_arg2) = m ((c.tc : Thread Cert.KernelAdamPleGateIdeal.nD Cert.KernelAdamPleGateIdeal.τ).loc Cert.KernelAdamPleGateIdeal.main_arg2)
          ∧ r.2.mem ((c.tc : Thread Cert.KernelAdamPleGateIdeal.nD Cert.KernelAdamPleGateIdeal.τ).loc Cert.KernelAdamPleGateIdeal.main_arg3) = m ((c.tc : Thread Cert.KernelAdamPleGateIdeal.nD Cert.KernelAdamPleGateIdeal.τ).loc Cert.KernelAdamPleGateIdeal.main_arg3))
      ∧ θ_run (Cert.ReferenceAdamPleGateIdeal.defs (F := Ideal)) (onTc (τ := Cert.ReferenceAdamPleGateIdeal.τ) (Cert.ReferenceAdamPleGateIdeal.main (F := Ideal))) ⟨m', fun _ => 0, g'⟩ (fun r => ∀ c : Dev Cert.ReferenceAdamPleGateIdeal.nD,
          r.2.mem ((c.tc : Thread Cert.ReferenceAdamPleGateIdeal.nD Cert.ReferenceAdamPleGateIdeal.τ).loc Cert.ReferenceAdamPleGateIdeal.main_v23) = v0 c
          ∧ r.2.mem ((c.tc : Thread Cert.ReferenceAdamPleGateIdeal.nD Cert.ReferenceAdamPleGateIdeal.τ).loc Cert.ReferenceAdamPleGateIdeal.main_v4) = v1 c
          ∧ r.2.mem ((c.tc : Thread Cert.ReferenceAdamPleGateIdeal.nD Cert.ReferenceAdamPleGateIdeal.τ).loc Cert.ReferenceAdamPleGateIdeal.main_v10) = v2 c
          ∧ r.2.mem ((c.tc : Thread Cert.ReferenceAdamPleGateIdeal.nD Cert.ReferenceAdamPleGateIdeal.τ).loc Cert.ReferenceAdamPleGateIdeal.main_arg0) = m' ((c.tc : Thread Cert.ReferenceAdamPleGateIdeal.nD Cert.ReferenceAdamPleGateIdeal.τ).loc Cert.ReferenceAdamPleGateIdeal.main_arg0)
          ∧ r.2.mem ((c.tc : Thread Cert.ReferenceAdamPleGateIdeal.nD Cert.ReferenceAdamPleGateIdeal.τ).loc Cert.ReferenceAdamPleGateIdeal.main_arg1) = m' ((c.tc : Thread Cert.ReferenceAdamPleGateIdeal.nD Cert.ReferenceAdamPleGateIdeal.τ).loc Cert.ReferenceAdamPleGateIdeal.main_arg1)
          ∧ r.2.mem ((c.tc : Thread Cert.ReferenceAdamPleGateIdeal.nD Cert.ReferenceAdamPleGateIdeal.τ).loc Cert.ReferenceAdamPleGateIdeal.main_arg2) = m' ((c.tc : Thread Cert.ReferenceAdamPleGateIdeal.nD Cert.ReferenceAdamPleGateIdeal.τ).loc Cert.ReferenceAdamPleGateIdeal.main_arg2)
          ∧ r.2.mem ((c.tc : Thread Cert.ReferenceAdamPleGateIdeal.nD Cert.ReferenceAdamPleGateIdeal.τ).loc Cert.ReferenceAdamPleGateIdeal.main_arg3) = m' ((c.tc : Thread Cert.ReferenceAdamPleGateIdeal.nD Cert.ReferenceAdamPleGateIdeal.τ).loc Cert.ReferenceAdamPleGateIdeal.main_arg3))

def preserves_KernelAdamPleProj_KernelAdamPleProjIdeal : Prop :=
  IdealRules.named_const.Statement Cert.KernelAdamPleProjIdeal.κ "bc1" .f32 0x3FC48605#32 ((8388608 / 5463681 : ℝ) : EReal)
  ∧ IdealRules.named_const.Statement Cert.KernelAdamPleProjIdeal.κ "bc2" .f32 0x42C8E6D3#32 ((268435456 / 2672307 : ℝ) : EReal)

def algebraic_KernelAdamPleProjIdeal_ReferenceAdamPleProjIdeal [hKernelAdamPleProjIdeal : Cert.KernelAdamPleProjIdeal.Facts] [hReferenceAdamPleProjIdeal : Cert.ReferenceAdamPleProjIdeal.Facts] : Prop :=
  ∀ (m : (ℓ : Loc Cert.KernelAdamPleProjIdeal.nD Cert.KernelAdamPleProjIdeal.τ Cert.KernelAdamPleProjIdeal.sig) → Buf (Elt Ideal) ℓ) (g : Dev Cert.KernelAdamPleProjIdeal.nD → PrngReg)
    (m' : (ℓ : Loc Cert.ReferenceAdamPleProjIdeal.nD Cert.ReferenceAdamPleProjIdeal.τ Cert.ReferenceAdamPleProjIdeal.sig) → Buf (Elt Ideal) ℓ) (g' : Dev Cert.ReferenceAdamPleProjIdeal.nD → PrngReg), Pre_KernelAdamPleProjIdeal m →
    (∀ c : Dev Cert.KernelAdamPleProjIdeal.nD,
      m' ((c.tc : Thread Cert.ReferenceAdamPleProjIdeal.nD Cert.ReferenceAdamPleProjIdeal.τ).loc Cert.ReferenceAdamPleProjIdeal.main_arg0) = m ((c.tc : Thread Cert.KernelAdamPleProjIdeal.nD Cert.KernelAdamPleProjIdeal.τ).loc Cert.KernelAdamPleProjIdeal.main_arg0)
      ∧ m' ((c.tc : Thread Cert.ReferenceAdamPleProjIdeal.nD Cert.ReferenceAdamPleProjIdeal.τ).loc Cert.ReferenceAdamPleProjIdeal.main_arg1) = m ((c.tc : Thread Cert.KernelAdamPleProjIdeal.nD Cert.KernelAdamPleProjIdeal.τ).loc Cert.KernelAdamPleProjIdeal.main_arg1)
      ∧ m' ((c.tc : Thread Cert.ReferenceAdamPleProjIdeal.nD Cert.ReferenceAdamPleProjIdeal.τ).loc Cert.ReferenceAdamPleProjIdeal.main_arg2) = m ((c.tc : Thread Cert.KernelAdamPleProjIdeal.nD Cert.KernelAdamPleProjIdeal.τ).loc Cert.KernelAdamPleProjIdeal.main_arg2)
      ∧ m' ((c.tc : Thread Cert.ReferenceAdamPleProjIdeal.nD Cert.ReferenceAdamPleProjIdeal.τ).loc Cert.ReferenceAdamPleProjIdeal.main_arg3) = m ((c.tc : Thread Cert.KernelAdamPleProjIdeal.nD Cert.KernelAdamPleProjIdeal.τ).loc Cert.KernelAdamPleProjIdeal.main_arg3)) →
    ∃ (v0 : (c : Dev Cert.KernelAdamPleProjIdeal.nD) → Buf (Elt Ideal) ((c.tc : Thread Cert.KernelAdamPleProjIdeal.nD Cert.KernelAdamPleProjIdeal.τ).loc Cert.KernelAdamPleProjIdeal.main_v0_0)) (v1 : (c : Dev Cert.KernelAdamPleProjIdeal.nD) → Buf (Elt Ideal) ((c.tc : Thread Cert.KernelAdamPleProjIdeal.nD Cert.KernelAdamPleProjIdeal.τ).loc Cert.KernelAdamPleProjIdeal.main_v0_1)) (v2 : (c : Dev Cert.KernelAdamPleProjIdeal.nD) → Buf (Elt Ideal) ((c.tc : Thread Cert.KernelAdamPleProjIdeal.nD Cert.KernelAdamPleProjIdeal.τ).loc Cert.KernelAdamPleProjIdeal.main_v0_2)),
      θ_run (Cert.KernelAdamPleProjIdeal.defs (F := Ideal)) (onTc (τ := Cert.KernelAdamPleProjIdeal.τ) (Cert.KernelAdamPleProjIdeal.main (F := Ideal))) ⟨m, fun _ => 0, g⟩ (fun r => ∀ c : Dev Cert.KernelAdamPleProjIdeal.nD,
          r.2.mem ((c.tc : Thread Cert.KernelAdamPleProjIdeal.nD Cert.KernelAdamPleProjIdeal.τ).loc Cert.KernelAdamPleProjIdeal.main_v0_0) = v0 c
          ∧ r.2.mem ((c.tc : Thread Cert.KernelAdamPleProjIdeal.nD Cert.KernelAdamPleProjIdeal.τ).loc Cert.KernelAdamPleProjIdeal.main_v0_1) = v1 c
          ∧ r.2.mem ((c.tc : Thread Cert.KernelAdamPleProjIdeal.nD Cert.KernelAdamPleProjIdeal.τ).loc Cert.KernelAdamPleProjIdeal.main_v0_2) = v2 c
          ∧ r.2.mem ((c.tc : Thread Cert.KernelAdamPleProjIdeal.nD Cert.KernelAdamPleProjIdeal.τ).loc Cert.KernelAdamPleProjIdeal.main_arg0) = m ((c.tc : Thread Cert.KernelAdamPleProjIdeal.nD Cert.KernelAdamPleProjIdeal.τ).loc Cert.KernelAdamPleProjIdeal.main_arg0)
          ∧ r.2.mem ((c.tc : Thread Cert.KernelAdamPleProjIdeal.nD Cert.KernelAdamPleProjIdeal.τ).loc Cert.KernelAdamPleProjIdeal.main_arg1) = m ((c.tc : Thread Cert.KernelAdamPleProjIdeal.nD Cert.KernelAdamPleProjIdeal.τ).loc Cert.KernelAdamPleProjIdeal.main_arg1)
          ∧ r.2.mem ((c.tc : Thread Cert.KernelAdamPleProjIdeal.nD Cert.KernelAdamPleProjIdeal.τ).loc Cert.KernelAdamPleProjIdeal.main_arg2) = m ((c.tc : Thread Cert.KernelAdamPleProjIdeal.nD Cert.KernelAdamPleProjIdeal.τ).loc Cert.KernelAdamPleProjIdeal.main_arg2)
          ∧ r.2.mem ((c.tc : Thread Cert.KernelAdamPleProjIdeal.nD Cert.KernelAdamPleProjIdeal.τ).loc Cert.KernelAdamPleProjIdeal.main_arg3) = m ((c.tc : Thread Cert.KernelAdamPleProjIdeal.nD Cert.KernelAdamPleProjIdeal.τ).loc Cert.KernelAdamPleProjIdeal.main_arg3))
      ∧ θ_run (Cert.ReferenceAdamPleProjIdeal.defs (F := Ideal)) (onTc (τ := Cert.ReferenceAdamPleProjIdeal.τ) (Cert.ReferenceAdamPleProjIdeal.main (F := Ideal))) ⟨m', fun _ => 0, g'⟩ (fun r => ∀ c : Dev Cert.ReferenceAdamPleProjIdeal.nD,
          r.2.mem ((c.tc : Thread Cert.ReferenceAdamPleProjIdeal.nD Cert.ReferenceAdamPleProjIdeal.τ).loc Cert.ReferenceAdamPleProjIdeal.main_v23) = v0 c
          ∧ r.2.mem ((c.tc : Thread Cert.ReferenceAdamPleProjIdeal.nD Cert.ReferenceAdamPleProjIdeal.τ).loc Cert.ReferenceAdamPleProjIdeal.main_v4) = v1 c
          ∧ r.2.mem ((c.tc : Thread Cert.ReferenceAdamPleProjIdeal.nD Cert.ReferenceAdamPleProjIdeal.τ).loc Cert.ReferenceAdamPleProjIdeal.main_v10) = v2 c
          ∧ r.2.mem ((c.tc : Thread Cert.ReferenceAdamPleProjIdeal.nD Cert.ReferenceAdamPleProjIdeal.τ).loc Cert.ReferenceAdamPleProjIdeal.main_arg0) = m' ((c.tc : Thread Cert.ReferenceAdamPleProjIdeal.nD Cert.ReferenceAdamPleProjIdeal.τ).loc Cert.ReferenceAdamPleProjIdeal.main_arg0)
          ∧ r.2.mem ((c.tc : Thread Cert.ReferenceAdamPleProjIdeal.nD Cert.ReferenceAdamPleProjIdeal.τ).loc Cert.ReferenceAdamPleProjIdeal.main_arg1) = m' ((c.tc : Thread Cert.ReferenceAdamPleProjIdeal.nD Cert.ReferenceAdamPleProjIdeal.τ).loc Cert.ReferenceAdamPleProjIdeal.main_arg1)
          ∧ r.2.mem ((c.tc : Thread Cert.ReferenceAdamPleProjIdeal.nD Cert.ReferenceAdamPleProjIdeal.τ).loc Cert.ReferenceAdamPleProjIdeal.main_arg2) = m' ((c.tc : Thread Cert.ReferenceAdamPleProjIdeal.nD Cert.ReferenceAdamPleProjIdeal.τ).loc Cert.ReferenceAdamPleProjIdeal.main_arg2)
          ∧ r.2.mem ((c.tc : Thread Cert.ReferenceAdamPleProjIdeal.nD Cert.ReferenceAdamPleProjIdeal.τ).loc Cert.ReferenceAdamPleProjIdeal.main_arg3) = m' ((c.tc : Thread Cert.ReferenceAdamPleProjIdeal.nD Cert.ReferenceAdamPleProjIdeal.τ).loc Cert.ReferenceAdamPleProjIdeal.main_arg3))

def preserves_KernelAdamNormFinal_KernelAdamNormFinalIdeal : Prop :=
  IdealRules.named_const.Statement Cert.KernelAdamNormFinalIdeal.κ "bc1" .f32 0x3FC48605#32 ((8388608 / 5463681 : ℝ) : EReal)
  ∧ IdealRules.named_const.Statement Cert.KernelAdamNormFinalIdeal.κ "bc2" .f32 0x42C8E6D3#32 ((268435456 / 2672307 : ℝ) : EReal)

def algebraic_KernelAdamNormFinalIdeal_ReferenceAdamNormFinalIdeal [hKernelAdamNormFinalIdeal : Cert.KernelAdamNormFinalIdeal.Facts] [hReferenceAdamNormFinalIdeal : Cert.ReferenceAdamNormFinalIdeal.Facts] : Prop :=
  ∀ (m : (ℓ : Loc Cert.KernelAdamNormFinalIdeal.nD Cert.KernelAdamNormFinalIdeal.τ Cert.KernelAdamNormFinalIdeal.sig) → Buf (Elt Ideal) ℓ) (g : Dev Cert.KernelAdamNormFinalIdeal.nD → PrngReg)
    (m' : (ℓ : Loc Cert.ReferenceAdamNormFinalIdeal.nD Cert.ReferenceAdamNormFinalIdeal.τ Cert.ReferenceAdamNormFinalIdeal.sig) → Buf (Elt Ideal) ℓ) (g' : Dev Cert.ReferenceAdamNormFinalIdeal.nD → PrngReg), Pre_KernelAdamNormFinalIdeal m →
    (∀ c : Dev Cert.KernelAdamNormFinalIdeal.nD,
      m' ((c.tc : Thread Cert.ReferenceAdamNormFinalIdeal.nD Cert.ReferenceAdamNormFinalIdeal.τ).loc Cert.ReferenceAdamNormFinalIdeal.main_arg0) = m ((c.tc : Thread Cert.KernelAdamNormFinalIdeal.nD Cert.KernelAdamNormFinalIdeal.τ).loc Cert.KernelAdamNormFinalIdeal.main_arg0)
      ∧ m' ((c.tc : Thread Cert.ReferenceAdamNormFinalIdeal.nD Cert.ReferenceAdamNormFinalIdeal.τ).loc Cert.ReferenceAdamNormFinalIdeal.main_arg1) = m ((c.tc : Thread Cert.KernelAdamNormFinalIdeal.nD Cert.KernelAdamNormFinalIdeal.τ).loc Cert.KernelAdamNormFinalIdeal.main_arg1)
      ∧ m' ((c.tc : Thread Cert.ReferenceAdamNormFinalIdeal.nD Cert.ReferenceAdamNormFinalIdeal.τ).loc Cert.ReferenceAdamNormFinalIdeal.main_arg2) = m ((c.tc : Thread Cert.KernelAdamNormFinalIdeal.nD Cert.KernelAdamNormFinalIdeal.τ).loc Cert.KernelAdamNormFinalIdeal.main_arg2)
      ∧ m' ((c.tc : Thread Cert.ReferenceAdamNormFinalIdeal.nD Cert.ReferenceAdamNormFinalIdeal.τ).loc Cert.ReferenceAdamNormFinalIdeal.main_arg3) = m ((c.tc : Thread Cert.KernelAdamNormFinalIdeal.nD Cert.KernelAdamNormFinalIdeal.τ).loc Cert.KernelAdamNormFinalIdeal.main_arg3)) →
    ∃ (v0 : (c : Dev Cert.KernelAdamNormFinalIdeal.nD) → Buf (Elt Ideal) ((c.tc : Thread Cert.KernelAdamNormFinalIdeal.nD Cert.KernelAdamNormFinalIdeal.τ).loc Cert.KernelAdamNormFinalIdeal.main_v0_0)) (v1 : (c : Dev Cert.KernelAdamNormFinalIdeal.nD) → Buf (Elt Ideal) ((c.tc : Thread Cert.KernelAdamNormFinalIdeal.nD Cert.KernelAdamNormFinalIdeal.τ).loc Cert.KernelAdamNormFinalIdeal.main_v0_1)) (v2 : (c : Dev Cert.KernelAdamNormFinalIdeal.nD) → Buf (Elt Ideal) ((c.tc : Thread Cert.KernelAdamNormFinalIdeal.nD Cert.KernelAdamNormFinalIdeal.τ).loc Cert.KernelAdamNormFinalIdeal.main_v0_2)),
      θ_run (Cert.KernelAdamNormFinalIdeal.defs (F := Ideal)) (onTc (τ := Cert.KernelAdamNormFinalIdeal.τ) (Cert.KernelAdamNormFinalIdeal.main (F := Ideal))) ⟨m, fun _ => 0, g⟩ (fun r => ∀ c : Dev Cert.KernelAdamNormFinalIdeal.nD,
          r.2.mem ((c.tc : Thread Cert.KernelAdamNormFinalIdeal.nD Cert.KernelAdamNormFinalIdeal.τ).loc Cert.KernelAdamNormFinalIdeal.main_v0_0) = v0 c
          ∧ r.2.mem ((c.tc : Thread Cert.KernelAdamNormFinalIdeal.nD Cert.KernelAdamNormFinalIdeal.τ).loc Cert.KernelAdamNormFinalIdeal.main_v0_1) = v1 c
          ∧ r.2.mem ((c.tc : Thread Cert.KernelAdamNormFinalIdeal.nD Cert.KernelAdamNormFinalIdeal.τ).loc Cert.KernelAdamNormFinalIdeal.main_v0_2) = v2 c
          ∧ r.2.mem ((c.tc : Thread Cert.KernelAdamNormFinalIdeal.nD Cert.KernelAdamNormFinalIdeal.τ).loc Cert.KernelAdamNormFinalIdeal.main_arg0) = m ((c.tc : Thread Cert.KernelAdamNormFinalIdeal.nD Cert.KernelAdamNormFinalIdeal.τ).loc Cert.KernelAdamNormFinalIdeal.main_arg0)
          ∧ r.2.mem ((c.tc : Thread Cert.KernelAdamNormFinalIdeal.nD Cert.KernelAdamNormFinalIdeal.τ).loc Cert.KernelAdamNormFinalIdeal.main_arg1) = m ((c.tc : Thread Cert.KernelAdamNormFinalIdeal.nD Cert.KernelAdamNormFinalIdeal.τ).loc Cert.KernelAdamNormFinalIdeal.main_arg1)
          ∧ r.2.mem ((c.tc : Thread Cert.KernelAdamNormFinalIdeal.nD Cert.KernelAdamNormFinalIdeal.τ).loc Cert.KernelAdamNormFinalIdeal.main_arg2) = m ((c.tc : Thread Cert.KernelAdamNormFinalIdeal.nD Cert.KernelAdamNormFinalIdeal.τ).loc Cert.KernelAdamNormFinalIdeal.main_arg2)
          ∧ r.2.mem ((c.tc : Thread Cert.KernelAdamNormFinalIdeal.nD Cert.KernelAdamNormFinalIdeal.τ).loc Cert.KernelAdamNormFinalIdeal.main_arg3) = m ((c.tc : Thread Cert.KernelAdamNormFinalIdeal.nD Cert.KernelAdamNormFinalIdeal.τ).loc Cert.KernelAdamNormFinalIdeal.main_arg3))
      ∧ θ_run (Cert.ReferenceAdamNormFinalIdeal.defs (F := Ideal)) (onTc (τ := Cert.ReferenceAdamNormFinalIdeal.τ) (Cert.ReferenceAdamNormFinalIdeal.main (F := Ideal))) ⟨m', fun _ => 0, g'⟩ (fun r => ∀ c : Dev Cert.ReferenceAdamNormFinalIdeal.nD,
          r.2.mem ((c.tc : Thread Cert.ReferenceAdamNormFinalIdeal.nD Cert.ReferenceAdamNormFinalIdeal.τ).loc Cert.ReferenceAdamNormFinalIdeal.main_v23) = v0 c
          ∧ r.2.mem ((c.tc : Thread Cert.ReferenceAdamNormFinalIdeal.nD Cert.ReferenceAdamNormFinalIdeal.τ).loc Cert.ReferenceAdamNormFinalIdeal.main_v4) = v1 c
          ∧ r.2.mem ((c.tc : Thread Cert.ReferenceAdamNormFinalIdeal.nD Cert.ReferenceAdamNormFinalIdeal.τ).loc Cert.ReferenceAdamNormFinalIdeal.main_v10) = v2 c
          ∧ r.2.mem ((c.tc : Thread Cert.ReferenceAdamNormFinalIdeal.nD Cert.ReferenceAdamNormFinalIdeal.τ).loc Cert.ReferenceAdamNormFinalIdeal.main_arg0) = m' ((c.tc : Thread Cert.ReferenceAdamNormFinalIdeal.nD Cert.ReferenceAdamNormFinalIdeal.τ).loc Cert.ReferenceAdamNormFinalIdeal.main_arg0)
          ∧ r.2.mem ((c.tc : Thread Cert.ReferenceAdamNormFinalIdeal.nD Cert.ReferenceAdamNormFinalIdeal.τ).loc Cert.ReferenceAdamNormFinalIdeal.main_arg1) = m' ((c.tc : Thread Cert.ReferenceAdamNormFinalIdeal.nD Cert.ReferenceAdamNormFinalIdeal.τ).loc Cert.ReferenceAdamNormFinalIdeal.main_arg1)
          ∧ r.2.mem ((c.tc : Thread Cert.ReferenceAdamNormFinalIdeal.nD Cert.ReferenceAdamNormFinalIdeal.τ).loc Cert.ReferenceAdamNormFinalIdeal.main_arg2) = m' ((c.tc : Thread Cert.ReferenceAdamNormFinalIdeal.nD Cert.ReferenceAdamNormFinalIdeal.τ).loc Cert.ReferenceAdamNormFinalIdeal.main_arg2)
          ∧ r.2.mem ((c.tc : Thread Cert.ReferenceAdamNormFinalIdeal.nD Cert.ReferenceAdamNormFinalIdeal.τ).loc Cert.ReferenceAdamNormFinalIdeal.main_arg3) = m' ((c.tc : Thread Cert.ReferenceAdamNormFinalIdeal.nD Cert.ReferenceAdamNormFinalIdeal.τ).loc Cert.ReferenceAdamNormFinalIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelUpW : Cert.KernelUpW.Facts) (hKernelUpWIdeal : Cert.KernelUpWIdeal.Facts) (hReferenceUpWIdeal : Cert.ReferenceUpWIdeal.Facts) (hKernelDownW : Cert.KernelDownW.Facts) (hKernelDownWIdeal : Cert.KernelDownWIdeal.Facts) (hReferenceDownWIdeal : Cert.ReferenceDownWIdeal.Facts) (hKernelDown : Cert.KernelDown.Facts) (hKernelDownIdeal : Cert.KernelDownIdeal.Facts) (hReferenceDownIdeal : Cert.ReferenceDownIdeal.Facts) (hKernelNormUp : Cert.KernelNormUp.Facts) (hKernelNormUpIdeal : Cert.KernelNormUpIdeal.Facts) (hReferenceNormUpIdeal : Cert.ReferenceNormUpIdeal.Facts) (hKernelUpV : Cert.KernelUpV.Facts) (hKernelUpVIdeal : Cert.KernelUpVIdeal.Facts) (hReferenceUpVIdeal : Cert.ReferenceUpVIdeal.Facts) (hKernelDownF : Cert.KernelDownF.Facts) (hKernelDownFIdeal : Cert.KernelDownFIdeal.Facts) (hReferenceDownFIdeal : Cert.ReferenceDownFIdeal.Facts) (hKernelNormQkv : Cert.KernelNormQkv.Facts) (hKernelNormQkvIdeal : Cert.KernelNormQkvIdeal.Facts) (hReferenceNormQkvIdeal : Cert.ReferenceNormQkvIdeal.Facts) (hKernelQkvW : Cert.KernelQkvW.Facts) (hKernelQkvWIdeal : Cert.KernelQkvWIdeal.Facts) (hReferenceQkvWIdeal : Cert.ReferenceQkvWIdeal.Facts) (hKernelQkvD : Cert.KernelQkvD.Facts) (hKernelQkvDIdeal : Cert.KernelQkvDIdeal.Facts) (hReferenceQkvDIdeal : Cert.ReferenceQkvDIdeal.Facts) (hKernelNormRnn : Cert.KernelNormRnn.Facts) (hKernelNormRnnIdeal : Cert.KernelNormRnnIdeal.Facts) (hReferenceNormRnnIdeal : Cert.ReferenceNormRnnIdeal.Facts) (hKernelRecF : Cert.KernelRecF.Facts) (hKernelRecFIdeal : Cert.KernelRecFIdeal.Facts) (hReferenceRecFIdeal : Cert.ReferenceRecFIdeal.Facts) (hKernelRnnInW : Cert.KernelRnnInW.Facts) (hKernelRnnInWIdeal : Cert.KernelRnnInWIdeal.Facts) (hReferenceRnnInWIdeal : Cert.ReferenceRnnInWIdeal.Facts) (hKernelRnnInD : Cert.KernelRnnInD.Facts) (hKernelRnnInDIdeal : Cert.KernelRnnInDIdeal.Facts) (hReferenceRnnInDIdeal : Cert.ReferenceRnnInDIdeal.Facts) (hKernelNormPle : Cert.KernelNormPle.Facts) (hKernelNormPleIdeal : Cert.KernelNormPleIdeal.Facts) (hReferenceNormPleIdeal : Cert.ReferenceNormPleIdeal.Facts) (hKernelPleGateW : Cert.KernelPleGateW.Facts) (hKernelPleGateWIdeal : Cert.KernelPleGateWIdeal.Facts) (hReferencePleGateWIdeal : Cert.ReferencePleGateWIdeal.Facts) (hKernelPleGateD : Cert.KernelPleGateD.Facts) (hKernelPleGateDIdeal : Cert.KernelPleGateDIdeal.Facts) (hReferencePleGateDIdeal : Cert.ReferencePleGateDIdeal.Facts) (hKernelRnnOutF : Cert.KernelRnnOutF.Facts) (hKernelRnnOutFIdeal : Cert.KernelRnnOutFIdeal.Facts) (hReferenceRnnOutFIdeal : Cert.ReferenceRnnOutFIdeal.Facts) (hKernelRnnOutW : Cert.KernelRnnOutW.Facts) (hKernelRnnOutWIdeal : Cert.KernelRnnOutWIdeal.Facts) (hReferenceRnnOutWIdeal : Cert.ReferenceRnnOutWIdeal.Facts) (hKernelRnnOutD : Cert.KernelRnnOutD.Facts) (hKernelRnnOutDIdeal : Cert.KernelRnnOutDIdeal.Facts) (hReferenceRnnOutDIdeal : Cert.ReferenceRnnOutDIdeal.Facts) (hKernelOutF : Cert.KernelOutF.Facts) (hKernelOutFIdeal : Cert.KernelOutFIdeal.Facts) (hReferenceOutFIdeal : Cert.ReferenceOutFIdeal.Facts) (hKernelOutW : Cert.KernelOutW.Facts) (hKernelOutWIdeal : Cert.KernelOutWIdeal.Facts) (hReferenceOutWIdeal : Cert.ReferenceOutWIdeal.Facts) (hKernelOutD : Cert.KernelOutD.Facts) (hKernelOutDIdeal : Cert.KernelOutDIdeal.Facts) (hReferenceOutDIdeal : Cert.ReferenceOutDIdeal.Facts) (hKernelPleF : Cert.KernelPleF.Facts) (hKernelPleFIdeal : Cert.KernelPleFIdeal.Facts) (hReferencePleFIdeal : Cert.ReferencePleFIdeal.Facts) (hKernelPleProjW : Cert.KernelPleProjW.Facts) (hKernelPleProjWIdeal : Cert.KernelPleProjWIdeal.Facts) (hReferencePleProjWIdeal : Cert.ReferencePleProjWIdeal.Facts) (hKernelPleD : Cert.KernelPleD.Facts) (hKernelPleDIdeal : Cert.KernelPleDIdeal.Facts) (hReferencePleDIdeal : Cert.ReferencePleDIdeal.Facts) (hKernelLoss : Cert.KernelLoss.Facts) (hKernelLossIdeal : Cert.KernelLossIdeal.Facts) (hReferenceLossIdeal : Cert.ReferenceLossIdeal.Facts) (hKernelGateF : Cert.KernelGateF.Facts) (hKernelGateFIdeal : Cert.KernelGateFIdeal.Facts) (hReferenceGateFIdeal : Cert.ReferenceGateFIdeal.Facts) (hKernelGateD : Cert.KernelGateD.Facts) (hKernelGateDIdeal : Cert.KernelGateDIdeal.Facts) (hReferenceGateDIdeal : Cert.ReferenceGateDIdeal.Facts) (hKernelGateW : Cert.KernelGateW.Facts) (hKernelGateWIdeal : Cert.KernelGateWIdeal.Facts) (hReferenceGateWIdeal : Cert.ReferenceGateWIdeal.Facts) (hKernelAdamNormMix : Cert.KernelAdamNormMix.Facts) (hKernelAdamNormMixIdeal : Cert.KernelAdamNormMixIdeal.Facts) (hReferenceAdamNormMixIdeal : Cert.ReferenceAdamNormMixIdeal.Facts) (hKernelAdamQkv : Cert.KernelAdamQkv.Facts) (hKernelAdamQkvIdeal : Cert.KernelAdamQkvIdeal.Facts) (hReferenceAdamQkvIdeal : Cert.ReferenceAdamQkvIdeal.Facts) (hKernelAdamAttnO : Cert.KernelAdamAttnO.Facts) (hKernelAdamAttnOIdeal : Cert.KernelAdamAttnOIdeal.Facts) (hReferenceAdamAttnOIdeal : Cert.ReferenceAdamAttnOIdeal.Facts) (hKernelAdamRnnIn : Cert.KernelAdamRnnIn.Facts) (hKernelAdamRnnInIdeal : Cert.KernelAdamRnnInIdeal.Facts) (hReferenceAdamRnnInIdeal : Cert.ReferenceAdamRnnInIdeal.Facts) (hKernelAdamRnnConv : Cert.KernelAdamRnnConv.Facts) (hKernelAdamRnnConvIdeal : Cert.KernelAdamRnnConvIdeal.Facts) (hReferenceAdamRnnConvIdeal : Cert.ReferenceAdamRnnConvIdeal.Facts) (hKernelAdamRnnVec : Cert.KernelAdamRnnVec.Facts) (hKernelAdamRnnVecIdeal : Cert.KernelAdamRnnVecIdeal.Facts) (hReferenceAdamRnnVecIdeal : Cert.ReferenceAdamRnnVecIdeal.Facts) (hKernelAdamGate : Cert.KernelAdamGate.Facts) (hKernelAdamGateIdeal : Cert.KernelAdamGateIdeal.Facts) (hReferenceAdamGateIdeal : Cert.ReferenceAdamGateIdeal.Facts) (hKernelAdamRnnOut : Cert.KernelAdamRnnOut.Facts) (hKernelAdamRnnOutIdeal : Cert.KernelAdamRnnOutIdeal.Facts) (hReferenceAdamRnnOutIdeal : Cert.ReferenceAdamRnnOutIdeal.Facts) (hKernelAdamFfnUp : Cert.KernelAdamFfnUp.Facts) (hKernelAdamFfnUpIdeal : Cert.KernelAdamFfnUpIdeal.Facts) (hReferenceAdamFfnUpIdeal : Cert.ReferenceAdamFfnUpIdeal.Facts) (hKernelAdamFfnConv : Cert.KernelAdamFfnConv.Facts) (hKernelAdamFfnConvIdeal : Cert.KernelAdamFfnConvIdeal.Facts) (hReferenceAdamFfnConvIdeal : Cert.ReferenceAdamFfnConvIdeal.Facts) (hKernelAdamFfnBias : Cert.KernelAdamFfnBias.Facts) (hKernelAdamFfnBiasIdeal : Cert.KernelAdamFfnBiasIdeal.Facts) (hReferenceAdamFfnBiasIdeal : Cert.ReferenceAdamFfnBiasIdeal.Facts) (hKernelAdamFfnDown : Cert.KernelAdamFfnDown.Facts) (hKernelAdamFfnDownIdeal : Cert.KernelAdamFfnDownIdeal.Facts) (hReferenceAdamFfnDownIdeal : Cert.ReferenceAdamFfnDownIdeal.Facts) (hKernelAdamPleGate : Cert.KernelAdamPleGate.Facts) (hKernelAdamPleGateIdeal : Cert.KernelAdamPleGateIdeal.Facts) (hReferenceAdamPleGateIdeal : Cert.ReferenceAdamPleGateIdeal.Facts) (hKernelAdamPleProj : Cert.KernelAdamPleProj.Facts) (hKernelAdamPleProjIdeal : Cert.KernelAdamPleProjIdeal.Facts) (hReferenceAdamPleProjIdeal : Cert.ReferenceAdamPleProjIdeal.Facts) (hKernelAdamNormFinal : Cert.KernelAdamNormFinal.Facts) (hKernelAdamNormFinalIdeal : Cert.KernelAdamNormFinalIdeal.Facts) (hReferenceAdamNormFinalIdeal : Cert.ReferenceAdamNormFinalIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelUpW (hKernelUpW := hKernelUpW)
    ∧ quiescent_KernelUpWIdeal (hKernelUpWIdeal := hKernelUpWIdeal)
    ∧ quiescent_ReferenceUpWIdeal (hReferenceUpWIdeal := hReferenceUpWIdeal)
    ∧ quiescent_KernelDownW (hKernelDownW := hKernelDownW)
    ∧ quiescent_KernelDownWIdeal (hKernelDownWIdeal := hKernelDownWIdeal)
    ∧ quiescent_ReferenceDownWIdeal (hReferenceDownWIdeal := hReferenceDownWIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelNormUp (hKernelNormUp := hKernelNormUp)
    ∧ quiescent_KernelNormUpIdeal (hKernelNormUpIdeal := hKernelNormUpIdeal)
    ∧ quiescent_ReferenceNormUpIdeal (hReferenceNormUpIdeal := hReferenceNormUpIdeal)
    ∧ quiescent_KernelUpV (hKernelUpV := hKernelUpV)
    ∧ quiescent_KernelUpVIdeal (hKernelUpVIdeal := hKernelUpVIdeal)
    ∧ quiescent_ReferenceUpVIdeal (hReferenceUpVIdeal := hReferenceUpVIdeal)
    ∧ quiescent_KernelDownF (hKernelDownF := hKernelDownF)
    ∧ quiescent_KernelDownFIdeal (hKernelDownFIdeal := hKernelDownFIdeal)
    ∧ quiescent_ReferenceDownFIdeal (hReferenceDownFIdeal := hReferenceDownFIdeal)
    ∧ quiescent_KernelNormQkv (hKernelNormQkv := hKernelNormQkv)
    ∧ quiescent_KernelNormQkvIdeal (hKernelNormQkvIdeal := hKernelNormQkvIdeal)
    ∧ quiescent_ReferenceNormQkvIdeal (hReferenceNormQkvIdeal := hReferenceNormQkvIdeal)
    ∧ quiescent_KernelQkvW (hKernelQkvW := hKernelQkvW)
    ∧ quiescent_KernelQkvWIdeal (hKernelQkvWIdeal := hKernelQkvWIdeal)
    ∧ quiescent_ReferenceQkvWIdeal (hReferenceQkvWIdeal := hReferenceQkvWIdeal)
    ∧ quiescent_KernelQkvD (hKernelQkvD := hKernelQkvD)
    ∧ quiescent_KernelQkvDIdeal (hKernelQkvDIdeal := hKernelQkvDIdeal)
    ∧ quiescent_ReferenceQkvDIdeal (hReferenceQkvDIdeal := hReferenceQkvDIdeal)
    ∧ quiescent_KernelNormRnn (hKernelNormRnn := hKernelNormRnn)
    ∧ quiescent_KernelNormRnnIdeal (hKernelNormRnnIdeal := hKernelNormRnnIdeal)
    ∧ quiescent_ReferenceNormRnnIdeal (hReferenceNormRnnIdeal := hReferenceNormRnnIdeal)
    ∧ quiescent_KernelRecF (hKernelRecF := hKernelRecF)
    ∧ quiescent_KernelRecFIdeal (hKernelRecFIdeal := hKernelRecFIdeal)
    ∧ quiescent_ReferenceRecFIdeal (hReferenceRecFIdeal := hReferenceRecFIdeal)
    ∧ quiescent_KernelRnnInW (hKernelRnnInW := hKernelRnnInW)
    ∧ quiescent_KernelRnnInWIdeal (hKernelRnnInWIdeal := hKernelRnnInWIdeal)
    ∧ quiescent_ReferenceRnnInWIdeal (hReferenceRnnInWIdeal := hReferenceRnnInWIdeal)
    ∧ quiescent_KernelRnnInD (hKernelRnnInD := hKernelRnnInD)
    ∧ quiescent_KernelRnnInDIdeal (hKernelRnnInDIdeal := hKernelRnnInDIdeal)
    ∧ quiescent_ReferenceRnnInDIdeal (hReferenceRnnInDIdeal := hReferenceRnnInDIdeal)
    ∧ quiescent_KernelNormPle (hKernelNormPle := hKernelNormPle)
    ∧ quiescent_KernelNormPleIdeal (hKernelNormPleIdeal := hKernelNormPleIdeal)
    ∧ quiescent_ReferenceNormPleIdeal (hReferenceNormPleIdeal := hReferenceNormPleIdeal)
    ∧ quiescent_KernelPleGateW (hKernelPleGateW := hKernelPleGateW)
    ∧ quiescent_KernelPleGateWIdeal (hKernelPleGateWIdeal := hKernelPleGateWIdeal)
    ∧ quiescent_ReferencePleGateWIdeal (hReferencePleGateWIdeal := hReferencePleGateWIdeal)
    ∧ quiescent_KernelPleGateD (hKernelPleGateD := hKernelPleGateD)
    ∧ quiescent_KernelPleGateDIdeal (hKernelPleGateDIdeal := hKernelPleGateDIdeal)
    ∧ quiescent_ReferencePleGateDIdeal (hReferencePleGateDIdeal := hReferencePleGateDIdeal)
    ∧ quiescent_KernelRnnOutF (hKernelRnnOutF := hKernelRnnOutF)
    ∧ quiescent_KernelRnnOutFIdeal (hKernelRnnOutFIdeal := hKernelRnnOutFIdeal)
    ∧ quiescent_ReferenceRnnOutFIdeal (hReferenceRnnOutFIdeal := hReferenceRnnOutFIdeal)
    ∧ quiescent_KernelRnnOutW (hKernelRnnOutW := hKernelRnnOutW)
    ∧ quiescent_KernelRnnOutWIdeal (hKernelRnnOutWIdeal := hKernelRnnOutWIdeal)
    ∧ quiescent_ReferenceRnnOutWIdeal (hReferenceRnnOutWIdeal := hReferenceRnnOutWIdeal)
    ∧ quiescent_KernelRnnOutD (hKernelRnnOutD := hKernelRnnOutD)
    ∧ quiescent_KernelRnnOutDIdeal (hKernelRnnOutDIdeal := hKernelRnnOutDIdeal)
    ∧ quiescent_ReferenceRnnOutDIdeal (hReferenceRnnOutDIdeal := hReferenceRnnOutDIdeal)
    ∧ quiescent_KernelOutF (hKernelOutF := hKernelOutF)
    ∧ quiescent_KernelOutFIdeal (hKernelOutFIdeal := hKernelOutFIdeal)
    ∧ quiescent_ReferenceOutFIdeal (hReferenceOutFIdeal := hReferenceOutFIdeal)
    ∧ quiescent_KernelOutW (hKernelOutW := hKernelOutW)
    ∧ quiescent_KernelOutWIdeal (hKernelOutWIdeal := hKernelOutWIdeal)
    ∧ quiescent_ReferenceOutWIdeal (hReferenceOutWIdeal := hReferenceOutWIdeal)
    ∧ quiescent_KernelOutD (hKernelOutD := hKernelOutD)
    ∧ quiescent_KernelOutDIdeal (hKernelOutDIdeal := hKernelOutDIdeal)
    ∧ quiescent_ReferenceOutDIdeal (hReferenceOutDIdeal := hReferenceOutDIdeal)
    ∧ quiescent_KernelPleF (hKernelPleF := hKernelPleF)
    ∧ quiescent_KernelPleFIdeal (hKernelPleFIdeal := hKernelPleFIdeal)
    ∧ quiescent_ReferencePleFIdeal (hReferencePleFIdeal := hReferencePleFIdeal)
    ∧ quiescent_KernelPleProjW (hKernelPleProjW := hKernelPleProjW)
    ∧ quiescent_KernelPleProjWIdeal (hKernelPleProjWIdeal := hKernelPleProjWIdeal)
    ∧ quiescent_ReferencePleProjWIdeal (hReferencePleProjWIdeal := hReferencePleProjWIdeal)
    ∧ quiescent_KernelPleD (hKernelPleD := hKernelPleD)
    ∧ quiescent_KernelPleDIdeal (hKernelPleDIdeal := hKernelPleDIdeal)
    ∧ quiescent_ReferencePleDIdeal (hReferencePleDIdeal := hReferencePleDIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelGateF (hKernelGateF := hKernelGateF)
    ∧ quiescent_KernelGateFIdeal (hKernelGateFIdeal := hKernelGateFIdeal)
    ∧ quiescent_ReferenceGateFIdeal (hReferenceGateFIdeal := hReferenceGateFIdeal)
    ∧ quiescent_KernelGateD (hKernelGateD := hKernelGateD)
    ∧ quiescent_KernelGateDIdeal (hKernelGateDIdeal := hKernelGateDIdeal)
    ∧ quiescent_ReferenceGateDIdeal (hReferenceGateDIdeal := hReferenceGateDIdeal)
    ∧ quiescent_KernelGateW (hKernelGateW := hKernelGateW)
    ∧ quiescent_KernelGateWIdeal (hKernelGateWIdeal := hKernelGateWIdeal)
    ∧ quiescent_ReferenceGateWIdeal (hReferenceGateWIdeal := hReferenceGateWIdeal)
    ∧ quiescent_KernelAdamNormMix (hKernelAdamNormMix := hKernelAdamNormMix)
    ∧ quiescent_KernelAdamNormMixIdeal (hKernelAdamNormMixIdeal := hKernelAdamNormMixIdeal)
    ∧ quiescent_ReferenceAdamNormMixIdeal (hReferenceAdamNormMixIdeal := hReferenceAdamNormMixIdeal)
    ∧ quiescent_KernelAdamQkv (hKernelAdamQkv := hKernelAdamQkv)
    ∧ quiescent_KernelAdamQkvIdeal (hKernelAdamQkvIdeal := hKernelAdamQkvIdeal)
    ∧ quiescent_ReferenceAdamQkvIdeal (hReferenceAdamQkvIdeal := hReferenceAdamQkvIdeal)
    ∧ quiescent_KernelAdamAttnO (hKernelAdamAttnO := hKernelAdamAttnO)
    ∧ quiescent_KernelAdamAttnOIdeal (hKernelAdamAttnOIdeal := hKernelAdamAttnOIdeal)
    ∧ quiescent_ReferenceAdamAttnOIdeal (hReferenceAdamAttnOIdeal := hReferenceAdamAttnOIdeal)
    ∧ quiescent_KernelAdamRnnIn (hKernelAdamRnnIn := hKernelAdamRnnIn)
    ∧ quiescent_KernelAdamRnnInIdeal (hKernelAdamRnnInIdeal := hKernelAdamRnnInIdeal)
    ∧ quiescent_ReferenceAdamRnnInIdeal (hReferenceAdamRnnInIdeal := hReferenceAdamRnnInIdeal)
    ∧ quiescent_KernelAdamRnnConv (hKernelAdamRnnConv := hKernelAdamRnnConv)
    ∧ quiescent_KernelAdamRnnConvIdeal (hKernelAdamRnnConvIdeal := hKernelAdamRnnConvIdeal)
    ∧ quiescent_ReferenceAdamRnnConvIdeal (hReferenceAdamRnnConvIdeal := hReferenceAdamRnnConvIdeal)
    ∧ quiescent_KernelAdamRnnVec (hKernelAdamRnnVec := hKernelAdamRnnVec)
    ∧ quiescent_KernelAdamRnnVecIdeal (hKernelAdamRnnVecIdeal := hKernelAdamRnnVecIdeal)
    ∧ quiescent_ReferenceAdamRnnVecIdeal (hReferenceAdamRnnVecIdeal := hReferenceAdamRnnVecIdeal)
    ∧ quiescent_KernelAdamGate (hKernelAdamGate := hKernelAdamGate)
    ∧ quiescent_KernelAdamGateIdeal (hKernelAdamGateIdeal := hKernelAdamGateIdeal)
    ∧ quiescent_ReferenceAdamGateIdeal (hReferenceAdamGateIdeal := hReferenceAdamGateIdeal)
    ∧ quiescent_KernelAdamRnnOut (hKernelAdamRnnOut := hKernelAdamRnnOut)
    ∧ quiescent_KernelAdamRnnOutIdeal (hKernelAdamRnnOutIdeal := hKernelAdamRnnOutIdeal)
    ∧ quiescent_ReferenceAdamRnnOutIdeal (hReferenceAdamRnnOutIdeal := hReferenceAdamRnnOutIdeal)
    ∧ quiescent_KernelAdamFfnUp (hKernelAdamFfnUp := hKernelAdamFfnUp)
    ∧ quiescent_KernelAdamFfnUpIdeal (hKernelAdamFfnUpIdeal := hKernelAdamFfnUpIdeal)
    ∧ quiescent_ReferenceAdamFfnUpIdeal (hReferenceAdamFfnUpIdeal := hReferenceAdamFfnUpIdeal)
    ∧ quiescent_KernelAdamFfnConv (hKernelAdamFfnConv := hKernelAdamFfnConv)
    ∧ quiescent_KernelAdamFfnConvIdeal (hKernelAdamFfnConvIdeal := hKernelAdamFfnConvIdeal)
    ∧ quiescent_ReferenceAdamFfnConvIdeal (hReferenceAdamFfnConvIdeal := hReferenceAdamFfnConvIdeal)
    ∧ quiescent_KernelAdamFfnBias (hKernelAdamFfnBias := hKernelAdamFfnBias)
    ∧ quiescent_KernelAdamFfnBiasIdeal (hKernelAdamFfnBiasIdeal := hKernelAdamFfnBiasIdeal)
    ∧ quiescent_ReferenceAdamFfnBiasIdeal (hReferenceAdamFfnBiasIdeal := hReferenceAdamFfnBiasIdeal)
    ∧ quiescent_KernelAdamFfnDown (hKernelAdamFfnDown := hKernelAdamFfnDown)
    ∧ quiescent_KernelAdamFfnDownIdeal (hKernelAdamFfnDownIdeal := hKernelAdamFfnDownIdeal)
    ∧ quiescent_ReferenceAdamFfnDownIdeal (hReferenceAdamFfnDownIdeal := hReferenceAdamFfnDownIdeal)
    ∧ quiescent_KernelAdamPleGate (hKernelAdamPleGate := hKernelAdamPleGate)
    ∧ quiescent_KernelAdamPleGateIdeal (hKernelAdamPleGateIdeal := hKernelAdamPleGateIdeal)
    ∧ quiescent_ReferenceAdamPleGateIdeal (hReferenceAdamPleGateIdeal := hReferenceAdamPleGateIdeal)
    ∧ quiescent_KernelAdamPleProj (hKernelAdamPleProj := hKernelAdamPleProj)
    ∧ quiescent_KernelAdamPleProjIdeal (hKernelAdamPleProjIdeal := hKernelAdamPleProjIdeal)
    ∧ quiescent_ReferenceAdamPleProjIdeal (hReferenceAdamPleProjIdeal := hReferenceAdamPleProjIdeal)
    ∧ quiescent_KernelAdamNormFinal (hKernelAdamNormFinal := hKernelAdamNormFinal)
    ∧ quiescent_KernelAdamNormFinalIdeal (hKernelAdamNormFinalIdeal := hKernelAdamNormFinalIdeal)
    ∧ quiescent_ReferenceAdamNormFinalIdeal (hReferenceAdamNormFinalIdeal := hReferenceAdamNormFinalIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelUpW_KernelUpWIdeal
    ∧ algebraic_KernelUpWIdeal_ReferenceUpWIdeal (hKernelUpWIdeal := hKernelUpWIdeal) (hReferenceUpWIdeal := hReferenceUpWIdeal)
    ∧ preserves_KernelDownW_KernelDownWIdeal
    ∧ algebraic_KernelDownWIdeal_ReferenceDownWIdeal (hKernelDownWIdeal := hKernelDownWIdeal) (hReferenceDownWIdeal := hReferenceDownWIdeal)
    ∧ preserves_KernelDown_KernelDownIdeal
    ∧ algebraic_KernelDownIdeal_ReferenceDownIdeal (hKernelDownIdeal := hKernelDownIdeal) (hReferenceDownIdeal := hReferenceDownIdeal)
    ∧ preserves_KernelNormUp_KernelNormUpIdeal
    ∧ algebraic_KernelNormUpIdeal_ReferenceNormUpIdeal (hKernelNormUpIdeal := hKernelNormUpIdeal) (hReferenceNormUpIdeal := hReferenceNormUpIdeal)
    ∧ preserves_KernelUpV_KernelUpVIdeal
    ∧ algebraic_KernelUpVIdeal_ReferenceUpVIdeal (hKernelUpVIdeal := hKernelUpVIdeal) (hReferenceUpVIdeal := hReferenceUpVIdeal)
    ∧ preserves_KernelDownF_KernelDownFIdeal
    ∧ algebraic_KernelDownFIdeal_ReferenceDownFIdeal (hKernelDownFIdeal := hKernelDownFIdeal) (hReferenceDownFIdeal := hReferenceDownFIdeal)
    ∧ preserves_KernelNormQkv_KernelNormQkvIdeal
    ∧ algebraic_KernelNormQkvIdeal_ReferenceNormQkvIdeal (hKernelNormQkvIdeal := hKernelNormQkvIdeal) (hReferenceNormQkvIdeal := hReferenceNormQkvIdeal)
    ∧ preserves_KernelQkvW_KernelQkvWIdeal
    ∧ algebraic_KernelQkvWIdeal_ReferenceQkvWIdeal (hKernelQkvWIdeal := hKernelQkvWIdeal) (hReferenceQkvWIdeal := hReferenceQkvWIdeal)
    ∧ preserves_KernelQkvD_KernelQkvDIdeal
    ∧ algebraic_KernelQkvDIdeal_ReferenceQkvDIdeal (hKernelQkvDIdeal := hKernelQkvDIdeal) (hReferenceQkvDIdeal := hReferenceQkvDIdeal)
    ∧ preserves_KernelNormRnn_KernelNormRnnIdeal
    ∧ algebraic_KernelNormRnnIdeal_ReferenceNormRnnIdeal (hKernelNormRnnIdeal := hKernelNormRnnIdeal) (hReferenceNormRnnIdeal := hReferenceNormRnnIdeal)
    ∧ preserves_KernelRecF_KernelRecFIdeal
    ∧ algebraic_KernelRecFIdeal_ReferenceRecFIdeal (hKernelRecFIdeal := hKernelRecFIdeal) (hReferenceRecFIdeal := hReferenceRecFIdeal)
    ∧ preserves_KernelRnnInW_KernelRnnInWIdeal
    ∧ algebraic_KernelRnnInWIdeal_ReferenceRnnInWIdeal (hKernelRnnInWIdeal := hKernelRnnInWIdeal) (hReferenceRnnInWIdeal := hReferenceRnnInWIdeal)
    ∧ preserves_KernelRnnInD_KernelRnnInDIdeal
    ∧ algebraic_KernelRnnInDIdeal_ReferenceRnnInDIdeal (hKernelRnnInDIdeal := hKernelRnnInDIdeal) (hReferenceRnnInDIdeal := hReferenceRnnInDIdeal)
    ∧ preserves_KernelNormPle_KernelNormPleIdeal
    ∧ algebraic_KernelNormPleIdeal_ReferenceNormPleIdeal (hKernelNormPleIdeal := hKernelNormPleIdeal) (hReferenceNormPleIdeal := hReferenceNormPleIdeal)
    ∧ preserves_KernelPleGateW_KernelPleGateWIdeal
    ∧ algebraic_KernelPleGateWIdeal_ReferencePleGateWIdeal (hKernelPleGateWIdeal := hKernelPleGateWIdeal) (hReferencePleGateWIdeal := hReferencePleGateWIdeal)
    ∧ preserves_KernelPleGateD_KernelPleGateDIdeal
    ∧ algebraic_KernelPleGateDIdeal_ReferencePleGateDIdeal (hKernelPleGateDIdeal := hKernelPleGateDIdeal) (hReferencePleGateDIdeal := hReferencePleGateDIdeal)
    ∧ preserves_KernelRnnOutF_KernelRnnOutFIdeal
    ∧ algebraic_KernelRnnOutFIdeal_ReferenceRnnOutFIdeal (hKernelRnnOutFIdeal := hKernelRnnOutFIdeal) (hReferenceRnnOutFIdeal := hReferenceRnnOutFIdeal)
    ∧ preserves_KernelRnnOutW_KernelRnnOutWIdeal
    ∧ algebraic_KernelRnnOutWIdeal_ReferenceRnnOutWIdeal (hKernelRnnOutWIdeal := hKernelRnnOutWIdeal) (hReferenceRnnOutWIdeal := hReferenceRnnOutWIdeal)
    ∧ preserves_KernelRnnOutD_KernelRnnOutDIdeal
    ∧ algebraic_KernelRnnOutDIdeal_ReferenceRnnOutDIdeal (hKernelRnnOutDIdeal := hKernelRnnOutDIdeal) (hReferenceRnnOutDIdeal := hReferenceRnnOutDIdeal)
    ∧ preserves_KernelOutF_KernelOutFIdeal
    ∧ algebraic_KernelOutFIdeal_ReferenceOutFIdeal (hKernelOutFIdeal := hKernelOutFIdeal) (hReferenceOutFIdeal := hReferenceOutFIdeal)
    ∧ preserves_KernelOutW_KernelOutWIdeal
    ∧ algebraic_KernelOutWIdeal_ReferenceOutWIdeal (hKernelOutWIdeal := hKernelOutWIdeal) (hReferenceOutWIdeal := hReferenceOutWIdeal)
    ∧ preserves_KernelOutD_KernelOutDIdeal
    ∧ algebraic_KernelOutDIdeal_ReferenceOutDIdeal (hKernelOutDIdeal := hKernelOutDIdeal) (hReferenceOutDIdeal := hReferenceOutDIdeal)
    ∧ preserves_KernelPleF_KernelPleFIdeal
    ∧ algebraic_KernelPleFIdeal_ReferencePleFIdeal (hKernelPleFIdeal := hKernelPleFIdeal) (hReferencePleFIdeal := hReferencePleFIdeal)
    ∧ preserves_KernelPleProjW_KernelPleProjWIdeal
    ∧ algebraic_KernelPleProjWIdeal_ReferencePleProjWIdeal (hKernelPleProjWIdeal := hKernelPleProjWIdeal) (hReferencePleProjWIdeal := hReferencePleProjWIdeal)
    ∧ preserves_KernelPleD_KernelPleDIdeal
    ∧ algebraic_KernelPleDIdeal_ReferencePleDIdeal (hKernelPleDIdeal := hKernelPleDIdeal) (hReferencePleDIdeal := hReferencePleDIdeal)
    ∧ preserves_KernelLoss_KernelLossIdeal
    ∧ algebraic_KernelLossIdeal_ReferenceLossIdeal (hKernelLossIdeal := hKernelLossIdeal) (hReferenceLossIdeal := hReferenceLossIdeal)
    ∧ preserves_KernelGateF_KernelGateFIdeal
    ∧ algebraic_KernelGateFIdeal_ReferenceGateFIdeal (hKernelGateFIdeal := hKernelGateFIdeal) (hReferenceGateFIdeal := hReferenceGateFIdeal)
    ∧ preserves_KernelGateD_KernelGateDIdeal
    ∧ algebraic_KernelGateDIdeal_ReferenceGateDIdeal (hKernelGateDIdeal := hKernelGateDIdeal) (hReferenceGateDIdeal := hReferenceGateDIdeal)
    ∧ preserves_KernelGateW_KernelGateWIdeal
    ∧ algebraic_KernelGateWIdeal_ReferenceGateWIdeal (hKernelGateWIdeal := hKernelGateWIdeal) (hReferenceGateWIdeal := hReferenceGateWIdeal)
    ∧ preserves_KernelAdamNormMix_KernelAdamNormMixIdeal
    ∧ algebraic_KernelAdamNormMixIdeal_ReferenceAdamNormMixIdeal (hKernelAdamNormMixIdeal := hKernelAdamNormMixIdeal) (hReferenceAdamNormMixIdeal := hReferenceAdamNormMixIdeal)
    ∧ preserves_KernelAdamQkv_KernelAdamQkvIdeal
    ∧ algebraic_KernelAdamQkvIdeal_ReferenceAdamQkvIdeal (hKernelAdamQkvIdeal := hKernelAdamQkvIdeal) (hReferenceAdamQkvIdeal := hReferenceAdamQkvIdeal)
    ∧ preserves_KernelAdamAttnO_KernelAdamAttnOIdeal
    ∧ algebraic_KernelAdamAttnOIdeal_ReferenceAdamAttnOIdeal (hKernelAdamAttnOIdeal := hKernelAdamAttnOIdeal) (hReferenceAdamAttnOIdeal := hReferenceAdamAttnOIdeal)
    ∧ preserves_KernelAdamRnnIn_KernelAdamRnnInIdeal
    ∧ algebraic_KernelAdamRnnInIdeal_ReferenceAdamRnnInIdeal (hKernelAdamRnnInIdeal := hKernelAdamRnnInIdeal) (hReferenceAdamRnnInIdeal := hReferenceAdamRnnInIdeal)
    ∧ preserves_KernelAdamRnnConv_KernelAdamRnnConvIdeal
    ∧ algebraic_KernelAdamRnnConvIdeal_ReferenceAdamRnnConvIdeal (hKernelAdamRnnConvIdeal := hKernelAdamRnnConvIdeal) (hReferenceAdamRnnConvIdeal := hReferenceAdamRnnConvIdeal)
    ∧ preserves_KernelAdamRnnVec_KernelAdamRnnVecIdeal
    ∧ algebraic_KernelAdamRnnVecIdeal_ReferenceAdamRnnVecIdeal (hKernelAdamRnnVecIdeal := hKernelAdamRnnVecIdeal) (hReferenceAdamRnnVecIdeal := hReferenceAdamRnnVecIdeal)
    ∧ preserves_KernelAdamGate_KernelAdamGateIdeal
    ∧ algebraic_KernelAdamGateIdeal_ReferenceAdamGateIdeal (hKernelAdamGateIdeal := hKernelAdamGateIdeal) (hReferenceAdamGateIdeal := hReferenceAdamGateIdeal)
    ∧ preserves_KernelAdamRnnOut_KernelAdamRnnOutIdeal
    ∧ algebraic_KernelAdamRnnOutIdeal_ReferenceAdamRnnOutIdeal (hKernelAdamRnnOutIdeal := hKernelAdamRnnOutIdeal) (hReferenceAdamRnnOutIdeal := hReferenceAdamRnnOutIdeal)
    ∧ preserves_KernelAdamFfnUp_KernelAdamFfnUpIdeal
    ∧ algebraic_KernelAdamFfnUpIdeal_ReferenceAdamFfnUpIdeal (hKernelAdamFfnUpIdeal := hKernelAdamFfnUpIdeal) (hReferenceAdamFfnUpIdeal := hReferenceAdamFfnUpIdeal)
    ∧ preserves_KernelAdamFfnConv_KernelAdamFfnConvIdeal
    ∧ algebraic_KernelAdamFfnConvIdeal_ReferenceAdamFfnConvIdeal (hKernelAdamFfnConvIdeal := hKernelAdamFfnConvIdeal) (hReferenceAdamFfnConvIdeal := hReferenceAdamFfnConvIdeal)
    ∧ preserves_KernelAdamFfnBias_KernelAdamFfnBiasIdeal
    ∧ algebraic_KernelAdamFfnBiasIdeal_ReferenceAdamFfnBiasIdeal (hKernelAdamFfnBiasIdeal := hKernelAdamFfnBiasIdeal) (hReferenceAdamFfnBiasIdeal := hReferenceAdamFfnBiasIdeal)
    ∧ preserves_KernelAdamFfnDown_KernelAdamFfnDownIdeal
    ∧ algebraic_KernelAdamFfnDownIdeal_ReferenceAdamFfnDownIdeal (hKernelAdamFfnDownIdeal := hKernelAdamFfnDownIdeal) (hReferenceAdamFfnDownIdeal := hReferenceAdamFfnDownIdeal)
    ∧ preserves_KernelAdamPleGate_KernelAdamPleGateIdeal
    ∧ algebraic_KernelAdamPleGateIdeal_ReferenceAdamPleGateIdeal (hKernelAdamPleGateIdeal := hKernelAdamPleGateIdeal) (hReferenceAdamPleGateIdeal := hReferenceAdamPleGateIdeal)
    ∧ preserves_KernelAdamPleProj_KernelAdamPleProjIdeal
    ∧ algebraic_KernelAdamPleProjIdeal_ReferenceAdamPleProjIdeal (hKernelAdamPleProjIdeal := hKernelAdamPleProjIdeal) (hReferenceAdamPleProjIdeal := hReferenceAdamPleProjIdeal)
    ∧ preserves_KernelAdamNormFinal_KernelAdamNormFinalIdeal
    ∧ algebraic_KernelAdamNormFinalIdeal_ReferenceAdamNormFinalIdeal (hKernelAdamNormFinalIdeal := hKernelAdamNormFinalIdeal) (hReferenceAdamNormFinalIdeal := hReferenceAdamNormFinalIdeal)
-- ==== Pre_finite.lean ====
abbrev S8192x3072 : Shape := ⟨2, ![8192, 3072]⟩
abbrev S8192x1024 : Shape := ⟨2, ![8192, 1024]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x3072 .bf16) (main_arg1 : FVec F S8192x1024 .bf16) : IVec S_ 1 :=
  let main_v0 : FVec F S8192x3072 .bf16 := Host.absf main_arg0
  let main_cst : FVec F S_ .bf16 := constant S_ .bf16 0x7F80#16
  let main_v1 : FVec F S8192x3072 .bf16 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x3072 : Shape := ⟨2, ![8192, 3072]⟩
abbrev S8192x1024 : Shape := ⟨2, ![8192, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x8x2x8x256 : Shape := ⟨5, ![4, 8, 2, 8, 256]⟩
abbrev S4x8x8x2x256 : Shape := ⟨5, ![4, 8, 8, 2, 256]⟩
abbrev S4x8x8x2x1x256 : Shape := ⟨6, ![4, 8, 8, 2, 1, 256]⟩
abbrev S4x8x8x2x8x256 : Shape := ⟨6, ![4, 8, 8, 2, 8, 256]⟩
abbrev S4x8x8x16x256 : Shape := ⟨5, ![4, 8, 8, 16, 256]⟩
abbrev S256x128 : Shape := ⟨2, ![256, 128]⟩
abbrev S2048x128 : Shape := ⟨2, ![2048, 128]⟩
abbrev S1x1x1x16x256 : Shape := ⟨5, ![1, 1, 1, 16, 256]⟩
abbrev S256x256 : Shape := ⟨2, ![256, 256]⟩
abbrev S256x64 : Shape := ⟨2, ![256, 64]⟩
abbrev S1x1x1x1x256 : Shape := ⟨5, ![1, 1, 1, 1, 256]⟩
abbrev S1x256 : Shape := ⟨2, ![1, 256]⟩

abbrev nBuf : Space → Nat
  | .hbm => 53
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S4x2048x16x64, .f32⟩
  | .hbm, ⟨7, _⟩ => ⟨S4x16x2048x64, .f32⟩
  | .hbm, ⟨8, _⟩ => ⟨S4x2048x16x64, .f32⟩
  | .hbm, ⟨9, _⟩ => ⟨S4x16x2048x64, .f32⟩
  | .hbm, ⟨10, _⟩ => ⟨S4x16x2048x2048, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S_, .f32⟩
  | .hbm, ⟨40, _⟩ => ⟨S4x16x2048x2048, .i1⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x8x2x8x256, .f32⟩
  | .hbm, ⟨46, _⟩ => ⟨S4x8x8x2x256, .f32⟩
  | .hbm, ⟨47, _⟩ => ⟨S4x8x8x2x1x256, .f32⟩
  | .hbm, ⟨48, _⟩ => ⟨S4x8x8x2x8x256, .f32⟩
  | .hbm, ⟨49, _⟩ => ⟨S4x8x8x16x256, .f32⟩
  | .hbm, ⟨50, _⟩ => ⟨S8192x1024, .f32⟩
  | .hbm, ⟨51, _⟩ => ⟨S8192x1024, .f32⟩
  | .hbm, ⟨52, _⟩ => ⟨S8192x1024, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x1x16x256, .f32⟩
  | .local _ .vmem, ⟨7, _⟩ => ⟨S1x1x1x16x256, .f32⟩
  | .local _ .vmem, ⟨8, _⟩ => ⟨S256x128, .bf16⟩
  | .local _ .vmem, ⟨9, _⟩ => ⟨S256x128, .bf16⟩
  | .local _ .vmem, ⟨10, _⟩ => ⟨S256x128, .f32⟩
  | .local _ .vmem, ⟨11, _⟩ => ⟨S256x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 8], ![false, false, false]⟩

@[reducible] def k0_t1_loop (i : grid0.Coords) : Scf.Loop 32 :=
  let c0_i32_25 : BitVec 32 := 0#32
  let arg2 : BitVec 32 := BitVec.ofNat 32 (i 2).val
  let c0_i32_20 : BitVec 32 := 0#32
  let v34 : BitVec 1 := Scalar.cmpi .sgt arg2 c0_i32_20
  let v35 : BitVec 32 := Scalar.extui v34
  let c0_i32_21 : BitVec 32 := 0#32
  let v36 : BitVec 1 := Scalar.cmpi .slt arg2 c0_i32_21
  let v37 : BitVec 32 := Scalar.extui v36
  let v38 : BitVec 32 := Scalar.subi v35 v37
  let c2_i32 : BitVec 32 := 2#32
  let c0_i32_22 : BitVec 32 := 0#32
  let v39 : BitVec 1 := Scalar.cmpi .sgt c2_i32 c0_i32_22
  let v40 : BitVec 32 := Scalar.extui v39
  let c0_i32_23 : BitVec 32 := 0#32
  let v41 : BitVec 1 := Scalar.cmpi .slt c2_i32 c0_i32_23
  let v42 : BitVec 32 := Scalar.extui v41
  let v43 : BitVec 32 := Scalar.subi v40 v42
  let v44 : BitVec 1 := Scalar.cmpi .ne v38 v43
  let v45 : BitVec 32 := Scalar.remsi arg2 c2_i32
  let c0_i32_24 : BitVec 32 := 0#32
  let v46 : BitVec 1 := Scalar.cmpi .ne v45 c0_i32_24
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_27 : BitVec 32 := 1#32
  ⟨c0_i32_25, v54, c1_i32_27⟩
def k0_mult1 (i : grid0.Coords) (k0_t1 : Fin (k0_t1_loop i).trips) : BitVec 32 :=
  let c2_i32_43 : BitVec 32 := 2#32
  let c0_i32_25 : BitVec 32 := 0#32
  let c1_i32_27 : BitVec 32 := 1#32
  let arg11 : BitVec 32 := Scf.iv c0_i32_25 c1_i32_27 k0_t1
  let v77 : BitVec 32 := Scalar.muli c2_i32_43 arg11
  let c256_i32 : BitVec 32 := 256#32
  let v80 : BitVec 32 := Scalar.muli v77 c256_i32
  v80
def k0_mult2 (i : grid0.Coords) (k0_t1 : Fin (k0_t1_loop i).trips) : BitVec 32 :=
  let c2_i32_44 : BitVec 32 := 2#32
  let c0_i32_25 : BitVec 32 := 0#32
  let c1_i32_27 : BitVec 32 := 1#32
  let arg11 : BitVec 32 := Scf.iv c0_i32_25 c1_i32_27 k0_t1
  let v78 : BitVec 32 := Scalar.muli c2_i32_44 arg11
  let c1_i32_45 : BitVec 32 := 1#32
  let v79 : BitVec 32 := Scalar.addi v78 c1_i32_45
  let c256_i32_46 : BitVec 32 := 256#32
  let v82 : BitVec 32 := Scalar.muli v79 c256_i32_46
  v82
def k0_off1 (i : grid0.Coords) (k0_t1 : Fin (k0_t1_loop i).trips) : Fin 2 → Nat :=
  let c2_i32_43 : BitVec 32 := 2#32
  let c0_i32_25 : BitVec 32 := 0#32
  let c1_i32_27 : BitVec 32 := 1#32
  let arg11 : BitVec 32 := Scf.iv c0_i32_25 c1_i32_27 k0_t1
  let v77 : BitVec 32 := Scalar.muli c2_i32_43 arg11
  let c256_i32 : BitVec 32 := 256#32
  let v80 : BitVec 32 := Scalar.muli v77 c256_i32
  let v81 : BitVec 32 := v80
  let v84 : Index := Scalar.indexCast v81
  let c0_47 : Index := 0#32
  ![v84.toNat, 0]
def k0_off2 (i : grid0.Coords) (k0_t1 : Fin (k0_t1_loop i).trips) : Fin 2 → Nat :=
  let c2_i32_43 : BitVec 32 := 2#32
  let c0_i32_25 : BitVec 32 := 0#32
  let c1_i32_27 : BitVec 32 := 1#32
  let arg11 : BitVec 32 := Scf.iv c0_i32_25 c1_i32_27 k0_t1
  let v77 : BitVec 32 := Scalar.muli c2_i32_43 arg11
  let c256_i32 : BitVec 32 := 256#32
  let v80 : BitVec 32 := Scalar.muli v77 c256_i32
  let v81 : BitVec 32 := v80
  let v86 : Index := Scalar.indexCast v81
  let c64_48 : Index := 64#32
  ![v86.toNat, 64]
def k0_off3 (i : grid0.Coords) (k0_t1 : Fin (k0_t1_loop i).trips) : Fin 2 → Nat :=
  let c2_i32_44 : BitVec 32 := 2#32
  let c0_i32_25 : BitVec 32 := 0#32
  let c1_i32_27 : BitVec 32 := 1#32
  let arg11 : BitVec 32 := Scf.iv c0_i32_25 c1_i32_27 k0_t1
  let v78 : BitVec 32 := Scalar.muli c2_i32_44 arg11
  let c1_i32_45 : BitVec 32 := 1#32
  let v79 : BitVec 32 := Scalar.addi v78 c1_i32_45
  let c256_i32_46 : BitVec 32 := 256#32
  let v82 : BitVec 32 := Scalar.muli v79 c256_i32_46
  let v83 : BitVec 32 := v82
  let v88 : Index := Scalar.indexCast v83
  let c0_49 : Index := 0#32
  ![v88.toNat, 0]
def k0_off4 (i : grid0.Coords) (k0_t1 : Fin (k0_t1_loop i).trips) : Fin 2 → Nat :=
  let c2_i32_44 : BitVec 32 := 2#32
  let c0_i32_25 : BitVec 32 := 0#32
  let c1_i32_27 : BitVec 32 := 1#32
  let arg11 : BitVec 32 := Scf.iv c0_i32_25 c1_i32_27 k0_t1
  let v78 : BitVec 32 := Scalar.muli c2_i32_44 arg11
  let c1_i32_45 : BitVec 32 := 1#32
  let v79 : BitVec 32 := Scalar.addi v78 c1_i32_45
  let c256_i32_46 : BitVec 32 := 256#32
  let v82 : BitVec 32 := Scalar.muli v79 c256_i32_46
  let v83 : BitVec 32 := v82
  let v90 : Index := Scalar.indexCast v83
  let c64_50 : Index := 64#32
  ![v90.toNat, 64]
@[reducible] def k0_t2_loop (i : grid0.Coords) : Scf.Loop 32 :=
  let c0_i32_25 : BitVec 32 := 0#32
  let arg2 : BitVec 32 := BitVec.ofNat 32 (i 2).val
  let c0_i32_20 : BitVec 32 := 0#32
  let v34 : BitVec 1 := Scalar.cmpi .sgt arg2 c0_i32_20
  let v35 : BitVec 32 := Scalar.extui v34
  let c0_i32_21 : BitVec 32 := 0#32
  let v36 : BitVec 1 := Scalar.cmpi .slt arg2 c0_i32_21
  let v37 : BitVec 32 := Scalar.extui v36
  let v38 : BitVec 32 := Scalar.subi v35 v37
  let c2_i32 : BitVec 32 := 2#32
  let c0_i32_22 : BitVec 32 := 0#32
  let v39 : BitVec 1 := Scalar.cmpi .sgt c2_i32 c0_i32_22
  let v40 : BitVec 32 := Scalar.extui v39
  let c0_i32_23 : BitVec 32 := 0#32
  let v41 : BitVec 1 := Scalar.cmpi .slt c2_i32 c0_i32_23
  let v42 : BitVec 32 := Scalar.extui v41
  let v43 : BitVec 32 := Scalar.subi v40 v42
  let v44 : BitVec 1 := Scalar.cmpi .ne v38 v43
  let v45 : BitVec 32 := Scalar.remsi arg2 c2_i32
  let c0_i32_24 : BitVec 32 := 0#32
  let v46 : BitVec 1 := Scalar.cmpi .ne v45 c0_i32_24
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let v51 : BitVec 32 := Scalar.addi c0_i32_25 v50
  let c1_i32_28 : BitVec 32 := 1#32
  ⟨v54, v51, c1_i32_28⟩
def k0_mult3 (i : grid0.Coords) (k0_t2 : Fin (k0_t2_loop i).trips) : BitVec 32 :=
  let c2_i32_43 : BitVec 32 := 2#32
  let c0_i32_25 : BitVec 32 := 0#32
  let arg2 : BitVec 32 := BitVec.ofNat 32 (i 2).val
  let c0_i32_20 : BitVec 32 := 0#32
  let v34 : BitVec 1 := Scalar.cmpi .sgt arg2 c0_i32_20
  let v35 : BitVec 32 := Scalar.extui v34
  let c0_i32_21 : BitVec 32 := 0#32
  let v36 : BitVec 1 := Scalar.cmpi .slt arg2 c0_i32_21
  let v37 : BitVec 32 := Scalar.extui v36
  let v38 : BitVec 32 := Scalar.subi v35 v37
  let c2_i32 : BitVec 32 := 2#32
  let c0_i32_22 : BitVec 32 := 0#32
  let v39 : BitVec 1 := Scalar.cmpi .sgt c2_i32 c0_i32_22
  let v40 : BitVec 32 := Scalar.extui v39
  let c0_i32_23 : BitVec 32 := 0#32
  let v41 : BitVec 1 := Scalar.cmpi .slt c2_i32 c0_i32_23
  let v42 : BitVec 32 := Scalar.extui v41
  let v43 : BitVec 32 := Scalar.subi v40 v42
  let v44 : BitVec 1 := Scalar.cmpi .ne v38 v43
  let v45 : BitVec 32 := Scalar.remsi arg2 c2_i32
  let c0_i32_24 : BitVec 32 := 0#32
  let v46 : BitVec 1 := Scalar.cmpi .ne v45 c0_i32_24
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg11 : BitVec 32 := Scf.iv v54 c1_i32_28 k0_t2
  let v77 : BitVec 32 := Scalar.muli c2_i32_43 arg11
  let c256_i32 : BitVec 32 := 256#32
  let v80 : BitVec 32 := Scalar.muli v77 c256_i32
  v80
def k0_mult4 (i : grid0.Coords) (k0_t2 : Fin (k0_t2_loop i).trips) : BitVec 32 :=
  let c2_i32_44 : BitVec 32 := 2#32
  let c0_i32_25 : BitVec 32 := 0#32
  let arg2 : BitVec 32 := BitVec.ofNat 32 (i 2).val
  let c0_i32_20 : BitVec 32 := 0#32
  let v34 : BitVec 1 := Scalar.cmpi .sgt arg2 c0_i32_20
  let v35 : BitVec 32 := Scalar.extui v34
  let c0_i32_21 : BitVec 32 := 0#32
  let v36 : BitVec 1 := Scalar.cmpi .slt arg2 c0_i32_21
  let v37 : BitVec 32 := Scalar.extui v36
  let v38 : BitVec 32 := Scalar.subi v35 v37
  let c2_i32 : BitVec 32 := 2#32
  let c0_i32_22 : BitVec 32 := 0#32
  let v39 : BitVec 1 := Scalar.cmpi .sgt c2_i32 c0_i32_22
  let v40 : BitVec 32 := Scalar.extui v39
  let c0_i32_23 : BitVec 32 := 0#32
  let v41 : BitVec 1 := Scalar.cmpi .slt c2_i32 c0_i32_23
  let v42 : BitVec 32 := Scalar.extui v41
  let v43 : BitVec 32 := Scalar.subi v40 v42
  let v44 : BitVec 1 := Scalar.cmpi .ne v38 v43
  let v45 : BitVec 32 := Scalar.remsi arg2 c2_i32
  let c0_i32_24 : BitVec 32 := 0#32
  let v46 : BitVec 1 := Scalar.cmpi .ne v45 c0_i32_24
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg11 : BitVec 32 := Scf.iv v54 c1_i32_28 k0_t2
  let v78 : BitVec 32 := Scalar.muli c2_i32_44 arg11
  let c1_i32_45 : BitVec 32 := 1#32
  let v79 : BitVec 32 := Scalar.addi v78 c1_i32_45
  let c256_i32_46 : BitVec 32 := 256#32
  let v82 : BitVec 32 := Scalar.muli v79 c256_i32_46
  v82
def k0_off5 (i : grid0.Coords) (k0_t2 : Fin (k0_t2_loop i).trips) : Fin 2 → Nat :=
  let c2_i32_43 : BitVec 32 := 2#32
  let c0_i32_25 : BitVec 32 := 0#32
  let arg2 : BitVec 32 := BitVec.ofNat 32 (i 2).val
  let c0_i32_20 : BitVec 32 := 0#32
  let v34 : BitVec 1 := Scalar.cmpi .sgt arg2 c0_i32_20
  let v35 : BitVec 32 := Scalar.extui v34
  let c0_i32_21 : BitVec 32 := 0#32
  let v36 : BitVec 1 := Scalar.cmpi .slt arg2 c0_i32_21
  let v37 : BitVec 32 := Scalar.extui v36
  let v38 : BitVec 32 := Scalar.subi v35 v37
  let c2_i32 : BitVec 32 := 2#32
  let c0_i32_22 : BitVec 32 := 0#32
  let v39 : BitVec 1 := Scalar.cmpi .sgt c2_i32 c0_i32_22
  let v40 : BitVec 32 := Scalar.extui v39
  let c0_i32_23 : BitVec 32 := 0#32
  let v41 : BitVec 1 := Scalar.cmpi .slt c2_i32 c0_i32_23
  let v42 : BitVec 32 := Scalar.extui v41
  let v43 : BitVec 32 := Scalar.subi v40 v42
  let v44 : BitVec 1 := Scalar.cmpi .ne v38 v43
  let v45 : BitVec 32 := Scalar.remsi arg2 c2_i32
  let c0_i32_24 : BitVec 32 := 0#32
  let v46 : BitVec 1 := Scalar.cmpi .ne v45 c0_i32_24
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg11 : BitVec 32 := Scf.iv v54 c1_i32_28 k0_t2
  let v77 : BitVec 32 := Scalar.muli c2_i32_43 arg11
  let c256_i32 : BitVec 32 := 256#32
  let v80 : BitVec 32 := Scalar.muli v77 c256_i32
  let v81 : BitVec 32 := v80
  let v84 : Index := Scalar.indexCast v81
  let c0_47 : Index := 0#32
  ![v84.toNat, 0]
def k0_off6 (i : grid0.Coords) (k0_t2 : Fin (k0_t2_loop i).trips) : Fin 2 → Nat :=
  let c2_i32_43 : BitVec 32 := 2#32
  let c0_i32_25 : BitVec 32 := 0#32
  let arg2 : BitVec 32 := BitVec.ofNat 32 (i 2).val
  let c0_i32_20 : BitVec 32 := 0#32
  let v34 : BitVec 1 := Scalar.cmpi .sgt arg2 c0_i32_20
  let v35 : BitVec 32 := Scalar.extui v34
  let c0_i32_21 : BitVec 32 := 0#32
  let v36 : BitVec 1 := Scalar.cmpi .slt arg2 c0_i32_21
  let v37 : BitVec 32 := Scalar.extui v36
  let v38 : BitVec 32 := Scalar.subi v35 v37
  let c2_i32 : BitVec 32 := 2#32
  let c0_i32_22 : BitVec 32 := 0#32
  let v39 : BitVec 1 := Scalar.cmpi .sgt c2_i32 c0_i32_22
  let v40 : BitVec 32 := Scalar.extui v39
  let c0_i32_23 : BitVec 32 := 0#32
  let v41 : BitVec 1 := Scalar.cmpi .slt c2_i32 c0_i32_23
  let v42 : BitVec 32 := Scalar.extui v41
  let v43 : BitVec 32 := Scalar.subi v40 v42
  let v44 : BitVec 1 := Scalar.cmpi .ne v38 v43
  let v45 : BitVec 32 := Scalar.remsi arg2 c2_i32
  let c0_i32_24 : BitVec 32 := 0#32
  let v46 : BitVec 1 := Scalar.cmpi .ne v45 c0_i32_24
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg11 : BitVec 32 := Scf.iv v54 c1_i32_28 k0_t2
  let v77 : BitVec 32 := Scalar.muli c2_i32_43 arg11
  let c256_i32 : BitVec 32 := 256#32
  let v80 : BitVec 32 := Scalar.muli v77 c256_i32
  let v81 : BitVec 32 := v80
  let v86 : Index := Scalar.indexCast v81
  let c64_48 : Index := 64#32
  ![v86.toNat, 64]
def k0_off7 (i : grid0.Coords) (k0_t2 : Fin (k0_t2_loop i).trips) : Fin 2 → Nat :=
  let c2_i32_44 : BitVec 32 := 2#32
  let c0_i32_25 : BitVec 32 := 0#32
  let arg2 : BitVec 32 := BitVec.ofNat 32 (i 2).val
  let c0_i32_20 : BitVec 32 := 0#32
  let v34 : BitVec 1 := Scalar.cmpi .sgt arg2 c0_i32_20
  let v35 : BitVec 32 := Scalar.extui v34
  let c0_i32_21 : BitVec 32 := 0#32
  let v36 : BitVec 1 := Scalar.cmpi .slt arg2 c0_i32_21
  let v37 : BitVec 32 := Scalar.extui v36
  let v38 : BitVec 32 := Scalar.subi v35 v37
  let c2_i32 : BitVec 32 := 2#32
  let c0_i32_22 : BitVec 32 := 0#32
  let v39 : BitVec 1 := Scalar.cmpi .sgt c2_i32 c0_i32_22
  let v40 : BitVec 32 := Scalar.extui v39
  let c0_i32_23 : BitVec 32 := 0#32
  let v41 : BitVec 1 := Scalar.cmpi .slt c2_i32 c0_i32_23
  let v42 : BitVec 32 := Scalar.extui v41
  let v43 : BitVec 32 := Scalar.subi v40 v42
  let v44 : BitVec 1 := Scalar.cmpi .ne v38 v43
  let v45 : BitVec 32 := Scalar.remsi arg2 c2_i32
  let c0_i32_24 : BitVec 32 := 0#32
  let v46 : BitVec 1 := Scalar.cmpi .ne v45 c0_i32_24
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg11 : BitVec 32 := Scf.iv v54 c1_i32_28 k0_t2
  let v78 : BitVec 32 := Scalar.muli c2_i32_44 arg11
  let c1_i32_45 : BitVec 32 := 1#32
  let v79 : BitVec 32 := Scalar.addi v78 c1_i32_45
  let c256_i32_46 : BitVec 32 := 256#32
  let v82 : BitVec 32 := Scalar.muli v79 c256_i32_46
  let v83 : BitVec 32 := v82
  let v88 : Index := Scalar.indexCast v83
  let c0_49 : Index := 0#32
  ![v88.toNat, 0]
def k0_off8 (i : grid0.Coords) (k0_t2 : Fin (k0_t2_loop i).trips) : Fin 2 → Nat :=
  let c2_i32_44 : BitVec 32 := 2#32
  let c0_i32_25 : BitVec 32 := 0#32
  let arg2 : BitVec 32 := BitVec.ofNat 32 (i 2).val
  let c0_i32_20 : BitVec 32 := 0#32
  let v34 : BitVec 1 := Scalar.cmpi .sgt arg2 c0_i32_20
  let v35 : BitVec 32 := Scalar.extui v34
  let c0_i32_21 : BitVec 32 := 0#32
  let v36 : BitVec 1 := Scalar.cmpi .slt arg2 c0_i32_21
  let v37 : BitVec 32 := Scalar.extui v36
  let v38 : BitVec 32 := Scalar.subi v35 v37
  let c2_i32 : BitVec 32 := 2#32
  let c0_i32_22 : BitVec 32 := 0#32
  let v39 : BitVec 1 := Scalar.cmpi .sgt c2_i32 c0_i32_22
  let v40 : BitVec 32 := Scalar.extui v39
  let c0_i32_23 : BitVec 32 := 0#32
  let v41 : BitVec 1 := Scalar.cmpi .slt c2_i32 c0_i32_23
  let v42 : BitVec 32 := Scalar.extui v41
  let v43 : BitVec 32 := Scalar.subi v40 v42
  let v44 : BitVec 1 := Scalar.cmpi .ne v38 v43
  let v45 : BitVec 32 := Scalar.remsi arg2 c2_i32
  let c0_i32_24 : BitVec 32 := 0#32
  let v46 : BitVec 1 := Scalar.cmpi .ne v45 c0_i32_24
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg11 : BitVec 32 := Scf.iv v54 c1_i32_28 k0_t2
  let v78 : BitVec 32 := Scalar.muli c2_i32_44 arg11
  let c1_i32_45 : BitVec 32 := 1#32
  let v79 : BitVec 32 := Scalar.addi v78 c1_i32_45
  let c256_i32_46 : BitVec 32 := 256#32
  let v82 : BitVec 32 := Scalar.muli v79 c256_i32_46
  let v83 : BitVec 32 := v82
  let v90 : Index := Scalar.indexCast v83
  let c64_50 : Index := 64#32
  ![v90.toNat, 64]
def k0_cond2 (i : grid0.Coords) : BitVec 1 :=
  let arg2 : BitVec 32 := BitVec.ofNat 32 (i 2).val
  let c2_i32_29 : BitVec 32 := 2#32
  let c0_i32_30 : BitVec 32 := 0#32
  let v57 : BitVec 1 := Scalar.cmpi .eq c2_i32_29 c0_i32_30
  let c1_i32_31 : BitVec 32 := 1#32
  let v58 : BitVec 32 := Scalar.select v57 c1_i32_31 c2_i32_29
  let v59 : BitVec 32 := Scalar.remsi arg2 v58
  let c0_i32_33 : BitVec 32 := 0#32
  let v61 : BitVec 1 := Scalar.cmpi .slt v59 c0_i32_33
  let c0_i32_34 : BitVec 32 := 0#32
  let v62 : BitVec 1 := Scalar.cmpi .slt v58 c0_i32_34
  let v63 : BitVec 1 := Scalar.xori v61 v62
  let c0_i32_32 : BitVec 32 := 0#32
  let v60 : BitVec 1 := Scalar.cmpi .ne v59 c0_i32_32
  let v64 : BitVec 1 := Scalar.andi v63 v60
  let v65 : BitVec 32 := Scalar.addi v59 v58
  let v66 : BitVec 32 := Scalar.select v64 v65 v59
  let c1_i32_35 : BitVec 32 := 1#32
  let v67 : BitVec 1 := Scalar.cmpi .eq v66 c1_i32_35
  let v68 : BitVec 32 := Scalar.extui v67
  let c0_i32_36 : BitVec 32 := 0#32
  let v69 : BitVec 1 := Scalar.cmpi .ne v68 c0_i32_36
  v69

def k0_mult5 (i : grid0.Coords) : BitVec 32 :=
  let arg2 : BitVec 32 := BitVec.ofNat 32 (i 2).val
  let c1_i32_43 : BitVec 32 := 1#32
  let v77 : BitVec 32 := Scalar.subi arg2 c1_i32_43
  let c256_i32 : BitVec 32 := 256#32
  let v78 : BitVec 32 := Scalar.muli v77 c256_i32
  v78
def k0_mult6 (i : grid0.Coords) : BitVec 32 :=
  let arg2 : BitVec 32 := BitVec.ofNat 32 (i 2).val
  let c256_i32_44 : BitVec 32 := 256#32
  let v80 : BitVec 32 := Scalar.muli arg2 c256_i32_44
  v80
def k0_off9 (i : grid0.Coords) : Fin 2 → Nat :=
  let arg2 : BitVec 32 := BitVec.ofNat 32 (i 2).val
  let c1_i32_43 : BitVec 32 := 1#32
  let v77 : BitVec 32 := Scalar.subi arg2 c1_i32_43
  let c256_i32 : BitVec 32 := 256#32
  let v78 : BitVec 32 := Scalar.muli v77 c256_i32
  let v79 : BitVec 32 := v78
  let v82 : Index := Scalar.indexCast v79
  let c0_45 : Index := 0#32
  ![v82.toNat, 0]
def k0_off10 (i : grid0.Coords) : Fin 2 → Nat :=
  let arg2 : BitVec 32 := BitVec.ofNat 32 (i 2).val
  let c1_i32_43 : BitVec 32 := 1#32
  let v77 : BitVec 32 := Scalar.subi arg2 c1_i32_43
  let c256_i32 : BitVec 32 := 256#32
  let v78 : BitVec 32 := Scalar.muli v77 c256_i32
  let v79 : BitVec 32 := v78
  let v84 : Index := Scalar.indexCast v79
  let c64_46 : Index := 64#32
  ![v84.toNat, 64]
def k0_off11 (i : grid0.Coords) : Fin 2 → Nat :=
  let arg2 : BitVec 32 := BitVec.ofNat 32 (i 2).val
  let c256_i32_44 : BitVec 32 := 256#32
  let v80 : BitVec 32 := Scalar.muli arg2 c256_i32_44
  let v81 : BitVec 32 := v80
  let v86 : Index := Scalar.indexCast v81
  let c0_47 : Index := 0#32
  ![v86.toNat, 0]
def k0_off12 (i : grid0.Coords) : Fin 2 → Nat :=
  let arg2 : BitVec 32 := BitVec.ofNat 32 (i 2).val
  let c256_i32_44 : BitVec 32 := 256#32
  let v80 : BitVec 32 := Scalar.muli arg2 c256_i32_44
  let v81 : BitVec 32 := v80
  let v88 : Index := Scalar.indexCast v81
  let c64_48 : Index := 64#32
  ![v88.toNat, 64]
def k0_mult7 (i : grid0.Coords) : BitVec 32 :=
  let arg2 : BitVec 32 := BitVec.ofNat 32 (i 2).val
  let c256_i32 : BitVec 32 := 256#32
  let v77 : BitVec 32 := Scalar.muli arg2 c256_i32
  v77
def k0_off13 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v79 : Index := Scalar.indexCast v78
  let c0_43 : Index := 0#32
  ![v79.toNat, 0]
def k0_off14 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v81 : Index := Scalar.indexCast v78
  let c64_44 : Index := 64#32
  ![v81.toNat, 64]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S8192x3072 : Shape := ⟨2, ![8192, 3072]⟩
abbrev S8192x1024 : Shape := ⟨2, ![8192, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x64x2048 : Shape := ⟨4, ![4, 16, 64, 2048]⟩

abbrev nBuf : Space → Nat
  | .hbm => 180
  | .vmem => 0
  | .smem => 0
  | _ => 0

abbrev hbmTy0_0 (i : Nat) : BufTy := match i % 128 with
  | 0 => ⟨S8192x3072, .bf16⟩
  | 1 => ⟨S8192x1024, .bf16⟩
  | 2 => ⟨S8192x3072, .f32⟩
  | 3 => ⟨S8192x1024, .f32⟩
  | 4 => ⟨S8192x1024, .f32⟩
  | 5 => ⟨S8192x1024, .f32⟩
  | 6 => ⟨S4x2048x16x64, .f32⟩
  | 7 => ⟨S4x16x2048x64, .f32⟩
  | 8 => ⟨S4x2048x16x64, .f32⟩
  | 9 => ⟨S4x16x2048x64, .f32⟩
  | 10 => ⟨S4x2048x16x64, .f32⟩
  | 11 => ⟨S4x16x2048x64, .f32⟩
  | 12 => ⟨S4x16x2048x2048, .f32⟩
  | 13 => ⟨S_, .f32⟩
  | 14 => ⟨S4x16x2048x2048, .f32⟩
  | 15 => ⟨S4x16x2048x2048, .f32⟩
  | 16 => ⟨S2048, .i32⟩
  | 17 => ⟨S1x2048, .i32⟩
  | 18 => ⟨S2048, .i32⟩
  | 19 => ⟨S2048x1, .i32⟩
  | 20 => ⟨S2048x2048, .i32⟩
  | 21 => ⟨S2048x2048, .i32⟩
  | 22 => ⟨S2048x2048, .i1⟩
  | 23 => ⟨S4x16x2048x2048, .f32⟩
  | 24 => ⟨S4x16x2048x2048, .f32⟩
  | 25 => ⟨S_, .f32⟩
  | 26 => ⟨S4x16x2048x2048, .f32⟩
  | 27 => ⟨S4x16x2048x2048, .f32⟩
  | 28 => ⟨S4x16x2048x2048, .f32⟩
  | 29 => ⟨S4x16x2048x2048, .f32⟩
  | 30 => ⟨S4x16x2048x2048, .i1⟩
  | 31 => ⟨S4x16x2048x2048, .f32⟩
  | 32 => ⟨S4x16x2048x2048, .f32⟩
  | 33 => ⟨S4x16x2048x2048, .f32⟩
  | 34 => ⟨S4x16x2048x2048, .f32⟩
  | 35 => ⟨S4x16x2048x2048, .f32⟩
  | 36 => ⟨S4x16x2048x2048, .f32⟩
  | 37 => ⟨S4x16x2048x2048, .f32⟩
  | 38 => ⟨S4x16x2048x2048, .f32⟩
  | 39 => ⟨S_, .f32⟩
  | 40 => ⟨S4x16x2048x2048, .f32⟩
  | 41 => ⟨S4x16x2048x2048, .i1⟩
  | 42 => ⟨S_, .f32⟩
  | 43 => ⟨S4x16x2048x2048, .f32⟩
  | 44 => ⟨S4x16x2048x2048, .f32⟩
  | 45 => ⟨S_, .f32⟩
  | 46 => ⟨S4x16x2048x2048, .f32⟩
  | 47 => ⟨S4x16x2048x2048, .i1⟩
  | 48 => ⟨S_, .f32⟩
  | 49 => ⟨S4x16x2048x2048, .f32⟩
  | 50 => ⟨S4x16x2048x2048, .f32⟩
  | 51 => ⟨S4x16x2048x2048, .f32⟩
  | 52 => ⟨S4x16x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S4x16x2048x2048, .f32⟩
  | 61 => ⟨S4x16x2048x2048, .i1⟩
  | 62 => ⟨S_, .f32⟩
  | 63 => ⟨S4x16x2048x2048, .f32⟩
  | 64 => ⟨S4x16x2048x2048, .f32⟩
  | 65 => ⟨S4x16x2048x2048, .f32⟩
  | 66 => ⟨S4x16x2048x2048, .f32⟩
  | 67 => ⟨S4x16x2048x2048, .f32⟩
  | 68 => ⟨S_, .f32⟩
  | 69 => ⟨S4x16x2048x2048, .f32⟩
  | 70 => ⟨S4x16x2048x2048, .f32⟩
  | 71 => ⟨S4x16x2048x2048, .f32⟩
  | 72 => ⟨S_, .f32⟩
  | 73 => ⟨S_, .f32⟩
  | 74 => ⟨S4x16x2048x2048, .i1⟩
  | 75 => ⟨S4x16x2048x2048, .f32⟩
  | 76 => ⟨S4x16x2048x2048, .f32⟩
  | 77 => ⟨S_, .f32⟩
  | 78 => ⟨S4x16x2048x2048, .f32⟩
  | 79 => ⟨S_, .f32⟩
  | 80 => ⟨S_, .f32⟩
  | 81 => ⟨S4x16x2048x2048, .f32⟩
  | 82 => ⟨S4x16x2048x2048, .f32⟩
  | 83 => ⟨S4x16x2048x2048, .f32⟩
  | 84 => ⟨S_, .f32⟩
  | 85 => ⟨S4x16x2048x2048, .f32⟩
  | 86 => ⟨S4x16x2048x2048, .f32⟩
  | 87 => ⟨S4x16x2048x2048, .f32⟩
  | 88 => ⟨S4x16x2048x2048, .f32⟩
  | 89 => ⟨S4x16x2048x2048, .i1⟩
  | 90 => ⟨S4x16x2048x2048, .f32⟩
  | 91 => ⟨S4x16x2048x2048, .f32⟩
  | 92 => ⟨S4x16x2048x2048, .f32⟩
  | 93 => ⟨S4x16x2048x2048, .f32⟩
  | 94 => ⟨S4x16x2048x2048, .f32⟩
  | 95 => ⟨S4x16x2048x2048, .f32⟩
  | 96 => ⟨S4x16x2048x2048, .f32⟩
  | 97 => ⟨S4x16x2048x2048, .f32⟩
  | 98 => ⟨S_, .f32⟩
  | 99 => ⟨S4x16x2048x2048, .f32⟩
  | 100 => ⟨S4x16x2048x2048, .i1⟩
  | 101 => ⟨S_, .f32⟩
  | 102 => ⟨S4x16x2048x2048, .f32⟩
  | 103 => ⟨S4x16x2048x2048, .f32⟩
  | 104 => ⟨S_, .f32⟩
  | 105 => ⟨S4x16x2048x2048, .f32⟩
  | 106 => ⟨S4x16x2048x2048, .i1⟩
  | 107 => ⟨S_, .f32⟩
  | 108 => ⟨S4x16x2048x2048, .f32⟩
  | 109 => ⟨S4x16x2048x2048, .f32⟩
  | 110 => ⟨S4x16x2048x2048, .f32⟩
  | 111 => ⟨S4x16x2048x2048, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S4x16x2048x2048, .f32⟩
  | 120 => ⟨S4x16x2048x2048, .i1⟩
  | 121 => ⟨S_, .f32⟩
  | 122 => ⟨S4x16x2048x2048, .f32⟩
  | 123 => ⟨S4x16x2048x2048, .f32⟩
  | 124 => ⟨S4x16x2048x2048, .f32⟩
  | 125 => ⟨S4x16x2048x2048, .f32⟩
  | 126 => ⟨S4x16x2048x2048, .f32⟩
  | 127 => ⟨S_, .f32⟩
  | _ => ⟨S8192x3072, .bf16⟩

abbrev hbmTy0_1 (i : Nat) : BufTy := match i % 128 with
  | 0 => ⟨S4x16x2048x2048, .f32⟩
  | 1 => ⟨S4x16x2048x2048, .f32⟩
  | 2 => ⟨S4x16x2048x2048, .f32⟩
  | 3 => ⟨S4x16x2048x2048, .f32⟩
  | 4 => ⟨S4x16x2048x2048, .f32⟩
  | 5 => ⟨S_, .f32⟩
  | 6 => ⟨S_, .f32⟩
  | 7 => ⟨S4x16x2048x2048, .i1⟩
  | 8 => ⟨S4x16x2048x2048, .f32⟩
  | 9 => ⟨S4x16x2048x2048, .f32⟩
  | 10 => ⟨S_, .f32⟩
  | 11 => ⟨S4x16x2048x2048, .f32⟩
  | 12 => ⟨S4x16x2048x64, .f32⟩
  | 13 => ⟨S4x2048x16x64, .f32⟩
  | 14 => ⟨S8192x1024, .f32⟩
  | 15 => ⟨S8192x1024, .f32⟩
  | 16 => ⟨S4x2048x16x64, .f32⟩
  | 17 => ⟨S4x16x2048x64, .f32⟩
  | 18 => ⟨S4x16x64x2048, .f32⟩
  | 19 => ⟨S4x16x2048x64, .f32⟩
  | 20 => ⟨S4x16x2048x2048, .f32⟩
  | 21 => ⟨S_, .f32⟩
  | 22 => ⟨S4x16x2048x2048, .f32⟩
  | 23 => ⟨S4x16x2048x2048, .f32⟩
  | 24 => ⟨S4x16x2048x2048, .f32⟩
  | 25 => ⟨S4x16x2048x2048, .f32⟩
  | 26 => ⟨S4x16x2048x2048, .f32⟩
  | 27 => ⟨S4x16x2048x2048, .f32⟩
  | 28 => ⟨S4x16x2048x2048, .f32⟩
  | 29 => ⟨S_, .f32⟩
  | 30 => ⟨S_, .f32⟩
  | 31 => ⟨S4x16x2048x2048, .f32⟩
  | 32 => ⟨S4x16x2048x2048, .f32⟩
  | 33 => ⟨S_, .f32⟩
  | 34 => ⟨S4x16x2048x2048, .f32⟩
  | 35 => ⟨S4x16x2048x2048, .f32⟩
  | 36 => ⟨S4x16x2048x2048, .f32⟩
  | 37 => ⟨S4x16x2048x2048, .f32⟩
  | 38 => ⟨S4x16x2048x2048, .f32⟩
  | 39 => ⟨S4x16x2048x2048, .f32⟩
  | 40 => ⟨S4x16x2048x2048, .f32⟩
  | 41 => ⟨S_, .f32⟩
  | 42 => ⟨S4x16x2048x2048, .f32⟩
  | 43 => ⟨S4x16x2048x2048, .f32⟩
  | 44 => ⟨S4x16x2048x64, .f32⟩
  | 45 => ⟨S4x16x2048x64, .f32⟩
  | 46 => ⟨S4x2048x16x64, .f32⟩
  | 47 => ⟨S8192x1024, .f32⟩
  | 48 => ⟨S4x2048x16x64, .f32⟩
  | 49 => ⟨S8192x1024, .f32⟩
  | 50 => ⟨S4x2048x16x64, .f32⟩
  | 51 => ⟨S8192x1024, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_cst_0 : Ref sig .tc := ⟨.hbm, 72, rfl⟩
abbrev main_call1_v0 : Ref sig .tc := ⟨.hbm, 73, rfl⟩
abbrev main_v22_1 : Ref sig .tc := ⟨.hbm, 74, rfl⟩
abbrev main_call1_v2 : Ref sig .tc := ⟨.hbm, 75, rfl⟩
abbrev main_v22_0 : Ref sig .tc := ⟨.hbm, 76, rfl⟩
abbrev main_call1_cst : Ref sig .tc := ⟨.hbm, 77, rfl⟩
abbrev main_v22_2 : Ref sig .tc := ⟨.hbm, 78, rfl⟩
abbrev main_call2_cst : Ref sig .tc := ⟨.hbm, 79, rfl⟩
abbrev main_call2_v0 : Ref sig .tc := ⟨.hbm, 80, rfl⟩
abbrev main_v23 : Ref sig .tc := ⟨.hbm, 81, rfl⟩
abbrev main_v24 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v25_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v25_2 : Ref sig .tc := ⟨.hbm, 129, rfl⟩
abbrev main_v25_0 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_call6_v0 : Ref sig .tc := ⟨.hbm, 153, rfl⟩
abbrev main_call6_v1 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_v43 : Ref sig .tc := ⟨.hbm, 160, rfl⟩
abbrev main_call8_cst : Ref sig .tc := ⟨.hbm, 161, rfl⟩
abbrev main_call8_v0 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]
-- ==== KernelUp.lean ====
abbrev S8192x2816 : Shape := ⟨2, ![8192, 2816]⟩
abbrev S1024x5632 : Shape := ⟨2, ![1024, 5632]⟩
abbrev S8192x1024 : Shape := ⟨2, ![8192, 1024]⟩
abbrev S1024 : Shape := ⟨1, ![1024]⟩
abbrev S1024x2816 : Shape := ⟨2, ![1024, 2816]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1024x2816, .bf16⟩
  | .hbm, ⟨7, _⟩ => ⟨S1024x2816, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S1024x2816, .bf16⟩
  | .local _ .vmem, ⟨3, _⟩ => ⟨S256x2816, .bf16⟩
  | .local _ .vmem, ⟨4, _⟩ => ⟨S256x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_23 : BitVec 32 := 0#32
  let v44 : BitVec 1 := Scalar.cmpi .ne v43 c0_i32_23
  v44

def k0_cond2 (i : grid0.Coords) : BitVec 1 :=
  let arg0 : BitVec 32 := BitVec.ofNat 32 (i 0).val
  let c0_i32_24 : BitVec 32 := 0#32
  let v45 : BitVec 1 := Scalar.cmpi .sgt arg0 c0_i32_24
  let v46 : BitVec 32 := Scalar.extui v45
  let c0_i32_25 : BitVec 32 := 0#32
  let v47 : BitVec 1 := Scalar.cmpi .ne v46 c0_i32_25
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceUpIdeal.lean ====
abbrev S8192x2816 : Shape := ⟨2, ![8192, 2816]⟩
abbrev S1024x5632 : Shape := ⟨2, ![1024, 5632]⟩
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x5632, .bf16⟩
  | .hbm, ⟨7, _⟩ => ⟨S8192x5632, .f32⟩
  | .hbm, ⟨8, _⟩ => ⟨S1024x5632, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x5632, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== KernelUpW.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpWIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDownW.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownWIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDown.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | .hbm, ⟨7, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelNormUp.lean ====
abbrev S8192x1024 : Shape := ⟨2, ![8192, 1024]⟩
abbrev S1024 : Shape := ⟨1, ![1024]⟩
abbrev S1024x5632 : Shape := ⟨2, ![1024, 5632]⟩
abbrev S1024x2816 : Shape := ⟨2, ![1024, 2816]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S1024x2816, .bf16⟩
  | .hbm, ⟨4, _⟩ => ⟨S1x1024, .f32⟩
  | .hbm, ⟨5, _⟩ => ⟨S8192x2816, .bf16⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormUpIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩
abbrev S8192x2816 : Shape := ⟨2, ![8192, 2816]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x2816, .bf16⟩
  | .hbm, ⟨20, _⟩ => ⟨S1024x2816, .f32⟩
  | .hbm, ⟨21, _⟩ => ⟨S8192x2816, .f32⟩
  | .hbm, ⟨22, _⟩ => ⟨S8192x2816, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KernelUpV.lean ====
abbrev S8192x1024 : Shape := ⟨2, ![8192, 1024]⟩
abbrev S1024x5632 : Shape := ⟨2, ![1024, 5632]⟩
abbrev S1024x2816 : Shape := ⟨2, ![1024, 2816]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S1024x2816, .bf16⟩
  | .hbm, ⟨3, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpVIdeal.lean ====
abbrev S8192x1024 : Shape := ⟨2, ![8192, 1024]⟩
abbrev S1024x5632 : Shape := ⟨2, ![1024, 5632]⟩
abbrev S1024x2816 : Shape := ⟨2, ![1024, 2816]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x2816, .bf16⟩
  | .hbm, ⟨4, _⟩ => ⟨S1024x2816, .f32⟩
  | .hbm, ⟨5, _⟩ => ⟨S8192x2816, .f32⟩
  | .hbm, ⟨6, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDownF.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownFIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelNormQkv.lean ====
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .bf16⟩
  | .hbm, ⟨3, _⟩ => ⟨S1x1024, .f32⟩
  | .hbm, ⟨4, _⟩ => ⟨S8192x3072, .bf16⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormQkvIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x3072, .f32⟩
  | .hbm, ⟨20, _⟩ => ⟨S8192x3072, .f32⟩
  | .hbm, ⟨21, _⟩ => ⟨S8192x3072, .bf16⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelQkvW.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvWIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelQkvD.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_18 : BitVec 32 := 0#32
  let v38 : BitVec 1 := Scalar.cmpi .ne v37 c0_i32_18
  v38

def k0_cond2 (i : grid0.Coords) : BitVec 1 :=
  let arg0 : BitVec 32 := BitVec.ofNat 32 (i 0).val
  let c0_i32_19 : BitVec 32 := 0#32
  let v39 : BitVec 1 := Scalar.cmpi .sgt arg0 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceQkvDIdeal.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x3072, .f32⟩
  | .hbm, ⟨26, _⟩ => ⟨S8192x3072, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelNormRnn.lean ====
abbrev S8192x1024 : Shape := ⟨2, ![8192, 1024]⟩
abbrev S1024 : Shape := ⟨1, ![1024]⟩
abbrev S1024x2560 : Shape := ⟨2, ![1024, 2560]⟩
abbrev S1024x1280 : Shape := ⟨2, ![1024, 1280]⟩
abbrev S1x1024 : Shape := ⟨2, ![1, 1024]⟩
abbrev S8192x1280 : Shape := ⟨2, ![8192, 1280]⟩
abbrev S512x1024 : Shape := ⟨2, ![512, 1024]⟩
abbrev S512x1280 : Shape := ⟨2, ![512, 1280]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .bf16⟩
  | .hbm, ⟨3, _⟩ => ⟨S1024x1280, .bf16⟩
  | .hbm, ⟨4, _⟩ => ⟨S1x1024, .f32⟩
  | .hbm, ⟨5, _⟩ => ⟨S8192x1280, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S512x1280, .f32⟩
  | .local _ .vmem, ⟨5, _⟩ => ⟨S512x1280, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormRnnIdeal.lean ====
abbrev S8192x1024 : Shape := ⟨2, ![8192, 1024]⟩
abbrev S1024 : Shape := ⟨1, ![1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1280 : Shape := ⟨2, ![1024, 1280]⟩
abbrev S8192x1280 : Shape := ⟨2, ![8192, 1280]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x1280, .bf16⟩
  | .hbm, ⟨20, _⟩ => ⟨S1024x1280, .f32⟩
  | .hbm, ⟨21, _⟩ => ⟨S8192x1280, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelRecF.lean ====
abbrev S8192x1024 : Shape := ⟨2, ![8192, 1024]⟩
abbrev S1024x2560 : Shape := ⟨2, ![1024, 2560]⟩
abbrev S1024x1280 : Shape := ⟨2, ![1024, 1280]⟩
abbrev S8192x1280 : Shape := ⟨2, ![8192, 1280]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S1024x1280, .bf16⟩
  | .hbm, ⟨3, _⟩ => ⟨S8192x1280, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .f32⟩
  | .local _ .vmem, ⟨4, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceRecFIdeal.lean ====
abbrev S8192x1024 : Shape := ⟨2, ![8192, 1024]⟩
abbrev S1024x2560 : Shape := ⟨2, ![1024, 2560]⟩
abbrev S1024x1280 : Shape := ⟨2, ![1024, 1280]⟩
abbrev S8192x1280 : Shape := ⟨2, ![8192, 1280]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x1024, .f32⟩
  | .hbm, ⟨3, _⟩ => ⟨S1024x1280, .bf16⟩
  | .hbm, ⟨4, _⟩ => ⟨S1024x1280, .f32⟩
  | .hbm, ⟨5, _⟩ => ⟨S8192x1280, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelRnnInW.lean ====
abbrev S8192x1024 : Shape := ⟨2, ![8192, 1024]⟩
abbrev S8192x1280 : Shape := ⟨2, ![8192, 1280]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .bf16⟩
  | .hbm, ⟨2, _⟩ => ⟨S1024x1280, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceRnnInWIdeal.lean ====
abbrev S8192x1024 : Shape := ⟨2, ![8192, 1024]⟩
abbrev S8192x1280 : Shape := ⟨2, ![8192, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .bf16⟩
  | .hbm, ⟨2, _⟩ => ⟨S_, .f32⟩
  | .hbm, ⟨3, _⟩ => ⟨S1024x1280, .f32⟩
  | .hbm, ⟨4, _⟩ => ⟨S8192x1024, .f32⟩
  | .hbm, ⟨5, _⟩ => ⟨S8192x1280, .f32⟩
  | .hbm, ⟨6, _⟩ => ⟨S8192x1280, .f32⟩
  | .hbm, ⟨7, _⟩ => ⟨S1280x1024, .f32⟩
  | .hbm, ⟨8, _⟩ => ⟨S1024x1280, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelRnnInD.lean ====
abbrev S8192x1280 : Shape := ⟨2, ![8192, 1280]⟩
abbrev S1024x2560 : Shape := ⟨2, ![1024, 2560]⟩
abbrev S8192x1024 : Shape := ⟨2, ![8192, 1024]⟩
abbrev S1024 : Shape := ⟨1, ![1024]⟩
abbrev S1024x1280 : Shape := ⟨2, ![1024, 1280]⟩
abbrev S1x1024 : Shape := ⟨2, ![1, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1280, .bf16⟩
  | .hbm, ⟨1, _⟩ => ⟨S8192x1280, .bf16⟩
  | .hbm, ⟨2, _⟩ => ⟨S1024x2560, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1024x1280, .bf16⟩
  | .hbm, ⟨7, _⟩ => ⟨S1024x1280, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S1024x1280, .bf16⟩
  | .local _ .vmem, ⟨3, _⟩ => ⟨S512x1280, .bf16⟩
  | .local _ .vmem, ⟨4, _⟩ => ⟨S512x1280, .bf16⟩
  | .local _ .vmem, ⟨5, _⟩ => ⟨S1024x1280, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_23 : BitVec 32 := 0#32
  let v44 : BitVec 1 := Scalar.cmpi .ne v43 c0_i32_23
  v44

def k0_cond2 (i : grid0.Coords) : BitVec 1 :=
  let arg0 : BitVec 32 := BitVec.ofNat 32 (i 0).val
  let c0_i32_24 : BitVec 32 := 0#32
  let v45 : BitVec 1 := Scalar.cmpi .sgt arg0 c0_i32_24
  let v46 : BitVec 32 := Scalar.extui v45
  let c0_i32_25 : BitVec 32 := 0#32
  let v47 : BitVec 1 := Scalar.cmpi .ne v46 c0_i32_25
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceRnnInDIdeal.lean ====
abbrev S8192x1280 : Shape := ⟨2, ![8192, 1280]⟩
abbrev S1024x2560 : Shape := ⟨2, ![1024, 2560]⟩
abbrev S8192x1024 : Shape := ⟨2, ![8192, 1024]⟩
abbrev S1024 : Shape := ⟨1, ![1024]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1280, .bf16⟩
  | .hbm, ⟨2, _⟩ => ⟨S1024x2560, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x2560, .bf16⟩
  | .hbm, ⟨7, _⟩ => ⟨S8192x2560, .f32⟩
  | .hbm, ⟨8, _⟩ => ⟨S1024x2560, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2560, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== KernelNormPle.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .bf16⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormPleIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelPleGateW.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferencePleGateWIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelPleGateD.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_18 : BitVec 32 := 0#32
  let v38 : BitVec 1 := Scalar.cmpi .ne v37 c0_i32_18
  v38

def k0_cond2 (i : grid0.Coords) : BitVec 1 :=
  let arg0 : BitVec 32 := BitVec.ofNat 32 (i 0).val
  let c0_i32_19 : BitVec 32 := 0#32
  let v39 : BitVec 1 := Scalar.cmpi .sgt arg0 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferencePleGateDIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelRnnOutF.lean ====
abbrev S8192x1280 : Shape := ⟨2, ![8192, 1280]⟩
abbrev S1280x1024 : Shape := ⟨2, ![1280, 1024]⟩
abbrev S8192x1024 : Shape := ⟨2, ![8192, 1024]⟩
abbrev S1024x1280 : Shape := ⟨2, ![1024, 1280]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .bf16⟩
  | .hbm, ⟨2, _⟩ => ⟨S8192x1024, .f32⟩
  | .hbm, ⟨3, _⟩ => ⟨S8192x1024, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceRnnOutFIdeal.lean ====
abbrev S8192x1280 : Shape := ⟨2, ![8192, 1280]⟩
abbrev S1280x1024 : Shape := ⟨2, ![1280, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .bf16⟩
  | .hbm, ⟨2, _⟩ => ⟨S8192x1024, .f32⟩
  | .hbm, ⟨3, _⟩ => ⟨S8192x1280, .f32⟩
  | .hbm, ⟨4, _⟩ => ⟨S1280x1024, .f32⟩
  | .hbm, ⟨5, _⟩ => ⟨S8192x1024, .f32⟩
  | .hbm, ⟨6, _⟩ => ⟨S8192x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelRnnOutW.lean ====
abbrev S8192x1280 : Shape := ⟨2, ![8192, 1280]⟩
abbrev S8192x1024 : Shape := ⟨2, ![8192, 1024]⟩
abbrev S1280x1024 : Shape := ⟨2, ![1280, 1024]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .f32⟩
  | .hbm, ⟨2, _⟩ => ⟨S1280x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .f32⟩
  | .local _ .vmem, ⟨3, _⟩ => ⟨S1024x1024, .f32⟩
  | .local _ .vmem, ⟨4, _⟩ => ⟨S1280x1024, .f32⟩
  | .local _ .vmem, ⟨5, _⟩ => ⟨S1280x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceRnnOutWIdeal.lean ====
abbrev S8192x1280 : Shape := ⟨2, ![8192, 1280]⟩
abbrev S8192x1024 : Shape := ⟨2, ![8192, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 8
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .f32⟩
  | .hbm, ⟨2, _⟩ => ⟨S_, .f32⟩
  | .hbm, ⟨3, _⟩ => ⟨S1280x1024, .f32⟩
  | .hbm, ⟨4, _⟩ => ⟨S8192x1280, .f32⟩
  | .hbm, ⟨5, _⟩ => ⟨S8192x1024, .f32⟩
  | .hbm, ⟨6, _⟩ => ⟨S1024x1280, .f32⟩
  | .hbm, ⟨7, _⟩ => ⟨S1280x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelRnnOutD.lean ====
abbrev S8192x1024 : Shape := ⟨2, ![8192, 1024]⟩
abbrev S1280x1024 : Shape := ⟨2, ![1280, 1024]⟩
abbrev S8192x1280 : Shape := ⟨2, ![8192, 1280]⟩
abbrev S1024x1024 : Shape := ⟨2, ![1024, 1024]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1280x1024, .bf16⟩
  | .hbm, ⟨2, _⟩ => ⟨S8192x1280, .f32⟩
  | .local _ .vmem, ⟨0, _⟩ => ⟨S1024x1024, .f32⟩
  | .local _ .vmem, ⟨1, _⟩ => ⟨S1024x1024, .f32⟩
  | .local _ .vmem, ⟨2, _⟩ => ⟨S1280x1024, .bf16⟩
  | .local _ .vmem, ⟨3, _⟩ => ⟨S1024x1280, .f32⟩
  | .local _ .vmem, ⟨4, _⟩ => ⟨S1024x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceRnnOutDIdeal.lean ====
abbrev S8192x1024 : Shape := ⟨2, ![8192, 1024]⟩
abbrev S1280x1024 : Shape := ⟨2, ![1280, 1024]⟩
abbrev S_ : Shape := ⟨0, ![]⟩
abbrev S8192x1280 : Shape := ⟨2, ![8192, 1280]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1280x1024, .bf16⟩
  | .hbm, ⟨2, _⟩ => ⟨S_, .f32⟩
  | .hbm, ⟨3, _⟩ => ⟨S8192x1280, .f32⟩
  | .hbm, ⟨4, _⟩ => ⟨S1280x1024, .f32⟩
  | .hbm, ⟨5, _⟩ => ⟨S8192x1024, .f32⟩
  | .hbm, ⟨6, _⟩ => ⟨S8192x1280, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOutF.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutFIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOutW.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutWIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOutD.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelPleF.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferencePleFIdeal.lean ====
abbrev S8192x256 : Shape := ⟨2, ![8192, 256]⟩
abbrev S256x1024 : Shape := ⟨2, ![256, 1024]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S256x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KernelPleProjW.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferencePleProjWIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelPleD.lean ====
abbrev S8192x1024 : Shape := ⟨2, ![8192, 1024]⟩
abbrev S8192x256 : Shape := ⟨2, ![8192, 256]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S256x1024, .bf16⟩
  | .hbm, ⟨4, _⟩ => ⟨S8192x1024, .bf16⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePleDIdeal.lean ====
abbrev S8192x1024 : Shape := ⟨2, ![8192, 1024]⟩
abbrev S8192x256 : Shape := ⟨2, ![8192, 256]⟩
abbrev S256x1024 : Shape := ⟨2, ![256, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S256x1024, .bf16⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelLoss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_16 : BitVec 32 := 0#32
  let v46 : BitVec 1 := Scalar.cmpi .ne v45 c0_i32_16
  v46

def k0_cond2 (i : grid0.Coords) : BitVec 1 :=
  let arg0 : BitVec 32 := BitVec.ofNat 32 (i 0).val
  let c0_i32_17 : BitVec 32 := 0#32
  let v47 : BitVec 1 := Scalar.cmpi .sgt arg0 c0_i32_17
  let v48 : BitVec 32 := Scalar.extui v47
  let c0_i32_18 : BitVec 32 := 0#32
  let v49 : BitVec 1 := Scalar.cmpi .ne v48 c0_i32_18
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== KernelGateF.lean ====
abbrev S8192x1280 : Shape := ⟨2, ![8192, 1280]⟩
abbrev S16x80x80 : Shape := ⟨3, ![16, 80, 80]⟩
abbrev S16x16 : Shape := ⟨2, ![16, 16]⟩
abbrev S_ : Shape := ⟨0, ![]⟩
abbrev S16x80x1x80 : Shape := ⟨4, ![16, 80, 1, 80]⟩
abbrev S16x1x16x1 : Shape := ⟨4, ![16, 1, 16, 1]⟩
abbrev S16x80x16x80 : Shape := ⟨4, ![16, 80, 16, 80]⟩
abbrev S1280x1280 : Shape := ⟨2, ![1280, 1280]⟩
abbrev S1024x1280 : Shape := ⟨2, ![1024, 1280]⟩

abbrev nBuf : Space → Nat
  | .hbm => 17
  | .vmem => 5
  | .smem => 0
  | _ => 0

abbrev bufTy : (tb : Table) → Fin (tcTables nBuf tb) → BufTy
  | .hbm, ⟨0, _⟩ => ⟨S8192x1280, .f32⟩
  | .hbm, ⟨1, _⟩ => ⟨S16x80x80, .f32⟩
  | .hbm, ⟨2, _⟩ => ⟨S16x16, .i32⟩
  | .hbm, ⟨3, _⟩ => ⟨S16x16, .i32⟩
  | .hbm, ⟨4, _⟩ => ⟨S_, .i32⟩
  | .hbm, ⟨5, _⟩ => ⟨S16x16, .i32⟩
  | .hbm, ⟨6, _⟩ => ⟨S16x16, .i32⟩
  | .hbm, ⟨7, _⟩ => ⟨S16x16, .i1⟩
  | .hbm, ⟨8, _⟩ => ⟨S16x16, .f32⟩
  | .hbm, ⟨9, _⟩ => ⟨S16x80x1x80, .f32⟩
  | .hbm, ⟨10, _⟩ => ⟨S16x1x16x1, .f32⟩
  | .hbm, ⟨11, _⟩ => ⟨S16x80x16x80, .f32⟩
  | .hbm, ⟨12, _⟩ => ⟨S16x80x16x80, .f32⟩
  | .hbm, ⟨13, _⟩ => ⟨S16x80x16x80, .f32⟩
  | .hbm, ⟨14, _⟩ => ⟨S1280x1280, .f32⟩
  | .hbm, ⟨15, _⟩ => ⟨S1280x1280, .bf16⟩
  | .hbm, ⟨16, _⟩ => ⟨S8192x1280, .f32⟩
  | .local _ .vmem, ⟨0, _⟩ => ⟨S1024x1280, .f32⟩
  | .local _ .vmem, ⟨1, _⟩ => ⟨S1024x1280, .f32⟩
  | .local _ .vmem, ⟨2, _⟩ => ⟨S1280x1280, .bf16⟩
  | .local _ .vmem, ⟨3, _⟩ => ⟨S1024x1280, .f32⟩
  | .local _ .vmem, ⟨4, _⟩ => ⟨S1024x1280, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGateFIdeal.lean ====
abbrev S8192x1280 : Shape := ⟨2, ![8192, 1280]⟩
abbrev S16x80x80 : Shape := ⟨3, ![16, 80, 80]⟩
abbrev S4x2048x16x80 : Shape := ⟨4, ![4, 2048, 16, 80]⟩
abbrev S16x80x4x2048 : Shape := ⟨4, ![16, 80, 4, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S16x80x80, .f32⟩
  | .hbm, ⟨2, _⟩ => ⟨S4x2048x16x80, .f32⟩
  | .hbm, ⟨3, _⟩ => ⟨S16x80x4x2048, .f32⟩
  | .hbm, ⟨4, _⟩ => ⟨S4x2048x16x80, .f32⟩
  | .hbm, ⟨5, _⟩ => ⟨S8192x1280, .f32⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelGateD.lean ====
abbrev S8192x1280 : Shape := ⟨2, ![8192, 1280]⟩
abbrev S16x80x80 : Shape := ⟨3, ![16, 80, 80]⟩
abbrev S16x16 : Shape := ⟨2, ![16, 16]⟩
abbrev S_ : Shape := ⟨0, ![]⟩
abbrev S16x80x1x80 : Shape := ⟨4, ![16, 80, 1, 80]⟩
abbrev S16x1x16x1 : Shape := ⟨4, ![16, 1, 16, 1]⟩
abbrev S16x80x16x80 : Shape := ⟨4, ![16, 80, 16, 80]⟩
abbrev S1280x1280 : Shape := ⟨2, ![1280, 1280]⟩
abbrev S512x1280 : Shape := ⟨2, ![512, 1280]⟩

abbrev nBuf : Space → Nat
  | .hbm => 18
  | .vmem => 7
  | .smem => 0
  | _ => 0

abbrev bufTy : (tb : Table) → Fin (tcTables nBuf tb) → BufTy
  | .hbm, ⟨0, _⟩ => ⟨S8192x1280, .bf16⟩
  | .hbm, ⟨1, _⟩ => ⟨S16x80x80, .f32⟩
  | .hbm, ⟨2, _⟩ => ⟨S8192x1280, .f32⟩
  | .hbm, ⟨3, _⟩ => ⟨S16x16, .i32⟩
  | .hbm, ⟨4, _⟩ => ⟨S16x16, .i32⟩
  | .hbm, ⟨5, _⟩ => ⟨S_, .i32⟩
  | .hbm, ⟨6, _⟩ => ⟨S16x16, .i32⟩
  | .hbm, ⟨7, _⟩ => ⟨S16x16, .i32⟩
  | .hbm, ⟨8, _⟩ => ⟨S16x16, .i1⟩
  | .hbm, ⟨9, _⟩ => ⟨S16x16, .f32⟩
  | .hbm, ⟨10, _⟩ => ⟨S16x80x1x80, .f32⟩
  | .hbm, ⟨11, _⟩ => ⟨S16x1x16x1, .f32⟩
  | .hbm, ⟨12, _⟩ => ⟨S16x80x16x80, .f32⟩
  | .hbm, ⟨13, _⟩ => ⟨S16x80x16x80, .f32⟩
  | .hbm, ⟨14, _⟩ => ⟨S16x80x16x80, .f32⟩
  | .hbm, ⟨15, _⟩ => ⟨S1280x1280, .f32⟩
  | .hbm, ⟨16, _⟩ => ⟨S1280x1280, .bf16⟩
  | .hbm, ⟨17, _⟩ => ⟨S8192x1280, .f32⟩
  | .local _ .vmem, ⟨0, _⟩ => ⟨S512x1280, .bf16⟩
  | .local _ .vmem, ⟨1, _⟩ => ⟨S512x1280, .bf16⟩
  | .local _ .vmem, ⟨2, _⟩ => ⟨S1280x1280, .bf16⟩
  | .local _ .vmem, ⟨3, _⟩ => ⟨S512x1280, .f32⟩
  | .local _ .vmem, ⟨4, _⟩ => ⟨S512x1280, .f32⟩
  | .local _ .vmem, ⟨5, _⟩ => ⟨S512x1280, .f32⟩
  | .local _ .vmem, ⟨6, _⟩ => ⟨S512x1280, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGateDIdeal.lean ====
abbrev S8192x1280 : Shape := ⟨2, ![8192, 1280]⟩
abbrev S16x80x80 : Shape := ⟨3, ![16, 80, 80]⟩
abbrev S_ : Shape := ⟨0, ![]⟩
abbrev S4x2048x16x80 : Shape := ⟨4, ![4, 2048, 16, 80]⟩
abbrev S16x80x4x2048 : Shape := ⟨4, ![16, 80, 4, 2048]⟩
abbrev S16x4x2048x80 : Shape := ⟨4, ![16, 4, 2048, 80]⟩

abbrev nBuf : Space → Nat
  | .hbm => 16
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S16x80x80, .f32⟩
  | .hbm, ⟨2, _⟩ => ⟨S8192x1280, .f32⟩
  | .hbm, ⟨3, _⟩ => ⟨S_, .f32⟩
  | .hbm, ⟨4, _⟩ => ⟨S8192x1280, .f32⟩
  | .hbm, ⟨5, _⟩ => ⟨S4x2048x16x80, .f32⟩
  | .hbm, ⟨6, _⟩ => ⟨S16x80x4x2048, .f32⟩
  | .hbm, ⟨7, _⟩ => ⟨S4x2048x16x80, .f32⟩
  | .hbm, ⟨8, _⟩ => ⟨S8192x1280, .f32⟩
  | .hbm, ⟨9, _⟩ => ⟨S8192x1280, .f32⟩
  | .hbm, ⟨10, _⟩ => ⟨S4x2048x16x80, .f32⟩
  | .hbm, ⟨11, _⟩ => ⟨S16x80x4x2048, .f32⟩
  | .hbm, ⟨12, _⟩ => ⟨S16x4x2048x80, .f32⟩
  | .hbm, ⟨13, _⟩ => ⟨S4x2048x16x80, .f32⟩
  | .hbm, ⟨14, _⟩ => ⟨S8192x1280, .f32⟩
  | .hbm, ⟨15, _⟩ => ⟨S8192x1280, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelGateW.lean ====
abbrev S8192x1280 : Shape := ⟨2, ![8192, 1280]⟩
abbrev S1280x1280 : Shape := ⟨2, ![1280, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x1280, .f32⟩
  | .hbm, ⟨1, _⟩ => ⟨S8192x1280, .bf16⟩
  | .hbm, ⟨2, _⟩ => ⟨S1280x1280, .f32⟩
  | .local _ .vmem, ⟨0, _⟩ => ⟨S1024x1280, .f32⟩
  | .local _ .vmem, ⟨1, _⟩ => ⟨S1024x1280, .f32⟩
  | .local _ .vmem, ⟨2, _⟩ => ⟨S1024x1280, .bf16⟩
  | .local _ .vmem, ⟨3, _⟩ => ⟨S1024x1280, .bf16⟩
  | .local _ .vmem, ⟨4, _⟩ => ⟨S1280x1280, .f32⟩
  | .local _ .vmem, ⟨5, _⟩ => ⟨S1280x1280, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGateWIdeal.lean ====
abbrev S8192x1280 : Shape := ⟨2, ![8192, 1280]⟩
abbrev S_ : Shape := ⟨0, ![]⟩
abbrev S1280x1280 : Shape := ⟨2, ![1280, 1280]⟩

abbrev nBuf : Space → Nat
  | .hbm => 8
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S8192x1280, .bf16⟩
  | .hbm, ⟨2, _⟩ => ⟨S_, .f32⟩
  | .hbm, ⟨3, _⟩ => ⟨S1280x1280, .f32⟩
  | .hbm, ⟨4, _⟩ => ⟨S8192x1280, .f32⟩
  | .hbm, ⟨5, _⟩ => ⟨S8192x1280, .f32⟩
  | .hbm, ⟨6, _⟩ => ⟨S1280x1280, .f32⟩
  | .hbm, ⟨7, _⟩ => ⟨S1280x1280, .f32⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAdamNormMix.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamNormMixIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamNormMixIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamQkv.lean ====
abbrev S2048x384 : Shape := ⟨2, ![2048, 384]⟩
abbrev S1024x384 : Shape := ⟨2, ![1024, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamQkvIdeal.lean ====
abbrev S2048x384 : Shape := ⟨2, ![2048, 384]⟩
abbrev S1024x384 : Shape := ⟨2, ![1024, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamQkvIdeal.lean ====
abbrev S2048x384 : Shape := ⟨2, ![2048, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamAttnO.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamAttnOIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamAttnOIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamRnnIn.lean ====
abbrev S2048x320 : Shape := ⟨2, ![2048, 320]⟩
abbrev S1024x320 : Shape := ⟨2, ![1024, 320]⟩

abbrev nBuf : Space → Nat
  | .hbm => 7
  | .vmem => 14
  | .smem => 0
  | _ => 0

abbrev bufTy : (tb : Table) → Fin (tcTables nBuf tb) → BufTy
  | .hbm, ⟨0, _⟩ => ⟨S2048x320, .f32⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S2048x320, .f32⟩
  | .hbm, ⟨5, _⟩ => ⟨S2048x320, .f32⟩
  | .hbm, ⟨6, _⟩ => ⟨S2048x320, .f32⟩
  | .local _ .vmem, ⟨0, _⟩ => ⟨S1024x320, .f32⟩
  | .local _ .vmem, ⟨1, _⟩ => ⟨S1024x320, .f32⟩
  | .local _ .vmem, ⟨2, _⟩ => ⟨S1024x320, .f32⟩
  | .local _ .vmem, ⟨3, _⟩ => ⟨S1024x320, .f32⟩
  | .local _ .vmem, ⟨4, _⟩ => ⟨S1024x320, .f32⟩
  | .local _ .vmem, ⟨5, _⟩ => ⟨S1024x320, .f32⟩
  | .local _ .vmem, ⟨6, _⟩ => ⟨S1024x320, .f32⟩
  | .local _ .vmem, ⟨7, _⟩ => ⟨S1024x320, .f32⟩
  | .local _ .vmem, ⟨8, _⟩ => ⟨S1024x320, .f32⟩
  | .local _ .vmem, ⟨9, _⟩ => ⟨S1024x320, .f32⟩
  | .local _ .vmem, ⟨10, _⟩ => ⟨S1024x320, .f32⟩
  | .local _ .vmem, ⟨11, _⟩ => ⟨S1024x320, .f32⟩
  | .local _ .vmem, ⟨12, _⟩ => ⟨S1024x320, .f32⟩
  | .local _ .vmem, ⟨13, _⟩ => ⟨S1024x320, .f32⟩
  | _, _ => ⟨S2048x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamRnnInIdeal.lean ====
abbrev S2048x320 : Shape := ⟨2, ![2048, 320]⟩
abbrev S1024x320 : Shape := ⟨2, ![1024, 320]⟩

abbrev nBuf : Space → Nat
  | .hbm => 7
  | .vmem => 14
  | .smem => 0
  | _ => 0

abbrev bufTy : (tb : Table) → Fin (tcTables nBuf tb) → BufTy
  | .hbm, ⟨0, _⟩ => ⟨S2048x320, .f32⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S2048x320, .f32⟩
  | .hbm, ⟨5, _⟩ => ⟨S2048x320, .f32⟩
  | .hbm, ⟨6, _⟩ => ⟨S2048x320, .f32⟩
  | .local _ .vmem, ⟨0, _⟩ => ⟨S1024x320, .f32⟩
  | .local _ .vmem, ⟨1, _⟩ => ⟨S1024x320, .f32⟩
  | .local _ .vmem, ⟨2, _⟩ => ⟨S1024x320, .f32⟩
  | .local _ .vmem, ⟨3, _⟩ => ⟨S1024x320, .f32⟩
  | .local _ .vmem, ⟨4, _⟩ => ⟨S1024x320, .f32⟩
  | .local _ .vmem, ⟨5, _⟩ => ⟨S1024x320, .f32⟩
  | .local _ .vmem, ⟨6, _⟩ => ⟨S1024x320, .f32⟩
  | .local _ .vmem, ⟨7, _⟩ => ⟨S1024x320, .f32⟩
  | .local _ .vmem, ⟨8, _⟩ => ⟨S1024x320, .f32⟩
  | .local _ .vmem, ⟨9, _⟩ => ⟨S1024x320, .f32⟩
  | .local _ .vmem, ⟨10, _⟩ => ⟨S1024x320, .f32⟩
  | .local _ .vmem, ⟨11, _⟩ => ⟨S1024x320, .f32⟩
  | .local _ .vmem, ⟨12, _⟩ => ⟨S1024x320, .f32⟩
  | .local _ .vmem, ⟨13, _⟩ => ⟨S1024x320, .f32⟩
  | _, _ => ⟨S2048x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamRnnInIdeal.lean ====
abbrev S2048x320 : Shape := ⟨2, ![2048, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x320, .f32⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S_, .f32⟩
  | .hbm, ⟨5, _⟩ => ⟨S2048x320, .f32⟩
  | .hbm, ⟨6, _⟩ => ⟨S2048x320, .f32⟩
  | .hbm, ⟨7, _⟩ => ⟨S_, .f32⟩
  | .hbm, ⟨8, _⟩ => ⟨S2048x320, .f32⟩
  | .hbm, ⟨9, _⟩ => ⟨S2048x320, .f32⟩
  | .hbm, ⟨10, _⟩ => ⟨S2048x320, .f32⟩
  | .hbm, ⟨11, _⟩ => ⟨S_, .f32⟩
  | .hbm, ⟨12, _⟩ => ⟨S2048x320, .f32⟩
  | .hbm, ⟨13, _⟩ => ⟨S2048x320, .f32⟩
  | .hbm, ⟨14, _⟩ => ⟨S2048x320, .f32⟩
  | .hbm, ⟨15, _⟩ => ⟨S_, .f32⟩
  | .hbm, ⟨16, _⟩ => ⟨S2048x320, .f32⟩
  | .hbm, ⟨17, _⟩ => ⟨S2048x320, .f32⟩
  | .hbm, ⟨18, _⟩ => ⟨S2048x320, .f32⟩
  | .hbm, ⟨19, _⟩ => ⟨S_, .f32⟩
  | .hbm, ⟨20, _⟩ => ⟨S2048x320, .f32⟩
  | .hbm, ⟨21, _⟩ => ⟨S2048x320, .f32⟩
  | .hbm, ⟨22, _⟩ => ⟨S_, .f32⟩
  | .hbm, ⟨23, _⟩ => ⟨S2048x320, .f32⟩
  | .hbm, ⟨24, _⟩ => ⟨S2048x320, .f32⟩
  | .hbm, ⟨25, _⟩ => ⟨S2048x320, .f32⟩
  | .hbm, ⟨26, _⟩ => ⟨S_, .f32⟩
  | .hbm, ⟨27, _⟩ => ⟨S2048x320, .f32⟩
  | .hbm, ⟨28, _⟩ => ⟨S2048x320, .f32⟩
  | .hbm, ⟨29, _⟩ => ⟨S2048x320, .f32⟩
  | .hbm, ⟨30, _⟩ => ⟨S_, .f32⟩
  | .hbm, ⟨31, _⟩ => ⟨S2048x320, .f32⟩
  | .hbm, ⟨32, _⟩ => ⟨S2048x320, .f32⟩
  | .hbm, ⟨33, _⟩ => ⟨S2048x320, .f32⟩
  | .hbm, ⟨34, _⟩ => ⟨S_, .f32⟩
  | .hbm, ⟨35, _⟩ => ⟨S2048x320, .f32⟩
  | .hbm, ⟨36, _⟩ => ⟨S2048x320, .f32⟩
  | _, _ => ⟨S2048x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamRnnConv.lean ====
abbrev S8x160 : Shape := ⟨2, ![8, 160]⟩

abbrev nBuf : Space → Nat
  | .hbm => 7
  | .vmem => 7
  | .smem => 0
  | _ => 0

abbrev bufTy : (tb : Table) → Fin (tcTables nBuf tb) → BufTy
  | .hbm, ⟨0, _⟩ => ⟨S8x160, .f32⟩
  | .hbm, ⟨1, _⟩ => ⟨S8x160, .f32⟩
  | .hbm, ⟨2, _⟩ => ⟨S8x160, .f32⟩
  | .hbm, ⟨3, _⟩ => ⟨S8x160, .f32⟩
  | .hbm, ⟨4, _⟩ => ⟨S8x160, .f32⟩
  | .hbm, ⟨5, _⟩ => ⟨S8x160, .f32⟩
  | .hbm, ⟨6, _⟩ => ⟨S8x160, .f32⟩
  | .local _ .vmem, ⟨0, _⟩ => ⟨S8x160, .f32⟩
  | .local _ .vmem, ⟨1, _⟩ => ⟨S8x160, .f32⟩
  | .local _ .vmem, ⟨2, _⟩ => ⟨S8x160, .f32⟩
  | .local _ .vmem, ⟨3, _⟩ => ⟨S8x160, .f32⟩
  | .local _ .vmem, ⟨4, _⟩ => ⟨S8x160, .f32⟩
  | .local _ .vmem, ⟨5, _⟩ => ⟨S8x160, .f32⟩
  | .local _ .vmem, ⟨6, _⟩ => ⟨S8x160, .f32⟩
  | _, _ => ⟨S8x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamRnnConvIdeal.lean ====
abbrev S8x160 : Shape := ⟨2, ![8, 160]⟩

abbrev nBuf : Space → Nat
  | .hbm => 7
  | .vmem => 7
  | .smem => 0
  | _ => 0

abbrev bufTy : (tb : Table) → Fin (tcTables nBuf tb) → BufTy
  | .hbm, ⟨0, _⟩ => ⟨S8x160, .f32⟩
  | .hbm, ⟨1, _⟩ => ⟨S8x160, .f32⟩
  | .hbm, ⟨2, _⟩ => ⟨S8x160, .f32⟩
  | .hbm, ⟨3, _⟩ => ⟨S8x160, .f32⟩
  | .hbm, ⟨4, _⟩ => ⟨S8x160, .f32⟩
  | .hbm, ⟨5, _⟩ => ⟨S8x160, .f32⟩
  | .hbm, ⟨6, _⟩ => ⟨S8x160, .f32⟩
  | .local _ .vmem, ⟨0, _⟩ => ⟨S8x160, .f32⟩
  | .local _ .vmem, ⟨1, _⟩ => ⟨S8x160, .f32⟩
  | .local _ .vmem, ⟨2, _⟩ => ⟨S8x160, .f32⟩
  | .local _ .vmem, ⟨3, _⟩ => ⟨S8x160, .f32⟩
  | .local _ .vmem, ⟨4, _⟩ => ⟨S8x160, .f32⟩
  | .local _ .vmem, ⟨5, _⟩ => ⟨S8x160, .f32⟩
  | .local _ .vmem, ⟨6, _⟩ => ⟨S8x160, .f32⟩
  | _, _ => ⟨S8x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamRnnConvIdeal.lean ====
abbrev S8x160 : Shape := ⟨2, ![8, 160]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x160, .f32⟩
  | .hbm, ⟨1, _⟩ => ⟨S8x160, .f32⟩
  | .hbm, ⟨2, _⟩ => ⟨S8x160, .f32⟩
  | .hbm, ⟨3, _⟩ => ⟨S8x160, .f32⟩
  | .hbm, ⟨4, _⟩ => ⟨S_, .f32⟩
  | .hbm, ⟨5, _⟩ => ⟨S8x160, .f32⟩
  | .hbm, ⟨6, _⟩ => ⟨S8x160, .f32⟩
  | .hbm, ⟨7, _⟩ => ⟨S_, .f32⟩
  | .hbm, ⟨8, _⟩ => ⟨S8x160, .f32⟩
  | .hbm, ⟨9, _⟩ => ⟨S8x160, .f32⟩
  | .hbm, ⟨10, _⟩ => ⟨S8x160, .f32⟩
  | .hbm, ⟨11, _⟩ => ⟨S_, .f32⟩
  | .hbm, ⟨12, _⟩ => ⟨S8x160, .f32⟩
  | .hbm, ⟨13, _⟩ => ⟨S8x160, .f32⟩
  | .hbm, ⟨14, _⟩ => ⟨S8x160, .f32⟩
  | .hbm, ⟨15, _⟩ => ⟨S_, .f32⟩
  | .hbm, ⟨16, _⟩ => ⟨S8x160, .f32⟩
  | .hbm, ⟨17, _⟩ => ⟨S8x160, .f32⟩
  | .hbm, ⟨18, _⟩ => ⟨S8x160, .f32⟩
  | .hbm, ⟨19, _⟩ => ⟨S_, .f32⟩
  | .hbm, ⟨20, _⟩ => ⟨S8x160, .f32⟩
  | .hbm, ⟨21, _⟩ => ⟨S8x160, .f32⟩
  | .hbm, ⟨22, _⟩ => ⟨S_, .f32⟩
  | .hbm, ⟨23, _⟩ => ⟨S8x160, .f32⟩
  | .hbm, ⟨24, _⟩ => ⟨S8x160, .f32⟩
  | .hbm, ⟨25, _⟩ => ⟨S8x160, .f32⟩
  | .hbm, ⟨26, _⟩ => ⟨S_, .f32⟩
  | .hbm, ⟨27, _⟩ => ⟨S8x160, .f32⟩
  | .hbm, ⟨28, _⟩ => ⟨S8x160, .f32⟩
  | .hbm, ⟨29, _⟩ => ⟨S8x160, .f32⟩
  | .hbm, ⟨30, _⟩ => ⟨S_, .f32⟩
  | .hbm, ⟨31, _⟩ => ⟨S8x160, .f32⟩
  | .hbm, ⟨32, _⟩ => ⟨S8x160, .f32⟩
  | .hbm, ⟨33, _⟩ => ⟨S8x160, .f32⟩
  | .hbm, ⟨34, _⟩ => ⟨S_, .f32⟩
  | .hbm, ⟨35, _⟩ => ⟨S8x160, .f32⟩
  | .hbm, ⟨36, _⟩ => ⟨S8x160, .f32⟩
  | _, _ => ⟨S8x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamRnnVec.lean ====
abbrev S2x160 : Shape := ⟨2, ![2, 160]⟩

abbrev nBuf : Space → Nat
  | .hbm => 7
  | .vmem => 7
  | .smem => 0
  | _ => 0

abbrev bufTy : (tb : Table) → Fin (tcTables nBuf tb) → BufTy
  | .hbm, ⟨0, _⟩ => ⟨S2x160, .f32⟩
  | .hbm, ⟨1, _⟩ => ⟨S2x160, .f32⟩
  | .hbm, ⟨2, _⟩ => ⟨S2x160, .f32⟩
  | .hbm, ⟨3, _⟩ => ⟨S2x160, .f32⟩
  | .hbm, ⟨4, _⟩ => ⟨S2x160, .f32⟩
  | .hbm, ⟨5, _⟩ => ⟨S2x160, .f32⟩
  | .hbm, ⟨6, _⟩ => ⟨S2x160, .f32⟩
  | .local _ .vmem, ⟨0, _⟩ => ⟨S2x160, .f32⟩
  | .local _ .vmem, ⟨1, _⟩ => ⟨S2x160, .f32⟩
  | .local _ .vmem, ⟨2, _⟩ => ⟨S2x160, .f32⟩
  | .local _ .vmem, ⟨3, _⟩ => ⟨S2x160, .f32⟩
  | .local _ .vmem, ⟨4, _⟩ => ⟨S2x160, .f32⟩
  | .local _ .vmem, ⟨5, _⟩ => ⟨S2x160, .f32⟩
  | .local _ .vmem, ⟨6, _⟩ => ⟨S2x160, .f32⟩
  | _, _ => ⟨S2x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamRnnVecIdeal.lean ====
abbrev S2x160 : Shape := ⟨2, ![2, 160]⟩

abbrev nBuf : Space → Nat
  | .hbm => 7
  | .vmem => 7
  | .smem => 0
  | _ => 0

abbrev bufTy : (tb : Table) → Fin (tcTables nBuf tb) → BufTy
  | .hbm, ⟨0, _⟩ => ⟨S2x160, .f32⟩
  | .hbm, ⟨1, _⟩ => ⟨S2x160, .f32⟩
  | .hbm, ⟨2, _⟩ => ⟨S2x160, .f32⟩
  | .hbm, ⟨3, _⟩ => ⟨S2x160, .f32⟩
  | .hbm, ⟨4, _⟩ => ⟨S2x160, .f32⟩
  | .hbm, ⟨5, _⟩ => ⟨S2x160, .f32⟩
  | .hbm, ⟨6, _⟩ => ⟨S2x160, .f32⟩
  | .local _ .vmem, ⟨0, _⟩ => ⟨S2x160, .f32⟩
  | .local _ .vmem, ⟨1, _⟩ => ⟨S2x160, .f32⟩
  | .local _ .vmem, ⟨2, _⟩ => ⟨S2x160, .f32⟩
  | .local _ .vmem, ⟨3, _⟩ => ⟨S2x160, .f32⟩
  | .local _ .vmem, ⟨4, _⟩ => ⟨S2x160, .f32⟩
  | .local _ .vmem, ⟨5, _⟩ => ⟨S2x160, .f32⟩
  | .local _ .vmem, ⟨6, _⟩ => ⟨S2x160, .f32⟩
  | _, _ => ⟨S2x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamRnnVecIdeal.lean ====
abbrev S2x160 : Shape := ⟨2, ![2, 160]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x160, .f32⟩
  | .hbm, ⟨1, _⟩ => ⟨S2x160, .f32⟩
  | .hbm, ⟨2, _⟩ => ⟨S2x160, .f32⟩
  | .hbm, ⟨3, _⟩ => ⟨S2x160, .f32⟩
  | .hbm, ⟨4, _⟩ => ⟨S_, .f32⟩
  | .hbm, ⟨5, _⟩ => ⟨S2x160, .f32⟩
  | .hbm, ⟨6, _⟩ => ⟨S2x160, .f32⟩
  | .hbm, ⟨7, _⟩ => ⟨S_, .f32⟩
  | .hbm, ⟨8, _⟩ => ⟨S2x160, .f32⟩
  | .hbm, ⟨9, _⟩ => ⟨S2x160, .f32⟩
  | .hbm, ⟨10, _⟩ => ⟨S2x160, .f32⟩
  | .hbm, ⟨11, _⟩ => ⟨S_, .f32⟩
  | .hbm, ⟨12, _⟩ => ⟨S2x160, .f32⟩
  | .hbm, ⟨13, _⟩ => ⟨S2x160, .f32⟩
  | .hbm, ⟨14, _⟩ => ⟨S2x160, .f32⟩
  | .hbm, ⟨15, _⟩ => ⟨S_, .f32⟩
  | .hbm, ⟨16, _⟩ => ⟨S2x160, .f32⟩
  | .hbm, ⟨17, _⟩ => ⟨S2x160, .f32⟩
  | .hbm, ⟨18, _⟩ => ⟨S2x160, .f32⟩
  | .hbm, ⟨19, _⟩ => ⟨S_, .f32⟩
  | .hbm, ⟨20, _⟩ => ⟨S2x160, .f32⟩
  | .hbm, ⟨21, _⟩ => ⟨S2x160, .f32⟩
  | .hbm, ⟨22, _⟩ => ⟨S_, .f32⟩
  | .hbm, ⟨23, _⟩ => ⟨S2x160, .f32⟩
  | .hbm, ⟨24, _⟩ => ⟨S2x160, .f32⟩
  | .hbm, ⟨25, _⟩ => ⟨S2x160, .f32⟩
  | .hbm, ⟨26, _⟩ => ⟨S_, .f32⟩
  | .hbm, ⟨27, _⟩ => ⟨S2x160, .f32⟩
  | .hbm, ⟨28, _⟩ => ⟨S2x160, .f32⟩
  | .hbm, ⟨29, _⟩ => ⟨S2x160, .f32⟩
  | .hbm, ⟨30, _⟩ => ⟨S_, .f32⟩
  | .hbm, ⟨31, _⟩ => ⟨S2x160, .f32⟩
  | .hbm, ⟨32, _⟩ => ⟨S2x160, .f32⟩
  | .hbm, ⟨33, _⟩ => ⟨S2x160, .f32⟩
  | .hbm, ⟨34, _⟩ => ⟨S_, .f32⟩
  | .hbm, ⟨35, _⟩ => ⟨S2x160, .f32⟩
  | .hbm, ⟨36, _⟩ => ⟨S2x160, .f32⟩
  | _, _ => ⟨S2x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamGate.lean ====
abbrev S2560x80 : Shape := ⟨2, ![2560, 80]⟩
abbrev S1280x80 : Shape := ⟨2, ![1280, 80]⟩

abbrev nBuf : Space → Nat
  | .hbm => 7
  | .vmem => 14
  | .smem => 0
  | _ => 0

abbrev bufTy : (tb : Table) → Fin (tcTables nBuf tb) → BufTy
  | .hbm, ⟨0, _⟩ => ⟨S2560x80, .f32⟩
  | .hbm, ⟨1, _⟩ => ⟨S2560x80, .f32⟩
  | .hbm, ⟨2, _⟩ => ⟨S2560x80, .f32⟩
  | .hbm, ⟨3, _⟩ => ⟨S2560x80, .f32⟩
  | .hbm, ⟨4, _⟩ => ⟨S2560x80, .f32⟩
  | .hbm, ⟨5, _⟩ => ⟨S2560x80, .f32⟩
  | .hbm, ⟨6, _⟩ => ⟨S2560x80, .f32⟩
  | .local _ .vmem, ⟨0, _⟩ => ⟨S1280x80, .f32⟩
  | .local _ .vmem, ⟨1, _⟩ => ⟨S1280x80, .f32⟩
  | .local _ .vmem, ⟨2, _⟩ => ⟨S1280x80, .f32⟩
  | .local _ .vmem, ⟨3, _⟩ => ⟨S1280x80, .f32⟩
  | .local _ .vmem, ⟨4, _⟩ => ⟨S1280x80, .f32⟩
  | .local _ .vmem, ⟨5, _⟩ => ⟨S1280x80, .f32⟩
  | .local _ .vmem, ⟨6, _⟩ => ⟨S1280x80, .f32⟩
  | .local _ .vmem, ⟨7, _⟩ => ⟨S1280x80, .f32⟩
  | .local _ .vmem, ⟨8, _⟩ => ⟨S1280x80, .f32⟩
  | .local _ .vmem, ⟨9, _⟩ => ⟨S1280x80, .f32⟩
  | .local _ .vmem, ⟨10, _⟩ => ⟨S1280x80, .f32⟩
  | .local _ .vmem, ⟨11, _⟩ => ⟨S1280x80, .f32⟩
  | .local _ .vmem, ⟨12, _⟩ => ⟨S1280x80, .f32⟩
  | .local _ .vmem, ⟨13, _⟩ => ⟨S1280x80, .f32⟩
  | _, _ => ⟨S2560x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamGateIdeal.lean ====
abbrev S2560x80 : Shape := ⟨2, ![2560, 80]⟩
abbrev S1280x80 : Shape := ⟨2, ![1280, 80]⟩

abbrev nBuf : Space → Nat
  | .hbm => 7
  | .vmem => 14
  | .smem => 0
  | _ => 0

abbrev bufTy : (tb : Table) → Fin (tcTables nBuf tb) → BufTy
  | .hbm, ⟨0, _⟩ => ⟨S2560x80, .f32⟩
  | .hbm, ⟨1, _⟩ => ⟨S2560x80, .f32⟩
  | .hbm, ⟨2, _⟩ => ⟨S2560x80, .f32⟩
  | .hbm, ⟨3, _⟩ => ⟨S2560x80, .f32⟩
  | .hbm, ⟨4, _⟩ => ⟨S2560x80, .f32⟩
  | .hbm, ⟨5, _⟩ => ⟨S2560x80, .f32⟩
  | .hbm, ⟨6, _⟩ => ⟨S2560x80, .f32⟩
  | .local _ .vmem, ⟨0, _⟩ => ⟨S1280x80, .f32⟩
  | .local _ .vmem, ⟨1, _⟩ => ⟨S1280x80, .f32⟩
  | .local _ .vmem, ⟨2, _⟩ => ⟨S1280x80, .f32⟩
  | .local _ .vmem, ⟨3, _⟩ => ⟨S1280x80, .f32⟩
  | .local _ .vmem, ⟨4, _⟩ => ⟨S1280x80, .f32⟩
  | .local _ .vmem, ⟨5, _⟩ => ⟨S1280x80, .f32⟩
  | .local _ .vmem, ⟨6, _⟩ => ⟨S1280x80, .f32⟩
  | .local _ .vmem, ⟨7, _⟩ => ⟨S1280x80, .f32⟩
  | .local _ .vmem, ⟨8, _⟩ => ⟨S1280x80, .f32⟩
  | .local _ .vmem, ⟨9, _⟩ => ⟨S1280x80, .f32⟩
  | .local _ .vmem, ⟨10, _⟩ => ⟨S1280x80, .f32⟩
  | .local _ .vmem, ⟨11, _⟩ => ⟨S1280x80, .f32⟩
  | .local _ .vmem, ⟨12, _⟩ => ⟨S1280x80, .f32⟩
  | .local _ .vmem, ⟨13, _⟩ => ⟨S1280x80, .f32⟩
  | _, _ => ⟨S2560x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamGateIdeal.lean ====
abbrev S2560x80 : Shape := ⟨2, ![2560, 80]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2560x80, .f32⟩
  | .hbm, ⟨1, _⟩ => ⟨S2560x80, .f32⟩
  | .hbm, ⟨2, _⟩ => ⟨S2560x80, .f32⟩
  | .hbm, ⟨3, _⟩ => ⟨S2560x80, .f32⟩
  | .hbm, ⟨4, _⟩ => ⟨S_, .f32⟩
  | .hbm, ⟨5, _⟩ => ⟨S2560x80, .f32⟩
  | .hbm, ⟨6, _⟩ => ⟨S2560x80, .f32⟩
  | .hbm, ⟨7, _⟩ => ⟨S_, .f32⟩
  | .hbm, ⟨8, _⟩ => ⟨S2560x80, .f32⟩
  | .hbm, ⟨9, _⟩ => ⟨S2560x80, .f32⟩
  | .hbm, ⟨10, _⟩ => ⟨S2560x80, .f32⟩
  | .hbm, ⟨11, _⟩ => ⟨S_, .f32⟩
  | .hbm, ⟨12, _⟩ => ⟨S2560x80, .f32⟩
  | .hbm, ⟨13, _⟩ => ⟨S2560x80, .f32⟩
  | .hbm, ⟨14, _⟩ => ⟨S2560x80, .f32⟩
  | .hbm, ⟨15, _⟩ => ⟨S_, .f32⟩
  | .hbm, ⟨16, _⟩ => ⟨S2560x80, .f32⟩
  | .hbm, ⟨17, _⟩ => ⟨S2560x80, .f32⟩
  | .hbm, ⟨18, _⟩ => ⟨S2560x80, .f32⟩
  | .hbm, ⟨19, _⟩ => ⟨S_, .f32⟩
  | .hbm, ⟨20, _⟩ => ⟨S2560x80, .f32⟩
  | .hbm, ⟨21, _⟩ => ⟨S2560x80, .f32⟩
  | .hbm, ⟨22, _⟩ => ⟨S_, .f32⟩
  | .hbm, ⟨23, _⟩ => ⟨S2560x80, .f32⟩
  | .hbm, ⟨24, _⟩ => ⟨S2560x80, .f32⟩
  | .hbm, ⟨25, _⟩ => ⟨S2560x80, .f32⟩
  | .hbm, ⟨26, _⟩ => ⟨S_, .f32⟩
  | .hbm, ⟨27, _⟩ => ⟨S2560x80, .f32⟩
  | .hbm, ⟨28, _⟩ => ⟨S2560x80, .f32⟩
  | .hbm, ⟨29, _⟩ => ⟨S2560x80, .f32⟩
  | .hbm, ⟨30, _⟩ => ⟨S_, .f32⟩
  | .hbm, ⟨31, _⟩ => ⟨S2560x80, .f32⟩
  | .hbm, ⟨32, _⟩ => ⟨S2560x80, .f32⟩
  | .hbm, ⟨33, _⟩ => ⟨S2560x80, .f32⟩
  | .hbm, ⟨34, _⟩ => ⟨S_, .f32⟩
  | .hbm, ⟨35, _⟩ => ⟨S2560x80, .f32⟩
  | .hbm, ⟨36, _⟩ => ⟨S2560x80, .f32⟩
  | _, _ => ⟨S2560x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamRnnOut.lean ====
abbrev S320x1024 : Shape := ⟨2, ![320, 1024]⟩

abbrev nBuf : Space → Nat
  | .hbm => 7
  | .vmem => 7
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S320x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S320x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamRnnOutIdeal.lean ====
abbrev S320x1024 : Shape := ⟨2, ![320, 1024]⟩

abbrev nBuf : Space → Nat
  | .hbm => 7
  | .vmem => 7
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S320x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S320x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamRnnOutIdeal.lean ====
abbrev S320x1024 : Shape := ⟨2, ![320, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S_, .f32⟩
  | .hbm, ⟨5, _⟩ => ⟨S320x1024, .f32⟩
  | .hbm, ⟨6, _⟩ => ⟨S320x1024, .f32⟩
  | .hbm, ⟨7, _⟩ => ⟨S_, .f32⟩
  | .hbm, ⟨8, _⟩ => ⟨S320x1024, .f32⟩
  | .hbm, ⟨9, _⟩ => ⟨S320x1024, .f32⟩
  | .hbm, ⟨10, _⟩ => ⟨S320x1024, .f32⟩
  | .hbm, ⟨11, _⟩ => ⟨S_, .f32⟩
  | .hbm, ⟨12, _⟩ => ⟨S320x1024, .f32⟩
  | .hbm, ⟨13, _⟩ => ⟨S320x1024, .f32⟩
  | .hbm, ⟨14, _⟩ => ⟨S320x1024, .f32⟩
  | .hbm, ⟨15, _⟩ => ⟨S_, .f32⟩
  | .hbm, ⟨16, _⟩ => ⟨S320x1024, .f32⟩
  | .hbm, ⟨17, _⟩ => ⟨S320x1024, .f32⟩
  | .hbm, ⟨18, _⟩ => ⟨S320x1024, .f32⟩
  | .hbm, ⟨19, _⟩ => ⟨S_, .f32⟩
  | .hbm, ⟨20, _⟩ => ⟨S320x1024, .f32⟩
  | .hbm, ⟨21, _⟩ => ⟨S320x1024, .f32⟩
  | .hbm, ⟨22, _⟩ => ⟨S_, .f32⟩
  | .hbm, ⟨23, _⟩ => ⟨S320x1024, .f32⟩
  | .hbm, ⟨24, _⟩ => ⟨S320x1024, .f32⟩
  | .hbm, ⟨25, _⟩ => ⟨S320x1024, .f32⟩
  | .hbm, ⟨26, _⟩ => ⟨S_, .f32⟩
  | .hbm, ⟨27, _⟩ => ⟨S320x1024, .f32⟩
  | .hbm, ⟨28, _⟩ => ⟨S320x1024, .f32⟩
  | .hbm, ⟨29, _⟩ => ⟨S320x1024, .f32⟩
  | .hbm, ⟨30, _⟩ => ⟨S_, .f32⟩
  | .hbm, ⟨31, _⟩ => ⟨S320x1024, .f32⟩
  | .hbm, ⟨32, _⟩ => ⟨S320x1024, .f32⟩
  | .hbm, ⟨33, _⟩ => ⟨S320x1024, .f32⟩
  | .hbm, ⟨34, _⟩ => ⟨S_, .f32⟩
  | .hbm, ⟨35, _⟩ => ⟨S320x1024, .f32⟩
  | .hbm, ⟨36, _⟩ => ⟨S320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamFfnUp.lean ====
abbrev S4096x704 : Shape := ⟨2, ![4096, 704]⟩
abbrev S1024x704 : Shape := ⟨2, ![1024, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S1024x704, .f32⟩
  | .local _ .vmem, ⟨1, _⟩ => ⟨S1024x704, .f32⟩
  | .local _ .vmem, ⟨2, _⟩ => ⟨S1024x704, .f32⟩
  | .local _ .vmem, ⟨3, _⟩ => ⟨S1024x704, .f32⟩
  | .local _ .vmem, ⟨4, _⟩ => ⟨S1024x704, .f32⟩
  | .local _ .vmem, ⟨5, _⟩ => ⟨S1024x704, .f32⟩
  | .local _ .vmem, ⟨6, _⟩ => ⟨S1024x704, .f32⟩
  | .local _ .vmem, ⟨7, _⟩ => ⟨S1024x704, .f32⟩
  | .local _ .vmem, ⟨8, _⟩ => ⟨S1024x704, .f32⟩
  | .local _ .vmem, ⟨9, _⟩ => ⟨S1024x704, .f32⟩
  | .local _ .vmem, ⟨10, _⟩ => ⟨S1024x704, .f32⟩
  | .local _ .vmem, ⟨11, _⟩ => ⟨S1024x704, .f32⟩
  | .local _ .vmem, ⟨12, _⟩ => ⟨S1024x704, .f32⟩
  | .local _ .vmem, ⟨13, _⟩ => ⟨S1024x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamFfnUpIdeal.lean ====
abbrev S4096x704 : Shape := ⟨2, ![4096, 704]⟩
abbrev S1024x704 : Shape := ⟨2, ![1024, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S1024x704, .f32⟩
  | .local _ .vmem, ⟨1, _⟩ => ⟨S1024x704, .f32⟩
  | .local _ .vmem, ⟨2, _⟩ => ⟨S1024x704, .f32⟩
  | .local _ .vmem, ⟨3, _⟩ => ⟨S1024x704, .f32⟩
  | .local _ .vmem, ⟨4, _⟩ => ⟨S1024x704, .f32⟩
  | .local _ .vmem, ⟨5, _⟩ => ⟨S1024x704, .f32⟩
  | .local _ .vmem, ⟨6, _⟩ => ⟨S1024x704, .f32⟩
  | .local _ .vmem, ⟨7, _⟩ => ⟨S1024x704, .f32⟩
  | .local _ .vmem, ⟨8, _⟩ => ⟨S1024x704, .f32⟩
  | .local _ .vmem, ⟨9, _⟩ => ⟨S1024x704, .f32⟩
  | .local _ .vmem, ⟨10, _⟩ => ⟨S1024x704, .f32⟩
  | .local _ .vmem, ⟨11, _⟩ => ⟨S1024x704, .f32⟩
  | .local _ .vmem, ⟨12, _⟩ => ⟨S1024x704, .f32⟩
  | .local _ .vmem, ⟨13, _⟩ => ⟨S1024x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamFfnUpIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamFfnConv.lean ====
abbrev S12x704 : Shape := ⟨2, ![12, 704]⟩

abbrev nBuf : Space → Nat
  | .hbm => 7
  | .vmem => 7
  | .smem => 0
  | _ => 0

abbrev bufTy : (tb : Table) → Fin (tcTables nBuf tb) → BufTy
  | .hbm, ⟨0, _⟩ => ⟨S12x704, .f32⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S12x704, .f32⟩
  | .hbm, ⟨5, _⟩ => ⟨S12x704, .f32⟩
  | .hbm, ⟨6, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S12x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamFfnConvIdeal.lean ====
abbrev S12x704 : Shape := ⟨2, ![12, 704]⟩

abbrev nBuf : Space → Nat
  | .hbm => 7
  | .vmem => 7
  | .smem => 0
  | _ => 0

abbrev bufTy : (tb : Table) → Fin (tcTables nBuf tb) → BufTy
  | .hbm, ⟨0, _⟩ => ⟨S12x704, .f32⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S12x704, .f32⟩
  | .hbm, ⟨5, _⟩ => ⟨S12x704, .f32⟩
  | .hbm, ⟨6, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S12x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamFfnConvIdeal.lean ====
abbrev S12x704 : Shape := ⟨2, ![12, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x704, .f32⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S_, .f32⟩
  | .hbm, ⟨5, _⟩ => ⟨S12x704, .f32⟩
  | .hbm, ⟨6, _⟩ => ⟨S12x704, .f32⟩
  | .hbm, ⟨7, _⟩ => ⟨S_, .f32⟩
  | .hbm, ⟨8, _⟩ => ⟨S12x704, .f32⟩
  | .hbm, ⟨9, _⟩ => ⟨S12x704, .f32⟩
  | .hbm, ⟨10, _⟩ => ⟨S12x704, .f32⟩
  | .hbm, ⟨11, _⟩ => ⟨S_, .f32⟩
  | .hbm, ⟨12, _⟩ => ⟨S12x704, .f32⟩
  | .hbm, ⟨13, _⟩ => ⟨S12x704, .f32⟩
  | .hbm, ⟨14, _⟩ => ⟨S12x704, .f32⟩
  | .hbm, ⟨15, _⟩ => ⟨S_, .f32⟩
  | .hbm, ⟨16, _⟩ => ⟨S12x704, .f32⟩
  | .hbm, ⟨17, _⟩ => ⟨S12x704, .f32⟩
  | .hbm, ⟨18, _⟩ => ⟨S12x704, .f32⟩
  | .hbm, ⟨19, _⟩ => ⟨S_, .f32⟩
  | .hbm, ⟨20, _⟩ => ⟨S12x704, .f32⟩
  | .hbm, ⟨21, _⟩ => ⟨S12x704, .f32⟩
  | .hbm, ⟨22, _⟩ => ⟨S_, .f32⟩
  | .hbm, ⟨23, _⟩ => ⟨S12x704, .f32⟩
  | .hbm, ⟨24, _⟩ => ⟨S12x704, .f32⟩
  | .hbm, ⟨25, _⟩ => ⟨S12x704, .f32⟩
  | .hbm, ⟨26, _⟩ => ⟨S_, .f32⟩
  | .hbm, ⟨27, _⟩ => ⟨S12x704, .f32⟩
  | .hbm, ⟨28, _⟩ => ⟨S12x704, .f32⟩
  | .hbm, ⟨29, _⟩ => ⟨S12x704, .f32⟩
  | .hbm, ⟨30, _⟩ => ⟨S_, .f32⟩
  | .hbm, ⟨31, _⟩ => ⟨S12x704, .f32⟩
  | .hbm, ⟨32, _⟩ => ⟨S12x704, .f32⟩
  | .hbm, ⟨33, _⟩ => ⟨S12x704, .f32⟩
  | .hbm, ⟨34, _⟩ => ⟨S_, .f32⟩
  | .hbm, ⟨35, _⟩ => ⟨S12x704, .f32⟩
  | .hbm, ⟨36, _⟩ => ⟨S12x704, .f32⟩
  | _, _ => ⟨S12x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamFfnBias.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamFfnBiasIdeal.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamFfnBiasIdeal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamFfnDown.lean ====
abbrev S1408x1024 : Shape := ⟨2, ![1408, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S1408x1024, .f32⟩
  | .local _ .vmem, ⟨1, _⟩ => ⟨S1408x1024, .f32⟩
  | .local _ .vmem, ⟨2, _⟩ => ⟨S1408x1024, .f32⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1408x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1408x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1408x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1408x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1408x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1408x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1408x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamFfnDownIdeal.lean ====
abbrev S1408x1024 : Shape := ⟨2, ![1408, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S1408x1024, .f32⟩
  | .local _ .vmem, ⟨1, _⟩ => ⟨S1408x1024, .f32⟩
  | .local _ .vmem, ⟨2, _⟩ => ⟨S1408x1024, .f32⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1408x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1408x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1408x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1408x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1408x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1408x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1408x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamFfnDownIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamPleGate.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamPleGateIdeal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamPleGateIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamPleProj.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamPleProjIdeal.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamPleProjIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamNormFinal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamNormFinalIdeal.lean ====
variable {F : FTy → Type} [FloatOps F] [Named F]
def κ : String → Option EReal := fun
  | "bc1" => some ((8388608 / 5463681 : ℝ) : EReal)
  | "bc2" => some ((268435456 / 2672307 : ℝ) : EReal)
  | _ => none
-- ==== ReferenceAdamNormFinalIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Offsets.lean ====
/-
  Where the gradient kernel's loads and stores of `k`, `v`, `dk` and `dv` lie, in closed form.

  The kernel computes the first row of a block of keys from the grid point and the loop's trip in 32-bit words. This
  module decides, over the eight places of the innermost grid axis, what those words come to: block `2n` and block
  `2n + 1` of trip `n`, block `i - 1` of the last step at an odd place. The instances let the symbolic run tell the
  rectangles apart.
-/
module

public import proofs.«01_k».proof.Proof.Gen.KernelIdeal.Skeleton
public import proofs.«01_k».proof.Proof.Gen.KernelIdeal.Loops
public import Idealize.ShloMosaic.Lib.Tactic

@[expose] public section

namespace Cert.KernelIdeal.Gen

open Idealize.ShloMosaic Idealize.ShloMosaic.TcCoe Idealize.ShloMosaic.Tactic
open Cert.KernelIdeal

theorem trips_t1 : ∀ i : grid0.Coords, (k0_t1_loop i).trips = (i 2).val / 2 := by decide +kernel
theorem trips_t2 : ∀ i : grid0.Coords, (k0_t2_loop i).trips = 0 := by decide +kernel

theorem k0_off1_eq : ∀ (i : grid0.Coords) (k : Fin (k0_t1_loop i).trips), k0_off1 i k = ![512 * k.val, 0] := by
  decide +kernel
theorem k0_off2_eq : ∀ (i : grid0.Coords) (k : Fin (k0_t1_loop i).trips), k0_off2 i k = ![512 * k.val, 64] := by
  decide +kernel
theorem k0_off3_eq : ∀ (i : grid0.Coords) (k : Fin (k0_t1_loop i).trips), k0_off3 i k = ![512 * k.val + 256, 0] := by
  decide +kernel
theorem k0_off4_eq : ∀ (i : grid0.Coords) (k : Fin (k0_t1_loop i).trips), k0_off4 i k = ![512 * k.val + 256, 64] := by
  decide +kernel

instance (i : grid0.Coords) (k : Fin (k0_t1_loop i).trips) : ClosedOff (k0_off1 i k) := ⟨_, k0_off1_eq i k⟩
instance (i : grid0.Coords) (k : Fin (k0_t1_loop i).trips) : ClosedOff (k0_off2 i k) := ⟨_, k0_off2_eq i k⟩
instance (i : grid0.Coords) (k : Fin (k0_t1_loop i).trips) : ClosedOff (k0_off3 i k) := ⟨_, k0_off3_eq i k⟩
instance (i : grid0.Coords) (k : Fin (k0_t1_loop i).trips) : ClosedOff (k0_off4 i k) := ⟨_, k0_off4_eq i k⟩

/-- The block before the diagonal one. At place 0 the word wraps; no step uses it there. -/
theorem k0_off9_eq : ∀ i : grid0.Coords, k0_off9 i = ![(256 * (i 2).val + 4294967040) % 4294967296, 0] := by decide +kernel
theorem k0_off10_eq : ∀ i : grid0.Coords, k0_off10 i = ![(256 * (i 2).val + 4294967040) % 4294967296, 64] := by decide +kernel

instance (i : grid0.Coords) : ClosedOff (k0_off9 i) := ⟨_, k0_off9_eq i⟩
instance (i : grid0.Coords) : ClosedOff (k0_off10 i) := ⟨_, k0_off10_eq i⟩

/-- The test that zeroes the accumulators holds at the first place of the innermost axis alone. -/
theorem first_iff : ∀ i : grid0.Coords, (Scalar.cmpi .ne (Scalar.extui (Scalar.cmpi .eq (BitVec.ofNat 32 (i 2).val) 0#32) : BitVec 32) 0#32 = 1#1)
    ↔ (i 2).val = 0 := by decide +kernel
theorem cond2_iff : ∀ i : grid0.Coords, k0_cond2 i = 1#1 ↔ (i 2).val % 2 = 1 := by decide +kernel

end Cert.KernelIdeal.Gen

end
-- ==== Proof.Block.lean ====
/-
  What one block of keys adds, as functions of vectors.

  A grid point of the gradient kernel holds 256 queries of two heads and goes over the keys in blocks of 256. The score
  block has the keys along its rows and the queries along its columns. Of a head and a block this module names: the
  scores, their log-sigmoid, the running sum of what each key leaves over, the weights, the gradient of the weights, its
  running sum, and the gradient of the scores. `mk` is the causal mask on the diagonal block and nothing elsewhere.
  Everything is stated for any reading of the floats, in the operations of the program.
-/
module

public import proofs.«01_k».proof.Proof.Offsets
public import Idealize.ShloMosaic.Lib.VecWindow

@[expose] public section

noncomputable section

namespace Cert.Proof.Attn

open Cert.KernelIdeal Cert.KernelIdeal.Gen
open Idealize.ShloMosaic Idealize.ShloMosaic.TcCoe

variable {F : FTy → Type} [FloatOps F]

/-! ## One head, one block of keys -/

/-- The scores of a block: keys against queries. Also the gradient of the weights: values against the output's gradient. -/
def score (kb q : FVec F S256x64 .bf16) : FVec F S256x256 .f32 :=
  matmul dot_S256x64_S256x64_S256x256_1_1_0_0_n_n none kb q (constant S256x256 .f32 0x00000000#32)

/-- `log (sigmoid z)`. -/
def logSig (z : FVec F S256x256 .f32) : FVec F S256x256 .f32 :=
  subf (minimumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- `mat · x` with `x` in two halves: its leading part in bf16 and what that leaves. -/
def splitDot (mat : FVec F S256x256 .bf16) (x : FVec F S256x256 .f32) : FVec F S256x256 .f32 :=
  addf (matmul dot_S256x256_S256x256_S256x256_1_0_0_1_n_n none mat (truncf .bf16 x bitsLt_bf16_f32) (constant S256x256 .f32 0x00000000#32))
    (matmul dot_S256x256_S256x256_S256x256_1_0_0_1_n_n none mat
      (truncf .bf16 (subf x (extf .f32 (truncf .bf16 x bitsLt_bf16_f32) bitsLt_bf16_f32)) bitsLt_bf16_f32) (constant S256x256 .f32 0x00000000#32))

/-- The last row of a block. -/
def lastRow (x : FVec F S256x256 .f32) : FVec F S1x256 .f32 :=
  extractStridedSlice S1x256 ![255, 0] x slices_S256x256_o255_0_S1x256

/-- A row repeated over a block. -/
def rows (x : FVec F S1x256 .f32) : FVec F S256x256 .f32 := broadcastTo S256x256 x broadcasts_S1x256_S256x256

/-- The causal mask: zero where the key does not precede the query. -/
def causal (x : FVec F S256x256 .f32) : FVec F S256x256 .f32 :=
  select k0_pay201 x (broadcast S256x256 (Scalar.ofBits .f32 0x00000000#32))

/-- The running sums, within the block, of what the keys leave over. -/
def keepSums (mk : FVec F S256x256 .f32 → FVec F S256x256 .f32) (kb q : FVec F S256x64 .bf16) : FVec F S256x256 .f32 :=
  splitDot k0_pay199 (mk (subf (logSig (score kb q)) (score kb q)))

/-- The row carried over the blocks, after this one. -/
def runNext (mk : FVec F S256x256 .f32 → FVec F S256x256 .f32) (kb q : FVec F S256x64 .bf16) (run : FVec F S1x256 .f32) : FVec F S1x256 .f32 :=
  addf run (lastRow (keepSums mk kb q))

/-- The attention weights of a block. -/
def weights (mk : FVec F S256x256 .f32 → FVec F S256x256 .f32) (kb q : FVec F S256x64 .bf16) (tot run : FVec F S1x256 .f32) : FVec F S256x256 .f32 :=
  mk (exp (addf (logSig (score kb q)) (subf (rows (subf tot run)) (keepSums mk kb q))))

/-- The gradient of the logarithm of the weights. -/
def gradW (mk : FVec F S256x256 .f32 → FVec F S256x256 .f32) (kb vb q ct : FVec F S256x64 .bf16) (tot run : FVec F S1x256 .f32) : FVec F S256x256 .f32 :=
  mulf (score vb ct) (weights mk kb q tot run)

/-- The second row carried over the blocks, after this one. -/
def grunNext (mk : FVec F S256x256 .f32 → FVec F S256x256 .f32) (kb vb q ct : FVec F S256x64 .bf16) (tot run grun : FVec F S1x256 .f32) : FVec F S1x256 .f32 :=
  addf grun (addf (lastRow (splitDot k0_pay200 (gradW mk kb vb q ct tot run))) (lastRow (gradW mk kb vb q ct tot run)))

/-- The gradient of the scores. -/
def gradZ (mk : FVec F S256x256 .f32 → FVec F S256x256 .f32) (kb vb q ct : FVec F S256x64 .bf16) (tot run grun : FVec F S1x256 .f32) : FVec F S256x256 .f32 :=
  mk (subf (gradW mk kb vb q ct tot run) (mulf (exp (logSig (score kb q)))
    (addf (gradW mk kb vb q ct tot run) (addf (rows grun) (splitDot k0_pay200 (gradW mk kb vb q ct tot run))))))

/-- A block of an accumulator with `x · y` added: `x` the weights or the gradient of the scores, `y` a block of queries. -/
def accum (x : FVec F S256x256 .f32) (y : FVec F S256x64 .bf16) (old : FVec F S256x64 .f32) : FVec F S256x64 .f32 :=
  addf (shapeCast S256x64 old shapeCasts_S256x64_S256x64)
    (matmul dot_S256x256_S256x64_S256x64_1_0_0_1_n_n none (truncf .bf16 x bitsLt_bf16_f32) y (constant S256x64 .f32 0x00000000#32))

/-- A block's part of the gradient of the queries. -/
def partQ (dz : FVec F S256x256 .f32) (kb : FVec F S256x64 .bf16) : FVec F S256x64 .f32 :=
  matmul dot_S256x256_S256x64_S256x64_0_0_1_1_n_n none (truncf .bf16 dz bitsLt_bf16_f32) kb (constant S256x64 .f32 0x00000000#32)

/-- The gradient of the queries after one block. -/
def dqOne (dq x : FVec F S256x64 .f32) : FVec F S256x64 .f32 :=
  addf dq (addf (broadcast S256x64 (Scalar.ofBits .f32 0x00000000#32)) x)

/-- The gradient of the queries after two blocks. -/
def dqTwo (dq x y : FVec F S256x64 .f32) : FVec F S256x64 .f32 :=
  addf dq (addf (addf (broadcast S256x64 (Scalar.ofBits .f32 0x00000000#32)) x) y)

/-! ## Blocks of the arrays -/

/-- The block of 256 rows and 64 lanes at row `r`, lane `l`. -/
def rd {α : Type} (x : S2048x128.Idx → α) (r l : ℕ) : S256x64.Idx → α := fun y =>
  x (fun a => ⟨((![r, l] : Fin 2 → ℕ) a + (y a).val) % S2048x128.size a, Nat.mod_lt _ (by fin_cases a <;> decide)⟩)

/-- The array with a block of 256 rows and 64 lanes put at row `r`, lane `l`. -/
def wr {α : Type} (x : S2048x128.Idx → α) (r l : ℕ) (w : S256x64.Idx → α) : S2048x128.Idx → α :=
  VecWindow.put x ![r, l] S256x64.size w

theorem window_eq_rd {α : Type} (x : S2048x128.Idx → α) (r l : ℕ) (inb : ∀ a, (![r, l] : Fin 2 → ℕ) a + S256x64.size a ≤ S2048x128.size a) :
    VecWindow.window x ![r, l] S256x64.size inb = rd x r l := by
  funext y
  unfold VecWindow.window rd
  refine congrArg x (funext fun a => Fin.ext ?_)
  show (![r, l] : Fin 2 → ℕ) a + 1 * (y a).val = ((![r, l] : Fin 2 → ℕ) a + (y a).val) % S2048x128.size a
  have h1 := inb a
  have h2 : (y a).val < S256x64.size a := (y a).isLt
  rw [Nat.mod_eq_of_lt (by omega)]; omega

/-! ## The carried state of a grid point -/

/-- What a loop carries: a head's two running rows and its block of `dq`, for both heads. -/
abbrev Carry (F : FTy → Type) [FloatOps F] : Type :=
  FVec F S1x256 .f32 × FVec F S1x256 .f32 × FVec F S256x64 .f32 × FVec F S1x256 .f32 × FVec F S1x256 .f32 × FVec F S256x64 .f32

/-- A key block's array and an accumulator's. -/
abbrev KArr (F : FTy → Type) [FloatOps F] : Type := S2048x128.Idx → F .bf16
abbrev DArr (F : FTy → Type) [FloatOps F] : Type := S2048x128.Idx → F .f32

/-- The state of a grid point: what the loop carries, `dk`, `dv`. -/
structure St (F : FTy → Type) [FloatOps F] where
  c : Carry F
  dk : DArr F
  dv : DArr F

variable (K V : KArr F) (q0 q1 d0 d1 : FVec F S256x64 .bf16) (t0 t1 : FVec F S1x256 .f32)

/-- One head over two consecutive blocks of keys, the second at `mk`: the rows and `dq` after them, and each block's weights and gradient of the
    scores. -/
structure Two (F : FTy → Type) [FloatOps F] where
  run : FVec F S1x256 .f32
  grun : FVec F S1x256 .f32
  dq : FVec F S256x64 .f32
  w : FVec F S256x256 .f32
  dz : FVec F S256x256 .f32
  w' : FVec F S256x256 .f32
  dz' : FVec F S256x256 .f32

def two (mk : FVec F S256x256 .f32 → FVec F S256x256 .f32) (kb vb kb' vb' q ct : FVec F S256x64 .bf16) (tot run grun : FVec F S1x256 .f32) (dq : FVec F S256x64 .f32) : Two F where
  run := runNext mk kb' q (runNext id kb q run)
  grun := grunNext mk kb' vb' q ct tot (runNext id kb q run) (grunNext id kb vb q ct tot run grun)
  dq := dqTwo dq (partQ (gradZ id kb vb q ct tot run grun) kb)
    (partQ (gradZ mk kb' vb' q ct tot (runNext id kb q run) (grunNext id kb vb q ct tot run grun)) kb')
  w := weights id kb q tot run
  dz := gradZ id kb vb q ct tot run grun
  w' := weights mk kb' q tot (runNext id kb q run)
  dz' := gradZ mk kb' vb' q ct tot (runNext id kb q run) (grunNext id kb vb q ct tot run grun)

/-- Both heads over the two blocks of keys at row `r`, the second at `mk`. -/
def pairSt (mk : FVec F S256x256 .f32 → FVec F S256x256 .f32) (r : ℕ) (s : St F) : St F :=
  let A := two mk (rd K r 0) (rd V r 0) (rd K (r + 256) 0) (rd V (r + 256) 0) q0 d0 t0 s.c.1 s.c.2.1 s.c.2.2.1
  let B := two mk (rd K r 64) (rd V r 64) (rd K (r + 256) 64) (rd V (r + 256) 64) q1 d1 t1 s.c.2.2.2.1 s.c.2.2.2.2.1 s.c.2.2.2.2.2
  { c := (A.run, A.grun, A.dq, B.run, B.grun, B.dq)
    dk := wr (wr (wr (wr s.dk r 0 (accum A.dz q0 (rd s.dk r 0))) r 64 (accum B.dz q1 (rd s.dk r 64)))
      (r + 256) 0 (accum A.dz' q0 (rd s.dk (r + 256) 0))) (r + 256) 64 (accum B.dz' q1 (rd s.dk (r + 256) 64))
    dv := wr (wr (wr (wr s.dv r 0 (accum A.w d0 (rd s.dv r 0))) r 64 (accum B.w d1 (rd s.dv r 64)))
      (r + 256) 0 (accum A.w' d0 (rd s.dv (r + 256) 0))) (r + 256) 64 (accum B.w' d1 (rd s.dv (r + 256) 64)) }

/-- Both heads over the one block of keys at row `r`, masked. The rows end unused. -/
def oneSt (r : ℕ) (s : St F) : St F :=
  let z0 := gradZ causal (rd K r 0) (rd V r 0) q0 d0 t0 s.c.1 s.c.2.1
  let z1 := gradZ causal (rd K r 64) (rd V r 64) q1 d1 t1 s.c.2.2.2.1 s.c.2.2.2.2.1
  { c := (s.c.1, s.c.2.1, dqOne s.c.2.2.1 (partQ z0 (rd K r 0)), s.c.2.2.2.1, s.c.2.2.2.2.1, dqOne s.c.2.2.2.2.2 (partQ z1 (rd K r 64)))
    dk := wr (wr s.dk r 0 (accum z0 q0 (rd s.dk r 0))) r 64 (accum z1 q1 (rd s.dk r 64))
    dv := wr (wr s.dv r 0 (accum (weights causal (rd K r 0) q0 t0 s.c.1) d0 (rd s.dv r 0))) r 64
      (accum (weights causal (rd K r 64) q1 t1 s.c.2.2.2.1) d1 (rd s.dv r 64)) }

/-- The carry a grid point begins with. -/
def carry0 : Carry F := (k0_pay206, k0_pay207, k0_pay208, k0_pay206, k0_pay207, k0_pay208)

/-- The state after `n` trips of the loop over pairs of blocks. -/
def loopSt (c0 : Carry F) (dk dv : DArr F) : ℕ → St F
  | 0 => ⟨c0, dk, dv⟩
  | n + 1 => pairSt K V q0 q1 d0 d1 t0 t1 id (512 * n) (loopSt c0 dk dv n)

/-- The state at the end of the grid point at place `i` of the innermost axis. -/
def pointSt (i : ℕ) (dk dv : DArr F) : St F :=
  if i % 2 = 1 then pairSt K V q0 q1 d0 d1 t0 t1 causal (256 * (i - 1)) (loopSt K V q0 q1 d0 d1 t0 t1 carry0 dk dv (i / 2))
  else oneSt K V q0 q1 d0 d1 t0 t1 (256 * i) (loopSt K V q0 q1 d0 d1 t0 t1 carry0 dk dv (i / 2))

end Cert.Proof.Attn
end
-- ==== Proof.Trip.lean ====
module

public import proofs.«01_k».proof.Proof.Block
public import Idealize.ShloMosaic.Lib.Exec
public import Idealize.ShloMosaic.Lib.Pipeline.Kit

@[expose] public section

set_option maxRecDepth 16384
noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none
local notation "𝕄" => MT nD τ sig Unit (Elt F) ℕ (UR sig nD τ) ℕ

section Trip

variable (c : Dev nD) (i : grid0.Coords)
  (arg3 : Memref sig .tc .vmem S256x128 .bf16) (harg3 : arg3.IsWhole) (arg4 : Memref sig .tc .vmem S2048x128 .bf16) (harg4 : arg4.IsWhole)
  (arg5 : Memref sig .tc .vmem S2048x128 .bf16) (harg5 : arg5.IsWhole) (arg6 : Memref sig .tc .vmem S1x1x1x16x256 .f32) (harg6 : arg6.IsWhole)
  (arg7 : Memref sig .tc .vmem S256x128 .bf16) (harg7 : arg7.IsWhole) (arg8 : Memref sig .tc .vmem S256x128 .f32) (harg8 : arg8.IsWhole)
  (arg9 : Memref sig .tc .vmem S2048x128 .f32) (harg9 : arg9.IsWhole) (arg10 : Memref sig .tc .vmem S2048x128 .f32) (harg10 : arg10.IsWhole)
  (arg2 : BitVec 32) (v8 : FVec F S256x256 .bf16) (v12 : FVec F S256x256 .bf16) (v13 : IVec S256x256 1)
  (v18 : FVec F S256x64 .bf16) (v23 : FVec F S256x64 .bf16) (v24 : Vec F S256x64 .bf16) (v25 : Vec F S256x64 .bf16)
  (v27 : FVec F S1x256 .f32) (v29 : FVec F S1x256 .f32) (v30 : FVec F S1x256 .f32) (v31 : FVec F S1x256 .f32)
  (XK : Buf (Elt F) (arg4.view.loc (c : Thread nD τ))) (XV : Buf (Elt F) (arg5.view.loc (c : Thread nD τ)))

/-- The buffers a block of keys touches: `k` and `v` as they are, `dk` at `g`, `dv` at `h`. -/
abbrev TripRes (g : Buf (Elt F) (arg9.view.loc (c : Thread nD τ))) (h : Buf (Elt F) (arg10.view.loc (c : Thread nD τ))) : sProp 𝕄 :=
  iprop((arg4.view.loc (c : Thread nD τ) ↦[arg4.view.set]{fullShare} XK) ∗ (arg5.view.loc (c : Thread nD τ) ↦[arg5.view.set]{fullShare} XV)
    ∗ (arg9.view.loc (c : Thread nD τ) ↦[arg9.view.set]{fullShare} g) ∗ (arg10.view.loc (c : Thread nD τ) ↦[arg10.view.set]{fullShare} h))

omit [FloatOps F] in
theorem readAt_rd {e : EltTy} (v : View sig .tc .vmem S2048x128 e) (g : v.ty.Contents (Elt F)) {off : Fin 2 → ℕ} (r l : ℕ) (h : off = ![r, l]) (inb : ∀ a, off a + S256x64.size a ≤ S2048x128.size a) :
    v.readAt (Elt F) (Rect.unit (s := S2048x128) off S256x64.size inb).toLoadRect g = rd (v.read (Elt F) g) r l := by
  subst h
  rw [View.readAt_unit v g inb rfl inb, window_eq_rd]

theorem wr4 {α : Type} {x : S2048x128.Idx → α} {o1 o2 o3 o4 z : Fin 2 → ℕ} {w1 w1' w2 w2' w3 w3' w4 w4' : ((a : Fin 2) → Fin (z a)) → α} (h1 : w1 = w1') (h2 : w2 = w2') (h3 : w3 = w3')
    (h4 : w4 = w4') : VecWindow.put (VecWindow.put (VecWindow.put (VecWindow.put x o1 z w1) o2 z w2) o3 z w3) o4 z w4
      = VecWindow.put (s := S2048x128) (VecWindow.put (VecWindow.put (VecWindow.put x o1 z w1') o2 z w2') o3 z w3') o4 z w4' := by
  subst h1 h2 h3 h4; rfl

theorem trip_lt : ∀ (i : grid0.Coords) (k : Fin (k0_t1_loop i).trips), k.val < 4 := by decide +kernel

theorem blockIn {r l : ℕ} (hr : r ≤ 1792) (hl : l ≤ 64) : ∀ a, (![r, l] : Fin 2 → ℕ) a + S256x64.size a ≤ S2048x128.size a := by
  intro a
  fin_cases a
  · show r + 256 ≤ 2048; omega
  · show l + 64 ≤ 128; omega

set_option maxHeartbeats 4000000 in
theorem tripRun (hv8 : v8 = k0_pay199) (hv12 : v12 = k0_pay200) (k : Fin (k0_t1_loop i).trips) (a : Carry F) (g : Buf (Elt F) (arg9.view.loc (c : Thread nD τ))) (h : Buf (Elt F) (arg10.view.loc (c : Thread nD τ))) :
      TripRes c arg4 arg5 arg9 arg10 XK XV g h ⊢ wp frame (wpE (defs₀ (F := F)) 𝒱₀ (c : Thread nD τ) none) Set.univ
        (k0_t1_body (F := F) i arg3 harg3 arg4 harg4 arg5 harg5 arg6 harg6 arg7 harg7 arg8 harg8 arg9 harg9 arg10 harg10 arg2 v8 v12 v13 v18 v23 v24 v25 v27 v29 v30 v31 k a)
        (fun a' => iprop(⌜a' = (pairSt (arg4.view.read (Elt F) XK) (arg5.view.read (Elt F) XV) v18 v23 v24 v25 v27 v29 id (512 * k.val) ⟨a, arg9.view.read (Elt F) g, arg10.view.read (Elt F) h⟩).c⌝
          ∗ TripRes c arg4 arg5 arg9 arg10 XK XV
            (arg9.view.rep (pairSt (arg4.view.read (Elt F) XK) (arg5.view.read (Elt F) XV) v18 v23 v24 v25 v27 v29 id (512 * k.val) ⟨a, arg9.view.read (Elt F) g, arg10.view.read (Elt F) h⟩).dk)
            (arg10.view.rep (pairSt (arg4.view.read (Elt F) XK) (arg5.view.read (Elt F) XV) v18 v23 v24 v25 v27 v29 id (512 * k.val) ⟨a, arg9.view.read (Elt F) g, arg10.view.read (Elt F) h⟩).dv))) := by
  subst hv8 hv12
  obtain ⟨a1, a2, a3, a4, a5, a6⟩ := a
  iintro ⟨HK, HV, HG, HH⟩
  sl_unfold [k0_t1_body]
  sl_exec
  sl_step
  have hb : ∀ l, l ≤ 64 → ∀ a, (![512 * k.val, l] : Fin 2 → ℕ) a + S256x64.size a ≤ S2048x128.size a := fun l hl => blockIn (by have := trip_lt i k; omega) hl
  have hb' : ∀ l, l ≤ 64 → ∀ a, (![512 * k.val + 256, l] : Fin 2 → ℕ) a + S256x64.size a ≤ S2048x128.size a := fun l hl => blockIn (by have := trip_lt i k; omega) hl
  have i1 : ∀ a, k0_off1 i k a + S256x64.size a ≤ S2048x128.size a := by rw [k0_off1_eq]; exact hb 0 (by omega)
  have i2 : ∀ a, k0_off2 i k a + S256x64.size a ≤ S2048x128.size a := by rw [k0_off2_eq]; exact hb 64 (by omega)
  have i3 : ∀ a, k0_off3 i k a + S256x64.size a ≤ S2048x128.size a := by rw [k0_off3_eq]; exact hb' 0 (by omega)
  have i4 : ∀ a, k0_off4 i k a + S256x64.size a ≤ S2048x128.size a := by rw [k0_off4_eq]; exact hb' 64 (by omega)
  have R1 : ∀ {e : EltTy} (v : View sig .tc .vmem S2048x128 e) (g : v.ty.Contents (Elt F)), rd (v.read (Elt F) g) (512 * k.val) 0 = _ := fun v g => (readAt_rd v g _ _ (k0_off1_eq i k) i1).symm
  have R2 : ∀ {e : EltTy} (v : View sig .tc .vmem S2048x128 e) (g : v.ty.Contents (Elt F)), rd (v.read (Elt F) g) (512 * k.val) 64 = _ := fun v g => (readAt_rd v g _ _ (k0_off2_eq i k) i2).symm
  have R3 : ∀ {e : EltTy} (v : View sig .tc .vmem S2048x128 e) (g : v.ty.Contents (Elt F)), rd (v.read (Elt F) g) (512 * k.val + 256) 0 = _ := fun v g => (readAt_rd v g _ _ (k0_off3_eq i k) i3).symm
  have R4 : ∀ {e : EltTy} (v : View sig .tc .vmem S2048x128 e) (g : v.ty.Contents (Elt F)), rd (v.read (Elt F) g) (512 * k.val + 256) 64 = _ := fun v g => (readAt_rd v g _ _ (k0_off4_eq i k) i4).symm
  isplitl []
  · ipureintro
    dsimp only [pairSt, two]
    rw [R1, R2, R3, R4, R1, R2, R3, R4]
    rfl
  isplitl [HK]; · iexact HK
  isplitl [HV]; · iexact HV
  isplitl [HG]
  · iapply (pointsTo_rep_of_read (c : Thread nD τ) arg9 _ fullShare _ ?_) $$ HG
    rw [View.read_writes_cons_put arg9.view g _ _ _ (k0_off4_eq i k), View.read_writes_cons_put arg9.view g _ _ _ (k0_off3_eq i k),
      View.read_writes_cons_put arg9.view g _ _ _ (k0_off2_eq i k), View.read_writes_cons_put arg9.view g _ _ _ (k0_off1_eq i k), View.writes_nil]
    dsimp only [pairSt, two, wr]
    rw [R1, R2, R3, R4, R1, R2, R3, R4, R1, R2, R3, R4]
    refine wr4 ?_ ?_ ?_ ?_ <;> rfl
  · iapply (pointsTo_rep_of_read (c : Thread nD τ) arg10 _ fullShare _ ?_) $$ HH
    rw [View.read_writes_cons_put arg10.view h _ _ _ (k0_off4_eq i k), View.read_writes_cons_put arg10.view h _ _ _ (k0_off3_eq i k),
      View.read_writes_cons_put arg10.view h _ _ _ (k0_off2_eq i k), View.read_writes_cons_put arg10.view h _ _ _ (k0_off1_eq i k), View.writes_nil]
    dsimp only [pairSt, two, wr]
    rw [R1, R2, R3, R4, R1, R2, R3, R4]
    refine wr4 ?_ ?_ ?_ ?_ <;> rfl

/-- The state before trip `k`, from what the buffers hold at the loop's entry. -/
abbrev stAt (init : Carry F) (g : Buf (Elt F) (arg9.view.loc (c : Thread nD τ))) (h : Buf (Elt F) (arg10.view.loc (c : Thread nD τ))) (k : ℕ) : St F :=
  loopSt (arg4.view.read (Elt F) XK) (arg5.view.read (Elt F) XV) v18 v23 v24 v25 v27 v29 init (arg9.view.read (Elt F) g) (arg10.view.read (Elt F) h) k

/-- A buffer before trip `k`: as it was found at trip 0, then holding the array `X k`. -/
def bufAt (v : Memref sig .tc .vmem S2048x128 .f32) (g : Buf (Elt F) (v.view.loc (c : Thread nD τ))) (X : ℕ → DArr F) : ℕ → Buf (Elt F) (v.view.loc (c : Thread nD τ))
  | 0 => g
  | k + 1 => v.view.rep (X (k + 1))

omit harg3 in
theorem read_bufAt (v : Memref sig .tc .vmem S2048x128 .f32) (g : Buf (Elt F) (v.view.loc (c : Thread nD τ))) (X : ℕ → DArr F) (h0 : X 0 = v.view.read (Elt F) g) (k : ℕ) :
    v.view.read (Elt F) (bufAt c v g X k) = X k := by
  cases k with
  | zero => exact h0.symm
  | succ k => exact View.read_rep _ _

set_option warn.classDefReducibility false in
/-- The invariant of the loop over pairs of blocks: the carry and the two accumulators are the state's. -/
@[sl_loop] def loopInv1 (init : Carry F) (g : Buf (Elt F) (arg9.view.loc (c : Thread nD τ))) (h : Buf (Elt F) (arg10.view.loc (c : Thread nD τ))) :
    LoopInvTy_k0_t1 (F := F) Unit ℕ (UR sig nD τ) ℕ 𝒱₀ c none Set.univ i arg3 harg3 arg4 harg4 arg5 harg5 arg6 harg6 arg7 harg7 arg8 harg8 arg9 harg9 arg10 harg10 arg2 v8 v12 v13 v18 v23 v24 v25 v27 v29 v30 v31 init where
  inv k acc := iprop(⌜acc = (stAt c arg4 arg5 arg9 arg10 v18 v23 v24 v25 v27 v29 XK XV init g h k).c⌝ ∗ ⌜v8 = k0_pay199 ∧ v12 = k0_pay200⌝
    ∗ TripRes c arg4 arg5 arg9 arg10 XK XV
      (bufAt c arg9 g (fun k => (stAt c arg4 arg5 arg9 arg10 v18 v23 v24 v25 v27 v29 XK XV init g h k).dk) k)
      (bufAt c arg10 h (fun k => (stAt c arg4 arg5 arg9 arg10 v18 v23 v24 v25 v27 v29 XK XV init g h k).dv) k))
  step k acc := by
    iintro ⟨%ha, %hv, H⟩
    subst ha
    iapply (wp_wand_r Idealize.ShloMosaic.frame (wpE (defs₀ (F := F)) 𝒱₀ (c : Thread nD τ) none) Set.univ)
    isplitl [H]
    · iapply (tripRun c i arg3 harg3 arg4 harg4 arg5 harg5 arg6 harg6 arg7 harg7 arg8 harg8 arg9 harg9 arg10 harg10 arg2 v8 v12 v13 v18 v23 v24 v25 v27 v29 v30 v31 XK XV hv.1 hv.2 k _ _ _)
      iexact H
    · iintro %a' ⟨%ha', H'⟩
      rw [read_bufAt c arg9 g _ rfl, read_bufAt c arg10 h _ rfl] at ha'
      isplitr
      · ipureintro; exact ha'
      isplitr
      · ipureintro; exact hv
      rw [read_bufAt c arg9 g _ rfl, read_bufAt c arg10 h _ rfl]
      iexact H'

set_option warn.classDefReducibility false in
/-- The invariant of the remainder loop, which makes no trip. -/
@[sl_loop] def loopInv2 (v54 : BitVec 32) (init : Carry F) (g : Buf (Elt F) (arg9.view.loc (c : Thread nD τ))) (h : Buf (Elt F) (arg10.view.loc (c : Thread nD τ))) :
    LoopInvTy_k0_t2 (F := F) Unit ℕ (UR sig nD τ) ℕ 𝒱₀ c none Set.univ i arg3 harg3 arg4 harg4 arg5 harg5 arg6 harg6 arg7 harg7 arg8 harg8 arg9 harg9 arg10 harg10 arg2 v8 v12 v13 v18 v23 v24 v25 v27 v29 v30 v31 v54 init where
  inv _ acc := iprop(⌜acc = init⌝ ∗ TripRes c arg4 arg5 arg9 arg10 XK XV g h)
  step k _ := (Nat.not_lt_zero _ (Nat.lt_of_lt_of_eq k.isLt (trips_t2 i))).elim

end Trip
end Cert.Proof.Attn
end
-- ==== Proof.Point.lean ====
module

public import proofs.«01_k».proof.Proof.Trip
public import Idealize.ShloMosaic.Lib.Exec
public import Idealize.ShloMosaic.Lib.Pipeline.Kit

@[expose] public section

set_option maxRecDepth 16384
noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Part

variable (c : Dev nD) (i : grid0.Coords)
  (arg3 : Memref sig .tc .vmem S256x128 .bf16) (harg3 : arg3.IsWhole) (arg4 : Memref sig .tc .vmem S2048x128 .bf16) (harg4 : arg4.IsWhole)
  (arg5 : Memref sig .tc .vmem S2048x128 .bf16) (harg5 : arg5.IsWhole) (arg6 : Memref sig .tc .vmem S1x1x1x16x256 .f32) (harg6 : arg6.IsWhole)
  (arg7 : Memref sig .tc .vmem S256x128 .bf16) (harg7 : arg7.IsWhole) (arg8 : Memref sig .tc .vmem S256x128 .f32) (harg8 : arg8.IsWhole)
  (arg9 : Memref sig .tc .vmem S2048x128 .f32) (harg9 : arg9.IsWhole) (arg10 : Memref sig .tc .vmem S2048x128 .f32) (harg10 : arg10.IsWhole)
  (v18 : FVec F S256x64 .bf16) (v23 : FVec F S256x64 .bf16) (v24 : Vec F S256x64 .bf16) (v25 : Vec F S256x64 .bf16)
  (v27 : FVec F S1x256 .f32) (v29 : FVec F S1x256 .f32)
  (XK : Buf (Elt F) (arg4.view.loc (c : Thread nD τ))) (XV : Buf (Elt F) (arg5.view.loc (c : Thread nD τ)))

omit [FloatOps F] in
/-- A block read past the two blocks written above it. -/
theorem readOver2 (v : View sig .tc .vmem S2048x128 .f32) (g : v.ty.Contents (Elt F)) {r l : ℕ} {o1 o2 o3 : Fin 2 → ℕ} (e1 : o1 = ![r, 0]) (e2 : o2 = ![r, 64]) (e3 : o3 = ![r + 256, l])
    (i1 : ∀ a, o1 a + S256x64.size a ≤ S2048x128.size a) (i2 : ∀ a, o2 a + S256x64.size a ≤ S2048x128.size a) (i3 : ∀ a, o3 a + S256x64.size a ≤ S2048x128.size a) (w1 w2) :
    v.readAt (Elt F) (Rect.unit (s := S2048x128) o3 S256x64.size i3).toLoadRect (v.writes (Elt F) g [⟨Rect.unit (s := S2048x128) o2 S256x64.size i2, w2⟩, ⟨Rect.unit (s := S2048x128) o1 S256x64.size i1, w1⟩])
      = v.readAt (Elt F) (Rect.unit (s := S2048x128) o3 S256x64.size i3).toLoadRect g := by
  rw [View.readAt_unit v _ i3 rfl i3, View.readAt_unit v _ i3 rfl i3, View.read_writes_cons_put v _ _ _ _ e2, View.read_writes_cons_put v _ _ _ _ e1, View.writes_nil]
  subst e3
  rw [VecWindow.window_put_of_disjoint _ _ _ _ _ _ _ 0 (Or.inr (le_refl (r + 256))), VecWindow.window_put_of_disjoint _ _ _ _ _ _ _ 0 (Or.inr (le_refl (r + 256)))]

omit [FloatOps F] in
/-- The same with the block beside it written too. -/
theorem readOver3 (v : View sig .tc .vmem S2048x128 .f32) (g : v.ty.Contents (Elt F)) {r : ℕ} {o1 o2 o3 o4 : Fin 2 → ℕ} (e1 : o1 = ![r, 0]) (e2 : o2 = ![r, 64]) (e3 : o3 = ![r + 256, 0]) (e4 : o4 = ![r + 256, 64])
    (i1 : ∀ a, o1 a + S256x64.size a ≤ S2048x128.size a) (i2 : ∀ a, o2 a + S256x64.size a ≤ S2048x128.size a) (i3 : ∀ a, o3 a + S256x64.size a ≤ S2048x128.size a) (i4 : ∀ a, o4 a + S256x64.size a ≤ S2048x128.size a) (w1 w2 w3) :
    v.readAt (Elt F) (Rect.unit (s := S2048x128) o4 S256x64.size i4).toLoadRect (v.writes (Elt F) g
        [⟨Rect.unit (s := S2048x128) o3 S256x64.size i3, w3⟩, ⟨Rect.unit (s := S2048x128) o2 S256x64.size i2, w2⟩, ⟨Rect.unit (s := S2048x128) o1 S256x64.size i1, w1⟩])
      = v.readAt (Elt F) (Rect.unit (s := S2048x128) o4 S256x64.size i4).toLoadRect g := by
  rw [View.readAt_unit v _ i4 rfl i4, View.readAt_unit v _ i4 rfl i4, View.read_writes_cons_put v _ _ _ _ e3, View.read_writes_cons_put v _ _ _ _ e2, View.read_writes_cons_put v _ _ _ _ e1, View.writes_nil]
  subst e4
  rw [VecWindow.window_put_of_disjoint _ _ _ _ _ _ _ 1 (Or.inr (le_refl 64)), VecWindow.window_put_of_disjoint _ _ _ _ _ _ _ 0 (Or.inr (le_refl (r + 256))),
    VecWindow.window_put_of_disjoint _ _ _ _ _ _ _ 0 (Or.inr (le_refl (r + 256)))]

theorem wr2 {α : Type} {x : S2048x128.Idx → α} {o1 o2 z : Fin 2 → ℕ} {w1 w1' w2 w2' : ((a : Fin 2) → Fin (z a)) → α} (h1 : w1 = w1') (h2 : w2 = w2') :
    VecWindow.put (VecWindow.put x o1 z w1) o2 z w2 = VecWindow.put (s := S2048x128) (VecWindow.put x o1 z w1') o2 z w2' := by
  subst h1 h2; rfl

set_option maxHeartbeats 8000000 in
theorem part23_odd (h2 : k0_cond2 i = 1#1) (g : Buf (Elt F) (arg9.view.loc (c : Thread nD τ))) (h : Buf (Elt F) (arg10.view.loc (c : Thread nD τ))) :
      TripRes c arg4 arg5 arg9 arg10 XK XV g h ⊢ wp frame (wpE (defs₀ (F := F)) 𝒱₀ (c : Thread nD τ) none) Set.univ
        (k0_part23 (F := F) i arg3 harg3 arg4 harg4 arg5 harg5 arg6 harg6 arg7 harg7 arg8 harg8 arg9 harg9 arg10 harg10 (BitVec.ofNat 32 (i 2).val) k0_pay199 k0_pay200 k0_pay201 v18 v23 v24 v25 v27 v29 k0_pay206 k0_pay207)
        (fun a' => iprop(⌜a' = ⟨(pointSt (arg4.view.read (Elt F) XK) (arg5.view.read (Elt F) XV) v18 v23 v24 v25 v27 v29 (i 2).val (arg9.view.read (Elt F) g) (arg10.view.read (Elt F) h)).c.2.2.1, (pointSt (arg4.view.read (Elt F) XK) (arg5.view.read (Elt F) XV) v18 v23 v24 v25 v27 v29 (i 2).val (arg9.view.read (Elt F) g) (arg10.view.read (Elt F) h)).c.2.2.2.2.2, Scalar.ofBits .f32 0x3E000000#32⟩⌝
          ∗ TripRes c arg4 arg5 arg9 arg10 XK XV (arg9.view.rep (pointSt (arg4.view.read (Elt F) XK) (arg5.view.read (Elt F) XV) v18 v23 v24 v25 v27 v29 (i 2).val (arg9.view.read (Elt F) g) (arg10.view.read (Elt F) h)).dk) (arg10.view.rep (pointSt (arg4.view.read (Elt F) XK) (arg5.view.read (Elt F) XV) v18 v23 v24 v25 v27 v29 (i 2).val (arg9.view.read (Elt F) g) (arg10.view.read (Elt F) h)).dv))) := by
  have hv : (k0_pay199 : FVec F S256x256 .bf16) = k0_pay199 ∧ (k0_pay200 : FVec F S256x256 .bf16) = k0_pay200 := ⟨rfl, rfl⟩
  iintro ⟨HK, HV, HG, HH⟩
  sl_unfold [k0_part23]
  sl_exec
  sl_step
  have hn : Scf.trips (k0_t1_loop i).lb (k0_t1_loop i).ub (k0_t1_loop i).st = (i 2).val / 2 := trips_t1 i
  have hlt : (i 2).val < 8 := (i 2).isLt
  have ho : (i 2).val % 2 = 1 := (cond2_iff i).mp h2
  have es : 256 * (i 2).val = 256 * ((i 2).val - 1) + 256 := by omega
  have em : (256 * (i 2).val + 4294967040) % 4294967296 = 256 * ((i 2).val - 1) := by
    generalize (i 2).val = x at hlt ho ⊢
    omega
  have e9 : k0_off9 i = ![256 * ((i 2).val - 1), 0] := by rw [k0_off9_eq, em]
  have e10 : k0_off10 i = ![256 * ((i 2).val - 1), 64] := by rw [k0_off10_eq, em]
  have e11 : k0_off11 i = ![256 * ((i 2).val - 1) + 256, 0] := by rw [k0_off11_eq, ← es]
  have e12 : k0_off12 i = ![256 * ((i 2).val - 1) + 256, 64] := by rw [k0_off12_eq, ← es]
  have i1 : ∀ a, k0_off9 i a + S256x64.size a ≤ S2048x128.size a := by rw [e9]; exact blockIn (by omega) (by omega)
  have i2 : ∀ a, k0_off10 i a + S256x64.size a ≤ S2048x128.size a := by rw [e10]; exact blockIn (by omega) (by omega)
  have i3 : ∀ a, k0_off11 i a + S256x64.size a ≤ S2048x128.size a := by rw [e11]; exact blockIn (by omega) (by omega)
  have i4 : ∀ a, k0_off12 i a + S256x64.size a ≤ S2048x128.size a := by rw [e12]; exact blockIn (by omega) (by omega)
  have R1 : ∀ {e : EltTy} (v : View sig .tc .vmem S2048x128 e) (g : v.ty.Contents (Elt F)), rd (v.read (Elt F) g) (256 * ((i 2).val - 1)) 0 = _ := fun v g => (readAt_rd v g _ _ (e9) i1).symm
  have R2 : ∀ {e : EltTy} (v : View sig .tc .vmem S2048x128 e) (g : v.ty.Contents (Elt F)), rd (v.read (Elt F) g) (256 * ((i 2).val - 1)) 64 = _ := fun v g => (readAt_rd v g _ _ (e10) i2).symm
  have R3 : ∀ {e : EltTy} (v : View sig .tc .vmem S2048x128 e) (g : v.ty.Contents (Elt F)), rd (v.read (Elt F) g) (256 * ((i 2).val - 1) + 256) 0 = _ := fun v g => (readAt_rd v g _ _ (e11) i3).symm
  have R4 : ∀ {e : EltTy} (v : View sig .tc .vmem S2048x128 e) (g : v.ty.Contents (Elt F)), rd (v.read (Elt F) g) (256 * ((i 2).val - 1) + 256) 64 = _ := fun v g => (readAt_rd v g _ _ (e12) i4).symm
  have hG := (read_bufAt c arg9 g (fun k => (stAt c arg4 arg5 arg9 arg10 v18 v23 v24 v25 v27 v29 XK XV carry0 g h k).dk) rfl ((i 2).val / 2)).symm
  have hH := (read_bufAt c arg10 h (fun k => (stAt c arg4 arg5 arg9 arg10 v18 v23 v24 v25 v27 v29 XK XV carry0 g h k).dv) rfl ((i 2).val / 2)).symm
  dsimp only at hG hH
  rw [← hn] at hG hH
  have hp : pointSt (arg4.view.read (Elt F) XK) (arg5.view.read (Elt F) XV) v18 v23 v24 v25 v27 v29 (i 2).val (arg9.view.read (Elt F) g) (arg10.view.read (Elt F) h) = _ := if_pos ho
  rw [hp, ← hn]
  isplitl []
  · ipureintro
    dsimp only [pairSt, two]
    rw [R1, R2, R3, R4, R1, R2, R3, R4]
    rfl
  isplitl [HK]; · iexact HK
  isplitl [HV]; · iexact HV
  isplitl [HG]
  · iapply (pointsTo_rep_of_read (c : Thread nD τ) arg9 _ fullShare _ ?_) $$ HG
    rw [View.read_writes_cons_put arg9.view _ _ _ _ e12]
    unfold part23_odd.sl.HG_3
    rw [View.read_writes_cons_put arg9.view _ _ _ _ e11]
    unfold part23_odd.sl.HG_2
    rw [View.read_writes_cons_put arg9.view _ _ _ _ e10]
    rw [View.read_writes_cons_put arg9.view _ _ _ _ e9, View.writes_nil]
    dsimp only [pairSt, two, wr]
    rw [hG, R1, R2, R3, R4, R1, R2, R3, R4, R1, R2, R3, R4]
    refine wr4 ?_ ?_ ?_ ?_
    · rfl
    · rfl
    · exact (congrArg (k0_pay170 v18 _) (readOver2 arg9.view _ e9 e10 e11 i1 i2 i3 _ _)).trans rfl
    · exact (congrArg (k0_pay172 v23 _) (readOver3 arg9.view _ e9 e10 e11 e12 i1 i2 i3 i4 _ _ _)).trans rfl
  · iapply (pointsTo_rep_of_read (c : Thread nD τ) arg10 _ fullShare _ ?_) $$ HH
    rw [View.read_writes_cons_put arg10.view _ _ _ _ e12]
    unfold part23_odd.sl.HH_3
    rw [View.read_writes_cons_put arg10.view _ _ _ _ e11]
    unfold part23_odd.sl.HH_2
    rw [View.read_writes_cons_put arg10.view _ _ _ _ e10]
    rw [View.read_writes_cons_put arg10.view _ _ _ _ e9, View.writes_nil]
    dsimp only [pairSt, two, wr]
    rw [hH, R1, R2, R3, R4, R1, R2, R3, R4]
    refine wr4 ?_ ?_ ?_ ?_
    · rfl
    · rfl
    · exact (congrArg (k0_pay169 v24 _) (readOver2 arg10.view _ e9 e10 e11 i1 i2 i3 _ _)).trans rfl
    · exact (congrArg (k0_pay171 v25 _) (readOver3 arg10.view _ e9 e10 e11 e12 i1 i2 i3 i4 _ _ _)).trans rfl

set_option maxHeartbeats 8000000 in
theorem part23_even (h2 : ¬ k0_cond2 i = 1#1) (g : Buf (Elt F) (arg9.view.loc (c : Thread nD τ))) (h : Buf (Elt F) (arg10.view.loc (c : Thread nD τ))) :
      TripRes c arg4 arg5 arg9 arg10 XK XV g h ⊢ wp frame (wpE (defs₀ (F := F)) 𝒱₀ (c : Thread nD τ) none) Set.univ
        (k0_part23 (F := F) i arg3 harg3 arg4 harg4 arg5 harg5 arg6 harg6 arg7 harg7 arg8 harg8 arg9 harg9 arg10 harg10 (BitVec.ofNat 32 (i 2).val) k0_pay199 k0_pay200 k0_pay201 v18 v23 v24 v25 v27 v29 k0_pay206 k0_pay207)
        (fun a' => iprop(⌜a' = ⟨(pointSt (arg4.view.read (Elt F) XK) (arg5.view.read (Elt F) XV) v18 v23 v24 v25 v27 v29 (i 2).val (arg9.view.read (Elt F) g) (arg10.view.read (Elt F) h)).c.2.2.1, (pointSt (arg4.view.read (Elt F) XK) (arg5.view.read (Elt F) XV) v18 v23 v24 v25 v27 v29 (i 2).val (arg9.view.read (Elt F) g) (arg10.view.read (Elt F) h)).c.2.2.2.2.2, Scalar.ofBits .f32 0x3E000000#32⟩⌝
          ∗ TripRes c arg4 arg5 arg9 arg10 XK XV (arg9.view.rep (pointSt (arg4.view.read (Elt F) XK) (arg5.view.read (Elt F) XV) v18 v23 v24 v25 v27 v29 (i 2).val (arg9.view.read (Elt F) g) (arg10.view.read (Elt F) h)).dk) (arg10.view.rep (pointSt (arg4.view.read (Elt F) XK) (arg5.view.read (Elt F) XV) v18 v23 v24 v25 v27 v29 (i 2).val (arg9.view.read (Elt F) g) (arg10.view.read (Elt F) h)).dv))) := by
  have hv : (k0_pay199 : FVec F S256x256 .bf16) = k0_pay199 ∧ (k0_pay200 : FVec F S256x256 .bf16) = k0_pay200 := ⟨rfl, rfl⟩
  iintro ⟨HK, HV, HG, HH⟩
  sl_unfold [k0_part23]
  sl_exec
  sl_step
  have hn : Scf.trips (k0_t1_loop i).lb (k0_t1_loop i).ub (k0_t1_loop i).st = (i 2).val / 2 := trips_t1 i
  have hlt : (i 2).val < 8 := (i 2).isLt
  have ho : ¬ (i 2).val % 2 = 1 := fun h => h2 ((cond2_iff i).mpr h)
  have e13 : k0_off13 i = ![256 * (i 2).val, 0] := k0_off13_eq i
  have e14 : k0_off14 i = ![256 * (i 2).val, 64] := k0_off14_eq i
  have i1 : ∀ a, k0_off13 i a + S256x64.size a ≤ S2048x128.size a := by rw [e13]; exact blockIn (by omega) (by omega)
  have i2 : ∀ a, k0_off14 i a + S256x64.size a ≤ S2048x128.size a := by rw [e14]; exact blockIn (by omega) (by omega)
  have R1 : ∀ {e : EltTy} (v : View sig .tc .vmem S2048x128 e) (g : v.ty.Contents (Elt F)), rd (v.read (Elt F) g) (256 * (i 2).val) 0 = _ := fun v g => (readAt_rd v g _ _ (e13) i1).symm
  have R2 : ∀ {e : EltTy} (v : View sig .tc .vmem S2048x128 e) (g : v.ty.Contents (Elt F)), rd (v.read (Elt F) g) (256 * (i 2).val) 64 = _ := fun v g => (readAt_rd v g _ _ (e14) i2).symm
  have hG := (read_bufAt c arg9 g (fun k => (stAt c arg4 arg5 arg9 arg10 v18 v23 v24 v25 v27 v29 XK XV carry0 g h k).dk) rfl ((i 2).val / 2)).symm
  have hH := (read_bufAt c arg10 h (fun k => (stAt c arg4 arg5 arg9 arg10 v18 v23 v24 v25 v27 v29 XK XV carry0 g h k).dv) rfl ((i 2).val / 2)).symm
  dsimp only at hG hH
  rw [← hn] at hG hH
  have hp : pointSt (arg4.view.read (Elt F) XK) (arg5.view.read (Elt F) XV) v18 v23 v24 v25 v27 v29 (i 2).val (arg9.view.read (Elt F) g) (arg10.view.read (Elt F) h) = _ := if_neg ho
  rw [hp, ← hn]
  isplitl []
  · ipureintro
    dsimp only [oneSt]
    rw [R1, R2, R1, R2]
    rfl
  isplitl [HK]; · iexact HK
  isplitl [HV]; · iexact HV
  isplitl [HG]
  · iapply (pointsTo_rep_of_read (c : Thread nD τ) arg9 _ fullShare _ ?_) $$ HG
    rw [View.read_writes_cons_put arg9.view _ _ _ _ e14, View.read_writes_cons_put arg9.view _ _ _ _ e13, View.writes_nil]
    dsimp only [oneSt, wr]
    rw [hG, R1, R2, R1, R2, R1, R2]
    refine wr2 ?_ ?_ <;> rfl
  · iapply (pointsTo_rep_of_read (c : Thread nD τ) arg10 _ fullShare _ ?_) $$ HH
    rw [View.read_writes_cons_put arg10.view _ _ _ _ e14, View.read_writes_cons_put arg10.view _ _ _ _ e13, View.writes_nil]
    dsimp only [oneSt, wr]
    rw [hH, R1, R2, R1, R2]
    refine wr2 ?_ ?_ <;> rfl

end Part
end Cert.Proof.Attn
end
-- ==== Proof.Body.lean ====
module

public import proofs.«01_k».proof.Proof.Point
public import Idealize.ShloMosaic.Lib.Exec
public import Idealize.ShloMosaic.Lib.Pipeline.Kit

@[expose] public section

set_option maxRecDepth 16384
noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state a grid point ends in, from the blocks it is given: queries `Q`, keys `K`, values `V`, totals `T`, cotangents `D`. -/
def point (Q : S256x128.Idx → F .bf16) (K V : KArr F) (T : S1x1x1x16x256.Idx → F .f32) (D : S256x128.Idx → F .bf16) (i : ℕ) (dk dv : DArr F) : St F :=
  pointSt K V (k0_pay202 (VecWindow.window Q ![0, 0] S256x64.size inb_S256x128_S256x64_0_0)) (k0_pay203 (VecWindow.window Q ![0, 64] S256x64.size inb_S256x128_S256x64_0_64))
    (VecWindow.window D ![0, 0] S256x64.size inb_S256x128_S256x64_0_0) (VecWindow.window D ![0, 64] S256x64.size inb_S256x128_S256x64_0_64)
    (k0_pay204 (VecWindow.window T ![0, 0, 0, 0, 0] S1x1x1x1x256.size inb_S1x1x1x16x256_S1x1x1x1x256_0_0_0_0_0))
    (k0_pay205 (VecWindow.window T ![0, 0, 0, 8, 0] S1x1x1x1x256.size inb_S1x1x1x16x256_S1x1x1x1x256_0_0_0_8_0)) i dk dv

/-- A head's block of the gradient of the queries, scaled. -/
def scaled (x : FVec F S256x64 .f32) : FVec F S256x64 .f32 := mulf x (broadcast S256x64 (Scalar.ofBits .f32 0x3E000000#32))

/-- The block of the gradient of the queries a grid point stores. -/
def dqBlock (s : St F) : S256x128.Idx → F .f32 := fun y =>
  if h : (y 1).val < 64 then scaled s.c.2.2.1 (fun a => match a with | 0 => y 0 | 1 => ⟨(y 1).val, h⟩)
  else scaled s.c.2.2.2.2.2 (fun a => match a with | 0 => y 0 | 1 => ⟨(y 1).val - 64, by have h1 : (y 1).val < 128 := (y 1).isLt; show (y 1).val - 64 < 64; omega⟩)

theorem put_dqBlock (x : S256x128.Idx → F .f32) (s : St F) :
    VecWindow.put (s := S256x128) (VecWindow.put (s := S256x128) x ![0, 0] S256x64.size (scaled s.c.2.2.1)) ![0, 64] S256x64.size (scaled s.c.2.2.2.2.2) = dqBlock s := by
  funext y
  have h0 : (y 0).val < 256 := (y 0).isLt
  have h1 : (y 1).val < 128 := (y 1).isLt
  unfold dqBlock VecWindow.put
  by_cases h : (y 1).val < 64
  · have n2 : ¬ ∀ a, (![0, 64] : Fin 2 → ℕ) a ≤ (y a).val ∧ (y a).val < (![0, 64] : Fin 2 → ℕ) a + S256x64.size a := fun hh => by
      have := (hh 1).1
      have e : (64 : ℕ) ≤ (y 1).val := this
      omega
    have p1 : ∀ a, (![0, 0] : Fin 2 → ℕ) a ≤ (y a).val ∧ (y a).val < (![0, 0] : Fin 2 → ℕ) a + S256x64.size a := fun a => by
      fin_cases a
      · exact ⟨Nat.zero_le _, by show (y 0).val < 0 + 256; omega⟩
      · exact ⟨Nat.zero_le _, by show (y 1).val < 0 + 64; omega⟩
    rw [dif_neg n2, dif_pos p1, dif_pos h]
    refine congrArg _ (funext fun a => Fin.ext ?_)
    fin_cases a <;> rfl
  · have p2 : ∀ a, (![0, 64] : Fin 2 → ℕ) a ≤ (y a).val ∧ (y a).val < (![0, 64] : Fin 2 → ℕ) a + S256x64.size a := fun a => by
      fin_cases a
      · exact ⟨Nat.zero_le _, by show (y 0).val < 0 + 256; omega⟩
      · exact ⟨by show 64 ≤ (y 1).val; omega, by show (y 1).val < 64 + 64; omega⟩
    rw [dif_pos p2, dif_neg h]
    refine congrArg _ (funext fun a => Fin.ext ?_)
    fin_cases a <;> rfl

/-- What the accumulators hold as a grid point begins its blocks: zero at the first place of the innermost axis. -/
def accIn (i : ℕ) (x : DArr F) : DArr F := if i = 0 then k0_pay197 else x

section Body

variable (c : Dev nD) (i : grid0.Coords)
  (arg3 : Memref sig .tc .vmem S256x128 .bf16) (harg3 : arg3.IsWhole) (arg4 : Memref sig .tc .vmem S2048x128 .bf16) (harg4 : arg4.IsWhole)
  (arg5 : Memref sig .tc .vmem S2048x128 .bf16) (harg5 : arg5.IsWhole) (arg6 : Memref sig .tc .vmem S1x1x1x16x256 .f32) (harg6 : arg6.IsWhole)
  (arg7 : Memref sig .tc .vmem S256x128 .bf16) (harg7 : arg7.IsWhole) (arg8 : Memref sig .tc .vmem S256x128 .f32) (harg8 : arg8.IsWhole)
  (arg9 : Memref sig .tc .vmem S2048x128 .f32) (harg9 : arg9.IsWhole) (arg10 : Memref sig .tc .vmem S2048x128 .f32) (harg10 : arg10.IsWhole)
  (XK : Buf (Elt F) (arg4.view.loc (c : Thread nD τ))) (XV : Buf (Elt F) (arg5.view.loc (c : Thread nD τ)))

variable (XQ : Buf (Elt F) (arg3.view.loc (c : Thread nD τ))) (XT : Buf (Elt F) (arg6.view.loc (c : Thread nD τ))) (XD : Buf (Elt F) (arg7.view.loc (c : Thread nD τ)))

/-- Every staging buffer a grid point touches. -/
abbrev BodyRes (f : Buf (Elt F) (arg8.view.loc (c : Thread nD τ))) (g : Buf (Elt F) (arg9.view.loc (c : Thread nD τ))) (h : Buf (Elt F) (arg10.view.loc (c : Thread nD τ))) : sProp 𝕄 :=
  iprop((arg3.view.loc (c : Thread nD τ) ↦[arg3.view.set]{fullShare} XQ) ∗ (arg4.view.loc (c : Thread nD τ) ↦[arg4.view.set]{fullShare} XK)
    ∗ (arg5.view.loc (c : Thread nD τ) ↦[arg5.view.set]{fullShare} XV) ∗ (arg6.view.loc (c : Thread nD τ) ↦[arg6.view.set]{fullShare} XT)
    ∗ (arg7.view.loc (c : Thread nD τ) ↦[arg7.view.set]{fullShare} XD) ∗ (arg8.view.loc (c : Thread nD τ) ↦[arg8.view.set]{fullShare} f)
    ∗ (arg9.view.loc (c : Thread nD τ) ↦[arg9.view.set]{fullShare} g) ∗ (arg10.view.loc (c : Thread nD τ) ↦[arg10.view.set]{fullShare} h))

theorem part23 (v18 v23 : FVec F S256x64 .bf16) (v24 v25 : Vec F S256x64 .bf16) (v27 v29 : FVec F S1x256 .f32)
    (g : Buf (Elt F) (arg9.view.loc (c : Thread nD τ))) (h : Buf (Elt F) (arg10.view.loc (c : Thread nD τ))) :
      TripRes c arg4 arg5 arg9 arg10 XK XV g h ⊢ wp frame (wpE (defs₀ (F := F)) 𝒱₀ (c : Thread nD τ) none) Set.univ
        (k0_part23 (F := F) i arg3 harg3 arg4 harg4 arg5 harg5 arg6 harg6 arg7 harg7 arg8 harg8 arg9 harg9 arg10 harg10 (BitVec.ofNat 32 (i 2).val) k0_pay199 k0_pay200 k0_pay201 v18 v23 v24 v25 v27 v29 k0_pay206 k0_pay207)
        (fun a' => iprop(⌜a' = ⟨(pointSt (arg4.view.read (Elt F) XK) (arg5.view.read (Elt F) XV) v18 v23 v24 v25 v27 v29 (i 2).val (arg9.view.read (Elt F) g) (arg10.view.read (Elt F) h)).c.2.2.1, (pointSt (arg4.view.read (Elt F) XK) (arg5.view.read (Elt F) XV) v18 v23 v24 v25 v27 v29 (i 2).val (arg9.view.read (Elt F) g) (arg10.view.read (Elt F) h)).c.2.2.2.2.2, Scalar.ofBits .f32 0x3E000000#32⟩⌝
          ∗ TripRes c arg4 arg5 arg9 arg10 XK XV (arg9.view.rep (pointSt (arg4.view.read (Elt F) XK) (arg5.view.read (Elt F) XV) v18 v23 v24 v25 v27 v29 (i 2).val (arg9.view.read (Elt F) g) (arg10.view.read (Elt F) h)).dk) (arg10.view.rep (pointSt (arg4.view.read (Elt F) XK) (arg5.view.read (Elt F) XV) v18 v23 v24 v25 v27 v29 (i 2).val (arg9.view.read (Elt F) g) (arg10.view.read (Elt F) h)).dv))) := by
  by_cases h2 : k0_cond2 i = 1#1
  · exact part23_odd c i arg3 harg3 arg4 harg4 arg5 harg5 arg6 harg6 arg7 harg7 arg8 harg8 arg9 harg9 arg10 harg10 v18 v23 v24 v25 v27 v29 XK XV h2 g h
  · exact part23_even c i arg3 harg3 arg4 harg4 arg5 harg5 arg6 harg6 arg7 harg7 arg8 harg8 arg9 harg9 arg10 harg10 v18 v23 v24 v25 v27 v29 XK XV h2 g h

set_option maxHeartbeats 8000000 in
theorem body_rest (h1 : ¬ (i 2).val = 0) (f : Buf (Elt F) (arg8.view.loc (c : Thread nD τ))) (g : Buf (Elt F) (arg9.view.loc (c : Thread nD τ))) (h : Buf (Elt F) (arg10.view.loc (c : Thread nD τ))) :
      BodyRes c arg3 arg4 arg5 arg6 arg7 arg8 arg9 arg10 XK XV XQ XT XD f g h ⊢ wp frame (wpE (defs₀ (F := F)) 𝒱₀ (c : Thread nD τ) none) Set.univ
        (cc0_attn_bwd (F := F) i arg3 harg3 arg4 harg4 arg5 harg5 arg6 harg6 arg7 harg7 arg8 harg8 arg9 harg9 arg10 harg10)
        (fun _ => BodyRes c arg3 arg4 arg5 arg6 arg7 arg8 arg9 arg10 XK XV XQ XT XD (arg8.view.rep (dqBlock (point (arg3.view.read (Elt F) XQ) (arg4.view.read (Elt F) XK) (arg5.view.read (Elt F) XV) (arg6.view.read (Elt F) XT) (arg7.view.read (Elt F) XD) (i 2).val (accIn (i 2).val (arg9.view.read (Elt F) g)) (accIn (i 2).val (arg10.view.read (Elt F) h))))) (arg9.view.rep (point (arg3.view.read (Elt F) XQ) (arg4.view.read (Elt F) XK) (arg5.view.read (Elt F) XV) (arg6.view.read (Elt F) XT) (arg7.view.read (Elt F) XD) (i 2).val (accIn (i 2).val (arg9.view.read (Elt F) g)) (accIn (i 2).val (arg10.view.read (Elt F) h))).dk) (arg10.view.rep (point (arg3.view.read (Elt F) XQ) (arg4.view.read (Elt F) XK) (arg5.view.read (Elt F) XV) (arg6.view.read (Elt F) XT) (arg7.view.read (Elt F) XD) (i 2).val (accIn (i 2).val (arg9.view.read (Elt F) g)) (accIn (i 2).val (arg10.view.read (Elt F) h))).dv)) := by
  have hc := (not_congr (first_iff i)).mpr h1
  have hcut := fun v18 v23 v24 v25 v27 v29 g h => part23 c i arg3 harg3 arg4 harg4 arg5 harg5 arg6 harg6 arg7 harg7 arg8 harg8 arg9 harg9 arg10 harg10 XK XV v18 v23 v24 v25 v27 v29 g h
  have e9 : accIn (i 2).val (arg9.view.read (Elt F) g) = _ := if_neg h1
  have e10 : accIn (i 2).val (arg10.view.read (Elt F) h) = _ := if_neg h1
  rw [e9, e10]
  iintro ⟨HQ, HK, HV, HT, HD, HF, HG, HH⟩
  sl_unfold [cc0_attn_bwd]
  sl_exec
  sl_step
  have a1 := congrArg (fun x => x.1) hk0_part23_0
  have a2 := congrArg (fun x => x.2.1) hk0_part23_0
  have a3 := congrArg (fun x => x.2.2) hk0_part23_0
  have b1 : v70_0 = (point (arg3.view.read (Elt F) XQ) (arg4.view.read (Elt F) XK) (arg5.view.read (Elt F) XV) (arg6.view.read (Elt F) XT) (arg7.view.read (Elt F) XD) (i 2).val (arg9.view.read (Elt F) g) (arg10.view.read (Elt F) h)).c.2.2.1 := a1
  have b2 : v70_1 = (point (arg3.view.read (Elt F) XQ) (arg4.view.read (Elt F) XK) (arg5.view.read (Elt F) XV) (arg6.view.read (Elt F) XT) (arg7.view.read (Elt F) XD) (i 2).val (arg9.view.read (Elt F) g) (arg10.view.read (Elt F) h)).c.2.2.2.2.2 := a2
  have b3 : cst_37 = Scalar.ofBits .f32 0x3E000000#32 := a3
  subst b1 b2 b3
  isplitl [HQ]; · iexact HQ
  isplitl [Hk0_part23_1]; · iexact Hk0_part23_1
  isplitl [Hk0_part23_2]; · iexact Hk0_part23_2
  isplitl [HT]; · iexact HT
  isplitl [HD]; · iexact HD
  isplitl [HF]
  · iapply (pointsTo_rep_of_read (c : Thread nD τ) arg8 _ fullShare _ ?_) $$ HF
    rw [View.read_writes_cons_put arg8.view _ _ _ _ rfl, View.read_writes_cons_put arg8.view _ _ _ _ rfl, View.writes_nil]
    exact put_dqBlock _ _
  isplitl [Hk0_part23_3]; · iexact Hk0_part23_3
  iexact Hk0_part23_4

set_option maxHeartbeats 8000000 in
theorem body_first (h1 : (i 2).val = 0) (f : Buf (Elt F) (arg8.view.loc (c : Thread nD τ))) (g : Buf (Elt F) (arg9.view.loc (c : Thread nD τ))) (h : Buf (Elt F) (arg10.view.loc (c : Thread nD τ))) :
      BodyRes c arg3 arg4 arg5 arg6 arg7 arg8 arg9 arg10 XK XV XQ XT XD f g h ⊢ wp frame (wpE (defs₀ (F := F)) 𝒱₀ (c : Thread nD τ) none) Set.univ
        (cc0_attn_bwd (F := F) i arg3 harg3 arg4 harg4 arg5 harg5 arg6 harg6 arg7 harg7 arg8 harg8 arg9 harg9 arg10 harg10)
        (fun _ => BodyRes c arg3 arg4 arg5 arg6 arg7 arg8 arg9 arg10 XK XV XQ XT XD (arg8.view.rep (dqBlock (point (arg3.view.read (Elt F) XQ) (arg4.view.read (Elt F) XK) (arg5.view.read (Elt F) XV) (arg6.view.read (Elt F) XT) (arg7.view.read (Elt F) XD) (i 2).val (accIn (i 2).val (arg9.view.read (Elt F) g)) (accIn (i 2).val (arg10.view.read (Elt F) h))))) (arg9.view.rep (point (arg3.view.read (Elt F) XQ) (arg4.view.read (Elt F) XK) (arg5.view.read (Elt F) XV) (arg6.view.read (Elt F) XT) (arg7.view.read (Elt F) XD) (i 2).val (accIn (i 2).val (arg9.view.read (Elt F) g)) (accIn (i 2).val (arg10.view.read (Elt F) h))).dk) (arg10.view.rep (point (arg3.view.read (Elt F) XQ) (arg4.view.read (Elt F) XK) (arg5.view.read (Elt F) XV) (arg6.view.read (Elt F) XT) (arg7.view.read (Elt F) XD) (i 2).val (accIn (i 2).val (arg9.view.read (Elt F) g)) (accIn (i 2).val (arg10.view.read (Elt F) h))).dv)) := by
  have hc := (first_iff i).mpr h1
  have hcut := fun v18 v23 v24 v25 v27 v29 g h => part23 c i arg3 harg3 arg4 harg4 arg5 harg5 arg6 harg6 arg7 harg7 arg8 harg8 arg9 harg9 arg10 harg10 XK XV v18 v23 v24 v25 v27 v29 g h
  have e9 : accIn (i 2).val (arg9.view.read (Elt F) g) = _ := if_pos h1
  have e10 : accIn (i 2).val (arg10.view.read (Elt F) h) = _ := if_pos h1
  rw [e9, e10]
  iintro ⟨HQ, HK, HV, HT, HD, HF, HG, HH⟩
  sl_unfold [cc0_attn_bwd]
  sl_exec
  sl_step
  rw [View.read_writes_full arg9.view, View.read_writes_full arg10.view] at hk0_part23_0
  rw [View.read_writes_full arg9.view, View.read_writes_full arg10.view]
  have a1 := congrArg (fun x => x.1) hk0_part23_0
  have a2 := congrArg (fun x => x.2.1) hk0_part23_0
  have a3 := congrArg (fun x => x.2.2) hk0_part23_0
  have b1 : v70_0 = (point (arg3.view.read (Elt F) XQ) (arg4.view.read (Elt F) XK) (arg5.view.read (Elt F) XV) (arg6.view.read (Elt F) XT) (arg7.view.read (Elt F) XD) (i 2).val k0_pay197 k0_pay197).c.2.2.1 := a1
  have b2 : v70_1 = (point (arg3.view.read (Elt F) XQ) (arg4.view.read (Elt F) XK) (arg5.view.read (Elt F) XV) (arg6.view.read (Elt F) XT) (arg7.view.read (Elt F) XD) (i 2).val k0_pay197 k0_pay197).c.2.2.2.2.2 := a2
  have b3 : cst_37 = Scalar.ofBits .f32 0x3E000000#32 := a3
  subst b1 b2 b3
  isplitl [HQ]; · iexact HQ
  isplitl [Hk0_part23_1]; · iexact Hk0_part23_1
  isplitl [Hk0_part23_2]; · iexact Hk0_part23_2
  isplitl [HT]; · iexact HT
  isplitl [HD]; · iexact HD
  isplitl [HF]
  · iapply (pointsTo_rep_of_read (c : Thread nD τ) arg8 _ fullShare _ ?_) $$ HF
    rw [View.read_writes_cons_put arg8.view _ _ _ _ rfl, View.read_writes_cons_put arg8.view _ _ _ _ rfl, View.writes_nil]
    exact put_dqBlock _ _
  isplitl [Hk0_part23_3]; · iexact Hk0_part23_3
  iexact Hk0_part23_4

end Body
end Cert.Proof.Attn
end
-- ==== Proof.Run.lean ====
module

public import proofs.«01_k».proof.Proof.Body
public import proofs.«01_k».proof.Proof.Gen.KernelIdeal.Frame
public import proofs.«01_k».proof.Proof.Gen.KernelIdeal.Points
public import Idealize.ShloMosaic.Lib.Pipeline.FrameBody
public import Idealize.ShloMosaic.Lib.Pipeline.TableIdle
public import Idealize.ShloMosaic.Lib.Quiescent

@[expose] public section

set_option maxRecDepth 16384
noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The states along the grid -/

/-- The state point `t` ends in, from the accumulators it finds. -/
def stepAt (c : Dev nD) (t : Fin cfg0.N) (a : DArr F × DArr F) : St F :=
  point (iblk m c 0 t) (iblk m c 1 t) (iblk m c 2 t) (iblk m c 3 t) (iblk m c 4 t) (grid0.coords t 2).val
    (accIn (grid0.coords t 2).val a.1) (accIn (grid0.coords t 2).val a.2)

/-- The accumulators as point `n` finds them. -/
def accAt (c : Dev nD) : ℕ → DArr F × DArr F
  | 0 => (k0_pay197, k0_pay197)
  | n + 1 => if h : n < cfg0.N then ((stepAt m c ⟨n, h⟩ (accAt c n)).dk, (stepAt m c ⟨n, h⟩ (accAt c n)).dv) else accAt c n

/-- The state point `t` ends in. -/
def ptAt (c : Dev nD) (t : Fin cfg0.N) : St F := stepAt m c t (accAt m c t.val)

theorem accAt_succ (c : Dev nD) (t : Fin cfg0.N) : accAt m c (t.val + 1) = ((ptAt m c t).dk, (ptAt m c t).dv) := by
  have e : accAt m c (t.val + 1) = if h : t.val < cfg0.N then ((stepAt m c ⟨t.val, h⟩ (accAt m c t.val)).dk, (stepAt m c ⟨t.val, h⟩ (accAt m c t.val)).dv) else accAt m c t.val := rfl
  rw [e, dif_pos t.isLt]; rfl

theorem coord2 : ∀ t : Fin cfg0.N, (grid0.coords t 2).val = t.val % 8 :=
  (by decide +kernel : ∀ t : Fin grid0.N, (grid0.coords t 2).val = t.val % 8)

/-! ## The proof data -/

/-- What each window's buffer holds after each point: an input its block; the gradient of the queries the point's block;
    the gradients of the keys and of the values what has been accumulated. -/
def dats : (p : Fin 1) → (c : Dev nD) → Dat τ (Elt F) Unit ℕ (UR sig nD τ) ℕ (cfgs p) c
  | ⟨0, _⟩ => fun c =>
    { A := fun w => V m c (Pipeline.arrRef spec0 w)
      after := fun w t => match w with
        | ⟨0, _⟩ => iblk m c 0 t
        | ⟨1, _⟩ => iblk m c 1 t
        | ⟨2, _⟩ => iblk m c 2 t
        | ⟨3, _⟩ => iblk m c 3 t
        | ⟨4, _⟩ => iblk m c 4 t
        | ⟨5, _⟩ => dqBlock (ptAt m c t)
        | ⟨6, _⟩ => (ptAt m c t).dk
        | ⟨7, _⟩ => (ptAt m c t).dv
        | ⟨_ + 8, h⟩ => absurd h (Nat.not_lt.2 (Nat.le_add_left _ _))
      Φ := fun _ => Pipeline.ΦA spec0 c
      q := fun w => Pipeline.shareOf spec0 w
      owed := fun _ => 0 }

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqBlock (ptAt m c t) := by dsimp only [dats]
theorem after0_6 (c : Dev nD) (t : Fin cfg0.N) : (dats m 0 c).after 6 t = (ptAt m c t).dk := by dsimp only [dats]
theorem after0_7 (c : Dev nD) (t : Fin cfg0.N) : (dats m 0 c).after 7 t = (ptAt m c t).dv := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- Where the innermost coordinate is not zero, the gradient of the keys' buffer holds what has been accumulated. -/
theorem accIn_6 (c : Dev nD) (t : Fin cfg0.N) (d) : accIn (F := F) (grid0.coords t 2).val ((dats m 0 c).before 6 t d) = accIn (grid0.coords t 2).val (accAt m c t.val).1 := by
  by_cases h : (grid0.coords t 2).val = 0
  · exact (if_pos h).trans (if_pos h).symm
  · have h8 := coord2 t
    have ht : t.val ≠ 0 := fun h0 => h (by rw [h8, h0])
    have hfl : (cfg0.win 6).flush ⟨t.val - 1, Nat.lt_of_le_of_lt (Nat.sub_le _ _) t.isLt⟩ = false := by
      rw [← Bool.not_eq_true, flush0_6]
      show ¬ (t.val - 1) % 8 = 7
      omega
    have e := accAt_succ m c ⟨t.val - 1, Nat.lt_of_le_of_lt (Nat.sub_le _ _) t.isLt⟩
    have e' : (t.val - 1) + 1 = t.val := by omega
    have e2 : accAt m c t.val = _ := (congrArg (accAt m c) e').symm.trans e
    rw [(dats m 0 c).before_out_kept 6 rfl t ht hfl (fun _ => rfl) (fun _ _ => rfl) d, after0_6, e2]
/-- and the gradient of the values' buffer. -/
theorem accIn_7 (c : Dev nD) (t : Fin cfg0.N) (d) : accIn (F := F) (grid0.coords t 2).val ((dats m 0 c).before 7 t d) = accIn (grid0.coords t 2).val (accAt m c t.val).2 := by
  by_cases h : (grid0.coords t 2).val = 0
  · exact (if_pos h).trans (if_pos h).symm
  · have h8 := coord2 t
    have ht : t.val ≠ 0 := fun h0 => h (by rw [h8, h0])
    have hfl : (cfg0.win 7).flush ⟨t.val - 1, Nat.lt_of_le_of_lt (Nat.sub_le _ _) t.isLt⟩ = false := by
      rw [← Bool.not_eq_true, flush0_7]
      show ¬ (t.val - 1) % 8 = 7
      omega
    have e := accAt_succ m c ⟨t.val - 1, Nat.lt_of_le_of_lt (Nat.sub_le _ _) t.isLt⟩
    have e' : (t.val - 1) + 1 = t.val := by omega
    have e2 : accAt m c t.val = _ := (congrArg (accAt m c) e').symm.trans e
    rw [(dats m 0 c).before_out_kept 7 rfl t ht hfl (fun _ => rfl) (fun _ _ => rfl) d, after0_7, e2]

/-! ## The body at a point -/

section Owned

variable (c : Dev nD) (i : grid0.Coords)
  (arg3 : Memref sig .tc .vmem S256x128 .bf16) (harg3 : arg3.IsWhole) (arg4 : Memref sig .tc .vmem S2048x128 .bf16) (harg4 : arg4.IsWhole)
  (arg5 : Memref sig .tc .vmem S2048x128 .bf16) (harg5 : arg5.IsWhole) (arg6 : Memref sig .tc .vmem S1x1x1x16x256 .f32) (harg6 : arg6.IsWhole)
  (arg7 : Memref sig .tc .vmem S256x128 .bf16) (harg7 : arg7.IsWhole) (arg8 : Memref sig .tc .vmem S256x128 .f32) (harg8 : arg8.IsWhole)
  (arg9 : Memref sig .tc .vmem S2048x128 .f32) (harg9 : arg9.IsWhole) (arg10 : Memref sig .tc .vmem S2048x128 .f32) (harg10 : arg10.IsWhole)

/-- The body from the contents of the staging buffers to the contents it leaves there. -/
theorem body_owned (Q : S256x128.Idx → F .bf16) (K W : KArr F) (T : S1x1x1x16x256.Idx → F .f32) (D : S256x128.Idx → F .bf16) (f : S256x128.Idx → F .f32) (g h : DArr F) :
    iprop(owns (c : Thread nD τ) arg3 fullShare Q ∗ owns (c : Thread nD τ) arg4 fullShare K ∗ owns (c : Thread nD τ) arg5 fullShare W ∗ owns (c : Thread nD τ) arg6 fullShare T
      ∗ owns (c : Thread nD τ) arg7 fullShare D ∗ owns (c : Thread nD τ) arg8 fullShare f ∗ owns (c : Thread nD τ) arg9 fullShare g ∗ owns (c : Thread nD τ) arg10 fullShare h)
    ⊢ (wp frame (wpE (defs₀ (F := F)) 𝒱₀ (c : Thread nD τ) none) Set.univ
      (cc0_attn_bwd (F := F) i arg3 harg3 arg4 harg4 arg5 harg5 arg6 harg6 arg7 harg7 arg8 harg8 arg9 harg9 arg10 harg10)
      (fun _ => iprop(owns (c : Thread nD τ) arg3 fullShare Q ∗ owns (c : Thread nD τ) arg4 fullShare K ∗ owns (c : Thread nD τ) arg5 fullShare W ∗ owns (c : Thread nD τ) arg6 fullShare T
      ∗ owns (c : Thread nD τ) arg7 fullShare D ∗ owns (c : Thread nD τ) arg8 fullShare (dqBlock (point Q K W T D (i 2).val (accIn (i 2).val g) (accIn (i 2).val h)))
      ∗ owns (c : Thread nD τ) arg9 fullShare (point Q K W T D (i 2).val (accIn (i 2).val g) (accIn (i 2).val h)).dk
      ∗ owns (c : Thread nD τ) arg10 fullShare (point Q K W T D (i 2).val (accIn (i 2).val g) (accIn (i 2).val h)).dv)) : sProp 𝕄) := by
  simp only [owns_eq_rep]
  by_cases h1 : (i 2).val = 0
  · have hh := body_first c i arg3 harg3 arg4 harg4 arg5 harg5 arg6 harg6 arg7 harg7 arg8 harg8 arg9 harg9 arg10 harg10 (arg4.view.rep K) (arg5.view.rep W) (arg3.view.rep Q) (arg6.view.rep T) (arg7.view.rep D) h1 (arg8.view.rep f) (arg9.view.rep g) (arg10.view.rep h)
    simp only [View.read_rep] at hh
    exact hh
  · have hh := body_rest c i arg3 harg3 arg4 harg4 arg5 harg5 arg6 harg6 arg7 harg7 arg8 harg8 arg9 harg9 arg10 harg10 (arg4.view.rep K) (arg5.view.rep W) (arg3.view.rep Q) (arg6.view.rep T) (arg7.view.rep D) h1 (arg8.view.rep f) (arg9.view.rep g) (arg10.view.rep h)
    simp only [View.read_rep] at hh
    exact hh

end Owned

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  have hb := body_owned c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (iblk m c 0 t) (iblk m c 1 t) (iblk m c 2 t) (iblk m c 3 t) (iblk m c 4 t) ((dats m 0 c).before 5 t d5) ((dats m 0 c).before 6 t d6) ((dats m 0 c).before 7 t d7)
  rw [accIn_6, accIn_7] at hb
  iapply (wp_wand_r frame _ _)
  isplitl [H0 H1 H2 H3 H4 H5 H6 H7]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro %u ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline calls the body at the point's coordinates and slots. -/
theorem defs₀_row (t : Fin cfg0.N) : (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- Every execution of the whole program ends, with each window's array as the pipeline leaves it and every counter at zero. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) 0 launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The arguments end unchanged and every counter is at zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 2).trans (((dats m 0 c).arrAt_in 2 rfl _).trans (V_main_arg0 m c)),
      ((h.1 c).1 4).trans (((dats m 0 c).arrAt_in 4 rfl _).trans (V_main_arg1 m c))⟩, h.2⟩) (run_main m ρ)

end Cert.Proof.Attn
end
-- ==== Proof.Same.lean ====
module

public import proofs.«01_k».proof.Defs
public import proofs.«01_k».proof.Proof.Gen.Kernel
public import proofs.«01_k».proof.Proof.Run

@[expose] public section

set_option maxRecDepth 16384
set_option backward.isDefEq.respectTransparency.types false
set_option backward.isDefEq.respectTransparency false
set_option maxHeartbeats 4000000

noncomputable section

namespace Cert.Proof.Attn

open Idealize.ShloMosaic Idealize.ShloMosaic.TcCoe Idealize.SL.Sem

/-! The printed kernel and the idealized kernel are the same text: no rewrite was applied. So the one
run written for the idealized program, at any reading of the floats, is a run of the printed one. -/

variable {F : FTy → Type} [FloatOps F]

/-- The two body tables agree: there is one label, and its function is the same text. -/
theorem bodies_same :
    @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l x
  match l, x with
  | 0, (t, s) => exact rfl

/-- So do the tables with the pipeline's own labels. -/
theorem defs_same :
    @Cert.Kernel.defs F _ Cert.Kernel.Gen.facts = @Cert.KernelIdeal.defs F _ Cert.KernelIdeal.Gen.facts := by
  unfold Cert.Kernel.defs Cert.KernelIdeal.defs
  rw [bodies_same]
  rfl

/-- And the host programs. -/
theorem main_same :
    @Cert.Kernel.main F _ Cert.Kernel.Gen.facts = @Cert.KernelIdeal.main F _ Cert.KernelIdeal.Gen.facts := rfl

/-- The frame of the printed kernel. -/
theorem frame_printed : Cert.quiescent_Kernel := fun m ρ _ =>
  (congrArg₂ (fun d p => θ_run d (onTc p) _ _) (defs_same (F := Bits)) (main_same (F := Bits))).mpr
    (frame_run (F := Bits) m ρ)

end Cert.Proof.Attn

end
-- ==== Proof.Head.lean ====
/-
  The gradient of one head of stick-breaking attention, over the real numbers.

  A head has the rows of its queries, keys and values and of the gradient of its output, each row of 64 lanes. Row `T`
  attends to the rows `s < T`. This module names the scores, the weights and the gradients as real numbers, and proves
  the facts of the logistic function that relate two ways of writing the gradient of the scores.
-/
module

public import Mathlib.Analysis.SpecialFunctions.Log.Basic
public import Mathlib.Algebra.BigOperators.Intervals

@[expose] public section

noncomputable section

namespace Cert.Proof.Attn

open Finset

/-- `log (sigmoid x)`, as the kernel computes it. -/
def ls (x : ℝ) : ℝ := min x 0 - Real.log (1 + Real.exp (-|x|))

theorem ls_neg (x : ℝ) : ls (-x) = ls x - x := by
  unfold ls
  rw [abs_neg]
  rcases le_total 0 x with h | h
  · rw [min_eq_right h, min_eq_left (by linarith : -x ≤ 0)]; ring
  · rw [min_eq_left h, min_eq_right (by linarith : 0 ≤ -x)]; ring

theorem exp_ls_add (x : ℝ) : Real.exp (ls x) + Real.exp (ls (-x)) = 1 := by
  have key : ∀ y : ℝ, 0 ≤ y → Real.exp (ls y) + Real.exp (ls (-y)) = 1 := by
    intro y hy
    have hp : (0 : ℝ) < 1 + Real.exp (-y) := by positivity
    have h1 : Real.exp (ls y) = (1 + Real.exp (-y))⁻¹ := by
      unfold ls
      rw [min_eq_right hy, abs_of_nonneg hy, zero_sub, Real.exp_neg, Real.exp_log hp]
    rw [ls_neg, sub_eq_add_neg, Real.exp_add, h1]
    field_simp
  rcases le_total 0 x with h | h
  · exact key x h
  · have := key (-x) (by linarith)
    rw [neg_neg] at this
    linarith

/-- A head: the rows of its queries, keys, values and of the gradient of its output. -/
structure Head where
  q : ℕ → ℕ → ℝ
  k : ℕ → ℕ → ℝ
  v : ℕ → ℕ → ℝ
  d : ℕ → ℕ → ℝ

namespace Head

variable (H : Head)

/-- A row of scaled queries. -/
def qs (T l : ℕ) : ℝ := H.q T l * (1 / 8)
/-- The score of key `s` at query `T`. -/
def z (T s : ℕ) : ℝ := ∑ l ∈ range 64, H.k s l * H.qs T l
/-- What key `s` leaves over at query `T`, as a logarithm. -/
def lk (T s : ℕ) : ℝ := if s < T then ls (H.z T s) - H.z T s else 0
/-- The sum of it over all keys. -/
def tot (T : ℕ) : ℝ := ∑ s ∈ range 2048, H.lk T s
/-- The attention weight of key `s` at query `T`. -/
def w (T s : ℕ) : ℝ := if s < T then Real.exp (ls (H.z T s) + (H.tot T - ∑ s' ∈ range (s + 1), H.lk T s')) else 0
/-- The gradient of that weight. -/
def dw (T s : ℕ) : ℝ := ∑ l ∈ range 64, H.v s l * H.d T l
/-- The gradient of the logarithm of the weight. -/
def g (T s : ℕ) : ℝ := H.dw T s * H.w T s
/-- The gradient of the score. -/
def dz (T s : ℕ) : ℝ := if s < T then H.g T s - Real.exp (ls (H.z T s)) * (H.g T s + ∑ s' ∈ range s, H.g T s') else 0
/-- The gradient of the queries. -/
def dq (T l : ℕ) : ℝ := (∑ s ∈ range 2048, H.dz T s * H.k s l) * (1 / 8)
/-- The gradient of the keys. -/
def dk (s l : ℕ) : ℝ := ∑ T ∈ range 2048, H.dz T s * H.qs T l
/-- The gradient of the values. -/
def dv (s l : ℕ) : ℝ := ∑ T ∈ range 2048, H.w T s * H.d T l

theorem dz_of_le {T s : ℕ} (h : T ≤ s) : H.dz T s = 0 := if_neg (by omega)
theorem w_of_le {T s : ℕ} (h : T ≤ s) : H.w T s = 0 := if_neg (by omega)

/-- What the keys from `s` on leave over, less what `s` leaves: what those up to `s` do not. -/
theorem rest_eq (T s : ℕ) (hs : s < 2048) :
    (∑ i ∈ range (2048 - s), H.lk T (s + i)) - H.lk T s = H.tot T - ∑ s' ∈ range (s + 1), H.lk T s' := by
  have h1 : H.tot T = ∑ s' ∈ range s, H.lk T s' + ∑ i ∈ range (2048 - s), H.lk T (s + i) := by
    unfold tot
    rw [← sum_range_add]
    congr 2; omega
  rw [h1, sum_range_succ]; ring

/-- The gradient of the score as the derivative of the two logarithms gives it. -/
theorem dz_eq (T s : ℕ) :
    H.g T s * Real.exp (ls (-H.z T s)) - (if s < T then ∑ s' ∈ range s, H.g T s' else 0) * Real.exp (ls (H.z T s)) = H.dz T s := by
  unfold dz
  have e := exp_ls_add (H.z T s)
  split_ifs with h
  · have e' : Real.exp (ls (-H.z T s)) = 1 - Real.exp (ls (H.z T s)) := by linarith
    rw [e']; ring
  · have : H.g T s = 0 := by unfold g; rw [w_of_le H (by omega), mul_zero]
    rw [this]; ring

end Head

end Cert.Proof.Attn
end
-- ==== Proof.Vals.lean ====
/-
  What one block of keys adds, over the reals.

  `C2 f` is the array whose entry at row `a`, lane `b` is the real number `f a b`. Each vector function of a block, applied to
  such arrays, is such an array again; this module says which.
-/
module

public import proofs.«01_k».proof.Proof.Block
public import proofs.«01_k».proof.Proof.Head
public import proofs.«01_k».proof.Proof.Gen.KernelIdeal
public import Idealize.ShloMosaic.Lib.Pointwise
public import Idealize.ShloMosaic.Lib.WordCmp

@[expose] public section

set_option maxRecDepth 16384
noncomputable section

namespace Cert.Proof.Attn

open Cert.KernelIdeal Cert.KernelIdeal.Gen
open Idealize.ShloMosaic Idealize.ShloMosaic.TcCoe
open Finset

/-- The array of real numbers `f a b`. -/
def C2 {m n : ℕ} {φ : FTy} (f : ℕ → ℕ → ℝ) : FVec Ideal ⟨2, ![m, n]⟩ φ := fun y => ((f (y 0).val (y 1).val : ℝ) : EReal)

theorem C2_ix {m n : ℕ} {φ : FTy} (f : ℕ → ℕ → ℝ) (a : Fin m) (b : Fin n) : (C2 f : FVec Ideal ⟨2, ![m, n]⟩ φ) (ix2 a b) = ((f a.val b.val : ℝ) : EReal) := rfl

theorem C2_congr {m n : ℕ} {φ : FTy} {f g : ℕ → ℕ → ℝ} (h : ∀ a b, a < m → b < n → f a b = g a b) : (C2 f : FVec Ideal ⟨2, ![m, n]⟩ φ) = C2 g := by
  funext y
  exact congrArg _ (h _ _ (y 0).isLt (y 1).isLt)

theorem sum_coe (n : ℕ) (a : ℕ → ℝ) : ∑ k : Fin n, ((a k.val : ℝ) : EReal) = ((∑ l ∈ range n, a l : ℝ) : EReal) := by
  rw [Finset.sum_range]
  exact (map_sum (⟨⟨((↑) : ℝ → EReal), EReal.coe_zero⟩, EReal.coe_add⟩ : ℝ →+ EReal) (fun k : Fin n => a k.val) univ).symm

theorem sum_coe_mul (n : ℕ) (a b : ℕ → ℝ) :
    ∑ k : Fin n, ((a k.val : ℝ) : EReal) * ((b k.val : ℝ) : EReal) = ((∑ l ∈ range n, a l * b l : ℝ) : EReal) := by
  rw [← sum_coe]
  exact Finset.sum_congr rfl fun k _ => (EReal.coe_mul _ _).symm

theorem eighth : Ideal.ofBits .f32 0x3E000000#32 = ((1 / 8 : ℝ) : EReal) := by
  simp [Ideal.ofBits, Ideal.ieee, -EReal.coe_mul]; norm_num

theorem coe_min (x y : ℝ) : min (x : EReal) (y : EReal) = ((min x y : ℝ) : EReal) := (EReal.coe_strictMono.monotone.map_min).symm
theorem coe_max (x y : ℝ) : max (x : EReal) (y : EReal) = ((max x y : ℝ) : EReal) := (EReal.coe_strictMono.monotone.map_max).symm
theorem coe_ite (p : Prop) [Decidable p] (x y : ℝ) : (if p then (x : EReal) else (y : EReal)) = ((if p then x else y : ℝ) : EReal) := by split_ifs <;> rfl
theorem coe_ite_zero (p : Prop) [Decidable p] (x : ℝ) : (if p then (x : EReal) else 0) = ((if p then x else 0 : ℝ) : EReal) := by split_ifs <;> rfl

/-- `log (1 + e^y)` of a real. -/
theorem log_one_add_exp (y : ℝ) : Ideal.log (1 + Ideal.exp (y : EReal)) = ((Real.log (1 + Real.exp y) : ℝ) : EReal) := by
  have hp : (0 : ℝ) < 1 + Real.exp y := by positivity
  rw [Ideal.exp_coe, ← EReal.coe_one, ← EReal.coe_add, Ideal.log_coe, if_neg (not_le.2 hp)]

theorem ls_scalar (x : ℝ) : min (x : EReal) 0 - Ideal.log (1 + Ideal.exp (0 - max (x : EReal) (-(x : EReal)))) = ((ls x : ℝ) : EReal) := by
  rw [← EReal.coe_neg, coe_max, ← EReal.coe_zero, coe_min, ← EReal.coe_sub, log_one_add_exp, ← EReal.coe_sub]
  unfold ls
  rw [zero_sub]; rfl

theorem word_sitofp (p : Prop) [Decidable p] : (FloatOps.sitofp (F := Ideal) FTy.f32 (BitVec.setWidth 32 (BitVec.ofBool (decide p)))) = (((if p then 1 else 0 : ℝ)) : EReal) := by
  by_cases h : p
  · rw [decide_eq_true h, if_pos h]
    show (((BitVec.setWidth 32 (BitVec.ofBool true)).toInt : ℝ) : EReal) = _
    rw [show (BitVec.setWidth 32 (BitVec.ofBool true)).toInt = 1 by decide]
    norm_num
  · rw [decide_eq_false h, if_neg h]
    show (((BitVec.setWidth 32 (BitVec.ofBool false)).toInt : ℝ) : EReal) = _
    norm_num

/-! ## The functions of a block -/

theorem score_real (kr qr : ℕ → ℕ → ℝ) :
    score (F := Ideal) (C2 kr) (C2 qr) = C2 (fun a b => ∑ l ∈ range 64, kr a l * qr b l) := by
  funext y
  idx_vars y
  pointwise [score]
  simp only [C2_ix]
  exact sum_coe_mul 64 _ _

theorem logSig_real (f : ℕ → ℕ → ℝ) : logSig (F := Ideal) (C2 f) = C2 (fun a b => ls (f a b)) := by
  funext y
  idx_vars y
  pointwise [logSig]
  simp only [C2_ix]
  exact ls_scalar _

theorem mat_upto : (k0_pay199 (F := Ideal)) = C2 (fun a b => if b ≤ a then 1 else 0) := by
  funext y
  idx_vars y
  have h0 := y0.isLt
  have h1 := y1.isLt
  pointwise [k0_pay199]
  rw [WordCmp.cmpi_sle_ofNat (by omega) (by omega)]
  exact word_sitofp _

theorem mat_earlier : (k0_pay200 (F := Ideal)) = C2 (fun a b => if b < a then 1 else 0) := by
  funext y
  idx_vars y
  have h0 := y0.isLt
  have h1 := y1.isLt
  pointwise [k0_pay200]
  rw [WordCmp.cmpi_slt_ofNat (by omega) (by omega)]
  exact word_sitofp _

theorem causal_real (f : ℕ → ℕ → ℝ) : causal (F := Ideal) (C2 f) = C2 (fun a b => if a < b then f a b else 0) := by
  funext y
  idx_vars y
  have h0 := y0.isLt
  have h1 := y1.isLt
  pointwise [causal, k0_pay201]
  rw [WordCmp.cmpi_slt_ofNat (by omega) (by omega), Scalar.select_decide, C2_ix, C2_ix]
  exact coe_ite_zero _ _

theorem splitDot_real {mt : FVec Ideal S256x256 .bf16} {m : ℕ → ℕ → ℝ} (f : ℕ → ℕ → ℝ) (hm : mt = C2 m) : splitDot (F := Ideal) mt (C2 f) = C2 (fun a b => ∑ l ∈ range 256, m a l * f l b) := by
  subst hm
  funext y
  idx_vars y
  pointwise [splitDot]
  simp only [C2_ix, ← EReal.coe_sub, sub_self, EReal.coe_zero, mul_zero, Finset.sum_const_zero, add_zero]
  exact sum_coe_mul 256 (fun l => m y0.val l) (fun l => f l y1.val)

theorem sum_upto (f : ℕ → ℝ) (a : ℕ) (ha : a < 256) : ∑ l ∈ range 256, (if l ≤ a then 1 else 0 : ℝ) * f l = ∑ l ∈ range (a + 1), f l := by
  simp only [ite_mul, one_mul, zero_mul]
  rw [← Finset.sum_filter]
  refine Finset.sum_congr ?_ fun _ _ => rfl
  ext l; simp only [mem_filter, mem_range]; omega

theorem sum_earlier (f : ℕ → ℝ) (a : ℕ) (ha : a < 256) : ∑ l ∈ range 256, (if l < a then 1 else 0 : ℝ) * f l = ∑ l ∈ range a, f l := by
  simp only [ite_mul, one_mul, zero_mul]
  rw [← Finset.sum_filter]
  refine Finset.sum_congr ?_ fun _ _ => rfl
  ext l; simp only [mem_filter, mem_range]; omega

/-- The running sums down a block. -/
theorem split_upto (f : ℕ → ℕ → ℝ) : splitDot (F := Ideal) k0_pay199 (C2 f) = C2 (fun a b => ∑ l ∈ range (a + 1), f l b) :=
  (splitDot_real f mat_upto).trans (C2_congr fun a b ha _ => sum_upto (fun l => f l b) a ha)

/-- The running sums down a block, each without its own row. -/
theorem split_earlier (f : ℕ → ℕ → ℝ) : splitDot (F := Ideal) k0_pay200 (C2 f) = C2 (fun a b => ∑ l ∈ range a, f l b) :=
  (splitDot_real f mat_earlier).trans (C2_congr fun a b ha _ => sum_earlier (fun l => f l b) a ha)

theorem lastRow_real (f : ℕ → ℕ → ℝ) : lastRow (F := Ideal) (C2 f) = C2 (fun _ b => f 255 b) := by
  funext y
  idx_vars y
  pointwise [lastRow]
  rfl

theorem rows_real (f : ℕ → ℕ → ℝ) : rows (F := Ideal) (C2 f) = C2 (fun _ b => f 0 b) := by
  funext y
  idx_vars y
  pointwise [rows]
  rfl

theorem addf_real {m n : ℕ} {φ : FTy} (f g : ℕ → ℕ → ℝ) : addf (F := Ideal) (C2 f : FVec Ideal ⟨2, ![m, n]⟩ φ) (C2 g) = C2 (fun a b => f a b + g a b) := by
  funext y; exact (EReal.coe_add _ _).symm

theorem subf_real {m n : ℕ} {φ : FTy} (f g : ℕ → ℕ → ℝ) : subf (F := Ideal) (C2 f : FVec Ideal ⟨2, ![m, n]⟩ φ) (C2 g) = C2 (fun a b => f a b - g a b) := by
  funext y; exact (EReal.coe_sub _ _).symm

theorem mulf_real {m n : ℕ} {φ : FTy} (f g : ℕ → ℕ → ℝ) : mulf (F := Ideal) (C2 f : FVec Ideal ⟨2, ![m, n]⟩ φ) (C2 g) = C2 (fun a b => f a b * g a b) := by
  funext y; exact (EReal.coe_mul _ _).symm

theorem exp_real {m n : ℕ} {φ : FTy} (f : ℕ → ℕ → ℝ) : exp (F := Ideal) (C2 f : FVec Ideal ⟨2, ![m, n]⟩ φ) = C2 (fun a b => Real.exp (f a b)) := by
  funext y; exact Ideal.exp_coe _

theorem accum_real (x y old : ℕ → ℕ → ℝ) : accum (F := Ideal) (C2 x) (C2 y) (C2 old) = C2 (fun a l => old a l + ∑ b ∈ range 256, x a b * y b l) := by
  funext i
  idx_vars i
  pointwise [accum]
  simp only [C2_ix]
  rw [sum_coe_mul 256 (fun b => x i0.val b) (fun b => y b i1.val)]
  exact (EReal.coe_add _ _).symm

theorem partQ_real (dz kb : ℕ → ℕ → ℝ) : partQ (F := Ideal) (C2 dz) (C2 kb) = C2 (fun b l => ∑ a ∈ range 256, dz a b * kb a l) := by
  funext i
  idx_vars i
  pointwise [partQ]
  simp only [C2_ix]
  exact sum_coe_mul 256 (fun a => dz a i0.val) (fun a => kb a i1.val)

theorem dqOne_real (dq x : ℕ → ℕ → ℝ) : dqOne (F := Ideal) (C2 dq) (C2 x) = C2 (fun b l => dq b l + x b l) := by
  funext i
  idx_vars i
  pointwise [dqOne]
  exact (EReal.coe_add _ _).symm

theorem dqTwo_real (dq x y : ℕ → ℕ → ℝ) : dqTwo (F := Ideal) (C2 dq) (C2 x) (C2 y) = C2 (fun b l => dq b l + (x b l + y b l)) := by
  funext i
  idx_vars i
  pointwise [dqTwo]
  simp only [C2_ix, ← EReal.coe_add]

theorem scale202 (f : ℕ → ℕ → ℝ) : k0_pay202 (F := Ideal) (C2 f : FVec Ideal S256x64 .bf16) = C2 (fun a b => f a b * (1 / 8)) := by
  funext i
  idx_vars i
  pointwise [k0_pay202]
  rw [eighth, C2_ix, C2_ix, ← EReal.coe_mul]

theorem scale203 (f : ℕ → ℕ → ℝ) : k0_pay203 (F := Ideal) (C2 f : FVec Ideal S256x64 .bf16) = C2 (fun a b => f a b * (1 / 8)) := by
  funext i
  idx_vars i
  pointwise [k0_pay203]
  rw [eighth, C2_ix, C2_ix, ← EReal.coe_mul]

end Cert.Proof.Attn
end
-- ==== Proof.RefOps.lean ====
/-
  Host operations on real numbers: the softplus, and a running sum of the last axis from either end.
-/
module

public import proofs.«01_k».proof.Proof.Vals
public import Idealize.ShloMosaic.PureOps.Ideal.Laws

@[expose] public section

set_option maxRecDepth 16384
noncomputable section

namespace Cert.Proof.Attn

open Idealize.ShloMosaic
open Finset

/-! ## Scalars -/

theorem inf_bits : (FloatOps.ofBits .f32 0x7F800000#32 : Ideal .f32) = (⊤ : EReal) := by
  show Ideal.ofBits .f32 0x7F800000#32 = ⊤
  simp [Ideal.ofBits, Ideal.ieee]

theorem zero_bits : (FloatOps.ofBits .f32 0x00000000#32 : Ideal .f32) = ((0 : ℝ) : EReal) := Ideal.ofBits_zero_f32

/-- A number differs from itself nowhere. -/
theorem une_self (x : Ideal .f32) : (FloatOps.cmpf .une x x : BitVec 1) = 0#1 := by
  show Ideal.cmp .une x x = 0#1
  simp [Ideal.cmp]

theorem oeq_top (x : ℝ) : (FloatOps.cmpf .oeq ((x : EReal) : Ideal .f32) (show Ideal .f32 from (⊤ : EReal)) : BitVec 1) = 0#1 := by
  show Ideal.cmp .oeq (x : EReal) ⊤ = 0#1
  simp [Ideal.cmp]

theorem sub_coe (a b : ℝ) : (FloatOps.subf ((a : EReal) : Ideal .f32) ((b : EReal) : Ideal .f32) : Ideal .f32) = ((a - b : ℝ) : EReal) := (EReal.coe_sub _ _).symm
theorem add_coe (a b : ℝ) : (FloatOps.addf ((a : EReal) : Ideal .f32) ((b : EReal) : Ideal .f32) : Ideal .f32) = ((a + b : ℝ) : EReal) := (EReal.coe_add _ _).symm
theorem mul_coe (a b : ℝ) : (FloatOps.mulf ((a : EReal) : Ideal .f32) ((b : EReal) : Ideal .f32) : Ideal .f32) = ((a * b : ℝ) : EReal) := (EReal.coe_mul _ _).symm
theorem neg_coe (a : ℝ) : (FloatOps.hostNegf ((a : EReal) : Ideal .f32) : Ideal .f32) = ((-a : ℝ) : EReal) := (EReal.coe_neg _).symm
theorem exp_coe (a : ℝ) : (FloatOps.hostUnary .exp ((a : EReal) : Ideal .f32) : Ideal .f32) = ((Real.exp a : ℝ) : EReal) := Ideal.exp_coe a

/-- The host's softplus of a real number. -/
theorem softplus_coe (x : ℝ) : (FloatOps.addf (FloatOps.maximumf ((x : EReal) : Ideal .f32) (((0 : ℝ) : EReal) : Ideal .f32))
    (FloatOps.hostUnary .log1p (FloatOps.hostUnary .exp (FloatOps.hostNegf (FloatOps.hostAbsf (((x - 0 : ℝ) : EReal) : Ideal .f32))))) : Ideal .f32) = ((-ls (-x) : ℝ) : EReal) := by
  show max (x : EReal) ((0 : ℝ) : EReal) + Ideal.log (1 + Ideal.exp (-(max ((x - 0 : ℝ) : EReal) (-((x - 0 : ℝ) : EReal))))) = _
  rw [sub_zero, ← EReal.coe_neg, coe_max, coe_max, ← EReal.coe_neg, Ideal.exp_coe, ← EReal.coe_one, ← EReal.coe_add, Ideal.log_coe,
    if_neg (by have := Real.exp_pos (-max x (-x)); linarith), ← EReal.coe_add]
  unfold ls
  rw [abs_neg]
  congr 1
  have : max x 0 = -min (-x) 0 := by rw [← max_neg_neg]; simp
  rw [this, show max x (-x) = |x| from rfl]
  ring

/-! ## Running sums -/

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A position of a window that spans the last axis only. -/
def wpos : Fin 2048 ≃ (⟨4, ![1, 1, 1, 2048]⟩ : Shape).Idx where
  toFun k := fun a => match a with
    | ⟨0, _⟩ => (0 : Fin 1)
    | ⟨1, _⟩ => (0 : Fin 1)
    | ⟨2, _⟩ => (0 : Fin 1)
    | ⟨3, _⟩ => k
  invFun w := w 3
  left_inv k := rfl
  right_inv w := by
    funext a
    refine Fin.ext ?_
    match a with
    | ⟨0, _⟩ => have : (w 0).val < 1 := (w 0).isLt; show 0 = (w 0).val; omega
    | ⟨1, _⟩ => have : (w 1).val < 1 := (w 1).isLt; show 0 = (w 1).val; omega
    | ⟨2, _⟩ => have : (w 2).val < 1 := (w 2).isLt; show 0 = (w 2).val; omega
    | ⟨3, _⟩ => rfl

abbrev SZ : Shape := ⟨4, ![4, 16, 2048, 2048]⟩

/-- The host's window sum from zero. -/
theorem host_window {s t u : Shape} {φ : FTy} (window strides lo hi : Fin s.rank → ℕ) (y : FVec Ideal s φ) (init : u.Idx → Ideal φ) (h : s.ReduceWindows window strides lo hi t) (hu : 0 < u.numel) (i : t.Idx)
    (e : init (Shape.Idx.first hu) = (0 : EReal)) : Host.reduceWindowAdd window strides lo hi y init h hu i = Ideal.hostReduceWindowAdd window strides lo hi h y 0 i := by
  unfold Host.reduceWindowAdd
  rw [e]
  rfl

variable (x : SZ.Idx → EReal) (f : ℕ → ℕ → ℕ → ℕ → ℝ) (hx : ∀ i : SZ.Idx, x i = ((f (i 0).val (i 1).val (i 2).val (i 3).val : ℝ) : EReal))

include hx

/-- A window sum along the last axis, `p` the positions of padding before it. -/
theorem window_sum (p : ℕ) (hi : Fin 4 → ℕ) (h : SZ.ReduceWindows ![1, 1, 1, 2048] ![1, 1, 1, 1] ![0, 0, 0, p] hi SZ) (i : SZ.Idx) :
    Ideal.hostReduceWindowAdd ![1, 1, 1, 2048] ![1, 1, 1, 1] ![0, 0, 0, p] hi h x 0 i
      = ((∑ k ∈ range 2048, if p ≤ (i 3).val + k ∧ (i 3).val + k - p < 2048 then f (i 0).val (i 1).val (i 2).val ((i 3).val + k - p) else 0 : ℝ) : EReal) := by
  rw [← sum_coe 2048 fun k => if p ≤ (i 3).val + k ∧ (i 3).val + k - p < 2048 then f (i 0).val (i 1).val (i 2).val ((i 3).val + k - p) else 0]
  unfold Ideal.hostReduceWindowAdd Host.reduceWindow
  dsimp only
  rw [foldl_add, zero_add, ← Fin.sum_univ_def]
  refine Eq.trans ?_ ((Equiv.sum_comp (⟨4, ![1, 1, 1, 2048]⟩ : Shape).rowMajor.symm (fun w : (⟨4, ![1, 1, 1, 2048]⟩ : Shape).Idx =>
    ((if p ≤ (i 3).val + (w 3).val ∧ (i 3).val + (w 3).val - p < 2048 then f (i 0).val (i 1).val (i 2).val ((i 3).val + (w 3).val - p) else 0 : ℝ) : EReal))).trans (Equiv.sum_comp wpos _).symm)
  refine Finset.sum_congr rfl fun n _ => ?_
  have w0 : ((⟨4, ![1, 1, 1, 2048]⟩ : Shape).rowMajor.symm n 0).val < 1 := ((⟨4, ![1, 1, 1, 2048]⟩ : Shape).rowMajor.symm n 0).isLt
  have w1 : ((⟨4, ![1, 1, 1, 2048]⟩ : Shape).rowMajor.symm n 1).val < 1 := ((⟨4, ![1, 1, 1, 2048]⟩ : Shape).rowMajor.symm n 1).isLt
  have w2 : ((⟨4, ![1, 1, 1, 2048]⟩ : Shape).rowMajor.symm n 2).val < 1 := ((⟨4, ![1, 1, 1, 2048]⟩ : Shape).rowMajor.symm n 2).isLt
  have h0 : (i 0).val < 4 := (i 0).isLt
  have h1 : (i 1).val < 16 := (i 1).isLt
  have h2 : (i 2).val < 2048 := (i 2).isLt
  split_ifs with a b b
  · rw [hx]
    refine congrArg _ ?_
    show f ((i 0).val * 1 + ((⟨4, ![1, 1, 1, 2048]⟩ : Shape).rowMajor.symm n 0).val - 0) ((i 1).val * 1 + ((⟨4, ![1, 1, 1, 2048]⟩ : Shape).rowMajor.symm n 1).val - 0) ((i 2).val * 1 + ((⟨4, ![1, 1, 1, 2048]⟩ : Shape).rowMajor.symm n 2).val - 0) ((i 3).val * 1 + ((⟨4, ![1, 1, 1, 2048]⟩ : Shape).rowMajor.symm n 3).val - p) = _
    rw [show (i 0).val * 1 + ((⟨4, ![1, 1, 1, 2048]⟩ : Shape).rowMajor.symm n 0).val - 0 = (i 0).val by omega, show (i 1).val * 1 + ((⟨4, ![1, 1, 1, 2048]⟩ : Shape).rowMajor.symm n 1).val - 0 = (i 1).val by omega, show (i 2).val * 1 + ((⟨4, ![1, 1, 1, 2048]⟩ : Shape).rowMajor.symm n 2).val - 0 = (i 2).val by omega, Nat.mul_one]
  · have a3 : p ≤ (i 3).val * 1 + ((⟨4, ![1, 1, 1, 2048]⟩ : Shape).rowMajor.symm n 3).val ∧ (i 3).val * 1 + ((⟨4, ![1, 1, 1, 2048]⟩ : Shape).rowMajor.symm n 3).val - p < 2048 := a 3
    rw [Nat.mul_one] at a3
    exact absurd a3 b
  · refine absurd (fun a => ?_) a
    match a with
    | ⟨0, _⟩ => show 0 ≤ (i 0).val * 1 + ((⟨4, ![1, 1, 1, 2048]⟩ : Shape).rowMajor.symm n 0).val ∧ (i 0).val * 1 + ((⟨4, ![1, 1, 1, 2048]⟩ : Shape).rowMajor.symm n 0).val - 0 < 4; omega
    | ⟨1, _⟩ => show 0 ≤ (i 1).val * 1 + ((⟨4, ![1, 1, 1, 2048]⟩ : Shape).rowMajor.symm n 1).val ∧ (i 1).val * 1 + ((⟨4, ![1, 1, 1, 2048]⟩ : Shape).rowMajor.symm n 1).val - 0 < 16; omega
    | ⟨2, _⟩ => show 0 ≤ (i 2).val * 1 + ((⟨4, ![1, 1, 1, 2048]⟩ : Shape).rowMajor.symm n 2).val ∧ (i 2).val * 1 + ((⟨4, ![1, 1, 1, 2048]⟩ : Shape).rowMajor.symm n 2).val - 0 < 2048; omega
    | ⟨3, _⟩ => show p ≤ (i 3).val * 1 + ((⟨4, ![1, 1, 1, 2048]⟩ : Shape).rowMajor.symm n 3).val ∧ (i 3).val * 1 + ((⟨4, ![1, 1, 1, 2048]⟩ : Shape).rowMajor.symm n 3).val - p < 2048; rw [Nat.mul_one]; exact b
  · rfl

/-- The sum from an entry to the end of its row. -/
theorem sum_from (hi : Fin 4 → ℕ) (h : SZ.ReduceWindows ![1, 1, 1, 2048] ![1, 1, 1, 1] ![0, 0, 0, 0] hi SZ) (i : SZ.Idx) :
    Ideal.hostReduceWindowAdd ![1, 1, 1, 2048] ![1, 1, 1, 1] ![0, 0, 0, 0] hi h x 0 i
      = ((∑ k ∈ range (2048 - (i 3).val), f (i 0).val (i 1).val (i 2).val ((i 3).val + k) : ℝ) : EReal) := by
  have h3 : (i 3).val < 2048 := (i 3).isLt
  rw [window_sum x f hx]
  refine congrArg _ ?_
  have e2 : 2048 = (2048 - (i 3).val) + (i 3).val := by omega
  rw [show range 2048 = range ((2048 - (i 3).val) + (i 3).val) by rw [← e2], sum_range_add, Finset.sum_eq_zero (s := range (i 3).val) fun j _ => if_neg (by omega), add_zero]
  exact Finset.sum_congr rfl fun j hj => (if_pos (by have := mem_range.1 hj; omega)).trans (by rw [Nat.sub_zero])

/-- The sum from the start of a row up to an entry. -/
theorem sum_prefix (hi : Fin 4 → ℕ) (h : SZ.ReduceWindows ![1, 1, 1, 2048] ![1, 1, 1, 1] ![0, 0, 0, 2047] hi SZ) (i : SZ.Idx) :
    Ideal.hostReduceWindowAdd ![1, 1, 1, 2048] ![1, 1, 1, 1] ![0, 0, 0, 2047] hi h x 0 i
      = ((∑ s ∈ range ((i 3).val + 1), f (i 0).val (i 1).val (i 2).val s : ℝ) : EReal) := by
  have h3 : (i 3).val < 2048 := (i 3).isLt
  rw [window_sum x f hx]
  refine congrArg _ ?_
  have e2 : 2048 = (2047 - (i 3).val) + ((i 3).val + 1) := by omega
  rw [show range 2048 = range ((2047 - (i 3).val) + ((i 3).val + 1)) by rw [← e2], sum_range_add,
    Finset.sum_eq_zero (s := range (2047 - (i 3).val)) fun j hj => if_neg (by have := mem_range.1 hj; omega), zero_add]
  refine Finset.sum_congr rfl fun j hj => (if_pos (by have := mem_range.1 hj; omega)).trans ?_
  rw [show (i 3).val + (2047 - (i 3).val + j) - 2047 = j by omega]

end Cert.Proof.Attn
end
-- ==== Proof.BlockVal.lean ====
/-
  One block of keys of one head, over the reals: the functions of a block applied to the head's own rows.

  `r` is the block's first key and `T0` the first query. The masks agree with the head's causal condition: below the
  diagonal no key of the block follows a query, on the diagonal `r = T0`.
-/
module

public import proofs.«01_k».proof.Proof.Vals

@[expose] public section

set_option maxRecDepth 16384
noncomputable section

namespace Cert.Proof.Attn

open Cert.KernelIdeal Cert.KernelIdeal.Gen
open Idealize.ShloMosaic Idealize.ShloMosaic.TcCoe
open Finset

/-- A mask on a block is the head's causal condition. -/
def MaskOK (mk : FVec Ideal S256x256 .f32 → FVec Ideal S256x256 .f32) (r T0 : ℕ) : Prop :=
  ∀ f : ℕ → ℕ → ℝ, mk (C2 f) = C2 (fun a b => if r + a < T0 + b then f a b else 0)

theorem maskOK_id {r T0 : ℕ} (h : r + 256 ≤ T0) : MaskOK id r T0 := fun f =>
  C2_congr fun a b ha _ => (if_pos (by omega)).symm

theorem maskOK_causal (r : ℕ) : MaskOK causal r r := fun f => (causal_real f).trans <|
  C2_congr fun a b _ _ => by
    by_cases h : a < b
    · rw [if_pos h, if_pos (by omega)]
    · rw [if_neg h, if_neg (by omega)]

section Block

variable (H : Head) (r T0 : ℕ)

/-- The rows of a block of keys, of values, and of queries; the totals; the carried rows. -/
def kB : FVec Ideal S256x64 .bf16 := C2 fun a l => H.k (r + a) l
def vB : FVec Ideal S256x64 .bf16 := C2 fun a l => H.v (r + a) l
def qB : FVec Ideal S256x64 .bf16 := C2 fun b l => H.qs (T0 + b) l
def dB : FVec Ideal S256x64 .bf16 := C2 fun b l => H.d (T0 + b) l
def totB : FVec Ideal S1x256 .f32 := C2 fun _ b => H.tot (T0 + b)
def runB : FVec Ideal S1x256 .f32 := C2 fun _ b => ∑ s ∈ range r, H.lk (T0 + b) s
def grunB : FVec Ideal S1x256 .f32 := C2 fun _ b => ∑ s ∈ range r, H.g (T0 + b) s
def wB : FVec Ideal S256x256 .f32 := C2 fun a b => H.w (T0 + b) (r + a)
def gB : FVec Ideal S256x256 .f32 := C2 fun a b => H.g (T0 + b) (r + a)
def dzB : FVec Ideal S256x256 .f32 := C2 fun a b => H.dz (T0 + b) (r + a)
def dqB : FVec Ideal S256x64 .f32 := C2 fun b l => ∑ s ∈ range r, H.dz (T0 + b) s * H.k s l

variable {r T0} {mk : FVec Ideal S256x256 .f32 → FVec Ideal S256x256 .f32} (hm : MaskOK mk r T0)

theorem score_block : score (kB H r) (qB H T0) = C2 fun a b => H.z (T0 + b) (r + a) := score_real _ _

theorem dw_block : score (vB H r) (dB H T0) = C2 fun a b => H.dw (T0 + b) (r + a) := score_real _ _

include hm

theorem keepSums_block : keepSums mk (kB H r) (qB H T0) = C2 fun a b => ∑ i ∈ range (a + 1), H.lk (T0 + b) (r + i) := by
  unfold keepSums
  rw [score_block, logSig_real, subf_real, hm, split_upto]
  rfl

theorem runNext_block : runNext mk (kB H r) (qB H T0) (runB H r T0) = runB H (r + 256) T0 := by
  unfold runNext
  rw [keepSums_block H hm, lastRow_real]
  unfold runB
  rw [addf_real]
  exact C2_congr fun a b _ _ => (sum_range_add _ _ _).symm

theorem weights_block : weights mk (kB H r) (qB H T0) (totB H T0) (runB H r T0) = wB H r T0 := by
  unfold weights
  rw [keepSums_block H hm, score_block, logSig_real]
  unfold totB runB
  rw [subf_real, rows_real, subf_real, addf_real, exp_real, hm]
  refine C2_congr fun a b _ _ => ?_
  unfold Head.w
  refine if_congr Iff.rfl ?_ rfl
  rw [show r + a + 1 = r + (a + 1) by omega, sum_range_add _ r (a + 1)]
  congr 2; ring

theorem gradW_block : gradW mk (kB H r) (vB H r) (qB H T0) (dB H T0) (totB H T0) (runB H r T0) = gB H r T0 := by
  unfold gradW
  rw [weights_block H hm, dw_block]
  exact mulf_real _ _

theorem grunNext_block : grunNext mk (kB H r) (vB H r) (qB H T0) (dB H T0) (totB H T0) (runB H r T0) (grunB H r T0) = grunB H (r + 256) T0 := by
  unfold grunNext
  rw [gradW_block H hm]
  unfold gB grunB
  rw [split_earlier, lastRow_real, lastRow_real, addf_real, addf_real]
  refine C2_congr fun a b _ _ => ?_
  rw [sum_range_add, ← sum_range_succ (fun i => H.g (T0 + b) (r + i)) 255]

theorem gradZ_block : gradZ mk (kB H r) (vB H r) (qB H T0) (dB H T0) (totB H T0) (runB H r T0) (grunB H r T0) = dzB H r T0 := by
  unfold gradZ
  rw [gradW_block H hm, score_block, logSig_real]
  unfold gB grunB
  rw [split_earlier, rows_real, addf_real, addf_real, exp_real, mulf_real, subf_real, hm]
  refine C2_congr fun a b _ _ => ?_
  unfold Head.dz
  refine if_congr Iff.rfl ?_ rfl
  rw [sum_range_add]

omit hm

theorem partQ_block : partQ (dzB H r T0) (kB H r) = C2 fun b l => ∑ i ∈ range 256, H.dz (T0 + b) (r + i) * H.k (r + i) l := partQ_real _ _

theorem dqOne_block : dqOne (dqB H r T0) (partQ (dzB H r T0) (kB H r)) = dqB H (r + 256) T0 := by
  rw [partQ_block]
  refine (dqOne_real _ _).trans (C2_congr fun b l _ _ => ?_)
  rw [sum_range_add]

theorem dqTwo_block : dqTwo (dqB H r T0) (partQ (dzB H r T0) (kB H r)) (partQ (dzB H (r + 256) T0) (kB H (r + 256))) = dqB H (r + 512) T0 := by
  rw [partQ_block, partQ_block]
  refine (dqTwo_real _ _ _).trans (C2_congr fun b l _ _ => ?_)
  rw [show r + 512 = r + 256 + 256 by omega, sum_range_add _ (r + 256), sum_range_add _ r]; ring

theorem accumZ_block (old : ℕ → ℕ → ℝ) : accum (dzB H r T0) (qB H T0) (C2 old) = C2 fun a l => old a l + ∑ b ∈ range 256, H.dz (T0 + b) (r + a) * H.qs (T0 + b) l := accum_real _ _ _

theorem accumW_block (old : ℕ → ℕ → ℝ) : accum (wB H r T0) (dB H T0) (C2 old) = C2 fun a l => old a l + ∑ b ∈ range 256, H.w (T0 + b) (r + a) * H.d (T0 + b) l := accum_real _ _ _

end Block

/-- One head over two blocks of keys, the first below the diagonal. -/
theorem two_block (H : Head) {r T0 : ℕ} {mk : FVec Ideal S256x256 .f32 → FVec Ideal S256x256 .f32} (h : r + 256 ≤ T0) (hm : MaskOK mk (r + 256) T0) :
    two mk (kB H r) (vB H r) (kB H (r + 256)) (vB H (r + 256)) (qB H T0) (dB H T0) (totB H T0) (runB H r T0) (grunB H r T0) (dqB H r T0)
      = ⟨runB H (r + 512) T0, grunB H (r + 512) T0, dqB H (r + 512) T0, wB H r T0, dzB H r T0, wB H (r + 256) T0, dzB H (r + 256) T0⟩ := by
  have h0 := maskOK_id h
  unfold two
  rw [runNext_block H h0, grunNext_block H h0, gradZ_block H h0, weights_block H h0, runNext_block H hm, grunNext_block H hm, gradZ_block H hm,
    weights_block H hm, dqTwo_block]

end Cert.Proof.Attn
end
-- ==== Proof.PointVal.lean ====
/-
  One grid point of the gradient kernel, over the reals: two heads side by side, 256 queries from `T0` on.

  The arrays of keys, values and accumulators hold two heads, 64 lanes each. After the keys below `R` the carried rows are
  the sums over those keys, and to each accumulator's row below `R` the queries of the point have been added.
-/
module

public import proofs.«01_k».proof.Proof.BlockVal

@[expose] public section

set_option maxRecDepth 16384
noncomputable section

namespace Cert.Proof.Attn

open Cert.KernelIdeal Cert.KernelIdeal.Gen
open Idealize.ShloMosaic Idealize.ShloMosaic.TcCoe
open Finset

/-! ## Two heads side by side -/

/-- Two heads' rows, 64 lanes each. -/
def cat (f g : ℕ → ℕ → ℝ) : ℕ → ℕ → ℝ := fun s j => if j < 64 then f s j else g s (j - 64)

/-- Rows `f` with the 256 rows from `r` on replaced by `A`. -/
def upd (f : ℕ → ℕ → ℝ) (r : ℕ) (A : ℕ → ℕ → ℝ) : ℕ → ℕ → ℝ := fun s l => if r ≤ s ∧ s < r + 256 then A (s - r) l else f s l

variable {φ : FTy}

theorem rd_real (f : ℕ → ℕ → ℝ) {r l : ℕ} (hr : r + 256 ≤ 2048) (hl : l + 64 ≤ 128) :
    rd (C2 f : FVec Ideal S2048x128 φ) r l = C2 fun a j => f (r + a) (l + j) := by
  funext y
  have h0 : (y 0).val < 256 := (y 0).isLt
  have h1 : (y 1).val < 64 := (y 1).isLt
  show ((f ((r + (y 0).val) % 2048) ((l + (y 1).val) % 128) : ℝ) : EReal) = ((f (r + (y 0).val) (l + (y 1).val) : ℝ) : EReal)
  rw [Nat.mod_eq_of_lt (by omega), Nat.mod_eq_of_lt (by omega)]

theorem wr_real (f A : ℕ → ℕ → ℝ) (r l : ℕ) :
    wr (C2 f : FVec Ideal S2048x128 φ) r l (C2 A : FVec Ideal S256x64 φ)
      = C2 fun s j => if (r ≤ s ∧ s < r + 256) ∧ (l ≤ j ∧ j < l + 64) then A (s - r) (j - l) else f s j := by
  funext y
  unfold wr VecWindow.put
  by_cases h : (r ≤ (y 0).val ∧ (y 0).val < r + 256) ∧ (l ≤ (y 1).val ∧ (y 1).val < l + 64)
  · have h' : ∀ a, (![r, l] : Fin 2 → ℕ) a ≤ (y a).val ∧ (y a).val < (![r, l] : Fin 2 → ℕ) a + S256x64.size a := by
      intro a; fin_cases a
      · exact h.1
      · exact h.2
    rw [dif_pos h']
    unfold C2
    dsimp only
    rw [if_pos h]
    rfl
  · have h' : ¬ ∀ a, (![r, l] : Fin 2 → ℕ) a ≤ (y a).val ∧ (y a).val < (![r, l] : Fin 2 → ℕ) a + S256x64.size a := fun hh =>
      h ⟨hh 0, hh 1⟩
    rw [dif_neg h']
    unfold C2
    dsimp only
    rw [if_neg h]

theorem rd_cat0 (f g : ℕ → ℕ → ℝ) {r : ℕ} (hr : r + 256 ≤ 2048) : rd (C2 (cat f g) : FVec Ideal S2048x128 φ) r 0 = C2 fun a j => f (r + a) j :=
  (rd_real _ hr (by omega)).trans (C2_congr fun a j _ hj => by unfold cat; rw [if_pos (by omega), zero_add])

theorem rd_cat1 (f g : ℕ → ℕ → ℝ) {r : ℕ} (hr : r + 256 ≤ 2048) : rd (C2 (cat f g) : FVec Ideal S2048x128 φ) r 64 = C2 fun a j => g (r + a) j :=
  (rd_real _ hr (by omega)).trans (C2_congr fun a j _ hj => by unfold cat; rw [if_neg (by omega), Nat.add_sub_cancel_left])

theorem wr_cat0 (f g A : ℕ → ℕ → ℝ) (r : ℕ) : wr (C2 (cat f g) : FVec Ideal S2048x128 φ) r 0 (C2 A : FVec Ideal S256x64 φ) = C2 (cat (upd f r A) g) :=
  (wr_real _ _ _ _).trans (C2_congr fun s j _ _ => by
    unfold cat upd
    by_cases h : j < 64
    · rw [if_pos h, if_pos h]
      by_cases h2 : r ≤ s ∧ s < r + 256
      · have h3 : (r ≤ s ∧ s < r + 256) ∧ (0 ≤ j ∧ j < 0 + 64) := ⟨h2, by omega⟩
        rw [if_pos h3, if_pos h2]; rfl
      · rw [if_neg (fun hh => h2 hh.1), if_neg h2]
    · rw [if_neg (fun hh => by omega), if_neg h, if_neg h])

theorem wr_cat1 (f g A : ℕ → ℕ → ℝ) (r : ℕ) : wr (C2 (cat f g) : FVec Ideal S2048x128 φ) r 64 (C2 A : FVec Ideal S256x64 φ) = C2 (cat f (upd g r A)) :=
  (wr_real _ _ _ _).trans (C2_congr fun s j _ hj => by
    unfold cat upd
    by_cases h : j < 64
    · rw [if_neg (fun hh => by omega), if_pos h, if_pos h]
    · rw [if_neg h, if_neg h]
      by_cases h2 : r ≤ s ∧ s < r + 256
      · have h3 : (r ≤ s ∧ s < r + 256) ∧ (64 ≤ j ∧ j < 64 + 64) := ⟨h2, by omega⟩
        rw [if_pos h3, if_pos h2]
      · rw [if_neg (fun hh => h2 hh.1), if_neg h2])

/-! ## The accumulators -/

/-- Rows `f` with the sum over the point's queries of `W · y` added to those below `R`. -/
def part (W y : ℕ → ℕ → ℝ) (T0 : ℕ) (f : ℕ → ℕ → ℝ) (R : ℕ) : ℕ → ℕ → ℝ := fun s l =>
  f s l + if s < R then ∑ b ∈ range 256, W (T0 + b) s * y (T0 + b) l else 0

theorem upd_part (W y : ℕ → ℕ → ℝ) (T0 : ℕ) (f : ℕ → ℕ → ℝ) {r r' : ℕ} (h : r' ≤ r) :
    upd (part W y T0 f r) r (fun a l => part W y T0 f r' (r + a) l + ∑ b ∈ range 256, W (T0 + b) (r + a) * y (T0 + b) l) = part W y T0 f (r + 256) := by
  funext s l
  unfold upd part
  by_cases h2 : r ≤ s ∧ s < r + 256
  · have e : r + (s - r) = s := by omega
    have n : ¬ s < r' := by omega
    rw [if_pos h2]
    dsimp only
    rw [e, if_neg n, if_pos h2.2, add_zero]
  · rw [if_neg h2]
    by_cases h3 : s < r
    · rw [if_pos h3, if_pos (by omega)]
    · rw [if_neg h3, if_neg (by omega)]

theorem part_zero (W y : ℕ → ℕ → ℝ) (T0 : ℕ) (f : ℕ → ℕ → ℝ) : part W y T0 f 0 = f := by
  funext s l
  unfold part
  rw [if_neg (by omega), add_zero]

/-- Past the point's own queries nothing is added. -/
theorem part_end (W y : ℕ → ℕ → ℝ) (T0 : ℕ) (f : ℕ → ℕ → ℝ) (hW : ∀ T s, T ≤ s → W T s = 0) :
    part W y T0 f (T0 + 256) = fun s l => f s l + ∑ b ∈ range 256, W (T0 + b) s * y (T0 + b) l := by
  funext s l
  unfold part
  by_cases h : s < T0 + 256
  · rw [if_pos h]
  · rw [if_neg h, Finset.sum_eq_zero fun b hb => by rw [hW _ _ (by have := mem_range.1 hb; omega), zero_mul]]

/-! ## The state of a point -/

section Point

variable (H0 H1 : Head) (T0 : ℕ) (f0 f1 g0 g1 : ℕ → ℕ → ℝ)

def KB : KArr Ideal := C2 (cat H0.k H1.k)
def VB : KArr Ideal := C2 (cat H0.v H1.v)

/-- The state after the keys below `R`. -/
def stR (R : ℕ) : St Ideal where
  c := (runB H0 R T0, grunB H0 R T0, dqB H0 R T0, runB H1 R T0, grunB H1 R T0, dqB H1 R T0)
  dk := C2 (cat (part H0.dz H0.qs T0 f0 R) (part H1.dz H1.qs T0 f1 R))
  dv := C2 (cat (part H0.w H0.d T0 g0 R) (part H1.w H1.d T0 g1 R))

theorem rd_K0 {r : ℕ} (hr : r + 256 ≤ 2048) : rd (KB H0 H1) r 0 = kB H0 r := rd_cat0 _ _ hr
theorem rd_K1 {r : ℕ} (hr : r + 256 ≤ 2048) : rd (KB H0 H1) r 64 = kB H1 r := rd_cat1 _ _ hr
theorem rd_V0 {r : ℕ} (hr : r + 256 ≤ 2048) : rd (VB H0 H1) r 0 = vB H0 r := rd_cat0 _ _ hr
theorem rd_V1 {r : ℕ} (hr : r + 256 ≤ 2048) : rd (VB H0 H1) r 64 = vB H1 r := rd_cat1 _ _ hr

theorem pair_real {r : ℕ} {mk : FVec Ideal S256x256 .f32 → FVec Ideal S256x256 .f32} (h : r + 256 ≤ T0) (hr : r + 512 ≤ 2048) (hm : MaskOK mk (r + 256) T0) :
    pairSt (KB H0 H1) (VB H0 H1) (qB H0 T0) (qB H1 T0) (dB H0 T0) (dB H1 T0) (totB H0 T0) (totB H1 T0) mk r (stR H0 H1 T0 f0 f1 g0 g1 r)
      = stR H0 H1 T0 f0 f1 g0 g1 (r + 512) := by
  unfold pairSt
  dsimp only [stR]
  rw [rd_K0 H0 H1 (by omega), rd_V0 H0 H1 (by omega), rd_K0 H0 H1 (by omega), rd_V0 H0 H1 (by omega), rd_K1 H0 H1 (by omega), rd_V1 H0 H1 (by omega), rd_K1 H0 H1 (by omega),
    rd_V1 H0 H1 (by omega), two_block H0 h hm, two_block H1 h hm]
  dsimp only
  rw [rd_cat0 _ _ (by omega), rd_cat0 _ _ (by omega), rd_cat1 _ _ (by omega), rd_cat1 _ _ (by omega), rd_cat0 _ _ (by omega), rd_cat0 _ _ (by omega), rd_cat1 _ _ (by omega), rd_cat1 _ _ (by omega)]
  simp only [accumZ_block, accumW_block]
  rw [wr_cat0, wr_cat1, wr_cat0, wr_cat1, wr_cat0, wr_cat1, wr_cat0, wr_cat1]
  simp only [upd_part _ _ _ _ (le_refl r), upd_part _ _ _ _ (show r ≤ r + 256 by omega)]

theorem one_real (hr : T0 + 256 ≤ 2048) :
    let e := oneSt (KB H0 H1) (VB H0 H1) (qB H0 T0) (qB H1 T0) (dB H0 T0) (dB H1 T0) (totB H0 T0) (totB H1 T0) T0 (stR H0 H1 T0 f0 f1 g0 g1 T0)
    let e' := stR H0 H1 T0 f0 f1 g0 g1 (T0 + 256)
    e.dk = e'.dk ∧ e.dv = e'.dv ∧ e.c.2.2.1 = e'.c.2.2.1 ∧ e.c.2.2.2.2.2 = e'.c.2.2.2.2.2 := by
  have hm := maskOK_causal T0
  unfold oneSt
  dsimp only [stR]
  rw [rd_K0 H0 H1 hr, rd_V0 H0 H1 hr, rd_K1 H0 H1 hr, rd_V1 H0 H1 hr, gradZ_block H0 hm, gradZ_block H1 hm, weights_block H0 hm, weights_block H1 hm,
    rd_cat0 _ _ hr, rd_cat1 _ _ hr, rd_cat0 _ _ hr, rd_cat1 _ _ hr]
  simp only [accumZ_block, accumW_block]
  rw [wr_cat0, wr_cat1, wr_cat0, wr_cat1]
  simp only [upd_part _ _ _ _ (le_refl T0), dqOne_block, and_self]

theorem zero_real {m n : ℕ} : (broadcast ⟨2, ![m, n]⟩ (Scalar.ofBits (F := Ideal) .f32 0x00000000#32) : FVec Ideal ⟨2, ![m, n]⟩ .f32) = C2 fun _ _ => 0 := by
  funext y
  exact Ideal.ofBits_zero_f32

theorem st_zero : (⟨carry0, C2 (cat f0 f1), C2 (cat g0 g1)⟩ : St Ideal) = stR H0 H1 T0 f0 f1 g0 g1 0 := by
  unfold stR
  rw [part_zero, part_zero, part_zero, part_zero]
  have e1 : (k0_pay206 (F := Ideal)) = C2 fun _ _ => 0 := zero_real
  have e2 : (k0_pay207 (F := Ideal)) = C2 fun _ _ => 0 := zero_real
  have e3 : (k0_pay208 (F := Ideal)) = C2 fun _ _ => 0 := zero_real
  unfold carry0
  rw [e1, e2, e3]
  unfold runB grunB dqB
  simp only [range_zero, sum_empty]

theorem loop_real (n : ℕ) (h : 512 * n ≤ T0) (hT : T0 + 256 ≤ 2048) :
    loopSt (KB H0 H1) (VB H0 H1) (qB H0 T0) (qB H1 T0) (dB H0 T0) (dB H1 T0) (totB H0 T0) (totB H1 T0) carry0 (C2 (cat f0 f1)) (C2 (cat g0 g1)) n
      = stR H0 H1 T0 f0 f1 g0 g1 (512 * n) := by
  induction n with
  | zero => exact st_zero H0 H1 T0 f0 f1 g0 g1
  | succ n ih =>
    unfold loopSt
    rw [ih (by omega)]
    exact pair_real H0 H1 T0 f0 f1 g0 g1 (by omega) (by omega) (maskOK_id (by omega))

/-- What a grid point leaves: `dk`, `dv`, and its block of each head's `dq` before the scaling. -/
theorem point_real (i : ℕ) (hi : i < 8) :
    let e := pointSt (KB H0 H1) (VB H0 H1) (qB H0 (256 * i)) (qB H1 (256 * i)) (dB H0 (256 * i)) (dB H1 (256 * i)) (totB H0 (256 * i)) (totB H1 (256 * i)) i (C2 (cat f0 f1)) (C2 (cat g0 g1))
    let e' := stR H0 H1 (256 * i) f0 f1 g0 g1 (256 * i + 256)
    e.dk = e'.dk ∧ e.dv = e'.dv ∧ e.c.2.2.1 = e'.c.2.2.1 ∧ e.c.2.2.2.2.2 = e'.c.2.2.2.2.2 := by
  intro e e'
  have hl := loop_real H0 H1 (256 * i) f0 f1 g0 g1 (i / 2) (by omega) (by omega)
  by_cases h : i % 2 = 1
  · have hp := pair_real H0 H1 (256 * i) f0 f1 g0 g1 (r := 256 * (i - 1)) (mk := causal) (by omega) (by omega) (by rw [show 256 * (i - 1) + 256 = 256 * i by omega]; exact maskOK_causal _)
    have he : e = e' := by
      show pointSt _ _ _ _ _ _ _ _ i _ _ = _
      unfold pointSt
      rw [if_pos h, hl, show 512 * (i / 2) = 256 * (i - 1) by omega, hp, show 256 * (i - 1) + 512 = 256 * i + 256 by omega]
    rw [he]
    exact ⟨rfl, rfl, rfl, rfl⟩
  · have he : e = oneSt (KB H0 H1) (VB H0 H1) (qB H0 (256 * i)) (qB H1 (256 * i)) (dB H0 (256 * i)) (dB H1 (256 * i)) (totB H0 (256 * i)) (totB H1 (256 * i)) (256 * i) (stR H0 H1 (256 * i) f0 f1 g0 g1 (256 * i)) := by
      show pointSt _ _ _ _ _ _ _ _ i _ _ = _
      unfold pointSt
      rw [if_neg h, hl, show 512 * (i / 2) = 256 * i by omega]
    rw [he]
    exact one_real H0 H1 (256 * i) f0 f1 g0 g1 (by omega)

end Point

end Cert.Proof.Attn
end
-- ==== Proof.ArrayVal.lean ====
/-
  From the grid points to the arrays: what the three result arrays hold after the run, where the arguments are real.

  Point `t` of the grid is batch row `t / 64`, pair of heads `t / 8 % 8`, block of queries `t % 8`.
-/
module

public import proofs.«01_k».proof.Proof.PointVal
public import proofs.«01_k».proof.Proof.Run
public import Idealize.ShloMosaic.Lib.Pipeline.ValueKit

@[expose] public section

set_option maxRecDepth 16384
noncomputable section

namespace Cert.Proof.Attn

open Cert.KernelIdeal Cert.KernelIdeal.Gen
open Idealize.ShloMosaic Idealize.ShloMosaic.TcCoe Idealize.SL.Sem
open Idealize.ShloMosaic.Pipeline (Dat)
open Finset

/-- Head `h` of batch row `b`, out of the arrays of queries, keys and values side by side and of the output's gradient. -/
def hd (X D : ℕ → ℕ → ℝ) (b h : ℕ) : Head where
  q T l := X (2048 * b + T) (64 * h + l)
  k s l := X (2048 * b + s) (1024 + 64 * h + l)
  v s l := X (2048 * b + s) (2048 + 64 * h + l)
  d T l := D (2048 * b + T) (64 * h + l)

theorem idx : ∀ t : Fin cfg0.N, win0_0.index t = ![8 * (t.val / 64) + t.val % 8, t.val / 8 % 8] ∧ win0_1.index t = ![t.val / 64, 8 + t.val / 8 % 8]
    ∧ win0_2.index t = ![t.val / 64, 16 + t.val / 8 % 8] ∧ win0_3.index t = ![t.val / 64, t.val / 8 % 8, t.val % 8, 0, 0]
    ∧ win0_4.index t = ![8 * (t.val / 64) + t.val % 8, t.val / 8 % 8] ∧ win0_5.index t = ![8 * (t.val / 64) + t.val % 8, t.val / 8 % 8]
    ∧ win0_6.index t = ![t.val / 64, t.val / 8 % 8] ∧ win0_7.index t = ![t.val / 64, t.val / 8 % 8] :=
  (by decide +kernel : ∀ t : Fin grid0.N, _)

variable (m : (ℓ : Loc nD τ sig) → Buf (Elt Ideal) ℓ) (c : Dev nD) (X D : ℕ → ℕ → ℝ)

/-- The arguments hold real numbers, and the array of totals holds the heads' totals. -/
structure Holds : Prop where
  qkv : (m ((c : Thread nD τ).loc main_arg0) : FVec Ideal S8192x3072 .bf16) = C2 (φ := .bf16) X
  ct : (m ((c : Thread nD τ).loc main_arg1) : FVec Ideal S8192x1024 .bf16) = C2 (φ := .bf16) D
  tot : ∀ (b : Fin 4) (p i : Fin 8) (a : Fin 16) (y : Fin 256), (V m c main_v26 : FVec Ideal S4x8x8x16x256 .f32) (ix5 b p i a y)
    = (((hd X D b.val (2 * p.val + a.val / 8)).tot (256 * i.val + y.val) : ℝ) : EReal)

variable (h : Holds m c X D)

/-- The two heads of a point. -/
def h0 (t : ℕ) : Head := hd X D (t / 64) (2 * (t / 8 % 8))
def h1 (t : ℕ) : Head := hd X D (t / 64) (2 * (t / 8 % 8) + 1)

section Blocks

include h

theorem blk0 (t : Fin cfg0.N) : (iblk m c 0 t : FVec Ideal S256x128 .bf16) = C2 (φ := .bf16) fun a j => X (2048 * (t.val / 64) + (256 * (t.val % 8) + a)) (128 * (t.val / 8 % 8) + j) := by
  funext y
  refine (congrFun ((V_main_arg0 m c).trans h.qkv) (((cfg0.win 0).blk t).view.emb y)).trans ?_
  unfold C2
  blk_simp [idx t]
  exact congrArg _ (congrArg₂ X (by omega) (by omega))

theorem blk1 (t : Fin cfg0.N) : (iblk m c 1 t : FVec Ideal S2048x128 .bf16) = KB (h0 X D t.val) (h1 X D t.val) := by
  funext y
  refine (congrFun ((V_main_arg0 m c).trans h.qkv) (((cfg0.win 1).blk t).view.emb y)).trans ?_
  unfold KB C2 cat h0 h1 hd
  dsimp only
  blk_simp [idx t]
  split_ifs
  · exact congrArg _ (congrArg₂ X (by omega) (by omega))
  · exact congrArg _ (congrArg₂ X (by omega) (by omega))

theorem blk2 (t : Fin cfg0.N) : (iblk m c 2 t : FVec Ideal S2048x128 .bf16) = VB (h0 X D t.val) (h1 X D t.val) := by
  funext y
  refine (congrFun ((V_main_arg0 m c).trans h.qkv) (((cfg0.win 2).blk t).view.emb y)).trans ?_
  unfold VB C2 cat h0 h1 hd
  dsimp only
  blk_simp [idx t]
  split_ifs
  · exact congrArg _ (congrArg₂ X (by omega) (by omega))
  · exact congrArg _ (congrArg₂ X (by omega) (by omega))

theorem blk4 (t : Fin cfg0.N) : (iblk m c 4 t : FVec Ideal S256x128 .bf16) = C2 (φ := .bf16) fun a j => D (2048 * (t.val / 64) + (256 * (t.val % 8) + a)) (128 * (t.val / 8 % 8) + j) := by
  funext y
  refine (congrFun ((V_main_arg1 m c).trans h.ct) (((cfg0.win 4).blk t).view.emb y)).trans ?_
  unfold C2
  blk_simp [idx t]
  exact congrArg _ (congrArg₂ D (by omega) (by omega))

theorem blk3 (t : Fin cfg0.N) (a : Fin 16) (y : Fin 256) : (iblk m c 3 t : FVec Ideal S1x1x1x16x256 .f32) (ix5 (0 : Fin 1) (0 : Fin 1) (0 : Fin 1) a y)
    = (((hd X D (t.val / 64) (2 * (t.val / 8 % 8) + a.val / 8)).tot (256 * (t.val % 8) + y.val) : ℝ) : EReal) := by
  have ht : t.val < 256 := t.isLt
  rw [← h.tot ⟨t.val / 64, by omega⟩ ⟨t.val / 8 % 8, by omega⟩ ⟨t.val % 8, by omega⟩ a y]
  refine congrArg (V m c main_v26 : FVec Ideal S4x8x8x16x256 .f32) (?_ : ((cfg0.win 3).blk t).view.emb _ = _)
  blk_ext [idx t]

end Blocks

theorem window0 (f : ℕ → ℕ → ℝ) : (VecWindow.window (C2 (φ := .bf16) f : FVec Ideal S256x128 .bf16) ![0, 0] S256x64.size inb_S256x128_S256x64_0_0 : FVec Ideal S256x64 .bf16) = C2 (φ := .bf16) f := by
  funext y
  unfold VecWindow.window C2
  refine congrArg _ (congrArg₂ f ?_ ?_)
  · show 0 + 1 * (y 0).val = _
    omega
  · show 0 + 1 * (y 1).val = _
    omega

theorem window64 (f : ℕ → ℕ → ℝ) : (VecWindow.window (C2 (φ := .bf16) f : FVec Ideal S256x128 .bf16) ![0, 64] S256x64.size inb_S256x128_S256x64_0_64 : FVec Ideal S256x64 .bf16) = C2 (φ := .bf16) fun a j => f a (64 + j) := by
  funext y
  unfold VecWindow.window C2
  refine congrArg _ (congrArg₂ f ?_ ?_)
  · show 0 + 1 * (y 0).val = _
    omega
  · show 64 + 1 * (y 1).val = _
    omega

theorem tot204 (T : FVec Ideal S1x1x1x16x256 .f32) (f : ℕ → ℝ) (hT : ∀ y : Fin 256, T (ix5 (0 : Fin 1) (0 : Fin 1) (0 : Fin 1) (0 : Fin 16) y) = ((f y.val : ℝ) : EReal)) :
    k0_pay204 (F := Ideal) (VecWindow.window T ![0, 0, 0, 0, 0] S1x1x1x1x256.size inb_S1x1x1x16x256_S1x1x1x1x256_0_0_0_0_0) = C2 fun _ b => f b := by
  funext y
  idx_vars y
  pointwise [k0_pay204]
  refine Eq.trans (congrArg T (?_ : _ = ix5 (0 : Fin 1) (0 : Fin 1) (0 : Fin 1) (0 : Fin 16) y1)) (hT y1)
  funext a
  refine Fin.ext ?_
  match a with
  | 0 | 1 | 2 | 3 => rfl
  | 4 => exact (Nat.zero_add _).trans (Nat.one_mul _)

theorem tot205 (T : FVec Ideal S1x1x1x16x256 .f32) (f : ℕ → ℝ) (hT : ∀ y : Fin 256, T (ix5 (0 : Fin 1) (0 : Fin 1) (0 : Fin 1) (8 : Fin 16) y) = ((f y.val : ℝ) : EReal)) :
    k0_pay205 (F := Ideal) (VecWindow.window T ![0, 0, 0, 8, 0] S1x1x1x1x256.size inb_S1x1x1x16x256_S1x1x1x1x256_0_0_0_8_0) = C2 fun _ b => f b := by
  funext y
  idx_vars y
  pointwise [k0_pay205]
  refine Eq.trans (congrArg T (?_ : _ = ix5 (0 : Fin 1) (0 : Fin 1) (0 : Fin 1) (8 : Fin 16) y1)) (hT y1)
  funext a
  refine Fin.ext ?_
  match a with
  | 0 | 1 | 2 | 3 => rfl
  | 4 => exact (Nat.zero_add _).trans (Nat.one_mul _)

/-! ## A grid point -/

/-- The gradient of the keys, or of the values, over the queries below `n`. -/
def dkTo (H : Head) (n : ℕ) : ℕ → ℕ → ℝ := fun s l => ∑ T ∈ range n, H.dz T s * H.qs T l
def dvTo (H : Head) (n : ℕ) : ℕ → ℕ → ℝ := fun s l => ∑ T ∈ range n, H.w T s * H.d T l

theorem part_dk (H : Head) (i : ℕ) : part H.dz H.qs (256 * i) (dkTo H (256 * i)) (256 * i + 256) = dkTo H (256 * i + 256) := by
  rw [part_end _ _ _ _ fun _ _ => H.dz_of_le]
  funext s l
  exact (sum_range_add (fun T => H.dz T s * H.qs T l) (256 * i) 256).symm

theorem part_dv (H : Head) (i : ℕ) : part H.w H.d (256 * i) (dvTo H (256 * i)) (256 * i + 256) = dvTo H (256 * i + 256) := by
  rw [part_end _ _ _ _ fun _ _ => H.w_of_le]
  funext s l
  exact (sum_range_add (fun T => H.w T s * H.d T l) (256 * i) 256).symm

section Step

include h

/-- A point whose accumulators hold the gradients over the queries before its own. -/
theorem step_real (t : Fin cfg0.N) (a : DArr Ideal × DArr Ideal)
    (ha : accIn (F := Ideal) (t.val % 8) a.1 = C2 (cat (dkTo (h0 X D t.val) (256 * (t.val % 8))) (dkTo (h1 X D t.val) (256 * (t.val % 8)))))
    (hb : accIn (F := Ideal) (t.val % 8) a.2 = C2 (cat (dvTo (h0 X D t.val) (256 * (t.val % 8))) (dvTo (h1 X D t.val) (256 * (t.val % 8))))) :
    (stepAt m c t a).dk = C2 (cat (dkTo (h0 X D t.val) (256 * (t.val % 8) + 256)) (dkTo (h1 X D t.val) (256 * (t.val % 8) + 256)))
    ∧ (stepAt m c t a).dv = C2 (cat (dvTo (h0 X D t.val) (256 * (t.val % 8) + 256)) (dvTo (h1 X D t.val) (256 * (t.val % 8) + 256)))
    ∧ (stepAt m c t a).c.2.2.1 = dqB (h0 X D t.val) (256 * (t.val % 8) + 256) (256 * (t.val % 8))
    ∧ (stepAt m c t a).c.2.2.2.2.2 = dqB (h1 X D t.val) (256 * (t.val % 8) + 256) (256 * (t.val % 8)) := by
  have hp := point_real (h0 X D t.val) (h1 X D t.val) (dkTo (h0 X D t.val) (256 * (t.val % 8))) (dkTo (h1 X D t.val) (256 * (t.val % 8)))
    (dvTo (h0 X D t.val) (256 * (t.val % 8))) (dvTo (h1 X D t.val) (256 * (t.val % 8))) (t.val % 8) (by omega)
  have e : stepAt m c t a = pointSt (KB (h0 X D t.val) (h1 X D t.val)) (VB (h0 X D t.val) (h1 X D t.val)) (qB (h0 X D t.val) (256 * (t.val % 8))) (qB (h1 X D t.val) (256 * (t.val % 8)))
      (dB (h0 X D t.val) (256 * (t.val % 8))) (dB (h1 X D t.val) (256 * (t.val % 8))) (totB (h0 X D t.val) (256 * (t.val % 8))) (totB (h1 X D t.val) (256 * (t.val % 8))) (t.val % 8)
      (C2 (cat (dkTo (h0 X D t.val) (256 * (t.val % 8))) (dkTo (h1 X D t.val) (256 * (t.val % 8))))) (C2 (cat (dvTo (h0 X D t.val) (256 * (t.val % 8))) (dvTo (h1 X D t.val) (256 * (t.val % 8))))) := by
    unfold stepAt point
    rw [coord2, ha, hb, blk0 m c X D h, blk1 m c X D h, blk2 m c X D h, blk4 m c X D h, window0, window64, window0, window64, scale202, scale203,
      tot204 _ (fun y => (h0 X D t.val).tot (256 * (t.val % 8) + y)) (fun y => blk3 m c X D h t 0 y),
      tot205 _ (fun y => (h1 X D t.val).tot (256 * (t.val % 8) + y)) (fun y => blk3 m c X D h t 8 y)]
    have q0 : (C2 (φ := .bf16) (fun a b => X (2048 * (t.val / 64) + (256 * (t.val % 8) + a)) (128 * (t.val / 8 % 8) + b) * (1 / 8)) : FVec Ideal S256x64 .bf16) = qB (h0 X D t.val) (256 * (t.val % 8)) :=
      C2_congr fun a b _ _ => congrArg (· * (1 / 8 : ℝ)) (congrArg (X _) (show _ = 64 * (2 * (t.val / 8 % 8)) + b by omega))
    have q1 : (C2 (φ := .bf16) (fun a b => X (2048 * (t.val / 64) + (256 * (t.val % 8) + a)) (128 * (t.val / 8 % 8) + (64 + b)) * (1 / 8)) : FVec Ideal S256x64 .bf16) = qB (h1 X D t.val) (256 * (t.val % 8)) :=
      C2_congr fun a b _ _ => congrArg (· * (1 / 8 : ℝ)) (congrArg (X _) (show _ = 64 * (2 * (t.val / 8 % 8) + 1) + b by omega))
    have d0 : (C2 (φ := .bf16) (fun a b => D (2048 * (t.val / 64) + (256 * (t.val % 8) + a)) (128 * (t.val / 8 % 8) + b)) : FVec Ideal S256x64 .bf16) = dB (h0 X D t.val) (256 * (t.val % 8)) :=
      C2_congr fun a b _ _ => congrArg (D _) (show _ = 64 * (2 * (t.val / 8 % 8)) + b by omega)
    have d1 : (C2 (φ := .bf16) (fun a b => D (2048 * (t.val / 64) + (256 * (t.val % 8) + a)) (128 * (t.val / 8 % 8) + (64 + b))) : FVec Ideal S256x64 .bf16) = dB (h1 X D t.val) (256 * (t.val % 8)) :=
      C2_congr fun a b _ _ => congrArg (D _) (show _ = 64 * (2 * (t.val / 8 % 8) + 1) + b by omega)
    rw [q0, q1, d0, d1]
    rfl
  rw [e, ← part_dk, ← part_dk, ← part_dv, ← part_dv]
  exact hp

/-- Along the grid the accumulators gather the gradients over the queries so far. -/
theorem point_at (n : ℕ) : ∀ hn : n < cfg0.N,
    (ptAt m c ⟨n, hn⟩).dk = C2 (cat (dkTo (h0 X D n) (256 * (n % 8) + 256)) (dkTo (h1 X D n) (256 * (n % 8) + 256)))
    ∧ (ptAt m c ⟨n, hn⟩).dv = C2 (cat (dvTo (h0 X D n) (256 * (n % 8) + 256)) (dvTo (h1 X D n) (256 * (n % 8) + 256)))
    ∧ (ptAt m c ⟨n, hn⟩).c.2.2.1 = dqB (h0 X D n) (256 * (n % 8) + 256) (256 * (n % 8))
    ∧ (ptAt m c ⟨n, hn⟩).c.2.2.2.2.2 = dqB (h1 X D n) (256 * (n % 8) + 256) (256 * (n % 8)) := by
  have z1 : (k0_pay197 (F := Ideal)) = C2 (cat (fun _ _ => 0) (fun _ _ => 0)) :=
    (zero_real (m := 2048) (n := 128)).trans (C2_congr fun a b _ _ => by unfold cat; rw [ite_self])
  have zk : ∀ H : Head, dkTo H 0 = fun _ _ => 0 := fun H => by unfold dkTo; simp only [range_zero, sum_empty]
  have zv : ∀ H : Head, dvTo H 0 = fun _ _ => 0 := fun H => by unfold dvTo; simp only [range_zero, sum_empty]
  induction n with
  | zero =>
    intro hn
    refine step_real m c X D h ⟨0, hn⟩ _ ?_ ?_
    · show k0_pay197 (F := Ideal) = C2 (cat (dkTo (h0 X D 0) 0) (dkTo (h1 X D 0) 0))
      rw [zk, zk]; exact z1
    · show k0_pay197 (F := Ideal) = C2 (cat (dvTo (h0 X D 0) 0) (dvTo (h1 X D 0) 0))
      rw [zv, zv]; exact z1
  | succ n ih =>
    intro hn
    have ih := ih (by omega)
    refine step_real m c X D h ⟨n + 1, hn⟩ _ ?_ ?_
    · unfold accIn
      dsimp only
      split_ifs with h0'
      · rw [h0', zk, zk]; exact z1
      · rw [show accAt m c (n + 1) = _ from accAt_succ m c ⟨n, by omega⟩]
        refine ih.1.trans ?_
        rw [show 256 * ((n + 1) % 8) = 256 * (n % 8) + 256 by omega]
        unfold h0 h1
        rw [show (n + 1) / 64 = n / 64 by omega, show (n + 1) / 8 = n / 8 by omega]
    · unfold accIn
      dsimp only
      split_ifs with h0'
      · rw [h0', zv, zv]; exact z1
      · rw [show accAt m c (n + 1) = _ from accAt_succ m c ⟨n, by omega⟩]
        refine ih.2.1.trans ?_
        rw [show 256 * ((n + 1) % 8) = 256 * (n % 8) + 256 by omega]
        unfold h0 h1
        rw [show (n + 1) / 64 = n / 64 by omega, show (n + 1) / 8 = n / 8 by omega]

end Step

/-! ## The three results -/

theorem scaled_real (f : ℕ → ℕ → ℝ) : scaled (F := Ideal) (C2 f) = C2 fun a b => f a b * (1 / 8) := by
  funext i
  idx_vars i
  pointwise [scaled]
  rw [eighth, C2_ix, C2_ix, ← EReal.coe_mul]

theorem dq_row (H : Head) (i b l : ℕ) (hi : i < 8) (hb : b < 256) : (∑ s ∈ range (256 * i + 256), H.dz (256 * i + b) s * H.k s l) * (1 / 8) = H.dq (256 * i + b) l := by
  unfold Head.dq
  refine congrArg (· * (1 / 8 : ℝ)) (sum_subset (fun x hx => mem_range.2 (by have := mem_range.1 hx; omega)) fun x _ hx => ?_)
  rw [H.dz_of_le (by rw [mem_range] at hx; omega), zero_mul]

/-- The arrays of the results, from the heads. -/
def dqArr : FVec Ideal S8192x1024 .f32 := C2 fun r j => (hd X D (r / 2048) (j / 64)).dq (r % 2048) (j % 64)
def dkArr : FVec Ideal S8192x1024 .f32 := C2 fun r j => (hd X D (r / 2048) (j / 64)).dk (r % 2048) (j % 64)
def dvArr : FVec Ideal S8192x1024 .f32 := C2 fun r j => (hd X D (r / 2048) (j / 64)).dv (r % 2048) (j % 64)

include h

theorem dqBlock_at (t : Fin cfg0.N) (y : S256x128.Idx) : dqBlock (ptAt m c t) y
    = (((hd X D (t.val / 64) (2 * (t.val / 8 % 8) + (y 1).val / 64)).dq (256 * (t.val % 8) + (y 0).val) ((y 1).val % 64) : ℝ) : EReal) := by
  have hp := point_at m c X D h t.val t.isLt
  have y0 : (y 0).val < 256 := (y 0).isLt
  have y1 : (y 1).val < 128 := (y 1).isLt
  unfold dqBlock
  split_ifs with hy
  · rw [hp.2.2.1]
    unfold dqB
    rw [scaled_real]
    unfold C2
    dsimp only
    refine congrArg (fun r : ℝ => (r : EReal)) ((dq_row (h0 X D t.val) (t.val % 8) (y 0).val (y 1).val (by omega) y0).trans ?_)
    unfold h0
    rw [show 2 * (t.val / 8 % 8) + (y 1).val / 64 = 2 * (t.val / 8 % 8) by omega, Nat.mod_eq_of_lt hy]
  · rw [hp.2.2.2]
    unfold dqB
    rw [scaled_real]
    unfold C2
    dsimp only
    refine congrArg (fun r : ℝ => (r : EReal)) ((dq_row (h1 X D t.val) (t.val % 8) (y 0).val ((y 1).val - 64) (by omega) y0).trans ?_)
    unfold h1
    rw [show 2 * (t.val / 8 % 8) + (y 1).val / 64 = 2 * (t.val / 8 % 8) + 1 by omega, show (y 1).val % 64 = (y 1).val - 64 by omega]

theorem dk_at (t : Fin cfg0.N) (ht : t.val % 8 = 7) (y : S2048x128.Idx) : (ptAt m c t).dk y
    = (((hd X D (t.val / 64) (2 * (t.val / 8 % 8) + (y 1).val / 64)).dk (y 0).val ((y 1).val % 64) : ℝ) : EReal) := by
  have y1 : (y 1).val < 128 := (y 1).isLt
  rw [(point_at m c X D h t.val t.isLt).1, ht]
  unfold C2 cat h0 h1
  dsimp only
  refine congrArg _ ?_
  split_ifs with hy
  · rw [show 2 * (t.val / 8 % 8) + (y 1).val / 64 = 2 * (t.val / 8 % 8) by omega, Nat.mod_eq_of_lt hy]
    rfl
  · rw [show 2 * (t.val / 8 % 8) + (y 1).val / 64 = 2 * (t.val / 8 % 8) + 1 by omega, show (y 1).val % 64 = (y 1).val - 64 by omega]
    rfl

theorem dv_at (t : Fin cfg0.N) (ht : t.val % 8 = 7) (y : S2048x128.Idx) : (ptAt m c t).dv y
    = (((hd X D (t.val / 64) (2 * (t.val / 8 % 8) + (y 1).val / 64)).dv (y 0).val ((y 1).val % 64) : ℝ) : EReal) := by
  have y1 : (y 1).val < 128 := (y 1).isLt
  rw [(point_at m c X D h t.val t.isLt).2.1, ht]
  unfold C2 cat h0 h1
  dsimp only
  refine congrArg _ ?_
  split_ifs with hy
  · rw [show 2 * (t.val / 8 % 8) + (y 1).val / 64 = 2 * (t.val / 8 % 8) by omega, Nat.mod_eq_of_lt hy]
    rfl
  · rw [show 2 * (t.val / 8 % 8) + (y 1).val / 64 = 2 * (t.val / 8 % 8) + 1 by omega, show (y 1).val % 64 = (y 1).val - 64 by omega]
    rfl

theorem final5 : (dats m 0 c).arrAt 5 cfg0.N = dqArr X D := by
  refine (dats m 0 c).arrAt_eq_of_covers 5 (dqArr X D) (by decide +kernel) fun t hf y => ?_
  have ht : t.val < 256 := t.isLt
  have y0 : (y 0).val < 256 := (y 0).isLt
  have y1 : (y 1).val < 128 := (y 1).isLt
  blk_simp
  rw [after0_5]
  refine (dqBlock_at m c X D h t y).trans ?_
  unfold dqArr C2
  blk_simp [idx t]
  refine congrArg _ ?_
  have e0 : ((8 * (t.val / 64) + t.val % 8) * 256 + (y 0).val) / 2048 = t.val / 64 := by omega
  have e1 : ((8 * (t.val / 64) + t.val % 8) * 256 + (y 0).val) % 2048 = 256 * (t.val % 8) + (y 0).val := by omega
  have e2 : (t.val / 8 % 8 * 128 + (y 1).val) / 64 = 2 * (t.val / 8 % 8) + (y 1).val / 64 := by omega
  have e3 : (t.val / 8 % 8 * 128 + (y 1).val) % 64 = (y 1).val % 64 := by omega
  rw [e0, e1, e2, e3]

theorem final6 : (dats m 0 c).arrAt 6 cfg0.N = dkArr X D := by
  refine (dats m 0 c).arrAt_eq_of_covers 6 (dkArr X D) (by decide +kernel) fun t hf y => ?_
  have ht : t.val < 256 := t.isLt
  have y0 : (y 0).val < 2048 := (y 0).isLt
  have y1 : (y 1).val < 128 := (y 1).isLt
  blk_simp
  rw [after0_6]
  refine (dk_at m c X D h t ((flush0_6 t).mp hf) y).trans ?_
  unfold dkArr C2
  blk_simp [idx t]
  refine congrArg _ ?_
  have e0 : (t.val / 64 * 2048 + (y 0).val) / 2048 = t.val / 64 := by omega
  have e1 : (t.val / 64 * 2048 + (y 0).val) % 2048 = (y 0).val := by omega
  have e2 : (t.val / 8 % 8 * 128 + (y 1).val) / 64 = 2 * (t.val / 8 % 8) + (y 1).val / 64 := by omega
  have e3 : (t.val / 8 % 8 * 128 + (y 1).val) % 64 = (y 1).val % 64 := by omega
  rw [e0, e1, e2, e3]

theorem final7 : (dats m 0 c).arrAt 7 cfg0.N = dvArr X D := by
  refine (dats m 0 c).arrAt_eq_of_covers 7 (dvArr X D) (by decide +kernel) fun t hf y => ?_
  have ht : t.val < 256 := t.isLt
  have y0 : (y 0).val < 2048 := (y 0).isLt
  have y1 : (y 1).val < 128 := (y 1).isLt
  blk_simp
  rw [after0_7]
  refine (dv_at m c X D h t ((flush0_7 t).mp hf) y).trans ?_
  unfold dvArr C2
  blk_simp [idx t]
  refine congrArg _ ?_
  have e0 : (t.val / 64 * 2048 + (y 0).val) / 2048 = t.val / 64 := by omega
  have e1 : (t.val / 64 * 2048 + (y 0).val) % 2048 = (y 0).val := by omega
  have e2 : (t.val / 8 % 8 * 128 + (y 1).val) / 64 = 2 * (t.val / 8 % 8) + (y 1).val / 64 := by omega
  have e3 : (t.val / 8 % 8 * 128 + (y 1).val) % 64 = (y 1).val % 64 := by omega
  rw [e0, e1, e2, e3]

end Cert.Proof.Attn
end
-- ==== Proof.RefVal.lean ====
/-
  The reference over the reals: each of its arrays, entry by entry, is a quantity of the head that the entry belongs to.
-/
module

public import proofs.«01_k».proof.Proof.RefOps
public import proofs.«01_k».proof.Proof.ArrayVal
public import proofs.«01_k».proof.Proof.Gen.ReferenceIdeal.Read

@[expose] public section

set_option maxRecDepth 16384
noncomputable section

namespace Cert.Proof.Attn

open Cert.ReferenceIdeal Cert.ReferenceIdeal.Gen Cert.ReferenceIdeal.Read
open Idealize.ShloMosaic
open Finset

/-- The host's softplus with its guards, which a real number passes. -/
theorem softplus_sel (x : ℝ) : (Scalar.select (FloatOps.cmpf .une (FloatOps.subf ((x : EReal) : Ideal .f32) (((0 : ℝ) : EReal) : Ideal .f32) : Ideal .f32) (FloatOps.subf ((x : EReal) : Ideal .f32) (((0 : ℝ) : EReal) : Ideal .f32) : Ideal .f32))
    (FloatOps.addf ((x : EReal) : Ideal .f32) (((0 : ℝ) : EReal) : Ideal .f32))
    (FloatOps.addf (FloatOps.maximumf ((x : EReal) : Ideal .f32) (((0 : ℝ) : EReal) : Ideal .f32))
      (FloatOps.hostUnary .log1p (FloatOps.hostUnary .exp (FloatOps.hostNegf (FloatOps.hostAbsf (FloatOps.subf ((x : EReal) : Ideal .f32) (((0 : ℝ) : EReal) : Ideal .f32) : Ideal .f32)))))) : Ideal .f32) = ((-ls (-x) : ℝ) : EReal) := by
  rw [une_self, sub_coe, softplus_coe]
  rfl

/-- The slope that goes with it. -/
theorem slope_sel (x y : ℝ) : (FloatOps.hostUnary .exp (FloatOps.subf
      (Scalar.select (FloatOps.cmpf .oeq ((x : EReal) : Ideal .f32) (FloatOps.ofBits .f32 0x7F800000#32 : Ideal .f32)) (((0 : ℝ) : EReal) : Ideal .f32) ((x : EReal) : Ideal .f32))
      (Scalar.select (FloatOps.cmpf .oeq ((y : EReal) : Ideal .f32) (FloatOps.ofBits .f32 0x7F800000#32 : Ideal .f32)) (((0 : ℝ) : EReal) : Ideal .f32) ((y : EReal) : Ideal .f32))) : Ideal .f32)
    = ((Real.exp (x - y) : ℝ) : EReal) := by
  rw [inf_bits, oeq_top, oeq_top]
  exact (congrArg _ (sub_coe x y)).trans (exp_coe _)

theorem select_coe (p : Prop) [Decidable p] (x y : ℝ) : (Scalar.select (BitVec.ofBool (decide p)) ((x : EReal) : Ideal .f32) ((y : EReal) : Ideal .f32) : Ideal .f32) = ((if p then x else y : ℝ) : EReal) := by
  rw [Scalar.select_decide]
  exact coe_ite p x y

variable (x0 : (⟨S8192x3072, .bf16⟩ : BufTy).Contents (Elt Ideal)) (x1 : (⟨S8192x1024, .bf16⟩ : BufTy).Contents (Elt Ideal)) (X D : ℕ → ℕ → ℝ)

section Queries

variable (h0 : ∀ i : S8192x3072.Idx, x0 i = ((X (i 0).val (i 1).val : ℝ) : EReal))
include h0

theorem v5_at (i : S4x16x2048x64.Idx) : val_main_v5 (F := Ideal) x0 i = (((hd X D (i 0).val (i 1).val).q (i 2).val (i 3).val : ℝ) : EReal) := by
  have a1 : (i 1).val < 16 := (i 1).isLt
  have a2 : (i 2).val < 2048 := (i 2).isLt
  have a3 : (i 3).val < 64 := (i 3).isLt
  rw [val_main_v5_apply, val_main_v4_apply, val_main_v1_apply, val_main_v0_apply]
  refine (h0 _).trans (congrArg (fun r : ℝ => (r : EReal)) ?_)
  show X (((((i 0).val * 2048 + (i 2).val) * 16 + (i 1).val) * 64 + (i 3).val) / 1024) (((((i 0).val * 2048 + (i 2).val) * 16 + (i 1).val) * 64 + (i 3).val) % 1024)
    = X (2048 * (i 0).val + (i 2).val) (64 * (i 1).val + (i 3).val)
  congr 1 <;> omega

theorem v7_at (i : S4x16x2048x64.Idx) : val_main_v7 (F := Ideal) x0 i = (((hd X D (i 0).val (i 1).val).k (i 2).val (i 3).val : ℝ) : EReal) := by
  have a1 : (i 1).val < 16 := (i 1).isLt
  have a2 : (i 2).val < 2048 := (i 2).isLt
  have a3 : (i 3).val < 64 := (i 3).isLt
  rw [val_main_v7_apply, val_main_v6_apply, val_main_v2_apply, val_main_v0_apply]
  refine (h0 _).trans (congrArg (fun r : ℝ => (r : EReal)) ?_)
  show X (((((i 0).val * 2048 + (i 2).val) * 16 + (i 1).val) * 64 + (i 3).val) / 1024) (1024 + ((((i 0).val * 2048 + (i 2).val) * 16 + (i 1).val) * 64 + (i 3).val) % 1024)
    = X (2048 * (i 0).val + (i 2).val) (1024 + 64 * (i 1).val + (i 3).val)
  congr 1 <;> omega

theorem v9_at (i : S4x16x2048x64.Idx) : val_main_v9 (F := Ideal) x0 i = (((hd X D (i 0).val (i 1).val).v (i 2).val (i 3).val : ℝ) : EReal) := by
  have a1 : (i 1).val < 16 := (i 1).isLt
  have a2 : (i 2).val < 2048 := (i 2).isLt
  have a3 : (i 3).val < 64 := (i 3).isLt
  rw [val_main_v9_apply, val_main_v8_apply, val_main_v3_apply, val_main_v0_apply]
  refine (h0 _).trans (congrArg (fun r : ℝ => (r : EReal)) ?_)
  show X (((((i 0).val * 2048 + (i 2).val) * 16 + (i 1).val) * 64 + (i 3).val) / 1024) (2048 + ((((i 0).val * 2048 + (i 2).val) * 16 + (i 1).val) * 64 + (i 3).val) % 1024)
    = X (2048 * (i 0).val + (i 2).val) (2048 + 64 * (i 1).val + (i 3).val)
  congr 1 <;> omega

/-- The scores. -/
theorem v12_at (i : S4x16x2048x2048.Idx) : val_main_v12 (F := Ideal) x0 i = (((hd X D (i 0).val (i 1).val).z (i 2).val (i 3).val : ℝ) : EReal) := by
  rw [val_main_v12_apply, val_main_v10_apply, val_main_v11_apply, val_main_cst_apply]
  simp only [v5_at x0 X D h0, v7_at x0 X D h0]
  rw [show (FloatOps.ofBits .f32 0x3E000000#32 : Ideal .f32) = ((1 / 8 : ℝ) : EReal) from eighth]
  refine Eq.trans (b := FloatOps.mulf (F := Ideal) (φ := .f32) ((∑ l ∈ range 64, (hd X D (i 0).val (i 1).val).q (i 2).val l * (hd X D (i 0).val (i 1).val).k (i 3).val l : ℝ) : EReal) ((1 / 8 : ℝ) : EReal))
    (congrArg (fun e : Ideal .f32 => FloatOps.mulf e (((1 / 8 : ℝ) : EReal) : Ideal .f32)) (sum_coe_mul 64 _ _)) ((mul_coe _ _).trans (congrArg (fun r : ℝ => (r : EReal)) ?_))
  unfold Head.z Head.qs
  rw [Finset.sum_mul]
  exact Finset.sum_congr rfl fun l _ => by ring

omit h0 in
/-- The mask. -/
theorem v19_at (i : S2048x2048.Idx) : val_main_v19 (F := Ideal) i = BitVec.ofBool (decide ((i 1).val < (i 0).val)) := by
  have a0 : (i 0).val < 2048 := (i 0).isLt
  have a1 : (i 1).val < 2048 := (i 1).isLt
  rw [val_main_v19_apply, val_main_v17_apply, val_main_v14_apply, val_main_v13_apply, val_main_v18_apply, val_main_v16_apply, val_main_v15_apply]
  show IntOp.cmpi .slt (BitVec.ofNat 32 (i 1).val) (BitVec.ofNat 32 (i 0).val) = _
  exact WordCmp.cmpi_slt_ofNat (by omega) (by omega)

omit h0 in
theorem v22_1_at (i : S4x16x2048x2048.Idx) : val_main_v22_1 (F := Ideal) i = BitVec.ofBool (decide ((i 3).val < (i 2).val)) := by
  rw [val_main_v22_1_apply, v19_at]

omit h0 in
theorem v28_1_at (i : S4x16x2048x2048.Idx) : val_main_v28_1 (F := Ideal) i = BitVec.ofBool (decide ((i 3).val < (i 2).val)) := by
  rw [val_main_v28_1_apply, v19_at]

theorem call0_v0_at (i : S4x16x2048x2048.Idx) : val_main_call0_v0 (F := Ideal) x0 i = (((hd X D (i 0).val (i 1).val).z (i 2).val (i 3).val : ℝ) : EReal) := by
  rw [val_main_call0_v0_apply, val_main_v20_apply, v12_at x0 X D h0, neg_coe, neg_coe, neg_neg]

theorem call0_soft_at (i : S4x16x2048x2048.Idx) : val_main_call0_v1_0 (F := Ideal) x0 i = ((-ls (-(hd X D (i 0).val (i 1).val).z (i 2).val (i 3).val) : ℝ) : EReal) := by
  rw [val_main_call0_v1_0_apply, val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v0_apply, val_main_call0_call0_v2_apply, val_main_call0_call0_v5_apply, val_main_call0_call0_cst_apply, zero_bits,
    call0_v0_at x0 X D h0]
  exact softplus_sel _

theorem v21_1_at (i : S4x16x2048x2048.Idx) : val_main_v21_1 (F := Ideal) x0 i = ((Real.exp (ls ((hd X D (i 0).val (i 1).val).z (i 2).val (i 3).val)) : ℝ) : EReal) := by
  rw [val_main_v21_1_apply, val_main_call0_call0_v21_apply, val_main_call0_call0_v16_apply, val_main_call0_call0_v14_apply, val_main_call0_call0_v20_apply, val_main_call0_call0_v18_apply,
    val_main_call0_call0_v13_apply, val_main_call0_call0_cst_0_apply, val_main_call0_call0_v15_apply, val_main_call0_call0_cst_1_apply, val_main_call0_call0_v17_apply, val_main_call0_call0_cst_2_apply,
    val_main_call0_call0_v19_apply, val_main_call0_call0_cst_3_apply, zero_bits, call0_soft_at x0 X D h0, call0_v0_at x0 X D h0]
  refine (slope_sel _ _).trans (congrArg (fun r : ℝ => (r : EReal)) (congrArg Real.exp ?_))
  rw [ls_neg]; ring

theorem call3_v0_at (i : S4x16x2048x2048.Idx) : val_main_call3_v0 (F := Ideal) x0 i = ((-(hd X D (i 0).val (i 1).val).z (i 2).val (i 3).val : ℝ) : EReal) := by
  rw [val_main_call3_v0_apply, v12_at x0 X D h0, neg_coe]

theorem call3_soft_at (i : S4x16x2048x2048.Idx) : val_main_call3_v1_0 (F := Ideal) x0 i = ((-ls ((hd X D (i 0).val (i 1).val).z (i 2).val (i 3).val) : ℝ) : EReal) := by
  rw [val_main_call3_v1_0_apply, val_main_call3_call0_v4_apply, val_main_call3_call0_v6_apply, val_main_call3_call0_v11_apply, val_main_call3_call0_v1_apply,
    val_main_call3_call0_v10_apply, val_main_call3_call0_v9_apply, val_main_call3_call0_v8_apply, val_main_call3_call0_v7_apply, val_main_call3_call0_v3_apply,
    val_main_call3_call0_v0_apply, val_main_call3_call0_v2_apply, val_main_call3_call0_v5_apply, val_main_call3_call0_cst_apply, zero_bits,
    call3_v0_at x0 X D h0]
  exact (softplus_sel _).trans (by rw [neg_neg])

theorem v25_1_at (i : S4x16x2048x2048.Idx) : val_main_v25_1 (F := Ideal) x0 i = ((Real.exp (ls (-(hd X D (i 0).val (i 1).val).z (i 2).val (i 3).val)) : ℝ) : EReal) := by
  rw [val_main_v25_1_apply, val_main_call3_call0_v21_apply, val_main_call3_call0_v16_apply, val_main_call3_call0_v14_apply, val_main_call3_call0_v20_apply, val_main_call3_call0_v18_apply,
    val_main_call3_call0_v13_apply, val_main_call3_call0_cst_0_apply, val_main_call3_call0_v15_apply, val_main_call3_call0_cst_1_apply, val_main_call3_call0_v17_apply, val_main_call3_call0_cst_2_apply,
    val_main_call3_call0_v19_apply, val_main_call3_call0_cst_3_apply, zero_bits, call3_soft_at x0 X D h0, call3_v0_at x0 X D h0]
  refine (slope_sel _ _).trans (congrArg (fun r : ℝ => (r : EReal)) (congrArg Real.exp ?_))
  rw [ls_neg]; ring

/-- What each key leaves over. -/
theorem v22_0_at (i : S4x16x2048x2048.Idx) : val_main_v22_0 (F := Ideal) x0 i = (((hd X D (i 0).val (i 1).val).lk (i 2).val (i 3).val : ℝ) : EReal) := by
  rw [val_main_v22_0_apply, v22_1_at, val_main_v21_0_apply, call0_soft_at x0 X D h0, neg_coe, val_main_call1_v2_apply, val_main_call1_v0_apply, val_main_cst_0_apply, zero_bits, select_coe, neg_neg, ls_neg]
  rfl

/-- What the keys after a key leave over. -/
theorem v24_at (i : S4x16x2048x2048.Idx) : val_main_v24 (F := Ideal) x0 i
    = (((hd X D (i 0).val (i 1).val).tot (i 2).val - ∑ s ∈ range ((i 3).val + 1), (hd X D (i 0).val (i 1).val).lk (i 2).val s : ℝ) : EReal) := by
  have a3 : (i 3).val < 2048 := (i 3).isLt
  have e : val_main_v23 (F := Ideal) x0 i = ((∑ k ∈ range (2048 - (i 3).val), (hd X D (i 0).val (i 1).val).lk (i 2).val ((i 3).val + k) : ℝ) : EReal) := by
    refine Eq.trans ?_ (sum_from (val_main_v22_0 (F := Ideal) x0) (fun b h T s => (hd X D b h).lk T s) (v22_0_at x0 X D h0) ![0, 0, 0, 2047] reduceWindows_S4x16x2048x2048_S4x16x2048x2048_w1s1p0_0_w1s1p0_0_w1s1p0_0_w2048s1p0_2047 i)
    unfold val_main_v23
    generalize val_main_v22_0 (F := Ideal) x0 = y
    refine host_window _ _ _ _ y _ _ _ i ?_
    rw [val_main_call2_v0_apply, val_main_call2_cst_apply]
    exact zero_bits
  rw [val_main_v24_apply, e, v22_0_at x0 X D h0, sub_coe, Head.rest_eq _ _ _ a3]

theorem v27_at (i : S4x16x2048x2048.Idx) : val_main_v27 (F := Ideal) x0 i
    = ((Real.exp (ls ((hd X D (i 0).val (i 1).val).z (i 2).val (i 3).val) + ((hd X D (i 0).val (i 1).val).tot (i 2).val - ∑ s ∈ range ((i 3).val + 1), (hd X D (i 0).val (i 1).val).lk (i 2).val s)) : ℝ) : EReal) := by
  rw [val_main_v27_apply, val_main_v26_apply, val_main_v25_0_apply, call3_soft_at x0 X D h0, neg_coe, neg_neg, v24_at x0 X D h0, add_coe, exp_coe]

/-- The weights. -/
theorem v28_0_at (i : S4x16x2048x2048.Idx) : val_main_v28_0 (F := Ideal) x0 i = (((hd X D (i 0).val (i 1).val).w (i 2).val (i 3).val : ℝ) : EReal) := by
  rw [val_main_v28_0_apply, v28_1_at, v27_at x0 X D h0, val_main_call4_v2_apply, val_main_call4_v0_apply, val_main_cst_1_apply, zero_bits, select_coe]
  rfl

end Queries

section Gradient

variable (h1 : ∀ i : S8192x1024.Idx, x1 i = ((D (i 0).val (i 1).val : ℝ) : EReal))

include h1 in
theorem v34_at (i : S4x16x2048x64.Idx) : val_main_v34 (F := Ideal) x1 i = (((hd X D (i 0).val (i 1).val).d (i 2).val (i 3).val : ℝ) : EReal) := by
  have a1 : (i 1).val < 16 := (i 1).isLt
  have a2 : (i 2).val < 2048 := (i 2).isLt
  have a3 : (i 3).val < 64 := (i 3).isLt
  rw [val_main_v34_apply, val_main_v33_apply, val_main_v32_apply]
  refine (h1 _).trans (congrArg (fun r : ℝ => (r : EReal)) ?_)
  show D (((((i 0).val * 2048 + (i 2).val) * 16 + (i 1).val) * 64 + (i 3).val) / 1024) (((((i 0).val * 2048 + (i 2).val) * 16 + (i 1).val) * 64 + (i 3).val) % 1024)
    = D (2048 * (i 0).val + (i 2).val) (64 * (i 1).val + (i 3).val)
  congr 1 <;> omega

variable (h0 : ∀ i : S8192x3072.Idx, x0 i = ((X (i 0).val (i 1).val : ℝ) : EReal))
include h0 h1

theorem v37_at (i : S4x16x2048x2048.Idx) : val_main_v37 (F := Ideal) x0 x1 i = (((hd X D (i 0).val (i 1).val).dw (i 2).val (i 3).val : ℝ) : EReal) := by
  rw [val_main_v37_apply]
  simp only [v34_at x1 X D h1, v9_at x0 X D h0]
  refine (sum_coe_mul 64 (fun l => (hd X D (i 0).val (i 1).val).d (i 2).val l) (fun l => (hd X D (i 0).val (i 1).val).v (i 3).val l)).trans (congrArg (fun r : ℝ => (r : EReal)) ?_)
  exact Finset.sum_congr rfl fun l _ => mul_comm _ _

/-- The gradient of the logarithm of the weight. -/
theorem v39_at (i : S4x16x2048x2048.Idx) : val_main_v39 (F := Ideal) x0 x1 i = (((hd X D (i 0).val (i 1).val).g (i 2).val (i 3).val : ℝ) : EReal) := by
  rw [val_main_v39_apply, val_main_v38_apply, v28_1_at, v37_at x0 x1 X D h1 h0, v27_at x0 X D h0, val_main_call5_v0_apply, val_main_call5_cst_apply, zero_bits, select_coe, mul_coe]
  refine congrArg (fun r : ℝ => (r : EReal)) ?_
  unfold Head.g Head.w
  split_ifs
  · rfl
  · rw [zero_mul, mul_zero]

theorem v42_at (i : S4x16x2048x2048.Idx) : val_main_v42 (F := Ideal) x0 x1 i = ((∑ s ∈ range ((i 3).val + 1), (hd X D (i 0).val (i 1).val).g (i 2).val s : ℝ) : EReal) := by
  refine Eq.trans ?_ (sum_prefix (val_main_v39 (F := Ideal) x0 x1) (fun b h T s => (hd X D b h).g T s) (v39_at x0 x1 X D h1 h0) ![0, 0, 0, 0] reduceWindows_S4x16x2048x2048_S4x16x2048x2048_w1s1p0_0_w1s1p0_0_w1s1p0_0_w2048s1p2047_0 i)
  unfold val_main_v42
  generalize val_main_v39 (F := Ideal) x0 x1 = y
  refine host_window _ _ _ _ y _ _ _ i ?_
  rw [val_main_call7_v0_apply, val_main_call7_cst_apply]
  exact zero_bits

/-- The gradient of the scores, with the scale. -/
theorem v49_at (i : S4x16x2048x2048.Idx) : val_main_v49 (F := Ideal) x0 x1 i = (((hd X D (i 0).val (i 1).val).dz (i 2).val (i 3).val * (1 / 8) : ℝ) : EReal) := by
  rw [val_main_v49_apply, val_main_v47_apply, val_main_v40_apply, val_main_call6_v1_apply, val_main_call6_v0_apply, val_main_v46_apply, val_main_v45_apply, val_main_call9_v1_apply, val_main_call9_v0_apply,
    val_main_v44_apply, v22_1_at, val_main_v43_apply, val_main_v41_apply, v42_at x0 x1 X D h1 h0, v39_at x0 x1 X D h1 h0, v25_1_at x0 X D h0, v21_1_at x0 X D h0,
    val_main_call8_v0_apply, val_main_call8_cst_apply, zero_bits, val_main_v48_apply, val_main_cst_2_apply,
    show (FloatOps.ofBits .f32 0x3E000000#32 : Ideal .f32) = ((1 / 8 : ℝ) : EReal) from eighth]
  simp only [neg_coe, add_coe, select_coe, mul_coe]
  refine congrArg (fun r : ℝ => (r : EReal)) ?_
  rw [← Head.dz_eq, sum_range_succ, show ∀ a b : ℝ, -a + (b + a) = b from fun a b => by ring]
  ring

/-- The gradient of the keys. -/
theorem v50_at (i : S4x16x2048x64.Idx) : val_main_v50 (F := Ideal) x0 x1 i = (((hd X D (i 0).val (i 1).val).dk (i 2).val (i 3).val : ℝ) : EReal) := by
  rw [val_main_v50_apply]
  simp only [v49_at x0 x1 X D h1 h0, v5_at x0 X D h0]
  refine (sum_coe_mul 2048 (fun T => (hd X D (i 0).val (i 1).val).dz T (i 2).val * (1 / 8)) (fun T => (hd X D (i 0).val (i 1).val).q T (i 3).val)).trans (congrArg (fun r : ℝ => (r : EReal)) ?_)
  unfold Head.dk Head.qs
  exact Finset.sum_congr rfl fun T _ => by ring

/-- The gradient of the queries. -/
theorem v51_at (i : S4x16x2048x64.Idx) : val_main_v51 (F := Ideal) x0 x1 i = (((hd X D (i 0).val (i 1).val).dq (i 2).val (i 3).val : ℝ) : EReal) := by
  rw [val_main_v51_apply]
  simp only [v49_at x0 x1 X D h1 h0, v7_at x0 X D h0]
  refine (sum_coe_mul 2048 (fun s => (hd X D (i 0).val (i 1).val).dz (i 2).val s * (1 / 8)) (fun s => (hd X D (i 0).val (i 1).val).k s (i 3).val)).trans (congrArg (fun r : ℝ => (r : EReal)) ?_)
  unfold Head.dq
  rw [Finset.sum_mul]
  exact Finset.sum_congr rfl fun s _ => by ring

/-- The gradient of the values. -/
theorem v36_at (i : S4x16x2048x64.Idx) : val_main_v36 (F := Ideal) x0 x1 i = (((hd X D (i 0).val (i 1).val).dv (i 2).val (i 3).val : ℝ) : EReal) := by
  rw [val_main_v36_apply, val_main_v35_apply]
  simp only [v34_at x1 X D h1, v28_0_at x0 X D h0]
  refine (sum_coe_mul 2048 (fun T => (hd X D (i 0).val (i 1).val).d T (i 3).val) (fun T => (hd X D (i 0).val (i 1).val).w T (i 2).val)).trans (congrArg (fun r : ℝ => (r : EReal)) ?_)
  exact Finset.sum_congr rfl fun T _ => mul_comm _ _

omit h0 h1 in
theorem out_index (f : ℕ → ℕ → ℕ → ℕ → ℝ) (r j : ℕ) (hr : r < 8192) (hj : j < 1024) :
    f ((r * 1024 + j) / 2097152) ((r * 1024 + j) / 64 % 16) ((r * 1024 + j) / 1024 % 2048) ((r * 1024 + j) % 64) = f (r / 2048) (j / 64) (r % 2048) (j % 64) := by
  congr 1 <;> omega

theorem ref_dq : val_main_v57 (F := Ideal) x0 x1 = dqArr X D := by
  funext i
  rw [val_main_v57_apply, val_main_v56_apply, v51_at x0 x1 X D h1 h0]
  exact congrArg (fun r : ℝ => (r : EReal)) (out_index (fun b h T l => (hd X D b h).dq T l) (i 0).val (i 1).val (i 0).isLt (i 1).isLt)

theorem ref_dk : val_main_v55 (F := Ideal) x0 x1 = dkArr X D := by
  funext i
  rw [val_main_v55_apply, val_main_v54_apply, v50_at x0 x1 X D h1 h0]
  exact congrArg (fun r : ℝ => (r : EReal)) (out_index (fun b h T l => (hd X D b h).dk T l) (i 0).val (i 1).val (i 0).isLt (i 1).isLt)

theorem ref_dv : val_main_v53 (F := Ideal) x0 x1 = dvArr X D := by
  funext i
  rw [val_main_v53_apply, val_main_v52_apply, v36_at x0 x1 X D h1 h0]
  exact congrArg (fun r : ℝ => (r : EReal)) (out_index (fun b h T l => (hd X D b h).dv T l) (i 0).val (i 1).val (i 0).isLt (i 1).isLt)

end Gradient

end Cert.Proof.Attn
end
-- ==== Proof.TotVal.lean ====
/-
  The sums of what the keys of a row leave over, which the kernel takes from the forward pass: the array of them, entry by entry.
-/
module

public import proofs.«01_k».proof.Proof.RefVal
public import Idealize.ShloMosaic.Lib.Claim

@[expose] public section

set_option maxRecDepth 16384
noncomputable section

namespace Cert.Proof.Attn

open Cert.KernelIdeal Cert.KernelIdeal.Gen
open Idealize.ShloMosaic Idealize.ShloMosaic.TcCoe Idealize.SL.Sem
open Finset

variable (m : (ℓ : Loc nD τ sig) → Buf (Elt Ideal) ℓ) (c : Dev nD) (X D : ℕ → ℕ → ℝ)

/-- The totals are sums of the reference's own array of what the keys leave over. -/
def totals (lk : FVec Ideal S4x16x2048x2048 .f32) : FVec Ideal S4x8x8x16x256 .f32 :=
  shapeCast S4x8x8x16x256
    (broadcastInDim S4x8x8x2x8x256 ![0, 1, 2, 3, 4, 5] bcast_S4x8x8x2x1x256_S4x8x8x2x8x256_0_1_2_3_4_5
      (broadcastInDim S4x8x8x2x1x256 ![0, 1, 2, 3, 5] bcast_S4x8x8x2x256_S4x8x8x2x1x256_0_1_2_3_5
        (transpose S4x8x8x2x256 [0, 1, 3, 2, 4]
          (shapeCast S4x8x2x8x256 (Host.reduceAdd lk (constant (F := Ideal) S_ .f32 0x00000000#32) reducesTo_S4x16x2048x2048_S4x16x2048_d3 h_S_) shapeCasts_S4x16x2048_S4x8x2x8x256)
          transposes_S4x8x2x8x256_S4x8x8x2x256_0_1_3_2_4)))
    shapeCasts_S4x8x8x2x8x256_S4x8x8x16x256

theorem tot_read : V m c main_v26 = totals (ReferenceIdeal.Read.val_main_v22_0 (F := Ideal) (m ((c : Thread nD τ).loc main_arg0))) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem totals_at (lk : FVec Ideal S4x16x2048x2048 .f32) (b : Fin 4) (p i : Fin 8) (a : Fin 16) (y : Fin 256) (h : Fin 16) (T : Fin 2048) (hh : h.val = 2 * p.val + a.val / 8) (hT : T.val = 256 * i.val + y.val) :
    totals lk (ix5 b p i a y) = ∑ s : Fin 2048, lk (ix4 b h T s) := by
  pointwise [totals]
  refine Finset.sum_congr rfl fun s _ => congrArg lk ?_
  congr 1 <;> exact Fin.ext (by simp only; omega)

/-- Where the arguments hold real numbers, the array of totals holds the heads' totals. -/
theorem holds (h0 : (m ((c : Thread nD τ).loc main_arg0) : FVec Ideal S8192x3072 .bf16) = C2 (φ := .bf16) X)
    (h1 : (m ((c : Thread nD τ).loc main_arg1) : FVec Ideal S8192x1024 .bf16) = C2 (φ := .bf16) D) : Holds m c X D where
  qkv := h0
  ct := h1
  tot b p i a y := by
    have hp := p.isLt
    have hi := i.isLt
    have ha := a.isLt
    have hy := y.isLt
    rw [tot_read, totals_at _ b p i a y ⟨2 * p.val + a.val / 8, by omega⟩ ⟨256 * i.val + y.val, by omega⟩ rfl rfl]
    simp only [v22_0_at _ X D (fun i => congrFun h0 i)]
    exact sum_coe 2048 fun s => (hd X D b.val (2 * p.val + a.val / 8)).lk (256 * i.val + y.val) s

end Cert.Proof.Attn
end
-- ==== Proof.Finite.lean ====
/-
  The precondition: every element of the arguments is a finite number, so each argument is an array of real numbers.
-/
module

public import proofs.«01_k».proof.Proof.Vals
public import proofs.«01_k».proof.Proof.Gen.Pre_finite
public import Idealize.ShloMosaic.Lib.ReduceAll
public import Idealize.ShloMosaic.PureOps.Ideal.Laws

@[expose] public section

set_option maxRecDepth 16384
noncomputable section

namespace Cert.Proof.Attn

open Idealize.ShloMosaic Idealize.ShloMosaic.TcCoe

theorem inf_bf16 : Ideal.ofBits .bf16 0x7F80#16 = ⊤ := by
  simp [Ideal.ofBits, Ideal.ieee]

/-- A number below infinity in absolute value is real. -/
theorem real_of_olt (x : EReal) (h : Ideal.cmp .olt (max x (-x)) (Ideal.ofBits .bf16 0x7F80#16) = 1#1) : ((x.toReal : ℝ) : EReal) = x := by
  rw [inf_bf16] at h
  refine EReal.coe_toReal ?_ ?_ <;> rintro rfl <;> simp [Ideal.cmp] at h

/-- The real numbers of an array, and zero outside it. -/
def reals {m n : ℕ} (x : FVec Ideal ⟨2, ![m, n]⟩ .bf16) (a b : ℕ) : ℝ := if h : a < m ∧ b < n then EReal.toReal (x (ix2 ⟨a, h.1⟩ ⟨b, h.2⟩)) else 0

theorem reals_eq {m n : ℕ} (x : FVec Ideal ⟨2, ![m, n]⟩ .bf16) (h : ∀ i, ((EReal.toReal (x i) : ℝ) : EReal) = x i) : x = C2 (φ := .bf16) (reals x) := by
  funext i
  have e : i = ix2 (i 0) (i 1) := by
    funext a
    match a with
    | ⟨0, _⟩ => rfl
    | ⟨1, _⟩ => rfl
  refine (h i).symm.trans (congrArg (fun r : ℝ => (r : EReal)) ?_)
  unfold reals
  rw [dif_pos ⟨(i 0).isLt, (i 1).isLt⟩]
  exact congrArg (fun j => EReal.toReal (x j)) e

theorem finite_args (x0 : FVec Ideal Pre_finite.S8192x3072 .bf16) (x1 : FVec Ideal Pre_finite.S8192x1024 .bf16) (h : Pre_finite.fn (F := Ideal) x0 x1 = fun _ => 1#1) :
    x0 = C2 (φ := .bf16) (reals x0) ∧ x1 = C2 (φ := .bf16) (reals x1) := by
  have h' := IntOp.andi_eq_one.1 (congrFun h (Shape.Idx.first Pre_finite.Facts.h_S_))
  haveI : Subsingleton Pre_finite.S_.Idx := ⟨fun _ _ => funext fun a => a.elim0⟩
  exact ⟨reals_eq x0 fun i => real_of_olt _ (Host.reduce_andi_all _ _ _ _ _ h'.1 i), reals_eq x1 fun i => real_of_olt _ (Host.reduce_andi_all _ _ _ _ _ h'.2 i)⟩

end Cert.Proof.Attn
end
-- ==== Proof.Ext.lean ====
/-
  Tables and lists of extended reals by their row and column numbers, and the norm of a row, its scale and the way back through
  it, over the extended reals.
-/
module

public import Idealize.ShloMosaic.Lib.Pointwise
public import Idealize.ShloMosaic.PureOps.Ideal.Laws

@[expose] public section

noncomputable section

namespace Cert.Proof.Ext

open Idealize.ShloMosaic
open Finset

/-- The table whose entry at row `a`, column `b` is `f a b`. -/
def E2 {m n : ℕ} {φ : FTy} (f : ℕ → ℕ → EReal) : FVec Ideal ⟨2, ![m, n]⟩ φ := fun y => f (y 0).val (y 1).val

theorem E2_ix {m n : ℕ} {φ : FTy} (f : ℕ → ℕ → EReal) (a : Fin m) (b : Fin n) : (E2 f : FVec Ideal ⟨2, ![m, n]⟩ φ) (ix2 a b) = f a.val b.val := rfl

theorem E2_congr {m n : ℕ} {φ : FTy} {f g : ℕ → ℕ → EReal} (h : ∀ a b, a < m → b < n → f a b = g a b) : (E2 f : FVec Ideal ⟨2, ![m, n]⟩ φ) = E2 g := by
  funext y
  exact h _ _ (y 0).isLt (y 1).isLt

/-- The entries of a table, and zero outside it. -/
def vals {m n : ℕ} {φ : FTy} (x : FVec Ideal ⟨2, ![m, n]⟩ φ) (a b : ℕ) : EReal := if h : a < m ∧ b < n then x (ix2 ⟨a, h.1⟩ ⟨b, h.2⟩) else 0

theorem vals_eq {m n : ℕ} {φ : FTy} (x : FVec Ideal ⟨2, ![m, n]⟩ φ) : x = E2 (vals x) := by
  funext i
  have e : i = ix2 (i 0) (i 1) := by
    funext a
    match a with
    | ⟨0, _⟩ => rfl
    | ⟨1, _⟩ => rfl
  unfold E2 vals
  rw [dif_pos ⟨(i 0).isLt, (i 1).isLt⟩]
  exact congrArg x e

/-- The list whose entry at place `a` is `f a`. -/
def E1 {n : ℕ} {φ : FTy} (f : ℕ → EReal) : FVec Ideal ⟨1, ![n]⟩ φ := fun y => f (y 0).val

/-- The entries of a list, and zero outside it. -/
def vals1 {n : ℕ} {φ : FTy} (x : FVec Ideal ⟨1, ![n]⟩ φ) (a : ℕ) : EReal := if h : a < n then x (fun _ => ⟨a, by simpa using h⟩ : (⟨1, ![n]⟩ : Shape).Idx) else 0

theorem vals1_eq {n : ℕ} {φ : FTy} (x : FVec Ideal ⟨1, ![n]⟩ φ) : x = E1 (vals1 x) := by
  funext i
  unfold E1 vals1
  rw [dif_pos (show (i 0).val < n from (i 0).isLt)]
  refine congrArg x ?_
  funext a
  match a with
  | ⟨0, _⟩ => rfl

theorem sum_fin (n : ℕ) (a : ℕ → EReal) : ∑ k : Fin n, a k.val = ∑ l ∈ range n, a l := (Finset.sum_range _).symm

theorem zero_bits : (FloatOps.ofBits .f32 0x00000000#32 : Ideal .f32) = (0 : EReal) := Ideal.ofBits_zero_f32

/-- The small number under the root. -/
def eps : ℝ := 8796093 / 8796093022208

theorem eps_pos : 0 < eps := by unfold eps; norm_num

theorem eps_bits : Ideal.ofBits .f32 0x358637BD#32 = ((eps : ℝ) : EReal) := by
  unfold eps
  simp [Ideal.ofBits, Ideal.ieee, -EReal.coe_mul]; norm_num

theorem width_bits : Ideal.ofBits .f32 0x44800000#32 = ((1024 : ℝ) : EReal) := by
  simp [Ideal.ofBits, Ideal.ieee, -EReal.coe_mul]; norm_num

theorem half_bits : Ideal.ofBits .f32 0xBF000000#32 = ((-(1 / 2) : ℝ) : EReal) := by
  simp [Ideal.ofBits, Ideal.ieee, -EReal.coe_mul]; norm_num

/-- The mean of the squares of row `i`, and the small number. -/
def ms (x : ℕ → ℕ → EReal) (i : ℕ) : EReal := Ideal.div (∑ l ∈ range 1024, x i l * x i l) (Ideal.ofBits .f32 0x44800000#32) + Ideal.ofBits .f32 0x358637BD#32

/-- The scale of row `i`. -/
def scale (x : ℕ → ℕ → EReal) (i : ℕ) : EReal := Ideal.rsqrt (ms x i)

/-- The gradient `d` of the norm's output, scaled by `g`, on the way back to the norm's input. -/
def through (x : ℕ → ℕ → EReal) (g : ℕ → EReal) (d : ℕ → ℕ → EReal) (i j : ℕ) : EReal :=
  scale x i * (d i j * g j - x i j * scale x i * Ideal.div (∑ l ∈ range 1024, d i l * g l * (x i l * scale x i)) (Ideal.ofBits .f32 0x44800000#32))

/-- The part of the gradient that goes through the row's scale, halved, as the chain rule has it. -/
def half (x : ℕ → ℕ → EReal) (g : ℕ → EReal) (d : ℕ → ℕ → EReal) (i : ℕ) : EReal :=
  Ideal.div ((∑ k ∈ range 1024, x i k * (d i k * g k)) * (Ideal.ofBits .f32 0xBF000000#32 * Ideal.div (scale x i) (ms x i))) (Ideal.ofBits .f32 0x44800000#32)

theorem div_width (s : EReal) : Ideal.div s (Ideal.ofBits .f32 0x44800000#32) = s * ((1 / 1024 : ℝ) : EReal) := by
  rw [width_bits, Ideal.div_coe (by norm_num)]

/-- A sum of extended reals, each times the same positive number. -/
theorem sum_mul_pos {r : ℝ} (h : 0 < r) (s : Finset ℕ) (f : ℕ → EReal) : ∑ k ∈ s, f k * (r : EReal) = (∑ k ∈ s, f k) * (r : EReal) := by
  classical
  induction s using Finset.induction_on with
  | empty => simp
  | insert a s ha ih =>
    rw [Finset.sum_insert ha, Finset.sum_insert ha, ih, EReal.right_distrib_of_nonneg_of_ne_top (EReal.coe_nonneg.2 h.le) (EReal.coe_ne_top r)]

/-- A square is not negative. -/
theorem square_nonneg (x : EReal) : 0 ≤ x * x := by
  induction x with
  | bot => simp
  | coe r => rw [← EReal.coe_mul]; exact EReal.coe_nonneg.2 (mul_self_nonneg r)
  | top => simp

/-- The mean of squares and the small number: a positive number, or infinity. -/
theorem ms_cases (x : ℕ → ℕ → EReal) (i : ℕ) : ms x i = ⊤ ∨ ∃ q : ℝ, 0 < q ∧ ms x i = (q : EReal) := by
  have h : 0 ≤ ∑ l ∈ range 1024, x i l * x i l := Finset.sum_nonneg fun l _ => square_nonneg _
  unfold ms
  rw [div_width, eps_bits]
  generalize (∑ l ∈ range 1024, x i l * x i l) = s at h
  induction s with
  | bot => exact absurd h (by simp)
  | coe r =>
    refine Or.inr ⟨r * (1 / 1024) + eps, ?_, ?_⟩
    · have := EReal.coe_nonneg.1 h
      have := eps_pos
      positivity
    · rw [← EReal.coe_mul, ← EReal.coe_add]
  | top =>
    refine Or.inl ?_
    rw [EReal.top_mul_coe_of_pos (by norm_num), EReal.top_add_coe]

theorem twice_half (y : EReal) {c : ℝ} (h : 0 < c) : y * ((-(1 / 2) * c : ℝ) : EReal) + y * ((-(1 / 2) * c : ℝ) : EReal) = -(y * (c : EReal)) := by
  have hn : -(1 / 2) * c < 0 := by linarith
  induction y with
  | bot => rw [EReal.bot_mul_coe_of_neg hn, EReal.bot_mul_coe_of_pos h]; simp
  | coe r => rw [← EReal.coe_mul, ← EReal.coe_mul, ← EReal.coe_add, ← EReal.coe_neg]; congr 1; ring
  | top => rw [EReal.top_mul_coe_of_neg hn, EReal.top_mul_coe_of_pos h]; simp

/-- Both ways of writing the gradient through the norm agree. -/
theorem through_eq (x : ℕ → ℕ → EReal) (g : ℕ → EReal) (d : ℕ → ℕ → EReal) (e : EReal) (i j : ℕ) :
    e + d i j * g j * scale x i + x i j * half x g d i + half x g d i * x i j = e + through x g d i j := by
  have key : d i j * g j * scale x i + (x i j * half x g d i + half x g d i * x i j) = through x g d i j := by
    unfold half through
    rw [div_width, div_width, half_bits]
    rcases ms_cases x i with h | ⟨q, hq, h⟩
    · have hs : scale x i = 0 := by unfold scale; rw [h]; rfl
      rw [hs]
      have hd : Ideal.div 0 (ms x i) = 0 := by rw [h]; unfold Ideal.div; rw [if_neg (by simp)]; simp
      rw [hd]
      simp
    · have hr : 0 < (Real.sqrt q)⁻¹ := inv_pos.2 (Real.sqrt_pos.2 hq)
      have hs : scale x i = (((Real.sqrt q)⁻¹ : ℝ) : EReal) := by
        unfold scale
        rw [h, Ideal.rsqrt_coe, if_neg (not_lt.2 hq.le), if_neg hq.ne']
      have hsq : (Real.sqrt q)⁻¹ * (Real.sqrt q)⁻¹ = 1 / q := by rw [← mul_inv, Real.mul_self_sqrt hq.le, one_div]
      rw [hs, h, Ideal.div_coe hq.ne']
      generalize (Real.sqrt q)⁻¹ = r at hr hsq
      have e1 : (∑ l ∈ range 1024, d i l * g l * (x i l * (r : EReal))) = (∑ k ∈ range 1024, x i k * (d i k * g k)) * (r : EReal) := by
        rw [← sum_mul_pos hr]
        refine Finset.sum_congr rfl fun k _ => ?_
        rw [← mul_assoc, mul_comm (x i k)]
      rw [e1]
      generalize (∑ k ∈ range 1024, x i k * (d i k * g k)) = s
      generalize d i j * g j = u
      generalize x i j = y
      rw [← hsq]
      have e2 : s * (((-(1 / 2) : ℝ) : EReal) * ((r : EReal) * ((r * r : ℝ) : EReal))) * ((1 / 1024 : ℝ) : EReal) = s * ((-(1 / 2) * (r * (r * r) * (1 / 1024)) : ℝ) : EReal) := by
        rw [← EReal.coe_mul, ← EReal.coe_mul, mul_assoc, ← EReal.coe_mul]
        congr 2
        ring
      rw [e2, mul_comm (s * _) y, ← mul_assoc, twice_half (y * s) (by positivity)]
      have e3 : y * (r : EReal) * (s * (r : EReal) * ((1 / 1024 : ℝ) : EReal)) = y * s * ((r * r * (1 / 1024) : ℝ) : EReal) := by
        rw [EReal.coe_mul, EReal.coe_mul]
        ac_rfl
      rw [e3, sub_eq_add_neg, EReal.left_distrib_of_nonneg_of_ne_top (EReal.coe_nonneg.2 hr.le) (EReal.coe_ne_top r), mul_comm (r : EReal) u]
      congr 1
      rw [mul_neg, mul_comm (r : EReal), mul_assoc (y * s), ← EReal.coe_mul]
      congr 3
      ring
  rw [← key]
  simp only [add_assoc]

end Cert.Proof.Ext
end
-- ==== Proof.UpPay.lean ====
/-
  The up projection's gradient of its input, through the norm that comes before it: one block of rows, over the extended reals.
-/
module

public import proofs.«01_k».proof.Proof.Gen.KernelUpIdeal
public import proofs.«01_k».proof.Proof.Gen.KernelUpIdeal.Skeleton
public import proofs.«01_k».proof.Proof.Ext

@[expose] public section

set_option maxRecDepth 16384

noncomputable section

namespace Cert.Proof.Up

open Cert.KernelUpIdeal Cert.KernelUpIdeal.Gen
open Idealize.ShloMosaic Idealize.ShloMosaic.TcCoe
open Ext
open Finset

theorem pay4 (a b w0 w1 : ℕ → ℕ → EReal) : k0_pay4 (F := Ideal) (E2 (φ := .bf16) a) (E2 (φ := .bf16) w0) (E2 (φ := .bf16) b) (E2 (φ := .bf16) w1)
    = E2 (fun i j => (∑ l ∈ range 2816, a i l * w0 j l) + ∑ l ∈ range 2816, b i l * w1 j l) := by
  funext y
  idx_vars y
  pointwise [k0_pay4]
  simp only [E2_ix]
  rw [sum_fin 2816 (fun l => a y0.val l * w0 y1.val l), sum_fin 2816 (fun l => b y0.val l * w1 y1.val l)]

theorem pay5 (x : ℕ → ℕ → EReal) : k0_pay5 (F := Ideal) (E2 (φ := .f32) x) = E2 (fun i _ => scale x i) := by
  funext y
  idx_vars y
  pointwise [k0_pay5]
  simp only [E2_ix]
  rw [sum_fin 1024 (fun l => x y0.val l * x y0.val l)]
  rfl

theorem pay6 (x : ℕ → ℕ → EReal) : k0_pay6 (F := Ideal) (E2 (φ := .f32) x) = E2 (fun i j => x i j * scale x i) := by
  funext y
  idx_vars y
  pointwise [k0_pay6]
  rw [pay5]
  simp only [E2_ix]

theorem pay7 (a b w0 w1 x : ℕ → ℕ → EReal) (g : ℕ → EReal) (d : ℕ → ℕ → EReal) (hd : ∀ i j, d i j = (∑ l ∈ range 2816, a i l * w0 j l) + ∑ l ∈ range 2816, b i l * w1 j l) :
    k0_pay7 (F := Ideal) (E2 (φ := .bf16) a) (E2 (φ := .bf16) w0) (E2 (φ := .bf16) b) (E2 (φ := .bf16) w1) (E2 (φ := .f32) x) (E2 (φ := .f32) fun _ j => g j)
    = E2 (through x g d) := by
  funext y
  idx_vars y
  pointwise [k0_pay7]
  rw [pay4, pay5, pay6]
  simp only [E2_ix, ← hd]
  rw [sum_fin 1024 (fun l => d y0.val l * g l * (x y0.val l * scale x y0.val))]
  rfl

theorem pay1 (u v : ℕ → ℕ → EReal) : k0_pay1 (F := Ideal) (E2 (φ := .f32) u) (E2 (φ := .f32) v) = E2 (fun i j => u i j + v i j) := by
  funext y
  idx_vars y
  pointwise [k0_pay1]
  simp only [E2_ix]

theorem pay2 (u v : ℕ → ℕ → EReal) : k0_pay2 (F := Ideal) (E2 (φ := .f32) u) (E2 (φ := .f32) v) = E2 (fun _ j => ∑ i ∈ range 256, u i j * v i j) := by
  funext y
  idx_vars y
  pointwise [k0_pay2]
  simp only [E2_ix]
  exact sum_fin 256 (fun i => u i y1.val * v i y1.val)

theorem pay3 (u v : ℕ → ℕ → EReal) (s : ℕ → EReal) : k0_pay3 (F := Ideal) (E2 (φ := .f32) u) (E2 (φ := .f32) v) (E2 (φ := .f32) fun _ j => s j) = E2 (fun _ j => s j + ∑ i ∈ range 256, u i j * v i j) := by
  funext y
  idx_vars y
  pointwise [k0_pay3]
  rw [pay2]
  simp only [E2_ix]

end Cert.Proof.Up
end
-- ==== Proof.UpVal.lean ====
/-
  The up projection's gradient of its input, through the norm that comes before it: the arrays after the run. Point `t` of the grid does rows `256 t` to `256 t + 255`; the gradient of the norm's weights is added up
  from point to point.
-/
module

public import proofs.«01_k».proof.Defs
public import proofs.«01_k».proof.Proof.Gen.KernelUp
public import proofs.«01_k».proof.Proof.Gen.KernelUpIdeal
public import proofs.«01_k».proof.Proof.Gen.KernelUpIdeal.Frame
public import proofs.«01_k».proof.Proof.Gen.KernelUpIdeal.Value
public import proofs.«01_k».proof.Proof.UpPay
public import Idealize.ShloMosaic.Lib.Pipeline.ValueKit
public import Idealize.ShloMosaic.Lib.Claim

@[expose] public section

set_option maxRecDepth 16384

noncomputable section

namespace Cert.Proof.Up

open Cert.KernelUpIdeal Cert.KernelUpIdeal.Gen Cert.KernelUpIdeal.Value
open Idealize.ShloMosaic Idealize.ShloMosaic.TcCoe Idealize.SL.Sem
open Idealize.ShloMosaic.Pipeline (Dat)
open Ext
open Finset

theorem hz : (![0, 0] : Fin 2 → ℕ) = fun _ => 0 := by
  funext a
  match a with
  | 0 => rfl
  | 1 => rfl

section Cases

variable {F : FTy → Type} [FloatOps F]
variable (c : Dev nD) (i : grid0.Coords) (a1 : Memref sig .tc .vmem S256x2816 .bf16) (h1 : a1.IsWhole) (a2 : Memref sig .tc .vmem S1024x2816 .bf16) (h2 : a2.IsWhole)
  (a3 : Memref sig .tc .vmem S256x2816 .bf16) (h3 : a3.IsWhole) (a4 : Memref sig .tc .vmem S1024x2816 .bf16) (h4 : a4.IsWhole)
  (a5 : Memref sig .tc .vmem S256x1024 .f32) (h5 : a5.IsWhole) (a6 : Memref sig .tc .vmem S1x1024 .f32) (h6 : a6.IsWhole) (a7 : Memref sig .tc .vmem S256x1024 .f32) (h7 : a7.IsWhole)
  (a8 : Memref sig .tc .vmem S256x1024 .f32) (h8 : a8.IsWhole) (a9 : Memref sig .tc .vmem S1x1024 .f32) (h9 : a9.IsWhole)
  (x0 : Vec F S256x2816 .bf16) (x1 : Vec F S1024x2816 .bf16) (x2 : Vec F S256x2816 .bf16) (x3 : Vec F S1024x2816 .bf16) (x4 : Vec F S256x1024 .f32) (x5 : Vec F S1x1024 .f32) (x6 : Vec F S256x1024 .f32)
  (acc : Vec F S1x1024 .f32)

theorem out7_A (hc0 : cond0_0 i) (hc1 : ¬cond0_1 i) :
    out0_A_7 c i a1 h1 a2 h2 a3 h3 a4 h4 a5 h5 a6 h6 a7 h7 a8 h8 a9 h9 hc0 hc1 x0 x1 x2 x3 x4 x5 x6 = k0_pay1 x6 (k0_pay7 x0 x1 x2 x3 x4 x5) := by
  unfold out0_A_7
  rw [View.read_writes_eq_canon _ _ _ (cover0_A_7 c i a1 h1 a2 h2 a3 h3 a4 h4 a5 h5 a6 h6 a7 h7 a8 h8 a9 h9 hc0 hc1 x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2816) hz, View.ld_unit_zero (S := S1024x2816) hz, View.ld_unit_zero (S := S256x1024) hz, View.ld_unit_zero (S := S1x1024) hz]

theorem out7_B (hc0 : ¬cond0_0 i) (hc1 : cond0_1 i) :
    out0_B_7 c i a1 h1 a2 h2 a3 h3 a4 h4 a5 h5 a6 h6 a7 h7 a8 h8 a9 h9 hc0 hc1 x0 x1 x2 x3 x4 x5 x6 acc = k0_pay1 x6 (k0_pay7 x0 x1 x2 x3 x4 x5) := by
  unfold out0_B_7
  rw [View.read_writes_eq_canon _ _ _ (cover0_B_7 c i a1 h1 a2 h2 a3 h3 a4 h4 a5 h5 a6 h6 a7 h7 a8 h8 a9 h9 hc0 hc1 x0 x1 x2 x3 x4 x5 x6 acc)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2816) hz, View.ld_unit_zero (S := S1024x2816) hz, View.ld_unit_zero (S := S256x1024) hz, View.ld_unit_zero (S := S1x1024) hz]

theorem out8_A (hc0 : cond0_0 i) (hc1 : ¬cond0_1 i) :
    out0_A_8 c i a1 h1 a2 h2 a3 h3 a4 h4 a5 h5 a6 h6 a7 h7 a8 h8 a9 h9 hc0 hc1 x0 x1 x2 x3 x4 x5 x6 = k0_pay2 (k0_pay4 x0 x1 x2 x3) (k0_pay6 x4) := by
  unfold out0_A_8
  rw [View.read_writes_eq_canon _ _ _ (cover0_A_8 c i a1 h1 a2 h2 a3 h3 a4 h4 a5 h5 a6 h6 a7 h7 a8 h8 a9 h9 hc0 hc1 x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2816) hz, View.ld_unit_zero (S := S1024x2816) hz, View.ld_unit_zero (S := S256x1024) hz, View.ld_unit_zero (S := S1x1024) hz]

theorem out8_B (hc0 : ¬cond0_0 i) (hc1 : cond0_1 i) :
    out0_B_8 c i a1 h1 a2 h2 a3 h3 a4 h4 a5 h5 a6 h6 a7 h7 a8 h8 a9 h9 hc0 hc1 x0 x1 x2 x3 x4 x5 x6 acc = k0_pay3 (k0_pay4 x0 x1 x2 x3) (k0_pay6 x4) acc := by
  unfold out0_B_8
  rw [View.read_writes_eq_canon _ _ _ (cover0_B_8 c i a1 h1 a2 h2 a3 h3 a4 h4 a5 h5 a6 h6 a7 h7 a8 h8 a9 h9 hc0 hc1 x0 x1 x2 x3 x4 x5 x6 acc)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread,
    View.ld_unit_zero (S := S256x2816) hz, View.ld_unit_zero (S := S1024x2816) hz, View.ld_unit_zero (S := S256x1024) hz, View.ld_unit_zero (S := S1x1024) hz]

end Cases

/-- The gradient of the norm's output: both halves' products with the weight's rows. -/
def dh (A B W : ℕ → ℕ → EReal) (i j : ℕ) : EReal := (∑ l ∈ range 2816, A i l * W j l) + ∑ l ∈ range 2816, B i l * W j (2816 + l)

/-- The gradient of the norm's input, the residual's gradient added. -/
def dxArr (A B W X D : ℕ → ℕ → EReal) (g : ℕ → EReal) : FVec Ideal S8192x1024 .f32 := E2 fun i j => D i j + through X g (dh A B W) i j

/-- The gradient of the norm's weights. -/
def dgArr (A B W X : ℕ → ℕ → EReal) : FVec Ideal S1x1024 .f32 := E2 fun _ j => ∑ i ∈ range 8192, dh A B W i j * (X i j * scale X i)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

variable (m : (ℓ : Loc nD τ sig) → Buf (Elt Ideal) ℓ) (c : Dev nD) (A B W X D : ℕ → ℕ → EReal) (g : ℕ → EReal)

/-- The arguments, by their entries. -/
structure Holds : Prop where
  a : (m ((c : Thread nD τ).loc main_arg0) : FVec Ideal S8192x2816 .bf16) = E2 (φ := .bf16) A
  b : (m ((c : Thread nD τ).loc main_arg1) : FVec Ideal S8192x2816 .bf16) = E2 (φ := .bf16) B
  w : (m ((c : Thread nD τ).loc main_arg2) : FVec Ideal S1024x5632 .bf16) = E2 (φ := .bf16) W
  x : (m ((c : Thread nD τ).loc main_arg3) : FVec Ideal S8192x1024 .f32) = E2 (φ := .f32) X
  g : (m ((c : Thread nD τ).loc main_arg4) : FVec Ideal S1024 .f32) = E1 (φ := .f32) g
  d : (m ((c : Thread nD τ).loc main_arg5) : FVec Ideal S8192x1024 .f32) = E2 (φ := .f32) D

theorem V0 : V m c main_v0 = extractStridedSlice S1024x2816 ![0, 0] (m ((c : Thread nD τ).loc main_arg2)) slices_S1024x5632_S1024x2816_0_0 := by
  unfold V
  simp only [hostOps0, List.flatten_cons, List.flatten_nil, List.append_nil, StableHlo.TRef.unary, StableHlo.TRef.toBuf, StableHlo.TRef.ofBuf, cast_eq]
  after_results_simp

theorem V1 : V m c main_v1 = extractStridedSlice S1024x2816 ![0, 2816] (m ((c : Thread nD τ).loc main_arg2)) slices_S1024x5632_S1024x2816_0_2816 := by
  unfold V
  simp only [hostOps0, List.flatten_cons, List.flatten_nil, List.append_nil, StableHlo.TRef.unary, StableHlo.TRef.toBuf, StableHlo.TRef.ofBuf, cast_eq]
  after_results_simp

theorem V2 : V m c main_v2 = shapeCast S1x1024 (m ((c : Thread nD τ).loc main_arg4)) shapeCasts_S1024_S1x1024 := by
  unfold V
  simp only [hostOps0, List.flatten_cons, List.flatten_nil, List.append_nil, StableHlo.TRef.unary, StableHlo.TRef.toBuf, StableHlo.TRef.ofBuf, cast_eq]
  after_results_simp
  rfl

variable (h : Holds m c A B W X D g)

section Blocks

include h

theorem blk0 (t : Fin cfg0.N) : (iblk m c 0 t : FVec Ideal S256x2816 .bf16) = E2 (φ := .bf16) fun i j => A (256 * t.val + i) j := by
  funext y
  refine (congrFun ((V_main_arg0 m c).trans h.a) (((cfg0.win 0).blk t).view.emb y)).trans ?_
  unfold E2
  blk_simp [idx t]
  exact (congrArg₂ A (by omega) (by omega))

theorem blk2 (t : Fin cfg0.N) : (iblk m c 2 t : FVec Ideal S256x2816 .bf16) = E2 (φ := .bf16) fun i j => B (256 * t.val + i) j := by
  funext y
  refine (congrFun ((V_main_arg1 m c).trans h.b) (((cfg0.win 2).blk t).view.emb y)).trans ?_
  unfold E2
  blk_simp [idx t]
  exact (congrArg₂ B (by omega) (by omega))

theorem blk4 (t : Fin cfg0.N) : (iblk m c 4 t : FVec Ideal S256x1024 .f32) = E2 (φ := .f32) fun i j => X (256 * t.val + i) j := by
  funext y
  refine (congrFun ((V_main_arg3 m c).trans h.x) (((cfg0.win 4).blk t).view.emb y)).trans ?_
  unfold E2
  blk_simp [idx t]
  exact (congrArg₂ X (by omega) (by omega))

theorem blk6 (t : Fin cfg0.N) : (iblk m c 6 t : FVec Ideal S256x1024 .f32) = E2 (φ := .f32) fun i j => D (256 * t.val + i) j := by
  funext y
  refine (congrFun ((V_main_arg5 m c).trans h.d) (((cfg0.win 6).blk t).view.emb y)).trans ?_
  unfold E2
  blk_simp [idx t]
  exact (congrArg₂ D (by omega) (by omega))

theorem w0_eq : V m c main_v0 = (E2 (φ := .bf16) W : FVec Ideal S1024x2816 .bf16) := by
  rw [V0]
  refine (congrArg (fun w => extractStridedSlice S1024x2816 ![0, 0] w slices_S1024x5632_S1024x2816_0_0) h.w).trans ?_
  funext y
  idx_vars y
  pointwise
  rfl

theorem w1_eq : V m c main_v1 = (E2 (φ := .bf16) fun i j => W i (2816 + j) : FVec Ideal S1024x2816 .bf16) := by
  rw [V1]
  refine (congrArg (fun w => extractStridedSlice S1024x2816 ![0, 2816] w slices_S1024x5632_S1024x2816_0_2816) h.w).trans ?_
  funext y
  idx_vars y
  pointwise
  rfl

theorem g_eq : V m c main_v2 = (E2 (φ := .f32) fun _ j => g j : FVec Ideal S1x1024 .f32) := by
  rw [V2]
  refine (congrArg (fun w => shapeCast S1x1024 w shapeCasts_S1024_S1x1024) h.g).trans ?_
  funext y
  idx_vars y
  pointwise
  rfl

theorem blk1 (t : Fin cfg0.N) : (iblk m c 1 t : FVec Ideal S1024x2816 .bf16) = E2 (φ := .bf16) W := by
  funext y
  refine (congrFun (w0_eq m c A B W X D g h) (((cfg0.win 1).blk t).view.emb y)).trans ?_
  unfold E2
  blk_simp [idx t]

theorem blk3 (t : Fin cfg0.N) : (iblk m c 3 t : FVec Ideal S1024x2816 .bf16) = E2 (φ := .bf16) fun i j => W i (2816 + j) := by
  funext y
  refine (congrFun (w1_eq m c A B W X D g h) (((cfg0.win 3).blk t).view.emb y)).trans ?_
  unfold E2
  blk_simp [idx t]

theorem blk5 (t : Fin cfg0.N) : (iblk m c 5 t : FVec Ideal S1x1024 .f32) = E2 (φ := .f32) fun _ j => g j := by
  funext y
  refine (congrFun (g_eq m c A B W X D g h) (((cfg0.win 5).blk t).view.emb y)).trans ?_
  unfold E2
  blk_simp [idx t]

/-- One point's rows of the gradient of the norm's input. -/
theorem rows_at (t : Fin cfg0.N) : k0_pay1 (F := Ideal) (iblk m c 6 t) (k0_pay7 (F := Ideal) (iblk m c 0 t) (iblk m c 1 t) (iblk m c 2 t) (iblk m c 3 t) (iblk m c 4 t) (iblk m c 5 t))
    = E2 fun i j => D (256 * t.val + i) j + through X g (dh A B W) (256 * t.val + i) j := by
  rw [blk0 m c A B W X D g h, blk1 m c A B W X D g h, blk2 m c A B W X D g h, blk3 m c A B W X D g h, blk4 m c A B W X D g h, blk5 m c A B W X D g h, blk6 m c A B W X D g h,
    pay7 _ _ _ _ _ _ (fun i j => dh A B W (256 * t.val + i) j) (fun _ _ => rfl), pay1]
  rfl

/-- One point's part of the gradient of the norm's weights. -/
theorem part_at (t : Fin cfg0.N) (acc : ℕ → EReal) : k0_pay3 (F := Ideal) (k0_pay4 (F := Ideal) (iblk m c 0 t) (iblk m c 1 t) (iblk m c 2 t) (iblk m c 3 t)) (k0_pay6 (F := Ideal) (iblk m c 4 t)) (E2 (φ := .f32) fun _ j => acc j)
    = E2 fun _ j => acc j + ∑ i ∈ range 256, dh A B W (256 * t.val + i) j * (X (256 * t.val + i) j * scale X (256 * t.val + i)) := by
  rw [blk0 m c A B W X D g h, blk1 m c A B W X D g h, blk2 m c A B W X D g h, blk3 m c A B W X D g h, blk4 m c A B W X D g h, pay4, pay6, pay3]
  rfl

theorem first_at (t : Fin cfg0.N) : k0_pay2 (F := Ideal) (k0_pay4 (F := Ideal) (iblk m c 0 t) (iblk m c 1 t) (iblk m c 2 t) (iblk m c 3 t)) (k0_pay6 (F := Ideal) (iblk m c 4 t))
    = E2 fun _ j => ∑ i ∈ range 256, dh A B W (256 * t.val + i) j * (X (256 * t.val + i) j * scale X (256 * t.val + i)) := by
  rw [blk0 m c A B W X D g h, blk1 m c A B W X D g h, blk2 m c A B W X D g h, blk3 m c A B W X D g h, blk4 m c A B W X D g h, pay4, pay6, pay2]
  rfl

theorem sums_at : ∀ (n : ℕ) (hn : n < cfg0.N), (outsAt0 m c n hn).2 = E2 (φ := .f32) fun _ j => ∑ i ∈ range (256 * (n + 1)), dh A B W i j * (X i j * scale X i)
  | 0, hn => by
    rw [outsAt0_A m c ⟨0, hn⟩ (Nat.zero_mod _) (by dsimp only; omega)]
    dsimp only
    rw [out8_A]
    refine (first_at m c A B W X D g h ⟨0, hn⟩).trans (E2_congr fun _ j _ _ => ?_)
    simp only [Nat.mul_zero, Nat.zero_add, Nat.mul_one]
  | n + 1, hn => by
    have hN : n + 1 < 32 := hn
    rw [outsAt0_B m c ⟨n + 1, hn⟩ (by dsimp only; omega) (by dsimp only; omega)]
    dsimp only
    rw [out8_B]
    have ih := sums_at n (Nat.lt_of_succ_lt hn)
    have e : (outsAt0 m c (n + 1 - 1) (Nat.lt_of_le_of_lt (Nat.sub_le _ _) hn)).2 = E2 (φ := .f32) fun _ j => ∑ i ∈ range (256 * (n + 1)), dh A B W i j * (X i j * scale X i) := ih
    rw [e]
    refine (part_at m c A B W X D g h ⟨n + 1, hn⟩ _).trans (E2_congr fun _ j _ _ => ?_)
    rw [show 256 * (n + 1 + 1) = 256 * (n + 1) + 256 from rfl, Finset.sum_range_add]

theorem rows_out (t : Fin cfg0.N) : (outsAt0 m c t.val t.isLt).1 = E2 (φ := .f32) fun i j => D (256 * t.val + i) j + through X g (dh A B W) (256 * t.val + i) j := by
  have ht : t.val < 32 := t.isLt
  by_cases h0 : t.val = 0
  · rw [outsAt0_A m c t (by omega) (by omega)]
    dsimp only
    rw [out7_A]
    exact rows_at m c A B W X D g h t
  · rw [outsAt0_B m c t (by omega) (by omega)]
    dsimp only
    rw [out7_B]
    exact rows_at m c A B W X D g h t

theorem final7 : (dats m 0 c).arrAt 7 cfg0.N = dxArr A B W X D g := by
  refine (dats m 0 c).arrAt_eq_of_covers 7 _ (by decide +kernel) fun t hf y => ?_
  have ht : t.val < 32 := t.isLt
  have y0 : (y 0).val < 256 := (y 0).isLt
  have y1 : (y 1).val < 1024 := (y 1).isLt
  blk_simp
  rw [after0_7]
  refine (congrFun (rows_out m c A B W X D g h t) y).trans ?_
  unfold dxArr E2
  blk_simp [idx t]
  have e : t.val * 256 + (y 0).val = 256 * t.val + (y 0).val := by omega
  rw [e]

theorem final8 : (dats m 0 c).arrAt 8 cfg0.N = dgArr A B W X := by
  refine (dats m 0 c).arrAt_eq_of_covers 8 _ (by decide +kernel) fun t hf y => ?_
  have ht : t.val < 32 := t.isLt
  have h31 : t.val % 32 = 31 := (flush0_8 t).mp hf
  have y0 : (y 0).val < 1 := (y 0).isLt
  have y1 : (y 1).val < 1024 := (y 1).isLt
  blk_simp
  rw [after0_8]
  refine (congrFun (sums_at m c A B W X D g h t.val t.isLt) y).trans ?_
  unfold dgArr E2
  blk_simp [idx t]
  have e : 256 * (t.val + 1) = 8192 := by omega
  rw [e]

end Blocks

theorem frame_ideal : Cert.quiescent_KernelUpIdeal := fun m ρ _ => Cert.KernelUpIdeal.Gen.frame m ρ

section Printed

variable {F : FTy → Type} [FloatOps F]

/-- The printed kernel is the idealized kernel's text. -/
theorem bodies_same : @Cert.KernelUp.defs₀ F _ Cert.KernelUp.Gen.facts = @Cert.KernelUpIdeal.defs₀ F _ Cert.KernelUpIdeal.Gen.facts := by
  unfold Cert.KernelUp.defs₀ Cert.KernelUpIdeal.defs₀
  refine congrArg Defs.onTc ?_
  funext l x
  match l, x with
  | 0, (t, s) => exact rfl

theorem defs_same : @Cert.KernelUp.defs F _ Cert.KernelUp.Gen.facts = @Cert.KernelUpIdeal.defs F _ Cert.KernelUpIdeal.Gen.facts := by
  unfold Cert.KernelUp.defs Cert.KernelUpIdeal.defs
  rw [bodies_same]
  rfl

theorem main_same : @Cert.KernelUp.main F _ = @Cert.KernelUpIdeal.main F _ := rfl

end Printed

theorem frame_printed : Cert.quiescent_KernelUp := fun m ρ _ =>
  (congrArg₂ (fun d p => θ_run d (onTc p) _ _) (defs_same (F := Bits)) (main_same (F := Bits))).mpr
    (Cert.KernelUpIdeal.Gen.frame (F := Bits) m ρ)

end Cert.Proof.Up
end
-- ==== Proof.UpRef.lean ====
/-
  The reference's gradients of the up projection's input and of the norm's weights, read over the extended reals.
-/
module

public import proofs.«01_k».proof.Proof.UpVal
public import proofs.«01_k».proof.Proof.Gen.ReferenceUpIdeal
public import proofs.«01_k».proof.Proof.Gen.ReferenceUpIdeal.Run
public import proofs.«01_k».proof.Proof.Gen.ReferenceUpIdeal.Read

@[expose] public section

set_option maxRecDepth 16384

noncomputable section

namespace Cert.Proof.Up

open Cert.ReferenceUpIdeal Cert.ReferenceUpIdeal.Read
open Idealize.ShloMosaic Idealize.ShloMosaic.TcCoe Idealize.SL.Sem
open Ext
open Finset

variable (A B W X D : ℕ → ℕ → EReal) (g : ℕ → EReal)

theorem r9 (i) : val_main_v9 (F := Ideal) (E2 (φ := .f32) X) i = ms X (i 0).val := by
  rw [val_main_v9_apply (F := Ideal), val_main_v7_apply (F := Ideal), val_main_v5_apply (F := Ideal), val_main_v4_apply, val_main_v6_apply (F := Ideal), val_main_v8_apply (F := Ideal),
    val_main_cst_apply (F := Ideal), val_main_cst_0_apply (F := Ideal), val_main_cst_1_apply (F := Ideal), zero_bits, zero_add]
  have e : (∑ k : Fin 1024, val_main_v3 (F := Ideal) (E2 (φ := .f32) X) (idx_main_v4 (idx_main_v5 i) k)) = ∑ k ∈ range 1024, X (i 0).val k * X (i 0).val k :=
    sum_fin 1024 fun k => X (i 0).val k * X (i 0).val k
  rw [e]
  rfl

theorem r10 (i) : val_main_v10 (F := Ideal) (E2 (φ := .f32) X) i = scale X (i 0).val := by
  rw [val_main_v10_apply (F := Ideal), r9]
  rfl

theorem r13 (i) : val_main_v13 (F := Ideal) (E2 (φ := .f32) X) i = Ideal.ofBits .f32 0xBF000000#32 * Ideal.div (scale X (i 0).val) (ms X (i 0).val) := by
  rw [val_main_v13_apply (F := Ideal), val_main_v12_apply (F := Ideal), val_main_cst_2_apply (F := Ideal), val_main_v11_apply (F := Ideal), r10, r9]
  rfl

theorem r15 (i) : val_main_v15 (F := Ideal) (E2 (φ := .f32) X) i = X (i 0).val (i 1).val * scale X (i 0).val := by
  rw [val_main_v15_apply (F := Ideal), val_main_v14_apply (F := Ideal), r10]
  rfl

theorem r0 (i) : val_main_v0 (F := Ideal) (E2 (φ := .bf16) A) (E2 (φ := .bf16) B) i = (if (i 1).val < 2816 then A (i 0).val (i 1).val else B (i 0).val ((i 1).val - 2816)) := by
  unfold val_main_v0
  idx_vars i
  pointwise
  split <;> rfl

theorem r20 (i) : val_main_v20 (F := Ideal) (E2 (φ := .bf16) A) (E2 (φ := .bf16) B) (E2 (φ := .bf16) W) i = dh A B W (i 0).val (i 1).val := by
  rw [val_main_v20_apply]
  have e : dh A B W (i 0).val (i 1).val = ∑ k ∈ range 5632, (if k < 2816 then A (i 0).val k else B (i 0).val (k - 2816)) * W (i 1).val k := by
    rw [show 5632 = 2816 + 2816 from rfl, Finset.sum_range_add]
    unfold dh
    refine congrArg₂ (· + ·) (Finset.sum_congr rfl fun k hk => ?_) (Finset.sum_congr rfl fun k hk => ?_)
    · rw [if_pos (Finset.mem_range.mp hk)]
    · rw [if_neg (by omega), Nat.add_sub_cancel_left]
  rw [e, ← sum_fin 5632 fun k => (if k < 2816 then A (i 0).val k else B (i 0).val (k - 2816)) * W (i 1).val k]
  refine Finset.sum_congr rfl fun k _ => ?_
  rw [val_main_v1_apply (F := Ideal), val_main_v2_apply (F := Ideal), r0]
  rfl

theorem r22 (i) : val_main_v22 (F := Ideal) (E2 (φ := .bf16) A) (E2 (φ := .bf16) B) (E2 (φ := .bf16) W) (E2 (φ := .f32) X) i = ∑ k ∈ range 8192, X k (i 0).val * scale X k * dh A B W k (i 0).val := by
  rw [val_main_v22_apply, val_main_cst_3_apply (F := Ideal), zero_bits, zero_add, ← sum_fin 8192 fun k => X k (i 0).val * scale X k * dh A B W k (i 0).val]
  refine Finset.sum_congr rfl fun k _ => ?_
  rw [val_main_v21_apply (F := Ideal), r15, r20]
  rfl

theorem r42 : val_main_v42 (F := Ideal) (E2 (φ := .bf16) A) (E2 (φ := .bf16) B) (E2 (φ := .bf16) W) (E2 (φ := .f32) X) = dgArr A B W X := by
  funext i
  rw [val_main_v42_apply (F := Ideal), val_main_v26_apply, val_main_cst_4_apply (F := Ideal), zero_bits, zero_add, Fin.sum_univ_one, val_main_v23_apply (F := Ideal), r22]
  have h0 : (i 0).val = 0 := by have : (i 0).val < 1 := (i 0).isLt; omega
  have e : ((idx_main_v23 (idx_main_v26 (idx_main_v42 i) 0)) 0).val = (i 1).val := by
    show 0 * 1024 + ((i 0).val * 1024 + (i 1).val) = (i 1).val
    omega
  rw [e]
  unfold dgArr E2
  exact Finset.sum_congr rfl fun k _ => mul_comm _ _

theorem r25 (i) : val_main_v25 (F := Ideal) (E2 (φ := .bf16) A) (E2 (φ := .bf16) B) (E2 (φ := .bf16) W) (E1 (φ := .f32) g) i = dh A B W (i 0).val (i 1).val * g (i 1).val := by
  rw [val_main_v25_apply (F := Ideal), r20, val_main_v24_apply (F := Ideal), val_main_v16_apply (F := Ideal)]
  rfl

theorem r29 (i) : val_main_v29 (F := Ideal) (E2 (φ := .bf16) A) (E2 (φ := .bf16) B) (E2 (φ := .bf16) W) (E2 (φ := .f32) X) (E1 (φ := .f32) g) i = ∑ k ∈ range 1024, X (i 0).val k * (dh A B W (i 0).val k * g k) := by
  rw [val_main_v29_apply (F := Ideal), val_main_v28_apply, val_main_cst_5_apply (F := Ideal), zero_bits, zero_add]
  have e : ((idx_main_v29 i) 0).val = (i 0).val := by
    have : (i 1).val < 1 := (i 1).isLt
    show (i 0).val * 1 + (i 1).val = (i 0).val
    omega
  rw [← sum_fin 1024 fun k => X (i 0).val k * (dh A B W (i 0).val k * g k)]
  refine Finset.sum_congr rfl fun k _ => ?_
  rw [val_main_v27_apply (F := Ideal), r25]
  show X ((idx_main_v29 i) 0).val k.val * (dh A B W ((idx_main_v29 i) 0).val k.val * g k.val) = _
  rw [e]

theorem r37 (i) : val_main_v37 (F := Ideal) (E2 (φ := .bf16) A) (E2 (φ := .bf16) B) (E2 (φ := .bf16) W) (E2 (φ := .f32) X) (E1 (φ := .f32) g) i = half X g (dh A B W) (i 0).val := by
  rw [val_main_v37_apply (F := Ideal), val_main_v36_apply, val_main_cst_7_apply (F := Ideal), zero_bits, zero_add, Fin.sum_univ_one,
    val_main_v35_apply (F := Ideal), val_main_v33_apply (F := Ideal), r29, r13, val_main_v34_apply (F := Ideal), val_main_cst_6_apply (F := Ideal)]
  rfl

theorem r41 : val_main_v41 (F := Ideal) (E2 (φ := .bf16) A) (E2 (φ := .bf16) B) (E2 (φ := .bf16) W) (E2 (φ := .f32) X) (E1 (φ := .f32) g) (E2 (φ := .f32) D) = dxArr A B W X D g := by
  funext i
  rw [val_main_v41_apply (F := Ideal), val_main_v39_apply (F := Ideal), val_main_v32_apply (F := Ideal), val_main_v31_apply (F := Ideal), val_main_v38_apply (F := Ideal), val_main_v40_apply (F := Ideal),
    r37, r25, val_main_v30_apply (F := Ideal), r10]
  exact through_eq X g (dh A B W) (D (i 0).val (i 1).val) (i 0).val (i 1).val

end Cert.Proof.Up
end
-- ==== Proof.UpClaim.lean ====
/-
  The up projection's gradients: the claims. Whatever the arguments, the kernel and the reference leave the same
  arrays.
-/
module

public import proofs.«01_k».proof.Proof.UpRef

@[expose] public section

set_option maxRecDepth 16384

noncomputable section

namespace Cert.Proof.Up

open Idealize.ShloMosaic Idealize.ShloMosaic.TcCoe Idealize.SL.Sem
open Ext

set_option maxHeartbeats 1600000 in
theorem frame_reference : Cert.quiescent_ReferenceUpIdeal := by
  intro m g _
  hlo_run
  · exact fun _ => ⟨trivial, trivial, trivial, trivial, trivial, trivial⟩
  · exact sem_eq_zero_of_no_sems rfl _

/-- Both programs compute the gradient of the norm's input and of its weights. -/
theorem value : Cert.algebraic_KernelUpIdeal_ReferenceUpIdeal := by
  intro m g m' g' _ hagree
  let A := fun c : Dev KernelUpIdeal.nD => vals (m := 8192) (n := 2816) (φ := .bf16) (m ((c.tc : Thread KernelUpIdeal.nD KernelUpIdeal.τ).loc KernelUpIdeal.main_arg0))
  let B := fun c : Dev KernelUpIdeal.nD => vals (m := 8192) (n := 2816) (φ := .bf16) (m ((c.tc : Thread KernelUpIdeal.nD KernelUpIdeal.τ).loc KernelUpIdeal.main_arg1))
  let W := fun c : Dev KernelUpIdeal.nD => vals (m := 1024) (n := 5632) (φ := .bf16) (m ((c.tc : Thread KernelUpIdeal.nD KernelUpIdeal.τ).loc KernelUpIdeal.main_arg2))
  let X := fun c : Dev KernelUpIdeal.nD => vals (m := 8192) (n := 1024) (φ := .f32) (m ((c.tc : Thread KernelUpIdeal.nD KernelUpIdeal.τ).loc KernelUpIdeal.main_arg3))
  let G := fun c : Dev KernelUpIdeal.nD => vals1 (n := 1024) (φ := .f32) (m ((c.tc : Thread KernelUpIdeal.nD KernelUpIdeal.τ).loc KernelUpIdeal.main_arg4))
  let D := fun c : Dev KernelUpIdeal.nD => vals (m := 8192) (n := 1024) (φ := .f32) (m ((c.tc : Thread KernelUpIdeal.nD KernelUpIdeal.τ).loc KernelUpIdeal.main_arg5))
  have hholds : ∀ c, Holds m c (A c) (B c) (W c) (X c) (D c) (G c) := fun c => ⟨vals_eq _, vals_eq _, vals_eq _, vals_eq _, vals1_eq _, vals_eq _⟩
  refine ⟨fun c => dxArr (A c) (B c) (W c) (X c) (D c) (G c), fun c => dgArr (A c) (B c) (W c) (X c), ?_, ?_⟩
  · refine (θ_run _ _ _).mono (fun r h c => ?_) (KernelUpIdeal.Value.run_blocks (F := Ideal) m g)
    obtain ⟨h0, h1, h2⟩ := h c
    exact ⟨h0.trans (final7 m c _ _ _ _ _ _ (hholds c)), h1.trans (final8 m c _ _ _ _ _ _ (hholds c)), h2⟩
  · refine (θ_run _ _ _).mono (fun r h c => ?_) (ReferenceUpIdeal.Value.run (F := Ideal) m' g')
    obtain ⟨e0, e1, e2, e3, e4, e5⟩ := hagree c
    obtain ⟨h0, h1, h2⟩ := h c
    refine ⟨h0.trans ((ReferenceUpIdeal.Read.val_main_v41_eq m' c).trans ?_), h1.trans ?_, h2⟩
    · rw [e0, e1, e2, e3, e4, e5]
      rw [(hholds c).a, (hholds c).b, (hholds c).w, (hholds c).x, (hholds c).g, (hholds c).d]
      exact r41 _ _ _ _ _ _
    · refine (ReferenceUpIdeal.Read.val_main_v42_eq _ _ _ _).trans ?_
      rw [e0, e1, e2, e3]
      rw [(hholds c).a, (hholds c).b, (hholds c).w, (hholds c).x]
      exact r42 _ _ _ _

end Cert.Proof.Up
end
-- ==== Proof.Sums.lean ====
/-
  A long sum taken in runs of equal length.
-/
module

public import Mathlib.Algebra.BigOperators.Fin
public import Mathlib.Data.EReal.Basic

@[expose] public section

noncomputable section

namespace Cert.Proof.Sums

open Finset

/-- A sum over `a` runs of `b` terms is the sum over all `a * b`. -/
theorem sum_runs {M : Type*} [AddCommMonoid M] (a b n : ℕ) (h : a * b = n) (f : Fin n → M) :
    ∑ p : Fin a, ∑ q : Fin b, f ⟨b * p.val + q.val, by
      have := Nat.mul_le_mul_left b (Nat.succ_le_of_lt p.isLt)
      have := q.isLt
      rw [Nat.mul_succ] at *
      rw [← h, Nat.mul_comm a b]
      omega⟩ = ∑ k : Fin n, f k := by
  subst h
  rw [← Fintype.sum_prod_type', ← Equiv.sum_comp finProdFinEquiv f]
  refine Finset.sum_congr rfl fun x _ => congrArg f (Fin.ext ?_)
  exact Nat.add_comm _ _

end Cert.Proof.Sums
end
-- ==== Proof.UpWVal.lean ====
/-
  The up projection's gradient of its weight: the transposed activations times the gradient, an output tile at a time, the
  rows of the batch in eight runs of 1024 that are added up in a scratch tile.
  Each entry is the sum over the 8192 rows, in the kernel and in the reference alike.
-/
module

public import proofs.«01_k».proof.Defs
public import proofs.«01_k».proof.Proof.Gen.KernelUpW
public import proofs.«01_k».proof.Proof.Gen.KernelUpWIdeal
public import proofs.«01_k».proof.Proof.Gen.KernelUpWIdeal.Frame
public import proofs.«01_k».proof.Proof.Gen.KernelUpWIdeal.Value
public import proofs.«01_k».proof.Proof.Gen.ReferenceUpWIdeal
public import proofs.«01_k».proof.Proof.Gen.ReferenceUpWIdeal.Run
public import proofs.«01_k».proof.Proof.Gen.ReferenceUpWIdeal.Read
public import proofs.«01_k».proof.Proof.Sums
public import proofs.«01_k».proof.Proof.Vals
public import Idealize.ShloMosaic.Lib.Pipeline.ValueKit
public import Idealize.ShloMosaic.Lib.Claim

@[expose] public section

set_option maxRecDepth 16384

noncomputable section

namespace Cert.Proof.UpW

open Cert.KernelUpWIdeal Cert.KernelUpWIdeal.Gen Cert.KernelUpWIdeal.Value
open Idealize.ShloMosaic Idealize.ShloMosaic.TcCoe Idealize.SL.Sem
open Idealize.ShloMosaic.Pipeline (Dat)
open Finset

theorem hz : (![0, 0] : Fin 2 → ℕ) = fun _ => 0 := by
  funext a
  match a with
  | 0 => rfl
  | 1 => rfl

/-- The product of the columns of one array with the columns of the other. -/
def colsByCols (x : FVec Ideal S8192x1024 .bf16) (w : FVec Ideal S8192x2816 .bf16) : FVec Ideal S1024x2816 .f32 :=
  fun i => ∑ k : Fin 8192, (x (ix2 k (i 0)) : EReal) * w (ix2 k (i 1))

/-- One run of rows. -/
theorem pay_apply (x : FVec Ideal S1024x1024 .bf16) (w : FVec Ideal S1024x1408 .bf16) (y : S1024x1408.Idx) :
    k0_pay1 (F := Ideal) x w y = ∑ k : Fin 1024, (x (ix2 k (y 0)) : EReal) * w (ix2 k (y 1)) := by
  idx_vars y
  pointwise [k0_pay1]

section Cases

variable {F : FTy → Type} [FloatOps F]
variable (c : Dev nD) (i : grid0.Coords) (a3 : Memref sig .tc .vmem S1024x1024 .bf16) (h3 : a3.IsWhole) (a4 : Memref sig .tc .vmem S1024x1408 .bf16) (h4 : a4.IsWhole)
  (a5 : Memref sig .tc .vmem S1024x1408 .f32) (h5 : a5.IsWhole) (a6 : Memref sig .tc .vmem S1024x1408 .f32) (h6 : a6.IsWhole)
  (x : Vec F S1024x1024 .bf16) (w : Vec F S1024x1408 .bf16) (acc : Vec F S1024x1408 .f32)

/-- The first run of rows starts the scratch tile. -/
theorem scratch_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, View.ld_unit_zero (S := S1024x1024) hz, View.ld_unit_zero (S := S1024x1408) hz, shapeCast_self]

/-- A later run adds to it. -/
theorem scratch_B (hc0 : ¬cond0_0 i) (hc1 : cond0_1 i) (hc2 : ¬cond0_2 i) :
    sout0_B_0 c i a3 h3 a4 h4 a5 h5 a6 h6 hc0 hc1 hc2 x w acc = addf acc (k0_pay1 x w) := by
  unfold sout0_B_0
  rw [View.read_writes_eq_canon _ _ _ (scover0_B_0 c i a3 h3 a4 h4 a5 h5 a6 h6 hc0 hc1 hc2 x w acc)]
  unfold kernelRun0_B
  dsimp only
  sl_unfold_words
  rw [View.canon_unit_zero hz]
  unfold k0_pay3
  simp only [View.readAt_eq_ld, h3.read_unread, h4.read_unread, h6.read_unread, View.ld_unit_zero (S := S1024x1024) hz, View.ld_unit_zero (S := S1024x1408) hz, shapeCast_self]

/-- The last run too, and what the scratch tile then holds goes out. -/
theorem out_C (hc0 : ¬cond0_0 i) (hc1 : cond0_1 i) (hc2 : cond0_2 i) :
    out0_C_2 c i a3 h3 a4 h4 a5 h5 a6 h6 hc0 hc1 hc2 x w acc = addf acc (k0_pay1 x w) := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero hz, View.readCov_unit_zero (S := S1024x1408) _ hz]
  unfold k0_pay3
  simp only [View.readAt_eq_ld, h3.read_unread, h4.read_unread, h6.read_unread, View.ld_unit_zero (S := S1024x1024) hz, View.ld_unit_zero (S := S1024x1408) hz, shapeCast_self]

end Cases

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- What run `r` of the rows adds at place `i` of the result. -/
def part (x : FVec Ideal S8192x1024 .bf16) (w : FVec Ideal S8192x2816 .bf16) (i : S1024x2816.Idx) (r : Fin 8) : EReal :=
  ∑ k : Fin 1024, (x (ix2 (⟨1024 * r.val + k.val, by omega⟩ : Fin 8192) (i 0)) : EReal) * w (ix2 (⟨1024 * r.val + k.val, by omega⟩ : Fin 8192) (i 1))

theorem sum_part (x : FVec Ideal S8192x1024 .bf16) (w : FVec Ideal S8192x2816 .bf16) (i : S1024x2816.Idx) : ∑ r : Fin 8, part x w i r = colsByCols x w i :=
  Sums.sum_runs 8 1024 8192 rfl fun k => (x (ix2 k (i 0)) : EReal) * w (ix2 k (i 1))

/-- One point's product, in terms of the arguments. -/
theorem pay_at (t : Fin cfg0.N) (y : S1024x1408.Idx) (i : S1024x2816.Idx) (e0 : (i 0).val = (y 0).val) (e1 : (i 1).val = 1408 * (t.val / 8) + (y 1).val) :
    k0_pay1 (F := Ideal) (iblk m c 0 t) (iblk m c 1 t) y
      = part (m ((c : Thread nD τ).loc main_arg0)) (m ((c : Thread nD τ).loc main_arg1)) i ⟨t.val % 8, Nat.mod_lt _ (by decide)⟩ := by
  have ht : t.val < 16 := t.isLt
  refine (pay_apply _ _ y).trans ?_
  unfold part
  refine Finset.sum_congr rfl fun k _ => ?_
  refine congrArg₂ (fun a b : EReal => a * b) ?_ ?_
  · refine (congrFun (V_main_arg0 m c) (((cfg0.win 0).blk t).view.emb (ix2 k (y 0)))).trans ?_
    refine congrArg (m ((c : Thread nD τ).loc main_arg0)) ?_
    blk_ext [idx t]
  · refine (congrFun (V_main_arg1 m c) (((cfg0.win 1).blk t).view.emb (ix2 k (y 1)))).trans ?_
    refine congrArg (m ((c : Thread nD τ).loc main_arg1)) ?_
    blk_ext [idx t]

/-- The scratch tile holds the sum of the runs so far. -/
theorem scratch_at (q : ℕ) (hq : q < 2) (y : S1024x1408.Idx) (i : S1024x2816.Idx) (e0 : (i 0).val = (y 0).val) (e1 : (i 1).val = 1408 * q + (y 1).val) :
    ∀ (j : ℕ) (hj : j < 7) (h : 8 * q + j < cfg0.N), (outsAt0 m c (8 * q + j) h).2 y
      = ∑ r : Fin (j + 1), part (m ((c : Thread nD τ).loc main_arg0)) (m ((c : Thread nD τ).loc main_arg1)) i ⟨r.val, by omega⟩
  | 0, hj, h => by
    rw [outsAt0_A m c ⟨8 * q + 0, h⟩ (by dsimp only; omega) (by dsimp only; omega) (by dsimp only; omega)]
    dsimp only
    rw [scratch_A, Fin.sum_univ_one]
    refine (pay_at m c ⟨8 * q + 0, h⟩ y i e0 (by dsimp only; omega)).trans (congrArg _ (Fin.ext ?_))
    show (8 * q + 0) % 8 = 0
    omega
  | j + 1, hj, h => by
    rw [outsAt0_B m c ⟨8 * q + (j + 1), h⟩ (by dsimp only; omega) (by dsimp only; omega) (by dsimp only; omega)]
    dsimp only
    rw [scratch_B, Fin.sum_univ_castSucc]
    refine congrArg₂ (fun a b : EReal => a + b) ?_ ?_
    · exact scratch_at q hq y i e0 e1 j (by omega) (by omega)
    · refine (pay_at m c ⟨8 * q + (j + 1), h⟩ y i e0 (by dsimp only; omega)).trans (congrArg _ (Fin.ext ?_))
      show (8 * q + (j + 1)) % 8 = j + 1
      omega

/-- What goes out after the last run is the whole sum. -/
theorem out_at (q : ℕ) (hq : q < 2) (y : S1024x1408.Idx) (i : S1024x2816.Idx) (e0 : (i 0).val = (y 0).val) (e1 : (i 1).val = 1408 * q + (y 1).val) (h : 8 * q + 7 < cfg0.N) :
    (outsAt0 m c (8 * q + 7) h).1 y = colsByCols (m ((c : Thread nD τ).loc main_arg0)) (m ((c : Thread nD τ).loc main_arg1)) i := by
  rw [outsAt0_C m c ⟨8 * q + 7, h⟩ (by dsimp only; omega) (by dsimp only; omega) (by dsimp only; omega)]
  dsimp only
  rw [out_C, ← sum_part, Fin.sum_univ_castSucc]
  refine congrArg₂ (fun a b : EReal => a + b) ?_ ?_
  · exact scratch_at m c q hq y i e0 e1 6 (by omega) (by omega)
  · refine (pay_at m c ⟨8 * q + 7, h⟩ y i e0 (by dsimp only; omega)).trans (congrArg _ (Fin.ext ?_))
    show (8 * q + 7) % 8 = 7
    omega

/-- The array after the run. -/
theorem final : (dats m 0 c).arrAt 2 cfg0.N = colsByCols (m ((c : Thread nD τ).loc main_arg0)) (m ((c : Thread nD τ).loc main_arg1)) := by
  refine (dats m 0 c).arrAt_eq_of_covers 2 _ (by decide +kernel) fun t hf y => ?_
  have ht : t.val < 16 := t.isLt
  have h7 : t.val % 8 = 7 := (flush0_2 t).mp hf
  have y0 : (y 0).val < 1024 := (y 0).isLt
  have y1 : (y 1).val < 1408 := (y 1).isLt
  have e0 : ((((cfg0.win 2).blk t).view.emb y) 0).val = (y 0).val := by
    blk_simp [idx t]
  have e1 : ((((cfg0.win 2).blk t).view.emb y) 1).val = 1408 * (t.val / 8) + (y 1).val := by
    blk_simp [idx t]
    omega
  have en : ∀ (n : ℕ) (hn : n < cfg0.N), n = 8 * (t.val / 8) + 7 → (outsAt0 m c n hn).1 y
      = colsByCols (m ((c : Thread nD τ).loc main_arg0)) (m ((c : Thread nD τ).loc main_arg1)) (((cfg0.win 2).blk t).view.emb y) := by
    rintro n hn rfl
    exact out_at m c (t.val / 8) (by omega) y _ e0 e1 hn
  blk_simp
  rw [after0_2]
  exact en t.val t.isLt (by omega)

/-- The reference's array. -/
theorem ref_val (x : FVec Ideal S8192x1024 .bf16) (w : FVec Ideal S8192x2816 .bf16) : ReferenceUpWIdeal.Read.val_main_v5 (F := Ideal) x w = colsByCols x w := by
  funext i
  refine (ReferenceUpWIdeal.Read.val_main_v5_apply (F := Ideal) x w i).trans ((ReferenceUpWIdeal.Read.val_main_v4_apply x w _).trans (Finset.sum_congr rfl fun k _ => ?_))
  refine (mul_comm _ _).trans (congrArg₂ (fun a b : EReal => a * b) (congrArg x ?_) (congrArg w ?_)) <;>
  · funext a
    match a with
    | ⟨0, _⟩ => rfl
    | ⟨1, _⟩ => rfl

theorem frame_ideal : Cert.quiescent_KernelUpWIdeal := fun m ρ _ => Cert.KernelUpWIdeal.Gen.frame m ρ

theorem frame_reference : Cert.quiescent_ReferenceUpWIdeal := by
  intro m g _
  hlo_run
  · exact fun _ => ⟨trivial, trivial⟩
  · exact sem_eq_zero_of_no_sems rfl _

theorem value : Cert.algebraic_KernelUpWIdeal_ReferenceUpWIdeal := by
  intro m g m' g' _ hagree
  refine ⟨fun c => colsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceUpWIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelUpW.defs₀ F _ Cert.KernelUpW.Gen.facts = @Cert.KernelUpWIdeal.defs₀ F _ Cert.KernelUpWIdeal.Gen.facts := by
  unfold Cert.KernelUpW.defs₀ Cert.KernelUpWIdeal.defs₀
  refine congrArg Defs.onTc ?_
  funext l x
  match l, x with
  | 0, (t, s) => exact rfl

theorem defs_same : @Cert.KernelUpW.defs F _ Cert.KernelUpW.Gen.facts = @Cert.KernelUpWIdeal.defs F _ Cert.KernelUpWIdeal.Gen.facts := by
  unfold Cert.KernelUpW.defs Cert.KernelUpWIdeal.defs
  rw [bodies_same]
  rfl

theorem main_same : @Cert.KernelUpW.main F _ = @Cert.KernelUpWIdeal.main F _ := rfl

end Printed

theorem frame_printed : Cert.quiescent_KernelUpW := fun m ρ _ =>
  (congrArg₂ (fun d p => θ_run d (onTc p) _ _) (defs_same (F := Bits)) (main_same (F := Bits))).mpr
    (Cert.KernelUpWIdeal.Gen.frame (F := Bits) m ρ)

end Cert.Proof.UpW
end
-- ==== Proof.DownWVal.lean ====
/-
  The down projection's gradient of its weight: the transposed activations times the gradient, an output tile at a time, the
  rows of the batch in eight runs of 1024 that are added up in a scratch tile.
  Each entry is the sum over the 8192 rows, in the kernel and in the reference alike.
-/
module

public import proofs.«01_k».proof.Defs
public import proofs.«01_k».proof.Proof.Gen.KernelDownW
public import proofs.«01_k».proof.Proof.Gen.KernelDownWIdeal
public import proofs.«01_k».proof.Proof.Gen.KernelDownWIdeal.Frame
public import proofs.«01_k».proof.Proof.Gen.KernelDownWIdeal.Value
public import proofs.«01_k».proof.Proof.Gen.ReferenceDownWIdeal
public import proofs.«01_k».proof.Proof.Gen.ReferenceDownWIdeal.Run
public import proofs.«01_k».proof.Proof.Gen.ReferenceDownWIdeal.Read
public import proofs.«01_k».proof.Proof.Sums
public import proofs.«01_k».proof.Proof.Vals
public import Idealize.ShloMosaic.Lib.Pipeline.ValueKit
public import Idealize.ShloMosaic.Lib.Claim

@[expose] public section

set_option maxRecDepth 16384

noncomputable section

namespace Cert.Proof.DownW

open Cert.KernelDownWIdeal Cert.KernelDownWIdeal.Gen Cert.KernelDownWIdeal.Value
open Idealize.ShloMosaic Idealize.ShloMosaic.TcCoe Idealize.SL.Sem
open Idealize.ShloMosaic.Pipeline (Dat)
open Finset

theorem hz : (![0, 0] : Fin 2 → ℕ) = fun _ => 0 := by
  funext a
  match a with
  | 0 => rfl
  | 1 => rfl

/-- The product of the columns of one array with the columns of the other. -/
def colsByCols (x : FVec Ideal S8192x2816 .bf16) (w : FVec Ideal S8192x1024 .f32) : FVec Ideal S2816x1024 .f32 :=
  fun i => ∑ k : Fin 8192, (x (ix2 k (i 0)) : EReal) * w (ix2 k (i 1))

/-- One run of rows. -/
theorem pay_apply (x : FVec Ideal S1024x1408 .bf16) (w : FVec Ideal S1024x1024 .f32) (y : S1408x1024.Idx) :
    k0_pay1 (F := Ideal) x w y = ∑ k : Fin 1024, (x (ix2 k (y 0)) : EReal) * w (ix2 k (y 1)) := by
  idx_vars y
  pointwise [k0_pay1]

section Cases

variable {F : FTy → Type} [FloatOps F]
variable (c : Dev nD) (i : grid0.Coords) (a3 : Memref sig .tc .vmem S1024x1408 .bf16) (h3 : a3.IsWhole) (a4 : Memref sig .tc .vmem S1024x1024 .f32) (h4 : a4.IsWhole)
  (a5 : Memref sig .tc .vmem S1408x1024 .f32) (h5 : a5.IsWhole) (a6 : Memref sig .tc .vmem S1408x1024 .f32) (h6 : a6.IsWhole)
  (x : Vec F S1024x1408 .bf16) (w : Vec F S1024x1024 .f32) (acc : Vec F S1408x1024 .f32)

/-- The first run of rows starts the scratch tile. -/
theorem scratch_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, View.ld_unit_zero (S := S1024x1024) hz, View.ld_unit_zero (S := S1024x1408) hz, View.ld_unit_zero (S := S1408x1024) hz, shapeCast_self]

/-- A later run adds to it. -/
theorem scratch_B (hc0 : ¬cond0_0 i) (hc1 : cond0_1 i) (hc2 : ¬cond0_2 i) :
    sout0_B_0 c i a3 h3 a4 h4 a5 h5 a6 h6 hc0 hc1 hc2 x w acc = addf acc (k0_pay1 x w) := by
  unfold sout0_B_0
  rw [View.read_writes_eq_canon _ _ _ (scover0_B_0 c i a3 h3 a4 h4 a5 h5 a6 h6 hc0 hc1 hc2 x w acc)]
  unfold kernelRun0_B
  dsimp only
  sl_unfold_words
  rw [View.canon_unit_zero hz]
  unfold k0_pay3
  simp only [View.readAt_eq_ld, h3.read_unread, h4.read_unread, h6.read_unread, View.ld_unit_zero (S := S1024x1024) hz, View.ld_unit_zero (S := S1024x1408) hz, View.ld_unit_zero (S := S1408x1024) hz, shapeCast_self]

/-- The last run too, and what the scratch tile then holds goes out. -/
theorem out_C (hc0 : ¬cond0_0 i) (hc1 : cond0_1 i) (hc2 : cond0_2 i) :
    out0_C_2 c i a3 h3 a4 h4 a5 h5 a6 h6 hc0 hc1 hc2 x w acc = addf acc (k0_pay1 x w) := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero hz, View.readCov_unit_zero (S := S1408x1024) _ hz]
  unfold k0_pay3
  simp only [View.readAt_eq_ld, h3.read_unread, h4.read_unread, h6.read_unread, View.ld_unit_zero (S := S1024x1024) hz, View.ld_unit_zero (S := S1024x1408) hz, View.ld_unit_zero (S := S1408x1024) hz, shapeCast_self]

end Cases

variable (m : (ℓ : Loc nD τ sig) → Buf (Elt Ideal) ℓ) (c : Dev nD)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- What run `r` of the rows adds at place `i` of the result. -/
def part (x : FVec Ideal S8192x2816 .bf16) (w : FVec Ideal S8192x1024 .f32) (i : S2816x1024.Idx) (r : Fin 8) : EReal :=
  ∑ k : Fin 1024, (x (ix2 (⟨1024 * r.val + k.val, by omega⟩ : Fin 8192) (i 0)) : EReal) * w (ix2 (⟨1024 * r.val + k.val, by omega⟩ : Fin 8192) (i 1))

theorem sum_part (x : FVec Ideal S8192x2816 .bf16) (w : FVec Ideal S8192x1024 .f32) (i : S2816x1024.Idx) : ∑ r : Fin 8, part x w i r = colsByCols x w i :=
  Sums.sum_runs 8 1024 8192 rfl fun k => (x (ix2 k (i 0)) : EReal) * w (ix2 k (i 1))

/-- One point's product, in terms of the arguments. -/
theorem pay_at (t : Fin cfg0.N) (y : S1408x1024.Idx) (i : S2816x1024.Idx) (e0 : (i 0).val = 1408 * (t.val / 8) + (y 0).val) (e1 : (i 1).val = (y 1).val) :
    k0_pay1 (F := Ideal) (iblk m c 0 t) (iblk m c 1 t) y
      = part (m ((c : Thread nD τ).loc main_arg0)) (m ((c : Thread nD τ).loc main_arg1)) i ⟨t.val % 8, Nat.mod_lt _ (by decide)⟩ := by
  have ht : t.val < 16 := t.isLt
  refine (pay_apply _ _ y).trans ?_
  unfold part
  refine Finset.sum_congr rfl fun k _ => ?_
  refine congrArg₂ (fun a b : EReal => a * b) ?_ ?_
  · refine (congrFun (V_main_arg0 m c) (((cfg0.win 0).blk t).view.emb (ix2 k (y 0)))).trans ?_
    refine congrArg (m ((c : Thread nD τ).loc main_arg0)) ?_
    blk_ext [idx t]
  · refine (congrFun (V_main_arg1 m c) (((cfg0.win 1).blk t).view.emb (ix2 k (y 1)))).trans ?_
    refine congrArg (m ((c : Thread nD τ).loc main_arg1)) ?_
    blk_ext [idx t]

/-- The scratch tile holds the sum of the runs so far. -/
theorem scratch_at (q : ℕ) (hq : q < 2) (y : S1408x1024.Idx) (i : S2816x1024.Idx) (e0 : (i 0).val = 1408 * q + (y 0).val) (e1 : (i 1).val = (y 1).val) :
    ∀ (j : ℕ) (hj : j < 7) (h : 8 * q + j < cfg0.N), (outsAt0 m c (8 * q + j) h).2 y
      = ∑ r : Fin (j + 1), part (m ((c : Thread nD τ).loc main_arg0)) (m ((c : Thread nD τ).loc main_arg1)) i ⟨r.val, by omega⟩
  | 0, hj, h => by
    rw [outsAt0_A m c ⟨8 * q + 0, h⟩ (by dsimp only; omega) (by dsimp only; omega) (by dsimp only; omega)]
    dsimp only
    rw [scratch_A, Fin.sum_univ_one]
    refine (pay_at m c ⟨8 * q + 0, h⟩ y i (by dsimp only; omega) e1).trans (congrArg _ (Fin.ext ?_))
    show (8 * q + 0) % 8 = 0
    omega
  | j + 1, hj, h => by
    rw [outsAt0_B m c ⟨8 * q + (j + 1), h⟩ (by dsimp only; omega) (by dsimp only; omega) (by dsimp only; omega)]
    dsimp only
    rw [scratch_B, Fin.sum_univ_castSucc]
    refine congrArg₂ (fun a b : EReal => a + b) ?_ ?_
    · exact scratch_at q hq y i e0 e1 j (by omega) (by omega)
    · refine (pay_at m c ⟨8 * q + (j + 1), h⟩ y i (by dsimp only; omega) e1).trans (congrArg _ (Fin.ext ?_))
      show (8 * q + (j + 1)) % 8 = j + 1
      omega

/-- What goes out after the last run is the whole sum. -/
theorem out_at (q : ℕ) (hq : q < 2) (y : S1408x1024.Idx) (i : S2816x1024.Idx) (e0 : (i 0).val = 1408 * q + (y 0).val) (e1 : (i 1).val = (y 1).val) (h : 8 * q + 7 < cfg0.N) :
    (outsAt0 m c (8 * q + 7) h).1 y = colsByCols (m ((c : Thread nD τ).loc main_arg0)) (m ((c : Thread nD τ).loc main_arg1)) i := by
  rw [outsAt0_C m c ⟨8 * q + 7, h⟩ (by dsimp only; omega) (by dsimp only; omega) (by dsimp only; omega)]
  dsimp only
  rw [out_C, ← sum_part, Fin.sum_univ_castSucc]
  refine congrArg₂ (fun a b : EReal => a + b) ?_ ?_
  · exact scratch_at m c q hq y i e0 e1 6 (by omega) (by omega)
  · refine (pay_at m c ⟨8 * q + 7, h⟩ y i (by dsimp only; omega) e1).trans (congrArg _ (Fin.ext ?_))
    show (8 * q + 7) % 8 = 7
    omega

/-- The array after the run. -/
theorem final : (dats m 0 c).arrAt 2 cfg0.N = colsByCols (m ((c : Thread nD τ).loc main_arg0)) (m ((c : Thread nD τ).loc main_arg1)) := by
  refine (dats m 0 c).arrAt_eq_of_covers 2 _ (by decide +kernel) fun t hf y => ?_
  have ht : t.val < 16 := t.isLt
  have h7 : t.val % 8 = 7 := (flush0_2 t).mp hf
  have y0 : (y 0).val < 1408 := (y 0).isLt
  have y1 : (y 1).val < 1024 := (y 1).isLt
  have e0 : ((((cfg0.win 2).blk t).view.emb y) 0).val = 1408 * (t.val / 8) + (y 0).val := by
    blk_simp [idx t]
    omega
  have e1 : ((((cfg0.win 2).blk t).view.emb y) 1).val = (y 1).val := by
    blk_simp [idx t]
  have en : ∀ (n : ℕ) (hn : n < cfg0.N), n = 8 * (t.val / 8) + 7 → (outsAt0 m c n hn).1 y
      = colsByCols (m ((c : Thread nD τ).loc main_arg0)) (m ((c : Thread nD τ).loc main_arg1)) (((cfg0.win 2).blk t).view.emb y) := by
    rintro n hn rfl
    exact out_at m c (t.val / 8) (by omega) y _ e0 e1 hn
  blk_simp
  rw [after0_2]
  exact en t.val t.isLt (by omega)

/-- The reference's array. -/
theorem ref_val (x : FVec Ideal S8192x2816 .bf16) (w : FVec Ideal S8192x1024 .f32) : ReferenceDownWIdeal.Read.val_main_v4 (F := Ideal) x w = colsByCols x w := by
  funext i
  refine (ReferenceDownWIdeal.Read.val_main_v4_apply (F := Ideal) x w i).trans ((ReferenceDownWIdeal.Read.val_main_v3_apply x w _).trans (Finset.sum_congr rfl fun k _ => ?_))
  refine (mul_comm _ _).trans (congrArg₂ (fun a b : EReal => a * b) (congrArg x ?_) (congrArg w ?_)) <;>
  · funext a
    match a with
    | ⟨0, _⟩ => rfl
    | ⟨1, _⟩ => rfl

theorem frame_ideal : Cert.quiescent_KernelDownWIdeal := fun m ρ _ => Cert.KernelDownWIdeal.Gen.frame m ρ

theorem frame_reference : Cert.quiescent_ReferenceDownWIdeal := by
  intro m g _
  hlo_run
  · exact fun _ => ⟨trivial, trivial⟩
  · exact sem_eq_zero_of_no_sems rfl _

theorem value : Cert.algebraic_KernelDownWIdeal_ReferenceDownWIdeal := by
  intro m g m' g' _ hagree
  refine ⟨fun c => colsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceDownWIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelDownW.defs₀ F _ Cert.KernelDownW.Gen.facts = @Cert.KernelDownWIdeal.defs₀ F _ Cert.KernelDownWIdeal.Gen.facts := by
  unfold Cert.KernelDownW.defs₀ Cert.KernelDownWIdeal.defs₀
  refine congrArg Defs.onTc ?_
  funext l x
  match l, x with
  | 0, (t, s) => exact rfl

theorem defs_same : @Cert.KernelDownW.defs F _ Cert.KernelDownW.Gen.facts = @Cert.KernelDownWIdeal.defs F _ Cert.KernelDownWIdeal.Gen.facts := by
  unfold Cert.KernelDownW.defs Cert.KernelDownWIdeal.defs
  rw [bodies_same]
  rfl

theorem main_same : @Cert.KernelDownW.main F _ = @Cert.KernelDownWIdeal.main F _ := rfl

end Printed

theorem frame_printed : Cert.quiescent_KernelDownW := fun m ρ _ =>
  (congrArg₂ (fun d p => θ_run d (onTc p) _ _) (defs_same (F := Bits)) (main_same (F := Bits))).mpr
    (Cert.KernelDownWIdeal.Gen.frame (F := Bits) m ρ)

end Cert.Proof.DownW
end
-- ==== Proof.DownVal.lean ====
/-
  The down projection's gradient of its input: one row block of the incoming gradient against the whole weight at a time.
  Each entry is the sum over the model's 1024 channels, in the kernel and in the reference alike.
-/
module

public import proofs.«01_k».proof.Defs
public import proofs.«01_k».proof.Proof.Gen.KernelDown
public import proofs.«01_k».proof.Proof.Gen.KernelDownIdeal
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Vals
public import Idealize.ShloMosaic.Lib.Pipeline.ValueKit
public import Idealize.ShloMosaic.Lib.Claim

@[expose] public section

set_option maxRecDepth 16384

noncomputable section

namespace Cert.Proof.Down

open Cert.KernelDownIdeal Cert.KernelDownIdeal.Gen Cert.KernelDownIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The product of the rows of one array with the rows of the other. -/
def rowsByRows (x : FVec Ideal S8192x1024 .f32) (w : FVec Ideal S2816x1024 .bf16) : FVec Ideal S8192x2816 .bf16 :=
  fun i => ∑ k : Fin 1024, (x (ix2 (i 0) k) : EReal) * w (ix2 (i 1) k)

/-- One block of the kernel. -/
theorem pay_apply (x : FVec Ideal S512x1024 .f32) (w : FVec Ideal S2816x1024 .bf16) (y : S512x2816.Idx) :
    k0_pay1 (F := Ideal) x w y = ∑ k : Fin 1024, (x (ix2 (y 0) k) : EReal) * w (ix2 (y 1) k) := by
  idx_vars y
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem hz : (![0, 0] : Fin 2 → ℕ) = fun _ => 0 := by
  funext a
  match a with
  | 0 => rfl
  | 1 => rfl

theorem out_eq (x : Vec Ideal S512x1024 .f32) (w : Vec Ideal S2816x1024 .bf16) : out0_2 (F := Ideal) x w = k0_pay1 (F := Ideal) x w := by
  unfold out0_2
  rw [View.canon_unit_zero hz]
  exact congrArg₂ (k0_pay1 (F := Ideal)) (View.ld_unit_zero (S := S512x1024) hz _ x) (View.ld_unit_zero (S := S2816x1024) hz _ w)

/-- The array after the run. -/
theorem final : (dats m 0 c).arrAt 2 cfg0.N = rowsByRows (m ((c : Thread nD τ).loc main_arg0)) (m ((c : Thread nD τ).loc main_arg1)) := by
  refine (dats m 0 c).arrAt_eq_of_covers 2 _ (by decide +kernel) fun t hf y => ?_
  have ht : t.val < 16 := t.isLt
  have y0 : (y 0).val < 512 := (y 0).isLt
  have y1 : (y 1).val < 2816 := (y 1).isLt
  blk_simp
  rw [after0_2, out_eq]
  refine (pay_apply _ _ y).trans ?_
  unfold rowsByRows
  refine Finset.sum_congr rfl fun k _ => ?_
  refine congrArg₂ (fun a b : EReal => a * b) ?_ ?_
  · refine (congrFun (V_main_arg0 m c) (((cfg0.win 0).blk t).view.emb (ix2 (y 0) k))).trans ?_
    refine congrArg (m ((c : Thread nD τ).loc main_arg0)) ?_
    blk_ext [idx t]
  · refine (congrFun (V_main_arg1 m c) (((cfg0.win 1).blk t).view.emb (ix2 (y 1) k))).trans ?_
    refine congrArg (m ((c : Thread nD τ).loc main_arg1)) ?_
    blk_ext [idx t]

/-- The reference's array. -/
theorem ref_val (x : FVec Ideal S8192x1024 .f32) (w : FVec Ideal S2816x1024 .bf16) : ReferenceDownIdeal.Read.val_main_v4 (F := Ideal) x w = rowsByRows x w := by
  funext i
  refine (ReferenceDownIdeal.Read.val_main_v3_apply x w i).trans (Finset.sum_congr rfl fun k _ => ?_)
  refine congrArg₂ (fun a b : EReal => a * b) (congrArg x ?_) (congrArg w ?_) <;>
  · funext a
    match a with
    | ⟨0, _⟩ => rfl
    | ⟨1, _⟩ => rfl

theorem frame_ideal : Cert.quiescent_KernelDownIdeal := fun m ρ _ => Cert.KernelDownIdeal.Gen.frame m ρ

theorem frame_reference : Cert.quiescent_ReferenceDownIdeal := by
  intro m g _
  hlo_run
  · exact fun _ => ⟨trivial, trivial⟩
  · exact sem_eq_zero_of_no_sems rfl _

theorem value : Cert.algebraic_KernelDownIdeal_ReferenceDownIdeal := by
  intro m g m' g' _ hagree
  refine ⟨fun c => rowsByRows (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceDownIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelDown.defs₀ F _ Cert.KernelDown.Gen.facts = @Cert.KernelDownIdeal.defs₀ F _ Cert.KernelDownIdeal.Gen.facts := by
  unfold Cert.KernelDown.defs₀ Cert.KernelDownIdeal.defs₀
  refine congrArg Defs.onTc ?_
  funext l x
  match l, x with
  | 0, (t, s) => exact rfl

theorem defs_same : @Cert.KernelDown.defs F _ Cert.KernelDown.Gen.facts = @Cert.KernelDownIdeal.defs F _ Cert.KernelDownIdeal.Gen.facts := by
  unfold Cert.KernelDown.defs Cert.KernelDownIdeal.defs
  rw [bodies_same]
  rfl

theorem main_same : @Cert.KernelDown.main F _ = @Cert.KernelDownIdeal.main F _ := rfl

end Printed

theorem frame_printed : Cert.quiescent_KernelDown := fun m ρ _ =>
  (congrArg₂ (fun d p => θ_run d (onTc p) _ _) (defs_same (F := Bits)) (main_same (F := Bits))).mpr
    (Cert.KernelDownIdeal.Gen.frame (F := Bits) m ρ)

end Cert.Proof.Down
end
-- ==== Proof.NormUpVal.lean ====
/-
  The norm before the feed-forward block and the up projection's first half.
  The kernel does 512 rows at a time: the rows' norm, the normed rows as one result, and their product with the weight as the
  other. Over the extended reals this is what the reference computes.
-/
module

public import proofs.«01_k».proof.Defs
public import proofs.«01_k».proof.Proof.Gen.KernelNormUp
public import proofs.«01_k».proof.Proof.Gen.KernelNormUpIdeal
public import proofs.«01_k».proof.Proof.Gen.KernelNormUpIdeal.Frame
public import proofs.«01_k».proof.Proof.Gen.KernelNormUpIdeal.Value
public import proofs.«01_k».proof.Proof.Gen.ReferenceNormUpIdeal
public import proofs.«01_k».proof.Proof.Gen.ReferenceNormUpIdeal.Run
public import proofs.«01_k».proof.Proof.Gen.ReferenceNormUpIdeal.Read
public import proofs.«01_k».proof.Proof.Ext
public import Idealize.ShloMosaic.Lib.Pipeline.ValueKit
public import Idealize.ShloMosaic.Lib.Claim

@[expose] public section

set_option maxRecDepth 16384

noncomputable section

namespace Cert.Proof.NormUp

open Cert.KernelNormUpIdeal Cert.KernelNormUpIdeal.Gen Cert.KernelNormUpIdeal.Value
open Idealize.ShloMosaic Idealize.ShloMosaic.TcCoe Idealize.SL.Sem
open Idealize.ShloMosaic.Pipeline (Dat)
open Ext
open Finset

/-- One block of the normed rows. -/
theorem pay1 (x : ℕ → ℕ → EReal) (g : ℕ → EReal) : k0_pay1 (F := Ideal) (E2 (φ := .f32) x) (E2 (φ := .f32) fun _ j => g j) = E2 (fun i j => x i j * scale x i * g j) := by
  funext y
  idx_vars y
  pointwise [k0_pay1]
  simp only [E2_ix]
  rw [sum_fin 1024 (fun l => x y0.val l * x y0.val l)]
  rfl

/-- One block of their product with the weight. -/
theorem pay2 (x : ℕ → ℕ → EReal) (g : ℕ → EReal) (w : ℕ → ℕ → EReal) : k0_pay2 (F := Ideal) (E2 (φ := .f32) x) (E2 (φ := .f32) fun _ j => g j) (E2 (φ := .bf16) w)
    = E2 (fun i j => ∑ l ∈ range 1024, x i l * scale x i * g l * w l j) := by
  funext y
  idx_vars y
  pointwise [k0_pay2]
  rw [pay1]
  simp only [E2_ix]
  rw [sum_fin 1024 (fun l => x y0.val l * scale x y0.val * g l * w l y1.val)]

theorem hz : (![0, 0] : Fin 2 → ℕ) = fun _ => 0 := by
  funext a
  match a with
  | 0 => rfl
  | 1 => rfl

theorem out3_eq (x : Vec Ideal S512x1024 .f32) (g : Vec Ideal S1x1024 .f32) (w : Vec Ideal S1024x2816 .bf16) : out0_3 (F := Ideal) x g w = k0_pay2 (F := Ideal) x g w := by
  unfold out0_3
  rw [View.canon_unit_zero hz]
  simp only [View.ld_unit_zero (S := S512x1024) hz, View.ld_unit_zero (S := S1x1024) hz, View.ld_unit_zero (S := S1024x2816) hz]

theorem out4_eq (x : Vec Ideal S512x1024 .f32) (g : Vec Ideal S1x1024 .f32) (w : Vec Ideal S1024x2816 .bf16) : out0_4 (F := Ideal) x g w = k0_pay1 (F := Ideal) x g := by
  unfold out0_4
  rw [View.canon_unit_zero hz]
  simp only [View.ld_unit_zero (S := S512x1024) hz, View.ld_unit_zero (S := S1x1024) hz]

/-- The normed rows. -/
def hnArr (X : ℕ → ℕ → EReal) (g : ℕ → EReal) : FVec Ideal S8192x1024 .bf16 := E2 fun i j => X i j * scale X i * g j

/-- Their product with the weight. -/
def yArr (X W : ℕ → ℕ → EReal) (g : ℕ → EReal) : FVec Ideal S8192x2816 .bf16 := E2 fun i j => ∑ l ∈ range 1024, X i l * scale X i * g l * W l j

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ) (c : Dev nD) (X W : ℕ → ℕ → EReal) (g : ℕ → EReal)

/-- The arguments, by their entries. -/
structure Holds : Prop where
  x : (m ((c : Thread nD τ).loc main_arg0) : FVec Ideal S8192x1024 .f32) = E2 (φ := .f32) X
  g : (m ((c : Thread nD τ).loc main_arg1) : FVec Ideal S1024 .f32) = E1 (φ := .f32) g
  w : (m ((c : Thread nD τ).loc main_arg2) : FVec Ideal S1024x5632 .bf16) = E2 (φ := .bf16) W

theorem Vw : V m c main_v0 = extractStridedSlice S1024x2816 ![0, 0] (m ((c : Thread nD τ).loc main_arg2)) slices_S1024x5632_S1024x2816_0_0 := by
  unfold V
  simp only [hostOps0, List.flatten_cons, List.flatten_nil, List.append_nil, StableHlo.TRef.unary, StableHlo.TRef.toBuf, StableHlo.TRef.ofBuf, cast_eq]
  after_results_simp

theorem Vg : V m c main_v1 = shapeCast S1x1024 (m ((c : Thread nD τ).loc main_arg1)) shapeCasts_S1024_S1x1024 := by
  unfold V
  simp only [hostOps0, List.flatten_cons, List.flatten_nil, List.append_nil, StableHlo.TRef.unary, StableHlo.TRef.toBuf, StableHlo.TRef.ofBuf, cast_eq]
  after_results_simp
  rfl

variable (h : Holds m c X W g)

section Blocks

include h

theorem blk0 (t : Fin cfg0.N) : (iblk m c 0 t : FVec Ideal S512x1024 .f32) = E2 (φ := .f32) fun i j => X (512 * t.val + i) j := by
  funext y
  refine (congrFun ((V_main_arg0 m c).trans h.x) (((cfg0.win 0).blk t).view.emb y)).trans ?_
  unfold E2
  blk_simp [idx t]
  exact (congrArg₂ X (by omega) (by omega))

theorem g_eq : V m c main_v1 = (E2 (φ := .f32) fun _ j => g j : FVec Ideal S1x1024 .f32) := by
  rw [Vg]
  refine (congrArg (fun w => shapeCast S1x1024 w shapeCasts_S1024_S1x1024) h.g).trans ?_
  funext y
  idx_vars y
  pointwise
  rfl

theorem blk1 (t : Fin cfg0.N) : (iblk m c 1 t : FVec Ideal S1x1024 .f32) = E2 (φ := .f32) fun _ j => g j := by
  funext y
  refine (congrFun (g_eq m c X W g h) (((cfg0.win 1).blk t).view.emb y)).trans ?_
  unfold E2
  blk_simp [idx t]

theorem w_eq : V m c main_v0 = (E2 (φ := .bf16) W : FVec Ideal S1024x2816 .bf16) := by
  rw [Vw]
  refine (congrArg (fun w => extractStridedSlice S1024x2816 ![0, 0] w slices_S1024x5632_S1024x2816_0_0) h.w).trans ?_
  funext y
  idx_vars y
  pointwise
  rfl

theorem blk2 (t : Fin cfg0.N) : (iblk m c 2 t : FVec Ideal S1024x2816 .bf16) = E2 (φ := .bf16) W := by
  funext y
  refine (congrFun (w_eq m c X W g h) (((cfg0.win 2).blk t).view.emb y)).trans ?_
  unfold E2
  blk_simp [idx t]

theorem final3 : (dats m 0 c).arrAt 3 cfg0.N = yArr X W g := by
  refine (dats m 0 c).arrAt_eq_of_covers 3 _ (by decide +kernel) fun t hf y => ?_
  have ht : t.val < 16 := t.isLt
  have y0 : (y 0).val < 512 := (y 0).isLt
  have y1 : (y 1).val < 2816 := (y 1).isLt
  blk_simp
  rw [after0_3, out3_eq, blk0 m c X W g h, blk1 m c X W g h, blk2 m c X W g h, pay2]
  unfold yArr E2
  blk_simp [idx t]
  have e : t.val * 512 + (y 0).val = 512 * t.val + (y 0).val := by omega
  rw [e]
  rfl

theorem final4 : (dats m 0 c).arrAt 4 cfg0.N = hnArr X g := by
  refine (dats m 0 c).arrAt_eq_of_covers 4 _ (by decide +kernel) fun t hf y => ?_
  have ht : t.val < 16 := t.isLt
  have y0 : (y 0).val < 512 := (y 0).isLt
  have y1 : (y 1).val < 1024 := (y 1).isLt
  blk_simp
  rw [after0_4, out4_eq, blk0 m c X W g h, blk1 m c X W g h, pay1]
  unfold hnArr E2
  blk_simp [idx t]
  have e : t.val * 512 + (y 0).val = 512 * t.val + (y 0).val := by omega
  rw [e]
  rfl

end Blocks

section Reference

open Cert.ReferenceNormUpIdeal Cert.ReferenceNormUpIdeal.Read

theorem r6 (i) : val_main_v6 (F := Ideal) (E2 (φ := .f32) X) i = ms X (i 0).val := by
  rw [val_main_v6_apply (F := Ideal), val_main_v4_apply (F := Ideal), val_main_v2_apply (F := Ideal), val_main_v1_apply, val_main_v3_apply (F := Ideal), val_main_v5_apply (F := Ideal),
    val_main_cst_apply (F := Ideal), val_main_cst_0_apply (F := Ideal), val_main_cst_1_apply (F := Ideal), zero_bits, zero_add]
  have e : (∑ k : Fin 1024, val_main_v0 (F := Ideal) (E2 (φ := .f32) X) (idx_main_v1 (idx_main_v2 i) k)) = ∑ k ∈ range 1024, X (i 0).val k * X (i 0).val k :=
    sum_fin 1024 fun k => X (i 0).val k * X (i 0).val k
  rw [e]
  rfl

theorem r12 (i) : val_main_v12 (F := Ideal) (E2 (φ := .f32) X) (E1 (φ := .f32) g) i = X (i 0).val (i 1).val * scale X (i 0).val * g (i 1).val := by
  rw [val_main_v12_apply (F := Ideal), val_main_v9_apply (F := Ideal), val_main_v8_apply (F := Ideal), val_main_v7_apply (F := Ideal), r6, val_main_v11_apply (F := Ideal), val_main_v10_apply (F := Ideal)]
  rfl

theorem ref_hn : val_main_v17 (F := Ideal) (E2 (φ := .f32) X) (E1 (φ := .f32) g) = hnArr X g := by
  funext i
  rw [val_main_v17_apply (F := Ideal), r12]
  rfl

theorem ref_y : val_main_v16 (F := Ideal) (E2 (φ := .f32) X) (E1 (φ := .f32) g) (E2 (φ := .bf16) W) = yArr X W g := by
  funext i
  rw [val_main_v16_apply (F := Ideal)]
  refine (val_main_v15_apply _ _ _ i).trans ?_
  unfold yArr E2
  refine Eq.trans ?_ (sum_fin 1024 fun l => X (i 0).val l * scale X (i 0).val * g l * W l (i 1).val)
  refine Finset.sum_congr rfl fun k _ => ?_
  refine congrArg₂ (fun a b : EReal => a * b) (r12 X g _) ?_
  rw [val_main_v14_apply (F := Ideal), val_main_v13_apply (F := Ideal)]
  rfl

end Reference

theorem frame_ideal : Cert.quiescent_KernelNormUpIdeal := fun m ρ _ => Cert.KernelNormUpIdeal.Gen.frame m ρ

theorem frame_reference : Cert.quiescent_ReferenceNormUpIdeal := by
  intro m g _
  hlo_run
  · exact fun _ => ⟨trivial, trivial, trivial⟩
  · exact sem_eq_zero_of_no_sems rfl _

/-- Both programs compute the normed rows and their product with the weight. -/
theorem value : Cert.algebraic_KernelNormUpIdeal_ReferenceNormUpIdeal := by
  intro m g m' g' _ hagree
  let X := fun c : Dev KernelNormUpIdeal.nD => vals (m := 8192) (n := 1024) (φ := .f32) (m ((c.tc : Thread KernelNormUpIdeal.nD KernelNormUpIdeal.τ).loc KernelNormUpIdeal.main_arg0))
  let G := fun c : Dev KernelNormUpIdeal.nD => vals1 (n := 1024) (φ := .f32) (m ((c.tc : Thread KernelNormUpIdeal.nD KernelNormUpIdeal.τ).loc KernelNormUpIdeal.main_arg1))
  let W := fun c : Dev KernelNormUpIdeal.nD => vals (m := 1024) (n := 5632) (φ := .bf16) (m ((c.tc : Thread KernelNormUpIdeal.nD KernelNormUpIdeal.τ).loc KernelNormUpIdeal.main_arg2))
  have hholds : ∀ c, Holds m c (X c) (W c) (G c) := fun c => ⟨vals_eq _, vals1_eq _, vals_eq _⟩
  refine ⟨fun c => yArr (X c) (W c) (G c), fun c => hnArr (X c) (G c), ?_, ?_⟩
  · refine (θ_run _ _ _).mono (fun r h c => ?_) (KernelNormUpIdeal.Value.run_blocks (F := Ideal) m g)
    obtain ⟨h0, h1, h2⟩ := h c
    exact ⟨h0.trans (final3 m c _ _ _ (hholds c)), h1.trans (final4 m c _ _ _ (hholds c)), h2⟩
  · refine (θ_run _ _ _).mono (fun r h c => ?_) (ReferenceNormUpIdeal.Value.run (F := Ideal) m' g')
    obtain ⟨e0, e1, e2⟩ := hagree c
    obtain ⟨h0, h1, h2⟩ := h c
    refine ⟨h0.trans ((ReferenceNormUpIdeal.Read.val_main_v16_eq _ _ _).trans ?_), h1.trans ((ReferenceNormUpIdeal.Read.val_main_v17_eq _ _).trans ?_), h2⟩
    · rw [e0, e1, e2, (hholds c).x, (hholds c).g, (hholds c).w]
      exact ref_y _ _ _
    · rw [e0, e1, (hholds c).x, (hholds c).g]
      exact ref_hn _ _

section Printed

variable {F : FTy → Type} [FloatOps F]

/-- The printed kernel is the idealized kernel's text. -/
theorem bodies_same : @Cert.KernelNormUp.defs₀ F _ Cert.KernelNormUp.Gen.facts = @Cert.KernelNormUpIdeal.defs₀ F _ Cert.KernelNormUpIdeal.Gen.facts := by
  unfold Cert.KernelNormUp.defs₀ Cert.KernelNormUpIdeal.defs₀
  refine congrArg Defs.onTc ?_
  funext l x
  match l, x with
  | 0, (t, s) => exact rfl

theorem defs_same : @Cert.KernelNormUp.defs F _ Cert.KernelNormUp.Gen.facts = @Cert.KernelNormUpIdeal.defs F _ Cert.KernelNormUpIdeal.Gen.facts := by
  unfold Cert.KernelNormUp.defs Cert.KernelNormUpIdeal.defs
  rw [bodies_same]
  rfl

theorem main_same : @Cert.KernelNormUp.main F _ = @Cert.KernelNormUpIdeal.main F _ := rfl

end Printed

theorem frame_printed : Cert.quiescent_KernelNormUp := fun m ρ _ =>
  (congrArg₂ (fun d p => θ_run d (onTc p) _ _) (defs_same (F := Bits)) (main_same (F := Bits))).mpr
    (Cert.KernelNormUpIdeal.Gen.frame (F := Bits) m ρ)

end Cert.Proof.NormUp
end
-- ==== Proof.UpVVal.lean ====
/-
  The up projection's second half: one row block of the normed activations against the second half of the weight's columns at a time.
  Each entry is the sum over the model's 1024 channels, in the kernel and in the reference alike.
-/
module

public import proofs.«01_k».proof.Defs
public import proofs.«01_k».proof.Proof.Gen.KernelUpV
public import proofs.«01_k».proof.Proof.Gen.KernelUpVIdeal
public import proofs.«01_k».proof.Proof.Gen.KernelUpVIdeal.Frame
public import proofs.«01_k».proof.Proof.Gen.KernelUpVIdeal.Value
public import proofs.«01_k».proof.Proof.Gen.ReferenceUpVIdeal
public import proofs.«01_k».proof.Proof.Gen.ReferenceUpVIdeal.Run
public import proofs.«01_k».proof.Proof.Gen.ReferenceUpVIdeal.Read
public import proofs.«01_k».proof.Proof.Vals
public import Idealize.ShloMosaic.Lib.Pipeline.ValueKit
public import Idealize.ShloMosaic.Lib.Claim

@[expose] public section

set_option maxRecDepth 16384

noncomputable section

namespace Cert.Proof.UpV

open Cert.KernelUpVIdeal Cert.KernelUpVIdeal.Gen Cert.KernelUpVIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The product of the rows of one array with the columns of the other, from column 2816 on. -/
def rowsByCols (x : FVec Ideal S8192x1024 .bf16) (w : FVec Ideal S1024x5632 .bf16) : FVec Ideal S8192x2816 .bf16 :=
  fun i => ∑ k : Fin 1024, (x (ix2 (i 0) k) : EReal) * w (ix2 k (⟨2816 + (i 1).val, by have : (i 1).val < 2816 := (i 1).isLt; omega⟩ : Fin 5632))

/-- One block of the kernel. -/
theorem pay_apply (x : FVec Ideal S512x1024 .bf16) (w : FVec Ideal S1024x2816 .bf16) (y : S512x2816.Idx) :
    k0_pay1 (F := Ideal) x w y = ∑ k : Fin 1024, (x (ix2 (y 0) k) : EReal) * w (ix2 k (y 1)) := by
  idx_vars y
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem hz : (![0, 0] : Fin 2 → ℕ) = fun _ => 0 := by
  funext a
  match a with
  | 0 => rfl
  | 1 => rfl

theorem out_eq (x : Vec Ideal S512x1024 .bf16) (w : Vec Ideal S1024x2816 .bf16) : out0_2 (F := Ideal) x w = k0_pay1 (F := Ideal) x w := by
  unfold out0_2
  rw [View.canon_unit_zero hz]
  simp only [View.ld_unit_zero (S := S512x1024) hz, View.ld_unit_zero (S := S1024x2816) hz, View.ld_unit_zero (S := S512x2816) hz]

theorem V0 : V m c main_v0 = extractStridedSlice S1024x2816 ![0, 2816] (m ((c : Thread nD τ).loc main_arg1)) slices_S1024x5632_S1024x2816_0_2816 := by
  unfold V
  simp only [hostOps0, List.flatten_cons, List.flatten_nil, List.append_nil, StableHlo.TRef.unary, StableHlo.TRef.toBuf, StableHlo.TRef.ofBuf, cast_eq]
  after_results_simp

/-- The kernel's weight is a run of columns of the whole one. -/
theorem w_apply (a : Fin 1024) (b : Fin 2816) : (V m c main_v0 : FVec Ideal S1024x2816 .bf16) (ix2 a b) = (m ((c : Thread nD τ).loc main_arg1) : FVec Ideal S1024x5632 .bf16) (ix2 a (⟨2816 + b.val, by omega⟩ : Fin 5632)) := by
  rw [V0]
  pointwise

/-- The array after the run. -/
theorem final : (dats m 0 c).arrAt 2 cfg0.N = rowsByCols (m ((c : Thread nD τ).loc main_arg0)) (m ((c : Thread nD τ).loc main_arg1)) := by
  refine (dats m 0 c).arrAt_eq_of_covers 2 _ (by decide +kernel) fun t hf y => ?_
  have ht : t.val < 16 := t.isLt
  have y0 : (y 0).val < 512 := (y 0).isLt
  have y1 : (y 1).val < 2816 := (y 1).isLt
  blk_simp
  rw [after0_2, out_eq]
  refine (pay_apply _ _ y).trans ?_
  unfold rowsByCols
  refine Finset.sum_congr rfl fun k _ => ?_
  refine congrArg₂ (fun a b : EReal => a * b) ?_ ?_
  · refine (congrFun (V_main_arg0 m c) (((cfg0.win 0).blk t).view.emb (ix2 (y 0) k))).trans ?_
    refine congrArg (m ((c : Thread nD τ).loc main_arg0)) ?_
    blk_ext [idx t]
  · refine Eq.trans (congrArg (V m c main_v0 : FVec Ideal S1024x2816 .bf16) ?_) ((w_apply m c k (y 1)).trans (congrArg (m ((c : Thread nD τ).loc main_arg1)) ?_))
    · blk_ext [idx t]
    · funext a
      refine Fin.ext ?_
      match a with
      | ⟨0, _⟩ => rfl
      | ⟨1, _⟩ =>
        show 2816 + (y 1).val = 2816 + _
        blk_simp [idx t]

/-- The reference's array. -/
theorem ref_val (x : FVec Ideal S8192x1024 .bf16) (w : FVec Ideal S1024x5632 .bf16) : ReferenceUpVIdeal.Read.val_main_v4 (F := Ideal) x w = rowsByCols x w := by
  funext i
  refine (ReferenceUpVIdeal.Read.val_main_v3_apply x w i).trans (Finset.sum_congr rfl fun k _ => ?_)
  refine congrArg₂ (fun a b : EReal => a * b) (congrArg x ?_) (congrArg w ?_)
  · funext a
    match a with
    | ⟨0, _⟩ => rfl
    | ⟨1, _⟩ => rfl
  · funext a
    match a with
    | ⟨0, _⟩ => exact Fin.ext (Nat.zero_add _)
    | ⟨1, _⟩ => rfl

theorem frame_ideal : Cert.quiescent_KernelUpVIdeal := fun m ρ _ => Cert.KernelUpVIdeal.Gen.frame m ρ

theorem frame_reference : Cert.quiescent_ReferenceUpVIdeal := by
  intro m g _
  hlo_run
  · exact fun _ => ⟨trivial, trivial⟩
  · exact sem_eq_zero_of_no_sems rfl _

theorem value : Cert.algebraic_KernelUpVIdeal_ReferenceUpVIdeal := by
  intro m g m' g' _ hagree
  refine ⟨fun c => rowsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceUpVIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelUpV.defs₀ F _ Cert.KernelUpV.Gen.facts = @Cert.KernelUpVIdeal.defs₀ F _ Cert.KernelUpVIdeal.Gen.facts := by
  unfold Cert.KernelUpV.defs₀ Cert.KernelUpVIdeal.defs₀
  refine congrArg Defs.onTc ?_
  funext l x
  match l, x with
  | 0, (t, s) => exact rfl

theorem defs_same : @Cert.KernelUpV.defs F _ Cert.KernelUpV.Gen.facts = @Cert.KernelUpVIdeal.defs F _ Cert.KernelUpVIdeal.Gen.facts := by
  unfold Cert.KernelUpV.defs Cert.KernelUpVIdeal.defs
  rw [bodies_same]
  rfl

theorem main_same : @Cert.KernelUpV.main F _ = @Cert.KernelUpVIdeal.main F _ := rfl

end Printed

theorem frame_printed : Cert.quiescent_KernelUpV := fun m ρ _ =>
  (congrArg₂ (fun d p => θ_run d (onTc p) _ _) (defs_same (F := Bits)) (main_same (F := Bits))).mpr
    (Cert.KernelUpVIdeal.Gen.frame (F := Bits) m ρ)

end Cert.Proof.UpV
end
-- ==== Proof.DownFVal.lean ====
/-
  The down projection and the residual: one row block of the activations against the whole weight at a time, added to the residual.
  Each entry is the sum over the 2816 hidden channels, plus the residual, in the kernel and in the reference alike.
-/
module

public import proofs.«01_k».proof.Defs
public import proofs.«01_k».proof.Proof.Gen.KernelDownF
public import proofs.«01_k».proof.Proof.Gen.KernelDownFIdeal
public import proofs.«01_k».proof.Proof.Gen.KernelDownFIdeal.Frame
public import proofs.«01_k».proof.Proof.Gen.KernelDownFIdeal.Value
public import proofs.«01_k».proof.Proof.Gen.ReferenceDownFIdeal
public import proofs.«01_k».proof.Proof.Gen.ReferenceDownFIdeal.Run
public import proofs.«01_k».proof.Proof.Gen.ReferenceDownFIdeal.Read
public import proofs.«01_k».proof.Proof.Vals
public import Idealize.ShloMosaic.Lib.Pipeline.ValueKit
public import Idealize.ShloMosaic.Lib.Claim

@[expose] public section

set_option maxRecDepth 16384

noncomputable section

namespace Cert.Proof.DownF

open Cert.KernelDownFIdeal Cert.KernelDownFIdeal.Gen Cert.KernelDownFIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The product of the rows of one array with the columns of the other, added to a third. -/
def rowsByCols (x : FVec Ideal S8192x2816 .bf16) (w : FVec Ideal S2816x1024 .bf16) (h : FVec Ideal S8192x1024 .f32) : FVec Ideal S8192x1024 .f32 :=
  fun i => (h i : EReal) + ∑ k : Fin 2816, (x (ix2 (i 0) k) : EReal) * w (ix2 k (i 1))

/-- One block of the kernel. -/
theorem pay_apply (x : FVec Ideal S512x2816 .bf16) (w : FVec Ideal S2816x1024 .bf16) (h : FVec Ideal S512x1024 .f32) (y : S512x1024.Idx) :
    k0_pay1 (F := Ideal) x w h y = (∑ k : Fin 2816, (x (ix2 (y 0) k) : EReal) * w (ix2 k (y 1))) + (h y : EReal) := by
  idx_vars y
  pointwise [k0_pay1]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem hz : (![0, 0] : Fin 2 → ℕ) = fun _ => 0 := by
  funext a
  match a with
  | 0 => rfl
  | 1 => rfl

theorem out_eq (x : Vec Ideal S512x2816 .bf16) (w : Vec Ideal S2816x1024 .bf16) (h : Vec Ideal S512x1024 .f32) : out0_3 (F := Ideal) x w h = k0_pay1 (F := Ideal) x w h := by
  unfold out0_3
  rw [View.canon_unit_zero hz]
  simp only [View.ld_unit_zero (S := S512x2816) hz, View.ld_unit_zero (S := S2816x1024) hz, View.ld_unit_zero (S := S512x1024) hz]

/-- The array after the run. -/
theorem final : (dats m 0 c).arrAt 3 cfg0.N = rowsByCols (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 16 := t.isLt
  have y0 : (y 0).val < 512 := (y 0).isLt
  have y1 : (y 1).val < 1024 := (y 1).isLt
  blk_simp
  rw [after0_3, out_eq]
  refine (pay_apply _ _ _ y).trans ?_
  unfold rowsByCols
  refine (add_comm _ _).trans (congrArg₂ (fun a b : EReal => a + b) ?_ ?_)
  · refine (congrFun (V_main_arg2 m c) (((cfg0.win 2).blk t).view.emb y)).trans ?_
    refine congrArg (m ((c : Thread nD τ).loc main_arg2)) ?_
    blk_ext [idx t]
  · refine Finset.sum_congr rfl fun k _ => ?_
    refine congrArg₂ (fun a b : EReal => a * b) ?_ ?_
    · refine (congrFun (V_main_arg0 m c) (((cfg0.win 0).blk t).view.emb (ix2 (y 0) k))).trans ?_
      refine congrArg (m ((c : Thread nD τ).loc main_arg0)) ?_
      blk_ext [idx t]
    · refine (congrFun (V_main_arg1 m c) (((cfg0.win 1).blk t).view.emb (ix2 k (y 1)))).trans ?_
      refine congrArg (m ((c : Thread nD τ).loc main_arg1)) ?_
      blk_ext [idx t]

/-- The reference's array. -/
theorem ref_val (x : FVec Ideal S8192x2816 .bf16) (w : FVec Ideal S2816x1024 .bf16) (h : FVec Ideal S8192x1024 .f32) : ReferenceDownFIdeal.Read.val_main_v3 (F := Ideal) x w h = rowsByCols x w h := by
  funext i
  refine (ReferenceDownFIdeal.Read.val_main_v3_apply (F := Ideal) x w h i).trans (congrArg (fun a : EReal => (h i : EReal) + a) ?_)
  refine (ReferenceDownFIdeal.Read.val_main_v2_apply x w i).trans (Finset.sum_congr rfl fun k _ => ?_)
  refine congrArg₂ (fun a b : EReal => a * b) (congrArg x ?_) (congrArg w ?_) <;>
  · funext a
    match a with
    | ⟨0, _⟩ => rfl
    | ⟨1, _⟩ => rfl

theorem frame_ideal : Cert.quiescent_KernelDownFIdeal := fun m ρ _ => Cert.KernelDownFIdeal.Gen.frame m ρ

theorem frame_reference : Cert.quiescent_ReferenceDownFIdeal := by
  intro m g _
  hlo_run
  · exact fun _ => ⟨trivial, trivial, trivial⟩
  · exact sem_eq_zero_of_no_sems rfl _

theorem value : Cert.algebraic_KernelDownFIdeal_ReferenceDownFIdeal := by
  intro m g m' g' _ hagree
  refine ⟨fun c => rowsByCols (m ((c : Thread nD τ).loc main_arg0)) (m ((c : Thread nD τ).loc main_arg1)) (m ((c : Thread nD τ).loc main_arg2)), ?_, ?_⟩
  · refine (θ_run _ _ _).mono (fun r h c => ?_) (run_blocks (F := Ideal) m g)
    obtain ⟨h0, h1, h2, h3⟩ := h c
    exact ⟨h0.trans (final m c), h1, h2, h3⟩
  · refine (θ_run _ _ _).mono (fun r h c => ?_) (ReferenceDownFIdeal.Value.run (F := Ideal) m' g')
    obtain ⟨e0, e1, e2⟩ := hagree c
    obtain ⟨h0, h1, h2, h3⟩ := h c
    refine ⟨h0.trans ?_, h1, h2, h3⟩
    rw [e0, e1, e2]
    exact ref_val _ _ _

section Printed

variable {F : FTy → Type} [FloatOps F]

/-- The printed kernel is the idealized kernel's text. -/
theorem bodies_same : @Cert.KernelDownF.defs₀ F _ Cert.KernelDownF.Gen.facts = @Cert.KernelDownFIdeal.defs₀ F _ Cert.KernelDownFIdeal.Gen.facts := by
  unfold Cert.KernelDownF.defs₀ Cert.KernelDownFIdeal.defs₀
  refine congrArg Defs.onTc ?_
  funext l x
  match l, x with
  | 0, (t, s) => exact rfl

theorem defs_same : @Cert.KernelDownF.defs F _ Cert.KernelDownF.Gen.facts = @Cert.KernelDownFIdeal.defs F _ Cert.KernelDownFIdeal.Gen.facts := by
  unfold Cert.KernelDownF.defs Cert.KernelDownFIdeal.defs
  rw [bodies_same]
  rfl

theorem main_same : @Cert.KernelDownF.main F _ = @Cert.KernelDownFIdeal.main F _ := rfl

end Printed

theorem frame_printed : Cert.quiescent_KernelDownF := fun m ρ _ =>
  (congrArg₂ (fun d p => θ_run d (onTc p) _ _) (defs_same (F := Bits)) (main_same (F := Bits))).mpr
    (Cert.KernelDownFIdeal.Gen.frame (F := Bits) m ρ)

end Cert.Proof.DownF
end
-- ==== Proof.NormQkvVal.lean ====
/-
  The norm before the attention and the projection to queries, keys and values.
  The kernel does 512 rows at a time: the rows' norm, the normed rows as one result, and their product with the weight as the
  other. Over the extended reals this is what the reference computes.
-/
module

public import proofs.«01_k».proof.Defs
public import proofs.«01_k».proof.Proof.Gen.KernelNormQkv
public import proofs.«01_k».proof.Proof.Gen.KernelNormQkvIdeal
public import proofs.«01_k».proof.Proof.Gen.KernelNormQkvIdeal.Frame
public import proofs.«01_k».proof.Proof.Gen.KernelNormQkvIdeal.Value
public import proofs.«01_k».proof.Proof.Gen.ReferenceNormQkvIdeal
public import proofs.«01_k».proof.Proof.Gen.ReferenceNormQkvIdeal.Run
public import proofs.«01_k».proof.Proof.Gen.ReferenceNormQkvIdeal.Read
public import proofs.«01_k».proof.Proof.Ext
public import Idealize.ShloMosaic.Lib.Pipeline.ValueKit
public import Idealize.ShloMosaic.Lib.Claim

@[expose] public section

set_option maxRecDepth 16384

noncomputable section

namespace Cert.Proof.NormQkv

open Cert.KernelNormQkvIdeal Cert.KernelNormQkvIdeal.Gen Cert.KernelNormQkvIdeal.Value
open Idealize.ShloMosaic Idealize.ShloMosaic.TcCoe Idealize.SL.Sem
open Idealize.ShloMosaic.Pipeline (Dat)
open Ext
open Finset

/-- One block of the normed rows. -/
theorem pay1 (x : ℕ → ℕ → EReal) (g : ℕ → EReal) : k0_pay1 (F := Ideal) (E2 (φ := .f32) x) (E2 (φ := .f32) fun _ j => g j) = E2 (fun i j => x i j * scale x i * g j) := by
  funext y
  idx_vars y
  pointwise [k0_pay1]
  simp only [E2_ix]
  rw [sum_fin 1024 (fun l => x y0.val l * x y0.val l)]
  rfl

/-- One block of their product with the weight. -/
theorem pay2 (x : ℕ → ℕ → EReal) (g : ℕ → EReal) (w : ℕ → ℕ → EReal) : k0_pay2 (F := Ideal) (E2 (φ := .f32) x) (E2 (φ := .f32) fun _ j => g j) (E2 (φ := .bf16) w)
    = E2 (fun i j => ∑ l ∈ range 1024, x i l * scale x i * g l * w l j) := by
  funext y
  idx_vars y
  pointwise [k0_pay2]
  rw [pay1]
  simp only [E2_ix]
  rw [sum_fin 1024 (fun l => x y0.val l * scale x y0.val * g l * w l y1.val)]

theorem hz : (![0, 0] : Fin 2 → ℕ) = fun _ => 0 := by
  funext a
  match a with
  | 0 => rfl
  | 1 => rfl

theorem out3_eq (x : Vec Ideal S512x1024 .f32) (g : Vec Ideal S1x1024 .f32) (w : Vec Ideal S1024x3072 .bf16) : out0_3 (F := Ideal) x g w = k0_pay2 (F := Ideal) x g w := by
  unfold out0_3
  rw [View.canon_unit_zero hz]
  simp only [View.ld_unit_zero (S := S512x1024) hz, View.ld_unit_zero (S := S1x1024) hz, View.ld_unit_zero (S := S1024x3072) hz]

theorem out4_eq (x : Vec Ideal S512x1024 .f32) (g : Vec Ideal S1x1024 .f32) (w : Vec Ideal S1024x3072 .bf16) : out0_4 (F := Ideal) x g w = k0_pay1 (F := Ideal) x g := by
  unfold out0_4
  rw [View.canon_unit_zero hz]
  simp only [View.ld_unit_zero (S := S512x1024) hz, View.ld_unit_zero (S := S1x1024) hz]

/-- The normed rows. -/
def hnArr (X : ℕ → ℕ → EReal) (g : ℕ → EReal) : FVec Ideal S8192x1024 .bf16 := E2 fun i j => X i j * scale X i * g j

/-- Their product with the weight. -/
def yArr (X W : ℕ → ℕ → EReal) (g : ℕ → EReal) : FVec Ideal S8192x3072 .bf16 := E2 fun i j => ∑ l ∈ range 1024, X i l * scale X i * g l * W l j

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ) (c : Dev nD) (X W : ℕ → ℕ → EReal) (g : ℕ → EReal)

/-- The arguments, by their entries. -/
structure Holds : Prop where
  x : (m ((c : Thread nD τ).loc main_arg0) : FVec Ideal S8192x1024 .f32) = E2 (φ := .f32) X
  g : (m ((c : Thread nD τ).loc main_arg1) : FVec Ideal S1024 .f32) = E1 (φ := .f32) g
  w : (m ((c : Thread nD τ).loc main_arg2) : FVec Ideal S1024x3072 .bf16) = E2 (φ := .bf16) W

theorem Vg : V m c main_v0 = shapeCast S1x1024 (m ((c : Thread nD τ).loc main_arg1)) shapeCasts_S1024_S1x1024 := by
  unfold V
  simp only [hostOps0, List.flatten_cons, List.flatten_nil, List.append_nil, StableHlo.TRef.unary, StableHlo.TRef.toBuf, StableHlo.TRef.ofBuf, cast_eq]
  after_results_simp
  rfl

variable (h : Holds m c X W g)

section Blocks

include h

theorem blk0 (t : Fin cfg0.N) : (iblk m c 0 t : FVec Ideal S512x1024 .f32) = E2 (φ := .f32) fun i j => X (512 * t.val + i) j := by
  funext y
  refine (congrFun ((V_main_arg0 m c).trans h.x) (((cfg0.win 0).blk t).view.emb y)).trans ?_
  unfold E2
  blk_simp [idx t]
  exact (congrArg₂ X (by omega) (by omega))

theorem g_eq : V m c main_v0 = (E2 (φ := .f32) fun _ j => g j : FVec Ideal S1x1024 .f32) := by
  rw [Vg]
  refine (congrArg (fun w => shapeCast S1x1024 w shapeCasts_S1024_S1x1024) h.g).trans ?_
  funext y
  idx_vars y
  pointwise
  rfl

theorem blk1 (t : Fin cfg0.N) : (iblk m c 1 t : FVec Ideal S1x1024 .f32) = E2 (φ := .f32) fun _ j => g j := by
  funext y
  refine (congrFun (g_eq m c X W g h) (((cfg0.win 1).blk t).view.emb y)).trans ?_
  unfold E2
  blk_simp [idx t]

theorem blk2 (t : Fin cfg0.N) : (iblk m c 2 t : FVec Ideal S1024x3072 .bf16) = E2 (φ := .bf16) W := by
  funext y
  refine (congrFun ((V_main_arg2 m c).trans h.w) (((cfg0.win 2).blk t).view.emb y)).trans ?_
  unfold E2
  blk_simp [idx t]

theorem final3 : (dats m 0 c).arrAt 3 cfg0.N = yArr X W g := by
  refine (dats m 0 c).arrAt_eq_of_covers 3 _ (by decide +kernel) fun t hf y => ?_
  have ht : t.val < 16 := t.isLt
  have y0 : (y 0).val < 512 := (y 0).isLt
  have y1 : (y 1).val < 3072 := (y 1).isLt
  blk_simp
  rw [after0_3, out3_eq, blk0 m c X W g h, blk1 m c X W g h, blk2 m c X W g h, pay2]
  unfold yArr E2
  blk_simp [idx t]
  have e : t.val * 512 + (y 0).val = 512 * t.val + (y 0).val := by omega
  rw [e]
  rfl

theorem final4 : (dats m 0 c).arrAt 4 cfg0.N = hnArr X g := by
  refine (dats m 0 c).arrAt_eq_of_covers 4 _ (by decide +kernel) fun t hf y => ?_
  have ht : t.val < 16 := t.isLt
  have y0 : (y 0).val < 512 := (y 0).isLt
  have y1 : (y 1).val < 1024 := (y 1).isLt
  blk_simp
  rw [after0_4, out4_eq, blk0 m c X W g h, blk1 m c X W g h, pay1]
  unfold hnArr E2
  blk_simp [idx t]
  have e : t.val * 512 + (y 0).val = 512 * t.val + (y 0).val := by omega
  rw [e]
  rfl

end Blocks

section Reference

open Cert.ReferenceNormQkvIdeal Cert.ReferenceNormQkvIdeal.Read

theorem r6 (i) : val_main_v6 (F := Ideal) (E2 (φ := .f32) X) i = ms X (i 0).val := by
  rw [val_main_v6_apply (F := Ideal), val_main_v4_apply (F := Ideal), val_main_v2_apply (F := Ideal), val_main_v1_apply, val_main_v3_apply (F := Ideal), val_main_v5_apply (F := Ideal),
    val_main_cst_apply (F := Ideal), val_main_cst_0_apply (F := Ideal), val_main_cst_1_apply (F := Ideal), zero_bits, zero_add]
  have e : (∑ k : Fin 1024, val_main_v0 (F := Ideal) (E2 (φ := .f32) X) (idx_main_v1 (idx_main_v2 i) k)) = ∑ k ∈ range 1024, X (i 0).val k * X (i 0).val k :=
    sum_fin 1024 fun k => X (i 0).val k * X (i 0).val k
  rw [e]
  rfl

theorem r12 (i) : val_main_v12 (F := Ideal) (E2 (φ := .f32) X) (E1 (φ := .f32) g) i = X (i 0).val (i 1).val * scale X (i 0).val * g (i 1).val := by
  rw [val_main_v12_apply (F := Ideal), val_main_v9_apply (F := Ideal), val_main_v8_apply (F := Ideal), val_main_v7_apply (F := Ideal), r6, val_main_v11_apply (F := Ideal), val_main_v10_apply (F := Ideal)]
  rfl

theorem ref_hn : val_main_v16 (F := Ideal) (E2 (φ := .f32) X) (E1 (φ := .f32) g) = hnArr X g := by
  funext i
  rw [val_main_v16_apply (F := Ideal), r12]
  rfl

theorem ref_y : val_main_v15 (F := Ideal) (E2 (φ := .f32) X) (E1 (φ := .f32) g) (E2 (φ := .bf16) W) = yArr X W g := by
  funext i
  rw [val_main_v15_apply (F := Ideal)]
  refine (val_main_v14_apply _ _ _ i).trans ?_
  unfold yArr E2
  refine Eq.trans ?_ (sum_fin 1024 fun l => X (i 0).val l * scale X (i 0).val * g l * W l (i 1).val)
  refine Finset.sum_congr rfl fun k _ => ?_
  exact congrArg₂ (fun a b : EReal => a * b) (r12 X g _) rfl

end Reference

theorem frame_ideal : Cert.quiescent_KernelNormQkvIdeal := fun m ρ _ => Cert.KernelNormQkvIdeal.Gen.frame m ρ

theorem frame_reference : Cert.quiescent_ReferenceNormQkvIdeal := by
  intro m g _
  hlo_run
  · exact fun _ => ⟨trivial, trivial, trivial⟩
  · exact sem_eq_zero_of_no_sems rfl _

/-- Both programs compute the normed rows and their product with the weight. -/
theorem value : Cert.algebraic_KernelNormQkvIdeal_ReferenceNormQkvIdeal := by
  intro m g m' g' _ hagree
  let X := fun c : Dev KernelNormQkvIdeal.nD => vals (m := 8192) (n := 1024) (φ := .f32) (m ((c.tc : Thread KernelNormQkvIdeal.nD KernelNormQkvIdeal.τ).loc KernelNormQkvIdeal.main_arg0))
  let G := fun c : Dev KernelNormQkvIdeal.nD => vals1 (n := 1024) (φ := .f32) (m ((c.tc : Thread KernelNormQkvIdeal.nD KernelNormQkvIdeal.τ).loc KernelNormQkvIdeal.main_arg1))
  let W := fun c : Dev KernelNormQkvIdeal.nD => vals (m := 1024) (n := 3072) (φ := .bf16) (m ((c.tc : Thread KernelNormQkvIdeal.nD KernelNormQkvIdeal.τ).loc KernelNormQkvIdeal.main_arg2))
  have hholds : ∀ c, Holds m c (X c) (W c) (G c) := fun c => ⟨vals_eq _, vals1_eq _, vals_eq _⟩
  refine ⟨fun c => yArr (X c) (W c) (G c), fun c => hnArr (X c) (G c), ?_, ?_⟩
  · refine (θ_run _ _ _).mono (fun r h c => ?_) (KernelNormQkvIdeal.Value.run_blocks (F := Ideal) m g)
    obtain ⟨h0, h1, h2⟩ := h c
    exact ⟨h0.trans (final3 m c _ _ _ (hholds c)), h1.trans (final4 m c _ _ _ (hholds c)), h2⟩
  · refine (θ_run _ _ _).mono (fun r h c => ?_) (ReferenceNormQkvIdeal.Value.run (F := Ideal) m' g')
    obtain ⟨e0, e1, e2⟩ := hagree c
    obtain ⟨h0, h1, h2⟩ := h c
    refine ⟨h0.trans ((ReferenceNormQkvIdeal.Read.val_main_v15_eq _ _ _).trans ?_), h1.trans ((ReferenceNormQkvIdeal.Read.val_main_v16_eq _ _).trans ?_), h2⟩
    · rw [e0, e1, e2, (hholds c).x, (hholds c).g, (hholds c).w]
      exact ref_y _ _ _
    · rw [e0, e1, (hholds c).x, (hholds c).g]
      exact ref_hn _ _

section Printed

variable {F : FTy → Type} [FloatOps F]

/-- The printed kernel is the idealized kernel's text. -/
theorem bodies_same : @Cert.KernelNormQkv.defs₀ F _ Cert.KernelNormQkv.Gen.facts = @Cert.KernelNormQkvIdeal.defs₀ F _ Cert.KernelNormQkvIdeal.Gen.facts := by
  unfold Cert.KernelNormQkv.defs₀ Cert.KernelNormQkvIdeal.defs₀
  refine congrArg Defs.onTc ?_
  funext l x
  match l, x with
  | 0, (t, s) => exact rfl

theorem defs_same : @Cert.KernelNormQkv.defs F _ Cert.KernelNormQkv.Gen.facts = @Cert.KernelNormQkvIdeal.defs F _ Cert.KernelNormQkvIdeal.Gen.facts := by
  unfold Cert.KernelNormQkv.defs Cert.KernelNormQkvIdeal.defs
  rw [bodies_same]
  rfl

theorem main_same : @Cert.KernelNormQkv.main F _ = @Cert.KernelNormQkvIdeal.main F _ := rfl

end Printed

theorem frame_printed : Cert.quiescent_KernelNormQkv := fun m ρ _ =>
  (congrArg₂ (fun d p => θ_run d (onTc p) _ _) (defs_same (F := Bits)) (main_same (F := Bits))).mpr
    (Cert.KernelNormQkvIdeal.Gen.frame (F := Bits) m ρ)

end Cert.Proof.NormQkv
end
-- ==== Proof.QkvWVal.lean ====
/-
  The query, key and value projection's gradient of its weight: the transposed activations times the gradient, an output tile at a time, the
  rows of the batch in eight runs of 1024 that are added up in a scratch tile.
  Each entry is the sum over the 8192 rows, in the kernel and in the reference alike.
-/
module

public import proofs.«01_k».proof.Defs
public import proofs.«01_k».proof.Proof.Gen.KernelQkvW
public import proofs.«01_k».proof.Proof.Gen.KernelQkvWIdeal
public import proofs.«01_k».proof.Proof.Gen.KernelQkvWIdeal.Frame
public import proofs.«01_k».proof.Proof.Gen.KernelQkvWIdeal.Value
public import proofs.«01_k».proof.Proof.Gen.ReferenceQkvWIdeal
public import proofs.«01_k».proof.Proof.Gen.ReferenceQkvWIdeal.Run
public import proofs.«01_k».proof.Proof.Gen.ReferenceQkvWIdeal.Read
public import proofs.«01_k».proof.Proof.Sums
public import proofs.«01_k».proof.Proof.Vals
public import Idealize.ShloMosaic.Lib.Pipeline.ValueKit
public import Idealize.ShloMosaic.Lib.Claim

@[expose] public section

set_option maxRecDepth 16384

noncomputable section

namespace Cert.Proof.QkvW

open Cert.KernelQkvWIdeal Cert.KernelQkvWIdeal.Gen Cert.KernelQkvWIdeal.Value
open Idealize.ShloMosaic Idealize.ShloMosaic.TcCoe Idealize.SL.Sem
open Idealize.ShloMosaic.Pipeline (Dat)
open Finset

theorem hz : (![0, 0] : Fin 2 → ℕ) = fun _ => 0 := by
  funext a
  match a with
  | 0 => rfl
  | 1 => rfl

/-- The product of the columns of one array with the columns of the other. -/
def colsByCols (x : FVec Ideal S8192x1024 .bf16) (w : FVec Ideal S8192x3072 .bf16) : FVec Ideal S1024x3072 .f32 :=
  fun i => ∑ k : Fin 8192, (x (ix2 k (i 0)) : EReal) * w (ix2 k (i 1))

/-- One run of rows. -/
theorem pay_apply (x : FVec Ideal S1024x1024 .bf16) (w : FVec Ideal S1024x1536 .bf16) (y : S1024x1536.Idx) :
    k0_pay1 (F := Ideal) x w y = ∑ k : Fin 1024, (x (ix2 k (y 0)) : EReal) * w (ix2 k (y 1)) := by
  idx_vars y
  pointwise [k0_pay1]

section Cases

variable {F : FTy → Type} [FloatOps F]
variable (c : Dev nD) (i : grid0.Coords) (a3 : Memref sig .tc .vmem S1024x1024 .bf16) (h3 : a3.IsWhole) (a4 : Memref sig .tc .vmem S1024x1536 .bf16) (h4 : a4.IsWhole)
  (a5 : Memref sig .tc .vmem S1024x1536 .f32) (h5 : a5.IsWhole) (a6 : Memref sig .tc .vmem S1024x1536 .f32) (h6 : a6.IsWhole)
  (x : Vec F S1024x1024 .bf16) (w : Vec F S1024x1536 .bf16) (acc : Vec F S1024x1536 .f32)

/-- The first run of rows starts the scratch tile. -/
theorem scratch_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, View.ld_unit_zero (S := S1024x1024) hz, View.ld_unit_zero (S := S1024x1536) hz, shapeCast_self]

/-- A later run adds to it. -/
theorem scratch_B (hc0 : ¬cond0_0 i) (hc1 : cond0_1 i) (hc2 : ¬cond0_2 i) :
    sout0_B_0 c i a3 h3 a4 h4 a5 h5 a6 h6 hc0 hc1 hc2 x w acc = addf acc (k0_pay1 x w) := by
  unfold sout0_B_0
  rw [View.read_writes_eq_canon _ _ _ (scover0_B_0 c i a3 h3 a4 h4 a5 h5 a6 h6 hc0 hc1 hc2 x w acc)]
  unfold kernelRun0_B
  dsimp only
  sl_unfold_words
  rw [View.canon_unit_zero hz]
  unfold k0_pay3
  simp only [View.readAt_eq_ld, h3.read_unread, h4.read_unread, h6.read_unread, View.ld_unit_zero (S := S1024x1024) hz, View.ld_unit_zero (S := S1024x1536) hz, shapeCast_self]

/-- The last run too, and what the scratch tile then holds goes out. -/
theorem out_C (hc0 : ¬cond0_0 i) (hc1 : cond0_1 i) (hc2 : cond0_2 i) :
    out0_C_2 c i a3 h3 a4 h4 a5 h5 a6 h6 hc0 hc1 hc2 x w acc = addf acc (k0_pay1 x w) := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero hz, View.readCov_unit_zero (S := S1024x1536) _ hz]
  unfold k0_pay3
  simp only [View.readAt_eq_ld, h3.read_unread, h4.read_unread, h6.read_unread, View.ld_unit_zero (S := S1024x1024) hz, View.ld_unit_zero (S := S1024x1536) hz, shapeCast_self]

end Cases

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- What run `r` of the rows adds at place `i` of the result. -/
def part (x : FVec Ideal S8192x1024 .bf16) (w : FVec Ideal S8192x3072 .bf16) (i : S1024x3072.Idx) (r : Fin 8) : EReal :=
  ∑ k : Fin 1024, (x (ix2 (⟨1024 * r.val + k.val, by omega⟩ : Fin 8192) (i 0)) : EReal) * w (ix2 (⟨1024 * r.val + k.val, by omega⟩ : Fin 8192) (i 1))

theorem sum_part (x : FVec Ideal S8192x1024 .bf16) (w : FVec Ideal S8192x3072 .bf16) (i : S1024x3072.Idx) : ∑ r : Fin 8, part x w i r = colsByCols x w i :=
  Sums.sum_runs 8 1024 8192 rfl fun k => (x (ix2 k (i 0)) : EReal) * w (ix2 k (i 1))

/-- One point's product, in terms of the arguments. -/
theorem pay_at (t : Fin cfg0.N) (y : S1024x1536.Idx) (i : S1024x3072.Idx) (e0 : (i 0).val = (y 0).val) (e1 : (i 1).val = 1536 * (t.val / 8) + (y 1).val) :
    k0_pay1 (F := Ideal) (iblk m c 0 t) (iblk m c 1 t) y
      = part (m ((c : Thread nD τ).loc main_arg0)) (m ((c : Thread nD τ).loc main_arg1)) i ⟨t.val % 8, Nat.mod_lt _ (by decide)⟩ := by
  have ht : t.val < 16 := t.isLt
  refine (pay_apply _ _ y).trans ?_
  unfold part
  refine Finset.sum_congr rfl fun k _ => ?_
  refine congrArg₂ (fun a b : EReal => a * b) ?_ ?_
  · refine (congrFun (V_main_arg0 m c) (((cfg0.win 0).blk t).view.emb (ix2 k (y 0)))).trans ?_
    refine congrArg (m ((c : Thread nD τ).loc main_arg0)) ?_
    blk_ext [idx t]
  · refine (congrFun (V_main_arg1 m c) (((cfg0.win 1).blk t).view.emb (ix2 k (y 1)))).trans ?_
    refine congrArg (m ((c : Thread nD τ).loc main_arg1)) ?_
    blk_ext [idx t]

/-- The scratch tile holds the sum of the runs so far. -/
theorem scratch_at (q : ℕ) (hq : q < 2) (y : S1024x1536.Idx) (i : S1024x3072.Idx) (e0 : (i 0).val = (y 0).val) (e1 : (i 1).val = 1536 * q + (y 1).val) :
    ∀ (j : ℕ) (hj : j < 7) (h : 8 * q + j < cfg0.N), (outsAt0 m c (8 * q + j) h).2 y
      = ∑ r : Fin (j + 1), part (m ((c : Thread nD τ).loc main_arg0)) (m ((c : Thread nD τ).loc main_arg1)) i ⟨r.val, by omega⟩
  | 0, hj, h => by
    rw [outsAt0_A m c ⟨8 * q + 0, h⟩ (by dsimp only; omega) (by dsimp only; omega) (by dsimp only; omega)]
    dsimp only
    rw [scratch_A, Fin.sum_univ_one]
    refine (pay_at m c ⟨8 * q + 0, h⟩ y i e0 (by dsimp only; omega)).trans (congrArg _ (Fin.ext ?_))
    show (8 * q + 0) % 8 = 0
    omega
  | j + 1, hj, h => by
    rw [outsAt0_B m c ⟨8 * q + (j + 1), h⟩ (by dsimp only; omega) (by dsimp only; omega) (by dsimp only; omega)]
    dsimp only
    rw [scratch_B, Fin.sum_univ_castSucc]
    refine congrArg₂ (fun a b : EReal => a + b) ?_ ?_
    · exact scratch_at q hq y i e0 e1 j (by omega) (by omega)
    · refine (pay_at m c ⟨8 * q + (j + 1), h⟩ y i e0 (by dsimp only; omega)).trans (congrArg _ (Fin.ext ?_))
      show (8 * q + (j + 1)) % 8 = j + 1
      omega

/-- What goes out after the last run is the whole sum. -/
theorem out_at (q : ℕ) (hq : q < 2) (y : S1024x1536.Idx) (i : S1024x3072.Idx) (e0 : (i 0).val = (y 0).val) (e1 : (i 1).val = 1536 * q + (y 1).val) (h : 8 * q + 7 < cfg0.N) :
    (outsAt0 m c (8 * q + 7) h).1 y = colsByCols (m ((c : Thread nD τ).loc main_arg0)) (m ((c : Thread nD τ).loc main_arg1)) i := by
  rw [outsAt0_C m c ⟨8 * q + 7, h⟩ (by dsimp only; omega) (by dsimp only; omega) (by dsimp only; omega)]
  dsimp only
  rw [out_C, ← sum_part, Fin.sum_univ_castSucc]
  refine congrArg₂ (fun a b : EReal => a + b) ?_ ?_
  · exact scratch_at m c q hq y i e0 e1 6 (by omega) (by omega)
  · refine (pay_at m c ⟨8 * q + 7, h⟩ y i e0 (by dsimp only; omega)).trans (congrArg _ (Fin.ext ?_))
    show (8 * q + 7) % 8 = 7
    omega

/-- The array after the run. -/
theorem final : (dats m 0 c).arrAt 2 cfg0.N = colsByCols (m ((c : Thread nD τ).loc main_arg0)) (m ((c : Thread nD τ).loc main_arg1)) := by
  refine (dats m 0 c).arrAt_eq_of_covers 2 _ (by decide +kernel) fun t hf y => ?_
  have ht : t.val < 16 := t.isLt
  have h7 : t.val % 8 = 7 := (flush0_2 t).mp hf
  have y0 : (y 0).val < 1024 := (y 0).isLt
  have y1 : (y 1).val < 1536 := (y 1).isLt
  have e0 : ((((cfg0.win 2).blk t).view.emb y) 0).val = (y 0).val := by
    blk_simp [idx t]
  have e1 : ((((cfg0.win 2).blk t).view.emb y) 1).val = 1536 * (t.val / 8) + (y 1).val := by
    blk_simp [idx t]
    omega
  have en : ∀ (n : ℕ) (hn : n < cfg0.N), n = 8 * (t.val / 8) + 7 → (outsAt0 m c n hn).1 y
      = colsByCols (m ((c : Thread nD τ).loc main_arg0)) (m ((c : Thread nD τ).loc main_arg1)) (((cfg0.win 2).blk t).view.emb y) := by
    rintro n hn rfl
    exact out_at m c (t.val / 8) (by omega) y _ e0 e1 hn
  blk_simp
  rw [after0_2]
  exact en t.val t.isLt (by omega)

/-- The reference's array. -/
theorem ref_val (x : FVec Ideal S8192x1024 .bf16) (w : FVec Ideal S8192x3072 .bf16) : ReferenceQkvWIdeal.Read.val_main_v5 (F := Ideal) x w = colsByCols x w := by
  funext i
  refine (ReferenceQkvWIdeal.Read.val_main_v5_apply (F := Ideal) x w i).trans ((ReferenceQkvWIdeal.Read.val_main_v4_apply x w _).trans (Finset.sum_congr rfl fun k _ => ?_))
  refine (mul_comm _ _).trans (congrArg₂ (fun a b : EReal => a * b) (congrArg x ?_) (congrArg w ?_)) <;>
  · funext a
    match a with
    | ⟨0, _⟩ => rfl
    | ⟨1, _⟩ => rfl

theorem frame_ideal : Cert.quiescent_KernelQkvWIdeal := fun m ρ _ => Cert.KernelQkvWIdeal.Gen.frame m ρ

theorem frame_reference : Cert.quiescent_ReferenceQkvWIdeal := by
  intro m g _
  hlo_run
  · exact fun _ => ⟨trivial, trivial⟩
  · exact sem_eq_zero_of_no_sems rfl _

theorem value : Cert.algebraic_KernelQkvWIdeal_ReferenceQkvWIdeal := by
  intro m g m' g' _ hagree
  refine ⟨fun c => colsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceQkvWIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelQkvW.defs₀ F _ Cert.KernelQkvW.Gen.facts = @Cert.KernelQkvWIdeal.defs₀ F _ Cert.KernelQkvWIdeal.Gen.facts := by
  unfold Cert.KernelQkvW.defs₀ Cert.KernelQkvWIdeal.defs₀
  refine congrArg Defs.onTc ?_
  funext l x
  match l, x with
  | 0, (t, s) => exact rfl

theorem defs_same : @Cert.KernelQkvW.defs F _ Cert.KernelQkvW.Gen.facts = @Cert.KernelQkvWIdeal.defs F _ Cert.KernelQkvWIdeal.Gen.facts := by
  unfold Cert.KernelQkvW.defs Cert.KernelQkvWIdeal.defs
  rw [bodies_same]
  rfl

theorem main_same : @Cert.KernelQkvW.main F _ = @Cert.KernelQkvWIdeal.main F _ := rfl

end Printed

theorem frame_printed : Cert.quiescent_KernelQkvW := fun m ρ _ =>
  (congrArg₂ (fun d p => θ_run d (onTc p) _ _) (defs_same (F := Bits)) (main_same (F := Bits))).mpr
    (Cert.KernelQkvWIdeal.Gen.frame (F := Bits) m ρ)

end Cert.Proof.QkvW
end
-- ==== Proof.QkvDVal.lean ====
/-
  The projection to queries, keys and values: gradient of its input, through the norm that comes before it: the arrays after the run. Point `t` of the grid does
  rows `512 t` to `512 t + 511`; the gradient of the norm's weights is added up from point to point.
-/
module

public import proofs.«01_k».proof.Defs
public import proofs.«01_k».proof.Proof.Gen.KernelQkvD
public import proofs.«01_k».proof.Proof.Gen.KernelQkvDIdeal
public import proofs.«01_k».proof.Proof.Gen.KernelQkvDIdeal.Frame
public import proofs.«01_k».proof.Proof.Gen.KernelQkvDIdeal.Value
public import proofs.«01_k».proof.Proof.Ext
public import Idealize.ShloMosaic.Lib.Pipeline.ValueKit
public import Idealize.ShloMosaic.Lib.Claim

@[expose] public section

set_option maxRecDepth 16384

noncomputable section

namespace Cert.Proof.QkvD

open Cert.KernelQkvDIdeal Cert.KernelQkvDIdeal.Gen Cert.KernelQkvDIdeal.Value
open Idealize.ShloMosaic Idealize.ShloMosaic.TcCoe Idealize.SL.Sem
open Idealize.ShloMosaic.Pipeline (Dat)
open Ext
open Finset

theorem pay2 (a w : ℕ → ℕ → EReal) : k0_pay2 (F := Ideal) (E2 (φ := .bf16) a) (E2 (φ := .bf16) w) = E2 (fun i j => ∑ l ∈ range 3072, a i l * w j l) := by
  funext y
  idx_vars y
  pointwise [k0_pay2]
  simp only [E2_ix]
  rw [sum_fin 3072 (fun l => a y0.val l * w y1.val l)]

theorem pay3 (x : ℕ → ℕ → EReal) : k0_pay3 (F := Ideal) (E2 (φ := .f32) x) = E2 (fun i _ => scale x i) := by
  funext y
  idx_vars y
  pointwise [k0_pay3]
  simp only [E2_ix]
  rw [sum_fin 1024 (fun l => x y0.val l * x y0.val l)]
  rfl

theorem pay4 (x : ℕ → ℕ → EReal) : k0_pay4 (F := Ideal) (E2 (φ := .f32) x) = E2 (fun i j => x i j * scale x i) := by
  funext y
  idx_vars y
  pointwise [k0_pay4]
  rw [pay3]
  simp only [E2_ix]

theorem pay5 (a w x : ℕ → ℕ → EReal) (g : ℕ → EReal) (r d : ℕ → ℕ → EReal) (hd : ∀ i j, d i j = ∑ l ∈ range 3072, a i l * w j l) :
    k0_pay5 (F := Ideal) (E2 (φ := .bf16) a) (E2 (φ := .bf16) w) (E2 (φ := .f32) x) (E2 (φ := .f32) fun _ j => g j) (E2 (φ := .f32) r)
    = E2 fun i j => r i j + through x g d i j := by
  funext y
  idx_vars y
  pointwise [k0_pay5]
  rw [pay2, pay3, pay4]
  simp only [E2_ix, ← hd]
  rw [sum_fin 1024 (fun l => d y0.val l * g l * (x y0.val l * scale x y0.val))]
  rfl

theorem pay6 (a w x d : ℕ → ℕ → EReal) (hd : ∀ i j, d i j = ∑ l ∈ range 3072, a i l * w j l) :
    k0_pay6 (F := Ideal) (E2 (φ := .bf16) a) (E2 (φ := .bf16) w) (E2 (φ := .f32) x) = E2 fun _ j => ∑ i ∈ range 512, d i j * (x i j * scale x i) := by
  funext y
  idx_vars y
  pointwise [k0_pay6]
  rw [pay2, pay4]
  simp only [E2_ix, ← hd]
  exact sum_fin 512 (fun i => d i y1.val * (x i y1.val * scale x i))

theorem pay1 (u s : ℕ → EReal) : k0_pay1 (F := Ideal) (E2 (φ := .f32) fun _ j => u j) (E2 (φ := .f32) fun _ j => s j) = E2 (fun _ j => s j + u j) := by
  funext y
  idx_vars y
  pointwise [k0_pay1]
  simp only [E2_ix]

theorem hz : (![0, 0] : Fin 2 → ℕ) = fun _ => 0 := by
  funext a
  match a with
  | 0 => rfl
  | 1 => rfl

section Cases

variable {F : FTy → Type} [FloatOps F]
variable (c : Dev nD) (i : grid0.Coords) (a1 : Memref sig .tc .vmem S512x3072 .bf16) (h1 : a1.IsWhole) (a2 : Memref sig .tc .vmem S1024x3072 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S1x1024 .f32) (h7 : a7.IsWhole)
  (x0 : Vec F S512x3072 .bf16) (x1 : Vec F S1024x3072 .bf16) (x2 : Vec F S512x1024 .f32) (x3 : Vec F S1x1024 .f32) (x4 : Vec F S512x1024 .f32) (acc : Vec F S1x1024 .f32)

theorem out5_A (hc0 : cond0_0 i) (hc1 : ¬cond0_1 i) :
    out0_A_5 c i a1 h1 a2 h2 a3 h3 a4 h4 a5 h5 a6 h6 a7 h7 hc0 hc1 x0 x1 x2 x3 x4 = k0_pay5 x0 x1 x2 x3 x4 := by
  unfold out0_A_5
  rw [View.read_writes_eq_canon _ _ _ (cover0_A_5 c i a1 h1 a2 h2 a3 h3 a4 h4 a5 h5 a6 h6 a7 h7 hc0 hc1 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x3072) hz, View.ld_unit_zero (S := S1024x3072) hz, View.ld_unit_zero (S := S512x1024) hz, View.ld_unit_zero (S := S1x1024) hz]

theorem out5_B (hc0 : ¬cond0_0 i) (hc1 : cond0_1 i) :
    out0_B_5 c i a1 h1 a2 h2 a3 h3 a4 h4 a5 h5 a6 h6 a7 h7 hc0 hc1 x0 x1 x2 x3 x4 acc = k0_pay5 x0 x1 x2 x3 x4 := by
  unfold out0_B_5
  rw [View.read_writes_eq_canon _ _ _ (cover0_B_5 c i a1 h1 a2 h2 a3 h3 a4 h4 a5 h5 a6 h6 a7 h7 hc0 hc1 x0 x1 x2 x3 x4 acc)]
  unfold kernelRun0_B
  dsimp only
  sl_unfold_words
  rw [View.canon_unit_zero hz]
  simp only [View.readAt_eq_ld, h1.read_unread, h2.read_unread, h3.read_unread, h4.read_unread, h5.read_unread,
    View.ld_unit_zero (S := S512x3072) hz, View.ld_unit_zero (S := S1024x3072) hz, View.ld_unit_zero (S := S512x1024) hz, View.ld_unit_zero (S := S1x1024) hz]

theorem out6_A (hc0 : cond0_0 i) (hc1 : ¬cond0_1 i) :
    out0_A_6 c i a1 h1 a2 h2 a3 h3 a4 h4 a5 h5 a6 h6 a7 h7 hc0 hc1 x0 x1 x2 x3 x4 = k0_pay6 x0 x1 x2 := by
  unfold out0_A_6
  rw [View.read_writes_eq_canon _ _ _ (cover0_A_6 c i a1 h1 a2 h2 a3 h3 a4 h4 a5 h5 a6 h6 a7 h7 hc0 hc1 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x3072) hz, View.ld_unit_zero (S := S1024x3072) hz, View.ld_unit_zero (S := S512x1024) hz, View.ld_unit_zero (S := S1x1024) hz]

theorem out6_B (hc0 : ¬cond0_0 i) (hc1 : cond0_1 i) :
    out0_B_6 c i a1 h1 a2 h2 a3 h3 a4 h4 a5 h5 a6 h6 a7 h7 hc0 hc1 x0 x1 x2 x3 x4 acc = k0_pay1 (k0_pay6 x0 x1 x2) acc := by
  unfold out0_B_6
  rw [View.read_writes_eq_canon _ _ _ (cover0_B_6 c i a1 h1 a2 h2 a3 h3 a4 h4 a5 h5 a6 h6 a7 h7 hc0 hc1 x0 x1 x2 x3 x4 acc)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S512x3072) hz, View.ld_unit_zero (S := S1024x3072) hz, View.ld_unit_zero (S := S512x1024) hz, View.ld_unit_zero (S := S1x1024) hz]

end Cases

/-- The gradient of the norm's output: the incoming gradient's product with the weight's rows. -/
def dh (A W : ℕ → ℕ → EReal) (i j : ℕ) : EReal := ∑ l ∈ range 3072, A i l * W j l

/-- The gradient of the norm's input, the residual's gradient added. -/
def dxArr (A W X D : ℕ → ℕ → EReal) (g : ℕ → EReal) : FVec Ideal S8192x1024 .f32 := E2 fun i j => D i j + through X g (dh A W) i j

/-- The gradient of the norm's weights. -/
def dgArr (A W X : ℕ → ℕ → EReal) : FVec Ideal S1x1024 .f32 := E2 fun _ j => ∑ i ∈ range 8192, dh A W i j * (X i j * scale X i)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (c : Dev nD) (A W X D : ℕ → ℕ → EReal) (g : ℕ → EReal)

/-- The arguments, by their entries. -/
structure Holds : Prop where
  a : (m ((c : Thread nD τ).loc main_arg0) : FVec Ideal S8192x3072 .bf16) = E2 (φ := .bf16) A
  w : (m ((c : Thread nD τ).loc main_arg1) : FVec Ideal S1024x3072 .bf16) = E2 (φ := .bf16) W
  x : (m ((c : Thread nD τ).loc main_arg2) : FVec Ideal S8192x1024 .f32) = E2 (φ := .f32) X
  g : (m ((c : Thread nD τ).loc main_arg3) : FVec Ideal S1024 .f32) = E1 (φ := .f32) g
  d : (m ((c : Thread nD τ).loc main_arg4) : FVec Ideal S8192x1024 .f32) = E2 (φ := .f32) D

theorem Vg : V m c main_v0 = shapeCast S1x1024 (m ((c : Thread nD τ).loc main_arg3)) shapeCasts_S1024_S1x1024 := by
  unfold V
  simp only [hostOps0, List.flatten_cons, List.flatten_nil, List.append_nil, StableHlo.TRef.unary, StableHlo.TRef.toBuf, StableHlo.TRef.ofBuf, cast_eq]
  after_results_simp
  rfl

variable (h : Holds m c A W X D g)

section Blocks

include h

theorem blk0 (t : Fin cfg0.N) : (iblk m c 0 t : FVec Ideal S512x3072 .bf16) = E2 (φ := .bf16) fun i j => A (512 * t.val + i) j := by
  funext y
  refine (congrFun ((V_main_arg0 m c).trans h.a) (((cfg0.win 0).blk t).view.emb y)).trans ?_
  unfold E2
  blk_simp [idx t]
  exact (congrArg₂ A (by omega) (by omega))

theorem blk2 (t : Fin cfg0.N) : (iblk m c 2 t : FVec Ideal S512x1024 .f32) = E2 (φ := .f32) fun i j => X (512 * t.val + i) j := by
  funext y
  refine (congrFun ((V_main_arg2 m c).trans h.x) (((cfg0.win 2).blk t).view.emb y)).trans ?_
  unfold E2
  blk_simp [idx t]
  exact (congrArg₂ X (by omega) (by omega))

theorem blk4 (t : Fin cfg0.N) : (iblk m c 4 t : FVec Ideal S512x1024 .f32) = E2 (φ := .f32) fun i j => D (512 * t.val + i) j := by
  funext y
  refine (congrFun ((V_main_arg4 m c).trans h.d) (((cfg0.win 4).blk t).view.emb y)).trans ?_
  unfold E2
  blk_simp [idx t]
  exact (congrArg₂ D (by omega) (by omega))

theorem blk1 (t : Fin cfg0.N) : (iblk m c 1 t : FVec Ideal S1024x3072 .bf16) = E2 (φ := .bf16) W := by
  funext y
  refine (congrFun ((V_main_arg1 m c).trans h.w) (((cfg0.win 1).blk t).view.emb y)).trans ?_
  unfold E2
  blk_simp [idx t]

theorem g_eq : V m c main_v0 = (E2 (φ := .f32) fun _ j => g j : FVec Ideal S1x1024 .f32) := by
  rw [Vg]
  refine (congrArg (fun w => shapeCast S1x1024 w shapeCasts_S1024_S1x1024) h.g).trans ?_
  funext y
  idx_vars y
  pointwise
  rfl

theorem blk3 (t : Fin cfg0.N) : (iblk m c 3 t : FVec Ideal S1x1024 .f32) = E2 (φ := .f32) fun _ j => g j := by
  funext y
  refine (congrFun (g_eq m c A W X D g h) (((cfg0.win 3).blk t).view.emb y)).trans ?_
  unfold E2
  blk_simp [idx t]

/-- One point's rows of the gradient of the norm's input. -/
theorem rows_at (t : Fin cfg0.N) : k0_pay5 (F := Ideal) (iblk m c 0 t) (iblk m c 1 t) (iblk m c 2 t) (iblk m c 3 t) (iblk m c 4 t)
    = E2 fun i j => D (512 * t.val + i) j + through X g (dh A W) (512 * t.val + i) j := by
  rw [blk0 m c A W X D g h, blk1 m c A W X D g h, blk2 m c A W X D g h, blk3 m c A W X D g h, blk4 m c A W X D g h,
    pay5 _ _ _ _ _ (fun i j => dh A W (512 * t.val + i) j) (fun _ _ => rfl)]
  rfl

/-- One point's part of the gradient of the norm's weights. -/
theorem first_at (t : Fin cfg0.N) : k0_pay6 (F := Ideal) (iblk m c 0 t) (iblk m c 1 t) (iblk m c 2 t)
    = E2 fun _ j => ∑ i ∈ range 512, dh A W (512 * t.val + i) j * (X (512 * t.val + i) j * scale X (512 * t.val + i)) := by
  rw [blk0 m c A W X D g h, blk1 m c A W X D g h, blk2 m c A W X D g h, pay6 _ _ _ (fun i j => dh A W (512 * t.val + i) j) (fun _ _ => rfl)]
  rfl

theorem part_at (t : Fin cfg0.N) (acc : ℕ → EReal) : k0_pay1 (F := Ideal) (k0_pay6 (F := Ideal) (iblk m c 0 t) (iblk m c 1 t) (iblk m c 2 t)) (E2 (φ := .f32) fun _ j => acc j)
    = E2 fun _ j => acc j + ∑ i ∈ range 512, dh A W (512 * t.val + i) j * (X (512 * t.val + i) j * scale X (512 * t.val + i)) := by
  rw [first_at m c A W X D g h, pay1]

theorem sums_at : ∀ (n : ℕ) (hn : n < cfg0.N), (outsAt0 m c n hn).2 = E2 (φ := .f32) fun _ j => ∑ i ∈ range (512 * (n + 1)), dh A W i j * (X i j * scale X i)
  | 0, hn => by
    rw [outsAt0_A m c ⟨0, hn⟩ (Nat.zero_mod _) (by dsimp only; omega)]
    dsimp only
    rw [out6_A]
    refine (first_at m c A W X D g h ⟨0, hn⟩).trans (E2_congr fun _ j _ _ => ?_)
    simp only [Nat.mul_zero, Nat.zero_add, Nat.mul_one]
  | n + 1, hn => by
    have hN : n + 1 < 16 := hn
    rw [outsAt0_B m c ⟨n + 1, hn⟩ (by dsimp only; omega) (by dsimp only; omega)]
    dsimp only
    rw [out6_B]
    have ih := sums_at n (Nat.lt_of_succ_lt hn)
    have e : (outsAt0 m c (n + 1 - 1) (Nat.lt_of_le_of_lt (Nat.sub_le _ _) hn)).2 = E2 (φ := .f32) fun _ j => ∑ i ∈ range (512 * (n + 1)), dh A W i j * (X i j * scale X i) := ih
    rw [e]
    refine (part_at m c A W X D g h ⟨n + 1, hn⟩ _).trans (E2_congr fun _ j _ _ => ?_)
    rw [show 512 * (n + 1 + 1) = 512 * (n + 1) + 512 from rfl, Finset.sum_range_add]

theorem rows_out (t : Fin cfg0.N) : (outsAt0 m c t.val t.isLt).1 = E2 (φ := .f32) fun i j => D (512 * t.val + i) j + through X g (dh A W) (512 * t.val + i) j := by
  have ht : t.val < 16 := t.isLt
  by_cases h0 : t.val = 0
  · rw [outsAt0_A m c t (by omega) (by omega)]
    dsimp only
    rw [out5_A]
    exact rows_at m c A W X D g h t
  · rw [outsAt0_B m c t (by omega) (by omega)]
    dsimp only
    rw [out5_B]
    exact rows_at m c A W X D g h t

theorem final5 : (dats m 0 c).arrAt 5 cfg0.N = dxArr A W X D g := by
  refine (dats m 0 c).arrAt_eq_of_covers 5 _ (by decide +kernel) fun t hf y => ?_
  have ht : t.val < 16 := t.isLt
  have y0 : (y 0).val < 512 := (y 0).isLt
  have y1 : (y 1).val < 1024 := (y 1).isLt
  blk_simp
  rw [after0_5]
  refine (congrFun (rows_out m c A W X D g h t) y).trans ?_
  unfold dxArr E2
  blk_simp [idx t]
  have e : t.val * 512 + (y 0).val = 512 * t.val + (y 0).val := by omega
  rw [e]

theorem final6 : (dats m 0 c).arrAt 6 cfg0.N = dgArr A W X := by
  refine (dats m 0 c).arrAt_eq_of_covers 6 _ (by decide +kernel) fun t hf y => ?_
  have ht : t.val < 16 := t.isLt
  have h15 : t.val % 16 = 15 := (flush0_6 t).mp hf
  have y0 : (y 0).val < 1 := (y 0).isLt
  have y1 : (y 1).val < 1024 := (y 1).isLt
  blk_simp
  rw [after0_6]
  refine (congrFun (sums_at m c A W X D g h t.val t.isLt) y).trans ?_
  unfold dgArr E2
  blk_simp [idx t]
  have e : 512 * (t.val + 1) = 8192 := by omega
  rw [e]

end Blocks

theorem frame_ideal : Cert.quiescent_KernelQkvDIdeal := fun m ρ _ => Cert.KernelQkvDIdeal.Gen.frame m ρ

section Printed

variable {F : FTy → Type} [FloatOps F]

/-- The printed kernel is the idealized kernel's text. -/
theorem bodies_same : @Cert.KernelQkvD.defs₀ F _ Cert.KernelQkvD.Gen.facts = @Cert.KernelQkvDIdeal.defs₀ F _ Cert.KernelQkvDIdeal.Gen.facts := by
  unfold Cert.KernelQkvD.defs₀ Cert.KernelQkvDIdeal.defs₀
  refine congrArg Defs.onTc ?_
  funext l x
  match l, x with
  | 0, (t, s) => exact rfl

theorem defs_same : @Cert.KernelQkvD.defs F _ Cert.KernelQkvD.Gen.facts = @Cert.KernelQkvDIdeal.defs F _ Cert.KernelQkvDIdeal.Gen.facts := by
  unfold Cert.KernelQkvD.defs Cert.KernelQkvDIdeal.defs
  rw [bodies_same]
  rfl

theorem main_same : @Cert.KernelQkvD.main F _ = @Cert.KernelQkvDIdeal.main F _ := rfl

end Printed

theorem frame_printed : Cert.quiescent_KernelQkvD := fun m ρ _ =>
  (congrArg₂ (fun d p => θ_run d (onTc p) _ _) (defs_same (F := Bits)) (main_same (F := Bits))).mpr
    (Cert.KernelQkvDIdeal.Gen.frame (F := Bits) m ρ)

end Cert.Proof.QkvD
end
-- ==== Proof.QkvDClaim.lean ====
/-
  The projection to queries, keys and values: gradient of its input, through the norm: the reference's arrays, read over the extended reals, and the claims.
  Whatever the arguments, the kernel and the reference leave the same arrays.
-/
module

public import proofs.«01_k».proof.Proof.QkvDVal
public import proofs.«01_k».proof.Proof.Gen.ReferenceQkvDIdeal
public import proofs.«01_k».proof.Proof.Gen.ReferenceQkvDIdeal.Run
public import proofs.«01_k».proof.Proof.Gen.ReferenceQkvDIdeal.Read

@[expose] public section

set_option maxRecDepth 16384

noncomputable section

namespace Cert.Proof.QkvD

open Cert.ReferenceQkvDIdeal Cert.ReferenceQkvDIdeal.Read
open Idealize.ShloMosaic Idealize.ShloMosaic.TcCoe Idealize.SL.Sem
open Ext
open Finset

variable (A W X D : ℕ → ℕ → EReal) (g : ℕ → EReal)

theorem r6 (i) : val_main_v6 (F := Ideal) (E2 (φ := .f32) X) i = ms X (i 0).val := by
  rw [val_main_v6_apply (F := Ideal), val_main_v4_apply (F := Ideal), val_main_v2_apply (F := Ideal), val_main_v1_apply, val_main_v3_apply (F := Ideal), val_main_v5_apply (F := Ideal),
    val_main_cst_apply (F := Ideal), val_main_cst_0_apply (F := Ideal), val_main_cst_1_apply (F := Ideal), zero_bits, zero_add]
  have e : (∑ k : Fin 1024, val_main_v0 (F := Ideal) (E2 (φ := .f32) X) (idx_main_v1 (idx_main_v2 i) k)) = ∑ k ∈ range 1024, X (i 0).val k * X (i 0).val k :=
    sum_fin 1024 fun k => X (i 0).val k * X (i 0).val k
  rw [e]
  rfl

theorem r7 (i) : val_main_v7 (F := Ideal) (E2 (φ := .f32) X) i = scale X (i 0).val := by
  rw [val_main_v7_apply (F := Ideal), r6]
  rfl

theorem r10 (i) : val_main_v10 (F := Ideal) (E2 (φ := .f32) X) i = Ideal.ofBits .f32 0xBF000000#32 * Ideal.div (scale X (i 0).val) (ms X (i 0).val) := by
  rw [val_main_v10_apply (F := Ideal), val_main_v9_apply (F := Ideal), val_main_cst_2_apply (F := Ideal), val_main_v8_apply (F := Ideal), r7, r6]
  rfl

theorem r12 (i) : val_main_v12 (F := Ideal) (E2 (φ := .f32) X) i = X (i 0).val (i 1).val * scale X (i 0).val := by
  rw [val_main_v12_apply (F := Ideal), val_main_v11_apply (F := Ideal), r7]
  rfl

theorem r19 (i) : val_main_v19 (F := Ideal) (E2 (φ := .bf16) A) (E2 (φ := .bf16) W) i = dh A W (i 0).val (i 1).val := by
  rw [val_main_v19_apply]
  unfold dh
  rw [← sum_fin 3072 fun k => A (i 0).val k * W (i 1).val k]
  refine Finset.sum_congr rfl fun k _ => ?_
  rw [val_main_v18_apply (F := Ideal), val_main_v16_apply (F := Ideal)]
  rfl

theorem r21 (i) : val_main_v21 (F := Ideal) (E2 (φ := .bf16) A) (E2 (φ := .bf16) W) (E2 (φ := .f32) X) i = ∑ k ∈ range 8192, X k (i 0).val * scale X k * dh A W k (i 0).val := by
  rw [val_main_v21_apply, val_main_cst_3_apply (F := Ideal), zero_bits, zero_add, ← sum_fin 8192 fun k => X k (i 0).val * scale X k * dh A W k (i 0).val]
  refine Finset.sum_congr rfl fun k _ => ?_
  rw [val_main_v20_apply (F := Ideal), r12, r19]
  rfl

theorem r41 : val_main_v41 (F := Ideal) (E2 (φ := .bf16) A) (E2 (φ := .bf16) W) (E2 (φ := .f32) X) = dgArr A W X := by
  funext i
  rw [val_main_v41_apply (F := Ideal), val_main_v25_apply, val_main_cst_4_apply (F := Ideal), zero_bits, zero_add, Fin.sum_univ_one, val_main_v22_apply (F := Ideal), r21]
  have h0 : (i 0).val = 0 := by have : (i 0).val < 1 := (i 0).isLt; omega
  have e : ((idx_main_v22 (idx_main_v25 (idx_main_v41 i) 0)) 0).val = (i 1).val := by
    show 0 * 1024 + ((i 0).val * 1024 + (i 1).val) = (i 1).val
    omega
  rw [e]
  unfold dgArr E2
  exact Finset.sum_congr rfl fun k _ => mul_comm _ _

theorem r24 (i) : val_main_v24 (F := Ideal) (E2 (φ := .bf16) A) (E2 (φ := .bf16) W) (E1 (φ := .f32) g) i = dh A W (i 0).val (i 1).val * g (i 1).val := by
  rw [val_main_v24_apply (F := Ideal), r19, val_main_v23_apply (F := Ideal), val_main_v13_apply (F := Ideal)]
  rfl

theorem r28 (i) : val_main_v28 (F := Ideal) (E2 (φ := .bf16) A) (E2 (φ := .bf16) W) (E2 (φ := .f32) X) (E1 (φ := .f32) g) i = ∑ k ∈ range 1024, X (i 0).val k * (dh A W (i 0).val k * g k) := by
  rw [val_main_v28_apply (F := Ideal), val_main_v27_apply, val_main_cst_5_apply (F := Ideal), zero_bits, zero_add]
  have e : ((idx_main_v28 i) 0).val = (i 0).val := by
    have : (i 1).val < 1 := (i 1).isLt
    show (i 0).val * 1 + (i 1).val = (i 0).val
    omega
  rw [← sum_fin 1024 fun k => X (i 0).val k * (dh A W (i 0).val k * g k)]
  refine Finset.sum_congr rfl fun k _ => ?_
  rw [val_main_v26_apply (F := Ideal), r24]
  show X ((idx_main_v28 i) 0).val k.val * (dh A W ((idx_main_v28 i) 0).val k.val * g k.val) = _
  rw [e]

theorem r36 (i) : val_main_v36 (F := Ideal) (E2 (φ := .bf16) A) (E2 (φ := .bf16) W) (E2 (φ := .f32) X) (E1 (φ := .f32) g) i = half X g (dh A W) (i 0).val := by
  rw [val_main_v36_apply (F := Ideal), val_main_v35_apply, val_main_cst_7_apply (F := Ideal), zero_bits, zero_add, Fin.sum_univ_one,
    val_main_v34_apply (F := Ideal), val_main_v32_apply (F := Ideal), r28, r10, val_main_v33_apply (F := Ideal), val_main_cst_6_apply (F := Ideal)]
  rfl

theorem r40 : val_main_v40 (F := Ideal) (E2 (φ := .bf16) A) (E2 (φ := .bf16) W) (E2 (φ := .f32) X) (E1 (φ := .f32) g) (E2 (φ := .f32) D) = dxArr A W X D g := by
  funext i
  rw [val_main_v40_apply (F := Ideal), val_main_v38_apply (F := Ideal), val_main_v31_apply (F := Ideal), val_main_v30_apply (F := Ideal), val_main_v37_apply (F := Ideal), val_main_v39_apply (F := Ideal),
    r36, r24, val_main_v29_apply (F := Ideal), r7]
  exact through_eq X g (dh A W) (D (i 0).val (i 1).val) (i 0).val (i 1).val

section Claims

open Cert

set_option maxHeartbeats 1600000 in
theorem frame_reference : Cert.quiescent_ReferenceQkvDIdeal := by
  intro m g _
  hlo_run
  · exact fun _ => ⟨trivial, trivial, trivial, trivial, trivial⟩
  · exact sem_eq_zero_of_no_sems rfl _

/-- Both programs compute the gradient of the norm's input and of its weights. -/
theorem value : Cert.algebraic_KernelQkvDIdeal_ReferenceQkvDIdeal := by
  intro m g m' g' _ hagree
  let A := fun c : Dev KernelQkvDIdeal.nD => vals (m := 8192) (n := 3072) (φ := .bf16) (m ((c.tc : Thread KernelQkvDIdeal.nD KernelQkvDIdeal.τ).loc KernelQkvDIdeal.main_arg0))
  let W := fun c : Dev KernelQkvDIdeal.nD => vals (m := 1024) (n := 3072) (φ := .bf16) (m ((c.tc : Thread KernelQkvDIdeal.nD KernelQkvDIdeal.τ).loc KernelQkvDIdeal.main_arg1))
  let X := fun c : Dev KernelQkvDIdeal.nD => vals (m := 8192) (n := 1024) (φ := .f32) (m ((c.tc : Thread KernelQkvDIdeal.nD KernelQkvDIdeal.τ).loc KernelQkvDIdeal.main_arg2))
  let G := fun c : Dev KernelQkvDIdeal.nD => vals1 (n := 1024) (φ := .f32) (m ((c.tc : Thread KernelQkvDIdeal.nD KernelQkvDIdeal.τ).loc KernelQkvDIdeal.main_arg3))
  let D := fun c : Dev KernelQkvDIdeal.nD => vals (m := 8192) (n := 1024) (φ := .f32) (m ((c.tc : Thread KernelQkvDIdeal.nD KernelQkvDIdeal.τ).loc KernelQkvDIdeal.main_arg4))
  have hholds : ∀ c, Holds m c (A c) (W c) (X c) (D c) (G c) := fun c => ⟨vals_eq _, vals_eq _, vals_eq _, vals1_eq _, vals_eq _⟩
  refine ⟨fun c => dxArr (A c) (W c) (X c) (D c) (G c), fun c => dgArr (A c) (W c) (X c), ?_, ?_⟩
  · refine (θ_run _ _ _).mono (fun r h c => ?_) (KernelQkvDIdeal.Value.run_blocks (F := Ideal) m g)
    obtain ⟨h0, h1, h2⟩ := h c
    exact ⟨h0.trans (final5 m c _ _ _ _ _ (hholds c)), h1.trans (final6 m c _ _ _ _ _ (hholds c)), h2⟩
  · refine (θ_run _ _ _).mono (fun r h c => ?_) (ReferenceQkvDIdeal.Value.run (F := Ideal) m' g')
    obtain ⟨e0, e1, e2, e3, e4⟩ := hagree c
    obtain ⟨h0, h1, h2⟩ := h c
    refine ⟨h0.trans ((ReferenceQkvDIdeal.Read.val_main_v40_eq m' c).trans ?_), h1.trans ?_, h2⟩
    · rw [e0, e1, e2, e3, e4]
      rw [(hholds c).a, (hholds c).w, (hholds c).x, (hholds c).g, (hholds c).d]
      exact r40 _ _ _ _ _
    · refine (ReferenceQkvDIdeal.Read.val_main_v41_eq _ _ _).trans ?_
      rw [e0, e1, e2]
      rw [(hholds c).a, (hholds c).w, (hholds c).x]
      exact r41 _ _ _

end Claims

end Cert.Proof.QkvD
end
-- ==== Proof.NormRnnVal.lean ====
/-
  The norm before the recurrent block and the first half of the block's input projection.
  The kernel does 512 rows at a time: the rows' norm, the normed rows as one result, and their product with the weight as the
  other. Over the extended reals this is what the reference computes.
-/
module

public import proofs.«01_k».proof.Defs
public import proofs.«01_k».proof.Proof.Gen.KernelNormRnn
public import proofs.«01_k».proof.Proof.Gen.KernelNormRnnIdeal
public import proofs.«01_k».proof.Proof.Gen.KernelNormRnnIdeal.Frame
public import proofs.«01_k».proof.Proof.Gen.KernelNormRnnIdeal.Value
public import proofs.«01_k».proof.Proof.Gen.ReferenceNormRnnIdeal
public import proofs.«01_k».proof.Proof.Gen.ReferenceNormRnnIdeal.Run
public import proofs.«01_k».proof.Proof.Gen.ReferenceNormRnnIdeal.Read
public import proofs.«01_k».proof.Proof.Ext
public import Idealize.ShloMosaic.Lib.Pipeline.ValueKit
public import Idealize.ShloMosaic.Lib.Claim

@[expose] public section

set_option maxRecDepth 16384

noncomputable section

namespace Cert.Proof.NormRnn

open Cert.KernelNormRnnIdeal Cert.KernelNormRnnIdeal.Gen Cert.KernelNormRnnIdeal.Value
open Idealize.ShloMosaic Idealize.ShloMosaic.TcCoe Idealize.SL.Sem
open Idealize.ShloMosaic.Pipeline (Dat)
open Ext
open Finset

/-- One block of the normed rows. -/
theorem pay1 (x : ℕ → ℕ → EReal) (g : ℕ → EReal) : k0_pay1 (F := Ideal) (E2 (φ := .f32) x) (E2 (φ := .f32) fun _ j => g j) = E2 (fun i j => x i j * scale x i * g j) := by
  funext y
  idx_vars y
  pointwise [k0_pay1]
  simp only [E2_ix]
  rw [sum_fin 1024 (fun l => x y0.val l * x y0.val l)]
  rfl

/-- One block of their product with the weight. -/
theorem pay2 (x : ℕ → ℕ → EReal) (g : ℕ → EReal) (w : ℕ → ℕ → EReal) : k0_pay2 (F := Ideal) (E2 (φ := .f32) x) (E2 (φ := .f32) fun _ j => g j) (E2 (φ := .bf16) w)
    = E2 (fun i j => ∑ l ∈ range 1024, x i l * scale x i * g l * w l j) := by
  funext y
  idx_vars y
  pointwise [k0_pay2]
  rw [pay1]
  simp only [E2_ix]
  rw [sum_fin 1024 (fun l => x y0.val l * scale x y0.val * g l * w l y1.val)]

theorem hz : (![0, 0] : Fin 2 → ℕ) = fun _ => 0 := by
  funext a
  match a with
  | 0 => rfl
  | 1 => rfl

theorem out3_eq (x : Vec Ideal S512x1024 .f32) (g : Vec Ideal S1x1024 .f32) (w : Vec Ideal S1024x1280 .bf16) : out0_3 (F := Ideal) x g w = k0_pay2 (F := Ideal) x g w := by
  unfold out0_3
  rw [View.canon_unit_zero hz]
  simp only [View.ld_unit_zero (S := S512x1024) hz, View.ld_unit_zero (S := S1x1024) hz, View.ld_unit_zero (S := S1024x1280) hz]

theorem out4_eq (x : Vec Ideal S512x1024 .f32) (g : Vec Ideal S1x1024 .f32) (w : Vec Ideal S1024x1280 .bf16) : out0_4 (F := Ideal) x g w = k0_pay1 (F := Ideal) x g := by
  unfold out0_4
  rw [View.canon_unit_zero hz]
  simp only [View.ld_unit_zero (S := S512x1024) hz, View.ld_unit_zero (S := S1x1024) hz]

/-- The normed rows. -/
def hnArr (X : ℕ → ℕ → EReal) (g : ℕ → EReal) : FVec Ideal S8192x1024 .bf16 := E2 fun i j => X i j * scale X i * g j

/-- Their product with the weight. -/
def yArr (X W : ℕ → ℕ → EReal) (g : ℕ → EReal) : FVec Ideal S8192x1280 .f32 := E2 fun i j => ∑ l ∈ range 1024, X i l * scale X i * g l * W l j

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ) (c : Dev nD) (X W : ℕ → ℕ → EReal) (g : ℕ → EReal)

/-- The arguments, by their entries. -/
structure Holds : Prop where
  x : (m ((c : Thread nD τ).loc main_arg0) : FVec Ideal S8192x1024 .f32) = E2 (φ := .f32) X
  g : (m ((c : Thread nD τ).loc main_arg1) : FVec Ideal S1024 .f32) = E1 (φ := .f32) g
  w : (m ((c : Thread nD τ).loc main_arg2) : FVec Ideal S1024x2560 .bf16) = E2 (φ := .bf16) W

theorem Vw : V m c main_v0 = extractStridedSlice S1024x1280 ![0, 0] (m ((c : Thread nD τ).loc main_arg2)) slices_S1024x2560_S1024x1280_0_0 := by
  unfold V
  simp only [hostOps0, List.flatten_cons, List.flatten_nil, List.append_nil, StableHlo.TRef.unary, StableHlo.TRef.toBuf, StableHlo.TRef.ofBuf, cast_eq]
  after_results_simp

theorem Vg : V m c main_v1 = shapeCast S1x1024 (m ((c : Thread nD τ).loc main_arg1)) shapeCasts_S1024_S1x1024 := by
  unfold V
  simp only [hostOps0, List.flatten_cons, List.flatten_nil, List.append_nil, StableHlo.TRef.unary, StableHlo.TRef.toBuf, StableHlo.TRef.ofBuf, cast_eq]
  after_results_simp
  rfl

variable (h : Holds m c X W g)

section Blocks

include h

theorem blk0 (t : Fin cfg0.N) : (iblk m c 0 t : FVec Ideal S512x1024 .f32) = E2 (φ := .f32) fun i j => X (512 * t.val + i) j := by
  funext y
  refine (congrFun ((V_main_arg0 m c).trans h.x) (((cfg0.win 0).blk t).view.emb y)).trans ?_
  unfold E2
  blk_simp [idx t]
  exact (congrArg₂ X (by omega) (by omega))

theorem g_eq : V m c main_v1 = (E2 (φ := .f32) fun _ j => g j : FVec Ideal S1x1024 .f32) := by
  rw [Vg]
  refine (congrArg (fun w => shapeCast S1x1024 w shapeCasts_S1024_S1x1024) h.g).trans ?_
  funext y
  idx_vars y
  pointwise
  rfl

theorem blk1 (t : Fin cfg0.N) : (iblk m c 1 t : FVec Ideal S1x1024 .f32) = E2 (φ := .f32) fun _ j => g j := by
  funext y
  refine (congrFun (g_eq m c X W g h) (((cfg0.win 1).blk t).view.emb y)).trans ?_
  unfold E2
  blk_simp [idx t]

theorem w_eq : V m c main_v0 = (E2 (φ := .bf16) W : FVec Ideal S1024x1280 .bf16) := by
  rw [Vw]
  refine (congrArg (fun w => extractStridedSlice S1024x1280 ![0, 0] w slices_S1024x2560_S1024x1280_0_0) h.w).trans ?_
  funext y
  idx_vars y
  pointwise
  rfl

theorem blk2 (t : Fin cfg0.N) : (iblk m c 2 t : FVec Ideal S1024x1280 .bf16) = E2 (φ := .bf16) W := by
  funext y
  refine (congrFun (w_eq m c X W g h) (((cfg0.win 2).blk t).view.emb y)).trans ?_
  unfold E2
  blk_simp [idx t]

theorem final3 : (dats m 0 c).arrAt 3 cfg0.N = yArr X W g := by
  refine (dats m 0 c).arrAt_eq_of_covers 3 _ (by decide +kernel) fun t hf y => ?_
  have ht : t.val < 16 := t.isLt
  have y0 : (y 0).val < 512 := (y 0).isLt
  have y1 : (y 1).val < 1280 := (y 1).isLt
  blk_simp
  rw [after0_3, out3_eq, blk0 m c X W g h, blk1 m c X W g h, blk2 m c X W g h, pay2]
  unfold yArr E2
  blk_simp [idx t]
  have e : t.val * 512 + (y 0).val = 512 * t.val + (y 0).val := by omega
  rw [e]
  rfl

theorem final4 : (dats m 0 c).arrAt 4 cfg0.N = hnArr X g := by
  refine (dats m 0 c).arrAt_eq_of_covers 4 _ (by decide +kernel) fun t hf y => ?_
  have ht : t.val < 16 := t.isLt
  have y0 : (y 0).val < 512 := (y 0).isLt
  have y1 : (y 1).val < 1024 := (y 1).isLt
  blk_simp
  rw [after0_4, out4_eq, blk0 m c X W g h, blk1 m c X W g h, pay1]
  unfold hnArr E2
  blk_simp [idx t]
  have e : t.val * 512 + (y 0).val = 512 * t.val + (y 0).val := by omega
  rw [e]
  rfl

end Blocks

section Reference

open Cert.ReferenceNormRnnIdeal Cert.ReferenceNormRnnIdeal.Read

theorem r6 (i) : val_main_v6 (F := Ideal) (E2 (φ := .f32) X) i = ms X (i 0).val := by
  rw [val_main_v6_apply (F := Ideal), val_main_v4_apply (F := Ideal), val_main_v2_apply (F := Ideal), val_main_v1_apply, val_main_v3_apply (F := Ideal), val_main_v5_apply (F := Ideal),
    val_main_cst_apply (F := Ideal), val_main_cst_0_apply (F := Ideal), val_main_cst_1_apply (F := Ideal), zero_bits, zero_add]
  have e : (∑ k : Fin 1024, val_main_v0 (F := Ideal) (E2 (φ := .f32) X) (idx_main_v1 (idx_main_v2 i) k)) = ∑ k ∈ range 1024, X (i 0).val k * X (i 0).val k :=
    sum_fin 1024 fun k => X (i 0).val k * X (i 0).val k
  rw [e]
  rfl

theorem r12 (i) : val_main_v12 (F := Ideal) (E2 (φ := .f32) X) (E1 (φ := .f32) g) i = X (i 0).val (i 1).val * scale X (i 0).val * g (i 1).val := by
  rw [val_main_v12_apply (F := Ideal), val_main_v9_apply (F := Ideal), val_main_v8_apply (F := Ideal), val_main_v7_apply (F := Ideal), r6, val_main_v11_apply (F := Ideal), val_main_v10_apply (F := Ideal)]
  rfl

theorem ref_hn : val_main_v16 (F := Ideal) (E2 (φ := .f32) X) (E1 (φ := .f32) g) = hnArr X g := by
  funext i
  rw [val_main_v16_apply (F := Ideal), r12]
  rfl

theorem ref_y : val_main_v15 (F := Ideal) (E2 (φ := .f32) X) (E1 (φ := .f32) g) (E2 (φ := .bf16) W) = yArr X W g := by
  funext i
  refine (val_main_v15_apply _ _ _ i).trans ?_
  unfold yArr E2
  refine Eq.trans ?_ (sum_fin 1024 fun l => X (i 0).val l * scale X (i 0).val * g l * W l (i 1).val)
  refine Finset.sum_congr rfl fun k _ => ?_
  refine congrArg₂ (fun a b : EReal => a * b) (r12 X g _) ?_
  rw [val_main_v14_apply (F := Ideal), val_main_v13_apply (F := Ideal)]
  rfl

end Reference

theorem frame_ideal : Cert.quiescent_KernelNormRnnIdeal := fun m ρ _ => Cert.KernelNormRnnIdeal.Gen.frame m ρ

theorem frame_reference : Cert.quiescent_ReferenceNormRnnIdeal := by
  intro m g _
  hlo_run
  · exact fun _ => ⟨trivial, trivial, trivial⟩
  · exact sem_eq_zero_of_no_sems rfl _

/-- Both programs compute the normed rows and their product with the weight. -/
theorem value : Cert.algebraic_KernelNormRnnIdeal_ReferenceNormRnnIdeal := by
  intro m g m' g' _ hagree
  let X := fun c : Dev KernelNormRnnIdeal.nD => vals (m := 8192) (n := 1024) (φ := .f32) (m ((c.tc : Thread KernelNormRnnIdeal.nD KernelNormRnnIdeal.τ).loc KernelNormRnnIdeal.main_arg0))
  let G := fun c : Dev KernelNormRnnIdeal.nD => vals1 (n := 1024) (φ := .f32) (m ((c.tc : Thread KernelNormRnnIdeal.nD KernelNormRnnIdeal.τ).loc KernelNormRnnIdeal.main_arg1))
  let W := fun c : Dev KernelNormRnnIdeal.nD => vals (m := 1024) (n := 2560) (φ := .bf16) (m ((c.tc : Thread KernelNormRnnIdeal.nD KernelNormRnnIdeal.τ).loc KernelNormRnnIdeal.main_arg2))
  have hholds : ∀ c, Holds m c (X c) (W c) (G c) := fun c => ⟨vals_eq _, vals1_eq _, vals_eq _⟩
  refine ⟨fun c => yArr (X c) (W c) (G c), fun c => hnArr (X c) (G c), ?_, ?_⟩
  · refine (θ_run _ _ _).mono (fun r h c => ?_) (KernelNormRnnIdeal.Value.run_blocks (F := Ideal) m g)
    obtain ⟨h0, h1, h2⟩ := h c
    exact ⟨h0.trans (final3 m c _ _ _ (hholds c)), h1.trans (final4 m c _ _ _ (hholds c)), h2⟩
  · refine (θ_run _ _ _).mono (fun r h c => ?_) (ReferenceNormRnnIdeal.Value.run (F := Ideal) m' g')
    obtain ⟨e0, e1, e2⟩ := hagree c
    obtain ⟨h0, h1, h2⟩ := h c
    refine ⟨h0.trans ((ReferenceNormRnnIdeal.Read.val_main_v15_eq _ _ _).trans ?_), h1.trans ((ReferenceNormRnnIdeal.Read.val_main_v16_eq _ _).trans ?_), h2⟩
    · rw [e0, e1, e2, (hholds c).x, (hholds c).g, (hholds c).w]
      exact ref_y _ _ _
    · rw [e0, e1, (hholds c).x, (hholds c).g]
      exact ref_hn _ _

section Printed

variable {F : FTy → Type} [FloatOps F]

/-- The printed kernel is the idealized kernel's text. -/
theorem bodies_same : @Cert.KernelNormRnn.defs₀ F _ Cert.KernelNormRnn.Gen.facts = @Cert.KernelNormRnnIdeal.defs₀ F _ Cert.KernelNormRnnIdeal.Gen.facts := by
  unfold Cert.KernelNormRnn.defs₀ Cert.KernelNormRnnIdeal.defs₀
  refine congrArg Defs.onTc ?_
  funext l x
  match l, x with
  | 0, (t, s) => exact rfl

theorem defs_same : @Cert.KernelNormRnn.defs F _ Cert.KernelNormRnn.Gen.facts = @Cert.KernelNormRnnIdeal.defs F _ Cert.KernelNormRnnIdeal.Gen.facts := by
  unfold Cert.KernelNormRnn.defs Cert.KernelNormRnnIdeal.defs
  rw [bodies_same]
  rfl

theorem main_same : @Cert.KernelNormRnn.main F _ = @Cert.KernelNormRnnIdeal.main F _ := rfl

end Printed

theorem frame_printed : Cert.quiescent_KernelNormRnn := fun m ρ _ =>
  (congrArg₂ (fun d p => θ_run d (onTc p) _ _) (defs_same (F := Bits)) (main_same (F := Bits))).mpr
    (Cert.KernelNormRnnIdeal.Gen.frame (F := Bits) m ρ)

end Cert.Proof.NormRnn
end
-- ==== Proof.RecFVal.lean ====
/-
  The recurrent block's input projection, its recurrent half: one row block of the normed activations against the second half of the weight's columns at a time.
  Each entry is the sum over the model's 1024 channels, in the kernel and in the reference alike.
-/
module

public import proofs.«01_k».proof.Defs
public import proofs.«01_k».proof.Proof.Gen.KernelRecF
public import proofs.«01_k».proof.Proof.Gen.KernelRecFIdeal
public import proofs.«01_k».proof.Proof.Gen.KernelRecFIdeal.Frame
public import proofs.«01_k».proof.Proof.Gen.KernelRecFIdeal.Value
public import proofs.«01_k».proof.Proof.Gen.ReferenceRecFIdeal
public import proofs.«01_k».proof.Proof.Gen.ReferenceRecFIdeal.Run
public import proofs.«01_k».proof.Proof.Gen.ReferenceRecFIdeal.Read
public import proofs.«01_k».proof.Proof.Vals
public import Idealize.ShloMosaic.Lib.Pipeline.ValueKit
public import Idealize.ShloMosaic.Lib.Claim

@[expose] public section

set_option maxRecDepth 16384

noncomputable section

namespace Cert.Proof.RecF

open Cert.KernelRecFIdeal Cert.KernelRecFIdeal.Gen Cert.KernelRecFIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The product of the rows of one array with the columns of the other, from column 1280 on. -/
def rowsByCols (x : FVec Ideal S8192x1024 .bf16) (w : FVec Ideal S1024x2560 .bf16) : FVec Ideal S8192x1280 .f32 :=
  fun i => ∑ k : Fin 1024, (x (ix2 (i 0) k) : EReal) * w (ix2 k (⟨1280 + (i 1).val, by have : (i 1).val < 1280 := (i 1).isLt; omega⟩ : Fin 2560))

/-- One block of the kernel. -/
theorem pay_apply (x : FVec Ideal S1024x1024 .bf16) (w : FVec Ideal S1024x1280 .bf16) (y : S1024x1280.Idx) :
    k0_pay1 (F := Ideal) x w y = ∑ k : Fin 1024, (x (ix2 (y 0) k) : EReal) * w (ix2 k (y 1)) := by
  idx_vars y
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem hz : (![0, 0] : Fin 2 → ℕ) = fun _ => 0 := by
  funext a
  match a with
  | 0 => rfl
  | 1 => rfl

theorem out_eq (x : Vec Ideal S1024x1024 .bf16) (w : Vec Ideal S1024x1280 .bf16) : out0_2 (F := Ideal) x w = k0_pay1 (F := Ideal) x w := by
  unfold out0_2
  rw [View.canon_unit_zero hz]
  simp only [View.ld_unit_zero (S := S1024x1024) hz, View.ld_unit_zero (S := S1024x1280) hz]

theorem V0 : V m c main_v0 = extractStridedSlice S1024x1280 ![0, 1280] (m ((c : Thread nD τ).loc main_arg1)) slices_S1024x2560_S1024x1280_0_1280 := by
  unfold V
  simp only [hostOps0, List.flatten_cons, List.flatten_nil, List.append_nil, StableHlo.TRef.unary, StableHlo.TRef.toBuf, StableHlo.TRef.ofBuf, cast_eq]
  after_results_simp

/-- The kernel's weight is a run of columns of the whole one. -/
theorem w_apply (a : Fin 1024) (b : Fin 1280) : (V m c main_v0 : FVec Ideal S1024x1280 .bf16) (ix2 a b) = (m ((c : Thread nD τ).loc main_arg1) : FVec Ideal S1024x2560 .bf16) (ix2 a (⟨1280 + b.val, by omega⟩ : Fin 2560)) := by
  rw [V0]
  pointwise

/-- The array after the run. -/
theorem final : (dats m 0 c).arrAt 2 cfg0.N = rowsByCols (m ((c : Thread nD τ).loc main_arg0)) (m ((c : Thread nD τ).loc main_arg1)) := by
  refine (dats m 0 c).arrAt_eq_of_covers 2 _ (by decide +kernel) fun t hf y => ?_
  have ht : t.val < 8 := t.isLt
  have y0 : (y 0).val < 1024 := (y 0).isLt
  have y1 : (y 1).val < 1280 := (y 1).isLt
  blk_simp
  rw [after0_2, out_eq]
  refine (pay_apply _ _ y).trans ?_
  unfold rowsByCols
  refine Finset.sum_congr rfl fun k _ => ?_
  refine congrArg₂ (fun a b : EReal => a * b) ?_ ?_
  · refine (congrFun (V_main_arg0 m c) (((cfg0.win 0).blk t).view.emb (ix2 (y 0) k))).trans ?_
    refine congrArg (m ((c : Thread nD τ).loc main_arg0)) ?_
    blk_ext [idx t]
  · refine Eq.trans (congrArg (V m c main_v0 : FVec Ideal S1024x1280 .bf16) ?_) ((w_apply m c k (y 1)).trans (congrArg (m ((c : Thread nD τ).loc main_arg1)) ?_))
    · blk_ext [idx t]
    · funext a
      refine Fin.ext ?_
      match a with
      | ⟨0, _⟩ => rfl
      | ⟨1, _⟩ =>
        show 1280 + (y 1).val = 1280 + _
        blk_simp [idx t]

/-- The reference's array. -/
theorem ref_val (x : FVec Ideal S8192x1024 .bf16) (w : FVec Ideal S1024x2560 .bf16) : ReferenceRecFIdeal.Read.val_main_v3 (F := Ideal) x w = rowsByCols x w := by
  funext i
  refine (ReferenceRecFIdeal.Read.val_main_v3_apply x w i).trans (Finset.sum_congr rfl fun k _ => ?_)
  refine congrArg₂ (fun a b : EReal => a * b) (congrArg x ?_) (congrArg w ?_)
  · funext a
    match a with
    | ⟨0, _⟩ => rfl
    | ⟨1, _⟩ => rfl
  · funext a
    match a with
    | ⟨0, _⟩ => exact Fin.ext (Nat.zero_add _)
    | ⟨1, _⟩ => rfl

theorem frame_ideal : Cert.quiescent_KernelRecFIdeal := fun m ρ _ => Cert.KernelRecFIdeal.Gen.frame m ρ

theorem frame_reference : Cert.quiescent_ReferenceRecFIdeal := by
  intro m g _
  hlo_run
  · exact fun _ => ⟨trivial, trivial⟩
  · exact sem_eq_zero_of_no_sems rfl _

theorem value : Cert.algebraic_KernelRecFIdeal_ReferenceRecFIdeal := by
  intro m g m' g' _ hagree
  refine ⟨fun c => rowsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceRecFIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelRecF.defs₀ F _ Cert.KernelRecF.Gen.facts = @Cert.KernelRecFIdeal.defs₀ F _ Cert.KernelRecFIdeal.Gen.facts := by
  unfold Cert.KernelRecF.defs₀ Cert.KernelRecFIdeal.defs₀
  refine congrArg Defs.onTc ?_
  funext l x
  match l, x with
  | 0, (t, s) => exact rfl

theorem defs_same : @Cert.KernelRecF.defs F _ Cert.KernelRecF.Gen.facts = @Cert.KernelRecFIdeal.defs F _ Cert.KernelRecFIdeal.Gen.facts := by
  unfold Cert.KernelRecF.defs Cert.KernelRecFIdeal.defs
  rw [bodies_same]
  rfl

theorem main_same : @Cert.KernelRecF.main F _ = @Cert.KernelRecFIdeal.main F _ := rfl

end Printed

theorem frame_printed : Cert.quiescent_KernelRecF := fun m ρ _ =>
  (congrArg₂ (fun d p => θ_run d (onTc p) _ _) (defs_same (F := Bits)) (main_same (F := Bits))).mpr
    (Cert.KernelRecFIdeal.Gen.frame (F := Bits) m ρ)

end Cert.Proof.RecF
end
-- ==== Proof.RnnInWVal.lean ====
/-
  The recurrent block's input projection's gradient of one half of its weight: the transposed activations times the gradient, in one output tile, the
  rows of the batch in eight runs of 1024 that are added up in a scratch tile.
  Each entry is the sum over the 8192 rows, in the kernel and in the reference alike.
-/
module

public import proofs.«01_k».proof.Defs
public import proofs.«01_k».proof.Proof.Gen.KernelRnnInW
public import proofs.«01_k».proof.Proof.Gen.KernelRnnInWIdeal
public import proofs.«01_k».proof.Proof.Gen.KernelRnnInWIdeal.Frame
public import proofs.«01_k».proof.Proof.Gen.KernelRnnInWIdeal.Value
public import proofs.«01_k».proof.Proof.Gen.ReferenceRnnInWIdeal
public import proofs.«01_k».proof.Proof.Gen.ReferenceRnnInWIdeal.Run
public import proofs.«01_k».proof.Proof.Gen.ReferenceRnnInWIdeal.Read
public import proofs.«01_k».proof.Proof.Sums
public import proofs.«01_k».proof.Proof.Vals
public import Idealize.ShloMosaic.Lib.Pipeline.ValueKit
public import Idealize.ShloMosaic.Lib.Claim

@[expose] public section

set_option maxRecDepth 16384

noncomputable section

namespace Cert.Proof.RnnInW

open Cert.KernelRnnInWIdeal Cert.KernelRnnInWIdeal.Gen Cert.KernelRnnInWIdeal.Value
open Idealize.ShloMosaic Idealize.ShloMosaic.TcCoe Idealize.SL.Sem
open Idealize.ShloMosaic.Pipeline (Dat)
open Finset

theorem hz : (![0, 0] : Fin 2 → ℕ) = fun _ => 0 := by
  funext a
  match a with
  | 0 => rfl
  | 1 => rfl

/-- The product of the columns of one array with the columns of the other. -/
def colsByCols (x : FVec Ideal S8192x1024 .bf16) (w : FVec Ideal S8192x1280 .bf16) : FVec Ideal S1024x1280 .f32 :=
  fun i => ∑ k : Fin 8192, (x (ix2 k (i 0)) : EReal) * w (ix2 k (i 1))

/-- One run of rows. -/
theorem pay_apply (x : FVec Ideal S1024x1024 .bf16) (w : FVec Ideal S1024x1280 .bf16) (y : S1024x1280.Idx) :
    k0_pay1 (F := Ideal) x w y = ∑ k : Fin 1024, (x (ix2 k (y 0)) : EReal) * w (ix2 k (y 1)) := by
  idx_vars y
  pointwise [k0_pay1]

section Cases

variable {F : FTy → Type} [FloatOps F]
variable (c : Dev nD) (i : grid0.Coords) (a3 : Memref sig .tc .vmem S1024x1024 .bf16) (h3 : a3.IsWhole) (a4 : Memref sig .tc .vmem S1024x1280 .bf16) (h4 : a4.IsWhole)
  (a5 : Memref sig .tc .vmem S1024x1280 .f32) (h5 : a5.IsWhole) (a6 : Memref sig .tc .vmem S1024x1280 .f32) (h6 : a6.IsWhole)
  (x : Vec F S1024x1024 .bf16) (w : Vec F S1024x1280 .bf16) (acc : Vec F S1024x1280 .f32)

/-- The first run of rows starts the scratch tile. -/
theorem scratch_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, View.ld_unit_zero (S := S1024x1024) hz, View.ld_unit_zero (S := S1024x1280) hz, shapeCast_self]

/-- A later run adds to it. -/
theorem scratch_B (hc0 : ¬cond0_0 i) (hc1 : cond0_1 i) (hc2 : ¬cond0_2 i) :
    sout0_B_0 c i a3 h3 a4 h4 a5 h5 a6 h6 hc0 hc1 hc2 x w acc = addf acc (k0_pay1 x w) := by
  unfold sout0_B_0
  rw [View.read_writes_eq_canon _ _ _ (scover0_B_0 c i a3 h3 a4 h4 a5 h5 a6 h6 hc0 hc1 hc2 x w acc)]
  unfold kernelRun0_B
  dsimp only
  sl_unfold_words
  rw [View.canon_unit_zero hz]
  unfold k0_pay3
  simp only [View.readAt_eq_ld, h3.read_unread, h4.read_unread, h6.read_unread, View.ld_unit_zero (S := S1024x1024) hz, View.ld_unit_zero (S := S1024x1280) hz, shapeCast_self]

/-- The last run too, and what the scratch tile then holds goes out. -/
theorem out_C (hc0 : ¬cond0_0 i) (hc1 : cond0_1 i) (hc2 : cond0_2 i) :
    out0_C_2 c i a3 h3 a4 h4 a5 h5 a6 h6 hc0 hc1 hc2 x w acc = addf acc (k0_pay1 x w) := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero hz, View.readCov_unit_zero (S := S1024x1280) _ hz]
  unfold k0_pay3
  simp only [View.readAt_eq_ld, h3.read_unread, h4.read_unread, h6.read_unread, View.ld_unit_zero (S := S1024x1024) hz, View.ld_unit_zero (S := S1024x1280) hz, shapeCast_self]

end Cases

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- What run `r` of the rows adds at place `i` of the result. -/
def part (x : FVec Ideal S8192x1024 .bf16) (w : FVec Ideal S8192x1280 .bf16) (i : S1024x1280.Idx) (r : Fin 8) : EReal :=
  ∑ k : Fin 1024, (x (ix2 (⟨1024 * r.val + k.val, by omega⟩ : Fin 8192) (i 0)) : EReal) * w (ix2 (⟨1024 * r.val + k.val, by omega⟩ : Fin 8192) (i 1))

theorem sum_part (x : FVec Ideal S8192x1024 .bf16) (w : FVec Ideal S8192x1280 .bf16) (i : S1024x1280.Idx) : ∑ r : Fin 8, part x w i r = colsByCols x w i :=
  Sums.sum_runs 8 1024 8192 rfl fun k => (x (ix2 k (i 0)) : EReal) * w (ix2 k (i 1))

/-- One point's product, in terms of the arguments. -/
theorem pay_at (t : Fin cfg0.N) (y : S1024x1280.Idx) (i : S1024x1280.Idx) (e0 : (i 0).val = (y 0).val) (e1 : (i 1).val = 1280 * (t.val / 8) + (y 1).val) :
    k0_pay1 (F := Ideal) (iblk m c 0 t) (iblk m c 1 t) y
      = part (m ((c : Thread nD τ).loc main_arg0)) (m ((c : Thread nD τ).loc main_arg1)) i ⟨t.val % 8, Nat.mod_lt _ (by decide)⟩ := by
  have ht : t.val < 8 := t.isLt
  refine (pay_apply _ _ y).trans ?_
  unfold part
  refine Finset.sum_congr rfl fun k _ => ?_
  refine congrArg₂ (fun a b : EReal => a * b) ?_ ?_
  · refine (congrFun (V_main_arg0 m c) (((cfg0.win 0).blk t).view.emb (ix2 k (y 0)))).trans ?_
    refine congrArg (m ((c : Thread nD τ).loc main_arg0)) ?_
    blk_ext [idx t]
  · refine (congrFun (V_main_arg1 m c) (((cfg0.win 1).blk t).view.emb (ix2 k (y 1)))).trans ?_
    refine congrArg (m ((c : Thread nD τ).loc main_arg1)) ?_
    blk_ext [idx t]

/-- The scratch tile holds the sum of the runs so far. -/
theorem scratch_at (q : ℕ) (hq : q < 1) (y : S1024x1280.Idx) (i : S1024x1280.Idx) (e0 : (i 0).val = (y 0).val) (e1 : (i 1).val = 1280 * q + (y 1).val) :
    ∀ (j : ℕ) (hj : j < 7) (h : 8 * q + j < cfg0.N), (outsAt0 m c (8 * q + j) h).2 y
      = ∑ r : Fin (j + 1), part (m ((c : Thread nD τ).loc main_arg0)) (m ((c : Thread nD τ).loc main_arg1)) i ⟨r.val, by omega⟩
  | 0, hj, h => by
    rw [outsAt0_A m c ⟨8 * q + 0, h⟩ (by dsimp only; omega) (by dsimp only; omega) (by dsimp only; omega)]
    dsimp only
    rw [scratch_A, Fin.sum_univ_one]
    refine (pay_at m c ⟨8 * q + 0, h⟩ y i e0 (by dsimp only; omega)).trans (congrArg _ (Fin.ext ?_))
    show (8 * q + 0) % 8 = 0
    omega
  | j + 1, hj, h => by
    rw [outsAt0_B m c ⟨8 * q + (j + 1), h⟩ (by dsimp only; omega) (by dsimp only; omega) (by dsimp only; omega)]
    dsimp only
    rw [scratch_B, Fin.sum_univ_castSucc]
    refine congrArg₂ (fun a b : EReal => a + b) ?_ ?_
    · exact scratch_at q hq y i e0 e1 j (by omega) (by omega)
    · refine (pay_at m c ⟨8 * q + (j + 1), h⟩ y i e0 (by dsimp only; omega)).trans (congrArg _ (Fin.ext ?_))
      show (8 * q + (j + 1)) % 8 = j + 1
      omega

/-- What goes out after the last run is the whole sum. -/
theorem out_at (q : ℕ) (hq : q < 1) (y : S1024x1280.Idx) (i : S1024x1280.Idx) (e0 : (i 0).val = (y 0).val) (e1 : (i 1).val = 1280 * q + (y 1).val) (h : 8 * q + 7 < cfg0.N) :
    (outsAt0 m c (8 * q + 7) h).1 y = colsByCols (m ((c : Thread nD τ).loc main_arg0)) (m ((c : Thread nD τ).loc main_arg1)) i := by
  rw [outsAt0_C m c ⟨8 * q + 7, h⟩ (by dsimp only; omega) (by dsimp only; omega) (by dsimp only; omega)]
  dsimp only
  rw [out_C, ← sum_part, Fin.sum_univ_castSucc]
  refine congrArg₂ (fun a b : EReal => a + b) ?_ ?_
  · exact scratch_at m c q hq y i e0 e1 6 (by omega) (by omega)
  · refine (pay_at m c ⟨8 * q + 7, h⟩ y i e0 (by dsimp only; omega)).trans (congrArg _ (Fin.ext ?_))
    show (8 * q + 7) % 8 = 7
    omega

/-- The array after the run. -/
theorem final : (dats m 0 c).arrAt 2 cfg0.N = colsByCols (m ((c : Thread nD τ).loc main_arg0)) (m ((c : Thread nD τ).loc main_arg1)) := by
  refine (dats m 0 c).arrAt_eq_of_covers 2 _ (by decide +kernel) fun t hf y => ?_
  have ht : t.val < 8 := t.isLt
  have h7 : t.val % 8 = 7 := (flush0_2 t).mp hf
  have y0 : (y 0).val < 1024 := (y 0).isLt
  have y1 : (y 1).val < 1280 := (y 1).isLt
  have e0 : ((((cfg0.win 2).blk t).view.emb y) 0).val = (y 0).val := by
    blk_simp [idx t]
  have e1 : ((((cfg0.win 2).blk t).view.emb y) 1).val = 1280 * (t.val / 8) + (y 1).val := by
    blk_simp [idx t]
    omega
  have en : ∀ (n : ℕ) (hn : n < cfg0.N), n = 8 * (t.val / 8) + 7 → (outsAt0 m c n hn).1 y
      = colsByCols (m ((c : Thread nD τ).loc main_arg0)) (m ((c : Thread nD τ).loc main_arg1)) (((cfg0.win 2).blk t).view.emb y) := by
    rintro n hn rfl
    exact out_at m c (t.val / 8) (by omega) y _ e0 e1 hn
  blk_simp
  rw [after0_2]
  exact en t.val t.isLt (by omega)

/-- The reference's array. -/
theorem ref_val (x : FVec Ideal S8192x1024 .bf16) (w : FVec Ideal S8192x1280 .bf16) : ReferenceRnnInWIdeal.Read.val_main_v5 (F := Ideal) x w = colsByCols x w := by
  funext i
  refine (ReferenceRnnInWIdeal.Read.val_main_v5_apply (F := Ideal) x w i).trans ((ReferenceRnnInWIdeal.Read.val_main_v4_apply x w _).trans (Finset.sum_congr rfl fun k _ => ?_))
  refine (mul_comm _ _).trans (congrArg₂ (fun a b : EReal => a * b) (congrArg x ?_) (congrArg w ?_)) <;>
  · funext a
    match a with
    | ⟨0, _⟩ => rfl
    | ⟨1, _⟩ => rfl

theorem frame_ideal : Cert.quiescent_KernelRnnInWIdeal := fun m ρ _ => Cert.KernelRnnInWIdeal.Gen.frame m ρ

theorem frame_reference : Cert.quiescent_ReferenceRnnInWIdeal := by
  intro m g _
  hlo_run
  · exact fun _ => ⟨trivial, trivial⟩
  · exact sem_eq_zero_of_no_sems rfl _

theorem value : Cert.algebraic_KernelRnnInWIdeal_ReferenceRnnInWIdeal := by
  intro m g m' g' _ hagree
  refine ⟨fun c => colsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceRnnInWIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelRnnInW.defs₀ F _ Cert.KernelRnnInW.Gen.facts = @Cert.KernelRnnInWIdeal.defs₀ F _ Cert.KernelRnnInWIdeal.Gen.facts := by
  unfold Cert.KernelRnnInW.defs₀ Cert.KernelRnnInWIdeal.defs₀
  refine congrArg Defs.onTc ?_
  funext l x
  match l, x with
  | 0, (t, s) => exact rfl

theorem defs_same : @Cert.KernelRnnInW.defs F _ Cert.KernelRnnInW.Gen.facts = @Cert.KernelRnnInWIdeal.defs F _ Cert.KernelRnnInWIdeal.Gen.facts := by
  unfold Cert.KernelRnnInW.defs Cert.KernelRnnInWIdeal.defs
  rw [bodies_same]
  rfl

theorem main_same : @Cert.KernelRnnInW.main F _ = @Cert.KernelRnnInWIdeal.main F _ := rfl

end Printed

theorem frame_printed : Cert.quiescent_KernelRnnInW := fun m ρ _ =>
  (congrArg₂ (fun d p => θ_run d (onTc p) _ _) (defs_same (F := Bits)) (main_same (F := Bits))).mpr
    (Cert.KernelRnnInWIdeal.Gen.frame (F := Bits) m ρ)

end Cert.Proof.RnnInW
end
-- ==== Proof.RnnInDPay.lean ====
/-
  The recurrent block's input projection's gradient of its input, through the norm that comes before it: one block of rows, over the extended reals.
-/
module

public import proofs.«01_k».proof.Proof.Gen.KernelRnnInDIdeal
public import proofs.«01_k».proof.Proof.Gen.KernelRnnInDIdeal.Skeleton
public import proofs.«01_k».proof.Proof.Ext

@[expose] public section

set_option maxRecDepth 16384

noncomputable section

namespace Cert.Proof.RnnInD

open Cert.KernelRnnInDIdeal Cert.KernelRnnInDIdeal.Gen
open Idealize.ShloMosaic Idealize.ShloMosaic.TcCoe
open Ext
open Finset

theorem pay4 (a b w0 w1 : ℕ → ℕ → EReal) : k0_pay4 (F := Ideal) (E2 (φ := .bf16) a) (E2 (φ := .bf16) w0) (E2 (φ := .bf16) b) (E2 (φ := .bf16) w1)
    = E2 (fun i j => (∑ l ∈ range 1280, a i l * w0 j l) + ∑ l ∈ range 1280, b i l * w1 j l) := by
  funext y
  idx_vars y
  pointwise [k0_pay4]
  simp only [E2_ix]
  rw [sum_fin 1280 (fun l => a y0.val l * w0 y1.val l), sum_fin 1280 (fun l => b y0.val l * w1 y1.val l)]

theorem pay5 (x : ℕ → ℕ → EReal) : k0_pay5 (F := Ideal) (E2 (φ := .f32) x) = E2 (fun i _ => scale x i) := by
  funext y
  idx_vars y
  pointwise [k0_pay5]
  simp only [E2_ix]
  rw [sum_fin 1024 (fun l => x y0.val l * x y0.val l)]
  rfl

theorem pay6 (x : ℕ → ℕ → EReal) : k0_pay6 (F := Ideal) (E2 (φ := .f32) x) = E2 (fun i j => x i j * scale x i) := by
  funext y
  idx_vars y
  pointwise [k0_pay6]
  rw [pay5]
  simp only [E2_ix]

theorem pay7 (a b w0 w1 x : ℕ → ℕ → EReal) (g : ℕ → EReal) (d : ℕ → ℕ → EReal) (hd : ∀ i j, d i j = (∑ l ∈ range 1280, a i l * w0 j l) + ∑ l ∈ range 1280, b i l * w1 j l) :
    k0_pay7 (F := Ideal) (E2 (φ := .bf16) a) (E2 (φ := .bf16) w0) (E2 (φ := .bf16) b) (E2 (φ := .bf16) w1) (E2 (φ := .f32) x) (E2 (φ := .f32) fun _ j => g j)
    = E2 (through x g d) := by
  funext y
  idx_vars y
  pointwise [k0_pay7]
  rw [pay4, pay5, pay6]
  simp only [E2_ix, ← hd]
  rw [sum_fin 1024 (fun l => d y0.val l * g l * (x y0.val l * scale x y0.val))]
  rfl

theorem pay1 (u v : ℕ → ℕ → EReal) : k0_pay1 (F := Ideal) (E2 (φ := .f32) u) (E2 (φ := .f32) v) = E2 (fun i j => u i j + v i j) := by
  funext y
  idx_vars y
  pointwise [k0_pay1]
  simp only [E2_ix]

theorem pay2 (u v : ℕ → ℕ → EReal) : k0_pay2 (F := Ideal) (E2 (φ := .f32) u) (E2 (φ := .f32) v) = E2 (fun _ j => ∑ i ∈ range 512, u i j * v i j) := by
  funext y
  idx_vars y
  pointwise [k0_pay2]
  simp only [E2_ix]
  exact sum_fin 512 (fun i => u i y1.val * v i y1.val)

theorem pay3 (u v : ℕ → ℕ → EReal) (s : ℕ → EReal) : k0_pay3 (F := Ideal) (E2 (φ := .f32) u) (E2 (φ := .f32) v) (E2 (φ := .f32) fun _ j => s j) = E2 (fun _ j => s j + ∑ i ∈ range 512, u i j * v i j) := by
  funext y
  idx_vars y
  pointwise [k0_pay3]
  rw [pay2]
  simp only [E2_ix]

end Cert.Proof.RnnInD
end
-- ==== Proof.RnnInDVal.lean ====
/-
  The recurrent block's input projection's gradient of its input, through the norm that comes before it: the arrays after the run. Point `t` of the grid does rows `512 t` to `512 t + 511`; the gradient of the norm's weights is added up
  from point to point.
-/
module

public import proofs.«01_k».proof.Defs
public import proofs.«01_k».proof.Proof.Gen.KernelRnnInD
public import proofs.«01_k».proof.Proof.Gen.KernelRnnInDIdeal
public import proofs.«01_k».proof.Proof.Gen.KernelRnnInDIdeal.Frame
public import proofs.«01_k».proof.Proof.Gen.KernelRnnInDIdeal.Value
public import proofs.«01_k».proof.Proof.RnnInDPay
public import Idealize.ShloMosaic.Lib.Pipeline.ValueKit
public import Idealize.ShloMosaic.Lib.Claim

@[expose] public section

set_option maxRecDepth 16384

noncomputable section

namespace Cert.Proof.RnnInD

open Cert.KernelRnnInDIdeal Cert.KernelRnnInDIdeal.Gen Cert.KernelRnnInDIdeal.Value
open Idealize.ShloMosaic Idealize.ShloMosaic.TcCoe Idealize.SL.Sem
open Idealize.ShloMosaic.Pipeline (Dat)
open Ext
open Finset

theorem hz : (![0, 0] : Fin 2 → ℕ) = fun _ => 0 := by
  funext a
  match a with
  | 0 => rfl
  | 1 => rfl

section Cases

variable {F : FTy → Type} [FloatOps F]
variable (c : Dev nD) (i : grid0.Coords) (a1 : Memref sig .tc .vmem S512x1280 .bf16) (h1 : a1.IsWhole) (a2 : Memref sig .tc .vmem S1024x1280 .bf16) (h2 : a2.IsWhole)
  (a3 : Memref sig .tc .vmem S512x1280 .bf16) (h3 : a3.IsWhole) (a4 : Memref sig .tc .vmem S1024x1280 .bf16) (h4 : a4.IsWhole)
  (a5 : Memref sig .tc .vmem S512x1024 .f32) (h5 : a5.IsWhole) (a6 : Memref sig .tc .vmem S1x1024 .f32) (h6 : a6.IsWhole) (a7 : Memref sig .tc .vmem S512x1024 .f32) (h7 : a7.IsWhole)
  (a8 : Memref sig .tc .vmem S512x1024 .f32) (h8 : a8.IsWhole) (a9 : Memref sig .tc .vmem S1x1024 .f32) (h9 : a9.IsWhole)
  (x0 : Vec F S512x1280 .bf16) (x1 : Vec F S1024x1280 .bf16) (x2 : Vec F S512x1280 .bf16) (x3 : Vec F S1024x1280 .bf16) (x4 : Vec F S512x1024 .f32) (x5 : Vec F S1x1024 .f32) (x6 : Vec F S512x1024 .f32)
  (acc : Vec F S1x1024 .f32)

theorem out7_A (hc0 : cond0_0 i) (hc1 : ¬cond0_1 i) :
    out0_A_7 c i a1 h1 a2 h2 a3 h3 a4 h4 a5 h5 a6 h6 a7 h7 a8 h8 a9 h9 hc0 hc1 x0 x1 x2 x3 x4 x5 x6 = k0_pay1 x6 (k0_pay7 x0 x1 x2 x3 x4 x5) := by
  unfold out0_A_7
  rw [View.read_writes_eq_canon _ _ _ (cover0_A_7 c i a1 h1 a2 h2 a3 h3 a4 h4 a5 h5 a6 h6 a7 h7 a8 h8 a9 h9 hc0 hc1 x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S512x1280) hz, View.ld_unit_zero (S := S1024x1280) hz, View.ld_unit_zero (S := S512x1024) hz, View.ld_unit_zero (S := S1x1024) hz]

theorem out7_B (hc0 : ¬cond0_0 i) (hc1 : cond0_1 i) :
    out0_B_7 c i a1 h1 a2 h2 a3 h3 a4 h4 a5 h5 a6 h6 a7 h7 a8 h8 a9 h9 hc0 hc1 x0 x1 x2 x3 x4 x5 x6 acc = k0_pay1 x6 (k0_pay7 x0 x1 x2 x3 x4 x5) := by
  unfold out0_B_7
  rw [View.read_writes_eq_canon _ _ _ (cover0_B_7 c i a1 h1 a2 h2 a3 h3 a4 h4 a5 h5 a6 h6 a7 h7 a8 h8 a9 h9 hc0 hc1 x0 x1 x2 x3 x4 x5 x6 acc)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S512x1280) hz, View.ld_unit_zero (S := S1024x1280) hz, View.ld_unit_zero (S := S512x1024) hz, View.ld_unit_zero (S := S1x1024) hz]

theorem out8_A (hc0 : cond0_0 i) (hc1 : ¬cond0_1 i) :
    out0_A_8 c i a1 h1 a2 h2 a3 h3 a4 h4 a5 h5 a6 h6 a7 h7 a8 h8 a9 h9 hc0 hc1 x0 x1 x2 x3 x4 x5 x6 = k0_pay2 (k0_pay4 x0 x1 x2 x3) (k0_pay6 x4) := by
  unfold out0_A_8
  rw [View.read_writes_eq_canon _ _ _ (cover0_A_8 c i a1 h1 a2 h2 a3 h3 a4 h4 a5 h5 a6 h6 a7 h7 a8 h8 a9 h9 hc0 hc1 x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S512x1280) hz, View.ld_unit_zero (S := S1024x1280) hz, View.ld_unit_zero (S := S512x1024) hz, View.ld_unit_zero (S := S1x1024) hz]

theorem out8_B (hc0 : ¬cond0_0 i) (hc1 : cond0_1 i) :
    out0_B_8 c i a1 h1 a2 h2 a3 h3 a4 h4 a5 h5 a6 h6 a7 h7 a8 h8 a9 h9 hc0 hc1 x0 x1 x2 x3 x4 x5 x6 acc = k0_pay3 (k0_pay4 x0 x1 x2 x3) (k0_pay6 x4) acc := by
  unfold out0_B_8
  rw [View.read_writes_eq_canon _ _ _ (cover0_B_8 c i a1 h1 a2 h2 a3 h3 a4 h4 a5 h5 a6 h6 a7 h7 a8 h8 a9 h9 hc0 hc1 x0 x1 x2 x3 x4 x5 x6 acc)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread,
    View.ld_unit_zero (S := S512x1280) hz, View.ld_unit_zero (S := S1024x1280) hz, View.ld_unit_zero (S := S512x1024) hz, View.ld_unit_zero (S := S1x1024) hz]

end Cases

/-- The gradient of the norm's output: both halves' products with the weight's rows. -/
def dh (A B W : ℕ → ℕ → EReal) (i j : ℕ) : EReal := (∑ l ∈ range 1280, A i l * W j l) + ∑ l ∈ range 1280, B i l * W j (1280 + l)

/-- The gradient of the norm's input, the residual's gradient added. -/
def dxArr (A B W X D : ℕ → ℕ → EReal) (g : ℕ → EReal) : FVec Ideal S8192x1024 .f32 := E2 fun i j => D i j + through X g (dh A B W) i j

/-- The gradient of the norm's weights. -/
def dgArr (A B W X : ℕ → ℕ → EReal) : FVec Ideal S1x1024 .f32 := E2 fun _ j => ∑ i ∈ range 8192, dh A B W i j * (X i j * scale X i)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

variable (m : (ℓ : Loc nD τ sig) → Buf (Elt Ideal) ℓ) (c : Dev nD) (A B W X D : ℕ → ℕ → EReal) (g : ℕ → EReal)

/-- The arguments, by their entries. -/
structure Holds : Prop where
  a : (m ((c : Thread nD τ).loc main_arg0) : FVec Ideal S8192x1280 .bf16) = E2 (φ := .bf16) A
  b : (m ((c : Thread nD τ).loc main_arg1) : FVec Ideal S8192x1280 .bf16) = E2 (φ := .bf16) B
  w : (m ((c : Thread nD τ).loc main_arg2) : FVec Ideal S1024x2560 .bf16) = E2 (φ := .bf16) W
  x : (m ((c : Thread nD τ).loc main_arg3) : FVec Ideal S8192x1024 .f32) = E2 (φ := .f32) X
  g : (m ((c : Thread nD τ).loc main_arg4) : FVec Ideal S1024 .f32) = E1 (φ := .f32) g
  d : (m ((c : Thread nD τ).loc main_arg5) : FVec Ideal S8192x1024 .f32) = E2 (φ := .f32) D

theorem V0 : V m c main_v0 = extractStridedSlice S1024x1280 ![0, 0] (m ((c : Thread nD τ).loc main_arg2)) slices_S1024x2560_S1024x1280_0_0 := by
  unfold V
  simp only [hostOps0, List.flatten_cons, List.flatten_nil, List.append_nil, StableHlo.TRef.unary, StableHlo.TRef.toBuf, StableHlo.TRef.ofBuf, cast_eq]
  after_results_simp

theorem V1 : V m c main_v1 = extractStridedSlice S1024x1280 ![0, 1280] (m ((c : Thread nD τ).loc main_arg2)) slices_S1024x2560_S1024x1280_0_1280 := by
  unfold V
  simp only [hostOps0, List.flatten_cons, List.flatten_nil, List.append_nil, StableHlo.TRef.unary, StableHlo.TRef.toBuf, StableHlo.TRef.ofBuf, cast_eq]
  after_results_simp

theorem V2 : V m c main_v2 = shapeCast S1x1024 (m ((c : Thread nD τ).loc main_arg4)) shapeCasts_S1024_S1x1024 := by
  unfold V
  simp only [hostOps0, List.flatten_cons, List.flatten_nil, List.append_nil, StableHlo.TRef.unary, StableHlo.TRef.toBuf, StableHlo.TRef.ofBuf, cast_eq]
  after_results_simp
  rfl

variable (h : Holds m c A B W X D g)

section Blocks

include h

theorem blk0 (t : Fin cfg0.N) : (iblk m c 0 t : FVec Ideal S512x1280 .bf16) = E2 (φ := .bf16) fun i j => A (512 * t.val + i) j := by
  funext y
  refine (congrFun ((V_main_arg0 m c).trans h.a) (((cfg0.win 0).blk t).view.emb y)).trans ?_
  unfold E2
  blk_simp [idx t]
  exact (congrArg₂ A (by omega) (by omega))

theorem blk2 (t : Fin cfg0.N) : (iblk m c 2 t : FVec Ideal S512x1280 .bf16) = E2 (φ := .bf16) fun i j => B (512 * t.val + i) j := by
  funext y
  refine (congrFun ((V_main_arg1 m c).trans h.b) (((cfg0.win 2).blk t).view.emb y)).trans ?_
  unfold E2
  blk_simp [idx t]
  exact (congrArg₂ B (by omega) (by omega))

theorem blk4 (t : Fin cfg0.N) : (iblk m c 4 t : FVec Ideal S512x1024 .f32) = E2 (φ := .f32) fun i j => X (512 * t.val + i) j := by
  funext y
  refine (congrFun ((V_main_arg3 m c).trans h.x) (((cfg0.win 4).blk t).view.emb y)).trans ?_
  unfold E2
  blk_simp [idx t]
  exact (congrArg₂ X (by omega) (by omega))

theorem blk6 (t : Fin cfg0.N) : (iblk m c 6 t : FVec Ideal S512x1024 .f32) = E2 (φ := .f32) fun i j => D (512 * t.val + i) j := by
  funext y
  refine (congrFun ((V_main_arg5 m c).trans h.d) (((cfg0.win 6).blk t).view.emb y)).trans ?_
  unfold E2
  blk_simp [idx t]
  exact (congrArg₂ D (by omega) (by omega))

theorem w0_eq : V m c main_v0 = (E2 (φ := .bf16) W : FVec Ideal S1024x1280 .bf16) := by
  rw [V0]
  refine (congrArg (fun w => extractStridedSlice S1024x1280 ![0, 0] w slices_S1024x2560_S1024x1280_0_0) h.w).trans ?_
  funext y
  idx_vars y
  pointwise
  rfl

theorem w1_eq : V m c main_v1 = (E2 (φ := .bf16) fun i j => W i (1280 + j) : FVec Ideal S1024x1280 .bf16) := by
  rw [V1]
  refine (congrArg (fun w => extractStridedSlice S1024x1280 ![0, 1280] w slices_S1024x2560_S1024x1280_0_1280) h.w).trans ?_
  funext y
  idx_vars y
  pointwise
  rfl

theorem g_eq : V m c main_v2 = (E2 (φ := .f32) fun _ j => g j : FVec Ideal S1x1024 .f32) := by
  rw [V2]
  refine (congrArg (fun w => shapeCast S1x1024 w shapeCasts_S1024_S1x1024) h.g).trans ?_
  funext y
  idx_vars y
  pointwise
  rfl

theorem blk1 (t : Fin cfg0.N) : (iblk m c 1 t : FVec Ideal S1024x1280 .bf16) = E2 (φ := .bf16) W := by
  funext y
  refine (congrFun (w0_eq m c A B W X D g h) (((cfg0.win 1).blk t).view.emb y)).trans ?_
  unfold E2
  blk_simp [idx t]

theorem blk3 (t : Fin cfg0.N) : (iblk m c 3 t : FVec Ideal S1024x1280 .bf16) = E2 (φ := .bf16) fun i j => W i (1280 + j) := by
  funext y
  refine (congrFun (w1_eq m c A B W X D g h) (((cfg0.win 3).blk t).view.emb y)).trans ?_
  unfold E2
  blk_simp [idx t]

theorem blk5 (t : Fin cfg0.N) : (iblk m c 5 t : FVec Ideal S1x1024 .f32) = E2 (φ := .f32) fun _ j => g j := by
  funext y
  refine (congrFun (g_eq m c A B W X D g h) (((cfg0.win 5).blk t).view.emb y)).trans ?_
  unfold E2
  blk_simp [idx t]

/-- One point's rows of the gradient of the norm's input. -/
theorem rows_at (t : Fin cfg0.N) : k0_pay1 (F := Ideal) (iblk m c 6 t) (k0_pay7 (F := Ideal) (iblk m c 0 t) (iblk m c 1 t) (iblk m c 2 t) (iblk m c 3 t) (iblk m c 4 t) (iblk m c 5 t))
    = E2 fun i j => D (512 * t.val + i) j + through X g (dh A B W) (512 * t.val + i) j := by
  rw [blk0 m c A B W X D g h, blk1 m c A B W X D g h, blk2 m c A B W X D g h, blk3 m c A B W X D g h, blk4 m c A B W X D g h, blk5 m c A B W X D g h, blk6 m c A B W X D g h,
    pay7 _ _ _ _ _ _ (fun i j => dh A B W (512 * t.val + i) j) (fun _ _ => rfl), pay1]
  rfl

/-- One point's part of the gradient of the norm's weights. -/
theorem part_at (t : Fin cfg0.N) (acc : ℕ → EReal) : k0_pay3 (F := Ideal) (k0_pay4 (F := Ideal) (iblk m c 0 t) (iblk m c 1 t) (iblk m c 2 t) (iblk m c 3 t)) (k0_pay6 (F := Ideal) (iblk m c 4 t)) (E2 (φ := .f32) fun _ j => acc j)
    = E2 fun _ j => acc j + ∑ i ∈ range 512, dh A B W (512 * t.val + i) j * (X (512 * t.val + i) j * scale X (512 * t.val + i)) := by
  rw [blk0 m c A B W X D g h, blk1 m c A B W X D g h, blk2 m c A B W X D g h, blk3 m c A B W X D g h, blk4 m c A B W X D g h, pay4, pay6, pay3]
  rfl

theorem first_at (t : Fin cfg0.N) : k0_pay2 (F := Ideal) (k0_pay4 (F := Ideal) (iblk m c 0 t) (iblk m c 1 t) (iblk m c 2 t) (iblk m c 3 t)) (k0_pay6 (F := Ideal) (iblk m c 4 t))
    = E2 fun _ j => ∑ i ∈ range 512, dh A B W (512 * t.val + i) j * (X (512 * t.val + i) j * scale X (512 * t.val + i)) := by
  rw [blk0 m c A B W X D g h, blk1 m c A B W X D g h, blk2 m c A B W X D g h, blk3 m c A B W X D g h, blk4 m c A B W X D g h, pay4, pay6, pay2]
  rfl

theorem sums_at : ∀ (n : ℕ) (hn : n < cfg0.N), (outsAt0 m c n hn).2 = E2 (φ := .f32) fun _ j => ∑ i ∈ range (512 * (n + 1)), dh A B W i j * (X i j * scale X i)
  | 0, hn => by
    rw [outsAt0_A m c ⟨0, hn⟩ (Nat.zero_mod _) (by dsimp only; omega)]
    dsimp only
    rw [out8_A]
    refine (first_at m c A B W X D g h ⟨0, hn⟩).trans (E2_congr fun _ j _ _ => ?_)
    simp only [Nat.mul_zero, Nat.zero_add, Nat.mul_one]
  | n + 1, hn => by
    have hN : n + 1 < 16 := hn
    rw [outsAt0_B m c ⟨n + 1, hn⟩ (by dsimp only; omega) (by dsimp only; omega)]
    dsimp only
    rw [out8_B]
    have ih := sums_at n (Nat.lt_of_succ_lt hn)
    have e : (outsAt0 m c (n + 1 - 1) (Nat.lt_of_le_of_lt (Nat.sub_le _ _) hn)).2 = E2 (φ := .f32) fun _ j => ∑ i ∈ range (512 * (n + 1)), dh A B W i j * (X i j * scale X i) := ih
    rw [e]
    refine (part_at m c A B W X D g h ⟨n + 1, hn⟩ _).trans (E2_congr fun _ j _ _ => ?_)
    rw [show 512 * (n + 1 + 1) = 512 * (n + 1) + 512 from rfl, Finset.sum_range_add]

theorem rows_out (t : Fin cfg0.N) : (outsAt0 m c t.val t.isLt).1 = E2 (φ := .f32) fun i j => D (512 * t.val + i) j + through X g (dh A B W) (512 * t.val + i) j := by
  have ht : t.val < 16 := t.isLt
  by_cases h0 : t.val = 0
  · rw [outsAt0_A m c t (by omega) (by omega)]
    dsimp only
    rw [out7_A]
    exact rows_at m c A B W X D g h t
  · rw [outsAt0_B m c t (by omega) (by omega)]
    dsimp only
    rw [out7_B]
    exact rows_at m c A B W X D g h t

theorem final7 : (dats m 0 c).arrAt 7 cfg0.N = dxArr A B W X D g := by
  refine (dats m 0 c).arrAt_eq_of_covers 7 _ (by decide +kernel) fun t hf y => ?_
  have ht : t.val < 16 := t.isLt
  have y0 : (y 0).val < 512 := (y 0).isLt
  have y1 : (y 1).val < 1024 := (y 1).isLt
  blk_simp
  rw [after0_7]
  refine (congrFun (rows_out m c A B W X D g h t) y).trans ?_
  unfold dxArr E2
  blk_simp [idx t]
  have e : t.val * 512 + (y 0).val = 512 * t.val + (y 0).val := by omega
  rw [e]

theorem final8 : (dats m 0 c).arrAt 8 cfg0.N = dgArr A B W X := by
  refine (dats m 0 c).arrAt_eq_of_covers 8 _ (by decide +kernel) fun t hf y => ?_
  have ht : t.val < 16 := t.isLt
  have h15 : t.val % 16 = 15 := (flush0_8 t).mp hf
  have y0 : (y 0).val < 1 := (y 0).isLt
  have y1 : (y 1).val < 1024 := (y 1).isLt
  blk_simp
  rw [after0_8]
  refine (congrFun (sums_at m c A B W X D g h t.val t.isLt) y).trans ?_
  unfold dgArr E2
  blk_simp [idx t]
  have e : 512 * (t.val + 1) = 8192 := by omega
  rw [e]

end Blocks

theorem frame_ideal : Cert.quiescent_KernelRnnInDIdeal := fun m ρ _ => Cert.KernelRnnInDIdeal.Gen.frame m ρ

section Printed

variable {F : FTy → Type} [FloatOps F]

/-- The printed kernel is the idealized kernel's text. -/
theorem bodies_same : @Cert.KernelRnnInD.defs₀ F _ Cert.KernelRnnInD.Gen.facts = @Cert.KernelRnnInDIdeal.defs₀ F _ Cert.KernelRnnInDIdeal.Gen.facts := by
  unfold Cert.KernelRnnInD.defs₀ Cert.KernelRnnInDIdeal.defs₀
  refine congrArg Defs.onTc ?_
  funext l x
  match l, x with
  | 0, (t, s) => exact rfl

theorem defs_same : @Cert.KernelRnnInD.defs F _ Cert.KernelRnnInD.Gen.facts = @Cert.KernelRnnInDIdeal.defs F _ Cert.KernelRnnInDIdeal.Gen.facts := by
  unfold Cert.KernelRnnInD.defs Cert.KernelRnnInDIdeal.defs
  rw [bodies_same]
  rfl

theorem main_same : @Cert.KernelRnnInD.main F _ = @Cert.KernelRnnInDIdeal.main F _ := rfl

end Printed

theorem frame_printed : Cert.quiescent_KernelRnnInD := fun m ρ _ =>
  (congrArg₂ (fun d p => θ_run d (onTc p) _ _) (defs_same (F := Bits)) (main_same (F := Bits))).mpr
    (Cert.KernelRnnInDIdeal.Gen.frame (F := Bits) m ρ)

end Cert.Proof.RnnInD
end
-- ==== Proof.RnnInDRef.lean ====
/-
  The reference's gradients of the input of the recurrent block's input projection and of the norm's weights, read over the extended reals.
-/
module

public import proofs.«01_k».proof.Proof.RnnInDVal
public import proofs.«01_k».proof.Proof.Gen.ReferenceRnnInDIdeal
public import proofs.«01_k».proof.Proof.Gen.ReferenceRnnInDIdeal.Run
public import proofs.«01_k».proof.Proof.Gen.ReferenceRnnInDIdeal.Read

@[expose] public section

set_option maxRecDepth 16384

noncomputable section

namespace Cert.Proof.RnnInD

open Cert.ReferenceRnnInDIdeal Cert.ReferenceRnnInDIdeal.Read
open Idealize.ShloMosaic Idealize.ShloMosaic.TcCoe Idealize.SL.Sem
open Ext
open Finset

variable (A B W X D : ℕ → ℕ → EReal) (g : ℕ → EReal)

theorem r9 (i) : val_main_v9 (F := Ideal) (E2 (φ := .f32) X) i = ms X (i 0).val := by
  rw [val_main_v9_apply (F := Ideal), val_main_v7_apply (F := Ideal), val_main_v5_apply (F := Ideal), val_main_v4_apply, val_main_v6_apply (F := Ideal), val_main_v8_apply (F := Ideal),
    val_main_cst_apply (F := Ideal), val_main_cst_0_apply (F := Ideal), val_main_cst_1_apply (F := Ideal), zero_bits, zero_add]
  have e : (∑ k : Fin 1024, val_main_v3 (F := Ideal) (E2 (φ := .f32) X) (idx_main_v4 (idx_main_v5 i) k)) = ∑ k ∈ range 1024, X (i 0).val k * X (i 0).val k :=
    sum_fin 1024 fun k => X (i 0).val k * X (i 0).val k
  rw [e]
  rfl

theorem r10 (i) : val_main_v10 (F := Ideal) (E2 (φ := .f32) X) i = scale X (i 0).val := by
  rw [val_main_v10_apply (F := Ideal), r9]
  rfl

theorem r13 (i) : val_main_v13 (F := Ideal) (E2 (φ := .f32) X) i = Ideal.ofBits .f32 0xBF000000#32 * Ideal.div (scale X (i 0).val) (ms X (i 0).val) := by
  rw [val_main_v13_apply (F := Ideal), val_main_v12_apply (F := Ideal), val_main_cst_2_apply (F := Ideal), val_main_v11_apply (F := Ideal), r10, r9]
  rfl

theorem r15 (i) : val_main_v15 (F := Ideal) (E2 (φ := .f32) X) i = X (i 0).val (i 1).val * scale X (i 0).val := by
  rw [val_main_v15_apply (F := Ideal), val_main_v14_apply (F := Ideal), r10]
  rfl

theorem r0 (i) : val_main_v0 (F := Ideal) (E2 (φ := .bf16) A) (E2 (φ := .bf16) B) i = (if (i 1).val < 1280 then A (i 0).val (i 1).val else B (i 0).val ((i 1).val - 1280)) := by
  unfold val_main_v0
  idx_vars i
  pointwise
  split <;> rfl

theorem r20 (i) : val_main_v20 (F := Ideal) (E2 (φ := .bf16) A) (E2 (φ := .bf16) B) (E2 (φ := .bf16) W) i = dh A B W (i 0).val (i 1).val := by
  rw [val_main_v20_apply]
  have e : dh A B W (i 0).val (i 1).val = ∑ k ∈ range 2560, (if k < 1280 then A (i 0).val k else B (i 0).val (k - 1280)) * W (i 1).val k := by
    rw [show 2560 = 1280 + 1280 from rfl, Finset.sum_range_add]
    unfold dh
    refine congrArg₂ (· + ·) (Finset.sum_congr rfl fun k hk => ?_) (Finset.sum_congr rfl fun k hk => ?_)
    · rw [if_pos (Finset.mem_range.mp hk)]
    · rw [if_neg (by omega), Nat.add_sub_cancel_left]
  rw [e, ← sum_fin 2560 fun k => (if k < 1280 then A (i 0).val k else B (i 0).val (k - 1280)) * W (i 1).val k]
  refine Finset.sum_congr rfl fun k _ => ?_
  rw [val_main_v1_apply (F := Ideal), val_main_v2_apply (F := Ideal), r0]
  rfl

theorem r22 (i) : val_main_v22 (F := Ideal) (E2 (φ := .bf16) A) (E2 (φ := .bf16) B) (E2 (φ := .bf16) W) (E2 (φ := .f32) X) i = ∑ k ∈ range 8192, X k (i 0).val * scale X k * dh A B W k (i 0).val := by
  rw [val_main_v22_apply, val_main_cst_3_apply (F := Ideal), zero_bits, zero_add, ← sum_fin 8192 fun k => X k (i 0).val * scale X k * dh A B W k (i 0).val]
  refine Finset.sum_congr rfl fun k _ => ?_
  rw [val_main_v21_apply (F := Ideal), r15, r20]
  rfl

theorem r42 : val_main_v42 (F := Ideal) (E2 (φ := .bf16) A) (E2 (φ := .bf16) B) (E2 (φ := .bf16) W) (E2 (φ := .f32) X) = dgArr A B W X := by
  funext i
  rw [val_main_v42_apply (F := Ideal), val_main_v26_apply, val_main_cst_4_apply (F := Ideal), zero_bits, zero_add, Fin.sum_univ_one, val_main_v23_apply (F := Ideal), r22]
  have h0 : (i 0).val = 0 := by have : (i 0).val < 1 := (i 0).isLt; omega
  have e : ((idx_main_v23 (idx_main_v26 (idx_main_v42 i) 0)) 0).val = (i 1).val := by
    show 0 * 1024 + ((i 0).val * 1024 + (i 1).val) = (i 1).val
    omega
  rw [e]
  unfold dgArr E2
  exact Finset.sum_congr rfl fun k _ => mul_comm _ _

theorem r25 (i) : val_main_v25 (F := Ideal) (E2 (φ := .bf16) A) (E2 (φ := .bf16) B) (E2 (φ := .bf16) W) (E1 (φ := .f32) g) i = dh A B W (i 0).val (i 1).val * g (i 1).val := by
  rw [val_main_v25_apply (F := Ideal), r20, val_main_v24_apply (F := Ideal), val_main_v16_apply (F := Ideal)]
  rfl

theorem r29 (i) : val_main_v29 (F := Ideal) (E2 (φ := .bf16) A) (E2 (φ := .bf16) B) (E2 (φ := .bf16) W) (E2 (φ := .f32) X) (E1 (φ := .f32) g) i = ∑ k ∈ range 1024, X (i 0).val k * (dh A B W (i 0).val k * g k) := by
  rw [val_main_v29_apply (F := Ideal), val_main_v28_apply, val_main_cst_5_apply (F := Ideal), zero_bits, zero_add]
  have e : ((idx_main_v29 i) 0).val = (i 0).val := by
    have : (i 1).val < 1 := (i 1).isLt
    show (i 0).val * 1 + (i 1).val = (i 0).val
    omega
  rw [← sum_fin 1024 fun k => X (i 0).val k * (dh A B W (i 0).val k * g k)]
  refine Finset.sum_congr rfl fun k _ => ?_
  rw [val_main_v27_apply (F := Ideal), r25]
  show X ((idx_main_v29 i) 0).val k.val * (dh A B W ((idx_main_v29 i) 0).val k.val * g k.val) = _
  rw [e]

theorem r37 (i) : val_main_v37 (F := Ideal) (E2 (φ := .bf16) A) (E2 (φ := .bf16) B) (E2 (φ := .bf16) W) (E2 (φ := .f32) X) (E1 (φ := .f32) g) i = half X g (dh A B W) (i 0).val := by
  rw [val_main_v37_apply (F := Ideal), val_main_v36_apply, val_main_cst_7_apply (F := Ideal), zero_bits, zero_add, Fin.sum_univ_one,
    val_main_v35_apply (F := Ideal), val_main_v33_apply (F := Ideal), r29, r13, val_main_v34_apply (F := Ideal), val_main_cst_6_apply (F := Ideal)]
  rfl

theorem r41 : val_main_v41 (F := Ideal) (E2 (φ := .bf16) A) (E2 (φ := .bf16) B) (E2 (φ := .bf16) W) (E2 (φ := .f32) X) (E1 (φ := .f32) g) (E2 (φ := .f32) D) = dxArr A B W X D g := by
  funext i
  rw [val_main_v41_apply (F := Ideal), val_main_v39_apply (F := Ideal), val_main_v32_apply (F := Ideal), val_main_v31_apply (F := Ideal), val_main_v38_apply (F := Ideal), val_main_v40_apply (F := Ideal),
    r37, r25, val_main_v30_apply (F := Ideal), r10]
  exact through_eq X g (dh A B W) (D (i 0).val (i 1).val) (i 0).val (i 1).val

end Cert.Proof.RnnInD
end
-- ==== Proof.RnnInDClaim.lean ====
/-
  The gradients of the recurrent block's input projection's input and of the norm's weights: the claims. Whatever the arguments, the kernel and the reference leave the same
  arrays.
-/
module

public import proofs.«01_k».proof.Proof.RnnInDRef

@[expose] public section

set_option maxRecDepth 16384

noncomputable section

namespace Cert.Proof.RnnInD

open Idealize.ShloMosaic Idealize.ShloMosaic.TcCoe Idealize.SL.Sem
open Ext

set_option maxHeartbeats 1600000 in
theorem frame_reference : Cert.quiescent_ReferenceRnnInDIdeal := by
  intro m g _
  hlo_run
  · exact fun _ => ⟨trivial, trivial, trivial, trivial, trivial, trivial⟩
  · exact sem_eq_zero_of_no_sems rfl _

/-- Both programs compute the gradient of the norm's input and of its weights. -/
theorem value : Cert.algebraic_KernelRnnInDIdeal_ReferenceRnnInDIdeal := by
  intro m g m' g' _ hagree
  let A := fun c : Dev KernelRnnInDIdeal.nD => vals (m := 8192) (n := 1280) (φ := .bf16) (m ((c.tc : Thread KernelRnnInDIdeal.nD KernelRnnInDIdeal.τ).loc KernelRnnInDIdeal.main_arg0))
  let B := fun c : Dev KernelRnnInDIdeal.nD => vals (m := 8192) (n := 1280) (φ := .bf16) (m ((c.tc : Thread KernelRnnInDIdeal.nD KernelRnnInDIdeal.τ).loc KernelRnnInDIdeal.main_arg1))
  let W := fun c : Dev KernelRnnInDIdeal.nD => vals (m := 1024) (n := 2560) (φ := .bf16) (m ((c.tc : Thread KernelRnnInDIdeal.nD KernelRnnInDIdeal.τ).loc KernelRnnInDIdeal.main_arg2))
  let X := fun c : Dev KernelRnnInDIdeal.nD => vals (m := 8192) (n := 1024) (φ := .f32) (m ((c.tc : Thread KernelRnnInDIdeal.nD KernelRnnInDIdeal.τ).loc KernelRnnInDIdeal.main_arg3))
  let G := fun c : Dev KernelRnnInDIdeal.nD => vals1 (n := 1024) (φ := .f32) (m ((c.tc : Thread KernelRnnInDIdeal.nD KernelRnnInDIdeal.τ).loc KernelRnnInDIdeal.main_arg4))
  let D := fun c : Dev KernelRnnInDIdeal.nD => vals (m := 8192) (n := 1024) (φ := .f32) (m ((c.tc : Thread KernelRnnInDIdeal.nD KernelRnnInDIdeal.τ).loc KernelRnnInDIdeal.main_arg5))
  have hholds : ∀ c, Holds m c (A c) (B c) (W c) (X c) (D c) (G c) := fun c => ⟨vals_eq _, vals_eq _, vals_eq _, vals_eq _, vals1_eq _, vals_eq _⟩
  refine ⟨fun c => dxArr (A c) (B c) (W c) (X c) (D c) (G c), fun c => dgArr (A c) (B c) (W c) (X c), ?_, ?_⟩
  · refine (θ_run _ _ _).mono (fun r h c => ?_) (KernelRnnInDIdeal.Value.run_blocks (F := Ideal) m g)
    obtain ⟨h0, h1, h2⟩ := h c
    exact ⟨h0.trans (final7 m c _ _ _ _ _ _ (hholds c)), h1.trans (final8 m c _ _ _ _ _ _ (hholds c)), h2⟩
  · refine (θ_run _ _ _).mono (fun r h c => ?_) (ReferenceRnnInDIdeal.Value.run (F := Ideal) m' g')
    obtain ⟨e0, e1, e2, e3, e4, e5⟩ := hagree c
    obtain ⟨h0, h1, h2⟩ := h c
    refine ⟨h0.trans ((ReferenceRnnInDIdeal.Read.val_main_v41_eq m' c).trans ?_), h1.trans ?_, h2⟩
    · rw [e0, e1, e2, e3, e4, e5]
      rw [(hholds c).a, (hholds c).b, (hholds c).w, (hholds c).x, (hholds c).g, (hholds c).d]
      exact r41 _ _ _ _ _ _
    · refine (ReferenceRnnInDIdeal.Read.val_main_v42_eq _ _ _ _).trans ?_
      rw [e0, e1, e2, e3]
      rw [(hholds c).a, (hholds c).b, (hholds c).w, (hholds c).x]
      exact r42 _ _ _ _

end Cert.Proof.RnnInD
end
-- ==== Proof.NormPleVal.lean ====
/-
  The norm before the per-layer embedding's gate and the gate's projection.
  The kernel does 512 rows at a time: the rows' norm, the normed rows as one result, and their product with the weight as the
  other. Over the extended reals this is what the reference computes.
-/
module

public import proofs.«01_k».proof.Defs
public import proofs.«01_k».proof.Proof.Gen.KernelNormPle
public import proofs.«01_k».proof.Proof.Gen.KernelNormPleIdeal
public import proofs.«01_k».proof.Proof.Gen.KernelNormPleIdeal.Frame
public import proofs.«01_k».proof.Proof.Gen.KernelNormPleIdeal.Value
public import proofs.«01_k».proof.Proof.Gen.ReferenceNormPleIdeal
public import proofs.«01_k».proof.Proof.Gen.ReferenceNormPleIdeal.Run
public import proofs.«01_k».proof.Proof.Gen.ReferenceNormPleIdeal.Read
public import proofs.«01_k».proof.Proof.Ext
public import Idealize.ShloMosaic.Lib.Pipeline.ValueKit
public import Idealize.ShloMosaic.Lib.Claim

@[expose] public section

set_option maxRecDepth 16384

noncomputable section

namespace Cert.Proof.NormPle

open Cert.KernelNormPleIdeal Cert.KernelNormPleIdeal.Gen Cert.KernelNormPleIdeal.Value
open Idealize.ShloMosaic Idealize.ShloMosaic.TcCoe Idealize.SL.Sem
open Idealize.ShloMosaic.Pipeline (Dat)
open Ext
open Finset

/-- One block of the normed rows. -/
theorem pay1 (x : ℕ → ℕ → EReal) (g : ℕ → EReal) : k0_pay1 (F := Ideal) (E2 (φ := .f32) x) (E2 (φ := .f32) fun _ j => g j) = E2 (fun i j => x i j * scale x i * g j) := by
  funext y
  idx_vars y
  pointwise [k0_pay1]
  simp only [E2_ix]
  rw [sum_fin 1024 (fun l => x y0.val l * x y0.val l)]
  rfl

/-- One block of their product with the weight. -/
theorem pay2 (x : ℕ → ℕ → EReal) (g : ℕ → EReal) (w : ℕ → ℕ → EReal) : k0_pay2 (F := Ideal) (E2 (φ := .f32) x) (E2 (φ := .f32) fun _ j => g j) (E2 (φ := .bf16) w)
    = E2 (fun i j => ∑ l ∈ range 1024, x i l * scale x i * g l * w l j) := by
  funext y
  idx_vars y
  pointwise [k0_pay2]
  rw [pay1]
  simp only [E2_ix]
  rw [sum_fin 1024 (fun l => x y0.val l * scale x y0.val * g l * w l y1.val)]

theorem hz : (![0, 0] : Fin 2 → ℕ) = fun _ => 0 := by
  funext a
  match a with
  | 0 => rfl
  | 1 => rfl

theorem out3_eq (x : Vec Ideal S512x1024 .f32) (g : Vec Ideal S1x1024 .f32) (w : Vec Ideal S1024x1024 .bf16) : out0_3 (F := Ideal) x g w = k0_pay2 (F := Ideal) x g w := by
  unfold out0_3
  rw [View.canon_unit_zero hz]
  simp only [View.ld_unit_zero (S := S512x1024) hz, View.ld_unit_zero (S := S1x1024) hz, View.ld_unit_zero (S := S1024x1024) hz]

theorem out4_eq (x : Vec Ideal S512x1024 .f32) (g : Vec Ideal S1x1024 .f32) (w : Vec Ideal S1024x1024 .bf16) : out0_4 (F := Ideal) x g w = k0_pay1 (F := Ideal) x g := by
  unfold out0_4
  rw [View.canon_unit_zero hz]
  simp only [View.ld_unit_zero (S := S512x1024) hz, View.ld_unit_zero (S := S1x1024) hz]

/-- The normed rows. -/
def hnArr (X : ℕ → ℕ → EReal) (g : ℕ → EReal) : FVec Ideal S8192x1024 .bf16 := E2 fun i j => X i j * scale X i * g j

/-- Their product with the weight. -/
def yArr (X W : ℕ → ℕ → EReal) (g : ℕ → EReal) : FVec Ideal S8192x1024 .f32 := E2 fun i j => ∑ l ∈ range 1024, X i l * scale X i * g l * W l j

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ) (c : Dev nD) (X W : ℕ → ℕ → EReal) (g : ℕ → EReal)

/-- The arguments, by their entries. -/
structure Holds : Prop where
  x : (m ((c : Thread nD τ).loc main_arg0) : FVec Ideal S8192x1024 .f32) = E2 (φ := .f32) X
  g : (m ((c : Thread nD τ).loc main_arg1) : FVec Ideal S1024 .f32) = E1 (φ := .f32) g
  w : (m ((c : Thread nD τ).loc main_arg2) : FVec Ideal S1024x1024 .bf16) = E2 (φ := .bf16) W

theorem Vg : V m c main_v0 = shapeCast S1x1024 (m ((c : Thread nD τ).loc main_arg1)) shapeCasts_S1024_S1x1024 := by
  unfold V
  simp only [hostOps0, List.flatten_cons, List.flatten_nil, List.append_nil, StableHlo.TRef.unary, StableHlo.TRef.toBuf, StableHlo.TRef.ofBuf, cast_eq]
  after_results_simp
  rfl

variable (h : Holds m c X W g)

section Blocks

include h

theorem blk0 (t : Fin cfg0.N) : (iblk m c 0 t : FVec Ideal S512x1024 .f32) = E2 (φ := .f32) fun i j => X (512 * t.val + i) j := by
  funext y
  refine (congrFun ((V_main_arg0 m c).trans h.x) (((cfg0.win 0).blk t).view.emb y)).trans ?_
  unfold E2
  blk_simp [idx t]
  exact (congrArg₂ X (by omega) (by omega))

theorem g_eq : V m c main_v0 = (E2 (φ := .f32) fun _ j => g j : FVec Ideal S1x1024 .f32) := by
  rw [Vg]
  refine (congrArg (fun w => shapeCast S1x1024 w shapeCasts_S1024_S1x1024) h.g).trans ?_
  funext y
  idx_vars y
  pointwise
  rfl

theorem blk1 (t : Fin cfg0.N) : (iblk m c 1 t : FVec Ideal S1x1024 .f32) = E2 (φ := .f32) fun _ j => g j := by
  funext y
  refine (congrFun (g_eq m c X W g h) (((cfg0.win 1).blk t).view.emb y)).trans ?_
  unfold E2
  blk_simp [idx t]

theorem blk2 (t : Fin cfg0.N) : (iblk m c 2 t : FVec Ideal S1024x1024 .bf16) = E2 (φ := .bf16) W := by
  funext y
  refine (congrFun ((V_main_arg2 m c).trans h.w) (((cfg0.win 2).blk t).view.emb y)).trans ?_
  unfold E2
  blk_simp [idx t]

theorem final3 : (dats m 0 c).arrAt 3 cfg0.N = yArr X W g := by
  refine (dats m 0 c).arrAt_eq_of_covers 3 _ (by decide +kernel) fun t hf y => ?_
  have ht : t.val < 16 := t.isLt
  have y0 : (y 0).val < 512 := (y 0).isLt
  have y1 : (y 1).val < 1024 := (y 1).isLt
  blk_simp
  rw [after0_3, out3_eq, blk0 m c X W g h, blk1 m c X W g h, blk2 m c X W g h, pay2]
  unfold yArr E2
  blk_simp [idx t]
  have e : t.val * 512 + (y 0).val = 512 * t.val + (y 0).val := by omega
  rw [e]
  rfl

theorem final4 : (dats m 0 c).arrAt 4 cfg0.N = hnArr X g := by
  refine (dats m 0 c).arrAt_eq_of_covers 4 _ (by decide +kernel) fun t hf y => ?_
  have ht : t.val < 16 := t.isLt
  have y0 : (y 0).val < 512 := (y 0).isLt
  have y1 : (y 1).val < 1024 := (y 1).isLt
  blk_simp
  rw [after0_4, out4_eq, blk0 m c X W g h, blk1 m c X W g h, pay1]
  unfold hnArr E2
  blk_simp [idx t]
  have e : t.val * 512 + (y 0).val = 512 * t.val + (y 0).val := by omega
  rw [e]
  rfl

end Blocks

section Reference

open Cert.ReferenceNormPleIdeal Cert.ReferenceNormPleIdeal.Read

theorem r6 (i) : val_main_v6 (F := Ideal) (E2 (φ := .f32) X) i = ms X (i 0).val := by
  rw [val_main_v6_apply (F := Ideal), val_main_v4_apply (F := Ideal), val_main_v2_apply (F := Ideal), val_main_v1_apply, val_main_v3_apply (F := Ideal), val_main_v5_apply (F := Ideal),
    val_main_cst_apply (F := Ideal), val_main_cst_0_apply (F := Ideal), val_main_cst_1_apply (F := Ideal), zero_bits, zero_add]
  have e : (∑ k : Fin 1024, val_main_v0 (F := Ideal) (E2 (φ := .f32) X) (idx_main_v1 (idx_main_v2 i) k)) = ∑ k ∈ range 1024, X (i 0).val k * X (i 0).val k :=
    sum_fin 1024 fun k => X (i 0).val k * X (i 0).val k
  rw [e]
  rfl

theorem r12 (i) : val_main_v12 (F := Ideal) (E2 (φ := .f32) X) (E1 (φ := .f32) g) i = X (i 0).val (i 1).val * scale X (i 0).val * g (i 1).val := by
  rw [val_main_v12_apply (F := Ideal), val_main_v9_apply (F := Ideal), val_main_v8_apply (F := Ideal), val_main_v7_apply (F := Ideal), r6, val_main_v11_apply (F := Ideal), val_main_v10_apply (F := Ideal)]
  rfl

theorem ref_hn : val_main_v15 (F := Ideal) (E2 (φ := .f32) X) (E1 (φ := .f32) g) = hnArr X g := by
  funext i
  rw [val_main_v15_apply (F := Ideal), r12]
  rfl

theorem ref_y : val_main_v14 (F := Ideal) (E2 (φ := .f32) X) (E1 (φ := .f32) g) (E2 (φ := .bf16) W) = yArr X W g := by
  funext i
  refine (val_main_v14_apply _ _ _ i).trans ?_
  unfold yArr E2
  refine Eq.trans ?_ (sum_fin 1024 fun l => X (i 0).val l * scale X (i 0).val * g l * W l (i 1).val)
  refine Finset.sum_congr rfl fun k _ => ?_
  exact congrArg₂ (fun a b : EReal => a * b) (r12 X g _) rfl

end Reference

theorem frame_ideal : Cert.quiescent_KernelNormPleIdeal := fun m ρ _ => Cert.KernelNormPleIdeal.Gen.frame m ρ

theorem frame_reference : Cert.quiescent_ReferenceNormPleIdeal := by
  intro m g _
  hlo_run
  · exact fun _ => ⟨trivial, trivial, trivial⟩
  · exact sem_eq_zero_of_no_sems rfl _

/-- Both programs compute the normed rows and their product with the weight. -/
theorem value : Cert.algebraic_KernelNormPleIdeal_ReferenceNormPleIdeal := by
  intro m g m' g' _ hagree
  let X := fun c : Dev KernelNormPleIdeal.nD => vals (m := 8192) (n := 1024) (φ := .f32) (m ((c.tc : Thread KernelNormPleIdeal.nD KernelNormPleIdeal.τ).loc KernelNormPleIdeal.main_arg0))
  let G := fun c : Dev KernelNormPleIdeal.nD => vals1 (n := 1024) (φ := .f32) (m ((c.tc : Thread KernelNormPleIdeal.nD KernelNormPleIdeal.τ).loc KernelNormPleIdeal.main_arg1))
  let W := fun c : Dev KernelNormPleIdeal.nD => vals (m := 1024) (n := 1024) (φ := .bf16) (m ((c.tc : Thread KernelNormPleIdeal.nD KernelNormPleIdeal.τ).loc KernelNormPleIdeal.main_arg2))
  have hholds : ∀ c, Holds m c (X c) (W c) (G c) := fun c => ⟨vals_eq _, vals1_eq _, vals_eq _⟩
  refine ⟨fun c => yArr (X c) (W c) (G c), fun c => hnArr (X c) (G c), ?_, ?_⟩
  · refine (θ_run _ _ _).mono (fun r h c => ?_) (KernelNormPleIdeal.Value.run_blocks (F := Ideal) m g)
    obtain ⟨h0, h1, h2⟩ := h c
    exact ⟨h0.trans (final3 m c _ _ _ (hholds c)), h1.trans (final4 m c _ _ _ (hholds c)), h2⟩
  · refine (θ_run _ _ _).mono (fun r h c => ?_) (ReferenceNormPleIdeal.Value.run (F := Ideal) m' g')
    obtain ⟨e0, e1, e2⟩ := hagree c
    obtain ⟨h0, h1, h2⟩ := h c
    refine ⟨h0.trans ((ReferenceNormPleIdeal.Read.val_main_v14_eq _ _ _).trans ?_), h1.trans ((ReferenceNormPleIdeal.Read.val_main_v15_eq _ _).trans ?_), h2⟩
    · rw [e0, e1, e2, (hholds c).x, (hholds c).g, (hholds c).w]
      exact ref_y _ _ _
    · rw [e0, e1, (hholds c).x, (hholds c).g]
      exact ref_hn _ _

section Printed

variable {F : FTy → Type} [FloatOps F]

/-- The printed kernel is the idealized kernel's text. -/
theorem bodies_same : @Cert.KernelNormPle.defs₀ F _ Cert.KernelNormPle.Gen.facts = @Cert.KernelNormPleIdeal.defs₀ F _ Cert.KernelNormPleIdeal.Gen.facts := by
  unfold Cert.KernelNormPle.defs₀ Cert.KernelNormPleIdeal.defs₀
  refine congrArg Defs.onTc ?_
  funext l x
  match l, x with
  | 0, (t, s) => exact rfl

theorem defs_same : @Cert.KernelNormPle.defs F _ Cert.KernelNormPle.Gen.facts = @Cert.KernelNormPleIdeal.defs F _ Cert.KernelNormPleIdeal.Gen.facts := by
  unfold Cert.KernelNormPle.defs Cert.KernelNormPleIdeal.defs
  rw [bodies_same]
  rfl

theorem main_same : @Cert.KernelNormPle.main F _ = @Cert.KernelNormPleIdeal.main F _ := rfl

end Printed

theorem frame_printed : Cert.quiescent_KernelNormPle := fun m ρ _ =>
  (congrArg₂ (fun d p => θ_run d (onTc p) _ _) (defs_same (F := Bits)) (main_same (F := Bits))).mpr
    (Cert.KernelNormPleIdeal.Gen.frame (F := Bits) m ρ)

end Cert.Proof.NormPle
end
-- ==== Proof.PleGateWVal.lean ====
/-
  The gate projection's gradient of its weight in the per-layer embedding: the transposed activations times the gradient, in one output tile, the
  rows of the batch in eight runs of 1024 that are added up in a scratch tile.
  Each entry is the sum over the 8192 rows, in the kernel and in the reference alike.
-/
module

public import proofs.«01_k».proof.Defs
public import proofs.«01_k».proof.Proof.Gen.KernelPleGateW
public import proofs.«01_k».proof.Proof.Gen.KernelPleGateWIdeal
public import proofs.«01_k».proof.Proof.Gen.KernelPleGateWIdeal.Frame
public import proofs.«01_k».proof.Proof.Gen.KernelPleGateWIdeal.Value
public import proofs.«01_k».proof.Proof.Gen.ReferencePleGateWIdeal
public import proofs.«01_k».proof.Proof.Gen.ReferencePleGateWIdeal.Run
public import proofs.«01_k».proof.Proof.Gen.ReferencePleGateWIdeal.Read
public import proofs.«01_k».proof.Proof.Sums
public import proofs.«01_k».proof.Proof.Vals
public import Idealize.ShloMosaic.Lib.Pipeline.ValueKit
public import Idealize.ShloMosaic.Lib.Claim

@[expose] public section

set_option maxRecDepth 16384

noncomputable section

namespace Cert.Proof.PleGateW

open Cert.KernelPleGateWIdeal Cert.KernelPleGateWIdeal.Gen Cert.KernelPleGateWIdeal.Value
open Idealize.ShloMosaic Idealize.ShloMosaic.TcCoe Idealize.SL.Sem
open Idealize.ShloMosaic.Pipeline (Dat)
open Finset

theorem hz : (![0, 0] : Fin 2 → ℕ) = fun _ => 0 := by
  funext a
  match a with
  | 0 => rfl
  | 1 => rfl

/-- The product of the columns of one array with the columns of the other. -/
def colsByCols (x : FVec Ideal S8192x1024 .bf16) (w : FVec Ideal S8192x1024 .bf16) : FVec Ideal S1024x1024 .f32 :=
  fun i => ∑ k : Fin 8192, (x (ix2 k (i 0)) : EReal) * w (ix2 k (i 1))

/-- One run of rows. -/
theorem pay_apply (x : FVec Ideal S1024x1024 .bf16) (w : FVec Ideal S1024x1024 .bf16) (y : S1024x1024.Idx) :
    k0_pay1 (F := Ideal) x w y = ∑ k : Fin 1024, (x (ix2 k (y 0)) : EReal) * w (ix2 k (y 1)) := by
  idx_vars y
  pointwise [k0_pay1]

section Cases

variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x : Vec F S1024x1024 .bf16) (w : Vec F S1024x1024 .bf16) (acc : Vec F S1024x1024 .f32)

/-- The first run of rows starts the scratch tile. -/
theorem scratch_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, View.ld_unit_zero (S := S1024x1024) hz, shapeCast_self]

/-- A later run adds to it. -/
theorem scratch_B (hc0 : ¬cond0_0 i) (hc1 : cond0_1 i) (hc2 : ¬cond0_2 i) :
    sout0_B_0 c i a3 h3 a4 h4 a5 h5 a6 h6 hc0 hc1 hc2 x w acc = addf acc (k0_pay1 x w) := by
  unfold sout0_B_0
  rw [View.read_writes_eq_canon _ _ _ (scover0_B_0 c i a3 h3 a4 h4 a5 h5 a6 h6 hc0 hc1 hc2 x w acc)]
  unfold kernelRun0_B
  dsimp only
  sl_unfold_words
  rw [View.canon_unit_zero hz]
  unfold k0_pay3
  simp only [View.readAt_eq_ld, h3.read_unread, h4.read_unread, h6.read_unread, View.ld_unit_zero (S := S1024x1024) hz, shapeCast_self]

/-- The last run too, and what the scratch tile then holds goes out. -/
theorem out_C (hc0 : ¬cond0_0 i) (hc1 : cond0_1 i) (hc2 : cond0_2 i) :
    out0_C_2 c i a3 h3 a4 h4 a5 h5 a6 h6 hc0 hc1 hc2 x w acc = addf acc (k0_pay1 x w) := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1024x1024) hz, shapeCast_self]

end Cases

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- What run `r` of the rows adds at place `i` of the result. -/
def part (x : FVec Ideal S8192x1024 .bf16) (w : FVec Ideal S8192x1024 .bf16) (i : S1024x1024.Idx) (r : Fin 8) : EReal :=
  ∑ k : Fin 1024, (x (ix2 (⟨1024 * r.val + k.val, by omega⟩ : Fin 8192) (i 0)) : EReal) * w (ix2 (⟨1024 * r.val + k.val, by omega⟩ : Fin 8192) (i 1))

theorem sum_part (x : FVec Ideal S8192x1024 .bf16) (w : FVec Ideal S8192x1024 .bf16) (i : S1024x1024.Idx) : ∑ r : Fin 8, part x w i r = colsByCols x w i :=
  Sums.sum_runs 8 1024 8192 rfl fun k => (x (ix2 k (i 0)) : EReal) * w (ix2 k (i 1))

/-- One point's product, in terms of the arguments. -/
theorem pay_at (t : Fin cfg0.N) (y : S1024x1024.Idx) (i : S1024x1024.Idx) (e0 : (i 0).val = (y 0).val) (e1 : (i 1).val = 1024 * (t.val / 8) + (y 1).val) :
    k0_pay1 (F := Ideal) (iblk m c 0 t) (iblk m c 1 t) y
      = part (m ((c : Thread nD τ).loc main_arg0)) (m ((c : Thread nD τ).loc main_arg1)) i ⟨t.val % 8, Nat.mod_lt _ (by decide)⟩ := by
  have ht : t.val < 8 := t.isLt
  refine (pay_apply _ _ y).trans ?_
  unfold part
  refine Finset.sum_congr rfl fun k _ => ?_
  refine congrArg₂ (fun a b : EReal => a * b) ?_ ?_
  · refine (congrFun (V_main_arg0 m c) (((cfg0.win 0).blk t).view.emb (ix2 k (y 0)))).trans ?_
    refine congrArg (m ((c : Thread nD τ).loc main_arg0)) ?_
    blk_ext [idx t]
  · refine (congrFun (V_main_arg1 m c) (((cfg0.win 1).blk t).view.emb (ix2 k (y 1)))).trans ?_
    refine congrArg (m ((c : Thread nD τ).loc main_arg1)) ?_
    blk_ext [idx t]

/-- The scratch tile holds the sum of the runs so far. -/
theorem scratch_at (q : ℕ) (hq : q < 1) (y : S1024x1024.Idx) (i : S1024x1024.Idx) (e0 : (i 0).val = (y 0).val) (e1 : (i 1).val = 1024 * q + (y 1).val) :
    ∀ (j : ℕ) (hj : j < 7) (h : 8 * q + j < cfg0.N), (outsAt0 m c (8 * q + j) h).2 y
      = ∑ r : Fin (j + 1), part (m ((c : Thread nD τ).loc main_arg0)) (m ((c : Thread nD τ).loc main_arg1)) i ⟨r.val, by omega⟩
  | 0, hj, h => by
    rw [outsAt0_A m c ⟨8 * q + 0, h⟩ (by dsimp only; omega) (by dsimp only; omega) (by dsimp only; omega)]
    dsimp only
    rw [scratch_A, Fin.sum_univ_one]
    refine (pay_at m c ⟨8 * q + 0, h⟩ y i e0 (by dsimp only; omega)).trans (congrArg _ (Fin.ext ?_))
    show (8 * q + 0) % 8 = 0
    omega
  | j + 1, hj, h => by
    rw [outsAt0_B m c ⟨8 * q + (j + 1), h⟩ (by dsimp only; omega) (by dsimp only; omega) (by dsimp only; omega)]
    dsimp only
    rw [scratch_B, Fin.sum_univ_castSucc]
    refine congrArg₂ (fun a b : EReal => a + b) ?_ ?_
    · exact scratch_at q hq y i e0 e1 j (by omega) (by omega)
    · refine (pay_at m c ⟨8 * q + (j + 1), h⟩ y i e0 (by dsimp only; omega)).trans (congrArg _ (Fin.ext ?_))
      show (8 * q + (j + 1)) % 8 = j + 1
      omega

/-- What goes out after the last run is the whole sum. -/
theorem out_at (q : ℕ) (hq : q < 1) (y : S1024x1024.Idx) (i : S1024x1024.Idx) (e0 : (i 0).val = (y 0).val) (e1 : (i 1).val = 1024 * q + (y 1).val) (h : 8 * q + 7 < cfg0.N) :
    (outsAt0 m c (8 * q + 7) h).1 y = colsByCols (m ((c : Thread nD τ).loc main_arg0)) (m ((c : Thread nD τ).loc main_arg1)) i := by
  rw [outsAt0_C m c ⟨8 * q + 7, h⟩ (by dsimp only; omega) (by dsimp only; omega) (by dsimp only; omega)]
  dsimp only
  rw [out_C, ← sum_part, Fin.sum_univ_castSucc]
  refine congrArg₂ (fun a b : EReal => a + b) ?_ ?_
  · exact scratch_at m c q hq y i e0 e1 6 (by omega) (by omega)
  · refine (pay_at m c ⟨8 * q + 7, h⟩ y i e0 (by dsimp only; omega)).trans (congrArg _ (Fin.ext ?_))
    show (8 * q + 7) % 8 = 7
    omega

/-- The array after the run. -/
theorem final : (dats m 0 c).arrAt 2 cfg0.N = colsByCols (m ((c : Thread nD τ).loc main_arg0)) (m ((c : Thread nD τ).loc main_arg1)) := by
  refine (dats m 0 c).arrAt_eq_of_covers 2 _ (by decide +kernel) fun t hf y => ?_
  have ht : t.val < 8 := t.isLt
  have h7 : t.val % 8 = 7 := (flush0_2 t).mp hf
  have y0 : (y 0).val < 1024 := (y 0).isLt
  have y1 : (y 1).val < 1024 := (y 1).isLt
  have e0 : ((((cfg0.win 2).blk t).view.emb y) 0).val = (y 0).val := by
    blk_simp [idx t]
  have e1 : ((((cfg0.win 2).blk t).view.emb y) 1).val = 1024 * (t.val / 8) + (y 1).val := by
    blk_simp [idx t]
    omega
  have en : ∀ (n : ℕ) (hn : n < cfg0.N), n = 8 * (t.val / 8) + 7 → (outsAt0 m c n hn).1 y
      = colsByCols (m ((c : Thread nD τ).loc main_arg0)) (m ((c : Thread nD τ).loc main_arg1)) (((cfg0.win 2).blk t).view.emb y) := by
    rintro n hn rfl
    exact out_at m c (t.val / 8) (by omega) y _ e0 e1 hn
  blk_simp
  rw [after0_2]
  exact en t.val t.isLt (by omega)

/-- The reference's array. -/
theorem ref_val (x : FVec Ideal S8192x1024 .bf16) (w : FVec Ideal S8192x1024 .bf16) : ReferencePleGateWIdeal.Read.val_main_v5 (F := Ideal) x w = colsByCols x w := by
  funext i
  refine (ReferencePleGateWIdeal.Read.val_main_v5_apply (F := Ideal) x w i).trans ((ReferencePleGateWIdeal.Read.val_main_v4_apply x w _).trans (Finset.sum_congr rfl fun k _ => ?_))
  refine (mul_comm _ _).trans (congrArg₂ (fun a b : EReal => a * b) (congrArg x ?_) (congrArg w ?_)) <;>
  · funext a
    match a with
    | ⟨0, _⟩ => rfl
    | ⟨1, _⟩ => rfl

theorem frame_ideal : Cert.quiescent_KernelPleGateWIdeal := fun m ρ _ => Cert.KernelPleGateWIdeal.Gen.frame m ρ

theorem frame_reference : Cert.quiescent_ReferencePleGateWIdeal := by
  intro m g _
  hlo_run
  · exact fun _ => ⟨trivial, trivial⟩
  · exact sem_eq_zero_of_no_sems rfl _

theorem value : Cert.algebraic_KernelPleGateWIdeal_ReferencePleGateWIdeal := by
  intro m g m' g' _ hagree
  refine ⟨fun c => colsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferencePleGateWIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelPleGateW.defs₀ F _ Cert.KernelPleGateW.Gen.facts = @Cert.KernelPleGateWIdeal.defs₀ F _ Cert.KernelPleGateWIdeal.Gen.facts := by
  unfold Cert.KernelPleGateW.defs₀ Cert.KernelPleGateWIdeal.defs₀
  refine congrArg Defs.onTc ?_
  funext l x
  match l, x with
  | 0, (t, s) => exact rfl

theorem defs_same : @Cert.KernelPleGateW.defs F _ Cert.KernelPleGateW.Gen.facts = @Cert.KernelPleGateWIdeal.defs F _ Cert.KernelPleGateWIdeal.Gen.facts := by
  unfold Cert.KernelPleGateW.defs Cert.KernelPleGateWIdeal.defs
  rw [bodies_same]
  rfl

theorem main_same : @Cert.KernelPleGateW.main F _ = @Cert.KernelPleGateWIdeal.main F _ := rfl

end Printed

theorem frame_printed : Cert.quiescent_KernelPleGateW := fun m ρ _ =>
  (congrArg₂ (fun d p => θ_run d (onTc p) _ _) (defs_same (F := Bits)) (main_same (F := Bits))).mpr
    (Cert.KernelPleGateWIdeal.Gen.frame (F := Bits) m ρ)

end Cert.Proof.PleGateW
end
-- ==== Proof.PleGateDVal.lean ====
/-
  The per-layer embedding's gate's projection: gradient of its input, through the norm that comes before it: the arrays after the run. Point `t` of the grid does
  rows `512 t` to `512 t + 511`; the gradient of the norm's weights is added up from point to point.
-/
module

public import proofs.«01_k».proof.Defs
public import proofs.«01_k».proof.Proof.Gen.KernelPleGateD
public import proofs.«01_k».proof.Proof.Gen.KernelPleGateDIdeal
public import proofs.«01_k».proof.Proof.Gen.KernelPleGateDIdeal.Frame
public import proofs.«01_k».proof.Proof.Gen.KernelPleGateDIdeal.Value
public import proofs.«01_k».proof.Proof.Ext
public import Idealize.ShloMosaic.Lib.Pipeline.ValueKit
public import Idealize.ShloMosaic.Lib.Claim

@[expose] public section

set_option maxRecDepth 16384

noncomputable section

namespace Cert.Proof.PleGateD

open Cert.KernelPleGateDIdeal Cert.KernelPleGateDIdeal.Gen Cert.KernelPleGateDIdeal.Value
open Idealize.ShloMosaic Idealize.ShloMosaic.TcCoe Idealize.SL.Sem
open Idealize.ShloMosaic.Pipeline (Dat)
open Ext
open Finset

theorem pay2 (a w : ℕ → ℕ → EReal) : k0_pay2 (F := Ideal) (E2 (φ := .bf16) a) (E2 (φ := .bf16) w) = E2 (fun i j => ∑ l ∈ range 1024, a i l * w j l) := by
  funext y
  idx_vars y
  pointwise [k0_pay2]
  simp only [E2_ix]
  rw [sum_fin 1024 (fun l => a y0.val l * w y1.val l)]

theorem pay3 (x : ℕ → ℕ → EReal) : k0_pay3 (F := Ideal) (E2 (φ := .f32) x) = E2 (fun i _ => scale x i) := by
  funext y
  idx_vars y
  pointwise [k0_pay3]
  simp only [E2_ix]
  rw [sum_fin 1024 (fun l => x y0.val l * x y0.val l)]
  rfl

theorem pay4 (x : ℕ → ℕ → EReal) : k0_pay4 (F := Ideal) (E2 (φ := .f32) x) = E2 (fun i j => x i j * scale x i) := by
  funext y
  idx_vars y
  pointwise [k0_pay4]
  rw [pay3]
  simp only [E2_ix]

theorem pay5 (a w x : ℕ → ℕ → EReal) (g : ℕ → EReal) (r d : ℕ → ℕ → EReal) (hd : ∀ i j, d i j = ∑ l ∈ range 1024, a i l * w j l) :
    k0_pay5 (F := Ideal) (E2 (φ := .bf16) a) (E2 (φ := .bf16) w) (E2 (φ := .f32) x) (E2 (φ := .f32) fun _ j => g j) (E2 (φ := .f32) r)
    = E2 fun i j => r i j + through x g d i j := by
  funext y
  idx_vars y
  pointwise [k0_pay5]
  rw [pay2, pay3, pay4]
  simp only [E2_ix, ← hd]
  rw [sum_fin 1024 (fun l => d y0.val l * g l * (x y0.val l * scale x y0.val))]
  rfl

theorem pay6 (a w x d : ℕ → ℕ → EReal) (hd : ∀ i j, d i j = ∑ l ∈ range 1024, a i l * w j l) :
    k0_pay6 (F := Ideal) (E2 (φ := .bf16) a) (E2 (φ := .bf16) w) (E2 (φ := .f32) x) = E2 fun _ j => ∑ i ∈ range 512, d i j * (x i j * scale x i) := by
  funext y
  idx_vars y
  pointwise [k0_pay6]
  rw [pay2, pay4]
  simp only [E2_ix, ← hd]
  exact sum_fin 512 (fun i => d i y1.val * (x i y1.val * scale x i))

theorem pay1 (u s : ℕ → EReal) : k0_pay1 (F := Ideal) (E2 (φ := .f32) fun _ j => u j) (E2 (φ := .f32) fun _ j => s j) = E2 (fun _ j => s j + u j) := by
  funext y
  idx_vars y
  pointwise [k0_pay1]
  simp only [E2_ix]

theorem hz : (![0, 0] : Fin 2 → ℕ) = fun _ => 0 := by
  funext a
  match a with
  | 0 => rfl
  | 1 => rfl

section Cases

variable {F : FTy → Type} [FloatOps F]
variable (c : Dev nD) (i : grid0.Coords) (a1 : Memref sig .tc .vmem S512x1024 .bf16) (h1 : a1.IsWhole) (a2 : Memref sig .tc .vmem S1024x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S1x1024 .f32) (h7 : a7.IsWhole)
  (x0 : Vec F S512x1024 .bf16) (x1 : Vec F S1024x1024 .bf16) (x2 : Vec F S512x1024 .f32) (x3 : Vec F S1x1024 .f32) (x4 : Vec F S512x1024 .f32) (acc : Vec F S1x1024 .f32)

theorem out5_A (hc0 : cond0_0 i) (hc1 : ¬cond0_1 i) :
    out0_A_5 c i a1 h1 a2 h2 a3 h3 a4 h4 a5 h5 a6 h6 a7 h7 hc0 hc1 x0 x1 x2 x3 x4 = k0_pay5 x0 x1 x2 x3 x4 := by
  unfold out0_A_5
  rw [View.read_writes_eq_canon _ _ _ (cover0_A_5 c i a1 h1 a2 h2 a3 h3 a4 h4 a5 h5 a6 h6 a7 h7 hc0 hc1 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1024x1024) hz, View.ld_unit_zero (S := S1x1024) hz]

theorem out5_B (hc0 : ¬cond0_0 i) (hc1 : cond0_1 i) :
    out0_B_5 c i a1 h1 a2 h2 a3 h3 a4 h4 a5 h5 a6 h6 a7 h7 hc0 hc1 x0 x1 x2 x3 x4 acc = k0_pay5 x0 x1 x2 x3 x4 := by
  unfold out0_B_5
  rw [View.read_writes_eq_canon _ _ _ (cover0_B_5 c i a1 h1 a2 h2 a3 h3 a4 h4 a5 h5 a6 h6 a7 h7 hc0 hc1 x0 x1 x2 x3 x4 acc)]
  unfold kernelRun0_B
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1024x1024) hz, View.ld_unit_zero (S := S1x1024) hz]

theorem out6_A (hc0 : cond0_0 i) (hc1 : ¬cond0_1 i) :
    out0_A_6 c i a1 h1 a2 h2 a3 h3 a4 h4 a5 h5 a6 h6 a7 h7 hc0 hc1 x0 x1 x2 x3 x4 = k0_pay6 x0 x1 x2 := by
  unfold out0_A_6
  rw [View.read_writes_eq_canon _ _ _ (cover0_A_6 c i a1 h1 a2 h2 a3 h3 a4 h4 a5 h5 a6 h6 a7 h7 hc0 hc1 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1024x1024) hz, View.ld_unit_zero (S := S1x1024) hz]

theorem out6_B (hc0 : ¬cond0_0 i) (hc1 : cond0_1 i) :
    out0_B_6 c i a1 h1 a2 h2 a3 h3 a4 h4 a5 h5 a6 h6 a7 h7 hc0 hc1 x0 x1 x2 x3 x4 acc = k0_pay1 (k0_pay6 x0 x1 x2) acc := by
  unfold out0_B_6
  rw [View.read_writes_eq_canon _ _ _ (cover0_B_6 c i a1 h1 a2 h2 a3 h3 a4 h4 a5 h5 a6 h6 a7 h7 hc0 hc1 x0 x1 x2 x3 x4 acc)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S512x1024) hz, View.ld_unit_zero (S := S1024x1024) hz, View.ld_unit_zero (S := S1x1024) hz]

end Cases

/-- The gradient of the norm's output: the incoming gradient's product with the weight's rows. -/
def dh (A W : ℕ → ℕ → EReal) (i j : ℕ) : EReal := ∑ l ∈ range 1024, A i l * W j l

/-- The gradient of the norm's input, the residual's gradient added. -/
def dxArr (A W X D : ℕ → ℕ → EReal) (g : ℕ → EReal) : FVec Ideal S8192x1024 .f32 := E2 fun i j => D i j + through X g (dh A W) i j

/-- The gradient of the norm's weights. -/
def dgArr (A W X : ℕ → ℕ → EReal) : FVec Ideal S1x1024 .f32 := E2 fun _ j => ∑ i ∈ range 8192, dh A W i j * (X i j * scale X i)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (c : Dev nD) (A W X D : ℕ → ℕ → EReal) (g : ℕ → EReal)

/-- The arguments, by their entries. -/
structure Holds : Prop where
  a : (m ((c : Thread nD τ).loc main_arg0) : FVec Ideal S8192x1024 .bf16) = E2 (φ := .bf16) A
  w : (m ((c : Thread nD τ).loc main_arg1) : FVec Ideal S1024x1024 .bf16) = E2 (φ := .bf16) W
  x : (m ((c : Thread nD τ).loc main_arg2) : FVec Ideal S8192x1024 .f32) = E2 (φ := .f32) X
  g : (m ((c : Thread nD τ).loc main_arg3) : FVec Ideal S1024 .f32) = E1 (φ := .f32) g
  d : (m ((c : Thread nD τ).loc main_arg4) : FVec Ideal S8192x1024 .f32) = E2 (φ := .f32) D

theorem Vg : V m c main_v0 = shapeCast S1x1024 (m ((c : Thread nD τ).loc main_arg3)) shapeCasts_S1024_S1x1024 := by
  unfold V
  simp only [hostOps0, List.flatten_cons, List.flatten_nil, List.append_nil, StableHlo.TRef.unary, StableHlo.TRef.toBuf, StableHlo.TRef.ofBuf, cast_eq]
  after_results_simp
  rfl

variable (h : Holds m c A W X D g)

section Blocks

include h

theorem blk0 (t : Fin cfg0.N) : (iblk m c 0 t : FVec Ideal S512x1024 .bf16) = E2 (φ := .bf16) fun i j => A (512 * t.val + i) j := by
  funext y
  refine (congrFun ((V_main_arg0 m c).trans h.a) (((cfg0.win 0).blk t).view.emb y)).trans ?_
  unfold E2
  blk_simp [idx t]
  exact (congrArg₂ A (by omega) (by omega))

theorem blk2 (t : Fin cfg0.N) : (iblk m c 2 t : FVec Ideal S512x1024 .f32) = E2 (φ := .f32) fun i j => X (512 * t.val + i) j := by
  funext y
  refine (congrFun ((V_main_arg2 m c).trans h.x) (((cfg0.win 2).blk t).view.emb y)).trans ?_
  unfold E2
  blk_simp [idx t]
  exact (congrArg₂ X (by omega) (by omega))

theorem blk4 (t : Fin cfg0.N) : (iblk m c 4 t : FVec Ideal S512x1024 .f32) = E2 (φ := .f32) fun i j => D (512 * t.val + i) j := by
  funext y
  refine (congrFun ((V_main_arg4 m c).trans h.d) (((cfg0.win 4).blk t).view.emb y)).trans ?_
  unfold E2
  blk_simp [idx t]
  exact (congrArg₂ D (by omega) (by omega))

theorem blk1 (t : Fin cfg0.N) : (iblk m c 1 t : FVec Ideal S1024x1024 .bf16) = E2 (φ := .bf16) W := by
  funext y
  refine (congrFun ((V_main_arg1 m c).trans h.w) (((cfg0.win 1).blk t).view.emb y)).trans ?_
  unfold E2
  blk_simp [idx t]

theorem g_eq : V m c main_v0 = (E2 (φ := .f32) fun _ j => g j : FVec Ideal S1x1024 .f32) := by
  rw [Vg]
  refine (congrArg (fun w => shapeCast S1x1024 w shapeCasts_S1024_S1x1024) h.g).trans ?_
  funext y
  idx_vars y
  pointwise
  rfl

theorem blk3 (t : Fin cfg0.N) : (iblk m c 3 t : FVec Ideal S1x1024 .f32) = E2 (φ := .f32) fun _ j => g j := by
  funext y
  refine (congrFun (g_eq m c A W X D g h) (((cfg0.win 3).blk t).view.emb y)).trans ?_
  unfold E2
  blk_simp [idx t]

/-- One point's rows of the gradient of the norm's input. -/
theorem rows_at (t : Fin cfg0.N) : k0_pay5 (F := Ideal) (iblk m c 0 t) (iblk m c 1 t) (iblk m c 2 t) (iblk m c 3 t) (iblk m c 4 t)
    = E2 fun i j => D (512 * t.val + i) j + through X g (dh A W) (512 * t.val + i) j := by
  rw [blk0 m c A W X D g h, blk1 m c A W X D g h, blk2 m c A W X D g h, blk3 m c A W X D g h, blk4 m c A W X D g h,
    pay5 _ _ _ _ _ (fun i j => dh A W (512 * t.val + i) j) (fun _ _ => rfl)]
  rfl

/-- One point's part of the gradient of the norm's weights. -/
theorem first_at (t : Fin cfg0.N) : k0_pay6 (F := Ideal) (iblk m c 0 t) (iblk m c 1 t) (iblk m c 2 t)
    = E2 fun _ j => ∑ i ∈ range 512, dh A W (512 * t.val + i) j * (X (512 * t.val + i) j * scale X (512 * t.val + i)) := by
  rw [blk0 m c A W X D g h, blk1 m c A W X D g h, blk2 m c A W X D g h, pay6 _ _ _ (fun i j => dh A W (512 * t.val + i) j) (fun _ _ => rfl)]
  rfl

theorem part_at (t : Fin cfg0.N) (acc : ℕ → EReal) : k0_pay1 (F := Ideal) (k0_pay6 (F := Ideal) (iblk m c 0 t) (iblk m c 1 t) (iblk m c 2 t)) (E2 (φ := .f32) fun _ j => acc j)
    = E2 fun _ j => acc j + ∑ i ∈ range 512, dh A W (512 * t.val + i) j * (X (512 * t.val + i) j * scale X (512 * t.val + i)) := by
  rw [first_at m c A W X D g h, pay1]

theorem sums_at : ∀ (n : ℕ) (hn : n < cfg0.N), (outsAt0 m c n hn).2 = E2 (φ := .f32) fun _ j => ∑ i ∈ range (512 * (n + 1)), dh A W i j * (X i j * scale X i)
  | 0, hn => by
    rw [outsAt0_A m c ⟨0, hn⟩ (Nat.zero_mod _) (by dsimp only; omega)]
    dsimp only
    rw [out6_A]
    refine (first_at m c A W X D g h ⟨0, hn⟩).trans (E2_congr fun _ j _ _ => ?_)
    simp only [Nat.mul_zero, Nat.zero_add, Nat.mul_one]
  | n + 1, hn => by
    have hN : n + 1 < 16 := hn
    rw [outsAt0_B m c ⟨n + 1, hn⟩ (by dsimp only; omega) (by dsimp only; omega)]
    dsimp only
    rw [out6_B]
    have ih := sums_at n (Nat.lt_of_succ_lt hn)
    have e : (outsAt0 m c (n + 1 - 1) (Nat.lt_of_le_of_lt (Nat.sub_le _ _) hn)).2 = E2 (φ := .f32) fun _ j => ∑ i ∈ range (512 * (n + 1)), dh A W i j * (X i j * scale X i) := ih
    rw [e]
    refine (part_at m c A W X D g h ⟨n + 1, hn⟩ _).trans (E2_congr fun _ j _ _ => ?_)
    rw [show 512 * (n + 1 + 1) = 512 * (n + 1) + 512 from rfl, Finset.sum_range_add]

theorem rows_out (t : Fin cfg0.N) : (outsAt0 m c t.val t.isLt).1 = E2 (φ := .f32) fun i j => D (512 * t.val + i) j + through X g (dh A W) (512 * t.val + i) j := by
  have ht : t.val < 16 := t.isLt
  by_cases h0 : t.val = 0
  · rw [outsAt0_A m c t (by omega) (by omega)]
    dsimp only
    rw [out5_A]
    exact rows_at m c A W X D g h t
  · rw [outsAt0_B m c t (by omega) (by omega)]
    dsimp only
    rw [out5_B]
    exact rows_at m c A W X D g h t

theorem final5 : (dats m 0 c).arrAt 5 cfg0.N = dxArr A W X D g := by
  refine (dats m 0 c).arrAt_eq_of_covers 5 _ (by decide +kernel) fun t hf y => ?_
  have ht : t.val < 16 := t.isLt
  have y0 : (y 0).val < 512 := (y 0).isLt
  have y1 : (y 1).val < 1024 := (y 1).isLt
  blk_simp
  rw [after0_5]
  refine (congrFun (rows_out m c A W X D g h t) y).trans ?_
  unfold dxArr E2
  blk_simp [idx t]
  have e : t.val * 512 + (y 0).val = 512 * t.val + (y 0).val := by omega
  rw [e]

theorem final6 : (dats m 0 c).arrAt 6 cfg0.N = dgArr A W X := by
  refine (dats m 0 c).arrAt_eq_of_covers 6 _ (by decide +kernel) fun t hf y => ?_
  have ht : t.val < 16 := t.isLt
  have h15 : t.val % 16 = 15 := (flush0_6 t).mp hf
  have y0 : (y 0).val < 1 := (y 0).isLt
  have y1 : (y 1).val < 1024 := (y 1).isLt
  blk_simp
  rw [after0_6]
  refine (congrFun (sums_at m c A W X D g h t.val t.isLt) y).trans ?_
  unfold dgArr E2
  blk_simp [idx t]
  have e : 512 * (t.val + 1) = 8192 := by omega
  rw [e]

end Blocks

theorem frame_ideal : Cert.quiescent_KernelPleGateDIdeal := fun m ρ _ => Cert.KernelPleGateDIdeal.Gen.frame m ρ

section Printed

variable {F : FTy → Type} [FloatOps F]

/-- The printed kernel is the idealized kernel's text. -/
theorem bodies_same : @Cert.KernelPleGateD.defs₀ F _ Cert.KernelPleGateD.Gen.facts = @Cert.KernelPleGateDIdeal.defs₀ F _ Cert.KernelPleGateDIdeal.Gen.facts := by
  unfold Cert.KernelPleGateD.defs₀ Cert.KernelPleGateDIdeal.defs₀
  refine congrArg Defs.onTc ?_
  funext l x
  match l, x with
  | 0, (t, s) => exact rfl

theorem defs_same : @Cert.KernelPleGateD.defs F _ Cert.KernelPleGateD.Gen.facts = @Cert.KernelPleGateDIdeal.defs F _ Cert.KernelPleGateDIdeal.Gen.facts := by
  unfold Cert.KernelPleGateD.defs Cert.KernelPleGateDIdeal.defs
  rw [bodies_same]
  rfl

theorem main_same : @Cert.KernelPleGateD.main F _ = @Cert.KernelPleGateDIdeal.main F _ := rfl

end Printed

theorem frame_printed : Cert.quiescent_KernelPleGateD := fun m ρ _ =>
  (congrArg₂ (fun d p => θ_run d (onTc p) _ _) (defs_same (F := Bits)) (main_same (F := Bits))).mpr
    (Cert.KernelPleGateDIdeal.Gen.frame (F := Bits) m ρ)

end Cert.Proof.PleGateD
end
-- ==== Proof.PleGateDClaim.lean ====
/-
  The per-layer embedding's gate's projection: gradient of its input, through the norm: the reference's arrays, read over the extended reals, and the claims.
  Whatever the arguments, the kernel and the reference leave the same arrays.
-/
module

public import proofs.«01_k».proof.Proof.PleGateDVal
public import proofs.«01_k».proof.Proof.Gen.ReferencePleGateDIdeal
public import proofs.«01_k».proof.Proof.Gen.ReferencePleGateDIdeal.Run
public import proofs.«01_k».proof.Proof.Gen.ReferencePleGateDIdeal.Read

@[expose] public section

set_option maxRecDepth 16384

noncomputable section

namespace Cert.Proof.PleGateD

open Cert.ReferencePleGateDIdeal Cert.ReferencePleGateDIdeal.Read
open Idealize.ShloMosaic Idealize.ShloMosaic.TcCoe Idealize.SL.Sem
open Ext
open Finset

variable (A W X D : ℕ → ℕ → EReal) (g : ℕ → EReal)

theorem r6 (i) : val_main_v6 (F := Ideal) (E2 (φ := .f32) X) i = ms X (i 0).val := by
  rw [val_main_v6_apply (F := Ideal), val_main_v4_apply (F := Ideal), val_main_v2_apply (F := Ideal), val_main_v1_apply, val_main_v3_apply (F := Ideal), val_main_v5_apply (F := Ideal),
    val_main_cst_apply (F := Ideal), val_main_cst_0_apply (F := Ideal), val_main_cst_1_apply (F := Ideal), zero_bits, zero_add]
  have e : (∑ k : Fin 1024, val_main_v0 (F := Ideal) (E2 (φ := .f32) X) (idx_main_v1 (idx_main_v2 i) k)) = ∑ k ∈ range 1024, X (i 0).val k * X (i 0).val k :=
    sum_fin 1024 fun k => X (i 0).val k * X (i 0).val k
  rw [e]
  rfl

theorem r7 (i) : val_main_v7 (F := Ideal) (E2 (φ := .f32) X) i = scale X (i 0).val := by
  rw [val_main_v7_apply (F := Ideal), r6]
  rfl

theorem r10 (i) : val_main_v10 (F := Ideal) (E2 (φ := .f32) X) i = Ideal.ofBits .f32 0xBF000000#32 * Ideal.div (scale X (i 0).val) (ms X (i 0).val) := by
  rw [val_main_v10_apply (F := Ideal), val_main_v9_apply (F := Ideal), val_main_cst_2_apply (F := Ideal), val_main_v8_apply (F := Ideal), r7, r6]
  rfl

theorem r12 (i) : val_main_v12 (F := Ideal) (E2 (φ := .f32) X) i = X (i 0).val (i 1).val * scale X (i 0).val := by
  rw [val_main_v12_apply (F := Ideal), val_main_v11_apply (F := Ideal), r7]
  rfl

theorem r19 (i) : val_main_v19 (F := Ideal) (E2 (φ := .bf16) A) (E2 (φ := .bf16) W) i = dh A W (i 0).val (i 1).val := by
  rw [val_main_v19_apply]
  unfold dh
  rw [← sum_fin 1024 fun k => A (i 0).val k * W (i 1).val k]
  refine Finset.sum_congr rfl fun k _ => ?_
  rw [val_main_v18_apply (F := Ideal), val_main_v16_apply (F := Ideal)]
  rfl

theorem r21 (i) : val_main_v21 (F := Ideal) (E2 (φ := .bf16) A) (E2 (φ := .bf16) W) (E2 (φ := .f32) X) i = ∑ k ∈ range 8192, X k (i 0).val * scale X k * dh A W k (i 0).val := by
  rw [val_main_v21_apply, val_main_cst_3_apply (F := Ideal), zero_bits, zero_add, ← sum_fin 8192 fun k => X k (i 0).val * scale X k * dh A W k (i 0).val]
  refine Finset.sum_congr rfl fun k _ => ?_
  rw [val_main_v20_apply (F := Ideal), r12, r19]
  rfl

theorem r41 : val_main_v41 (F := Ideal) (E2 (φ := .bf16) A) (E2 (φ := .bf16) W) (E2 (φ := .f32) X) = dgArr A W X := by
  funext i
  rw [val_main_v41_apply (F := Ideal), val_main_v25_apply, val_main_cst_4_apply (F := Ideal), zero_bits, zero_add, Fin.sum_univ_one, val_main_v22_apply (F := Ideal), r21]
  have h0 : (i 0).val = 0 := by have : (i 0).val < 1 := (i 0).isLt; omega
  have e : ((idx_main_v22 (idx_main_v25 (idx_main_v41 i) 0)) 0).val = (i 1).val := by
    show 0 * 1024 + ((i 0).val * 1024 + (i 1).val) = (i 1).val
    omega
  rw [e]
  unfold dgArr E2
  exact Finset.sum_congr rfl fun k _ => mul_comm _ _

theorem r24 (i) : val_main_v24 (F := Ideal) (E2 (φ := .bf16) A) (E2 (φ := .bf16) W) (E1 (φ := .f32) g) i = dh A W (i 0).val (i 1).val * g (i 1).val := by
  rw [val_main_v24_apply (F := Ideal), r19, val_main_v23_apply (F := Ideal), val_main_v13_apply (F := Ideal)]
  rfl

theorem r28 (i) : val_main_v28 (F := Ideal) (E2 (φ := .bf16) A) (E2 (φ := .bf16) W) (E2 (φ := .f32) X) (E1 (φ := .f32) g) i = ∑ k ∈ range 1024, X (i 0).val k * (dh A W (i 0).val k * g k) := by
  rw [val_main_v28_apply (F := Ideal), val_main_v27_apply, val_main_cst_5_apply (F := Ideal), zero_bits, zero_add]
  have e : ((idx_main_v28 i) 0).val = (i 0).val := by
    have : (i 1).val < 1 := (i 1).isLt
    show (i 0).val * 1 + (i 1).val = (i 0).val
    omega
  rw [← sum_fin 1024 fun k => X (i 0).val k * (dh A W (i 0).val k * g k)]
  refine Finset.sum_congr rfl fun k _ => ?_
  rw [val_main_v26_apply (F := Ideal), r24]
  show X ((idx_main_v28 i) 0).val k.val * (dh A W ((idx_main_v28 i) 0).val k.val * g k.val) = _
  rw [e]

theorem r36 (i) : val_main_v36 (F := Ideal) (E2 (φ := .bf16) A) (E2 (φ := .bf16) W) (E2 (φ := .f32) X) (E1 (φ := .f32) g) i = half X g (dh A W) (i 0).val := by
  rw [val_main_v36_apply (F := Ideal), val_main_v35_apply, val_main_cst_7_apply (F := Ideal), zero_bits, zero_add, Fin.sum_univ_one,
    val_main_v34_apply (F := Ideal), val_main_v32_apply (F := Ideal), r28, r10, val_main_v33_apply (F := Ideal), val_main_cst_6_apply (F := Ideal)]
  rfl

theorem r40 : val_main_v40 (F := Ideal) (E2 (φ := .bf16) A) (E2 (φ := .bf16) W) (E2 (φ := .f32) X) (E1 (φ := .f32) g) (E2 (φ := .f32) D) = dxArr A W X D g := by
  funext i
  rw [val_main_v40_apply (F := Ideal), val_main_v38_apply (F := Ideal), val_main_v31_apply (F := Ideal), val_main_v30_apply (F := Ideal), val_main_v37_apply (F := Ideal), val_main_v39_apply (F := Ideal),
    r36, r24, val_main_v29_apply (F := Ideal), r7]
  exact through_eq X g (dh A W) (D (i 0).val (i 1).val) (i 0).val (i 1).val

section Claims

open Cert

set_option maxHeartbeats 1600000 in
theorem frame_reference : Cert.quiescent_ReferencePleGateDIdeal := by
  intro m g _
  hlo_run
  · exact fun _ => ⟨trivial, trivial, trivial, trivial, trivial⟩
  · exact sem_eq_zero_of_no_sems rfl _

/-- Both programs compute the gradient of the norm's input and of its weights. -/
theorem value : Cert.algebraic_KernelPleGateDIdeal_ReferencePleGateDIdeal := by
  intro m g m' g' _ hagree
  let A := fun c : Dev KernelPleGateDIdeal.nD => vals (m := 8192) (n := 1024) (φ := .bf16) (m ((c.tc : Thread KernelPleGateDIdeal.nD KernelPleGateDIdeal.τ).loc KernelPleGateDIdeal.main_arg0))
  let W := fun c : Dev KernelPleGateDIdeal.nD => vals (m := 1024) (n := 1024) (φ := .bf16) (m ((c.tc : Thread KernelPleGateDIdeal.nD KernelPleGateDIdeal.τ).loc KernelPleGateDIdeal.main_arg1))
  let X := fun c : Dev KernelPleGateDIdeal.nD => vals (m := 8192) (n := 1024) (φ := .f32) (m ((c.tc : Thread KernelPleGateDIdeal.nD KernelPleGateDIdeal.τ).loc KernelPleGateDIdeal.main_arg2))
  let G := fun c : Dev KernelPleGateDIdeal.nD => vals1 (n := 1024) (φ := .f32) (m ((c.tc : Thread KernelPleGateDIdeal.nD KernelPleGateDIdeal.τ).loc KernelPleGateDIdeal.main_arg3))
  let D := fun c : Dev KernelPleGateDIdeal.nD => vals (m := 8192) (n := 1024) (φ := .f32) (m ((c.tc : Thread KernelPleGateDIdeal.nD KernelPleGateDIdeal.τ).loc KernelPleGateDIdeal.main_arg4))
  have hholds : ∀ c, Holds m c (A c) (W c) (X c) (D c) (G c) := fun c => ⟨vals_eq _, vals_eq _, vals_eq _, vals1_eq _, vals_eq _⟩
  refine ⟨fun c => dxArr (A c) (W c) (X c) (D c) (G c), fun c => dgArr (A c) (W c) (X c), ?_, ?_⟩
  · refine (θ_run _ _ _).mono (fun r h c => ?_) (KernelPleGateDIdeal.Value.run_blocks (F := Ideal) m g)
    obtain ⟨h0, h1, h2⟩ := h c
    exact ⟨h0.trans (final5 m c _ _ _ _ _ (hholds c)), h1.trans (final6 m c _ _ _ _ _ (hholds c)), h2⟩
  · refine (θ_run _ _ _).mono (fun r h c => ?_) (ReferencePleGateDIdeal.Value.run (F := Ideal) m' g')
    obtain ⟨e0, e1, e2, e3, e4⟩ := hagree c
    obtain ⟨h0, h1, h2⟩ := h c
    refine ⟨h0.trans ((ReferencePleGateDIdeal.Read.val_main_v40_eq m' c).trans ?_), h1.trans ?_, h2⟩
    · rw [e0, e1, e2, e3, e4]
      rw [(hholds c).a, (hholds c).w, (hholds c).x, (hholds c).g, (hholds c).d]
      exact r40 _ _ _ _ _
    · refine (ReferencePleGateDIdeal.Read.val_main_v41_eq _ _ _).trans ?_
      rw [e0, e1, e2]
      rw [(hholds c).a, (hholds c).w, (hholds c).x]
      exact r41 _ _ _

end Claims

end Cert.Proof.PleGateD
end
-- ==== Proof.RnnOutFVal.lean ====
/-
  The recurrent block's output projection and the residual: one row block of the block's output against the whole weight at a time, added to the residual.
  Each entry is the sum over the block's 1280 channels, plus the residual, in the kernel and in the reference alike.
-/
module

public import proofs.«01_k».proof.Defs
public import proofs.«01_k».proof.Proof.Gen.KernelRnnOutF
public import proofs.«01_k».proof.Proof.Gen.KernelRnnOutFIdeal
public import proofs.«01_k».proof.Proof.Gen.KernelRnnOutFIdeal.Frame
public import proofs.«01_k».proof.Proof.Gen.KernelRnnOutFIdeal.Value
public import proofs.«01_k».proof.Proof.Gen.ReferenceRnnOutFIdeal
public import proofs.«01_k».proof.Proof.Gen.ReferenceRnnOutFIdeal.Run
public import proofs.«01_k».proof.Proof.Gen.ReferenceRnnOutFIdeal.Read
public import proofs.«01_k».proof.Proof.Vals
public import Idealize.ShloMosaic.Lib.Pipeline.ValueKit
public import Idealize.ShloMosaic.Lib.Claim

@[expose] public section

set_option maxRecDepth 16384

noncomputable section

namespace Cert.Proof.RnnOutF

open Cert.KernelRnnOutFIdeal Cert.KernelRnnOutFIdeal.Gen Cert.KernelRnnOutFIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The product of the rows of one array with the columns of the other, added to a third. -/
def rowsByCols (x : FVec Ideal S8192x1280 .bf16) (w : FVec Ideal S1280x1024 .bf16) (h : FVec Ideal S8192x1024 .f32) : FVec Ideal S8192x1024 .f32 :=
  fun i => (h i : EReal) + ∑ k : Fin 1280, (x (ix2 (i 0) k) : EReal) * w (ix2 k (i 1))

/-- One block of the kernel. -/
theorem pay_apply (x : FVec Ideal S1024x1280 .bf16) (w : FVec Ideal S1280x1024 .bf16) (h : FVec Ideal S1024x1024 .f32) (y : S1024x1024.Idx) :
    k0_pay1 (F := Ideal) x w h y = (∑ k : Fin 1280, (x (ix2 (y 0) k) : EReal) * w (ix2 k (y 1))) + (h y : EReal) := by
  idx_vars y
  pointwise [k0_pay1]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem hz : (![0, 0] : Fin 2 → ℕ) = fun _ => 0 := by
  funext a
  match a with
  | 0 => rfl
  | 1 => rfl

theorem out_eq (x : Vec Ideal S1024x1280 .bf16) (w : Vec Ideal S1280x1024 .bf16) (h : Vec Ideal S1024x1024 .f32) : out0_3 (F := Ideal) x w h = k0_pay1 (F := Ideal) x w h := by
  unfold out0_3
  rw [View.canon_unit_zero hz]
  simp only [View.ld_unit_zero (S := S1024x1280) hz, View.ld_unit_zero (S := S1280x1024) hz, View.ld_unit_zero (S := S1024x1024) hz]

/-- The array after the run. -/
theorem final : (dats m 0 c).arrAt 3 cfg0.N = rowsByCols (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 8 := t.isLt
  have y0 : (y 0).val < 1024 := (y 0).isLt
  have y1 : (y 1).val < 1024 := (y 1).isLt
  blk_simp
  rw [after0_3, out_eq]
  refine (pay_apply _ _ _ y).trans ?_
  unfold rowsByCols
  refine (add_comm _ _).trans (congrArg₂ (fun a b : EReal => a + b) ?_ ?_)
  · refine (congrFun (V_main_arg2 m c) (((cfg0.win 2).blk t).view.emb y)).trans ?_
    refine congrArg (m ((c : Thread nD τ).loc main_arg2)) ?_
    blk_ext [idx t]
  · refine Finset.sum_congr rfl fun k _ => ?_
    refine congrArg₂ (fun a b : EReal => a * b) ?_ ?_
    · refine (congrFun (V_main_arg0 m c) (((cfg0.win 0).blk t).view.emb (ix2 (y 0) k))).trans ?_
      refine congrArg (m ((c : Thread nD τ).loc main_arg0)) ?_
      blk_ext [idx t]
    · refine (congrFun (V_main_arg1 m c) (((cfg0.win 1).blk t).view.emb (ix2 k (y 1)))).trans ?_
      refine congrArg (m ((c : Thread nD τ).loc main_arg1)) ?_
      blk_ext [idx t]

/-- The reference's array. -/
theorem ref_val (x : FVec Ideal S8192x1280 .bf16) (w : FVec Ideal S1280x1024 .bf16) (h : FVec Ideal S8192x1024 .f32) : ReferenceRnnOutFIdeal.Read.val_main_v3 (F := Ideal) x w h = rowsByCols x w h := by
  funext i
  refine (ReferenceRnnOutFIdeal.Read.val_main_v3_apply (F := Ideal) x w h i).trans (congrArg (fun a : EReal => (h i : EReal) + a) ?_)
  refine (ReferenceRnnOutFIdeal.Read.val_main_v2_apply x w i).trans (Finset.sum_congr rfl fun k _ => ?_)
  refine congrArg₂ (fun a b : EReal => a * b) (congrArg x ?_) (congrArg w ?_) <;>
  · funext a
    match a with
    | ⟨0, _⟩ => rfl
    | ⟨1, _⟩ => rfl

theorem frame_ideal : Cert.quiescent_KernelRnnOutFIdeal := fun m ρ _ => Cert.KernelRnnOutFIdeal.Gen.frame m ρ

theorem frame_reference : Cert.quiescent_ReferenceRnnOutFIdeal := by
  intro m g _
  hlo_run
  · exact fun _ => ⟨trivial, trivial, trivial⟩
  · exact sem_eq_zero_of_no_sems rfl _

theorem value : Cert.algebraic_KernelRnnOutFIdeal_ReferenceRnnOutFIdeal := by
  intro m g m' g' _ hagree
  refine ⟨fun c => rowsByCols (m ((c : Thread nD τ).loc main_arg0)) (m ((c : Thread nD τ).loc main_arg1)) (m ((c : Thread nD τ).loc main_arg2)), ?_, ?_⟩
  · refine (θ_run _ _ _).mono (fun r h c => ?_) (run_blocks (F := Ideal) m g)
    obtain ⟨h0, h1, h2, h3⟩ := h c
    exact ⟨h0.trans (final m c), h1, h2, h3⟩
  · refine (θ_run _ _ _).mono (fun r h c => ?_) (ReferenceRnnOutFIdeal.Value.run (F := Ideal) m' g')
    obtain ⟨e0, e1, e2⟩ := hagree c
    obtain ⟨h0, h1, h2, h3⟩ := h c
    refine ⟨h0.trans ?_, h1, h2, h3⟩
    rw [e0, e1, e2]
    exact ref_val _ _ _

section Printed

variable {F : FTy → Type} [FloatOps F]

/-- The printed kernel is the idealized kernel's text. -/
theorem bodies_same : @Cert.KernelRnnOutF.defs₀ F _ Cert.KernelRnnOutF.Gen.facts = @Cert.KernelRnnOutFIdeal.defs₀ F _ Cert.KernelRnnOutFIdeal.Gen.facts := by
  unfold Cert.KernelRnnOutF.defs₀ Cert.KernelRnnOutFIdeal.defs₀
  refine congrArg Defs.onTc ?_
  funext l x
  match l, x with
  | 0, (t, s) => exact rfl

theorem defs_same : @Cert.KernelRnnOutF.defs F _ Cert.KernelRnnOutF.Gen.facts = @Cert.KernelRnnOutFIdeal.defs F _ Cert.KernelRnnOutFIdeal.Gen.facts := by
  unfold Cert.KernelRnnOutF.defs Cert.KernelRnnOutFIdeal.defs
  rw [bodies_same]
  rfl

theorem main_same : @Cert.KernelRnnOutF.main F _ = @Cert.KernelRnnOutFIdeal.main F _ := rfl

end Printed

theorem frame_printed : Cert.quiescent_KernelRnnOutF := fun m ρ _ =>
  (congrArg₂ (fun d p => θ_run d (onTc p) _ _) (defs_same (F := Bits)) (main_same (F := Bits))).mpr
    (Cert.KernelRnnOutFIdeal.Gen.frame (F := Bits) m ρ)

end Cert.Proof.RnnOutF
end
-- ==== Proof.RnnOutWVal.lean ====
/-
  The recurrent block's output projection's gradient of its weight: the transposed activations times the gradient, in one output tile, the
  rows of the batch in eight runs of 1024 that are added up in a scratch tile.
  Each entry is the sum over the 8192 rows, in the kernel and in the reference alike.
-/
module

public import proofs.«01_k».proof.Defs
public import proofs.«01_k».proof.Proof.Gen.KernelRnnOutW
public import proofs.«01_k».proof.Proof.Gen.KernelRnnOutWIdeal
public import proofs.«01_k».proof.Proof.Gen.KernelRnnOutWIdeal.Frame
public import proofs.«01_k».proof.Proof.Gen.KernelRnnOutWIdeal.Value
public import proofs.«01_k».proof.Proof.Gen.ReferenceRnnOutWIdeal
public import proofs.«01_k».proof.Proof.Gen.ReferenceRnnOutWIdeal.Run
public import proofs.«01_k».proof.Proof.Gen.ReferenceRnnOutWIdeal.Read
public import proofs.«01_k».proof.Proof.Sums
public import proofs.«01_k».proof.Proof.Vals
public import Idealize.ShloMosaic.Lib.Pipeline.ValueKit
public import Idealize.ShloMosaic.Lib.Claim

@[expose] public section

set_option maxRecDepth 16384

noncomputable section

namespace Cert.Proof.RnnOutW

open Cert.KernelRnnOutWIdeal Cert.KernelRnnOutWIdeal.Gen Cert.KernelRnnOutWIdeal.Value
open Idealize.ShloMosaic Idealize.ShloMosaic.TcCoe Idealize.SL.Sem
open Idealize.ShloMosaic.Pipeline (Dat)
open Finset

theorem hz : (![0, 0] : Fin 2 → ℕ) = fun _ => 0 := by
  funext a
  match a with
  | 0 => rfl
  | 1 => rfl

/-- The product of the columns of one array with the columns of the other. -/
def colsByCols (x : FVec Ideal S8192x1280 .bf16) (w : FVec Ideal S8192x1024 .f32) : FVec Ideal S1280x1024 .f32 :=
  fun i => ∑ k : Fin 8192, (x (ix2 k (i 0)) : EReal) * w (ix2 k (i 1))

/-- One run of rows. -/
theorem pay_apply (x : FVec Ideal S1024x1280 .bf16) (w : FVec Ideal S1024x1024 .f32) (y : S1280x1024.Idx) :
    k0_pay1 (F := Ideal) x w y = ∑ k : Fin 1024, (x (ix2 k (y 0)) : EReal) * w (ix2 k (y 1)) := by
  idx_vars y
  pointwise [k0_pay1]

section Cases

variable {F : FTy → Type} [FloatOps F]
variable (c : Dev nD) (i : grid0.Coords) (a3 : Memref sig .tc .vmem S1024x1280 .bf16) (h3 : a3.IsWhole) (a4 : Memref sig .tc .vmem S1024x1024 .f32) (h4 : a4.IsWhole)
  (a5 : Memref sig .tc .vmem S1280x1024 .f32) (h5 : a5.IsWhole) (a6 : Memref sig .tc .vmem S1280x1024 .f32) (h6 : a6.IsWhole)
  (x : Vec F S1024x1280 .bf16) (w : Vec F S1024x1024 .f32) (acc : Vec F S1280x1024 .f32)

/-- The first run of rows starts the scratch tile. -/
theorem scratch_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, View.ld_unit_zero (S := S1024x1280) hz, View.ld_unit_zero (S := S1024x1024) hz, View.ld_unit_zero (S := S1280x1024) hz, shapeCast_self]

/-- A later run adds to it. -/
theorem scratch_B (hc0 : ¬cond0_0 i) (hc1 : cond0_1 i) (hc2 : ¬cond0_2 i) :
    sout0_B_0 c i a3 h3 a4 h4 a5 h5 a6 h6 hc0 hc1 hc2 x w acc = addf acc (k0_pay1 x w) := by
  unfold sout0_B_0
  rw [View.read_writes_eq_canon _ _ _ (scover0_B_0 c i a3 h3 a4 h4 a5 h5 a6 h6 hc0 hc1 hc2 x w acc)]
  unfold kernelRun0_B
  dsimp only
  sl_unfold_words
  rw [View.canon_unit_zero hz]
  unfold k0_pay3
  simp only [View.readAt_eq_ld, h3.read_unread, h4.read_unread, h6.read_unread, View.ld_unit_zero (S := S1024x1280) hz, View.ld_unit_zero (S := S1024x1024) hz, View.ld_unit_zero (S := S1280x1024) hz, shapeCast_self]

/-- The last run too, and what the scratch tile then holds goes out. -/
theorem out_C (hc0 : ¬cond0_0 i) (hc1 : cond0_1 i) (hc2 : cond0_2 i) :
    out0_C_2 c i a3 h3 a4 h4 a5 h5 a6 h6 hc0 hc1 hc2 x w acc = addf acc (k0_pay1 x w) := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero hz, View.readCov_unit_zero (S := S1280x1024) _ hz]
  unfold k0_pay3
  simp only [View.readAt_eq_ld, h3.read_unread, h4.read_unread, h6.read_unread, View.ld_unit_zero (S := S1024x1280) hz, View.ld_unit_zero (S := S1024x1024) hz, View.ld_unit_zero (S := S1280x1024) hz, shapeCast_self]

end Cases

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- What run `r` of the rows adds at place `i` of the result. -/
def part (x : FVec Ideal S8192x1280 .bf16) (w : FVec Ideal S8192x1024 .f32) (i : S1280x1024.Idx) (r : Fin 8) : EReal :=
  ∑ k : Fin 1024, (x (ix2 (⟨1024 * r.val + k.val, by omega⟩ : Fin 8192) (i 0)) : EReal) * w (ix2 (⟨1024 * r.val + k.val, by omega⟩ : Fin 8192) (i 1))

theorem sum_part (x : FVec Ideal S8192x1280 .bf16) (w : FVec Ideal S8192x1024 .f32) (i : S1280x1024.Idx) : ∑ r : Fin 8, part x w i r = colsByCols x w i :=
  Sums.sum_runs 8 1024 8192 rfl fun k => (x (ix2 k (i 0)) : EReal) * w (ix2 k (i 1))

/-- One point's product, in terms of the arguments. -/
theorem pay_at (t : Fin cfg0.N) (y : S1280x1024.Idx) (i : S1280x1024.Idx) (e0 : (i 0).val = (y 0).val) (e1 : (i 1).val = 1024 * (t.val / 8) + (y 1).val) :
    k0_pay1 (F := Ideal) (iblk m c 0 t) (iblk m c 1 t) y
      = part (m ((c : Thread nD τ).loc main_arg0)) (m ((c : Thread nD τ).loc main_arg1)) i ⟨t.val % 8, Nat.mod_lt _ (by decide)⟩ := by
  have ht : t.val < 8 := t.isLt
  refine (pay_apply _ _ y).trans ?_
  unfold part
  refine Finset.sum_congr rfl fun k _ => ?_
  refine congrArg₂ (fun a b : EReal => a * b) ?_ ?_
  · refine (congrFun (V_main_arg0 m c) (((cfg0.win 0).blk t).view.emb (ix2 k (y 0)))).trans ?_
    refine congrArg (m ((c : Thread nD τ).loc main_arg0)) ?_
    blk_ext [idx t]
  · refine (congrFun (V_main_arg1 m c) (((cfg0.win 1).blk t).view.emb (ix2 k (y 1)))).trans ?_
    refine congrArg (m ((c : Thread nD τ).loc main_arg1)) ?_
    blk_ext [idx t]

/-- The scratch tile holds the sum of the runs so far. -/
theorem scratch_at (q : ℕ) (hq : q < 1) (y : S1280x1024.Idx) (i : S1280x1024.Idx) (e0 : (i 0).val = (y 0).val) (e1 : (i 1).val = 1024 * q + (y 1).val) :
    ∀ (j : ℕ) (hj : j < 7) (h : 8 * q + j < cfg0.N), (outsAt0 m c (8 * q + j) h).2 y
      = ∑ r : Fin (j + 1), part (m ((c : Thread nD τ).loc main_arg0)) (m ((c : Thread nD τ).loc main_arg1)) i ⟨r.val, by omega⟩
  | 0, hj, h => by
    rw [outsAt0_A m c ⟨8 * q + 0, h⟩ (by dsimp only; omega) (by dsimp only; omega) (by dsimp only; omega)]
    dsimp only
    rw [scratch_A, Fin.sum_univ_one]
    refine (pay_at m c ⟨8 * q + 0, h⟩ y i e0 (by dsimp only; omega)).trans (congrArg _ (Fin.ext ?_))
    show (8 * q + 0) % 8 = 0
    omega
  | j + 1, hj, h => by
    rw [outsAt0_B m c ⟨8 * q + (j + 1), h⟩ (by dsimp only; omega) (by dsimp only; omega) (by dsimp only; omega)]
    dsimp only
    rw [scratch_B, Fin.sum_univ_castSucc]
    refine congrArg₂ (fun a b : EReal => a + b) ?_ ?_
    · exact scratch_at q hq y i e0 e1 j (by omega) (by omega)
    · refine (pay_at m c ⟨8 * q + (j + 1), h⟩ y i e0 (by dsimp only; omega)).trans (congrArg _ (Fin.ext ?_))
      show (8 * q + (j + 1)) % 8 = j + 1
      omega

/-- What goes out after the last run is the whole sum. -/
theorem out_at (q : ℕ) (hq : q < 1) (y : S1280x1024.Idx) (i : S1280x1024.Idx) (e0 : (i 0).val = (y 0).val) (e1 : (i 1).val = 1024 * q + (y 1).val) (h : 8 * q + 7 < cfg0.N) :
    (outsAt0 m c (8 * q + 7) h).1 y = colsByCols (m ((c : Thread nD τ).loc main_arg0)) (m ((c : Thread nD τ).loc main_arg1)) i := by
  rw [outsAt0_C m c ⟨8 * q + 7, h⟩ (by dsimp only; omega) (by dsimp only; omega) (by dsimp only; omega)]
  dsimp only
  rw [out_C, ← sum_part, Fin.sum_univ_castSucc]
  refine congrArg₂ (fun a b : EReal => a + b) ?_ ?_
  · exact scratch_at m c q hq y i e0 e1 6 (by omega) (by omega)
  · refine (pay_at m c ⟨8 * q + 7, h⟩ y i e0 (by dsimp only; omega)).trans (congrArg _ (Fin.ext ?_))
    show (8 * q + 7) % 8 = 7
    omega

/-- The array after the run. -/
theorem final : (dats m 0 c).arrAt 2 cfg0.N = colsByCols (m ((c : Thread nD τ).loc main_arg0)) (m ((c : Thread nD τ).loc main_arg1)) := by
  refine (dats m 0 c).arrAt_eq_of_covers 2 _ (by decide +kernel) fun t hf y => ?_
  have ht : t.val < 8 := t.isLt
  have h7 : t.val % 8 = 7 := (flush0_2 t).mp hf
  have y0 : (y 0).val < 1280 := (y 0).isLt
  have y1 : (y 1).val < 1024 := (y 1).isLt
  have e0 : ((((cfg0.win 2).blk t).view.emb y) 0).val = (y 0).val := by
    blk_simp [idx t]
  have e1 : ((((cfg0.win 2).blk t).view.emb y) 1).val = 1024 * (t.val / 8) + (y 1).val := by
    blk_simp [idx t]
    omega
  have en : ∀ (n : ℕ) (hn : n < cfg0.N), n = 8 * (t.val / 8) + 7 → (outsAt0 m c n hn).1 y
      = colsByCols (m ((c : Thread nD τ).loc main_arg0)) (m ((c : Thread nD τ).loc main_arg1)) (((cfg0.win 2).blk t).view.emb y) := by
    rintro n hn rfl
    exact out_at m c (t.val / 8) (by omega) y _ e0 e1 hn
  blk_simp
  rw [after0_2]
  exact en t.val t.isLt (by omega)

/-- The reference's array. -/
theorem ref_val (x : FVec Ideal S8192x1280 .bf16) (w : FVec Ideal S8192x1024 .f32) : ReferenceRnnOutWIdeal.Read.val_main_v4 (F := Ideal) x w = colsByCols x w := by
  funext i
  refine (ReferenceRnnOutWIdeal.Read.val_main_v4_apply (F := Ideal) x w i).trans ((ReferenceRnnOutWIdeal.Read.val_main_v3_apply x w _).trans (Finset.sum_congr rfl fun k _ => ?_))
  refine (mul_comm _ _).trans (congrArg₂ (fun a b : EReal => a * b) (congrArg x ?_) (congrArg w ?_)) <;>
  · funext a
    match a with
    | ⟨0, _⟩ => rfl
    | ⟨1, _⟩ => rfl

theorem frame_ideal : Cert.quiescent_KernelRnnOutWIdeal := fun m ρ _ => Cert.KernelRnnOutWIdeal.Gen.frame m ρ

theorem frame_reference : Cert.quiescent_ReferenceRnnOutWIdeal := by
  intro m g _
  hlo_run
  · exact fun _ => ⟨trivial, trivial⟩
  · exact sem_eq_zero_of_no_sems rfl _

theorem value : Cert.algebraic_KernelRnnOutWIdeal_ReferenceRnnOutWIdeal := by
  intro m g m' g' _ hagree
  refine ⟨fun c => colsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceRnnOutWIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelRnnOutW.defs₀ F _ Cert.KernelRnnOutW.Gen.facts = @Cert.KernelRnnOutWIdeal.defs₀ F _ Cert.KernelRnnOutWIdeal.Gen.facts := by
  unfold Cert.KernelRnnOutW.defs₀ Cert.KernelRnnOutWIdeal.defs₀
  refine congrArg Defs.onTc ?_
  funext l x
  match l, x with
  | 0, (t, s) => exact rfl

theorem defs_same : @Cert.KernelRnnOutW.defs F _ Cert.KernelRnnOutW.Gen.facts = @Cert.KernelRnnOutWIdeal.defs F _ Cert.KernelRnnOutWIdeal.Gen.facts := by
  unfold Cert.KernelRnnOutW.defs Cert.KernelRnnOutWIdeal.defs
  rw [bodies_same]
  rfl

theorem main_same : @Cert.KernelRnnOutW.main F _ = @Cert.KernelRnnOutWIdeal.main F _ := rfl

end Printed

theorem frame_printed : Cert.quiescent_KernelRnnOutW := fun m ρ _ =>
  (congrArg₂ (fun d p => θ_run d (onTc p) _ _) (defs_same (F := Bits)) (main_same (F := Bits))).mpr
    (Cert.KernelRnnOutWIdeal.Gen.frame (F := Bits) m ρ)

end Cert.Proof.RnnOutW
end
-- ==== Proof.RnnOutDVal.lean ====
/-
  The recurrent block's output projection's gradient of its input: one row block of the incoming gradient against the whole weight at a time.
  Each entry is the sum over the model's 1024 channels, in the kernel and in the reference alike.
-/
module

public import proofs.«01_k».proof.Defs
public import proofs.«01_k».proof.Proof.Gen.KernelRnnOutD
public import proofs.«01_k».proof.Proof.Gen.KernelRnnOutDIdeal
public import proofs.«01_k».proof.Proof.Gen.KernelRnnOutDIdeal.Frame
public import proofs.«01_k».proof.Proof.Gen.KernelRnnOutDIdeal.Value
public import proofs.«01_k».proof.Proof.Gen.ReferenceRnnOutDIdeal
public import proofs.«01_k».proof.Proof.Gen.ReferenceRnnOutDIdeal.Run
public import proofs.«01_k».proof.Proof.Gen.ReferenceRnnOutDIdeal.Read
public import proofs.«01_k».proof.Proof.Vals
public import Idealize.ShloMosaic.Lib.Pipeline.ValueKit
public import Idealize.ShloMosaic.Lib.Claim

@[expose] public section

set_option maxRecDepth 16384

noncomputable section

namespace Cert.Proof.RnnOutD

open Cert.KernelRnnOutDIdeal Cert.KernelRnnOutDIdeal.Gen Cert.KernelRnnOutDIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The product of the rows of one array with the rows of the other. -/
def rowsByRows (x : FVec Ideal S8192x1024 .f32) (w : FVec Ideal S1280x1024 .bf16) : FVec Ideal S8192x1280 .f32 :=
  fun i => ∑ k : Fin 1024, (x (ix2 (i 0) k) : EReal) * w (ix2 (i 1) k)

/-- One block of the kernel. -/
theorem pay_apply (x : FVec Ideal S1024x1024 .f32) (w : FVec Ideal S1280x1024 .bf16) (y : S1024x1280.Idx) :
    k0_pay1 (F := Ideal) x w y = ∑ k : Fin 1024, (x (ix2 (y 0) k) : EReal) * w (ix2 (y 1) k) := by
  idx_vars y
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem hz : (![0, 0] : Fin 2 → ℕ) = fun _ => 0 := by
  funext a
  match a with
  | 0 => rfl
  | 1 => rfl

theorem out_eq (x : Vec Ideal S1024x1024 .f32) (w : Vec Ideal S1280x1024 .bf16) : out0_2 (F := Ideal) x w = k0_pay1 (F := Ideal) x w := by
  unfold out0_2
  rw [View.canon_unit_zero hz]
  simp only [View.ld_unit_zero (S := S1024x1024) hz, View.ld_unit_zero (S := S1280x1024) hz, View.ld_unit_zero (S := S1024x1280) hz]

/-- The array after the run. -/
theorem final : (dats m 0 c).arrAt 2 cfg0.N = rowsByRows (m ((c : Thread nD τ).loc main_arg0)) (m ((c : Thread nD τ).loc main_arg1)) := by
  refine (dats m 0 c).arrAt_eq_of_covers 2 _ (by decide +kernel) fun t hf y => ?_
  have ht : t.val < 8 := t.isLt
  have y0 : (y 0).val < 1024 := (y 0).isLt
  have y1 : (y 1).val < 1280 := (y 1).isLt
  blk_simp
  rw [after0_2, out_eq]
  refine (pay_apply _ _ y).trans ?_
  unfold rowsByRows
  refine Finset.sum_congr rfl fun k _ => ?_
  refine congrArg₂ (fun a b : EReal => a * b) ?_ ?_
  · refine (congrFun (V_main_arg0 m c) (((cfg0.win 0).blk t).view.emb (ix2 (y 0) k))).trans ?_
    refine congrArg (m ((c : Thread nD τ).loc main_arg0)) ?_
    blk_ext [idx t]
  · refine (congrFun (V_main_arg1 m c) (((cfg0.win 1).blk t).view.emb (ix2 (y 1) k))).trans ?_
    refine congrArg (m ((c : Thread nD τ).loc main_arg1)) ?_
    blk_ext [idx t]

/-- The reference's array. -/
theorem ref_val (x : FVec Ideal S8192x1024 .f32) (w : FVec Ideal S1280x1024 .bf16) : ReferenceRnnOutDIdeal.Read.val_main_v3 (F := Ideal) x w = rowsByRows x w := by
  funext i
  refine (ReferenceRnnOutDIdeal.Read.val_main_v3_apply x w i).trans (Finset.sum_congr rfl fun k _ => ?_)
  refine congrArg₂ (fun a b : EReal => a * b) (congrArg x ?_) (congrArg w ?_) <;>
  · funext a
    match a with
    | ⟨0, _⟩ => rfl
    | ⟨1, _⟩ => rfl

theorem frame_ideal : Cert.quiescent_KernelRnnOutDIdeal := fun m ρ _ => Cert.KernelRnnOutDIdeal.Gen.frame m ρ

theorem frame_reference : Cert.quiescent_ReferenceRnnOutDIdeal := by
  intro m g _
  hlo_run
  · exact fun _ => ⟨trivial, trivial⟩
  · exact sem_eq_zero_of_no_sems rfl _

theorem value : Cert.algebraic_KernelRnnOutDIdeal_ReferenceRnnOutDIdeal := by
  intro m g m' g' _ hagree
  refine ⟨fun c => rowsByRows (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceRnnOutDIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelRnnOutD.defs₀ F _ Cert.KernelRnnOutD.Gen.facts = @Cert.KernelRnnOutDIdeal.defs₀ F _ Cert.KernelRnnOutDIdeal.Gen.facts := by
  unfold Cert.KernelRnnOutD.defs₀ Cert.KernelRnnOutDIdeal.defs₀
  refine congrArg Defs.onTc ?_
  funext l x
  match l, x with
  | 0, (t, s) => exact rfl

theorem defs_same : @Cert.KernelRnnOutD.defs F _ Cert.KernelRnnOutD.Gen.facts = @Cert.KernelRnnOutDIdeal.defs F _ Cert.KernelRnnOutDIdeal.Gen.facts := by
  unfold Cert.KernelRnnOutD.defs Cert.KernelRnnOutDIdeal.defs
  rw [bodies_same]
  rfl

theorem main_same : @Cert.KernelRnnOutD.main F _ = @Cert.KernelRnnOutDIdeal.main F _ := rfl

end Printed

theorem frame_printed : Cert.quiescent_KernelRnnOutD := fun m ρ _ =>
  (congrArg₂ (fun d p => θ_run d (onTc p) _ _) (defs_same (F := Bits)) (main_same (F := Bits))).mpr
    (Cert.KernelRnnOutDIdeal.Gen.frame (F := Bits) m ρ)

end Cert.Proof.RnnOutD
end
-- ==== Proof.OutFVal.lean ====
/-
  The attention's output projection and the residual: one row block of the attention's output against the whole weight at a time, added to the residual.
  Each entry is the sum over the model's 1024 channels, plus the residual, in the kernel and in the reference alike.
-/
module

public import proofs.«01_k».proof.Defs
public import proofs.«01_k».proof.Proof.Gen.KernelOutF
public import proofs.«01_k».proof.Proof.Gen.KernelOutFIdeal
public import proofs.«01_k».proof.Proof.Gen.KernelOutFIdeal.Frame
public import proofs.«01_k».proof.Proof.Gen.KernelOutFIdeal.Value
public import proofs.«01_k».proof.Proof.Gen.ReferenceOutFIdeal
public import proofs.«01_k».proof.Proof.Gen.ReferenceOutFIdeal.Run
public import proofs.«01_k».proof.Proof.Gen.ReferenceOutFIdeal.Read
public import proofs.«01_k».proof.Proof.Vals
public import Idealize.ShloMosaic.Lib.Pipeline.ValueKit
public import Idealize.ShloMosaic.Lib.Claim

@[expose] public section

set_option maxRecDepth 16384

noncomputable section

namespace Cert.Proof.OutF

open Cert.KernelOutFIdeal Cert.KernelOutFIdeal.Gen Cert.KernelOutFIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The product of the rows of one array with the columns of the other, added to a third. -/
def rowsByCols (x : FVec Ideal S8192x1024 .bf16) (w : FVec Ideal S1024x1024 .bf16) (h : FVec Ideal S8192x1024 .f32) : FVec Ideal S8192x1024 .f32 :=
  fun i => (h i : EReal) + ∑ k : Fin 1024, (x (ix2 (i 0) k) : EReal) * w (ix2 k (i 1))

/-- One block of the kernel. -/
theorem pay_apply (x : FVec Ideal S1024x1024 .bf16) (w : FVec Ideal S1024x1024 .bf16) (h : FVec Ideal S1024x1024 .f32) (y : S1024x1024.Idx) :
    k0_pay1 (F := Ideal) x w h y = (∑ k : Fin 1024, (x (ix2 (y 0) k) : EReal) * w (ix2 k (y 1))) + (h y : EReal) := by
  idx_vars y
  pointwise [k0_pay1]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem hz : (![0, 0] : Fin 2 → ℕ) = fun _ => 0 := by
  funext a
  match a with
  | 0 => rfl
  | 1 => rfl

theorem out_eq (x : Vec Ideal S1024x1024 .bf16) (w : Vec Ideal S1024x1024 .bf16) (h : Vec Ideal S1024x1024 .f32) : out0_3 (F := Ideal) x w h = k0_pay1 (F := Ideal) x w h := by
  unfold out0_3
  rw [View.canon_unit_zero hz]
  simp only [View.ld_unit_zero (S := S1024x1024) hz]

/-- The array after the run. -/
theorem final : (dats m 0 c).arrAt 3 cfg0.N = rowsByCols (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 8 := t.isLt
  have y0 : (y 0).val < 1024 := (y 0).isLt
  have y1 : (y 1).val < 1024 := (y 1).isLt
  blk_simp
  rw [after0_3, out_eq]
  refine (pay_apply _ _ _ y).trans ?_
  unfold rowsByCols
  refine (add_comm _ _).trans (congrArg₂ (fun a b : EReal => a + b) ?_ ?_)
  · refine (congrFun (V_main_arg2 m c) (((cfg0.win 2).blk t).view.emb y)).trans ?_
    refine congrArg (m ((c : Thread nD τ).loc main_arg2)) ?_
    blk_ext [idx t]
  · refine Finset.sum_congr rfl fun k _ => ?_
    refine congrArg₂ (fun a b : EReal => a * b) ?_ ?_
    · refine (congrFun (V_main_arg0 m c) (((cfg0.win 0).blk t).view.emb (ix2 (y 0) k))).trans ?_
      refine congrArg (m ((c : Thread nD τ).loc main_arg0)) ?_
      blk_ext [idx t]
    · refine (congrFun (V_main_arg1 m c) (((cfg0.win 1).blk t).view.emb (ix2 k (y 1)))).trans ?_
      refine congrArg (m ((c : Thread nD τ).loc main_arg1)) ?_
      blk_ext [idx t]

/-- The reference's array. -/
theorem ref_val (x : FVec Ideal S8192x1024 .bf16) (w : FVec Ideal S1024x1024 .bf16) (h : FVec Ideal S8192x1024 .f32) : ReferenceOutFIdeal.Read.val_main_v3 (F := Ideal) x w h = rowsByCols x w h := by
  funext i
  refine (ReferenceOutFIdeal.Read.val_main_v3_apply (F := Ideal) x w h i).trans (congrArg (fun a : EReal => (h i : EReal) + a) ?_)
  refine (ReferenceOutFIdeal.Read.val_main_v2_apply x w i).trans (Finset.sum_congr rfl fun k _ => ?_)
  refine congrArg₂ (fun a b : EReal => a * b) (congrArg x ?_) (congrArg w ?_) <;>
  · funext a
    match a with
    | ⟨0, _⟩ => rfl
    | ⟨1, _⟩ => rfl

theorem frame_ideal : Cert.quiescent_KernelOutFIdeal := fun m ρ _ => Cert.KernelOutFIdeal.Gen.frame m ρ

theorem frame_reference : Cert.quiescent_ReferenceOutFIdeal := by
  intro m g _
  hlo_run
  · exact fun _ => ⟨trivial, trivial, trivial⟩
  · exact sem_eq_zero_of_no_sems rfl _

theorem value : Cert.algebraic_KernelOutFIdeal_ReferenceOutFIdeal := by
  intro m g m' g' _ hagree
  refine ⟨fun c => rowsByCols (m ((c : Thread nD τ).loc main_arg0)) (m ((c : Thread nD τ).loc main_arg1)) (m ((c : Thread nD τ).loc main_arg2)), ?_, ?_⟩
  · refine (θ_run _ _ _).mono (fun r h c => ?_) (run_blocks (F := Ideal) m g)
    obtain ⟨h0, h1, h2, h3⟩ := h c
    exact ⟨h0.trans (final m c), h1, h2, h3⟩
  · refine (θ_run _ _ _).mono (fun r h c => ?_) (ReferenceOutFIdeal.Value.run (F := Ideal) m' g')
    obtain ⟨e0, e1, e2⟩ := hagree c
    obtain ⟨h0, h1, h2, h3⟩ := h c
    refine ⟨h0.trans ?_, h1, h2, h3⟩
    rw [e0, e1, e2]
    exact ref_val _ _ _

section Printed

variable {F : FTy → Type} [FloatOps F]

/-- The printed kernel is the idealized kernel's text. -/
theorem bodies_same : @Cert.KernelOutF.defs₀ F _ Cert.KernelOutF.Gen.facts = @Cert.KernelOutFIdeal.defs₀ F _ Cert.KernelOutFIdeal.Gen.facts := by
  unfold Cert.KernelOutF.defs₀ Cert.KernelOutFIdeal.defs₀
  refine congrArg Defs.onTc ?_
  funext l x
  match l, x with
  | 0, (t, s) => exact rfl

theorem defs_same : @Cert.KernelOutF.defs F _ Cert.KernelOutF.Gen.facts = @Cert.KernelOutFIdeal.defs F _ Cert.KernelOutFIdeal.Gen.facts := by
  unfold Cert.KernelOutF.defs Cert.KernelOutFIdeal.defs
  rw [bodies_same]
  rfl

theorem main_same : @Cert.KernelOutF.main F _ = @Cert.KernelOutFIdeal.main F _ := rfl

end Printed

theorem frame_printed : Cert.quiescent_KernelOutF := fun m ρ _ =>
  (congrArg₂ (fun d p => θ_run d (onTc p) _ _) (defs_same (F := Bits)) (main_same (F := Bits))).mpr
    (Cert.KernelOutFIdeal.Gen.frame (F := Bits) m ρ)

end Cert.Proof.OutF
end
-- ==== Proof.OutWVal.lean ====
/-
  The attention's output projection's gradient of its weight: the transposed activations times the gradient, in one output tile, the
  rows of the batch in eight runs of 1024 that are added up in a scratch tile.
  Each entry is the sum over the 8192 rows, in the kernel and in the reference alike.
-/
module

public import proofs.«01_k».proof.Defs
public import proofs.«01_k».proof.Proof.Gen.KernelOutW
public import proofs.«01_k».proof.Proof.Gen.KernelOutWIdeal
public import proofs.«01_k».proof.Proof.Gen.KernelOutWIdeal.Frame
public import proofs.«01_k».proof.Proof.Gen.KernelOutWIdeal.Value
public import proofs.«01_k».proof.Proof.Gen.ReferenceOutWIdeal
public import proofs.«01_k».proof.Proof.Gen.ReferenceOutWIdeal.Run
public import proofs.«01_k».proof.Proof.Gen.ReferenceOutWIdeal.Read
public import proofs.«01_k».proof.Proof.Sums
public import proofs.«01_k».proof.Proof.Vals
public import Idealize.ShloMosaic.Lib.Pipeline.ValueKit
public import Idealize.ShloMosaic.Lib.Claim

@[expose] public section

set_option maxRecDepth 16384

noncomputable section

namespace Cert.Proof.OutW

open Cert.KernelOutWIdeal Cert.KernelOutWIdeal.Gen Cert.KernelOutWIdeal.Value
open Idealize.ShloMosaic Idealize.ShloMosaic.TcCoe Idealize.SL.Sem
open Idealize.ShloMosaic.Pipeline (Dat)
open Finset

theorem hz : (![0, 0] : Fin 2 → ℕ) = fun _ => 0 := by
  funext a
  match a with
  | 0 => rfl
  | 1 => rfl

/-- The product of the columns of one array with the columns of the other. -/
def colsByCols (x : FVec Ideal S8192x1024 .bf16) (w : FVec Ideal S8192x1024 .f32) : FVec Ideal S1024x1024 .f32 :=
  fun i => ∑ k : Fin 8192, (x (ix2 k (i 0)) : EReal) * w (ix2 k (i 1))

/-- One run of rows. -/
theorem pay_apply (x : FVec Ideal S1024x1024 .bf16) (w : FVec Ideal S1024x1024 .f32) (y : S1024x1024.Idx) :
    k0_pay1 (F := Ideal) x w y = ∑ k : Fin 1024, (x (ix2 k (y 0)) : EReal) * w (ix2 k (y 1)) := by
  idx_vars y
  pointwise [k0_pay1]

section Cases

variable {F : FTy → Type} [FloatOps F]
variable (c : Dev nD) (i : grid0.Coords) (a3 : Memref sig .tc .vmem S1024x1024 .bf16) (h3 : a3.IsWhole) (a4 : Memref sig .tc .vmem S1024x1024 .f32) (h4 : a4.IsWhole)
  (a5 : Memref sig .tc .vmem S1024x1024 .f32) (h5 : a5.IsWhole) (a6 : Memref sig .tc .vmem S1024x1024 .f32) (h6 : a6.IsWhole)
  (x : Vec F S1024x1024 .bf16) (w : Vec F S1024x1024 .f32) (acc : Vec F S1024x1024 .f32)

/-- The first run of rows starts the scratch tile. -/
theorem scratch_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, View.ld_unit_zero (S := S1024x1024) hz, shapeCast_self]

/-- A later run adds to it. -/
theorem scratch_B (hc0 : ¬cond0_0 i) (hc1 : cond0_1 i) (hc2 : ¬cond0_2 i) :
    sout0_B_0 c i a3 h3 a4 h4 a5 h5 a6 h6 hc0 hc1 hc2 x w acc = addf acc (k0_pay1 x w) := by
  unfold sout0_B_0
  rw [View.read_writes_eq_canon _ _ _ (scover0_B_0 c i a3 h3 a4 h4 a5 h5 a6 h6 hc0 hc1 hc2 x w acc)]
  unfold kernelRun0_B
  dsimp only
  sl_unfold_words
  rw [View.canon_unit_zero hz]
  unfold k0_pay3
  simp only [View.readAt_eq_ld, h3.read_unread, h4.read_unread, h6.read_unread, View.ld_unit_zero (S := S1024x1024) hz, shapeCast_self]

/-- The last run too, and what the scratch tile then holds goes out. -/
theorem out_C (hc0 : ¬cond0_0 i) (hc1 : cond0_1 i) (hc2 : cond0_2 i) :
    out0_C_2 c i a3 h3 a4 h4 a5 h5 a6 h6 hc0 hc1 hc2 x w acc = addf acc (k0_pay1 x w) := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1024x1024) hz, shapeCast_self]

end Cases

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- What run `r` of the rows adds at place `i` of the result. -/
def part (x : FVec Ideal S8192x1024 .bf16) (w : FVec Ideal S8192x1024 .f32) (i : S1024x1024.Idx) (r : Fin 8) : EReal :=
  ∑ k : Fin 1024, (x (ix2 (⟨1024 * r.val + k.val, by omega⟩ : Fin 8192) (i 0)) : EReal) * w (ix2 (⟨1024 * r.val + k.val, by omega⟩ : Fin 8192) (i 1))

theorem sum_part (x : FVec Ideal S8192x1024 .bf16) (w : FVec Ideal S8192x1024 .f32) (i : S1024x1024.Idx) : ∑ r : Fin 8, part x w i r = colsByCols x w i :=
  Sums.sum_runs 8 1024 8192 rfl fun k => (x (ix2 k (i 0)) : EReal) * w (ix2 k (i 1))

/-- One point's product, in terms of the arguments. -/
theorem pay_at (t : Fin cfg0.N) (y : S1024x1024.Idx) (i : S1024x1024.Idx) (e0 : (i 0).val = (y 0).val) (e1 : (i 1).val = 1024 * (t.val / 8) + (y 1).val) :
    k0_pay1 (F := Ideal) (iblk m c 0 t) (iblk m c 1 t) y
      = part (m ((c : Thread nD τ).loc main_arg0)) (m ((c : Thread nD τ).loc main_arg1)) i ⟨t.val % 8, Nat.mod_lt _ (by decide)⟩ := by
  have ht : t.val < 8 := t.isLt
  refine (pay_apply _ _ y).trans ?_
  unfold part
  refine Finset.sum_congr rfl fun k _ => ?_
  refine congrArg₂ (fun a b : EReal => a * b) ?_ ?_
  · refine (congrFun (V_main_arg0 m c) (((cfg0.win 0).blk t).view.emb (ix2 k (y 0)))).trans ?_
    refine congrArg (m ((c : Thread nD τ).loc main_arg0)) ?_
    blk_ext [idx t]
  · refine (congrFun (V_main_arg1 m c) (((cfg0.win 1).blk t).view.emb (ix2 k (y 1)))).trans ?_
    refine congrArg (m ((c : Thread nD τ).loc main_arg1)) ?_
    blk_ext [idx t]

/-- The scratch tile holds the sum of the runs so far. -/
theorem scratch_at (q : ℕ) (hq : q < 1) (y : S1024x1024.Idx) (i : S1024x1024.Idx) (e0 : (i 0).val = (y 0).val) (e1 : (i 1).val = 1024 * q + (y 1).val) :
    ∀ (j : ℕ) (hj : j < 7) (h : 8 * q + j < cfg0.N), (outsAt0 m c (8 * q + j) h).2 y
      = ∑ r : Fin (j + 1), part (m ((c : Thread nD τ).loc main_arg0)) (m ((c : Thread nD τ).loc main_arg1)) i ⟨r.val, by omega⟩
  | 0, hj, h => by
    rw [outsAt0_A m c ⟨8 * q + 0, h⟩ (by dsimp only; omega) (by dsimp only; omega) (by dsimp only; omega)]
    dsimp only
    rw [scratch_A, Fin.sum_univ_one]
    refine (pay_at m c ⟨8 * q + 0, h⟩ y i e0 (by dsimp only; omega)).trans (congrArg _ (Fin.ext ?_))
    show (8 * q + 0) % 8 = 0
    omega
  | j + 1, hj, h => by
    rw [outsAt0_B m c ⟨8 * q + (j + 1), h⟩ (by dsimp only; omega) (by dsimp only; omega) (by dsimp only; omega)]
    dsimp only
    rw [scratch_B, Fin.sum_univ_castSucc]
    refine congrArg₂ (fun a b : EReal => a + b) ?_ ?_
    · exact scratch_at q hq y i e0 e1 j (by omega) (by omega)
    · refine (pay_at m c ⟨8 * q + (j + 1), h⟩ y i e0 (by dsimp only; omega)).trans (congrArg _ (Fin.ext ?_))
      show (8 * q + (j + 1)) % 8 = j + 1
      omega

/-- What goes out after the last run is the whole sum. -/
theorem out_at (q : ℕ) (hq : q < 1) (y : S1024x1024.Idx) (i : S1024x1024.Idx) (e0 : (i 0).val = (y 0).val) (e1 : (i 1).val = 1024 * q + (y 1).val) (h : 8 * q + 7 < cfg0.N) :
    (outsAt0 m c (8 * q + 7) h).1 y = colsByCols (m ((c : Thread nD τ).loc main_arg0)) (m ((c : Thread nD τ).loc main_arg1)) i := by
  rw [outsAt0_C m c ⟨8 * q + 7, h⟩ (by dsimp only; omega) (by dsimp only; omega) (by dsimp only; omega)]
  dsimp only
  rw [out_C, ← sum_part, Fin.sum_univ_castSucc]
  refine congrArg₂ (fun a b : EReal => a + b) ?_ ?_
  · exact scratch_at m c q hq y i e0 e1 6 (by omega) (by omega)
  · refine (pay_at m c ⟨8 * q + 7, h⟩ y i e0 (by dsimp only; omega)).trans (congrArg _ (Fin.ext ?_))
    show (8 * q + 7) % 8 = 7
    omega

/-- The array after the run. -/
theorem final : (dats m 0 c).arrAt 2 cfg0.N = colsByCols (m ((c : Thread nD τ).loc main_arg0)) (m ((c : Thread nD τ).loc main_arg1)) := by
  refine (dats m 0 c).arrAt_eq_of_covers 2 _ (by decide +kernel) fun t hf y => ?_
  have ht : t.val < 8 := t.isLt
  have h7 : t.val % 8 = 7 := (flush0_2 t).mp hf
  have y0 : (y 0).val < 1024 := (y 0).isLt
  have y1 : (y 1).val < 1024 := (y 1).isLt
  have e0 : ((((cfg0.win 2).blk t).view.emb y) 0).val = (y 0).val := by
    blk_simp [idx t]
  have e1 : ((((cfg0.win 2).blk t).view.emb y) 1).val = 1024 * (t.val / 8) + (y 1).val := by
    blk_simp [idx t]
    omega
  have en : ∀ (n : ℕ) (hn : n < cfg0.N), n = 8 * (t.val / 8) + 7 → (outsAt0 m c n hn).1 y
      = colsByCols (m ((c : Thread nD τ).loc main_arg0)) (m ((c : Thread nD τ).loc main_arg1)) (((cfg0.win 2).blk t).view.emb y) := by
    rintro n hn rfl
    exact out_at m c (t.val / 8) (by omega) y _ e0 e1 hn
  blk_simp
  rw [after0_2]
  exact en t.val t.isLt (by omega)

/-- The reference's array. -/
theorem ref_val (x : FVec Ideal S8192x1024 .bf16) (w : FVec Ideal S8192x1024 .f32) : ReferenceOutWIdeal.Read.val_main_v4 (F := Ideal) x w = colsByCols x w := by
  funext i
  refine (ReferenceOutWIdeal.Read.val_main_v4_apply (F := Ideal) x w i).trans ((ReferenceOutWIdeal.Read.val_main_v3_apply x w _).trans (Finset.sum_congr rfl fun k _ => ?_))
  refine (mul_comm _ _).trans (congrArg₂ (fun a b : EReal => a * b) (congrArg x ?_) (congrArg w ?_)) <;>
  · funext a
    match a with
    | ⟨0, _⟩ => rfl
    | ⟨1, _⟩ => rfl

theorem frame_ideal : Cert.quiescent_KernelOutWIdeal := fun m ρ _ => Cert.KernelOutWIdeal.Gen.frame m ρ

theorem frame_reference : Cert.quiescent_ReferenceOutWIdeal := by
  intro m g _
  hlo_run
  · exact fun _ => ⟨trivial, trivial⟩
  · exact sem_eq_zero_of_no_sems rfl _

theorem value : Cert.algebraic_KernelOutWIdeal_ReferenceOutWIdeal := by
  intro m g m' g' _ hagree
  refine ⟨fun c => colsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceOutWIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelOutW.defs₀ F _ Cert.KernelOutW.Gen.facts = @Cert.KernelOutWIdeal.defs₀ F _ Cert.KernelOutWIdeal.Gen.facts := by
  unfold Cert.KernelOutW.defs₀ Cert.KernelOutWIdeal.defs₀
  refine congrArg Defs.onTc ?_
  funext l x
  match l, x with
  | 0, (t, s) => exact rfl

theorem defs_same : @Cert.KernelOutW.defs F _ Cert.KernelOutW.Gen.facts = @Cert.KernelOutWIdeal.defs F _ Cert.KernelOutWIdeal.Gen.facts := by
  unfold Cert.KernelOutW.defs Cert.KernelOutWIdeal.defs
  rw [bodies_same]
  rfl

theorem main_same : @Cert.KernelOutW.main F _ = @Cert.KernelOutWIdeal.main F _ := rfl

end Printed

theorem frame_printed : Cert.quiescent_KernelOutW := fun m ρ _ =>
  (congrArg₂ (fun d p => θ_run d (onTc p) _ _) (defs_same (F := Bits)) (main_same (F := Bits))).mpr
    (Cert.KernelOutWIdeal.Gen.frame (F := Bits) m ρ)

end Cert.Proof.OutW
end
-- ==== Proof.OutDVal.lean ====
/-
  The attention's output projection's gradient of its input: one row block of the incoming gradient against the whole weight at a time.
  Each entry is the sum over the model's 1024 channels, in the kernel and in the reference alike.
-/
module

public import proofs.«01_k».proof.Defs
public import proofs.«01_k».proof.Proof.Gen.KernelOutD
public import proofs.«01_k».proof.Proof.Gen.KernelOutDIdeal
public import proofs.«01_k».proof.Proof.Gen.KernelOutDIdeal.Frame
public import proofs.«01_k».proof.Proof.Gen.KernelOutDIdeal.Value
public import proofs.«01_k».proof.Proof.Gen.ReferenceOutDIdeal
public import proofs.«01_k».proof.Proof.Gen.ReferenceOutDIdeal.Run
public import proofs.«01_k».proof.Proof.Gen.ReferenceOutDIdeal.Read
public import proofs.«01_k».proof.Proof.Vals
public import Idealize.ShloMosaic.Lib.Pipeline.ValueKit
public import Idealize.ShloMosaic.Lib.Claim

@[expose] public section

set_option maxRecDepth 16384

noncomputable section

namespace Cert.Proof.OutD

open Cert.KernelOutDIdeal Cert.KernelOutDIdeal.Gen Cert.KernelOutDIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The product of the rows of one array with the rows of the other. -/
def rowsByRows (x : FVec Ideal S8192x1024 .f32) (w : FVec Ideal S1024x1024 .bf16) : FVec Ideal S8192x1024 .bf16 :=
  fun i => ∑ k : Fin 1024, (x (ix2 (i 0) k) : EReal) * w (ix2 (i 1) k)

/-- One block of the kernel. -/
theorem pay_apply (x : FVec Ideal S1024x1024 .f32) (w : FVec Ideal S1024x1024 .bf16) (y : S1024x1024.Idx) :
    k0_pay1 (F := Ideal) x w y = ∑ k : Fin 1024, (x (ix2 (y 0) k) : EReal) * w (ix2 (y 1) k) := by
  idx_vars y
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem hz : (![0, 0] : Fin 2 → ℕ) = fun _ => 0 := by
  funext a
  match a with
  | 0 => rfl
  | 1 => rfl

theorem out_eq (x : Vec Ideal S1024x1024 .f32) (w : Vec Ideal S1024x1024 .bf16) : out0_2 (F := Ideal) x w = k0_pay1 (F := Ideal) x w := by
  unfold out0_2
  rw [View.canon_unit_zero hz]
  simp only [View.ld_unit_zero (S := S1024x1024) hz]

/-- The array after the run. -/
theorem final : (dats m 0 c).arrAt 2 cfg0.N = rowsByRows (m ((c : Thread nD τ).loc main_arg0)) (m ((c : Thread nD τ).loc main_arg1)) := by
  refine (dats m 0 c).arrAt_eq_of_covers 2 _ (by decide +kernel) fun t hf y => ?_
  have ht : t.val < 8 := t.isLt
  have y0 : (y 0).val < 1024 := (y 0).isLt
  have y1 : (y 1).val < 1024 := (y 1).isLt
  blk_simp
  rw [after0_2, out_eq]
  refine (pay_apply _ _ y).trans ?_
  unfold rowsByRows
  refine Finset.sum_congr rfl fun k _ => ?_
  refine congrArg₂ (fun a b : EReal => a * b) ?_ ?_
  · refine (congrFun (V_main_arg0 m c) (((cfg0.win 0).blk t).view.emb (ix2 (y 0) k))).trans ?_
    refine congrArg (m ((c : Thread nD τ).loc main_arg0)) ?_
    blk_ext [idx t]
  · refine (congrFun (V_main_arg1 m c) (((cfg0.win 1).blk t).view.emb (ix2 (y 1) k))).trans ?_
    refine congrArg (m ((c : Thread nD τ).loc main_arg1)) ?_
    blk_ext [idx t]

/-- The reference's array. -/
theorem ref_val (x : FVec Ideal S8192x1024 .f32) (w : FVec Ideal S1024x1024 .bf16) : ReferenceOutDIdeal.Read.val_main_v4 (F := Ideal) x w = rowsByRows x w := by
  funext i
  refine (ReferenceOutDIdeal.Read.val_main_v3_apply x w i).trans (Finset.sum_congr rfl fun k _ => ?_)
  refine congrArg₂ (fun a b : EReal => a * b) (congrArg x ?_) (congrArg w ?_) <;>
  · funext a
    match a with
    | ⟨0, _⟩ => rfl
    | ⟨1, _⟩ => rfl

theorem frame_ideal : Cert.quiescent_KernelOutDIdeal := fun m ρ _ => Cert.KernelOutDIdeal.Gen.frame m ρ

theorem frame_reference : Cert.quiescent_ReferenceOutDIdeal := by
  intro m g _
  hlo_run
  · exact fun _ => ⟨trivial, trivial⟩
  · exact sem_eq_zero_of_no_sems rfl _

theorem value : Cert.algebraic_KernelOutDIdeal_ReferenceOutDIdeal := by
  intro m g m' g' _ hagree
  refine ⟨fun c => rowsByRows (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceOutDIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelOutD.defs₀ F _ Cert.KernelOutD.Gen.facts = @Cert.KernelOutDIdeal.defs₀ F _ Cert.KernelOutDIdeal.Gen.facts := by
  unfold Cert.KernelOutD.defs₀ Cert.KernelOutDIdeal.defs₀
  refine congrArg Defs.onTc ?_
  funext l x
  match l, x with
  | 0, (t, s) => exact rfl

theorem defs_same : @Cert.KernelOutD.defs F _ Cert.KernelOutD.Gen.facts = @Cert.KernelOutDIdeal.defs F _ Cert.KernelOutDIdeal.Gen.facts := by
  unfold Cert.KernelOutD.defs Cert.KernelOutDIdeal.defs
  rw [bodies_same]
  rfl

theorem main_same : @Cert.KernelOutD.main F _ = @Cert.KernelOutDIdeal.main F _ := rfl

end Printed

theorem frame_printed : Cert.quiescent_KernelOutD := fun m ρ _ =>
  (congrArg₂ (fun d p => θ_run d (onTc p) _ _) (defs_same (F := Bits)) (main_same (F := Bits))).mpr
    (Cert.KernelOutDIdeal.Gen.frame (F := Bits) m ρ)

end Cert.Proof.OutD
end
-- ==== Proof.PleFVal.lean ====
/-
  The per-layer embedding: one row block of the embeddings against the whole weight at a time, times the gate's sigmoid, added to the residual.
  Each entry is the sum over the embedding's 256 channels, times the gate, plus the residual, in the kernel and in the reference alike.
-/
module

public import proofs.«01_k».proof.Defs
public import proofs.«01_k».proof.Proof.Gen.KernelPleF
public import proofs.«01_k».proof.Proof.Gen.KernelPleFIdeal
public import proofs.«01_k».proof.Proof.Gen.KernelPleFIdeal.Frame
public import proofs.«01_k».proof.Proof.Gen.KernelPleFIdeal.Value
public import proofs.«01_k».proof.Proof.Gen.ReferencePleFIdeal
public import proofs.«01_k».proof.Proof.Gen.ReferencePleFIdeal.Run
public import proofs.«01_k».proof.Proof.Gen.ReferencePleFIdeal.Read
public import proofs.«01_k».proof.Proof.Vals
public import Idealize.ShloMosaic.Lib.Pipeline.ValueKit
public import Idealize.ShloMosaic.Lib.Claim

@[expose] public section

set_option maxRecDepth 16384

noncomputable section

namespace Cert.Proof.PleF

open Cert.KernelPleFIdeal Cert.KernelPleFIdeal.Gen Cert.KernelPleFIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The product of the rows of one array with the columns of the other, gated and added to a third. -/
def rowsByCols (x : FVec Ideal S8192x256 .f32) (w : FVec Ideal S256x1024 .bf16) (h : FVec Ideal S8192x1024 .f32) (p : FVec Ideal S8192x1024 .f32) : FVec Ideal S8192x1024 .f32 :=
  fun i => (h i : EReal) + Ideal.div 1 (1 + Ideal.exp (-(p i : EReal))) * ∑ k : Fin 256, (x (ix2 (i 0) k) : EReal) * w (ix2 k (i 1))

/-- One block of the kernel. -/
theorem pay_apply (x : FVec Ideal S1024x256 .f32) (w : FVec Ideal S256x1024 .bf16) (h : FVec Ideal S1024x1024 .f32) (p : FVec Ideal S1024x1024 .f32) (y : S1024x1024.Idx) :
    k0_pay1 (F := Ideal) x w h p y = (h y : EReal) + Ideal.div 1 (1 + Ideal.exp (-(p y : EReal))) * ∑ k : Fin 256, (x (ix2 (y 0) k) : EReal) * w (ix2 k (y 1)) := by
  idx_vars y
  pointwise [k0_pay1]
  rfl

theorem idx : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

theorem hz : (![0, 0] : Fin 2 → ℕ) = fun _ => 0 := by
  funext a
  match a with
  | 0 => rfl
  | 1 => rfl

theorem out_eq (x : Vec Ideal S1024x256 .f32) (w : Vec Ideal S256x1024 .bf16) (h : Vec Ideal S1024x1024 .f32) (p : Vec Ideal S1024x1024 .f32) : out0_4 (F := Ideal) x w h p = k0_pay1 (F := Ideal) x w h p := by
  unfold out0_4
  rw [View.canon_unit_zero hz]
  simp only [View.ld_unit_zero (S := S1024x256) hz, View.ld_unit_zero (S := S256x1024) hz, View.ld_unit_zero (S := S1024x1024) hz]

/-- The array after the run. -/
theorem final : (dats m 0 c).arrAt 4 cfg0.N = rowsByCols (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 8 := t.isLt
  have y0 : (y 0).val < 1024 := (y 0).isLt
  have y1 : (y 1).val < 1024 := (y 1).isLt
  blk_simp
  rw [after0_4, out_eq]
  refine (pay_apply _ _ _ _ y).trans ?_
  unfold rowsByCols
  refine congrArg₂ (fun a b : EReal => a + b) ?_ (congrArg₂ (fun a b : EReal => a * b) (congrArg (fun a : EReal => Ideal.div 1 (1 + Ideal.exp (-a))) ?_) ?_)
  · refine (congrFun (V_main_arg2 m c) (((cfg0.win 2).blk t).view.emb y)).trans ?_
    refine congrArg (m ((c : Thread nD τ).loc main_arg2)) ?_
    blk_ext [idx t]
  · refine (congrFun (V_main_arg3 m c) (((cfg0.win 3).blk t).view.emb y)).trans ?_
    refine congrArg (m ((c : Thread nD τ).loc main_arg3)) ?_
    blk_ext [idx t]
  · refine Finset.sum_congr rfl fun k _ => ?_
    refine congrArg₂ (fun a b : EReal => a * b) ?_ ?_
    · refine (congrFun (V_main_arg0 m c) (((cfg0.win 0).blk t).view.emb (ix2 (y 0) k))).trans ?_
      refine congrArg (m ((c : Thread nD τ).loc main_arg0)) ?_
      blk_ext [idx t]
    · refine (congrFun (V_main_arg1 m c) (((cfg0.win 1).blk t).view.emb (ix2 k (y 1)))).trans ?_
      refine congrArg (m ((c : Thread nD τ).loc main_arg1)) ?_
      blk_ext [idx t]

/-- The reference's array. -/
theorem ref_val (x : FVec Ideal S8192x256 .f32) (w : FVec Ideal S256x1024 .bf16) (h : FVec Ideal S8192x1024 .f32) (p : FVec Ideal S8192x1024 .f32) : ReferencePleFIdeal.Read.val_main_v9 (F := Ideal) x w h p = rowsByCols x w h p := by
  funext i
  rw [ReferencePleFIdeal.Read.val_main_v9_apply (F := Ideal), ReferencePleFIdeal.Read.val_main_v8_apply (F := Ideal), ReferencePleFIdeal.Read.val_main_v7_apply, ReferencePleFIdeal.Read.val_main_v5_apply (F := Ideal),
    ReferencePleFIdeal.Read.val_main_v4_apply (F := Ideal), ReferencePleFIdeal.Read.val_main_v3_apply (F := Ideal), ReferencePleFIdeal.Read.val_main_v2_apply (F := Ideal), ReferencePleFIdeal.Read.val_main_v1_apply (F := Ideal),
    ReferencePleFIdeal.Read.val_main_v0_apply (F := Ideal), ReferencePleFIdeal.Read.val_main_cst_apply (F := Ideal), ReferencePleFIdeal.Read.val_main_cst_0_apply (F := Ideal)]
  have one : (FloatOps.ofBits .f32 0x3F800000#32 : Ideal .f32) = (1 : EReal) := Ideal.ofBits_one_f32
  rw [one]
  refine congrArg₂ (fun a b : EReal => a + b) rfl (congrArg₂ (fun a b : EReal => a * b) rfl (Finset.sum_congr rfl fun k _ => ?_))
  refine congrArg₂ (fun a b : EReal => a * b) (congrArg x ?_) (congrArg w ?_) <;>
  · funext a
    match a with
    | ⟨0, _⟩ => rfl
    | ⟨1, _⟩ => rfl

theorem frame_ideal : Cert.quiescent_KernelPleFIdeal := fun m ρ _ => Cert.KernelPleFIdeal.Gen.frame m ρ

theorem frame_reference : Cert.quiescent_ReferencePleFIdeal := by
  intro m g _
  hlo_run
  · exact fun _ => ⟨trivial, trivial, trivial, trivial⟩
  · exact sem_eq_zero_of_no_sems rfl _

theorem value : Cert.algebraic_KernelPleFIdeal_ReferencePleFIdeal := by
  intro m g m' g' _ hagree
  refine ⟨fun c => rowsByCols (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (run_blocks (F := Ideal) m g)
    obtain ⟨h0, h1, h2, h3, h4⟩ := h c
    exact ⟨h0.trans (final m c), h1, h2, h3, h4⟩
  · refine (θ_run _ _ _).mono (fun r h c => ?_) (ReferencePleFIdeal.Value.run (F := Ideal) m' g')
    obtain ⟨e0, e1, e2, e3⟩ := hagree c
    obtain ⟨h0, h1, h2, h3, h4⟩ := h c
    refine ⟨h0.trans ?_, h1, h2, h3, h4⟩
    rw [e0, e1, e2, e3]
    exact ref_val _ _ _ _

section Printed

variable {F : FTy → Type} [FloatOps F]

/-- The printed kernel is the idealized kernel's text. -/
theorem bodies_same : @Cert.KernelPleF.defs₀ F _ Cert.KernelPleF.Gen.facts = @Cert.KernelPleFIdeal.defs₀ F _ Cert.KernelPleFIdeal.Gen.facts := by
  unfold Cert.KernelPleF.defs₀ Cert.KernelPleFIdeal.defs₀
  refine congrArg Defs.onTc ?_
  funext l x
  match l, x with
  | 0, (t, s) => exact rfl

theorem defs_same : @Cert.KernelPleF.defs F _ Cert.KernelPleF.Gen.facts = @Cert.KernelPleFIdeal.defs F _ Cert.KernelPleFIdeal.Gen.facts := by
  unfold Cert.KernelPleF.defs Cert.KernelPleFIdeal.defs
  rw [bodies_same]
  rfl

theorem main_same : @Cert.KernelPleF.main F _ = @Cert.KernelPleFIdeal.main F _ := rfl

end Printed

theorem frame_printed : Cert.quiescent_KernelPleF := fun m ρ _ =>
  (congrArg₂ (fun d p => θ_run d (onTc p) _ _) (defs_same (F := Bits)) (main_same (F := Bits))).mpr
    (Cert.KernelPleFIdeal.Gen.frame (F := Bits) m ρ)

end Cert.Proof.PleF
end
-- ==== Proof.PleProjWVal.lean ====
/-
  The embedding projection's gradient of its weight: the transposed embeddings times the gradient, in one output tile, the
  rows of the batch in eight runs of 1024 that are added up in a scratch tile.
  Each entry is the sum over the 8192 rows, in the kernel and in the reference alike.
-/
module

public import proofs.«01_k».proof.Defs
public import proofs.«01_k».proof.Proof.Gen.KernelPleProjW
public import proofs.«01_k».proof.Proof.Gen.KernelPleProjWIdeal
public import proofs.«01_k».proof.Proof.Gen.KernelPleProjWIdeal.Frame
public import proofs.«01_k».proof.Proof.Gen.KernelPleProjWIdeal.Value
public import proofs.«01_k».proof.Proof.Gen.ReferencePleProjWIdeal
public import proofs.«01_k».proof.Proof.Gen.ReferencePleProjWIdeal.Run
public import proofs.«01_k».proof.Proof.Gen.ReferencePleProjWIdeal.Read
public import proofs.«01_k».proof.Proof.Sums
public import proofs.«01_k».proof.Proof.Vals
public import Idealize.ShloMosaic.Lib.Pipeline.ValueKit
public import Idealize.ShloMosaic.Lib.Claim

@[expose] public section

set_option maxRecDepth 16384

noncomputable section

namespace Cert.Proof.PleProjW

open Cert.KernelPleProjWIdeal Cert.KernelPleProjWIdeal.Gen Cert.KernelPleProjWIdeal.Value
open Idealize.ShloMosaic Idealize.ShloMosaic.TcCoe Idealize.SL.Sem
open Idealize.ShloMosaic.Pipeline (Dat)
open Finset

theorem hz : (![0, 0] : Fin 2 → ℕ) = fun _ => 0 := by
  funext a
  match a with
  | 0 => rfl
  | 1 => rfl

/-- The product of the columns of one array with the columns of the other. -/
def colsByCols (x : FVec Ideal S8192x256 .f32) (w : FVec Ideal S8192x1024 .bf16) : FVec Ideal S256x1024 .f32 :=
  fun i => ∑ k : Fin 8192, (x (ix2 k (i 0)) : EReal) * w (ix2 k (i 1))

/-- One run of rows. -/
theorem pay_apply (x : FVec Ideal S1024x256 .f32) (w : FVec Ideal S1024x1024 .bf16) (y : S256x1024.Idx) :
    k0_pay1 (F := Ideal) x w y = ∑ k : Fin 1024, (x (ix2 k (y 0)) : EReal) * w (ix2 k (y 1)) := by
  idx_vars y
  pointwise [k0_pay1]

section Cases

variable {F : FTy → Type} [FloatOps F]
variable (c : Dev nD) (i : grid0.Coords) (a3 : Memref sig .tc .vmem S1024x256 .f32) (h3 : a3.IsWhole) (a4 : Memref sig .tc .vmem S1024x1024 .bf16) (h4 : a4.IsWhole)
  (a5 : Memref sig .tc .vmem S256x1024 .f32) (h5 : a5.IsWhole) (a6 : Memref sig .tc .vmem S256x1024 .f32) (h6 : a6.IsWhole)
  (x : Vec F S1024x256 .f32) (w : Vec F S1024x1024 .bf16) (acc : Vec F S256x1024 .f32)

/-- The first run of rows starts the scratch tile. -/
theorem scratch_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, View.ld_unit_zero (S := S1024x256) hz, View.ld_unit_zero (S := S1024x1024) hz, View.ld_unit_zero (S := S256x1024) hz, shapeCast_self]

/-- A later run adds to it. -/
theorem scratch_B (hc0 : ¬cond0_0 i) (hc1 : cond0_1 i) (hc2 : ¬cond0_2 i) :
    sout0_B_0 c i a3 h3 a4 h4 a5 h5 a6 h6 hc0 hc1 hc2 x w acc = addf acc (k0_pay1 x w) := by
  unfold sout0_B_0
  rw [View.read_writes_eq_canon _ _ _ (scover0_B_0 c i a3 h3 a4 h4 a5 h5 a6 h6 hc0 hc1 hc2 x w acc)]
  unfold kernelRun0_B
  dsimp only
  sl_unfold_words
  rw [View.canon_unit_zero hz]
  unfold k0_pay3
  simp only [View.readAt_eq_ld, h3.read_unread, h4.read_unread, h6.read_unread, View.ld_unit_zero (S := S1024x256) hz, View.ld_unit_zero (S := S1024x1024) hz, View.ld_unit_zero (S := S256x1024) hz, shapeCast_self]

/-- The last run too, and what the scratch tile then holds goes out. -/
theorem out_C (hc0 : ¬cond0_0 i) (hc1 : cond0_1 i) (hc2 : cond0_2 i) :
    out0_C_2 c i a3 h3 a4 h4 a5 h5 a6 h6 hc0 hc1 hc2 x w acc = addf acc (k0_pay1 x w) := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero hz, View.readCov_unit_zero (S := S256x1024) _ hz]
  unfold k0_pay3
  simp only [View.readAt_eq_ld, h3.read_unread, h4.read_unread, h6.read_unread, View.ld_unit_zero (S := S1024x256) hz, View.ld_unit_zero (S := S1024x1024) hz, View.ld_unit_zero (S := S256x1024) hz, shapeCast_self]

end Cases

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- What run `r` of the rows adds at place `i` of the result. -/
def part (x : FVec Ideal S8192x256 .f32) (w : FVec Ideal S8192x1024 .bf16) (i : S256x1024.Idx) (r : Fin 8) : EReal :=
  ∑ k : Fin 1024, (x (ix2 (⟨1024 * r.val + k.val, by omega⟩ : Fin 8192) (i 0)) : EReal) * w (ix2 (⟨1024 * r.val + k.val, by omega⟩ : Fin 8192) (i 1))

theorem sum_part (x : FVec Ideal S8192x256 .f32) (w : FVec Ideal S8192x1024 .bf16) (i : S256x1024.Idx) : ∑ r : Fin 8, part x w i r = colsByCols x w i :=
  Sums.sum_runs 8 1024 8192 rfl fun k => (x (ix2 k (i 0)) : EReal) * w (ix2 k (i 1))

/-- One point's product, in terms of the arguments. -/
theorem pay_at (t : Fin cfg0.N) (y : S256x1024.Idx) (i : S256x1024.Idx) (e0 : (i 0).val = (y 0).val) (e1 : (i 1).val = 1024 * (t.val / 8) + (y 1).val) :
    k0_pay1 (F := Ideal) (iblk m c 0 t) (iblk m c 1 t) y
      = part (m ((c : Thread nD τ).loc main_arg0)) (m ((c : Thread nD τ).loc main_arg1)) i ⟨t.val % 8, Nat.mod_lt _ (by decide)⟩ := by
  have ht : t.val < 8 := t.isLt
  refine (pay_apply _ _ y).trans ?_
  unfold part
  refine Finset.sum_congr rfl fun k _ => ?_
  refine congrArg₂ (fun a b : EReal => a * b) ?_ ?_
  · refine (congrFun (V_main_arg0 m c) (((cfg0.win 0).blk t).view.emb (ix2 k (y 0)))).trans ?_
    refine congrArg (m ((c : Thread nD τ).loc main_arg0)) ?_
    blk_ext [idx t]
  · refine (congrFun (V_main_arg1 m c) (((cfg0.win 1).blk t).view.emb (ix2 k (y 1)))).trans ?_
    refine congrArg (m ((c : Thread nD τ).loc main_arg1)) ?_
    blk_ext [idx t]

/-- The scratch tile holds the sum of the runs so far. -/
theorem scratch_at (q : ℕ) (hq : q < 1) (y : S256x1024.Idx) (i : S256x1024.Idx) (e0 : (i 0).val = (y 0).val) (e1 : (i 1).val = 1024 * q + (y 1).val) :
    ∀ (j : ℕ) (hj : j < 7) (h : 8 * q + j < cfg0.N), (outsAt0 m c (8 * q + j) h).2 y
      = ∑ r : Fin (j + 1), part (m ((c : Thread nD τ).loc main_arg0)) (m ((c : Thread nD τ).loc main_arg1)) i ⟨r.val, by omega⟩
  | 0, hj, h => by
    rw [outsAt0_A m c ⟨8 * q + 0, h⟩ (by dsimp only; omega) (by dsimp only; omega) (by dsimp only; omega)]
    dsimp only
    rw [scratch_A, Fin.sum_univ_one]
    refine (pay_at m c ⟨8 * q + 0, h⟩ y i e0 (by dsimp only; omega)).trans (congrArg _ (Fin.ext ?_))
    show (8 * q + 0) % 8 = 0
    omega
  | j + 1, hj, h => by
    rw [outsAt0_B m c ⟨8 * q + (j + 1), h⟩ (by dsimp only; omega) (by dsimp only; omega) (by dsimp only; omega)]
    dsimp only
    rw [scratch_B, Fin.sum_univ_castSucc]
    refine congrArg₂ (fun a b : EReal => a + b) ?_ ?_
    · exact scratch_at q hq y i e0 e1 j (by omega) (by omega)
    · refine (pay_at m c ⟨8 * q + (j + 1), h⟩ y i e0 (by dsimp only; omega)).trans (congrArg _ (Fin.ext ?_))
      show (8 * q + (j + 1)) % 8 = j + 1
      omega

/-- What goes out after the last run is the whole sum. -/
theorem out_at (q : ℕ) (hq : q < 1) (y : S256x1024.Idx) (i : S256x1024.Idx) (e0 : (i 0).val = (y 0).val) (e1 : (i 1).val = 1024 * q + (y 1).val) (h : 8 * q + 7 < cfg0.N) :
    (outsAt0 m c (8 * q + 7) h).1 y = colsByCols (m ((c : Thread nD τ).loc main_arg0)) (m ((c : Thread nD τ).loc main_arg1)) i := by
  rw [outsAt0_C m c ⟨8 * q + 7, h⟩ (by dsimp only; omega) (by dsimp only; omega) (by dsimp only; omega)]
  dsimp only
  rw [out_C, ← sum_part, Fin.sum_univ_castSucc]
  refine congrArg₂ (fun a b : EReal => a + b) ?_ ?_
  · exact scratch_at m c q hq y i e0 e1 6 (by omega) (by omega)
  · refine (pay_at m c ⟨8 * q + 7, h⟩ y i e0 (by dsimp only; omega)).trans (congrArg _ (Fin.ext ?_))
    show (8 * q + 7) % 8 = 7
    omega

/-- The array after the run. -/
theorem final : (dats m 0 c).arrAt 2 cfg0.N = colsByCols (m ((c : Thread nD τ).loc main_arg0)) (m ((c : Thread nD τ).loc main_arg1)) := by
  refine (dats m 0 c).arrAt_eq_of_covers 2 _ (by decide +kernel) fun t hf y => ?_
  have ht : t.val < 8 := t.isLt
  have h7 : t.val % 8 = 7 := (flush0_2 t).mp hf
  have y0 : (y 0).val < 256 := (y 0).isLt
  have y1 : (y 1).val < 1024 := (y 1).isLt
  have e0 : ((((cfg0.win 2).blk t).view.emb y) 0).val = (y 0).val := by
    blk_simp [idx t]
  have e1 : ((((cfg0.win 2).blk t).view.emb y) 1).val = 1024 * (t.val / 8) + (y 1).val := by
    blk_simp [idx t]
    omega
  have en : ∀ (n : ℕ) (hn : n < cfg0.N), n = 8 * (t.val / 8) + 7 → (outsAt0 m c n hn).1 y
      = colsByCols (m ((c : Thread nD τ).loc main_arg0)) (m ((c : Thread nD τ).loc main_arg1)) (((cfg0.win 2).blk t).view.emb y) := by
    rintro n hn rfl
    exact out_at m c (t.val / 8) (by omega) y _ e0 e1 hn
  blk_simp
  rw [after0_2]
  exact en t.val t.isLt (by omega)

/-- The reference's array. -/
theorem ref_val (x : FVec Ideal S8192x256 .f32) (w : FVec Ideal S8192x1024 .bf16) : ReferencePleProjWIdeal.Read.val_main_v4 (F := Ideal) x w = colsByCols x w := by
  funext i
  refine (ReferencePleProjWIdeal.Read.val_main_v4_apply (F := Ideal) x w i).trans ((ReferencePleProjWIdeal.Read.val_main_v3_apply x w _).trans (Finset.sum_congr rfl fun k _ => ?_))
  refine (mul_comm _ _).trans (congrArg₂ (fun a b : EReal => a * b) (congrArg x ?_) (congrArg w ?_)) <;>
  · funext a
    match a with
    | ⟨0, _⟩ => rfl
    | ⟨1, _⟩ => rfl

theorem frame_ideal : Cert.quiescent_KernelPleProjWIdeal := fun m ρ _ => Cert.KernelPleProjWIdeal.Gen.frame m ρ

theorem frame_reference : Cert.quiescent_ReferencePleProjWIdeal := by
  intro m g _
  hlo_run
  · exact fun _ => ⟨trivial, trivial⟩
  · exact sem_eq_zero_of_no_sems rfl _

theorem value : Cert.algebraic_KernelPleProjWIdeal_ReferencePleProjWIdeal := by
  intro m g m' g' _ hagree
  refine ⟨fun c => colsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferencePleProjWIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelPleProjW.defs₀ F _ Cert.KernelPleProjW.Gen.facts = @Cert.KernelPleProjWIdeal.defs₀ F _ Cert.KernelPleProjWIdeal.Gen.facts := by
  unfold Cert.KernelPleProjW.defs₀ Cert.KernelPleProjWIdeal.defs₀
  refine congrArg Defs.onTc ?_
  funext l x
  match l, x with
  | 0, (t, s) => exact rfl

theorem defs_same : @Cert.KernelPleProjW.defs F _ Cert.KernelPleProjW.Gen.facts = @Cert.KernelPleProjWIdeal.defs F _ Cert.KernelPleProjWIdeal.Gen.facts := by
  unfold Cert.KernelPleProjW.defs Cert.KernelPleProjWIdeal.defs
  rw [bodies_same]
  rfl

theorem main_same : @Cert.KernelPleProjW.main F _ = @Cert.KernelPleProjWIdeal.main F _ := rfl

end Printed

theorem frame_printed : Cert.quiescent_KernelPleProjW := fun m ρ _ =>
  (congrArg₂ (fun d p => θ_run d (onTc p) _ _) (defs_same (F := Bits)) (main_same (F := Bits))).mpr
    (Cert.KernelPleProjWIdeal.Gen.frame (F := Bits) m ρ)

end Cert.Proof.PleProjW
end
-- ==== Proof.PleDVal.lean ====
/-
  The per-layer embedding on the way back: the gradients of the gate's input and of the projected embedding, 512 rows at a time.
  With s the sigmoid of the gate's input, e the projected embedding and d the gradient, the kernel has d * e * s * (1 - s) and
  the reference d * e * (s * (1 - s)); the kernel has d * s and the reference s * d.
-/
module

public import proofs.«01_k».proof.Defs
public import proofs.«01_k».proof.Proof.Gen.KernelPleD
public import proofs.«01_k».proof.Proof.Gen.KernelPleDIdeal
public import proofs.«01_k».proof.Proof.Gen.KernelPleDIdeal.Frame
public import proofs.«01_k».proof.Proof.Gen.KernelPleDIdeal.Value
public import proofs.«01_k».proof.Proof.Gen.ReferencePleDIdeal
public import proofs.«01_k».proof.Proof.Gen.ReferencePleDIdeal.Run
public import proofs.«01_k».proof.Proof.Gen.ReferencePleDIdeal.Read
public import proofs.«01_k».proof.Proof.Vals
public import Idealize.ShloMosaic.Lib.Pipeline.ValueKit
public import Idealize.ShloMosaic.Lib.Claim

@[expose] public section

set_option maxRecDepth 16384

noncomputable section

namespace Cert.Proof.PleD

open Cert.KernelPleDIdeal Cert.KernelPleDIdeal.Gen Cert.KernelPleDIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The sigmoid. -/
def sg (p : EReal) : EReal := Ideal.div 1 (1 + Ideal.exp (-p))

/-- An entry of the projected embedding. -/
def emb {n : ℕ} (x : FVec Ideal ⟨2, ![n, 256]⟩ .f32) (w : FVec Ideal S256x1024 .bf16) (i : Fin n) (j : Fin 1024) : EReal := ∑ k : Fin 256, (x (ix2 i k) : EReal) * w (ix2 k j)

/-- The gradient of the gate's input. -/
def gateArr (d p : FVec Ideal S8192x1024 .f32) (x : FVec Ideal S8192x256 .f32) (w : FVec Ideal S256x1024 .bf16) : FVec Ideal S8192x1024 .bf16 :=
  fun i => (d i : EReal) * emb x w (i 0) (i 1) * sg (p i) * (1 - sg (p i))

/-- The gradient of the projected embedding. -/
def embArr (d p : FVec Ideal S8192x1024 .f32) : FVec Ideal S8192x1024 .bf16 := fun i => (d i : EReal) * sg (p i)

/-- One block of the gradient of the gate's input. -/
theorem pay3_apply (x : FVec Ideal S512x256 .f32) (w : FVec Ideal S256x1024 .bf16) (p d : FVec Ideal S512x1024 .f32) (y : S512x1024.Idx) :
    k0_pay3 (F := Ideal) x w p d y = (d y : EReal) * emb x w (y 0) (y 1) * sg (p y) * (1 - sg (p y)) := by
  idx_vars y
  pointwise [k0_pay3, k0_pay1]
  rfl

/-- One block of the gradient of the projected embedding. -/
theorem pay2_apply (p d : FVec Ideal S512x1024 .f32) (y : S512x1024.Idx) : k0_pay2 (F := Ideal) p d y = (d y : EReal) * sg (p y) := by
  idx_vars y
  pointwise [k0_pay2, k0_pay1]
  rfl

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] :=
  (by decide +kernel : ∀ t : Fin grid0.N, _)

theorem hz : (![0, 0] : Fin 2 → ℕ) = fun _ => 0 := by
  funext a
  match a with
  | 0 => rfl
  | 1 => rfl

theorem out4_eq (d p : Vec Ideal S512x1024 .f32) (x : Vec Ideal S512x256 .f32) (w : Vec Ideal S256x1024 .bf16) : out0_4 (F := Ideal) d p x w = k0_pay3 (F := Ideal) x w p d := by
  unfold out0_4
  rw [View.canon_unit_zero hz]
  simp only [View.ld_unit_zero (S := S512x256) hz, View.ld_unit_zero (S := S256x1024) hz, View.ld_unit_zero (S := S512x1024) hz]

theorem out5_eq (d p : Vec Ideal S512x1024 .f32) (x : Vec Ideal S512x256 .f32) (w : Vec Ideal S256x1024 .bf16) : out0_5 (F := Ideal) d p x w = k0_pay2 (F := Ideal) p d := by
  unfold out0_5
  rw [View.canon_unit_zero hz]
  simp only [View.ld_unit_zero (S := S512x1024) hz]

/-- The gradient of the gate's input after the run. -/
theorem final4 : (dats m 0 c).arrAt 4 cfg0.N = gateArr (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 16 := t.isLt
  have y0 : (y 0).val < 512 := (y 0).isLt
  have y1 : (y 1).val < 1024 := (y 1).isLt
  blk_simp
  rw [after0_4, out4_eq]
  refine (pay3_apply _ _ _ _ y).trans ?_
  unfold gateArr
  have hp : iblk m c 1 t y = m ((c : Thread nD τ).loc main_arg1) (((cfg0.win 4).blk t).view.emb y) := by
    refine (congrFun (V_main_arg1 m c) (((cfg0.win 1).blk t).view.emb y)).trans ?_
    refine congrArg (m ((c : Thread nD τ).loc main_arg1)) ?_
    blk_ext [idx t]
  refine congrArg₂ (fun a b : EReal => a * b) (congrArg₂ (fun a b : EReal => a * b) (congrArg₂ (fun a b : EReal => a * b) ?_ ?_) (congrArg sg hp)) (congrArg (fun a : EReal => 1 - sg a) hp)
  · refine (congrFun (V_main_arg0 m c) (((cfg0.win 0).blk t).view.emb y)).trans ?_
    refine congrArg (m ((c : Thread nD τ).loc main_arg0)) ?_
    blk_ext [idx t]
  · refine Finset.sum_congr rfl fun k _ => ?_
    refine congrArg₂ (fun a b : EReal => a * b) ?_ ?_
    · refine (congrFun (V_main_arg2 m c) (((cfg0.win 2).blk t).view.emb (ix2 (y 0) k))).trans ?_
      refine congrArg (m ((c : Thread nD τ).loc main_arg2)) ?_
      blk_ext [idx t]
    · refine (congrFun (V_main_arg3 m c) (((cfg0.win 3).blk t).view.emb (ix2 k (y 1)))).trans ?_
      refine congrArg (m ((c : Thread nD τ).loc main_arg3)) ?_
      blk_ext [idx t]

/-- The gradient of the projected embedding after the run. -/
theorem final5 : (dats m 0 c).arrAt 5 cfg0.N = embArr (m ((c : Thread nD τ).loc main_arg0)) (m ((c : Thread nD τ).loc main_arg1)) := by
  refine (dats m 0 c).arrAt_eq_of_covers 5 _ (by decide +kernel) fun t hf y => ?_
  have ht : t.val < 16 := t.isLt
  have y0 : (y 0).val < 512 := (y 0).isLt
  have y1 : (y 1).val < 1024 := (y 1).isLt
  blk_simp
  rw [after0_5, out5_eq]
  refine (pay2_apply _ _ y).trans ?_
  unfold embArr
  refine congrArg₂ (fun a b : EReal => a * b) ?_ (congrArg sg ?_)
  · refine (congrFun (V_main_arg0 m c) (((cfg0.win 0).blk t).view.emb y)).trans ?_
    refine congrArg (m ((c : Thread nD τ).loc main_arg0)) ?_
    blk_ext [idx t]
  · refine (congrFun (V_main_arg1 m c) (((cfg0.win 1).blk t).view.emb y)).trans ?_
    refine congrArg (m ((c : Thread nD τ).loc main_arg1)) ?_
    blk_ext [idx t]

section Reference

open Cert.ReferencePleDIdeal.Read

variable (d p : FVec Ideal S8192x1024 .f32) (x : FVec Ideal S8192x256 .f32) (w : FVec Ideal S256x1024 .bf16)

theorem one_bits : (FloatOps.ofBits .f32 0x3F800000#32 : Ideal .f32) = (1 : EReal) := Ideal.ofBits_one_f32

/-- The reference's sigmoid. -/
theorem r7 (i) : val_main_v7 (F := Ideal) p i = sg (p i) := by
  rw [val_main_v7_apply (F := Ideal), val_main_v6_apply (F := Ideal), val_main_v5_apply (F := Ideal), val_main_v4_apply (F := Ideal), val_main_v3_apply (F := Ideal), val_main_v2_apply (F := Ideal),
    val_main_cst_apply (F := Ideal), val_main_cst_0_apply (F := Ideal), one_bits]
  rfl

/-- The reference's projected embedding. -/
theorem r1 (i) : val_main_v1 (F := Ideal) x w i = emb x w (i 0) (i 1) := by
  refine (val_main_v1_apply x w i).trans (Finset.sum_congr rfl fun k _ => ?_)
  refine congrArg₂ (fun a b : EReal => a * b) (congrArg x ?_) (congrArg w ?_) <;>
  · funext a
    match a with
    | ⟨0, _⟩ => rfl
    | ⟨1, _⟩ => rfl

theorem ref_gate : val_main_v15 (F := Ideal) d p x w = gateArr d p x w := by
  funext i
  rw [val_main_v15_apply (F := Ideal), val_main_v14_apply (F := Ideal), val_main_v13_apply (F := Ideal), val_main_v10_apply (F := Ideal), val_main_v9_apply (F := Ideal), val_main_v8_apply (F := Ideal),
    val_main_cst_1_apply (F := Ideal), r7, r1, one_bits]
  exact (mul_assoc (_ : EReal) _ _).symm

theorem ref_emb : val_main_v16 (F := Ideal) d p = embArr d p := by
  funext i
  rw [val_main_v16_apply (F := Ideal), val_main_v12_apply (F := Ideal), r7]
  exact mul_comm (_ : EReal) _

end Reference

theorem frame_ideal : Cert.quiescent_KernelPleDIdeal := fun m ρ _ => Cert.KernelPleDIdeal.Gen.frame m ρ

theorem frame_reference : Cert.quiescent_ReferencePleDIdeal := by
  intro m g _
  hlo_run
  · exact fun _ => ⟨trivial, trivial, trivial, trivial⟩
  · exact sem_eq_zero_of_no_sems rfl _

/-- Both programs compute the two gradients. -/
theorem value : Cert.algebraic_KernelPleDIdeal_ReferencePleDIdeal := by
  intro m g m' g' _ hagree
  refine ⟨fun c => gateArr (m ((c : Thread nD τ).loc main_arg0)) (m ((c : Thread nD τ).loc main_arg1)) (m ((c : Thread nD τ).loc main_arg2)) (m ((c : Thread nD τ).loc main_arg3)),
    fun c => embArr (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final4 m c), h1.trans (final5 m c), h2⟩
  · refine (θ_run _ _ _).mono (fun r h c => ?_) (ReferencePleDIdeal.Value.run (F := Ideal) m' g')
    obtain ⟨e0, e1, e2, e3⟩ := hagree c
    obtain ⟨h0, h1, h2⟩ := h c
    refine ⟨h0.trans ((ReferencePleDIdeal.Read.val_main_v15_eq _ _ _ _).trans ?_), h1.trans ((ReferencePleDIdeal.Read.val_main_v16_eq _ _).trans ?_), h2⟩
    · rw [e0, e1, e2, e3]
      exact ref_gate _ _ _ _
    · rw [e0, e1]
      exact ref_emb _ _

section Printed

variable {F : FTy → Type} [FloatOps F]

/-- The printed kernel is the idealized kernel's text. -/
theorem bodies_same : @Cert.KernelPleD.defs₀ F _ Cert.KernelPleD.Gen.facts = @Cert.KernelPleDIdeal.defs₀ F _ Cert.KernelPleDIdeal.Gen.facts := by
  unfold Cert.KernelPleD.defs₀ Cert.KernelPleDIdeal.defs₀
  refine congrArg Defs.onTc ?_
  funext l x
  match l, x with
  | 0, (t, s) => exact rfl

theorem defs_same : @Cert.KernelPleD.defs F _ Cert.KernelPleD.Gen.facts = @Cert.KernelPleDIdeal.defs F _ Cert.KernelPleDIdeal.Gen.facts := by
  unfold Cert.KernelPleD.defs Cert.KernelPleDIdeal.defs
  rw [bodies_same]
  rfl

theorem main_same : @Cert.KernelPleD.main F _ = @Cert.KernelPleDIdeal.main F _ := rfl

end Printed

theorem frame_printed : Cert.quiescent_KernelPleD := fun m ρ _ =>
  (congrArg₂ (fun d p => θ_run d (onTc p) _ _) (defs_same (F := Bits)) (main_same (F := Bits))).mpr
    (Cert.KernelPleDIdeal.Gen.frame (F := Bits) m ρ)

end Cert.Proof.PleD
end
-- ==== Proof.LossVal.lean ====
/-
  The last norm and the loss. 512 rows at a time, the kernel norms the rows, takes the error against the target, half of its mean square
  as the rows' part of the loss, and the loss's gradient back through the norm. The gradient of the norm's weights and the loss are
  added up from point to point. The reference has the factors in another order; the numbers 1/2, 2, 1/1024 and 1/2048 are exact.
-/
module

public import proofs.«01_k».proof.Defs
public import proofs.«01_k».proof.Proof.Gen.KernelLoss
public import proofs.«01_k».proof.Proof.Gen.KernelLossIdeal
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.Ext
public import Idealize.ShloMosaic.Lib.Pipeline.ValueKit
public import Idealize.ShloMosaic.Lib.Claim

@[expose] public section

set_option maxRecDepth 16384

noncomputable section

namespace Cert.Proof.Loss

open Cert.KernelLossIdeal Cert.KernelLossIdeal.Gen Cert.KernelLossIdeal.Value
open Idealize.ShloMosaic Idealize.ShloMosaic.TcCoe Idealize.SL.Sem
open Idealize.ShloMosaic.Pipeline (Dat)
open Ext
open Finset

theorem bits_1024 : Ideal.ofBits .f32 0x3A800000#32 = ((1 / 1024 : ℝ) : EReal) := by
  simp [Ideal.ofBits, Ideal.ieee, -EReal.coe_mul]; norm_num

theorem bits_2048 : Ideal.ofBits .f32 0x3A000000#32 = ((1 / 2048 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

/-- The error: the normed row less the target. -/
def err (x : ℕ → ℕ → EReal) (g : ℕ → EReal) (t : ℕ → ℕ → EReal) (i j : ℕ) : EReal := x i j * scale x i * g j - t i j

/-- The loss's gradient by the normed row. -/
def dy (x : ℕ → ℕ → EReal) (g : ℕ → EReal) (t : ℕ → ℕ → EReal) (i j : ℕ) : EReal := err x g t i j * ((1 / 1024 : ℝ) : EReal)

/-- The sum of a row's squared errors. -/
def sq (x : ℕ → ℕ → EReal) (g : ℕ → EReal) (t : ℕ → ℕ → EReal) (i : ℕ) : EReal := ∑ l ∈ range 1024, err x g t i l * err x g t i l

theorem pay5 (x : ℕ → ℕ → EReal) : k0_pay5 (F := Ideal) (E2 (φ := .f32) x) = E2 (fun i _ => scale x i) := by
  funext y
  idx_vars y
  pointwise [k0_pay5]
  simp only [E2_ix]
  rw [sum_fin 1024 (fun l => x y0.val l * x y0.val l)]
  rfl

theorem pay6 (x : ℕ → ℕ → EReal) : k0_pay6 (F := Ideal) (E2 (φ := .f32) x) = E2 (fun i j => x i j * scale x i) := by
  funext y
  idx_vars y
  pointwise [k0_pay6]
  rw [pay5]
  simp only [E2_ix]

theorem pay7 (x : ℕ → ℕ → EReal) (g : ℕ → EReal) (t : ℕ → ℕ → EReal) :
    k0_pay7 (F := Ideal) (E2 (φ := .f32) x) (E2 (φ := .f32) fun _ j => g j) (E2 (φ := .f32) t) = E2 (err x g t) := by
  funext y
  idx_vars y
  pointwise [k0_pay7, k0_pay4]
  rw [pay6]
  simp only [E2_ix]
  rfl

theorem pay8 (x : ℕ → ℕ → EReal) (g : ℕ → EReal) (t : ℕ → ℕ → EReal) :
    k0_pay8 (F := Ideal) (E2 (φ := .f32) x) (E2 (φ := .f32) fun _ j => g j) (E2 (φ := .f32) t) = E2 (dy x g t) := by
  funext y
  idx_vars y
  pointwise [k0_pay8]
  rw [pay7, bits_1024]
  rfl

theorem pay9 (x : ℕ → ℕ → EReal) (g : ℕ → EReal) (t : ℕ → ℕ → EReal) :
    k0_pay9 (F := Ideal) (E2 (φ := .f32) x) (E2 (φ := .f32) fun _ j => g j) (E2 (φ := .f32) t) = E2 fun i j => through x g (dy x g t) i j := by
  funext y
  idx_vars y
  pointwise [k0_pay9, k0_pay4]
  rw [pay8, pay5, pay6]
  simp only [E2_ix]
  rw [sum_fin 1024 (fun l => dy x g t y0.val l * g l * (x y0.val l * scale x y0.val))]
  rfl

theorem pay10 (x : ℕ → ℕ → EReal) (g : ℕ → EReal) (t : ℕ → ℕ → EReal) :
    k0_pay10 (F := Ideal) (E2 (φ := .f32) x) (E2 (φ := .f32) fun _ j => g j) (E2 (φ := .f32) t) = E2 fun _ j => ∑ i ∈ range 512, dy x g t i j * (x i j * scale x i) := by
  funext y
  idx_vars y
  pointwise [k0_pay10]
  rw [pay8, pay6]
  simp only [E2_ix]
  exact sum_fin 512 (fun i => dy x g t i y1.val * (x i y1.val * scale x i))

theorem pay2 (u s : ℕ → EReal) : k0_pay2 (F := Ideal) (E2 (φ := .f32) fun _ j => u j) (E2 (φ := .f32) fun _ j => s j) = E2 (fun _ j => s j + u j) := by
  funext y
  idx_vars y
  pointwise [k0_pay2]
  simp only [E2_ix]

theorem pay12 (x : ℕ → ℕ → EReal) (g : ℕ → EReal) (t : ℕ → ℕ → EReal) :
    k0_pay12 (F := Ideal) (E2 (φ := .f32) x) (E2 (φ := .f32) fun _ j => g j) (E2 (φ := .f32) t) = ∑ i ∈ range 512, sq x g t i := by
  pointwise [k0_pay12]
  rw [pay7]
  refine Eq.trans ?_ (sum_fin 512 fun i => sq x g t i)
  exact Finset.sum_congr rfl fun i _ => sum_fin 1024 fun l => err x g t i.val l * err x g t i.val l

theorem pay1 (v : EReal) : k0_pay1 (F := Ideal) k0_pay11 v = E2 (fun _ _ => ((1 / 2048 : ℝ) : EReal) * v) := by
  funext y
  idx_vars y
  pointwise [k0_pay1, k0_pay11]
  rw [bits_2048]
  rfl

theorem pay3 (v a : EReal) : k0_pay3 (F := Ideal) k0_pay11 v (E2 (φ := .f32) fun _ _ => a) = E2 (fun _ _ => a + ((1 / 2048 : ℝ) : EReal) * v) := by
  funext y
  idx_vars y
  pointwise [k0_pay3]
  rw [pay1]
  rfl

theorem hz : (![0, 0] : Fin 2 → ℕ) = fun _ => 0 := by
  funext a
  match a with
  | 0 => rfl
  | 1 => rfl

section Cases

variable {F : FTy → Type} [FloatOps F]
variable (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S1x128 .f32) (h6 : a6.IsWhole)
  (x0 : Vec F S512x1024 .f32) (x1 : Vec F S1x1024 .f32) (x2 : Vec F S512x1024 .f32) (acc : Vec F S1x1024 .f32) (tot : Vec F S1x128 .f32)

theorem out3_A (hc0 : cond0_0 i) (hc1 : ¬cond0_1 i) :
    out0_A_3 c i a1 h1 a2 h2 a3 h3 a4 h4 a5 h5 a6 h6 hc0 hc1 x0 x1 x2 = k0_pay9 x0 x1 x2 := by
  unfold out0_A_3
  rw [View.read_writes_eq_canon _ _ _ (cover0_A_3 c i a1 h1 a2 h2 a3 h3 a4 h4 a5 h5 a6 h6 hc0 hc1 x0 x1 x2)]
  unfold kernelRun0_A
  dsimp only
  sl_unfold_words
  rw [View.canon_unit_zero hz]
  simp only [View.readAt_eq_ld, h1.read_unread, h2.read_unread, h3.read_unread,
    View.ld_unit_zero (S := S512x1024) hz, View.ld_unit_zero (S := S1x1024) hz, View.ld_unit_zero (S := S1x128) hz]

theorem out3_B (hc0 : ¬cond0_0 i) (hc1 : cond0_1 i) :
    out0_B_3 c i a1 h1 a2 h2 a3 h3 a4 h4 a5 h5 a6 h6 hc0 hc1 x0 x1 x2 acc tot = k0_pay9 x0 x1 x2 := by
  unfold out0_B_3
  rw [View.read_writes_eq_canon _ _ _ (cover0_B_3 c i a1 h1 a2 h2 a3 h3 a4 h4 a5 h5 a6 h6 hc0 hc1 x0 x1 x2 acc tot)]
  unfold kernelRun0_B
  dsimp only
  sl_unfold_words
  rw [View.canon_unit_zero hz]
  simp only [View.readAt_eq_ld, h1.read_unread, h2.read_unread, h3.read_unread, h5.read_unread, h6.read_unread,
    View.ld_unit_zero (S := S512x1024) hz, View.ld_unit_zero (S := S1x1024) hz, View.ld_unit_zero (S := S1x128) hz]

theorem out4_A (hc0 : cond0_0 i) (hc1 : ¬cond0_1 i) :
    out0_A_4 c i a1 h1 a2 h2 a3 h3 a4 h4 a5 h5 a6 h6 hc0 hc1 x0 x1 x2 = k0_pay10 x0 x1 x2 := by
  unfold out0_A_4
  rw [View.read_writes_eq_canon _ _ _ (cover0_A_4 c i a1 h1 a2 h2 a3 h3 a4 h4 a5 h5 a6 h6 hc0 hc1 x0 x1 x2)]
  unfold kernelRun0_A
  dsimp only
  sl_unfold_words
  rw [View.canon_unit_zero hz]
  simp only [View.readAt_eq_ld, h1.read_unread, h2.read_unread, h3.read_unread,
    View.ld_unit_zero (S := S512x1024) hz, View.ld_unit_zero (S := S1x1024) hz, View.ld_unit_zero (S := S1x128) hz]

theorem out4_B (hc0 : ¬cond0_0 i) (hc1 : cond0_1 i) :
    out0_B_4 c i a1 h1 a2 h2 a3 h3 a4 h4 a5 h5 a6 h6 hc0 hc1 x0 x1 x2 acc tot = k0_pay2 (k0_pay10 x0 x1 x2) acc := by
  unfold out0_B_4
  rw [View.read_writes_eq_canon _ _ _ (cover0_B_4 c i a1 h1 a2 h2 a3 h3 a4 h4 a5 h5 a6 h6 hc0 hc1 x0 x1 x2 acc tot)]
  unfold kernelRun0_B
  dsimp only
  sl_unfold_words
  rw [View.canon_unit_zero hz]
  simp only [View.readAt_eq_ld, h1.read_unread, h2.read_unread, h3.read_unread, h5.read_unread, h6.read_unread,
    View.ld_unit_zero (S := S512x1024) hz, View.ld_unit_zero (S := S1x1024) hz, View.ld_unit_zero (S := S1x128) hz]

theorem out5_A (hc0 : cond0_0 i) (hc1 : ¬cond0_1 i) :
    out0_A_5 c i a1 h1 a2 h2 a3 h3 a4 h4 a5 h5 a6 h6 hc0 hc1 x0 x1 x2 = k0_pay1 k0_pay11 (k0_pay12 x0 x1 x2) := by
  unfold out0_A_5
  rw [View.read_writes_eq_canon _ _ _ (cover0_A_5 c i a1 h1 a2 h2 a3 h3 a4 h4 a5 h5 a6 h6 hc0 hc1 x0 x1 x2)]
  unfold kernelRun0_A
  dsimp only
  sl_unfold_words
  rw [View.canon_unit_zero hz]
  simp only [View.readAt_eq_ld, h1.read_unread, h2.read_unread, h3.read_unread,
    View.ld_unit_zero (S := S512x1024) hz, View.ld_unit_zero (S := S1x1024) hz, View.ld_unit_zero (S := S1x128) hz]

theorem out5_B (hc0 : ¬cond0_0 i) (hc1 : cond0_1 i) :
    out0_B_5 c i a1 h1 a2 h2 a3 h3 a4 h4 a5 h5 a6 h6 hc0 hc1 x0 x1 x2 acc tot = k0_pay3 k0_pay11 (k0_pay12 x0 x1 x2) tot := by
  unfold out0_B_5
  rw [View.read_writes_eq_canon _ _ _ (cover0_B_5 c i a1 h1 a2 h2 a3 h3 a4 h4 a5 h5 a6 h6 hc0 hc1 x0 x1 x2 acc tot)]
  unfold kernelRun0_B
  dsimp only
  sl_unfold_words
  rw [View.canon_unit_zero hz]
  simp only [View.readAt_eq_ld, h1.read_unread, h2.read_unread, h3.read_unread, h5.read_unread, h6.read_unread,
    View.ld_unit_zero (S := S512x1024) hz, View.ld_unit_zero (S := S1x1024) hz, View.ld_unit_zero (S := S1x128) hz]

end Cases

/-- The loss's gradient by the norm's input. -/
def dxArr (X : ℕ → ℕ → EReal) (g : ℕ → EReal) (T : ℕ → ℕ → EReal) : FVec Ideal S8192x1024 .f32 := E2 fun i j => through X g (dy X g T) i j

/-- The loss's gradient by the norm's weights. -/
def dgArr (X : ℕ → ℕ → EReal) (g : ℕ → EReal) (T : ℕ → ℕ → EReal) : FVec Ideal S1x1024 .f32 := E2 fun _ j => ∑ i ∈ range 8192, dy X g T i j * (X i j * scale X i)

/-- The loss, in each of 128 places. -/
def lossArr (X : ℕ → ℕ → EReal) (g : ℕ → EReal) (T : ℕ → ℕ → EReal) : FVec Ideal S1x128 .f32 := E2 fun _ _ => ((1 / 2048 : ℝ) : EReal) * ∑ i ∈ range 8192, sq X g T i

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] :=
  (by decide +kernel : ∀ t : Fin grid0.N, _)

variable (m : (ℓ : Loc nD τ sig) → Buf (Elt Ideal) ℓ) (c : Dev nD) (X : ℕ → ℕ → EReal) (g : ℕ → EReal) (T : ℕ → ℕ → EReal)

/-- The arguments, by their entries. -/
structure Holds : Prop where
  x : (m ((c : Thread nD τ).loc main_arg0) : FVec Ideal S8192x1024 .f32) = E2 (φ := .f32) X
  g : (m ((c : Thread nD τ).loc main_arg1) : FVec Ideal S1024 .f32) = E1 (φ := .f32) g
  t : (m ((c : Thread nD τ).loc main_arg2) : FVec Ideal S8192x1024 .f32) = E2 (φ := .f32) T

theorem Vg : V m c main_v0 = shapeCast S1x1024 (m ((c : Thread nD τ).loc main_arg1)) shapeCasts_S1024_S1x1024 := by
  unfold V
  simp only [hostOps0, List.flatten_cons, List.flatten_nil, List.append_nil, StableHlo.TRef.unary, StableHlo.TRef.toBuf, StableHlo.TRef.ofBuf, cast_eq]
  after_results_simp
  rfl

variable (h : Holds m c X g T)

section Blocks

include h

theorem blk0 (t : Fin cfg0.N) : (iblk m c 0 t : FVec Ideal S512x1024 .f32) = E2 (φ := .f32) fun i j => X (512 * t.val + i) j := by
  funext y
  refine (congrFun ((V_main_arg0 m c).trans h.x) (((cfg0.win 0).blk t).view.emb y)).trans ?_
  unfold E2
  blk_simp [idx t]
  exact (congrArg₂ X (by omega) (by omega))

theorem blk2 (t : Fin cfg0.N) : (iblk m c 2 t : FVec Ideal S512x1024 .f32) = E2 (φ := .f32) fun i j => T (512 * t.val + i) j := by
  funext y
  refine (congrFun ((V_main_arg2 m c).trans h.t) (((cfg0.win 2).blk t).view.emb y)).trans ?_
  unfold E2
  blk_simp [idx t]
  exact (congrArg₂ T (by omega) (by omega))

theorem g_eq : V m c main_v0 = (E2 (φ := .f32) fun _ j => g j : FVec Ideal S1x1024 .f32) := by
  rw [Vg]
  refine (congrArg (fun w => shapeCast S1x1024 w shapeCasts_S1024_S1x1024) h.g).trans ?_
  funext y
  idx_vars y
  pointwise
  rfl

theorem blk1 (t : Fin cfg0.N) : (iblk m c 1 t : FVec Ideal S1x1024 .f32) = E2 (φ := .f32) fun _ j => g j := by
  funext y
  refine (congrFun (g_eq m c X g T h) (((cfg0.win 1).blk t).view.emb y)).trans ?_
  unfold E2
  blk_simp [idx t]

/-- One point's rows of the gradient of the norm's input. -/
theorem rows_at (t : Fin cfg0.N) : k0_pay9 (F := Ideal) (iblk m c 0 t) (iblk m c 1 t) (iblk m c 2 t) = E2 fun i j => through X g (dy X g T) (512 * t.val + i) j := by
  rw [blk0 m c X g T h, blk1 m c X g T h, blk2 m c X g T h, pay9]
  rfl

/-- One point's part of the gradient of the norm's weights. -/
theorem part_at (t : Fin cfg0.N) : k0_pay10 (F := Ideal) (iblk m c 0 t) (iblk m c 1 t) (iblk m c 2 t)
    = E2 fun _ j => ∑ i ∈ range 512, dy X g T (512 * t.val + i) j * (X (512 * t.val + i) j * scale X (512 * t.val + i)) := by
  rw [blk0 m c X g T h, blk1 m c X g T h, blk2 m c X g T h, pay10]
  rfl

/-- One point's squared errors. -/
theorem sq_at (t : Fin cfg0.N) : k0_pay12 (F := Ideal) (iblk m c 0 t) (iblk m c 1 t) (iblk m c 2 t) = ∑ i ∈ range 512, sq X g T (512 * t.val + i) := by
  rw [blk0 m c X g T h, blk1 m c X g T h, blk2 m c X g T h, pay12]
  rfl

theorem sums_at : ∀ (n : ℕ) (hn : n < cfg0.N), (outsAt0 m c n hn).2.1 = E2 (φ := .f32) fun _ j => ∑ i ∈ range (512 * (n + 1)), dy X g T i j * (X i j * scale X i)
  | 0, hn => by
    rw [outsAt0_A m c ⟨0, hn⟩ (Nat.zero_mod _) (by dsimp only; omega)]
    dsimp only
    rw [out4_A]
    refine (part_at m c X g T h ⟨0, hn⟩).trans (E2_congr fun _ j _ _ => ?_)
    simp only [Nat.mul_zero, Nat.zero_add, Nat.mul_one]
  | n + 1, hn => by
    have hN : n + 1 < 16 := hn
    rw [outsAt0_B m c ⟨n + 1, hn⟩ (by dsimp only; omega) (by dsimp only; omega)]
    dsimp only
    rw [out4_B]
    have ih := sums_at n (Nat.lt_of_succ_lt hn)
    have e : (outsAt0 m c (n + 1 - 1) (Nat.lt_of_le_of_lt (Nat.sub_le _ _) hn)).2.1 = E2 (φ := .f32) fun _ j => ∑ i ∈ range (512 * (n + 1)), dy X g T i j * (X i j * scale X i) := ih
    rw [e, part_at m c X g T h ⟨n + 1, hn⟩, pay2]
    refine E2_congr fun _ j _ _ => ?_
    rw [show 512 * (n + 1 + 1) = 512 * (n + 1) + 512 from rfl, Finset.sum_range_add]

theorem loss_at : ∀ (n : ℕ) (hn : n < cfg0.N), (outsAt0 m c n hn).2.2 = E2 (φ := .f32) fun _ _ => ((1 / 2048 : ℝ) : EReal) * ∑ i ∈ range (512 * (n + 1)), sq X g T i
  | 0, hn => by
    rw [outsAt0_A m c ⟨0, hn⟩ (Nat.zero_mod _) (by dsimp only; omega)]
    dsimp only
    rw [out5_A, sq_at m c X g T h ⟨0, hn⟩, pay1]
    refine E2_congr fun _ j _ _ => ?_
    simp only [Nat.mul_zero, Nat.zero_add, Nat.mul_one]
  | n + 1, hn => by
    have hN : n + 1 < 16 := hn
    rw [outsAt0_B m c ⟨n + 1, hn⟩ (by dsimp only; omega) (by dsimp only; omega)]
    dsimp only
    rw [out5_B]
    have ih := loss_at n (Nat.lt_of_succ_lt hn)
    have e : (outsAt0 m c (n + 1 - 1) (Nat.lt_of_le_of_lt (Nat.sub_le _ _) hn)).2.2 = E2 (φ := .f32) fun _ _ => ((1 / 2048 : ℝ) : EReal) * ∑ i ∈ range (512 * (n + 1)), sq X g T i := ih
    rw [e, sq_at m c X g T h ⟨n + 1, hn⟩, pay3]
    refine E2_congr fun _ j _ _ => ?_
    rw [show 512 * (n + 1 + 1) = 512 * (n + 1) + 512 from rfl, Finset.sum_range_add]
    exact (EReal.left_distrib_of_nonneg_of_ne_top (EReal.coe_nonneg.2 (by norm_num)) (EReal.coe_ne_top _) _ _).symm

theorem rows_out (t : Fin cfg0.N) : (outsAt0 m c t.val t.isLt).1 = E2 (φ := .f32) fun i j => through X g (dy X g T) (512 * t.val + i) j := by
  have ht : t.val < 16 := t.isLt
  by_cases h0 : t.val = 0
  · rw [outsAt0_A m c t (by omega) (by omega)]
    dsimp only
    rw [out3_A]
    exact rows_at m c X g T h t
  · rw [outsAt0_B m c t (by omega) (by omega)]
    dsimp only
    rw [out3_B]
    exact rows_at m c X g T h t

theorem final3 : (dats m 0 c).arrAt 3 cfg0.N = dxArr X g T := by
  refine (dats m 0 c).arrAt_eq_of_covers 3 _ (by decide +kernel) fun t hf y => ?_
  have ht : t.val < 16 := t.isLt
  have y0 : (y 0).val < 512 := (y 0).isLt
  have y1 : (y 1).val < 1024 := (y 1).isLt
  blk_simp
  rw [after0_3]
  refine (congrFun (rows_out m c X g T h t) y).trans ?_
  unfold dxArr E2
  blk_simp [idx t]
  have e : t.val * 512 + (y 0).val = 512 * t.val + (y 0).val := by omega
  rw [e]

theorem final4 : (dats m 0 c).arrAt 4 cfg0.N = dgArr X g T := by
  refine (dats m 0 c).arrAt_eq_of_covers 4 _ (by decide +kernel) fun t hf y => ?_
  have ht : t.val < 16 := t.isLt
  have h15 : t.val % 16 = 15 := (flush0_4 t).mp hf
  have y0 : (y 0).val < 1 := (y 0).isLt
  have y1 : (y 1).val < 1024 := (y 1).isLt
  blk_simp
  rw [after0_4]
  refine (congrFun (sums_at m c X g T h t.val t.isLt) y).trans ?_
  unfold dgArr E2
  blk_simp [idx t]
  have e : 512 * (t.val + 1) = 8192 := by omega
  rw [e]

theorem final5 : (dats m 0 c).arrAt 5 cfg0.N = lossArr X g T := by
  refine (dats m 0 c).arrAt_eq_of_covers 5 _ (by decide +kernel) fun t hf y => ?_
  have ht : t.val < 16 := t.isLt
  have h15 : t.val % 16 = 15 := (flush0_5 t).mp hf
  blk_simp
  rw [after0_5]
  refine (congrFun (loss_at m c X g T h t.val t.isLt) y).trans ?_
  unfold lossArr E2
  have e : 512 * (t.val + 1) = 8192 := by omega
  rw [e]

end Blocks

section Reference

open Cert.ReferenceLossIdeal Cert.ReferenceLossIdeal.Read

theorem one_bits : (FloatOps.ofBits .f32 0x3F800000#32 : Ideal .f32) = (1 : EReal) := Ideal.ofBits_one_f32

theorem r6 (i) : val_main_v6 (F := Ideal) (E2 (φ := .f32) X) i = ms X (i 0).val := by
  rw [val_main_v6_apply (F := Ideal), val_main_v4_apply (F := Ideal), val_main_v2_apply (F := Ideal), val_main_v1_apply, val_main_v3_apply (F := Ideal), val_main_v5_apply (F := Ideal),
    val_main_cst_apply (F := Ideal), val_main_cst_0_apply (F := Ideal), val_main_cst_1_apply (F := Ideal), zero_bits, zero_add]
  have e : (∑ k : Fin 1024, val_main_v0 (F := Ideal) (E2 (φ := .f32) X) (idx_main_v1 (idx_main_v2 i) k)) = ∑ k ∈ range 1024, X (i 0).val k * X (i 0).val k :=
    sum_fin 1024 fun k => X (i 0).val k * X (i 0).val k
  rw [e]
  rfl

theorem r7 (i) : val_main_v7 (F := Ideal) (E2 (φ := .f32) X) i = scale X (i 0).val := by
  rw [val_main_v7_apply (F := Ideal), r6]
  rfl

theorem r10 (i) : val_main_v10 (F := Ideal) (E2 (φ := .f32) X) i = Ideal.ofBits .f32 0xBF000000#32 * Ideal.div (scale X (i 0).val) (ms X (i 0).val) := by
  rw [val_main_v10_apply (F := Ideal), val_main_v9_apply (F := Ideal), val_main_cst_2_apply (F := Ideal), val_main_v8_apply (F := Ideal), r7, r6]
  rfl

theorem r12 (i) : val_main_v12 (F := Ideal) (E2 (φ := .f32) X) i = X (i 0).val (i 1).val * scale X (i 0).val := by
  rw [val_main_v12_apply (F := Ideal), val_main_v11_apply (F := Ideal), r7]
  rfl

theorem r16 (i) : val_main_v16 (F := Ideal) (E2 (φ := .f32) X) (E1 (φ := .f32) g) (E2 (φ := .f32) T) i = err X g T (i 0).val (i 1).val := by
  rw [val_main_v16_apply (F := Ideal), val_main_v15_apply (F := Ideal), r12, val_main_v14_apply (F := Ideal), val_main_v13_apply (F := Ideal)]
  rfl

/-- Half of twice the error, over the width, is the error over the width. -/
theorem r30 (i) : val_main_v30 (F := Ideal) (E2 (φ := .f32) X) (E1 (φ := .f32) g) (E2 (φ := .f32) T) i = dy X g T (i 0).val (i 1).val := by
  rw [val_main_v30_apply (F := Ideal), val_main_v29_apply (F := Ideal), val_main_v28_apply (F := Ideal), val_main_v27_apply (F := Ideal), val_main_v26_apply (F := Ideal), val_main_v25_apply (F := Ideal),
    val_main_cst_8_apply (F := Ideal), val_main_cst_9_apply (F := Ideal), val_main_cst_10_apply (F := Ideal), val_main_v19_apply (F := Ideal), val_main_v18_apply (F := Ideal), val_main_cst_3_apply (F := Ideal), r16]
  show Ideal.div (Ideal.ofBits .f32 0x3F000000#32 * Ideal.ofBits .f32 0x3F800000#32) (Ideal.ofBits .f32 0x44800000#32) * (Ideal.ofBits .f32 0x40000000#32 * err X g T (i 0).val (i 1).val) = _
  rw [div_width, bits_half, bits_two, show Ideal.ofBits .f32 0x3F800000#32 = (1 : EReal) from Ideal.ofBits_one_f32, mul_one, ← mul_assoc, ← EReal.coe_mul, ← EReal.coe_mul, mul_comm]
  unfold dy
  congr 2
  norm_num

theorem r32 (i) : val_main_v32 (F := Ideal) (E2 (φ := .f32) X) (E1 (φ := .f32) g) (E2 (φ := .f32) T) i = ∑ k ∈ range 8192, X k (i 0).val * scale X k * dy X g T k (i 0).val := by
  rw [val_main_v32_apply, val_main_cst_11_apply (F := Ideal), zero_bits, zero_add, ← sum_fin 8192 fun k => X k (i 0).val * scale X k * dy X g T k (i 0).val]
  refine Finset.sum_congr rfl fun k _ => ?_
  rw [val_main_v31_apply (F := Ideal), r12, r30]
  rfl

theorem r51 : val_main_v51 (F := Ideal) (E2 (φ := .f32) X) (E1 (φ := .f32) g) (E2 (φ := .f32) T) = dgArr X g T := by
  funext i
  rw [val_main_v51_apply (F := Ideal), val_main_v36_apply, val_main_cst_12_apply (F := Ideal), zero_bits, zero_add, Fin.sum_univ_one, val_main_v33_apply (F := Ideal), r32]
  have h0 : (i 0).val = 0 := by have : (i 0).val < 1 := (i 0).isLt; omega
  have e : ((idx_main_v33 (idx_main_v36 (idx_main_v51 i) 0)) 0).val = (i 1).val := by
    show 0 * 1024 + ((i 0).val * 1024 + (i 1).val) = (i 1).val
    omega
  rw [e]
  unfold dgArr E2
  exact Finset.sum_congr rfl fun k _ => mul_comm _ _

theorem r35 (i) : val_main_v35 (F := Ideal) (E2 (φ := .f32) X) (E1 (φ := .f32) g) (E2 (φ := .f32) T) i = dy X g T (i 0).val (i 1).val * g (i 1).val := by
  rw [val_main_v35_apply (F := Ideal), r30, val_main_v34_apply (F := Ideal), val_main_v13_apply (F := Ideal)]
  rfl

theorem r39 (i) : val_main_v39 (F := Ideal) (E2 (φ := .f32) X) (E1 (φ := .f32) g) (E2 (φ := .f32) T) i = ∑ k ∈ range 1024, X (i 0).val k * (dy X g T (i 0).val k * g k) := by
  rw [val_main_v39_apply (F := Ideal), val_main_v38_apply, val_main_cst_13_apply (F := Ideal), zero_bits, zero_add]
  have e : ((idx_main_v39 i) 0).val = (i 0).val := by
    have : (i 1).val < 1 := (i 1).isLt
    show (i 0).val * 1 + (i 1).val = (i 0).val
    omega
  rw [← sum_fin 1024 fun k => X (i 0).val k * (dy X g T (i 0).val k * g k)]
  refine Finset.sum_congr rfl fun k _ => ?_
  rw [val_main_v37_apply (F := Ideal), r35]
  show X ((idx_main_v39 i) 0).val k.val * (dy X g T ((idx_main_v39 i) 0).val k.val * g k.val) = _
  rw [e]

theorem r46 (i) : val_main_v46 (F := Ideal) (E2 (φ := .f32) X) (E1 (φ := .f32) g) (E2 (φ := .f32) T) i = half X g (dy X g T) (i 0).val := by
  rw [val_main_v46_apply (F := Ideal), val_main_v45_apply, val_main_cst_15_apply (F := Ideal), zero_bits, zero_add, Fin.sum_univ_one,
    val_main_v44_apply (F := Ideal), val_main_v42_apply (F := Ideal), r39, r10, val_main_v43_apply (F := Ideal), val_main_cst_14_apply (F := Ideal)]
  rfl

theorem r50 : val_main_v50 (F := Ideal) (E2 (φ := .f32) X) (E1 (φ := .f32) g) (E2 (φ := .f32) T) = dxArr X g T := by
  funext i
  rw [val_main_v50_apply (F := Ideal), val_main_v48_apply (F := Ideal), val_main_v41_apply (F := Ideal), val_main_v47_apply (F := Ideal), val_main_v49_apply (F := Ideal),
    r46, r35, val_main_v40_apply (F := Ideal), r7]
  have e := through_eq X g (dy X g T) 0 (i 0).val (i 1).val
  rw [zero_add, zero_add] at e
  exact e

theorem r22 (i) : val_main_v22 (F := Ideal) (E2 (φ := .f32) X) (E1 (φ := .f32) g) (E2 (φ := .f32) T) i = sq X g T (i 0).val * ((1 / 1024 : ℝ) : EReal) := by
  rw [val_main_v22_apply (F := Ideal), val_main_v20_apply, val_main_cst_4_apply (F := Ideal), zero_bits, zero_add, val_main_v21_apply (F := Ideal), val_main_cst_5_apply (F := Ideal)]
  have e : (∑ k : Fin 1024, val_main_v17 (F := Ideal) (E2 (φ := .f32) X) (E1 (φ := .f32) g) (E2 (φ := .f32) T) (idx_main_v20 i k)) = sq X g T (i 0).val := by
    refine Eq.trans (Finset.sum_congr rfl fun k _ => ?_) (sum_fin 1024 fun l => err X g T (i 0).val l * err X g T (i 0).val l)
    rw [val_main_v17_apply (F := Ideal), r16]
    rfl
  rw [e]
  exact div_width _

/-- The places of a list. -/
def line : (⟨1, ![8192]⟩ : Shape).Idx ≃ Fin 8192 where
  toFun j := j 0
  invFun k := fun a => match a with
    | ⟨0, _⟩ => k
  left_inv j := by
    funext a
    match a with
    | ⟨0, _⟩ => rfl
  right_inv _ := rfl

theorem r52 : val_main_v52 (F := Ideal) (E2 (φ := .f32) X) (E1 (φ := .f32) g) (E2 (φ := .f32) T) = lossArr X g T := by
  funext i
  rw [val_main_v52_apply (F := Ideal), val_main_v24_apply (F := Ideal), val_main_cst_7_apply (F := Ideal), val_main_v23_apply, val_main_cst_6_apply (F := Ideal), zero_bits, zero_add]
  have e : (∑ j : S8192.Idx, val_main_v22 (F := Ideal) (E2 (φ := .f32) X) (E1 (φ := .f32) g) (E2 (φ := .f32) T) j)
      = (∑ k ∈ range 8192, sq X g T k) * ((1 / 1024 : ℝ) : EReal) := by
    rw [← sum_mul_pos (by norm_num)]
    exact (Fintype.sum_equiv line _ (fun k : Fin 8192 => sq X g T k.val * ((1 / 1024 : ℝ) : EReal)) fun j => r22 X g T j).trans
      (sum_fin 8192 fun k => sq X g T k * ((1 / 1024 : ℝ) : EReal))
  rw [e]
  show Ideal.ofBits .f32 0x3F000000#32 * ((∑ k ∈ range 8192, sq X g T k) * ((1 / 1024 : ℝ) : EReal)) = ((1 / 2048 : ℝ) : EReal) * ∑ k ∈ range 8192, sq X g T k
  rw [bits_half, mul_comm (∑ k ∈ range 8192, sq X g T k), ← mul_assoc, ← EReal.coe_mul]
  congr 2
  norm_num

end Reference

section Claims

open Cert

set_option maxHeartbeats 1600000 in
theorem frame_reference : Cert.quiescent_ReferenceLossIdeal := by
  intro m g _
  hlo_run
  · exact fun _ => ⟨trivial, trivial, trivial⟩
  · exact sem_eq_zero_of_no_sems rfl _

/-- Both programs compute the two gradients and the loss. -/
theorem value : Cert.algebraic_KernelLossIdeal_ReferenceLossIdeal := by
  intro m g m' g' _ hagree
  let X := fun c : Dev KernelLossIdeal.nD => vals (m := 8192) (n := 1024) (φ := .f32) (m ((c.tc : Thread KernelLossIdeal.nD KernelLossIdeal.τ).loc KernelLossIdeal.main_arg0))
  let G := fun c : Dev KernelLossIdeal.nD => vals1 (n := 1024) (φ := .f32) (m ((c.tc : Thread KernelLossIdeal.nD KernelLossIdeal.τ).loc KernelLossIdeal.main_arg1))
  let T := fun c : Dev KernelLossIdeal.nD => vals (m := 8192) (n := 1024) (φ := .f32) (m ((c.tc : Thread KernelLossIdeal.nD KernelLossIdeal.τ).loc KernelLossIdeal.main_arg2))
  have hholds : ∀ c, Holds m c (X c) (G c) (T c) := fun c => ⟨vals_eq _, vals1_eq _, vals_eq _⟩
  refine ⟨fun c => dxArr (X c) (G c) (T c), fun c => dgArr (X c) (G c) (T c), fun c => lossArr (X c) (G c) (T c), ?_, ?_⟩
  · refine (θ_run _ _ _).mono (fun r h c => ?_) (KernelLossIdeal.Value.run_blocks (F := Ideal) m g)
    obtain ⟨h0, h1, h2, h3⟩ := h c
    exact ⟨h0.trans (final3 m c _ _ _ (hholds c)), h1.trans (final4 m c _ _ _ (hholds c)), h2.trans (final5 m c _ _ _ (hholds c)), h3⟩
  · refine (θ_run _ _ _).mono (fun r h c => ?_) (ReferenceLossIdeal.Value.run (F := Ideal) m' g')
    obtain ⟨e0, e1, e2⟩ := hagree c
    obtain ⟨h0, h1, h2, h3⟩ := h c
    refine ⟨h0.trans ((ReferenceLossIdeal.Read.val_main_v50_eq m' c).trans ?_), h1.trans ((ReferenceLossIdeal.Read.val_main_v51_eq _ _ _).trans ?_), h2.trans ((ReferenceLossIdeal.Read.val_main_v52_eq _ _ _).trans ?_), h3⟩
    · rw [e0, e1, e2, (hholds c).x, (hholds c).g, (hholds c).t]
      exact r50 _ _ _
    · rw [e0, e1, e2, (hholds c).x, (hholds c).g, (hholds c).t]
      exact r51 _ _ _
    · rw [e0, e1, e2, (hholds c).x, (hholds c).g, (hholds c).t]
      exact r52 _ _ _

end Claims

theorem frame_ideal : Cert.quiescent_KernelLossIdeal := fun m ρ _ => Cert.KernelLossIdeal.Gen.frame m ρ

section Printed

variable {F : FTy → Type} [FloatOps F]

/-- The printed kernel is the idealized kernel's text. -/
theorem bodies_same : @Cert.KernelLoss.defs₀ F _ Cert.KernelLoss.Gen.facts = @Cert.KernelLossIdeal.defs₀ F _ Cert.KernelLossIdeal.Gen.facts := by
  unfold Cert.KernelLoss.defs₀ Cert.KernelLossIdeal.defs₀
  refine congrArg Defs.onTc ?_
  funext l x
  match l, x with
  | 0, (t, s) => exact rfl

theorem defs_same : @Cert.KernelLoss.defs F _ Cert.KernelLoss.Gen.facts = @Cert.KernelLossIdeal.defs F _ Cert.KernelLossIdeal.Gen.facts := by
  unfold Cert.KernelLoss.defs Cert.KernelLossIdeal.defs
  rw [bodies_same]
  rfl

theorem main_same : @Cert.KernelLoss.main F _ = @Cert.KernelLossIdeal.main F _ := rfl

end Printed

theorem frame_printed : Cert.quiescent_KernelLoss := fun m ρ _ =>
  (congrArg₂ (fun d p => θ_run d (onTc p) _ _) (defs_same (F := Bits)) (main_same (F := Bits))).mpr
    (Cert.KernelLossIdeal.Gen.frame (F := Bits) m ρ)

end Cert.Proof.Loss
end
-- ==== Proof.Diag.lean ====
/-
  A weight of 16 heads as one dense array with zeros off the diagonal. A sum over all 1280 channels against it is the sum over
  the 80 channels of the one head: every other term is a product with zero.
-/
module

public import Idealize.ShloMosaic.Lib.Pointwise

@[expose] public section

noncomputable section

namespace Cert.Proof.Diag

open Idealize.ShloMosaic
open Finset

/-- The sum over all channels is the sum over the channels of head `h`, where the other terms are zero. -/
theorem sum_head (h : ℕ) (hh : h < 16) (f : Fin 1280 → EReal) (hf : ∀ k : Fin 1280, k.val / 80 ≠ h → f k = 0) :
    ∑ k, f k = ∑ k : Fin 80, f ⟨80 * h + k.val, by omega⟩ := by
  refine (Fintype.sum_of_injective (fun k : Fin 80 => (⟨80 * h + k.val, by omega⟩ : Fin 1280)) (fun a b e => ?_) _ _ (fun k hk => hf k fun e => hk ?_) fun _ => rfl).symm
  · have := congrArg Fin.val e
    exact Fin.ext (by dsimp only at this; omega)
  · exact ⟨⟨k.val - 80 * h, by omega⟩, Fin.ext (by dsimp only; omega)⟩

/-- The diagonal's mark, as the host computes it: one where the two heads are the same. -/
theorem mark (a b : ℕ) (ha : a < 16) (hb : b < 16) :
    (FloatOps.uitofp .f32 (IntOp.cmpi .eq (IntOp.addi (BitVec.ofNat 32 a) 0#32) (BitVec.ofNat 32 b)) : Ideal .f32) = (if a = b then 1 else 0 : EReal) := by
  unfold IntOp.cmpi IntOp.addi
  by_cases e : a = b
  · subst e
    rw [if_pos rfl]
    simp [FloatOps.uitofp]
  · have hn : ¬BitVec.ofNat 32 a = BitVec.ofNat 32 b := fun h => e (by
      have := congrArg BitVec.toNat h
      simp only [BitVec.toNat_ofNat] at this
      omega)
    rw [if_neg e]
    simp [FloatOps.uitofp, hn]

end Cert.Proof.Diag
end
-- ==== Proof.GateFVal.lean ====
/-
  The recurrent gates: one gate's pre-activation, one row block against the whole weight at a time. The host lays the 16 heads'
  weights on the diagonal of one array, and the kernel multiplies by that; the reference multiplies head by head.
-/
module

public import proofs.«01_k».proof.Defs
public import proofs.«01_k».proof.Proof.Gen.KernelGateF
public import proofs.«01_k».proof.Proof.Gen.KernelGateFIdeal
public import proofs.«01_k».proof.Proof.Gen.KernelGateFIdeal.Frame
public import proofs.«01_k».proof.Proof.Gen.KernelGateFIdeal.Value
public import proofs.«01_k».proof.Proof.Gen.ReferenceGateFIdeal
public import proofs.«01_k».proof.Proof.Gen.ReferenceGateFIdeal.Run
public import proofs.«01_k».proof.Proof.Gen.ReferenceGateFIdeal.Read
public import proofs.«01_k».proof.Proof.Diag
public import Idealize.ShloMosaic.Lib.Pipeline.ValueKit
public import Idealize.ShloMosaic.Lib.Claim

@[expose] public section

set_option maxRecDepth 16384

noncomputable section

namespace Cert.Proof.GateF

open Cert.KernelGateFIdeal Cert.KernelGateFIdeal.Gen Cert.KernelGateFIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The dense weight: the heads' weights on the diagonal, zero elsewhere. -/
def dense (w : FVec Ideal S16x80x80 .f32) : FVec Ideal S1280x1280 .bf16 :=
  truncf .bf16 (shapeCast S1280x1280 (mulf
    (broadcastInDim S16x80x16x80 ![0, 1, 2, 3] bcast_S16x80x1x80_S16x80x16x80_0_1_2_3 (broadcastInDim S16x80x1x80 ![0, 1, 3] bcast_S16x80x80_S16x80x1x80_0_1_3 w))
    (broadcastInDim S16x80x16x80 ![0, 1, 2, 3] bcast_S16x1x16x1_S16x80x16x80_0_1_2_3 (broadcastInDim S16x1x16x1 ![0, 2] bcast_S16x16_S16x1x16x1_0_2
      (uitofp .f32 (cmpi .eq (addi (iotaInDim S16x16 32 0) (broadcastInDim S16x16 ![] bcast_S_S16x16 (constantI S_ 32 0#32))) (iotaInDim S16x16 32 1)) : FVec Ideal S16x16 .f32))))
    shapeCasts_S16x80x16x80_S1280x1280) bitsLt_bf16_f32

theorem Vw : V m c main_v12 = dense (m ((c : Thread nD τ).loc main_arg1)) := by
  unfold V
  simp only [hostOps0, List.flatten_cons, List.flatten_nil, List.append_nil, List.cons_append, List.nil_append, StableHlo.TRef.unary, StableHlo.TRef.binary, StableHlo.TRef.nullary, StableHlo.TRef.toBuf, StableHlo.TRef.ofBuf, cast_eq]
  after_results_simp
  rfl

/-- An entry of the dense weight. -/
theorem dense_apply (w : FVec Ideal S16x80x80 .f32) (a b : Fin 1280) :
    dense w (ix2 a b) = (w (ix3 ⟨a.val / 80, by omega⟩ ⟨a.val % 80, by omega⟩ ⟨b.val % 80, by omega⟩) : EReal) * (if a.val / 80 = b.val / 80 then 1 else 0 : EReal) := by
  pointwise [dense]
  exact congrArg (fun e : EReal => w (ix3 ⟨a.val / 80, by omega⟩ ⟨a.val % 80, by omega⟩ ⟨b.val % 80, by omega⟩) * e) (Diag.mark _ _ (by omega) (by omega))

/-- Off the diagonal it is zero. -/
theorem dense_off (w : FVec Ideal S16x80x80 .f32) (a b : Fin 1280) (h : a.val / 80 ≠ b.val / 80) : dense w (ix2 a b) = (0 : EReal) := by
  rw [dense_apply, if_neg h, mul_zero]

/-- On the diagonal it is the head's weight. -/
theorem dense_on (w : FVec Ideal S16x80x80 .f32) (a b : Fin 1280) (p : Fin 16) (q r : Fin 80) (ha : a.val = 80 * p.val + q.val) (hb : b.val = 80 * p.val + r.val) :
    dense w (ix2 a b) = (w (ix3 p q r) : EReal) := by
  rw [dense_apply, if_pos (by omega), mul_one]
  refine congrArg w ?_
  funext e
  match e with
  | ⟨0, _⟩ => exact Fin.ext (by show a.val / 80 = p.val; omega)
  | ⟨1, _⟩ => exact Fin.ext (by show a.val % 80 = q.val; omega)
  | ⟨2, _⟩ => exact Fin.ext (by show b.val % 80 = r.val; omega)

theorem hz : (![0, 0] : Fin 2 → ℕ) = fun _ => 0 := by
  funext a
  match a with
  | 0 => rfl
  | 1 => rfl

/-- Each head's channels times the head's weight. -/
def rowsByHead (x : FVec Ideal S8192x1280 .f32) (w : FVec Ideal S16x80x80 .f32) : FVec Ideal S8192x1280 .f32 :=
  fun i => ∑ k : Fin 1280, (x (ix2 (i 0) k) : EReal) * dense w (ix2 k (i 1))

theorem rowsByHead_apply (x : FVec Ideal S8192x1280 .f32) (w : FVec Ideal S16x80x80 .f32) (i : S8192x1280.Idx) (p : Fin 16) (r : Fin 80) (hi : (i 1).val = 80 * p.val + r.val) :
    rowsByHead x w i = ∑ k : Fin 80, (x (ix2 (i 0) ⟨80 * p.val + k.val, by omega⟩) : EReal) * w (ix3 p k r) := by
  unfold rowsByHead
  rw [Diag.sum_head p.val p.isLt _ fun k hk => by rw [dense_off w k (i 1) (by omega), mul_zero]]
  exact Finset.sum_congr rfl fun k _ => congrArg₂ (fun a b : EReal => a * b) rfl (dense_on w _ _ p k r rfl hi)

/-- One block of the kernel. -/
theorem pay_apply (x : FVec Ideal S1024x1280 .f32) (w : FVec Ideal S1280x1280 .bf16) (y : S1024x1280.Idx) :
    k0_pay1 (F := Ideal) x w y = ∑ k : Fin 1280, (x (ix2 (y 0) k) : EReal) * w (ix2 k (y 1)) := by
  idx_vars y
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem out_eq (x : Vec Ideal S1024x1280 .f32) (w : Vec Ideal S1280x1280 .bf16) : out0_2 (F := Ideal) x w = k0_pay1 (F := Ideal) x w := by
  unfold out0_2
  rw [View.canon_unit_zero hz]
  simp only [View.ld_unit_zero (S := S1024x1280) hz, View.ld_unit_zero (S := S1280x1280) hz]

/-- The array after the run. -/
theorem final : (dats m 0 c).arrAt 2 cfg0.N = rowsByHead (m ((c : Thread nD τ).loc main_arg0)) (m ((c : Thread nD τ).loc main_arg1)) := by
  refine (dats m 0 c).arrAt_eq_of_covers 2 _ (by decide +kernel) fun t hf y => ?_
  have ht : t.val < 8 := t.isLt
  have y0 : (y 0).val < 1024 := (y 0).isLt
  have y1 : (y 1).val < 1280 := (y 1).isLt
  blk_simp
  rw [after0_2, out_eq]
  refine (pay_apply _ _ y).trans ?_
  unfold rowsByHead
  refine Finset.sum_congr rfl fun k _ => ?_
  refine congrArg₂ (fun a b : EReal => a * b) ?_ ?_
  · refine (congrFun (V_main_arg0 m c) (((cfg0.win 0).blk t).view.emb (ix2 (y 0) k))).trans ?_
    refine congrArg (m ((c : Thread nD τ).loc main_arg0)) ?_
    blk_ext [idx t]
  · refine (congrFun (Vw m c) (((cfg0.win 1).blk t).view.emb (ix2 k (y 1)))).trans ?_
    refine congrArg (dense (m ((c : Thread nD τ).loc main_arg1))) ?_
    blk_ext [idx t]

/-- The reference's array. -/
theorem ref_val (x : FVec Ideal S8192x1280 .f32) (w : FVec Ideal S16x80x80 .f32) : ReferenceGateFIdeal.Read.val_main_v3 (F := Ideal) x w = rowsByHead x w := by
  funext i
  have i0 : (i 0).val < 8192 := (i 0).isLt
  have i1 : (i 1).val < 1280 := (i 1).isLt
  rw [ReferenceGateFIdeal.Read.val_main_v3_apply (F := Ideal), ReferenceGateFIdeal.Read.val_main_v2_apply (F := Ideal), ReferenceGateFIdeal.Read.val_main_v1_apply,
    rowsByHead_apply x w i ⟨(i 1).val / 80, by omega⟩ ⟨(i 1).val % 80, by omega⟩ (by dsimp only; omega)]
  refine Finset.sum_congr rfl fun k _ => ?_
  rw [ReferenceGateFIdeal.Read.val_main_v0_apply (F := Ideal)]
  refine (mul_comm (_ : EReal) _).trans (congrArg₂ (fun a b : EReal => a * b) (congrArg x ?_) (congrArg w ?_))
  · funext a
    match a with
    | ⟨0, _⟩ =>
      refine Fin.ext ?_
      show (((((i 0).val * 1280 + (i 1).val) / 2621440 * 2048 + ((i 0).val * 1280 + (i 1).val) / 1280 % 2048) * 16 + ((i 0).val * 1280 + (i 1).val) / 80 % 16) * 80 + k.val) / 1280 = (i 0).val
      omega
    | ⟨1, _⟩ =>
      refine Fin.ext ?_
      show (((((i 0).val * 1280 + (i 1).val) / 2621440 * 2048 + ((i 0).val * 1280 + (i 1).val) / 1280 % 2048) * 16 + ((i 0).val * 1280 + (i 1).val) / 80 % 16) * 80 + k.val) % 1280 = 80 * ((i 1).val / 80) + k.val
      omega
  · funext a
    match a with
    | ⟨0, _⟩ =>
      refine Fin.ext ?_
      show ((i 0).val * 1280 + (i 1).val) / 80 % 16 = (i 1).val / 80
      omega
    | ⟨1, _⟩ => rfl
    | ⟨2, _⟩ =>
      refine Fin.ext ?_
      show ((i 0).val * 1280 + (i 1).val) % 80 = (i 1).val % 80
      omega

theorem frame_ideal : Cert.quiescent_KernelGateFIdeal := fun m ρ _ => Cert.KernelGateFIdeal.Gen.frame m ρ

theorem frame_reference : Cert.quiescent_ReferenceGateFIdeal := by
  intro m g _
  hlo_run
  · exact fun _ => ⟨trivial, trivial⟩
  · exact sem_eq_zero_of_no_sems rfl _

theorem value : Cert.algebraic_KernelGateFIdeal_ReferenceGateFIdeal := by
  intro m g m' g' _ hagree
  refine ⟨fun c => rowsByHead (m ((c : Thread nD τ).loc main_arg0)) (m ((c : Thread nD τ).loc main_arg1)), ?_, ?_⟩
  · refine (θ_run _ _ _).mono (fun r h c => ?_) (run_blocks (F := Ideal) m g)
    obtain ⟨h0, h1⟩ := h c
    exact ⟨h0.trans (final m c), h1⟩
  · refine (θ_run _ _ _).mono (fun r h c => ?_) (ReferenceGateFIdeal.Value.run (F := Ideal) m' g')
    obtain ⟨e0, e1⟩ := hagree c
    obtain ⟨h0, h1⟩ := h c
    refine ⟨h0.trans ?_, h1⟩
    rw [e0, e1]
    exact ref_val _ _

section Printed

variable {F : FTy → Type} [FloatOps F]

/-- The printed kernel is the idealized kernel's text. -/
theorem bodies_same : @Cert.KernelGateF.defs₀ F _ Cert.KernelGateF.Gen.facts = @Cert.KernelGateFIdeal.defs₀ F _ Cert.KernelGateFIdeal.Gen.facts := by
  unfold Cert.KernelGateF.defs₀ Cert.KernelGateFIdeal.defs₀
  refine congrArg Defs.onTc ?_
  funext l x
  match l, x with
  | 0, (t, s) => exact rfl

theorem defs_same : @Cert.KernelGateF.defs F _ Cert.KernelGateF.Gen.facts = @Cert.KernelGateFIdeal.defs F _ Cert.KernelGateFIdeal.Gen.facts := by
  unfold Cert.KernelGateF.defs Cert.KernelGateFIdeal.defs
  rw [bodies_same]
  rfl

theorem main_same : @Cert.KernelGateF.main F _ Cert.KernelGateF.Gen.facts = @Cert.KernelGateFIdeal.main F _ Cert.KernelGateFIdeal.Gen.facts := rfl

end Printed

theorem frame_printed : Cert.quiescent_KernelGateF := fun m ρ _ =>
  (congrArg₂ (fun d p => θ_run d (onTc p) _ _) (defs_same (F := Bits)) (main_same (F := Bits))).mpr
    (Cert.KernelGateFIdeal.Gen.frame (F := Bits) m ρ)

end Cert.Proof.GateF
end
-- ==== Proof.GateDVal.lean ====
/-
  The recurrent gates on the way back: one gate's gradient times the transposed weight, added to the input's gradient so far.
  The host lays the 16 heads' weights on the diagonal of one array, and the kernel multiplies by that; the reference goes head by head.
-/
module

public import proofs.«01_k».proof.Defs
public import proofs.«01_k».proof.Proof.Gen.KernelGateD
public import proofs.«01_k».proof.Proof.Gen.KernelGateDIdeal
public import proofs.«01_k».proof.Proof.Gen.KernelGateDIdeal.Frame
public import proofs.«01_k».proof.Proof.Gen.KernelGateDIdeal.Value
public import proofs.«01_k».proof.Proof.Gen.ReferenceGateDIdeal
public import proofs.«01_k».proof.Proof.Gen.ReferenceGateDIdeal.Run
public import proofs.«01_k».proof.Proof.Gen.ReferenceGateDIdeal.Read
public import proofs.«01_k».proof.Proof.Diag
public import Idealize.ShloMosaic.Lib.Pipeline.ValueKit
public import Idealize.ShloMosaic.Lib.Claim

@[expose] public section

set_option maxRecDepth 16384

noncomputable section

namespace Cert.Proof.GateD

open Cert.KernelGateDIdeal Cert.KernelGateDIdeal.Gen Cert.KernelGateDIdeal.Value
open Idealize.ShloMosaic Idealize.ShloMosaic.TcCoe Idealize.SL.Sem
open Idealize.ShloMosaic.Pipeline (Dat)
open Finset

variable (m : (ℓ : Loc nD τ sig) → Buf (Elt Ideal) ℓ) (c : Dev nD)

/-- The dense weight: the heads' weights on the diagonal, zero elsewhere. -/
def dense (w : FVec Ideal S16x80x80 .f32) : FVec Ideal S1280x1280 .bf16 :=
  truncf .bf16 (shapeCast S1280x1280 (mulf
    (broadcastInDim S16x80x16x80 ![0, 1, 2, 3] bcast_S16x80x1x80_S16x80x16x80_0_1_2_3 (broadcastInDim S16x80x1x80 ![0, 1, 3] bcast_S16x80x80_S16x80x1x80_0_1_3 w))
    (broadcastInDim S16x80x16x80 ![0, 1, 2, 3] bcast_S16x1x16x1_S16x80x16x80_0_1_2_3 (broadcastInDim S16x1x16x1 ![0, 2] bcast_S16x16_S16x1x16x1_0_2
      (uitofp .f32 (cmpi .eq (addi (iotaInDim S16x16 32 0) (broadcastInDim S16x16 ![] bcast_S_S16x16 (constantI S_ 32 0#32))) (iotaInDim S16x16 32 1)) : FVec Ideal S16x16 .f32))))
    shapeCasts_S16x80x16x80_S1280x1280) bitsLt_bf16_f32

theorem Vw : V m c main_v12 = dense (m ((c : Thread nD τ).loc main_arg1)) := by
  unfold V
  simp only [hostOps0, List.flatten_cons, List.flatten_nil, List.append_nil, List.cons_append, List.nil_append, StableHlo.TRef.unary, StableHlo.TRef.binary, StableHlo.TRef.nullary, StableHlo.TRef.toBuf, StableHlo.TRef.ofBuf, cast_eq]
  after_results_simp
  rfl

/-- An entry of the dense weight. -/
theorem dense_apply (w : FVec Ideal S16x80x80 .f32) (a b : Fin 1280) :
    dense w (ix2 a b) = (w (ix3 ⟨a.val / 80, by omega⟩ ⟨a.val % 80, by omega⟩ ⟨b.val % 80, by omega⟩) : EReal) * (if a.val / 80 = b.val / 80 then 1 else 0 : EReal) := by
  pointwise [dense]
  exact congrArg (fun e : EReal => w (ix3 ⟨a.val / 80, by omega⟩ ⟨a.val % 80, by omega⟩ ⟨b.val % 80, by omega⟩) * e) (Diag.mark _ _ (by omega) (by omega))

/-- Off the diagonal it is zero. -/
theorem dense_off (w : FVec Ideal S16x80x80 .f32) (a b : Fin 1280) (h : a.val / 80 ≠ b.val / 80) : dense w (ix2 a b) = (0 : EReal) := by
  rw [dense_apply, if_neg h, mul_zero]

/-- On the diagonal it is the head's weight. -/
theorem dense_on (w : FVec Ideal S16x80x80 .f32) (a b : Fin 1280) (p : Fin 16) (q r : Fin 80) (ha : a.val = 80 * p.val + q.val) (hb : b.val = 80 * p.val + r.val) :
    dense w (ix2 a b) = (w (ix3 p q r) : EReal) := by
  rw [dense_apply, if_pos (by omega), mul_one]
  refine congrArg w ?_
  funext e
  match e with
  | ⟨0, _⟩ => exact Fin.ext (by show a.val / 80 = p.val; omega)
  | ⟨1, _⟩ => exact Fin.ext (by show a.val % 80 = q.val; omega)
  | ⟨2, _⟩ => exact Fin.ext (by show b.val % 80 = r.val; omega)

theorem hz : (![0, 0] : Fin 2 → ℕ) = fun _ => 0 := by
  funext a
  match a with
  | 0 => rfl
  | 1 => rfl

/-- Each head's gradient times the head's transposed weight, added to the gradient so far. -/
def rowsByHead (d : FVec Ideal S8192x1280 .bf16) (w : FVec Ideal S16x80x80 .f32) (h : FVec Ideal S8192x1280 .f32) : FVec Ideal S8192x1280 .f32 :=
  fun i => (∑ k : Fin 1280, (d (ix2 (i 0) k) : EReal) * dense w (ix2 (i 1) k)) + (h i : EReal)

theorem rowsByHead_apply (d : FVec Ideal S8192x1280 .bf16) (w : FVec Ideal S16x80x80 .f32) (h : FVec Ideal S8192x1280 .f32) (i : S8192x1280.Idx) (p : Fin 16) (r : Fin 80)
    (hi : (i 1).val = 80 * p.val + r.val) :
    rowsByHead d w h i = (∑ k : Fin 80, (d (ix2 (i 0) ⟨80 * p.val + k.val, by omega⟩) : EReal) * w (ix3 p r k)) + (h i : EReal) := by
  unfold rowsByHead
  rw [Diag.sum_head p.val p.isLt _ fun k hk => by rw [dense_off w (i 1) k (by omega), mul_zero]]
  exact congrArg (fun e : EReal => e + h i) (Finset.sum_congr rfl fun k _ => congrArg₂ (fun a b : EReal => a * b) rfl (dense_on w _ _ p r k hi rfl))

/-- One block of the kernel. -/
theorem pay_apply (d : FVec Ideal S512x1280 .bf16) (w : FVec Ideal S1280x1280 .bf16) (h : FVec Ideal S512x1280 .f32) (y : S512x1280.Idx) :
    k0_pay1 (F := Ideal) d w h y = (∑ k : Fin 1280, (d (ix2 (y 0) k) : EReal) * w (ix2 (y 1) k)) + (h y : EReal) := by
  idx_vars y
  pointwise [k0_pay1]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem out_eq (d : Vec Ideal S512x1280 .bf16) (w : Vec Ideal S1280x1280 .bf16) (h : Vec Ideal S512x1280 .f32) : out0_3 (F := Ideal) d w h = k0_pay1 (F := Ideal) d w h := by
  unfold out0_3
  rw [View.canon_unit_zero hz]
  simp only [View.ld_unit_zero (S := S512x1280) hz, View.ld_unit_zero (S := S1280x1280) hz]

/-- The array after the run. -/
theorem final : (dats m 0 c).arrAt 3 cfg0.N = rowsByHead (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 16 := t.isLt
  have y0 : (y 0).val < 512 := (y 0).isLt
  have y1 : (y 1).val < 1280 := (y 1).isLt
  blk_simp
  rw [after0_3, out_eq]
  refine (pay_apply _ _ _ y).trans ?_
  unfold rowsByHead
  refine congrArg₂ (fun a b : EReal => a + b) (Finset.sum_congr rfl fun k _ => congrArg₂ (fun a b : EReal => a * b) ?_ ?_) ?_
  · refine (congrFun (V_main_arg0 m c) (((cfg0.win 0).blk t).view.emb (ix2 (y 0) k))).trans ?_
    refine congrArg (m ((c : Thread nD τ).loc main_arg0)) ?_
    blk_ext [idx t]
  · refine (congrFun (Vw m c) (((cfg0.win 1).blk t).view.emb (ix2 (y 1) k))).trans ?_
    refine congrArg (dense (m ((c : Thread nD τ).loc main_arg1))) ?_
    blk_ext [idx t]
  · refine (congrFun (V_main_arg2 m c) (((cfg0.win 2).blk t).view.emb y)).trans ?_
    refine congrArg (m ((c : Thread nD τ).loc main_arg2)) ?_
    blk_ext [idx t]

/-- The reference's array. -/
theorem ref_val (d : FVec Ideal S8192x1280 .bf16) (w : FVec Ideal S16x80x80 .f32) (h : FVec Ideal S8192x1280 .f32) : ReferenceGateDIdeal.Read.val_main_v11 (F := Ideal) d w h = rowsByHead d w h := by
  funext i
  have i0 : (i 0).val < 8192 := (i 0).isLt
  have i1 : (i 1).val < 1280 := (i 1).isLt
  rw [ReferenceGateDIdeal.Read.val_main_v11_apply (F := Ideal), ReferenceGateDIdeal.Read.val_main_v10_apply (F := Ideal), ReferenceGateDIdeal.Read.val_main_v9_apply (F := Ideal), ReferenceGateDIdeal.Read.val_main_v8_apply,
    rowsByHead_apply d w h i ⟨(i 1).val / 80, by omega⟩ ⟨(i 1).val % 80, by omega⟩ (by dsimp only; omega)]
  refine (add_comm (_ : EReal) _).trans (congrArg (fun e : EReal => e + h i) (Finset.sum_congr rfl fun k _ => ?_))
  rw [ReferenceGateDIdeal.Read.val_main_v7_apply (F := Ideal), ReferenceGateDIdeal.Read.val_main_v6_apply (F := Ideal), ReferenceGateDIdeal.Read.val_main_v5_apply (F := Ideal)]
  refine congrArg₂ (fun a b : EReal => a * b) (congrArg d ?_) (congrArg w ?_)
  · funext a
    match a with
    | ⟨0, _⟩ =>
      refine Fin.ext ?_
      show (((((i 0).val * 1280 + (i 1).val) / 2621440 * 2048 + ((i 0).val * 1280 + (i 1).val) / 1280 % 2048) * 16 + ((i 0).val * 1280 + (i 1).val) / 80 % 16) * 80 + k.val) / 1280 = (i 0).val
      omega
    | ⟨1, _⟩ =>
      refine Fin.ext ?_
      show (((((i 0).val * 1280 + (i 1).val) / 2621440 * 2048 + ((i 0).val * 1280 + (i 1).val) / 1280 % 2048) * 16 + ((i 0).val * 1280 + (i 1).val) / 80 % 16) * 80 + k.val) % 1280 = 80 * ((i 1).val / 80) + k.val
      omega
  · funext a
    match a with
    | ⟨0, _⟩ =>
      refine Fin.ext ?_
      show ((i 0).val * 1280 + (i 1).val) / 80 % 16 = (i 1).val / 80
      omega
    | ⟨1, _⟩ =>
      refine Fin.ext ?_
      show ((i 0).val * 1280 + (i 1).val) % 80 = (i 1).val % 80
      omega
    | ⟨2, _⟩ => rfl

theorem frame_ideal : Cert.quiescent_KernelGateDIdeal := fun m ρ _ => Cert.KernelGateDIdeal.Gen.frame m ρ

theorem frame_reference : Cert.quiescent_ReferenceGateDIdeal := by
  intro m g _
  hlo_run
  · exact fun _ => ⟨trivial, trivial, trivial⟩
  · exact sem_eq_zero_of_no_sems rfl _

theorem value : Cert.algebraic_KernelGateDIdeal_ReferenceGateDIdeal := by
  intro m g m' g' _ hagree
  refine ⟨fun c => rowsByHead (m ((c : Thread nD τ).loc main_arg0)) (m ((c : Thread nD τ).loc main_arg1)) (m ((c : Thread nD τ).loc main_arg2)), ?_, ?_⟩
  · refine (θ_run _ _ _).mono (fun r h c => ?_) (run_blocks (F := Ideal) m g)
    obtain ⟨h0, h1⟩ := h c
    exact ⟨h0.trans (final m c), h1⟩
  · refine (θ_run _ _ _).mono (fun r h c => ?_) (ReferenceGateDIdeal.Value.run (F := Ideal) m' g')
    obtain ⟨e0, e1, e2⟩ := hagree c
    obtain ⟨h0, h1⟩ := h c
    refine ⟨h0.trans ((ReferenceGateDIdeal.Read.val_main_v11_eq _ _ _).trans ?_), h1⟩
    rw [e0, e1, e2]
    exact ref_val _ _ _

section Printed

variable {F : FTy → Type} [FloatOps F]

/-- The printed kernel is the idealized kernel's text. -/
theorem bodies_same : @Cert.KernelGateD.defs₀ F _ Cert.KernelGateD.Gen.facts = @Cert.KernelGateDIdeal.defs₀ F _ Cert.KernelGateDIdeal.Gen.facts := by
  unfold Cert.KernelGateD.defs₀ Cert.KernelGateDIdeal.defs₀
  refine congrArg Defs.onTc ?_
  funext l x
  match l, x with
  | 0, (t, s) => exact rfl

theorem defs_same : @Cert.KernelGateD.defs F _ Cert.KernelGateD.Gen.facts = @Cert.KernelGateDIdeal.defs F _ Cert.KernelGateDIdeal.Gen.facts := by
  unfold Cert.KernelGateD.defs Cert.KernelGateDIdeal.defs
  rw [bodies_same]
  rfl

theorem main_same : @Cert.KernelGateD.main F _ Cert.KernelGateD.Gen.facts = @Cert.KernelGateDIdeal.main F _ Cert.KernelGateDIdeal.Gen.facts := rfl

end Printed

theorem frame_printed : Cert.quiescent_KernelGateD := fun m ρ _ =>
  (congrArg₂ (fun d p => θ_run d (onTc p) _ _) (defs_same (F := Bits)) (main_same (F := Bits))).mpr
    (Cert.KernelGateDIdeal.Gen.frame (F := Bits) m ρ)

end Cert.Proof.GateD
end
-- ==== Proof.GateWVal.lean ====
/-
  The recurrent gates' gradient of one weight: the transposed gate inputs times the gradient of the gate, every channel with every channel, in one output tile, the
  rows of the batch in eight runs of 1024 that are added up in a scratch tile.
  Each entry is the sum over the 8192 rows, in the kernel and in the reference alike.
-/
module

public import proofs.«01_k».proof.Defs
public import proofs.«01_k».proof.Proof.Gen.KernelGateW
public import proofs.«01_k».proof.Proof.Gen.KernelGateWIdeal
public import proofs.«01_k».proof.Proof.Gen.KernelGateWIdeal.Frame
public import proofs.«01_k».proof.Proof.Gen.KernelGateWIdeal.Value
public import proofs.«01_k».proof.Proof.Gen.ReferenceGateWIdeal
public import proofs.«01_k».proof.Proof.Gen.ReferenceGateWIdeal.Run
public import proofs.«01_k».proof.Proof.Gen.ReferenceGateWIdeal.Read
public import proofs.«01_k».proof.Proof.Sums
public import proofs.«01_k».proof.Proof.Vals
public import Idealize.ShloMosaic.Lib.Pipeline.ValueKit
public import Idealize.ShloMosaic.Lib.Claim

@[expose] public section

set_option maxRecDepth 16384

noncomputable section

namespace Cert.Proof.GateW

open Cert.KernelGateWIdeal Cert.KernelGateWIdeal.Gen Cert.KernelGateWIdeal.Value
open Idealize.ShloMosaic Idealize.ShloMosaic.TcCoe Idealize.SL.Sem
open Idealize.ShloMosaic.Pipeline (Dat)
open Finset

theorem hz : (![0, 0] : Fin 2 → ℕ) = fun _ => 0 := by
  funext a
  match a with
  | 0 => rfl
  | 1 => rfl

/-- The product of the columns of one array with the columns of the other. -/
def colsByCols (x : FVec Ideal S8192x1280 .f32) (w : FVec Ideal S8192x1280 .bf16) : FVec Ideal S1280x1280 .f32 :=
  fun i => ∑ k : Fin 8192, (x (ix2 k (i 0)) : EReal) * w (ix2 k (i 1))

/-- One run of rows. -/
theorem pay_apply (x : FVec Ideal S1024x1280 .f32) (w : FVec Ideal S1024x1280 .bf16) (y : S1280x1280.Idx) :
    k0_pay1 (F := Ideal) x w y = ∑ k : Fin 1024, (x (ix2 k (y 0)) : EReal) * w (ix2 k (y 1)) := by
  idx_vars y
  pointwise [k0_pay1]

section Cases

variable {F : FTy → Type} [FloatOps F]
variable (c : Dev nD) (i : grid0.Coords) (a3 : Memref sig .tc .vmem S1024x1280 .f32) (h3 : a3.IsWhole) (a4 : Memref sig .tc .vmem S1024x1280 .bf16) (h4 : a4.IsWhole)
  (a5 : Memref sig .tc .vmem S1280x1280 .f32) (h5 : a5.IsWhole) (a6 : Memref sig .tc .vmem S1280x1280 .f32) (h6 : a6.IsWhole)
  (x : Vec F S1024x1280 .f32) (w : Vec F S1024x1280 .bf16) (acc : Vec F S1280x1280 .f32)

/-- The first run of rows starts the scratch tile. -/
theorem scratch_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, View.ld_unit_zero (S := S1024x1280) hz, View.ld_unit_zero (S := S1280x1280) hz, shapeCast_self]

/-- A later run adds to it. -/
theorem scratch_B (hc0 : ¬cond0_0 i) (hc1 : cond0_1 i) (hc2 : ¬cond0_2 i) :
    sout0_B_0 c i a3 h3 a4 h4 a5 h5 a6 h6 hc0 hc1 hc2 x w acc = addf acc (k0_pay1 x w) := by
  unfold sout0_B_0
  rw [View.read_writes_eq_canon _ _ _ (scover0_B_0 c i a3 h3 a4 h4 a5 h5 a6 h6 hc0 hc1 hc2 x w acc)]
  unfold kernelRun0_B
  dsimp only
  sl_unfold_words
  rw [View.canon_unit_zero hz]
  unfold k0_pay3
  simp only [View.readAt_eq_ld, h3.read_unread, h4.read_unread, h6.read_unread, View.ld_unit_zero (S := S1024x1280) hz, View.ld_unit_zero (S := S1280x1280) hz, shapeCast_self]

/-- The last run too, and what the scratch tile then holds goes out. -/
theorem out_C (hc0 : ¬cond0_0 i) (hc1 : cond0_1 i) (hc2 : cond0_2 i) :
    out0_C_2 c i a3 h3 a4 h4 a5 h5 a6 h6 hc0 hc1 hc2 x w acc = addf acc (k0_pay1 x w) := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero hz, View.readCov_unit_zero (S := S1280x1280) _ hz]
  unfold k0_pay3
  simp only [View.readAt_eq_ld, h3.read_unread, h4.read_unread, h6.read_unread, View.ld_unit_zero (S := S1024x1280) hz, View.ld_unit_zero (S := S1280x1280) hz, shapeCast_self]

end Cases

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- What run `r` of the rows adds at place `i` of the result. -/
def part (x : FVec Ideal S8192x1280 .f32) (w : FVec Ideal S8192x1280 .bf16) (i : S1280x1280.Idx) (r : Fin 8) : EReal :=
  ∑ k : Fin 1024, (x (ix2 (⟨1024 * r.val + k.val, by omega⟩ : Fin 8192) (i 0)) : EReal) * w (ix2 (⟨1024 * r.val + k.val, by omega⟩ : Fin 8192) (i 1))

theorem sum_part (x : FVec Ideal S8192x1280 .f32) (w : FVec Ideal S8192x1280 .bf16) (i : S1280x1280.Idx) : ∑ r : Fin 8, part x w i r = colsByCols x w i :=
  Sums.sum_runs 8 1024 8192 rfl fun k => (x (ix2 k (i 0)) : EReal) * w (ix2 k (i 1))

/-- One point's product, in terms of the arguments. -/
theorem pay_at (t : Fin cfg0.N) (y : S1280x1280.Idx) (i : S1280x1280.Idx) (e0 : (i 0).val = (y 0).val) (e1 : (i 1).val = 1280 * (t.val / 8) + (y 1).val) :
    k0_pay1 (F := Ideal) (iblk m c 0 t) (iblk m c 1 t) y
      = part (m ((c : Thread nD τ).loc main_arg0)) (m ((c : Thread nD τ).loc main_arg1)) i ⟨t.val % 8, Nat.mod_lt _ (by decide)⟩ := by
  have ht : t.val < 8 := t.isLt
  refine (pay_apply _ _ y).trans ?_
  unfold part
  refine Finset.sum_congr rfl fun k _ => ?_
  refine congrArg₂ (fun a b : EReal => a * b) ?_ ?_
  · refine (congrFun (V_main_arg0 m c) (((cfg0.win 0).blk t).view.emb (ix2 k (y 0)))).trans ?_
    refine congrArg (m ((c : Thread nD τ).loc main_arg0)) ?_
    blk_ext [idx t]
  · refine (congrFun (V_main_arg1 m c) (((cfg0.win 1).blk t).view.emb (ix2 k (y 1)))).trans ?_
    refine congrArg (m ((c : Thread nD τ).loc main_arg1)) ?_
    blk_ext [idx t]

/-- The scratch tile holds the sum of the runs so far. -/
theorem scratch_at (q : ℕ) (hq : q < 1) (y : S1280x1280.Idx) (i : S1280x1280.Idx) (e0 : (i 0).val = (y 0).val) (e1 : (i 1).val = 1280 * q + (y 1).val) :
    ∀ (j : ℕ) (hj : j < 7) (h : 8 * q + j < cfg0.N), (outsAt0 m c (8 * q + j) h).2 y
      = ∑ r : Fin (j + 1), part (m ((c : Thread nD τ).loc main_arg0)) (m ((c : Thread nD τ).loc main_arg1)) i ⟨r.val, by omega⟩
  | 0, hj, h => by
    rw [outsAt0_A m c ⟨8 * q + 0, h⟩ (by dsimp only; omega) (by dsimp only; omega) (by dsimp only; omega)]
    dsimp only
    rw [scratch_A, Fin.sum_univ_one]
    refine (pay_at m c ⟨8 * q + 0, h⟩ y i e0 (by dsimp only; omega)).trans (congrArg _ (Fin.ext ?_))
    show (8 * q + 0) % 8 = 0
    omega
  | j + 1, hj, h => by
    rw [outsAt0_B m c ⟨8 * q + (j + 1), h⟩ (by dsimp only; omega) (by dsimp only; omega) (by dsimp only; omega)]
    dsimp only
    rw [scratch_B, Fin.sum_univ_castSucc]
    refine congrArg₂ (fun a b : EReal => a + b) ?_ ?_
    · exact scratch_at q hq y i e0 e1 j (by omega) (by omega)
    · refine (pay_at m c ⟨8 * q + (j + 1), h⟩ y i e0 (by dsimp only; omega)).trans (congrArg _ (Fin.ext ?_))
      show (8 * q + (j + 1)) % 8 = j + 1
      omega

/-- What goes out after the last run is the whole sum. -/
theorem out_at (q : ℕ) (hq : q < 1) (y : S1280x1280.Idx) (i : S1280x1280.Idx) (e0 : (i 0).val = (y 0).val) (e1 : (i 1).val = 1280 * q + (y 1).val) (h : 8 * q + 7 < cfg0.N) :
    (outsAt0 m c (8 * q + 7) h).1 y = colsByCols (m ((c : Thread nD τ).loc main_arg0)) (m ((c : Thread nD τ).loc main_arg1)) i := by
  rw [outsAt0_C m c ⟨8 * q + 7, h⟩ (by dsimp only; omega) (by dsimp only; omega) (by dsimp only; omega)]
  dsimp only
  rw [out_C, ← sum_part, Fin.sum_univ_castSucc]
  refine congrArg₂ (fun a b : EReal => a + b) ?_ ?_
  · exact scratch_at m c q hq y i e0 e1 6 (by omega) (by omega)
  · refine (pay_at m c ⟨8 * q + 7, h⟩ y i e0 (by dsimp only; omega)).trans (congrArg _ (Fin.ext ?_))
    show (8 * q + 7) % 8 = 7
    omega

/-- The array after the run. -/
theorem final : (dats m 0 c).arrAt 2 cfg0.N = colsByCols (m ((c : Thread nD τ).loc main_arg0)) (m ((c : Thread nD τ).loc main_arg1)) := by
  refine (dats m 0 c).arrAt_eq_of_covers 2 _ (by decide +kernel) fun t hf y => ?_
  have ht : t.val < 8 := t.isLt
  have h7 : t.val % 8 = 7 := (flush0_2 t).mp hf
  have y0 : (y 0).val < 1280 := (y 0).isLt
  have y1 : (y 1).val < 1280 := (y 1).isLt
  have e0 : ((((cfg0.win 2).blk t).view.emb y) 0).val = (y 0).val := by
    blk_simp [idx t]
  have e1 : ((((cfg0.win 2).blk t).view.emb y) 1).val = 1280 * (t.val / 8) + (y 1).val := by
    blk_simp [idx t]
    omega
  have en : ∀ (n : ℕ) (hn : n < cfg0.N), n = 8 * (t.val / 8) + 7 → (outsAt0 m c n hn).1 y
      = colsByCols (m ((c : Thread nD τ).loc main_arg0)) (m ((c : Thread nD τ).loc main_arg1)) (((cfg0.win 2).blk t).view.emb y) := by
    rintro n hn rfl
    exact out_at m c (t.val / 8) (by omega) y _ e0 e1 hn
  blk_simp
  rw [after0_2]
  exact en t.val t.isLt (by omega)

/-- The reference's array. -/
theorem ref_val (x : FVec Ideal S8192x1280 .f32) (w : FVec Ideal S8192x1280 .bf16) : ReferenceGateWIdeal.Read.val_main_v4 (F := Ideal) x w = colsByCols x w := by
  funext i
  refine (ReferenceGateWIdeal.Read.val_main_v4_apply (F := Ideal) x w i).trans ((ReferenceGateWIdeal.Read.val_main_v3_apply x w _).trans (Finset.sum_congr rfl fun k _ => ?_))
  refine (mul_comm _ _).trans (congrArg₂ (fun a b : EReal => a * b) (congrArg x ?_) (congrArg w ?_)) <;>
  · funext a
    match a with
    | ⟨0, _⟩ => rfl
    | ⟨1, _⟩ => rfl

theorem frame_ideal : Cert.quiescent_KernelGateWIdeal := fun m ρ _ => Cert.KernelGateWIdeal.Gen.frame m ρ

theorem frame_reference : Cert.quiescent_ReferenceGateWIdeal := by
  intro m g _
  hlo_run
  · exact fun _ => ⟨trivial, trivial⟩
  · exact sem_eq_zero_of_no_sems rfl _

theorem value : Cert.algebraic_KernelGateWIdeal_ReferenceGateWIdeal := by
  intro m g m' g' _ hagree
  refine ⟨fun c => colsByCols (m ((c : Thread nD τ).loc main_arg0)) (m ((c : Thread nD τ).loc main_arg1)), ?_, ?_⟩
  · refine (θ_run _ _ _).mono (fun r h c => ?_) (run_blocks (F := Ideal) m g)
    obtain ⟨h0, h1, h2⟩ := h c
    exact ⟨h0.trans (final m c), h1, h2⟩
  · refine (θ_run _ _ _).mono (fun r h c => ?_) (ReferenceGateWIdeal.Value.run (F := Ideal) m' g')
    obtain ⟨e0, e1⟩ := hagree c
    obtain ⟨h0, h1, h2⟩ := h c
    refine ⟨h0.trans ?_, h1, h2⟩
    rw [e0, e1]
    exact ref_val _ _

section Printed

variable {F : FTy → Type} [FloatOps F]

/-- The printed kernel is the idealized kernel's text. -/
theorem bodies_same : @Cert.KernelGateW.defs₀ F _ Cert.KernelGateW.Gen.facts = @Cert.KernelGateWIdeal.defs₀ F _ Cert.KernelGateWIdeal.Gen.facts := by
  unfold Cert.KernelGateW.defs₀ Cert.KernelGateWIdeal.defs₀
  refine congrArg Defs.onTc ?_
  funext l x
  match l, x with
  | 0, (t, s) => exact rfl

theorem defs_same : @Cert.KernelGateW.defs F _ Cert.KernelGateW.Gen.facts = @Cert.KernelGateWIdeal.defs F _ Cert.KernelGateWIdeal.Gen.facts := by
  unfold Cert.KernelGateW.defs Cert.KernelGateWIdeal.defs
  rw [bodies_same]
  rfl

theorem main_same : @Cert.KernelGateW.main F _ = @Cert.KernelGateWIdeal.main F _ := rfl

end Printed

theorem frame_printed : Cert.quiescent_KernelGateW := fun m ρ _ =>
  (congrArg₂ (fun d p => θ_run d (onTc p) _ _) (defs_same (F := Bits)) (main_same (F := Bits))).mpr
    (Cert.KernelGateWIdeal.Gen.frame (F := Bits) m ρ)

end Cert.Proof.GateW
end
-- ==== Proof.Adam.lean ====
/-
  One step of AdamW for one weight, as formulas. The constants are the float words that both programs spell; the reference divides
  by two of them, and the kernel multiplies by their inverses.
-/
module

public import Idealize.ShloMosaic.Lib.Pointwise

@[expose] public section

noncomputable section

namespace Cert.Proof.Adam

open Idealize.ShloMosaic

/-- What the kernel multiplies by where the reference divides by 1 - 0.9^10, as the float of that difference. -/
abbrev inv1 : EReal := ((8388608 / 5463681 : ℝ) : EReal)

/-- The same for 1 - 0.999^10. -/
abbrev inv2 : EReal := ((268435456 / 2672307 : ℝ) : EReal)

/-- The new first moment. -/
def mom (g m : EReal) : EReal := Ideal.ofBits .f32 0x3F666666#32 * m + Ideal.ofBits .f32 0x3DCCCCCD#32 * g

/-- The new second moment. -/
def sq (g v : EReal) : EReal := Ideal.ofBits .f32 0x3F7FBE77#32 * v + Ideal.ofBits .f32 0x3A83126F#32 * (g * g)

/-- The weight's change. -/
def step (w g m v : EReal) : EReal :=
  Ideal.ofBits .f32 0xBA83126F#32 * (Ideal.div (mom g m * inv1)
    (Ideal.sqrt (sq g v * inv2) + Ideal.ofBits .f32 0x322BCC77#32) + Ideal.ofBits .f32 0x3C23D70A#32 * w)

/-- The changes of a whole array of weights. -/
def delta {S : Shape} (w g n v : FVec Ideal S .f32) : FVec Ideal S .f32 := fun i => step (w i) (g i) (n i) (v i)

/-- The new first moments of the array. -/
def first {S : Shape} (g n : FVec Ideal S .f32) : FVec Ideal S .f32 := fun i => mom (g i) (n i)

/-- The new second moments of the array. -/
def second {S : Shape} (g v : FVec Ideal S .f32) : FVec Ideal S .f32 := fun i => sq (g i) (v i)

theorem div_first (s : EReal) : Ideal.div s (Ideal.ofBits .f32 0x3F26BD02#32) = s * inv1 := by
  have h : Ideal.ofBits .f32 0x3F26BD02#32 = ((5463681 / 8388608 : ℝ) : EReal) := by
    simp [Ideal.ofBits, Ideal.ieee, -EReal.coe_mul]
    norm_num
  rw [h, Ideal.div_coe (by norm_num)]
  norm_num

theorem div_second (s : EReal) : Ideal.div s (Ideal.ofBits .f32 0x3C231ACC#32) = s * inv2 := by
  have h : Ideal.ofBits .f32 0x3C231ACC#32 = ((2672307 / 268435456 : ℝ) : EReal) := by
    simp [Ideal.ofBits, Ideal.ieee, -EReal.coe_mul]
    norm_num
  rw [h, Ideal.div_coe (by norm_num)]
  norm_num

end Cert.Proof.Adam
end
-- ==== Proof.AdamNormMixVal.lean ====
/-
  AdamW for the three norms of the layers: the weight's change and the two moments, element by element.
-/
module

public import proofs.«01_k».proof.Defs
public import proofs.«01_k».proof.Proof.Gen.KernelAdamNormMix.Frame
public import proofs.«01_k».proof.Proof.Gen.KernelAdamNormMixIdeal.Value
public import proofs.«01_k».proof.Proof.Gen.ReferenceAdamNormMixIdeal.Read
public import proofs.«01_k».proof.Proof.Adam

@[expose] public section

set_option maxRecDepth 16384
noncomputable section

namespace Cert.Proof.AdamNormMix

open Idealize.ShloMosaic Idealize.ShloMosaic.TcCoe Idealize.SL.Sem
open Cert.KernelAdamNormMixIdeal Cert.KernelAdamNormMixIdeal.Gen Cert.KernelAdamNormMixIdeal.Value

theorem kernel_delta (w g n v : FVec Ideal S4x1024 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamNormMix := fun m ρ _ => Cert.KernelAdamNormMix.Gen.frame m ρ

theorem frame_ideal : Cert.quiescent_KernelAdamNormMixIdeal := fun m ρ _ => Cert.KernelAdamNormMixIdeal.Gen.frame m ρ

theorem frame_reference : Cert.quiescent_ReferenceAdamNormMixIdeal := fun m ρ _ =>
  (θ_run Cert.ReferenceAdamNormMixIdeal.defs _ _).mono (fun r h => ⟨fun c => (h c).2.2.2, sem_eq_zero_of_no_sems (by decide) r.2⟩)
    (Cert.ReferenceAdamNormMixIdeal.Value.run (F := Ideal) m ρ)

theorem preserves : Cert.preserves_KernelAdamNormMix_KernelAdamNormMixIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamNormMixIdeal_ReferenceAdamNormMixIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamNormMixIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamNormMix
end
-- ==== Proof.AdamQkvVal.lean ====
/-
  AdamW for the attention's input projection: the weight's change and the two moments, element by element.
-/
module

public import proofs.«01_k».proof.Defs
public import proofs.«01_k».proof.Proof.Gen.KernelAdamQkv.Frame
public import proofs.«01_k».proof.Proof.Gen.KernelAdamQkvIdeal.Value
public import proofs.«01_k».proof.Proof.Gen.ReferenceAdamQkvIdeal.Read
public import proofs.«01_k».proof.Proof.Adam

@[expose] public section

set_option maxRecDepth 16384
noncomputable section

namespace Cert.Proof.AdamQkv

open Idealize.ShloMosaic Idealize.ShloMosaic.TcCoe Idealize.SL.Sem
open Cert.KernelAdamQkvIdeal Cert.KernelAdamQkvIdeal.Gen Cert.KernelAdamQkvIdeal.Value

theorem kernel_delta (w g n v : FVec Ideal S2048x384 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamQkv := fun m ρ _ => Cert.KernelAdamQkv.Gen.frame m ρ

theorem frame_ideal : Cert.quiescent_KernelAdamQkvIdeal := fun m ρ _ => Cert.KernelAdamQkvIdeal.Gen.frame m ρ

theorem frame_reference : Cert.quiescent_ReferenceAdamQkvIdeal := fun m ρ _ =>
  (θ_run Cert.ReferenceAdamQkvIdeal.defs _ _).mono (fun r h => ⟨fun c => (h c).2.2.2, sem_eq_zero_of_no_sems (by decide) r.2⟩)
    (Cert.ReferenceAdamQkvIdeal.Value.run (F := Ideal) m ρ)

theorem preserves : Cert.preserves_KernelAdamQkv_KernelAdamQkvIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamQkvIdeal_ReferenceAdamQkvIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamQkvIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamQkv
end
-- ==== Proof.AdamAttnOVal.lean ====
/-
  AdamW for the attention's output projection: the weight's change and the two moments, element by element.
-/
module

public import proofs.«01_k».proof.Defs
public import proofs.«01_k».proof.Proof.Gen.KernelAdamAttnO.Frame
public import proofs.«01_k».proof.Proof.Gen.KernelAdamAttnOIdeal.Value
public import proofs.«01_k».proof.Proof.Gen.ReferenceAdamAttnOIdeal.Read
public import proofs.«01_k».proof.Proof.Adam

@[expose] public section

set_option maxRecDepth 16384
noncomputable section

namespace Cert.Proof.AdamAttnO

open Idealize.ShloMosaic Idealize.ShloMosaic.TcCoe Idealize.SL.Sem
open Cert.KernelAdamAttnOIdeal Cert.KernelAdamAttnOIdeal.Gen Cert.KernelAdamAttnOIdeal.Value

theorem kernel_delta (w g n v : FVec Ideal S256x1024 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamAttnO := fun m ρ _ => Cert.KernelAdamAttnO.Gen.frame m ρ

theorem frame_ideal : Cert.quiescent_KernelAdamAttnOIdeal := fun m ρ _ => Cert.KernelAdamAttnOIdeal.Gen.frame m ρ

theorem frame_reference : Cert.quiescent_ReferenceAdamAttnOIdeal := fun m ρ _ =>
  (θ_run Cert.ReferenceAdamAttnOIdeal.defs _ _).mono (fun r h => ⟨fun c => (h c).2.2.2, sem_eq_zero_of_no_sems (by decide) r.2⟩)
    (Cert.ReferenceAdamAttnOIdeal.Value.run (F := Ideal) m ρ)

theorem preserves : Cert.preserves_KernelAdamAttnO_KernelAdamAttnOIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamAttnOIdeal_ReferenceAdamAttnOIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamAttnOIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamAttnO
end
-- ==== Proof.AdamRnnInVal.lean ====
/-
  AdamW for the recurrent block's input projection: the weight's change and the two moments, element by element.
-/
module

public import proofs.«01_k».proof.Defs
public import proofs.«01_k».proof.Proof.Gen.KernelAdamRnnIn.Frame
public import proofs.«01_k».proof.Proof.Gen.KernelAdamRnnInIdeal.Value
public import proofs.«01_k».proof.Proof.Gen.ReferenceAdamRnnInIdeal.Read
public import proofs.«01_k».proof.Proof.Adam

@[expose] public section

set_option maxRecDepth 16384
noncomputable section

namespace Cert.Proof.AdamRnnIn

open Idealize.ShloMosaic Idealize.ShloMosaic.TcCoe Idealize.SL.Sem
open Cert.KernelAdamRnnInIdeal Cert.KernelAdamRnnInIdeal.Gen Cert.KernelAdamRnnInIdeal.Value

theorem kernel_delta (w g n v : FVec Ideal S2048x320 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamRnnIn := fun m ρ _ => Cert.KernelAdamRnnIn.Gen.frame m ρ

theorem frame_ideal : Cert.quiescent_KernelAdamRnnInIdeal := fun m ρ _ => Cert.KernelAdamRnnInIdeal.Gen.frame m ρ

theorem frame_reference : Cert.quiescent_ReferenceAdamRnnInIdeal := fun m ρ _ =>
  (θ_run Cert.ReferenceAdamRnnInIdeal.defs _ _).mono (fun r h => ⟨fun c => (h c).2.2.2, sem_eq_zero_of_no_sems (by decide) r.2⟩)
    (Cert.ReferenceAdamRnnInIdeal.Value.run (F := Ideal) m ρ)

theorem preserves : Cert.preserves_KernelAdamRnnIn_KernelAdamRnnInIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamRnnInIdeal_ReferenceAdamRnnInIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamRnnInIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamRnnIn
end
-- ==== Proof.AdamRnnConvVal.lean ====
/-
  AdamW for the recurrent block's convolution: the weight's change and the two moments, element by element.
-/
module

public import proofs.«01_k».proof.Defs
public import proofs.«01_k».proof.Proof.Gen.KernelAdamRnnConv.Frame
public import proofs.«01_k».proof.Proof.Gen.KernelAdamRnnConvIdeal.Value
public import proofs.«01_k».proof.Proof.Gen.ReferenceAdamRnnConvIdeal.Read
public import proofs.«01_k».proof.Proof.Adam

@[expose] public section

set_option maxRecDepth 16384
noncomputable section

namespace Cert.Proof.AdamRnnConv

open Idealize.ShloMosaic Idealize.ShloMosaic.TcCoe Idealize.SL.Sem
open Cert.KernelAdamRnnConvIdeal Cert.KernelAdamRnnConvIdeal.Gen Cert.KernelAdamRnnConvIdeal.Value

theorem kernel_delta (w g n v : FVec Ideal S8x160 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamRnnConv := fun m ρ _ => Cert.KernelAdamRnnConv.Gen.frame m ρ

theorem frame_ideal : Cert.quiescent_KernelAdamRnnConvIdeal := fun m ρ _ => Cert.KernelAdamRnnConvIdeal.Gen.frame m ρ

theorem frame_reference : Cert.quiescent_ReferenceAdamRnnConvIdeal := fun m ρ _ =>
  (θ_run Cert.ReferenceAdamRnnConvIdeal.defs _ _).mono (fun r h => ⟨fun c => (h c).2.2.2, sem_eq_zero_of_no_sems (by decide) r.2⟩)
    (Cert.ReferenceAdamRnnConvIdeal.Value.run (F := Ideal) m ρ)

theorem preserves : Cert.preserves_KernelAdamRnnConv_KernelAdamRnnConvIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamRnnConvIdeal_ReferenceAdamRnnConvIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamRnnConvIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamRnnConv
end
-- ==== Proof.AdamRnnVecVal.lean ====
/-
  AdamW for the recurrent block's biases and decay: the weight's change and the two moments, element by element.
-/
module

public import proofs.«01_k».proof.Defs
public import proofs.«01_k».proof.Proof.Gen.KernelAdamRnnVec.Frame
public import proofs.«01_k».proof.Proof.Gen.KernelAdamRnnVecIdeal.Value
public import proofs.«01_k».proof.Proof.Gen.ReferenceAdamRnnVecIdeal.Read
public import proofs.«01_k».proof.Proof.Adam

@[expose] public section

set_option maxRecDepth 16384
noncomputable section

namespace Cert.Proof.AdamRnnVec

open Idealize.ShloMosaic Idealize.ShloMosaic.TcCoe Idealize.SL.Sem
open Cert.KernelAdamRnnVecIdeal Cert.KernelAdamRnnVecIdeal.Gen Cert.KernelAdamRnnVecIdeal.Value

theorem kernel_delta (w g n v : FVec Ideal S2x160 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamRnnVec := fun m ρ _ => Cert.KernelAdamRnnVec.Gen.frame m ρ

theorem frame_ideal : Cert.quiescent_KernelAdamRnnVecIdeal := fun m ρ _ => Cert.KernelAdamRnnVecIdeal.Gen.frame m ρ

theorem frame_reference : Cert.quiescent_ReferenceAdamRnnVecIdeal := fun m ρ _ =>
  (θ_run Cert.ReferenceAdamRnnVecIdeal.defs _ _).mono (fun r h => ⟨fun c => (h c).2.2.2, sem_eq_zero_of_no_sems (by decide) r.2⟩)
    (Cert.ReferenceAdamRnnVecIdeal.Value.run (F := Ideal) m ρ)

theorem preserves : Cert.preserves_KernelAdamRnnVec_KernelAdamRnnVecIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamRnnVecIdeal_ReferenceAdamRnnVecIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamRnnVecIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamRnnVec
end
-- ==== Proof.AdamGateVal.lean ====
/-
  AdamW for the recurrent block's gates: the weight's change and the two moments, element by element.
-/
module

public import proofs.«01_k».proof.Defs
public import proofs.«01_k».proof.Proof.Gen.KernelAdamGate.Frame
public import proofs.«01_k».proof.Proof.Gen.KernelAdamGateIdeal.Value
public import proofs.«01_k».proof.Proof.Gen.ReferenceAdamGateIdeal.Read
public import proofs.«01_k».proof.Proof.Adam

@[expose] public section

set_option maxRecDepth 16384
noncomputable section

namespace Cert.Proof.AdamGate

open Idealize.ShloMosaic Idealize.ShloMosaic.TcCoe Idealize.SL.Sem
open Cert.KernelAdamGateIdeal Cert.KernelAdamGateIdeal.Gen Cert.KernelAdamGateIdeal.Value

theorem kernel_delta (w g n v : FVec Ideal S2560x80 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamGate := fun m ρ _ => Cert.KernelAdamGate.Gen.frame m ρ

theorem frame_ideal : Cert.quiescent_KernelAdamGateIdeal := fun m ρ _ => Cert.KernelAdamGateIdeal.Gen.frame m ρ

theorem frame_reference : Cert.quiescent_ReferenceAdamGateIdeal := fun m ρ _ =>
  (θ_run Cert.ReferenceAdamGateIdeal.defs _ _).mono (fun r h => ⟨fun c => (h c).2.2.2, sem_eq_zero_of_no_sems (by decide) r.2⟩)
    (Cert.ReferenceAdamGateIdeal.Value.run (F := Ideal) m ρ)

theorem preserves : Cert.preserves_KernelAdamGate_KernelAdamGateIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamGateIdeal_ReferenceAdamGateIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamGateIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamGate
end
-- ==== Proof.AdamRnnOutVal.lean ====
/-
  AdamW for the recurrent block's output projection: the weight's change and the two moments, element by element.
-/
module

public import proofs.«01_k».proof.Defs
public import proofs.«01_k».proof.Proof.Gen.KernelAdamRnnOut.Frame
public import proofs.«01_k».proof.Proof.Gen.KernelAdamRnnOutIdeal.Value
public import proofs.«01_k».proof.Proof.Gen.ReferenceAdamRnnOutIdeal.Read
public import proofs.«01_k».proof.Proof.Adam

@[expose] public section

set_option maxRecDepth 16384
noncomputable section

namespace Cert.Proof.AdamRnnOut

open Idealize.ShloMosaic Idealize.ShloMosaic.TcCoe Idealize.SL.Sem
open Cert.KernelAdamRnnOutIdeal Cert.KernelAdamRnnOutIdeal.Gen Cert.KernelAdamRnnOutIdeal.Value

theorem kernel_delta (w g n v : FVec Ideal S320x1024 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamRnnOut := fun m ρ _ => Cert.KernelAdamRnnOut.Gen.frame m ρ

theorem frame_ideal : Cert.quiescent_KernelAdamRnnOutIdeal := fun m ρ _ => Cert.KernelAdamRnnOutIdeal.Gen.frame m ρ

theorem frame_reference : Cert.quiescent_ReferenceAdamRnnOutIdeal := fun m ρ _ =>
  (θ_run Cert.ReferenceAdamRnnOutIdeal.defs _ _).mono (fun r h => ⟨fun c => (h c).2.2.2, sem_eq_zero_of_no_sems (by decide) r.2⟩)
    (Cert.ReferenceAdamRnnOutIdeal.Value.run (F := Ideal) m ρ)

theorem preserves : Cert.preserves_KernelAdamRnnOut_KernelAdamRnnOutIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamRnnOutIdeal_ReferenceAdamRnnOutIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamRnnOutIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamRnnOut
end
-- ==== Proof.AdamFfnUpVal.lean ====
/-
  AdamW for the up projection: the weight's change and the two moments, element by element.
-/
module

public import proofs.«01_k».proof.Defs
public import proofs.«01_k».proof.Proof.Gen.KernelAdamFfnUp.Frame
public import proofs.«01_k».proof.Proof.Gen.KernelAdamFfnUpIdeal.Value
public import proofs.«01_k».proof.Proof.Gen.ReferenceAdamFfnUpIdeal.Read
public import proofs.«01_k».proof.Proof.Adam

@[expose] public section

set_option maxRecDepth 16384
noncomputable section

namespace Cert.Proof.AdamFfnUp

open Idealize.ShloMosaic Idealize.ShloMosaic.TcCoe Idealize.SL.Sem
open Cert.KernelAdamFfnUpIdeal Cert.KernelAdamFfnUpIdeal.Gen Cert.KernelAdamFfnUpIdeal.Value

theorem kernel_delta (w g n v : FVec Ideal S4096x704 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamFfnUp := fun m ρ _ => Cert.KernelAdamFfnUp.Gen.frame m ρ

theorem frame_ideal : Cert.quiescent_KernelAdamFfnUpIdeal := fun m ρ _ => Cert.KernelAdamFfnUpIdeal.Gen.frame m ρ

theorem frame_reference : Cert.quiescent_ReferenceAdamFfnUpIdeal := fun m ρ _ =>
  (θ_run Cert.ReferenceAdamFfnUpIdeal.defs _ _).mono (fun r h => ⟨fun c => (h c).2.2.2, sem_eq_zero_of_no_sems (by decide) r.2⟩)
    (Cert.ReferenceAdamFfnUpIdeal.Value.run (F := Ideal) m ρ)

theorem preserves : Cert.preserves_KernelAdamFfnUp_KernelAdamFfnUpIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamFfnUpIdeal_ReferenceAdamFfnUpIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamFfnUpIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamFfnUp
end
-- ==== Proof.AdamFfnConvVal.lean ====
/-
  AdamW for the ConvFFN's convolution: the weight's change and the two moments, element by element.
-/
module

public import proofs.«01_k».proof.Defs
public import proofs.«01_k».proof.Proof.Gen.KernelAdamFfnConv.Frame
public import proofs.«01_k».proof.Proof.Gen.KernelAdamFfnConvIdeal.Value
public import proofs.«01_k».proof.Proof.Gen.ReferenceAdamFfnConvIdeal.Read
public import proofs.«01_k».proof.Proof.Adam

@[expose] public section

set_option maxRecDepth 16384
noncomputable section

namespace Cert.Proof.AdamFfnConv

open Idealize.ShloMosaic Idealize.ShloMosaic.TcCoe Idealize.SL.Sem
open Cert.KernelAdamFfnConvIdeal Cert.KernelAdamFfnConvIdeal.Gen Cert.KernelAdamFfnConvIdeal.Value

theorem kernel_delta (w g n v : FVec Ideal S12x704 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamFfnConv := fun m ρ _ => Cert.KernelAdamFfnConv.Gen.frame m ρ

theorem frame_ideal : Cert.quiescent_KernelAdamFfnConvIdeal := fun m ρ _ => Cert.KernelAdamFfnConvIdeal.Gen.frame m ρ

theorem frame_reference : Cert.quiescent_ReferenceAdamFfnConvIdeal := fun m ρ _ =>
  (θ_run Cert.ReferenceAdamFfnConvIdeal.defs _ _).mono (fun r h => ⟨fun c => (h c).2.2.2, sem_eq_zero_of_no_sems (by decide) r.2⟩)
    (Cert.ReferenceAdamFfnConvIdeal.Value.run (F := Ideal) m ρ)

theorem preserves : Cert.preserves_KernelAdamFfnConv_KernelAdamFfnConvIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamFfnConvIdeal_ReferenceAdamFfnConvIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamFfnConvIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamFfnConv
end
-- ==== Proof.AdamFfnBiasVal.lean ====
/-
  AdamW for that convolution's bias: the weight's change and the two moments, element by element.
-/
module

public import proofs.«01_k».proof.Defs
public import proofs.«01_k».proof.Proof.Gen.KernelAdamFfnBias.Frame
public import proofs.«01_k».proof.Proof.Gen.KernelAdamFfnBiasIdeal.Value
public import proofs.«01_k».proof.Proof.Gen.ReferenceAdamFfnBiasIdeal.Read
public import proofs.«01_k».proof.Proof.Adam

@[expose] public section

set_option maxRecDepth 16384
noncomputable section

namespace Cert.Proof.AdamFfnBias

open Idealize.ShloMosaic Idealize.ShloMosaic.TcCoe Idealize.SL.Sem
open Cert.KernelAdamFfnBiasIdeal Cert.KernelAdamFfnBiasIdeal.Gen Cert.KernelAdamFfnBiasIdeal.Value

theorem kernel_delta (w g n v : FVec Ideal S4x5632 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamFfnBias := fun m ρ _ => Cert.KernelAdamFfnBias.Gen.frame m ρ

theorem frame_ideal : Cert.quiescent_KernelAdamFfnBiasIdeal := fun m ρ _ => Cert.KernelAdamFfnBiasIdeal.Gen.frame m ρ

theorem frame_reference : Cert.quiescent_ReferenceAdamFfnBiasIdeal := fun m ρ _ =>
  (θ_run Cert.ReferenceAdamFfnBiasIdeal.defs _ _).mono (fun r h => ⟨fun c => (h c).2.2.2, sem_eq_zero_of_no_sems (by decide) r.2⟩)
    (Cert.ReferenceAdamFfnBiasIdeal.Value.run (F := Ideal) m ρ)

theorem preserves : Cert.preserves_KernelAdamFfnBias_KernelAdamFfnBiasIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamFfnBiasIdeal_ReferenceAdamFfnBiasIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamFfnBiasIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamFfnBias
end
-- ==== Proof.AdamFfnDownVal.lean ====
/-
  AdamW for the down projection: the weight's change and the two moments, element by element.
-/
module

public import proofs.«01_k».proof.Defs
public import proofs.«01_k».proof.Proof.Gen.KernelAdamFfnDown.Frame
public import proofs.«01_k».proof.Proof.Gen.KernelAdamFfnDownIdeal.Value
public import proofs.«01_k».proof.Proof.Gen.ReferenceAdamFfnDownIdeal.Read
public import proofs.«01_k».proof.Proof.Adam

@[expose] public section

set_option maxRecDepth 16384
noncomputable section

namespace Cert.Proof.AdamFfnDown

open Idealize.ShloMosaic Idealize.ShloMosaic.TcCoe Idealize.SL.Sem
open Cert.KernelAdamFfnDownIdeal Cert.KernelAdamFfnDownIdeal.Gen Cert.KernelAdamFfnDownIdeal.Value

theorem kernel_delta (w g n v : FVec Ideal S1408x1024 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamFfnDown := fun m ρ _ => Cert.KernelAdamFfnDown.Gen.frame m ρ

theorem frame_ideal : Cert.quiescent_KernelAdamFfnDownIdeal := fun m ρ _ => Cert.KernelAdamFfnDownIdeal.Gen.frame m ρ

theorem frame_reference : Cert.quiescent_ReferenceAdamFfnDownIdeal := fun m ρ _ =>
  (θ_run Cert.ReferenceAdamFfnDownIdeal.defs _ _).mono (fun r h => ⟨fun c => (h c).2.2.2, sem_eq_zero_of_no_sems (by decide) r.2⟩)
    (Cert.ReferenceAdamFfnDownIdeal.Value.run (F := Ideal) m ρ)

theorem preserves : Cert.preserves_KernelAdamFfnDown_KernelAdamFfnDownIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamFfnDownIdeal_ReferenceAdamFfnDownIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamFfnDownIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamFfnDown
end
-- ==== Proof.AdamPleGateVal.lean ====
/-
  AdamW for the per-layer embedding's gate: the weight's change and the two moments, element by element.
-/
module

public import proofs.«01_k».proof.Defs
public import proofs.«01_k».proof.Proof.Gen.KernelAdamPleGate.Frame
public import proofs.«01_k».proof.Proof.Gen.KernelAdamPleGateIdeal.Value
public import proofs.«01_k».proof.Proof.Gen.ReferenceAdamPleGateIdeal.Read
public import proofs.«01_k».proof.Proof.Adam

@[expose] public section

set_option maxRecDepth 16384
noncomputable section

namespace Cert.Proof.AdamPleGate

open Idealize.ShloMosaic Idealize.ShloMosaic.TcCoe Idealize.SL.Sem
open Cert.KernelAdamPleGateIdeal Cert.KernelAdamPleGateIdeal.Gen Cert.KernelAdamPleGateIdeal.Value

theorem kernel_delta (w g n v : FVec Ideal S512x1024 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamPleGate := fun m ρ _ => Cert.KernelAdamPleGate.Gen.frame m ρ

theorem frame_ideal : Cert.quiescent_KernelAdamPleGateIdeal := fun m ρ _ => Cert.KernelAdamPleGateIdeal.Gen.frame m ρ

theorem frame_reference : Cert.quiescent_ReferenceAdamPleGateIdeal := fun m ρ _ =>
  (θ_run Cert.ReferenceAdamPleGateIdeal.defs _ _).mono (fun r h => ⟨fun c => (h c).2.2.2, sem_eq_zero_of_no_sems (by decide) r.2⟩)
    (Cert.ReferenceAdamPleGateIdeal.Value.run (F := Ideal) m ρ)

theorem preserves : Cert.preserves_KernelAdamPleGate_KernelAdamPleGateIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamPleGateIdeal_ReferenceAdamPleGateIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamPleGateIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamPleGate
end
-- ==== Proof.AdamPleProjVal.lean ====
/-
  AdamW for the per-layer embedding's projection: the weight's change and the two moments, element by element.
-/
module

public import proofs.«01_k».proof.Defs
public import proofs.«01_k».proof.Proof.Gen.KernelAdamPleProj.Frame
public import proofs.«01_k».proof.Proof.Gen.KernelAdamPleProjIdeal.Value
public import proofs.«01_k».proof.Proof.Gen.ReferenceAdamPleProjIdeal.Read
public import proofs.«01_k».proof.Proof.Adam

@[expose] public section

set_option maxRecDepth 16384
noncomputable section

namespace Cert.Proof.AdamPleProj

open Idealize.ShloMosaic Idealize.ShloMosaic.TcCoe Idealize.SL.Sem
open Cert.KernelAdamPleProjIdeal Cert.KernelAdamPleProjIdeal.Gen Cert.KernelAdamPleProjIdeal.Value

theorem kernel_delta (w g n v : FVec Ideal S1024x128 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamPleProj := fun m ρ _ => Cert.KernelAdamPleProj.Gen.frame m ρ

theorem frame_ideal : Cert.quiescent_KernelAdamPleProjIdeal := fun m ρ _ => Cert.KernelAdamPleProjIdeal.Gen.frame m ρ

theorem frame_reference : Cert.quiescent_ReferenceAdamPleProjIdeal := fun m ρ _ =>
  (θ_run Cert.ReferenceAdamPleProjIdeal.defs _ _).mono (fun r h => ⟨fun c => (h c).2.2.2, sem_eq_zero_of_no_sems (by decide) r.2⟩)
    (Cert.ReferenceAdamPleProjIdeal.Value.run (F := Ideal) m ρ)

theorem preserves : Cert.preserves_KernelAdamPleProj_KernelAdamPleProjIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamPleProjIdeal_ReferenceAdamPleProjIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamPleProjIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamPleProj
end
-- ==== Proof.AdamNormFinalVal.lean ====
/-
  AdamW for the final norm: the weight's change and the two moments, element by element.
-/
module

public import proofs.«01_k».proof.Defs
public import proofs.«01_k».proof.Proof.Gen.KernelAdamNormFinal.Frame
public import proofs.«01_k».proof.Proof.Gen.KernelAdamNormFinalIdeal.Value
public import proofs.«01_k».proof.Proof.Gen.ReferenceAdamNormFinalIdeal.Read
public import proofs.«01_k».proof.Proof.Adam

@[expose] public section

set_option maxRecDepth 16384
noncomputable section

namespace Cert.Proof.AdamNormFinal

open Idealize.ShloMosaic Idealize.ShloMosaic.TcCoe Idealize.SL.Sem
open Cert.KernelAdamNormFinalIdeal Cert.KernelAdamNormFinalIdeal.Gen Cert.KernelAdamNormFinalIdeal.Value

theorem kernel_delta (w g n v : FVec Ideal S1x1024 .f32) : G4 (F := Ideal) g n v w = Adam.delta w g n v := by
  funext i
  unfold G4
  rw [IdealRules.named_const.ideal_named_scalar κ "bc1" (φ := .f32) _ Adam.inv1 rfl, IdealRules.named_const.ideal_named_scalar κ "bc2" (φ := .f32) _ Adam.inv2 rfl]
  rfl

theorem frame_printed : Cert.quiescent_KernelAdamNormFinal := fun m ρ _ => Cert.KernelAdamNormFinal.Gen.frame m ρ

theorem frame_ideal : Cert.quiescent_KernelAdamNormFinalIdeal := fun m ρ _ => Cert.KernelAdamNormFinalIdeal.Gen.frame m ρ

theorem frame_reference : Cert.quiescent_ReferenceAdamNormFinalIdeal := fun m ρ _ =>
  (θ_run Cert.ReferenceAdamNormFinalIdeal.defs _ _).mono (fun r h => ⟨fun c => (h c).2.2.2, sem_eq_zero_of_no_sems (by decide) r.2⟩)
    (Cert.ReferenceAdamNormFinalIdeal.Value.run (F := Ideal) m ρ)

theorem preserves : Cert.preserves_KernelAdamNormFinal_KernelAdamNormFinalIdeal :=
  ⟨IdealRules.named_const.statement κ "bc1" .f32 0x3FC48605#32 Adam.inv1 rfl,
    IdealRules.named_const.statement κ "bc2" .f32 0x42C8E6D3#32 Adam.inv2 rfl⟩

theorem value : Cert.algebraic_KernelAdamNormFinalIdeal_ReferenceAdamNormFinalIdeal := by
  intro m g m' g' _ hagree
  refine ⟨fun c => Adam.delta (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · refine (θ_run _ _ _).mono (fun r h c => ?_) (run (F := Ideal) m g)
    obtain ⟨h0, h1, h2, h3⟩ := h c
    exact ⟨h0.trans (kernel_delta _ _ _ _), h1, h2, h3⟩
  · refine (θ_run _ _ _).mono (fun r h c => ?_) (ReferenceAdamNormFinalIdeal.Value.run (F := Ideal) m' g')
    obtain ⟨e0, e1, e2, e3⟩ := hagree c
    obtain ⟨h0, h1, h2, h3⟩ := h c
    rw [e0, e1, e2, e3] at h0
    rw [e1, e2] at h1
    rw [e1, e3] at h2
    refine ⟨h0.trans ?_, h1.trans ?_, h2.trans ?_, h3⟩ <;> funext i <;> idx_vars i <;> pointwise [Adam.delta, Adam.first, Adam.second]
    · simp only [Adam.div_first, Adam.div_second]
      rfl
    · rfl
    · rfl

end Cert.Proof.AdamNormFinal
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Same
public import proofs.«01_k».proof.Proof.TotVal
public import proofs.«01_k».proof.Proof.Finite
public import proofs.«01_k».proof.Proof.UpClaim
public import proofs.«01_k».proof.Proof.UpWVal
public import proofs.«01_k».proof.Proof.DownWVal
public import proofs.«01_k».proof.Proof.DownVal
public import proofs.«01_k».proof.Proof.NormUpVal
public import proofs.«01_k».proof.Proof.UpVVal
public import proofs.«01_k».proof.Proof.DownFVal
public import proofs.«01_k».proof.Proof.NormQkvVal
public import proofs.«01_k».proof.Proof.QkvWVal
public import proofs.«01_k».proof.Proof.QkvDClaim
public import proofs.«01_k».proof.Proof.NormRnnVal
public import proofs.«01_k».proof.Proof.RecFVal
public import proofs.«01_k».proof.Proof.RnnInWVal
public import proofs.«01_k».proof.Proof.RnnInDClaim
public import proofs.«01_k».proof.Proof.NormPleVal
public import proofs.«01_k».proof.Proof.PleGateWVal
public import proofs.«01_k».proof.Proof.PleGateDClaim
public import proofs.«01_k».proof.Proof.RnnOutFVal
public import proofs.«01_k».proof.Proof.RnnOutWVal
public import proofs.«01_k».proof.Proof.RnnOutDVal
public import proofs.«01_k».proof.Proof.OutFVal
public import proofs.«01_k».proof.Proof.OutWVal
public import proofs.«01_k».proof.Proof.OutDVal
public import proofs.«01_k».proof.Proof.PleFVal
public import proofs.«01_k».proof.Proof.PleProjWVal
public import proofs.«01_k».proof.Proof.PleDVal
public import proofs.«01_k».proof.Proof.LossVal
public import proofs.«01_k».proof.Proof.GateFVal
public import proofs.«01_k».proof.Proof.GateDVal
public import proofs.«01_k».proof.Proof.GateWVal
public import proofs.«01_k».proof.Proof.AdamNormMixVal
public import proofs.«01_k».proof.Proof.AdamQkvVal
public import proofs.«01_k».proof.Proof.AdamAttnOVal
public import proofs.«01_k».proof.Proof.AdamRnnInVal
public import proofs.«01_k».proof.Proof.AdamRnnConvVal
public import proofs.«01_k».proof.Proof.AdamRnnVecVal
public import proofs.«01_k».proof.Proof.AdamGateVal
public import proofs.«01_k».proof.Proof.AdamRnnOutVal
public import proofs.«01_k».proof.Proof.AdamFfnUpVal
public import proofs.«01_k».proof.Proof.AdamFfnConvVal
public import proofs.«01_k».proof.Proof.AdamFfnBiasVal
public import proofs.«01_k».proof.Proof.AdamFfnDownVal
public import proofs.«01_k».proof.Proof.AdamPleGateVal
public import proofs.«01_k».proof.Proof.AdamPleProjVal
public import proofs.«01_k».proof.Proof.AdamNormFinalVal
public import Idealize.ShloMosaic.Lib.Claim

@[expose] public section

set_option maxRecDepth 16384

noncomputable section

namespace Cert.Proof

open Idealize.ShloMosaic Idealize.ShloMosaic.TcCoe Idealize.SL.Sem
open Attn

/-- The printed kernel is the idealized kernel's text: one run serves both. -/
theorem frame_kernel : Cert.quiescent_Kernel := Attn.frame_printed

theorem frame_kernelIdeal : Cert.quiescent_KernelIdeal := fun m ρ _ => Attn.frame_run (F := Ideal) m ρ

theorem frame_kernelIdeal_finite : Cert.quiescent_KernelIdeal_pre_finite := fun m ρ _ => Attn.frame_run (F := Ideal) m ρ

set_option maxHeartbeats 1600000 in
theorem frame_reference : Cert.quiescent_ReferenceIdeal := by
  intro m g _
  hlo_run
  · exact fun _ => ⟨trivial, trivial⟩
  · exact sem_eq_zero_of_no_sems rfl _

theorem frame_reference_finite : Cert.quiescent_ReferenceIdeal_pre_finite := fun m g _ => frame_reference m g trivial

/-- Both programs compute the gradients of the heads. -/
theorem value : Cert.algebraic_KernelIdeal_ReferenceIdeal_pre_finite := by
  intro m g m' g' hpre hagree
  have hreal := fun c => finite_args _ _ (hpre c)
  let X := fun c : Dev KernelIdeal.nD => reals (m := 8192) (n := 3072) (m ((c.tc : Thread KernelIdeal.nD KernelIdeal.τ).loc KernelIdeal.main_arg0))
  let D := fun c : Dev KernelIdeal.nD => reals (m := 8192) (n := 1024) (m ((c.tc : Thread KernelIdeal.nD KernelIdeal.τ).loc KernelIdeal.main_arg1))
  have hholds : ∀ c, Holds m c (X c) (D c) := fun c => holds m c (X c) (D c) (hreal c).1 (hreal c).2
  refine ⟨fun c => dqArr (X c) (D c), fun c => dkArr (X c) (D c), fun c => dvArr (X c) (D c), ?_, ?_⟩
  · refine (θ_run _ _ _).mono (fun r h c => ?_) (Attn.run_main (F := Ideal) m g)
    exact ⟨((h.1 c).1 5).trans (final5 m c (X c) (D c) (hholds c)), ((h.1 c).1 6).trans (final6 m c (X c) (D c) (hholds c)),
      ((h.1 c).1 7).trans (final7 m c (X c) (D c) (hholds c)),
      ((h.1 c).1 2).trans (((dats m 0 c).arrAt_in 2 rfl _).trans (KernelIdeal.Gen.V_main_arg0 m c)),
      ((h.1 c).1 4).trans (((dats m 0 c).arrAt_in 4 rfl _).trans (KernelIdeal.Gen.V_main_arg1 m c))⟩
  · refine (θ_run _ _ _).mono (fun r h c => ?_) (ReferenceIdeal.Value.run (F := Ideal) m' g')
    obtain ⟨e0, e1⟩ := hagree c
    have r0 : ∀ i, m' ((c.tc : Thread ReferenceIdeal.nD ReferenceIdeal.τ).loc ReferenceIdeal.main_arg0) i = ((X c (i 0).val (i 1).val : ℝ) : EReal) :=
      fun i => (congrFun e0 i).trans (congrFun (hreal c).1 i)
    have r1 : ∀ i, m' ((c.tc : Thread ReferenceIdeal.nD ReferenceIdeal.τ).loc ReferenceIdeal.main_arg1) i = ((D c (i 0).val (i 1).val : ℝ) : EReal) :=
      fun i => (congrFun e1 i).trans (congrFun (hreal c).2 i)
    obtain ⟨a, b, d, e, f⟩ := h c
    exact ⟨a.trans ((ReferenceIdeal.Read.val_main_v57_eq m' c).trans (ref_dq _ _ _ _ r1 r0)), b.trans ((ReferenceIdeal.Read.val_main_v55_eq m' c).trans (ref_dk _ _ _ _ r1 r0)),
      d.trans ((ReferenceIdeal.Read.val_main_v53_eq m' c).trans (ref_dv _ _ _ _ r1 r0)), e, f⟩

theorem claim : Cert.Claim := ⟨
  Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelUpW.Gen.facts, Cert.KernelUpWIdeal.Gen.facts, Cert.ReferenceUpWIdeal.Gen.facts,
  Cert.KernelDownW.Gen.facts, Cert.KernelDownWIdeal.Gen.facts, Cert.ReferenceDownWIdeal.Gen.facts,
  Cert.KernelDown.Gen.facts, Cert.KernelDownIdeal.Gen.facts, Cert.ReferenceDownIdeal.Gen.facts,
  Cert.KernelNormUp.Gen.facts, Cert.KernelNormUpIdeal.Gen.facts, Cert.ReferenceNormUpIdeal.Gen.facts,
  Cert.KernelUpV.Gen.facts, Cert.KernelUpVIdeal.Gen.facts, Cert.ReferenceUpVIdeal.Gen.facts,
  Cert.KernelDownF.Gen.facts, Cert.KernelDownFIdeal.Gen.facts, Cert.ReferenceDownFIdeal.Gen.facts,
  Cert.KernelNormQkv.Gen.facts, Cert.KernelNormQkvIdeal.Gen.facts, Cert.ReferenceNormQkvIdeal.Gen.facts,
  Cert.KernelQkvW.Gen.facts, Cert.KernelQkvWIdeal.Gen.facts, Cert.ReferenceQkvWIdeal.Gen.facts,
  Cert.KernelQkvD.Gen.facts, Cert.KernelQkvDIdeal.Gen.facts, Cert.ReferenceQkvDIdeal.Gen.facts,
  Cert.KernelNormRnn.Gen.facts, Cert.KernelNormRnnIdeal.Gen.facts, Cert.ReferenceNormRnnIdeal.Gen.facts,
  Cert.KernelRecF.Gen.facts, Cert.KernelRecFIdeal.Gen.facts, Cert.ReferenceRecFIdeal.Gen.facts,
  Cert.KernelRnnInW.Gen.facts, Cert.KernelRnnInWIdeal.Gen.facts, Cert.ReferenceRnnInWIdeal.Gen.facts,
  Cert.KernelRnnInD.Gen.facts, Cert.KernelRnnInDIdeal.Gen.facts, Cert.ReferenceRnnInDIdeal.Gen.facts,
  Cert.KernelNormPle.Gen.facts, Cert.KernelNormPleIdeal.Gen.facts, Cert.ReferenceNormPleIdeal.Gen.facts,
  Cert.KernelPleGateW.Gen.facts, Cert.KernelPleGateWIdeal.Gen.facts, Cert.ReferencePleGateWIdeal.Gen.facts,
  Cert.KernelPleGateD.Gen.facts, Cert.KernelPleGateDIdeal.Gen.facts, Cert.ReferencePleGateDIdeal.Gen.facts,
  Cert.KernelRnnOutF.Gen.facts, Cert.KernelRnnOutFIdeal.Gen.facts, Cert.ReferenceRnnOutFIdeal.Gen.facts,
  Cert.KernelRnnOutW.Gen.facts, Cert.KernelRnnOutWIdeal.Gen.facts, Cert.ReferenceRnnOutWIdeal.Gen.facts,
  Cert.KernelRnnOutD.Gen.facts, Cert.KernelRnnOutDIdeal.Gen.facts, Cert.ReferenceRnnOutDIdeal.Gen.facts,
  Cert.KernelOutF.Gen.facts, Cert.KernelOutFIdeal.Gen.facts, Cert.ReferenceOutFIdeal.Gen.facts,
  Cert.KernelOutW.Gen.facts, Cert.KernelOutWIdeal.Gen.facts, Cert.ReferenceOutWIdeal.Gen.facts,
  Cert.KernelOutD.Gen.facts, Cert.KernelOutDIdeal.Gen.facts, Cert.ReferenceOutDIdeal.Gen.facts,
  Cert.KernelPleF.Gen.facts, Cert.KernelPleFIdeal.Gen.facts, Cert.ReferencePleFIdeal.Gen.facts,
  Cert.KernelPleProjW.Gen.facts, Cert.KernelPleProjWIdeal.Gen.facts, Cert.ReferencePleProjWIdeal.Gen.facts,
  Cert.KernelPleD.Gen.facts, Cert.KernelPleDIdeal.Gen.facts, Cert.ReferencePleDIdeal.Gen.facts,
  Cert.KernelLoss.Gen.facts, Cert.KernelLossIdeal.Gen.facts, Cert.ReferenceLossIdeal.Gen.facts,
  Cert.KernelGateF.Gen.facts, Cert.KernelGateFIdeal.Gen.facts, Cert.ReferenceGateFIdeal.Gen.facts,
  Cert.KernelGateD.Gen.facts, Cert.KernelGateDIdeal.Gen.facts, Cert.ReferenceGateDIdeal.Gen.facts,
  Cert.KernelGateW.Gen.facts, Cert.KernelGateWIdeal.Gen.facts, Cert.ReferenceGateWIdeal.Gen.facts,
  Cert.KernelAdamNormMix.Gen.facts, Cert.KernelAdamNormMixIdeal.Gen.facts, Cert.ReferenceAdamNormMixIdeal.Gen.facts,
  Cert.KernelAdamQkv.Gen.facts, Cert.KernelAdamQkvIdeal.Gen.facts, Cert.ReferenceAdamQkvIdeal.Gen.facts,
  Cert.KernelAdamAttnO.Gen.facts, Cert.KernelAdamAttnOIdeal.Gen.facts, Cert.ReferenceAdamAttnOIdeal.Gen.facts,
  Cert.KernelAdamRnnIn.Gen.facts, Cert.KernelAdamRnnInIdeal.Gen.facts, Cert.ReferenceAdamRnnInIdeal.Gen.facts,
  Cert.KernelAdamRnnConv.Gen.facts, Cert.KernelAdamRnnConvIdeal.Gen.facts, Cert.ReferenceAdamRnnConvIdeal.Gen.facts,
  Cert.KernelAdamRnnVec.Gen.facts, Cert.KernelAdamRnnVecIdeal.Gen.facts, Cert.ReferenceAdamRnnVecIdeal.Gen.facts,
  Cert.KernelAdamGate.Gen.facts, Cert.KernelAdamGateIdeal.Gen.facts, Cert.ReferenceAdamGateIdeal.Gen.facts,
  Cert.KernelAdamRnnOut.Gen.facts, Cert.KernelAdamRnnOutIdeal.Gen.facts, Cert.ReferenceAdamRnnOutIdeal.Gen.facts,
  Cert.KernelAdamFfnUp.Gen.facts, Cert.KernelAdamFfnUpIdeal.Gen.facts, Cert.ReferenceAdamFfnUpIdeal.Gen.facts,
  Cert.KernelAdamFfnConv.Gen.facts, Cert.KernelAdamFfnConvIdeal.Gen.facts, Cert.ReferenceAdamFfnConvIdeal.Gen.facts,
  Cert.KernelAdamFfnBias.Gen.facts, Cert.KernelAdamFfnBiasIdeal.Gen.facts, Cert.ReferenceAdamFfnBiasIdeal.Gen.facts,
  Cert.KernelAdamFfnDown.Gen.facts, Cert.KernelAdamFfnDownIdeal.Gen.facts, Cert.ReferenceAdamFfnDownIdeal.Gen.facts,
  Cert.KernelAdamPleGate.Gen.facts, Cert.KernelAdamPleGateIdeal.Gen.facts, Cert.ReferenceAdamPleGateIdeal.Gen.facts,
  Cert.KernelAdamPleProj.Gen.facts, Cert.KernelAdamPleProjIdeal.Gen.facts, Cert.ReferenceAdamPleProjIdeal.Gen.facts,
  Cert.KernelAdamNormFinal.Gen.facts, Cert.KernelAdamNormFinalIdeal.Gen.facts, Cert.ReferenceAdamNormFinalIdeal.Gen.facts,
  Cert.Pre_finite.Gen.facts,
  frame_kernel, frame_kernelIdeal, frame_kernelIdeal_finite, frame_reference, frame_reference_finite, Up.frame_printed,
  Up.frame_ideal, Up.frame_reference, UpW.frame_printed, UpW.frame_ideal, UpW.frame_reference, DownW.frame_printed,
  DownW.frame_ideal, DownW.frame_reference, Down.frame_printed, Down.frame_ideal, Down.frame_reference, NormUp.frame_printed,
  NormUp.frame_ideal, NormUp.frame_reference, UpV.frame_printed, UpV.frame_ideal, UpV.frame_reference, DownF.frame_printed,
  DownF.frame_ideal, DownF.frame_reference, NormQkv.frame_printed, NormQkv.frame_ideal, NormQkv.frame_reference, QkvW.frame_printed,
  QkvW.frame_ideal, QkvW.frame_reference, QkvD.frame_printed, QkvD.frame_ideal, QkvD.frame_reference, NormRnn.frame_printed,
  NormRnn.frame_ideal, NormRnn.frame_reference, RecF.frame_printed, RecF.frame_ideal, RecF.frame_reference, RnnInW.frame_printed,
  RnnInW.frame_ideal, RnnInW.frame_reference, RnnInD.frame_printed, RnnInD.frame_ideal, RnnInD.frame_reference, NormPle.frame_printed,
  NormPle.frame_ideal, NormPle.frame_reference, PleGateW.frame_printed, PleGateW.frame_ideal, PleGateW.frame_reference, PleGateD.frame_printed,
  PleGateD.frame_ideal, PleGateD.frame_reference, RnnOutF.frame_printed, RnnOutF.frame_ideal, RnnOutF.frame_reference, RnnOutW.frame_printed,
  RnnOutW.frame_ideal, RnnOutW.frame_reference, RnnOutD.frame_printed, RnnOutD.frame_ideal, RnnOutD.frame_reference, OutF.frame_printed,
  OutF.frame_ideal, OutF.frame_reference, OutW.frame_printed, OutW.frame_ideal, OutW.frame_reference, OutD.frame_printed,
  OutD.frame_ideal, OutD.frame_reference, PleF.frame_printed, PleF.frame_ideal, PleF.frame_reference, PleProjW.frame_printed,
  PleProjW.frame_ideal, PleProjW.frame_reference, PleD.frame_printed, PleD.frame_ideal, PleD.frame_reference, Loss.frame_printed,
  Loss.frame_ideal, Loss.frame_reference, GateF.frame_printed, GateF.frame_ideal, GateF.frame_reference, GateD.frame_printed,
  GateD.frame_ideal, GateD.frame_reference, GateW.frame_printed, GateW.frame_ideal, GateW.frame_reference, AdamNormMix.frame_printed,
  AdamNormMix.frame_ideal, AdamNormMix.frame_reference, AdamQkv.frame_printed, AdamQkv.frame_ideal, AdamQkv.frame_reference, AdamAttnO.frame_printed,
  AdamAttnO.frame_ideal, AdamAttnO.frame_reference, AdamRnnIn.frame_printed, AdamRnnIn.frame_ideal, AdamRnnIn.frame_reference, AdamRnnConv.frame_printed,
  AdamRnnConv.frame_ideal, AdamRnnConv.frame_reference, AdamRnnVec.frame_printed, AdamRnnVec.frame_ideal, AdamRnnVec.frame_reference, AdamGate.frame_printed,
  AdamGate.frame_ideal, AdamGate.frame_reference, AdamRnnOut.frame_printed, AdamRnnOut.frame_ideal, AdamRnnOut.frame_reference, AdamFfnUp.frame_printed,
  AdamFfnUp.frame_ideal, AdamFfnUp.frame_reference, AdamFfnConv.frame_printed, AdamFfnConv.frame_ideal, AdamFfnConv.frame_reference, AdamFfnBias.frame_printed,
  AdamFfnBias.frame_ideal, AdamFfnBias.frame_reference, AdamFfnDown.frame_printed, AdamFfnDown.frame_ideal, AdamFfnDown.frame_reference, AdamPleGate.frame_printed,
  AdamPleGate.frame_ideal, AdamPleGate.frame_reference, AdamPleProj.frame_printed, AdamPleProj.frame_ideal, AdamPleProj.frame_reference, AdamNormFinal.frame_printed,
  AdamNormFinal.frame_ideal, AdamNormFinal.frame_reference, trivial, value, trivial, Up.value,
  trivial, UpW.value, trivial, DownW.value, trivial, Down.value,
  trivial, NormUp.value, trivial, UpV.value, trivial, DownF.value,
  trivial, NormQkv.value, trivial, QkvW.value, trivial, QkvD.value,
  trivial, NormRnn.value, trivial, RecF.value, trivial, RnnInW.value,
  trivial, RnnInD.value, trivial, NormPle.value, trivial, PleGateW.value,
  trivial, PleGateD.value, trivial, RnnOutF.value, trivial, RnnOutW.value,
  trivial, RnnOutD.value, trivial, OutF.value, trivial, OutW.value,
  trivial, OutD.value, trivial, PleF.value, trivial, PleProjW.value,
  trivial, PleD.value, trivial, Loss.value, trivial, GateF.value,
  trivial, GateD.value, trivial, GateW.value, AdamNormMix.preserves, AdamNormMix.value,
  AdamQkv.preserves, AdamQkv.value, AdamAttnO.preserves, AdamAttnO.value, AdamRnnIn.preserves, AdamRnnIn.value,
  AdamRnnConv.preserves, AdamRnnConv.value, AdamRnnVec.preserves, AdamRnnVec.value, AdamGate.preserves, AdamGate.value,
  AdamRnnOut.preserves, AdamRnnOut.value, AdamFfnUp.preserves, AdamFfnUp.value, AdamFfnConv.preserves, AdamFfnConv.value,
  AdamFfnBias.preserves, AdamFfnBias.value, AdamFfnDown.preserves, AdamFfnDown.value, AdamPleGate.preserves, AdamPleGate.value,
  AdamPleProj.preserves, AdamPleProj.value, AdamNormFinal.preserves, AdamNormFinal.value⟩

end Cert.Proof

end
